-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DUm (m : (ℓ : Loc Cert.DUm.nD Cert.DUm.τ Cert.DUm.sig) → Buf (Elt Bits) ℓ) : Prop :=
  True

def Pre_DUmIdeal (m : (ℓ : Loc Cert.DUmIdeal.nD Cert.DUmIdeal.τ Cert.DUmIdeal.sig) → Buf (Elt Ideal) ℓ) : Prop :=
  True

def Pre_DUmRefIdeal (m : (ℓ : Loc Cert.DUmRefIdeal.nD Cert.DUmRefIdeal.τ Cert.DUmRefIdeal.sig) → Buf (Elt Ideal) ℓ) : Prop :=
  True

def Pre_DXo (m : (ℓ : Loc Cert.DXo.nD Cert.DXo.τ Cert.DXo.sig) → Buf (Elt Bits) ℓ) : Prop :=
  True

def Pre_DXoIdeal (m : (ℓ : Loc Cert.DXoIdeal.nD Cert.DXoIdeal.τ Cert.DXoIdeal.sig) → Buf (Elt Ideal) ℓ) : Prop :=
  True

def Pre_DXoRefIdeal (m : (ℓ : Loc Cert.DXoRefIdeal.nD Cert.DXoRefIdeal.τ Cert.DXoRefIdeal.sig) → Buf (Elt Ideal) ℓ) : Prop :=
  True

def Pre_DUn (m : (ℓ : Loc Cert.DUn.nD Cert.DUn.τ Cert.DUn.sig) → Buf (Elt Bits) ℓ) : Prop :=
  True

def Pre_DUnIdeal (m : (ℓ : Loc Cert.DUnIdeal.nD Cert.DUnIdeal.τ Cert.DUnIdeal.sig) → Buf (Elt Ideal) ℓ) : Prop :=
  True

def Pre_DUnRefIdeal (m : (ℓ : Loc Cert.DUnRefIdeal.nD Cert.DUnRefIdeal.τ Cert.DUnRefIdeal.sig) → Buf (Elt Ideal) ℓ) : Prop :=
  True

def Pre_DwSq (m : (ℓ : Loc Cert.DwSq.nD Cert.DwSq.τ Cert.DwSq.sig) → Buf (Elt Bits) ℓ) : Prop :=
  True

def Pre_DwSqIdeal (m : (ℓ : Loc Cert.DwSqIdeal.nD Cert.DwSqIdeal.τ Cert.DwSqIdeal.sig) → Buf (Elt Ideal) ℓ) : Prop :=
  True

def Pre_DwSqRefIdeal (m : (ℓ : Loc Cert.DwSqRefIdeal.nD Cert.DwSqRefIdeal.τ Cert.DwSqRefIdeal.sig) → Buf (Elt Ideal) ℓ) : Prop :=
  True

def Pre_DwXkv (m : (ℓ : Loc Cert.DwXkv.nD Cert.DwXkv.τ Cert.DwXkv.sig) → Buf (Elt Bits) ℓ) : Prop :=
  True

def Pre_DwXkvIdeal (m : (ℓ : Loc Cert.DwXkvIdeal.nD Cert.DwXkvIdeal.τ Cert.DwXkvIdeal.sig) → Buf (Elt Ideal) ℓ) : Prop :=
  True

def Pre_DwXkvRefIdeal (m : (ℓ : Loc Cert.DwXkvRefIdeal.nD Cert.DwXkvRefIdeal.τ Cert.DwXkvRefIdeal.sig) → Buf (Elt Ideal) ℓ) : Prop :=
  True

def Pre_DMemn (m : (ℓ : Loc Cert.DMemn.nD Cert.DMemn.τ Cert.DMemn.sig) → Buf (Elt Bits) ℓ) : Prop :=
  True

def Pre_DMemnIdeal (m : (ℓ : Loc Cert.DMemnIdeal.nD Cert.DMemnIdeal.τ Cert.DMemnIdeal.sig) → Buf (Elt Ideal) ℓ) : Prop :=
  True

def Pre_DMemnRefIdeal (m : (ℓ : Loc Cert.DMemnRefIdeal.nD Cert.DMemnRefIdeal.τ Cert.DMemnRefIdeal.sig) → Buf (Elt Ideal) ℓ) : Prop :=
  True

def Pre_DYb (m : (ℓ : Loc Cert.DYb.nD Cert.DYb.τ Cert.DYb.sig) → Buf (Elt Bits) ℓ) : Prop :=
  True

def Pre_DYbIdeal (m : (ℓ : Loc Cert.DYbIdeal.nD Cert.DYbIdeal.τ Cert.DYbIdeal.sig) → Buf (Elt Ideal) ℓ) : Prop :=
  True

def Pre_DYbRefIdeal (m : (ℓ : Loc Cert.DYbRefIdeal.nD Cert.DYbRefIdeal.τ Cert.DYbRefIdeal.sig) → Buf (Elt Ideal) ℓ) : Prop :=
  True

def Pre_DwSsd (m : (ℓ : Loc Cert.DwSsd.nD Cert.DwSsd.τ Cert.DwSsd.sig) → Buf (Elt Bits) ℓ) : Prop :=
  True

def Pre_DwSsdIdeal (m : (ℓ : Loc Cert.DwSsdIdeal.nD Cert.DwSsdIdeal.τ Cert.DwSsdIdeal.sig) → Buf (Elt Ideal) ℓ) : Prop :=
  True

def Pre_DwSsdRefIdeal (m : (ℓ : Loc Cert.DwSsdRefIdeal.nD Cert.DwSsdRefIdeal.τ Cert.DwSsdRefIdeal.sig) → Buf (Elt Ideal) ℓ) : Prop :=
  True

def Pre_DuAg (m : (ℓ : Loc Cert.DuAg.nD Cert.DuAg.τ Cert.DuAg.sig) → Buf (Elt Bits) ℓ) : Prop :=
  True

def Pre_DuAgIdeal (m : (ℓ : Loc Cert.DuAgIdeal.nD Cert.DuAgIdeal.τ Cert.DuAgIdeal.sig) → Buf (Elt Ideal) ℓ) : Prop :=
  True

def Pre_DuAgRefIdeal (m : (ℓ : Loc Cert.DuAgRefIdeal.nD Cert.DuAgRefIdeal.τ Cert.DuAgRefIdeal.sig) → Buf (Elt Ideal) ℓ) : Prop :=
  True

def Pre_DuZ (m : (ℓ : Loc Cert.DuZ.nD Cert.DuZ.τ Cert.DuZ.sig) → Buf (Elt Bits) ℓ) : Prop :=
  True

def Pre_DuZIdeal (m : (ℓ : Loc Cert.DuZIdeal.nD Cert.DuZIdeal.τ Cert.DuZIdeal.sig) → Buf (Elt Ideal) ℓ) : Prop :=
  True

def Pre_DuZRefIdeal (m : (ℓ : Loc Cert.DuZRefIdeal.nD Cert.DuZRefIdeal.τ Cert.DuZRefIdeal.sig) → Buf (Elt Ideal) ℓ) : Prop :=
  True

def Pre_DuX (m : (ℓ : Loc Cert.DuX.nD Cert.DuX.τ Cert.DuX.sig) → Buf (Elt Bits) ℓ) : Prop :=
  True

def Pre_DuXIdeal (m : (ℓ : Loc Cert.DuXIdeal.nD Cert.DuXIdeal.τ Cert.DuXIdeal.sig) → Buf (Elt Ideal) ℓ) : Prop :=
  True

def Pre_DuXRefIdeal (m : (ℓ : Loc Cert.DuXRefIdeal.nD Cert.DuXRefIdeal.τ Cert.DuXRefIdeal.sig) → Buf (Elt Ideal) ℓ) : Prop :=
  True

def Pre_DuDt (m : (ℓ : Loc Cert.DuDt.nD Cert.DuDt.τ Cert.DuDt.sig) → Buf (Elt Bits) ℓ) : Prop :=
  True

def Pre_DuDtIdeal (m : (ℓ : Loc Cert.DuDtIdeal.nD Cert.DuDtIdeal.τ Cert.DuDtIdeal.sig) → Buf (Elt Ideal) ℓ) : Prop :=
  True

def Pre_DuDtRefIdeal (m : (ℓ : Loc Cert.DuDtRefIdeal.nD Cert.DuDtRefIdeal.τ Cert.DuDtRefIdeal.sig) → Buf (Elt Ideal) ℓ) : Prop :=
  True

def Pre_DuQkv (m : (ℓ : Loc Cert.DuQkv.nD Cert.DuQkv.τ Cert.DuQkv.sig) → Buf (Elt Bits) ℓ) : Prop :=
  True

def Pre_DuQkvIdeal (m : (ℓ : Loc Cert.DuQkvIdeal.nD Cert.DuQkvIdeal.τ Cert.DuQkvIdeal.sig) → Buf (Elt Ideal) ℓ) : Prop :=
  True

def Pre_DuQkvRefIdeal (m : (ℓ : Loc Cert.DuQkvRefIdeal.nD Cert.DuQkvRefIdeal.τ Cert.DuQkvRefIdeal.sig) → Buf (Elt Ideal) ℓ) : Prop :=
  True

def Pre_DwZ (m : (ℓ : Loc Cert.DwZ.nD Cert.DwZ.τ Cert.DwZ.sig) → Buf (Elt Bits) ℓ) : Prop :=
  True

def Pre_DwZIdeal (m : (ℓ : Loc Cert.DwZIdeal.nD Cert.DwZIdeal.τ Cert.DwZIdeal.sig) → Buf (Elt Ideal) ℓ) : Prop :=
  True

def Pre_DwZRefIdeal (m : (ℓ : Loc Cert.DwZRefIdeal.nD Cert.DwZRefIdeal.τ Cert.DwZRefIdeal.sig) → Buf (Elt Ideal) ℓ) : Prop :=
  True

def Pre_DwX (m : (ℓ : Loc Cert.DwX.nD Cert.DwX.τ Cert.DwX.sig) → Buf (Elt Bits) ℓ) : Prop :=
  True

def Pre_DwXIdeal (m : (ℓ : Loc Cert.DwXIdeal.nD Cert.DwXIdeal.τ Cert.DwXIdeal.sig) → Buf (Elt Ideal) ℓ) : Prop :=
  True

def Pre_DwXRefIdeal (m : (ℓ : Loc Cert.DwXRefIdeal.nD Cert.DwXRefIdeal.τ Cert.DwXRefIdeal.sig) → Buf (Elt Ideal) ℓ) : Prop :=
  True

def Pre_DwDt (m : (ℓ : Loc Cert.DwDt.nD Cert.DwDt.τ Cert.DwDt.sig) → Buf (Elt Bits) ℓ) : Prop :=
  True

def Pre_DwDtIdeal (m : (ℓ : Loc Cert.DwDtIdeal.nD Cert.DwDtIdeal.τ Cert.DwDtIdeal.sig) → Buf (Elt Ideal) ℓ) : Prop :=
  True

def Pre_DwDtRefIdeal (m : (ℓ : Loc Cert.DwDtRefIdeal.nD Cert.DwDtRefIdeal.τ Cert.DwDtRefIdeal.sig) → Buf (Elt Ideal) ℓ) : Prop :=
  True

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_DwQkvRefIdeal (m : (ℓ : Loc Cert.DwQkvRefIdeal.nD Cert.DwQkvRefIdeal.τ Cert.DwQkvRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjZ (m : (ℓ : Loc Cert.ProjZ.nD Cert.ProjZ.τ Cert.ProjZ.sig) → Buf (Elt Bits) ℓ) : Prop :=
  True

def Pre_ProjZIdeal (m : (ℓ : Loc Cert.ProjZIdeal.nD Cert.ProjZIdeal.τ Cert.ProjZIdeal.sig) → Buf (Elt Ideal) ℓ) : Prop :=
  True

def Pre_ProjZRefIdeal (m : (ℓ : Loc Cert.ProjZRefIdeal.nD Cert.ProjZRefIdeal.τ Cert.ProjZRefIdeal.sig) → Buf (Elt Ideal) ℓ) : Prop :=
  True

def Pre_ProjX (m : (ℓ : Loc Cert.ProjX.nD Cert.ProjX.τ Cert.ProjX.sig) → Buf (Elt Bits) ℓ) : Prop :=
  True

def Pre_ProjXIdeal (m : (ℓ : Loc Cert.ProjXIdeal.nD Cert.ProjXIdeal.τ Cert.ProjXIdeal.sig) → Buf (Elt Ideal) ℓ) : Prop :=
  True

def Pre_ProjXRefIdeal (m : (ℓ : Loc Cert.ProjXRefIdeal.nD Cert.ProjXRefIdeal.τ Cert.ProjXRefIdeal.sig) → Buf (Elt Ideal) ℓ) : Prop :=
  True

def Pre_ProjDt (m : (ℓ : Loc Cert.ProjDt.nD Cert.ProjDt.τ Cert.ProjDt.sig) → Buf (Elt Bits) ℓ) : Prop :=
  True

def Pre_ProjDtIdeal (m : (ℓ : Loc Cert.ProjDtIdeal.nD Cert.ProjDtIdeal.τ Cert.ProjDtIdeal.sig) → Buf (Elt Ideal) ℓ) : Prop :=
  True

def Pre_ProjDtRefIdeal (m : (ℓ : Loc Cert.ProjDtRefIdeal.nD Cert.ProjDtRefIdeal.τ Cert.ProjDtRefIdeal.sig) → Buf (Elt Ideal) ℓ) : Prop :=
  True

def Pre_ProjQkv (m : (ℓ : Loc Cert.ProjQkv.nD Cert.ProjQkv.τ Cert.ProjQkv.sig) → Buf (Elt Bits) ℓ) : Prop :=
  True

def Pre_ProjQkvIdeal (m : (ℓ : Loc Cert.ProjQkvIdeal.nD Cert.ProjQkvIdeal.τ Cert.ProjQkvIdeal.sig) → Buf (Elt Ideal) ℓ) : Prop :=
  True

def Pre_ProjQkvRefIdeal (m : (ℓ : Loc Cert.ProjQkvRefIdeal.nD Cert.ProjQkvRefIdeal.τ Cert.ProjQkvRefIdeal.sig) → Buf (Elt Ideal) ℓ) : Prop :=
  True

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_SsdOutRefIdeal (m : (ℓ : Loc Cert.SsdOutRefIdeal.nD Cert.SsdOutRefIdeal.τ Cert.SsdOutRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_Xkv (m : (ℓ : Loc Cert.Xkv.nD Cert.Xkv.τ Cert.Xkv.sig) → Buf (Elt Bits) ℓ) : Prop :=
  True

def Pre_XkvIdeal (m : (ℓ : Loc Cert.XkvIdeal.nD Cert.XkvIdeal.τ Cert.XkvIdeal.sig) → Buf (Elt Ideal) ℓ) : Prop :=
  True

def Pre_XkvRefIdeal (m : (ℓ : Loc Cert.XkvRefIdeal.nD Cert.XkvRefIdeal.τ Cert.XkvRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_DRms (m : (ℓ : Loc Cert.DRms.nD Cert.DRms.τ Cert.DRms.sig) → Buf (Elt Bits) ℓ) : Prop :=
  True

def Pre_DRmsIdeal (m : (ℓ : Loc Cert.DRmsIdeal.nD Cert.DRmsIdeal.τ Cert.DRmsIdeal.sig) → Buf (Elt Ideal) ℓ) : Prop :=
  True

def Pre_DRmsRefIdeal (m : (ℓ : Loc Cert.DRmsRefIdeal.nD Cert.DRmsRefIdeal.τ Cert.DRmsRefIdeal.sig) → Buf (Elt Ideal) ℓ) : Prop :=
  True

def Pre_DRmsMem (m : (ℓ : Loc Cert.DRmsMem.nD Cert.DRmsMem.τ Cert.DRmsMem.sig) → Buf (Elt Bits) ℓ) : Prop :=
  True

def Pre_DRmsMemIdeal (m : (ℓ : Loc Cert.DRmsMemIdeal.nD Cert.DRmsMemIdeal.τ Cert.DRmsMemIdeal.sig) → Buf (Elt Ideal) ℓ) : Prop :=
  True

def Pre_DRmsMemRefIdeal (m : (ℓ : Loc Cert.DRmsMemRefIdeal.nD Cert.DRmsMemRefIdeal.τ Cert.DRmsMemRefIdeal.sig) → Buf (Elt Ideal) ℓ) : Prop :=
  True

def Pre_DLnSilu (m : (ℓ : Loc Cert.DLnSilu.nD Cert.DLnSilu.τ Cert.DLnSilu.sig) → Buf (Elt Bits) ℓ) : Prop :=
  True

def Pre_DLnSiluIdeal (m : (ℓ : Loc Cert.DLnSiluIdeal.nD Cert.DLnSiluIdeal.τ Cert.DLnSiluIdeal.sig) → Buf (Elt Ideal) ℓ) : Prop :=
  True

def Pre_DLnSiluRefIdeal (m : (ℓ : Loc Cert.DLnSiluRefIdeal.nD Cert.DLnSiluRefIdeal.τ Cert.DLnSiluRefIdeal.sig) → Buf (Elt Ideal) ℓ) : Prop :=
  True

def Pre_DGate (m : (ℓ : Loc Cert.DGate.nD Cert.DGate.τ Cert.DGate.sig) → Buf (Elt Bits) ℓ) : Prop :=
  True

def Pre_DGateIdeal (m : (ℓ : Loc Cert.DGateIdeal.nD Cert.DGateIdeal.τ Cert.DGateIdeal.sig) → Buf (Elt Ideal) ℓ) : Prop :=
  True

def Pre_DGateRefIdeal (m : (ℓ : Loc Cert.DGateRefIdeal.nD Cert.DGateRefIdeal.τ Cert.DGateRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_RmsMem (m : (ℓ : Loc Cert.RmsMem.nD Cert.RmsMem.τ Cert.RmsMem.sig) → Buf (Elt Bits) ℓ) : Prop :=
  True

def Pre_RmsMemIdeal (m : (ℓ : Loc Cert.RmsMemIdeal.nD Cert.RmsMemIdeal.τ Cert.RmsMemIdeal.sig) → Buf (Elt Ideal) ℓ) : Prop :=
  True

def Pre_RmsMemRefIdeal (m : (ℓ : Loc Cert.RmsMemRefIdeal.nD Cert.RmsMemRefIdeal.τ Cert.RmsMemRefIdeal.sig) → Buf (Elt Ideal) ℓ) : Prop :=
  True

def Pre_LnSilu (m : (ℓ : Loc Cert.LnSilu.nD Cert.LnSilu.τ Cert.LnSilu.sig) → Buf (Elt Bits) ℓ) : Prop :=
  True

def Pre_LnSiluIdeal (m : (ℓ : Loc Cert.LnSiluIdeal.nD Cert.LnSiluIdeal.τ Cert.LnSiluIdeal.sig) → Buf (Elt Ideal) ℓ) : Prop :=
  True

def Pre_LnSiluRefIdeal (m : (ℓ : Loc Cert.LnSiluRefIdeal.nD Cert.LnSiluRefIdeal.τ Cert.LnSiluRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_AdamSq (m : (ℓ : Loc Cert.AdamSq.nD Cert.AdamSq.τ Cert.AdamSq.sig) → Buf (Elt Bits) ℓ) : Prop :=
  True

def Pre_AdamSqIdeal (m : (ℓ : Loc Cert.AdamSqIdeal.nD Cert.AdamSqIdeal.τ Cert.AdamSqIdeal.sig) → Buf (Elt Ideal) ℓ) : Prop :=
  True

def Pre_AdamSqRefIdeal (m : (ℓ : Loc Cert.AdamSqRefIdeal.nD Cert.AdamSqRefIdeal.τ Cert.AdamSqRefIdeal.sig) → Buf (Elt Ideal) ℓ) : Prop :=
  True

def Pre_AdamSsd (m : (ℓ : Loc Cert.AdamSsd.nD Cert.AdamSsd.τ Cert.AdamSsd.sig) → Buf (Elt Bits) ℓ) : Prop :=
  True

def Pre_AdamSsdIdeal (m : (ℓ : Loc Cert.AdamSsdIdeal.nD Cert.AdamSsdIdeal.τ Cert.AdamSsdIdeal.sig) → Buf (Elt Ideal) ℓ) : Prop :=
  True

def Pre_AdamSsdRefIdeal (m : (ℓ : Loc Cert.AdamSsdRefIdeal.nD Cert.AdamSsdRefIdeal.τ Cert.AdamSsdRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamXkv (m : (ℓ : Loc Cert.AdamXkv.nD Cert.AdamXkv.τ Cert.AdamXkv.sig) → Buf (Elt Bits) ℓ) : Prop :=
  True

def Pre_AdamXkvIdeal (m : (ℓ : Loc Cert.AdamXkvIdeal.nD Cert.AdamXkvIdeal.τ Cert.AdamXkvIdeal.sig) → Buf (Elt Ideal) ℓ) : Prop :=
  True

def Pre_AdamXkvRefIdeal (m : (ℓ : Loc Cert.AdamXkvRefIdeal.nD Cert.AdamXkvRefIdeal.τ Cert.AdamXkvRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1)
      ∧ r.2.mem ((c.tc : Thread Cert.DAct.nD Cert.DAct.τ).loc Cert.DAct.main_arg2) = m ((c.tc : Thread Cert.DAct.nD Cert.DAct.τ).loc Cert.DAct.main_arg2))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1)
      ∧ r.2.mem ((c.tc : Thread Cert.DActRefIdeal.nD Cert.DActRefIdeal.τ).loc Cert.DActRefIdeal.main_arg2) = m ((c.tc : Thread Cert.DActRefIdeal.nD Cert.DActRefIdeal.τ).loc Cert.DActRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DUm [hDUm : Cert.DUm.Facts] : Prop :=
  ∀ (m : (ℓ : Loc Cert.DUm.nD Cert.DUm.τ Cert.DUm.sig) → Buf (Elt Bits) ℓ) (g : Dev Cert.DUm.nD → PrngReg), Pre_DUm m →
    θ_run (Cert.DUm.defs (F := Bits)) (onTc (τ := Cert.DUm.τ) (Cert.DUm.main (F := Bits))) ⟨m, fun _ => 0, g⟩ (fun r => (∀ c : Dev Cert.DUm.nD,
      r.2.mem ((c.tc : Thread Cert.DUm.nD Cert.DUm.τ).loc Cert.DUm.main_arg0) = m ((c.tc : Thread Cert.DUm.nD Cert.DUm.τ).loc Cert.DUm.main_arg0)
      ∧ r.2.mem ((c.tc : Thread Cert.DUm.nD Cert.DUm.τ).loc Cert.DUm.main_arg1) = m ((c.tc : Thread Cert.DUm.nD Cert.DUm.τ).loc Cert.DUm.main_arg1))
      ∧ r.2.sem = fun _ => 0)

def quiescent_DUmIdeal [hDUmIdeal : Cert.DUmIdeal.Facts] : Prop :=
  ∀ (m : (ℓ : Loc Cert.DUmIdeal.nD Cert.DUmIdeal.τ Cert.DUmIdeal.sig) → Buf (Elt Ideal) ℓ) (g : Dev Cert.DUmIdeal.nD → PrngReg), Pre_DUmIdeal m →
    θ_run (Cert.DUmIdeal.defs (F := Ideal)) (onTc (τ := Cert.DUmIdeal.τ) (Cert.DUmIdeal.main (F := Ideal))) ⟨m, fun _ => 0, g⟩ (fun r => (∀ c : Dev Cert.DUmIdeal.nD,
      r.2.mem ((c.tc : Thread Cert.DUmIdeal.nD Cert.DUmIdeal.τ).loc Cert.DUmIdeal.main_arg0) = m ((c.tc : Thread Cert.DUmIdeal.nD Cert.DUmIdeal.τ).loc Cert.DUmIdeal.main_arg0)
      ∧ r.2.mem ((c.tc : Thread Cert.DUmIdeal.nD Cert.DUmIdeal.τ).loc Cert.DUmIdeal.main_arg1) = m ((c.tc : Thread Cert.DUmIdeal.nD Cert.DUmIdeal.τ).loc Cert.DUmIdeal.main_arg1))
      ∧ r.2.sem = fun _ => 0)

def quiescent_DUmRefIdeal [hDUmRefIdeal : Cert.DUmRefIdeal.Facts] : Prop :=
  ∀ (m : (ℓ : Loc Cert.DUmRefIdeal.nD Cert.DUmRefIdeal.τ Cert.DUmRefIdeal.sig) → Buf (Elt Ideal) ℓ) (g : Dev Cert.DUmRefIdeal.nD → PrngReg), Pre_DUmRefIdeal m →
    θ_run (Cert.DUmRefIdeal.defs (F := Ideal)) (onTc (τ := Cert.DUmRefIdeal.τ) (Cert.DUmRefIdeal.main (F := Ideal))) ⟨m, fun _ => 0, g⟩ (fun r => (∀ c : Dev Cert.DUmRefIdeal.nD,
      r.2.mem ((c.tc : Thread Cert.DUmRefIdeal.nD Cert.DUmRefIdeal.τ).loc Cert.DUmRefIdeal.main_arg0) = m ((c.tc : Thread Cert.DUmRefIdeal.nD Cert.DUmRefIdeal.τ).loc Cert.DUmRefIdeal.main_arg0)
      ∧ r.2.mem ((c.tc : Thread Cert.DUmRefIdeal.nD Cert.DUmRefIdeal.τ).loc Cert.DUmRefIdeal.main_arg1) = m ((c.tc : Thread Cert.DUmRefIdeal.nD Cert.DUmRefIdeal.τ).loc Cert.DUmRefIdeal.main_arg1))
      ∧ r.2.sem = fun _ => 0)

def quiescent_DXo [hDXo : Cert.DXo.Facts] : Prop :=
  ∀ (m : (ℓ : Loc Cert.DXo.nD Cert.DXo.τ Cert.DXo.sig) → Buf (Elt Bits) ℓ) (g : Dev Cert.DXo.nD → PrngReg), Pre_DXo m →
    θ_run (Cert.DXo.defs (F := Bits)) (onTc (τ := Cert.DXo.τ) (Cert.DXo.main (F := Bits))) ⟨m, fun _ => 0, g⟩ (fun r => (∀ c : Dev Cert.DXo.nD,
      r.2.mem ((c.tc : Thread Cert.DXo.nD Cert.DXo.τ).loc Cert.DXo.main_arg0) = m ((c.tc : Thread Cert.DXo.nD Cert.DXo.τ).loc Cert.DXo.main_arg0)
      ∧ r.2.mem ((c.tc : Thread Cert.DXo.nD Cert.DXo.τ).loc Cert.DXo.main_arg1) = m ((c.tc : Thread Cert.DXo.nD Cert.DXo.τ).loc Cert.DXo.main_arg1))
      ∧ r.2.sem = fun _ => 0)

def quiescent_DXoIdeal [hDXoIdeal : Cert.DXoIdeal.Facts] : Prop :=
  ∀ (m : (ℓ : Loc Cert.DXoIdeal.nD Cert.DXoIdeal.τ Cert.DXoIdeal.sig) → Buf (Elt Ideal) ℓ) (g : Dev Cert.DXoIdeal.nD → PrngReg), Pre_DXoIdeal m →
    θ_run (Cert.DXoIdeal.defs (F := Ideal)) (onTc (τ := Cert.DXoIdeal.τ) (Cert.DXoIdeal.main (F := Ideal))) ⟨m, fun _ => 0, g⟩ (fun r => (∀ c : Dev Cert.DXoIdeal.nD,
      r.2.mem ((c.tc : Thread Cert.DXoIdeal.nD Cert.DXoIdeal.τ).loc Cert.DXoIdeal.main_arg0) = m ((c.tc : Thread Cert.DXoIdeal.nD Cert.DXoIdeal.τ).loc Cert.DXoIdeal.main_arg0)
      ∧ r.2.mem ((c.tc : Thread Cert.DXoIdeal.nD Cert.DXoIdeal.τ).loc Cert.DXoIdeal.main_arg1) = m ((c.tc : Thread Cert.DXoIdeal.nD Cert.DXoIdeal.τ).loc Cert.DXoIdeal.main_arg1))
      ∧ r.2.sem = fun _ => 0)

def quiescent_DXoRefIdeal [hDXoRefIdeal : Cert.DXoRefIdeal.Facts] : Prop :=
  ∀ (m : (ℓ : Loc Cert.DXoRefIdeal.nD Cert.DXoRefIdeal.τ Cert.DXoRefIdeal.sig) → Buf (Elt Ideal) ℓ) (g : Dev Cert.DXoRefIdeal.nD → PrngReg), Pre_DXoRefIdeal m →
    θ_run (Cert.DXoRefIdeal.defs (F := Ideal)) (onTc (τ := Cert.DXoRefIdeal.τ) (Cert.DXoRefIdeal.main (F := Ideal))) ⟨m, fun _ => 0, g⟩ (fun r => (∀ c : Dev Cert.DXoRefIdeal.nD,
      r.2.mem ((c.tc : Thread Cert.DXoRefIdeal.nD Cert.DXoRefIdeal.τ).loc Cert.DXoRefIdeal.main_arg0) = m ((c.tc : Thread Cert.DXoRefIdeal.nD Cert.DXoRefIdeal.τ).loc Cert.DXoRefIdeal.main_arg0)
      ∧ r.2.mem ((c.tc : Thread Cert.DXoRefIdeal.nD Cert.DXoRefIdeal.τ).loc Cert.DXoRefIdeal.main_arg1) = m ((c.tc : Thread Cert.DXoRefIdeal.nD Cert.DXoRefIdeal.τ).loc Cert.DXoRefIdeal.main_arg1))
      ∧ r.2.sem = fun _ => 0)

def quiescent_DUn [hDUn : Cert.DUn.Facts] : Prop :=
  ∀ (m : (ℓ : Loc Cert.DUn.nD Cert.DUn.τ Cert.DUn.sig) → Buf (Elt Bits) ℓ) (g : Dev Cert.DUn.nD → PrngReg), Pre_DUn m →
    θ_run (Cert.DUn.defs (F := Bits)) (onTc (τ := Cert.DUn.τ) (Cert.DUn.main (F := Bits))) ⟨m, fun _ => 0, g⟩ (fun r => (∀ c : Dev Cert.DUn.nD,
      r.2.mem ((c.tc : Thread Cert.DUn.nD Cert.DUn.τ).loc Cert.DUn.main_arg0) = m ((c.tc : Thread Cert.DUn.nD Cert.DUn.τ).loc Cert.DUn.main_arg0)
      ∧ r.2.mem ((c.tc : Thread Cert.DUn.nD Cert.DUn.τ).loc Cert.DUn.main_arg1) = m ((c.tc : Thread Cert.DUn.nD Cert.DUn.τ).loc Cert.DUn.main_arg1))
      ∧ r.2.sem = fun _ => 0)

def quiescent_DUnIdeal [hDUnIdeal : Cert.DUnIdeal.Facts] : Prop :=
  ∀ (m : (ℓ : Loc Cert.DUnIdeal.nD Cert.DUnIdeal.τ Cert.DUnIdeal.sig) → Buf (Elt Ideal) ℓ) (g : Dev Cert.DUnIdeal.nD → PrngReg), Pre_DUnIdeal m →
    θ_run (Cert.DUnIdeal.defs (F := Ideal)) (onTc (τ := Cert.DUnIdeal.τ) (Cert.DUnIdeal.main (F := Ideal))) ⟨m, fun _ => 0, g⟩ (fun r => (∀ c : Dev Cert.DUnIdeal.nD,
      r.2.mem ((c.tc : Thread Cert.DUnIdeal.nD Cert.DUnIdeal.τ).loc Cert.DUnIdeal.main_arg0) = m ((c.tc : Thread Cert.DUnIdeal.nD Cert.DUnIdeal.τ).loc Cert.DUnIdeal.main_arg0)
      ∧ r.2.mem ((c.tc : Thread Cert.DUnIdeal.nD Cert.DUnIdeal.τ).loc Cert.DUnIdeal.main_arg1) = m ((c.tc : Thread Cert.DUnIdeal.nD Cert.DUnIdeal.τ).loc Cert.DUnIdeal.main_arg1))
      ∧ r.2.sem = fun _ => 0)

def quiescent_DUnRefIdeal [hDUnRefIdeal : Cert.DUnRefIdeal.Facts] : Prop :=
  ∀ (m : (ℓ : Loc Cert.DUnRefIdeal.nD Cert.DUnRefIdeal.τ Cert.DUnRefIdeal.sig) → Buf (Elt Ideal) ℓ) (g : Dev Cert.DUnRefIdeal.nD → PrngReg), Pre_DUnRefIdeal m →
    θ_run (Cert.DUnRefIdeal.defs (F := Ideal)) (onTc (τ := Cert.DUnRefIdeal.τ) (Cert.DUnRefIdeal.main (F := Ideal))) ⟨m, fun _ => 0, g⟩ (fun r => (∀ c : Dev Cert.DUnRefIdeal.nD,
      r.2.mem ((c.tc : Thread Cert.DUnRefIdeal.nD Cert.DUnRefIdeal.τ).loc Cert.DUnRefIdeal.main_arg0) = m ((c.tc : Thread Cert.DUnRefIdeal.nD Cert.DUnRefIdeal.τ).loc Cert.DUnRefIdeal.main_arg0)
      ∧ r.2.mem ((c.tc : Thread Cert.DUnRefIdeal.nD Cert.DUnRefIdeal.τ).loc Cert.DUnRefIdeal.main_arg1) = m ((c.tc : Thread Cert.DUnRefIdeal.nD Cert.DUnRefIdeal.τ).loc Cert.DUnRefIdeal.main_arg1))
      ∧ r.2.sem = fun _ => 0)

def quiescent_DwSq [hDwSq : Cert.DwSq.Facts] : Prop :=
  ∀ (m : (ℓ : Loc Cert.DwSq.nD Cert.DwSq.τ Cert.DwSq.sig) → Buf (Elt Bits) ℓ) (g : Dev Cert.DwSq.nD → PrngReg), Pre_DwSq m →
    θ_run (Cert.DwSq.defs (F := Bits)) (onTc (τ := Cert.DwSq.τ) (Cert.DwSq.main (F := Bits))) ⟨m, fun _ => 0, g⟩ (fun r => (∀ c : Dev Cert.DwSq.nD,
      r.2.mem ((c.tc : Thread Cert.DwSq.nD Cert.DwSq.τ).loc Cert.DwSq.main_arg0) = m ((c.tc : Thread Cert.DwSq.nD Cert.DwSq.τ).loc Cert.DwSq.main_arg0)
      ∧ r.2.mem ((c.tc : Thread Cert.DwSq.nD Cert.DwSq.τ).loc Cert.DwSq.main_arg1) = m ((c.tc : Thread Cert.DwSq.nD Cert.DwSq.τ).loc Cert.DwSq.main_arg1))
      ∧ r.2.sem = fun _ => 0)

def quiescent_DwSqIdeal [hDwSqIdeal : Cert.DwSqIdeal.Facts] : Prop :=
  ∀ (m : (ℓ : Loc Cert.DwSqIdeal.nD Cert.DwSqIdeal.τ Cert.DwSqIdeal.sig) → Buf (Elt Ideal) ℓ) (g : Dev Cert.DwSqIdeal.nD → PrngReg), Pre_DwSqIdeal m →
    θ_run (Cert.DwSqIdeal.defs (F := Ideal)) (onTc (τ := Cert.DwSqIdeal.τ) (Cert.DwSqIdeal.main (F := Ideal))) ⟨m, fun _ => 0, g⟩ (fun r => (∀ c : Dev Cert.DwSqIdeal.nD,
      r.2.mem ((c.tc : Thread Cert.DwSqIdeal.nD Cert.DwSqIdeal.τ).loc Cert.DwSqIdeal.main_arg0) = m ((c.tc : Thread Cert.DwSqIdeal.nD Cert.DwSqIdeal.τ).loc Cert.DwSqIdeal.main_arg0)
      ∧ r.2.mem ((c.tc : Thread Cert.DwSqIdeal.nD Cert.DwSqIdeal.τ).loc Cert.DwSqIdeal.main_arg1) = m ((c.tc : Thread Cert.DwSqIdeal.nD Cert.DwSqIdeal.τ).loc Cert.DwSqIdeal.main_arg1))
      ∧ r.2.sem = fun _ => 0)

def quiescent_DwSqRefIdeal [hDwSqRefIdeal : Cert.DwSqRefIdeal.Facts] : Prop :=
  ∀ (m : (ℓ : Loc Cert.DwSqRefIdeal.nD Cert.DwSqRefIdeal.τ Cert.DwSqRefIdeal.sig) → Buf (Elt Ideal) ℓ) (g : Dev Cert.DwSqRefIdeal.nD → PrngReg), Pre_DwSqRefIdeal m →
    θ_run (Cert.DwSqRefIdeal.defs (F := Ideal)) (onTc (τ := Cert.DwSqRefIdeal.τ) (Cert.DwSqRefIdeal.main (F := Ideal))) ⟨m, fun _ => 0, g⟩ (fun r => (∀ c : Dev Cert.DwSqRefIdeal.nD,
      r.2.mem ((c.tc : Thread Cert.DwSqRefIdeal.nD Cert.DwSqRefIdeal.τ).loc Cert.DwSqRefIdeal.main_arg0) = m ((c.tc : Thread Cert.DwSqRefIdeal.nD Cert.DwSqRefIdeal.τ).loc Cert.DwSqRefIdeal.main_arg0)
      ∧ r.2.mem ((c.tc : Thread Cert.DwSqRefIdeal.nD Cert.DwSqRefIdeal.τ).loc Cert.DwSqRefIdeal.main_arg1) = m ((c.tc : Thread Cert.DwSqRefIdeal.nD Cert.DwSqRefIdeal.τ).loc Cert.DwSqRefIdeal.main_arg1))
      ∧ r.2.sem = fun _ => 0)

def quiescent_DwXkv [hDwXkv : Cert.DwXkv.Facts] : Prop :=
  ∀ (m : (ℓ : Loc Cert.DwXkv.nD Cert.DwXkv.τ Cert.DwXkv.sig) → Buf (Elt Bits) ℓ) (g : Dev Cert.DwXkv.nD → PrngReg), Pre_DwXkv m →
    θ_run (Cert.DwXkv.defs (F := Bits)) (onTc (τ := Cert.DwXkv.τ) (Cert.DwXkv.main (F := Bits))) ⟨m, fun _ => 0, g⟩ (fun r => (∀ c : Dev Cert.DwXkv.nD,
      r.2.mem ((c.tc : Thread Cert.DwXkv.nD Cert.DwXkv.τ).loc Cert.DwXkv.main_arg0) = m ((c.tc : Thread Cert.DwXkv.nD Cert.DwXkv.τ).loc Cert.DwXkv.main_arg0)
      ∧ r.2.mem ((c.tc : Thread Cert.DwXkv.nD Cert.DwXkv.τ).loc Cert.DwXkv.main_arg1) = m ((c.tc : Thread Cert.DwXkv.nD Cert.DwXkv.τ).loc Cert.DwXkv.main_arg1))
      ∧ r.2.sem = fun _ => 0)

def quiescent_DwXkvIdeal [hDwXkvIdeal : Cert.DwXkvIdeal.Facts] : Prop :=
  ∀ (m : (ℓ : Loc Cert.DwXkvIdeal.nD Cert.DwXkvIdeal.τ Cert.DwXkvIdeal.sig) → Buf (Elt Ideal) ℓ) (g : Dev Cert.DwXkvIdeal.nD → PrngReg), Pre_DwXkvIdeal m →
    θ_run (Cert.DwXkvIdeal.defs (F := Ideal)) (onTc (τ := Cert.DwXkvIdeal.τ) (Cert.DwXkvIdeal.main (F := Ideal))) ⟨m, fun _ => 0, g⟩ (fun r => (∀ c : Dev Cert.DwXkvIdeal.nD,
      r.2.mem ((c.tc : Thread Cert.DwXkvIdeal.nD Cert.DwXkvIdeal.τ).loc Cert.DwXkvIdeal.main_arg0) = m ((c.tc : Thread Cert.DwXkvIdeal.nD Cert.DwXkvIdeal.τ).loc Cert.DwXkvIdeal.main_arg0)
      ∧ r.2.mem ((c.tc : Thread Cert.DwXkvIdeal.nD Cert.DwXkvIdeal.τ).loc Cert.DwXkvIdeal.main_arg1) = m ((c.tc : Thread Cert.DwXkvIdeal.nD Cert.DwXkvIdeal.τ).loc Cert.DwXkvIdeal.main_arg1))
      ∧ r.2.sem = fun _ => 0)

def quiescent_DwXkvRefIdeal [hDwXkvRefIdeal : Cert.DwXkvRefIdeal.Facts] : Prop :=
  ∀ (m : (ℓ : Loc Cert.DwXkvRefIdeal.nD Cert.DwXkvRefIdeal.τ Cert.DwXkvRefIdeal.sig) → Buf (Elt Ideal) ℓ) (g : Dev Cert.DwXkvRefIdeal.nD → PrngReg), Pre_DwXkvRefIdeal m →
    θ_run (Cert.DwXkvRefIdeal.defs (F := Ideal)) (onTc (τ := Cert.DwXkvRefIdeal.τ) (Cert.DwXkvRefIdeal.main (F := Ideal))) ⟨m, fun _ => 0, g⟩ (fun r => (∀ c : Dev Cert.DwXkvRefIdeal.nD,
      r.2.mem ((c.tc : Thread Cert.DwXkvRefIdeal.nD Cert.DwXkvRefIdeal.τ).loc Cert.DwXkvRefIdeal.main_arg0) = m ((c.tc : Thread Cert.DwXkvRefIdeal.nD Cert.DwXkvRefIdeal.τ).loc Cert.DwXkvRefIdeal.main_arg0)
      ∧ r.2.mem ((c.tc : Thread Cert.DwXkvRefIdeal.nD Cert.DwXkvRefIdeal.τ).loc Cert.DwXkvRefIdeal.main_arg1) = m ((c.tc : Thread Cert.DwXkvRefIdeal.nD Cert.DwXkvRefIdeal.τ).loc Cert.DwXkvRefIdeal.main_arg1))
      ∧ r.2.sem = fun _ => 0)

def quiescent_DMemn [hDMemn : Cert.DMemn.Facts] : Prop :=
  ∀ (m : (ℓ : Loc Cert.DMemn.nD Cert.DMemn.τ Cert.DMemn.sig) → Buf (Elt Bits) ℓ) (g : Dev Cert.DMemn.nD → PrngReg), Pre_DMemn m →
    θ_run (Cert.DMemn.defs (F := Bits)) (onTc (τ := Cert.DMemn.τ) (Cert.DMemn.main (F := Bits))) ⟨m, fun _ => 0, g⟩ (fun r => (∀ c : Dev Cert.DMemn.nD,
      r.2.mem ((c.tc : Thread Cert.DMemn.nD Cert.DMemn.τ).loc Cert.DMemn.main_arg0) = m ((c.tc : Thread Cert.DMemn.nD Cert.DMemn.τ).loc Cert.DMemn.main_arg0)
      ∧ r.2.mem ((c.tc : Thread Cert.DMemn.nD Cert.DMemn.τ).loc Cert.DMemn.main_arg1) = m ((c.tc : Thread Cert.DMemn.nD Cert.DMemn.τ).loc Cert.DMemn.main_arg1))
      ∧ r.2.sem = fun _ => 0)

def quiescent_DMemnIdeal [hDMemnIdeal : Cert.DMemnIdeal.Facts] : Prop :=
  ∀ (m : (ℓ : Loc Cert.DMemnIdeal.nD Cert.DMemnIdeal.τ Cert.DMemnIdeal.sig) → Buf (Elt Ideal) ℓ) (g : Dev Cert.DMemnIdeal.nD → PrngReg), Pre_DMemnIdeal m →
    θ_run (Cert.DMemnIdeal.defs (F := Ideal)) (onTc (τ := Cert.DMemnIdeal.τ) (Cert.DMemnIdeal.main (F := Ideal))) ⟨m, fun _ => 0, g⟩ (fun r => (∀ c : Dev Cert.DMemnIdeal.nD,
      r.2.mem ((c.tc : Thread Cert.DMemnIdeal.nD Cert.DMemnIdeal.τ).loc Cert.DMemnIdeal.main_arg0) = m ((c.tc : Thread Cert.DMemnIdeal.nD Cert.DMemnIdeal.τ).loc Cert.DMemnIdeal.main_arg0)
      ∧ r.2.mem ((c.tc : Thread Cert.DMemnIdeal.nD Cert.DMemnIdeal.τ).loc Cert.DMemnIdeal.main_arg1) = m ((c.tc : Thread Cert.DMemnIdeal.nD Cert.DMemnIdeal.τ).loc Cert.DMemnIdeal.main_arg1))
      ∧ r.2.sem = fun _ => 0)

def quiescent_DMemnRefIdeal [hDMemnRefIdeal : Cert.DMemnRefIdeal.Facts] : Prop :=
  ∀ (m : (ℓ : Loc Cert.DMemnRefIdeal.nD Cert.DMemnRefIdeal.τ Cert.DMemnRefIdeal.sig) → Buf (Elt Ideal) ℓ) (g : Dev Cert.DMemnRefIdeal.nD → PrngReg), Pre_DMemnRefIdeal m →
    θ_run (Cert.DMemnRefIdeal.defs (F := Ideal)) (onTc (τ := Cert.DMemnRefIdeal.τ) (Cert.DMemnRefIdeal.main (F := Ideal))) ⟨m, fun _ => 0, g⟩ (fun r => (∀ c : Dev Cert.DMemnRefIdeal.nD,
      r.2.mem ((c.tc : Thread Cert.DMemnRefIdeal.nD Cert.DMemnRefIdeal.τ).loc Cert.DMemnRefIdeal.main_arg0) = m ((c.tc : Thread Cert.DMemnRefIdeal.nD Cert.DMemnRefIdeal.τ).loc Cert.DMemnRefIdeal.main_arg0)
      ∧ r.2.mem ((c.tc : Thread Cert.DMemnRefIdeal.nD Cert.DMemnRefIdeal.τ).loc Cert.DMemnRefIdeal.main_arg1) = m ((c.tc : Thread Cert.DMemnRefIdeal.nD Cert.DMemnRefIdeal.τ).loc Cert.DMemnRefIdeal.main_arg1))
      ∧ r.2.sem = fun _ => 0)

def quiescent_DYb [hDYb : Cert.DYb.Facts] : Prop :=
  ∀ (m : (ℓ : Loc Cert.DYb.nD Cert.DYb.τ Cert.DYb.sig) → Buf (Elt Bits) ℓ) (g : Dev Cert.DYb.nD → PrngReg), Pre_DYb m →
    θ_run (Cert.DYb.defs (F := Bits)) (onTc (τ := Cert.DYb.τ) (Cert.DYb.main (F := Bits))) ⟨m, fun _ => 0, g⟩ (fun r => (∀ c : Dev Cert.DYb.nD,
      r.2.mem ((c.tc : Thread Cert.DYb.nD Cert.DYb.τ).loc Cert.DYb.main_arg0) = m ((c.tc : Thread Cert.DYb.nD Cert.DYb.τ).loc Cert.DYb.main_arg0)
      ∧ r.2.mem ((c.tc : Thread Cert.DYb.nD Cert.DYb.τ).loc Cert.DYb.main_arg1) = m ((c.tc : Thread Cert.DYb.nD Cert.DYb.τ).loc Cert.DYb.main_arg1))
      ∧ r.2.sem = fun _ => 0)

def quiescent_DYbIdeal [hDYbIdeal : Cert.DYbIdeal.Facts] : Prop :=
  ∀ (m : (ℓ : Loc Cert.DYbIdeal.nD Cert.DYbIdeal.τ Cert.DYbIdeal.sig) → Buf (Elt Ideal) ℓ) (g : Dev Cert.DYbIdeal.nD → PrngReg), Pre_DYbIdeal m →
    θ_run (Cert.DYbIdeal.defs (F := Ideal)) (onTc (τ := Cert.DYbIdeal.τ) (Cert.DYbIdeal.main (F := Ideal))) ⟨m, fun _ => 0, g⟩ (fun r => (∀ c : Dev Cert.DYbIdeal.nD,
      r.2.mem ((c.tc : Thread Cert.DYbIdeal.nD Cert.DYbIdeal.τ).loc Cert.DYbIdeal.main_arg0) = m ((c.tc : Thread Cert.DYbIdeal.nD Cert.DYbIdeal.τ).loc Cert.DYbIdeal.main_arg0)
      ∧ r.2.mem ((c.tc : Thread Cert.DYbIdeal.nD Cert.DYbIdeal.τ).loc Cert.DYbIdeal.main_arg1) = m ((c.tc : Thread Cert.DYbIdeal.nD Cert.DYbIdeal.τ).loc Cert.DYbIdeal.main_arg1))
      ∧ r.2.sem = fun _ => 0)

def quiescent_DYbRefIdeal [hDYbRefIdeal : Cert.DYbRefIdeal.Facts] : Prop :=
  ∀ (m : (ℓ : Loc Cert.DYbRefIdeal.nD Cert.DYbRefIdeal.τ Cert.DYbRefIdeal.sig) → Buf (Elt Ideal) ℓ) (g : Dev Cert.DYbRefIdeal.nD → PrngReg), Pre_DYbRefIdeal m →
    θ_run (Cert.DYbRefIdeal.defs (F := Ideal)) (onTc (τ := Cert.DYbRefIdeal.τ) (Cert.DYbRefIdeal.main (F := Ideal))) ⟨m, fun _ => 0, g⟩ (fun r => (∀ c : Dev Cert.DYbRefIdeal.nD,
      r.2.mem ((c.tc : Thread Cert.DYbRefIdeal.nD Cert.DYbRefIdeal.τ).loc Cert.DYbRefIdeal.main_arg0) = m ((c.tc : Thread Cert.DYbRefIdeal.nD Cert.DYbRefIdeal.τ).loc Cert.DYbRefIdeal.main_arg0)
      ∧ r.2.mem ((c.tc : Thread Cert.DYbRefIdeal.nD Cert.DYbRefIdeal.τ).loc Cert.DYbRefIdeal.main_arg1) = m ((c.tc : Thread Cert.DYbRefIdeal.nD Cert.DYbRefIdeal.τ).loc Cert.DYbRefIdeal.main_arg1))
      ∧ r.2.sem = fun _ => 0)

def quiescent_DwSsd [hDwSsd : Cert.DwSsd.Facts] : Prop :=
  ∀ (m : (ℓ : Loc Cert.DwSsd.nD Cert.DwSsd.τ Cert.DwSsd.sig) → Buf (Elt Bits) ℓ) (g : Dev Cert.DwSsd.nD → PrngReg), Pre_DwSsd m →
    θ_run (Cert.DwSsd.defs (F := Bits)) (onTc (τ := Cert.DwSsd.τ) (Cert.DwSsd.main (F := Bits))) ⟨m, fun _ => 0, g⟩ (fun r => (∀ c : Dev Cert.DwSsd.nD,
      r.2.mem ((c.tc : Thread Cert.DwSsd.nD Cert.DwSsd.τ).loc Cert.DwSsd.main_arg0) = m ((c.tc : Thread Cert.DwSsd.nD Cert.DwSsd.τ).loc Cert.DwSsd.main_arg0)
      ∧ r.2.mem ((c.tc : Thread Cert.DwSsd.nD Cert.DwSsd.τ).loc Cert.DwSsd.main_arg1) = m ((c.tc : Thread Cert.DwSsd.nD Cert.DwSsd.τ).loc Cert.DwSsd.main_arg1))
      ∧ r.2.sem = fun _ => 0)

def quiescent_DwSsdIdeal [hDwSsdIdeal : Cert.DwSsdIdeal.Facts] : Prop :=
  ∀ (m : (ℓ : Loc Cert.DwSsdIdeal.nD Cert.DwSsdIdeal.τ Cert.DwSsdIdeal.sig) → Buf (Elt Ideal) ℓ) (g : Dev Cert.DwSsdIdeal.nD → PrngReg), Pre_DwSsdIdeal m →
    θ_run (Cert.DwSsdIdeal.defs (F := Ideal)) (onTc (τ := Cert.DwSsdIdeal.τ) (Cert.DwSsdIdeal.main (F := Ideal))) ⟨m, fun _ => 0, g⟩ (fun r => (∀ c : Dev Cert.DwSsdIdeal.nD,
      r.2.mem ((c.tc : Thread Cert.DwSsdIdeal.nD Cert.DwSsdIdeal.τ).loc Cert.DwSsdIdeal.main_arg0) = m ((c.tc : Thread Cert.DwSsdIdeal.nD Cert.DwSsdIdeal.τ).loc Cert.DwSsdIdeal.main_arg0)
      ∧ r.2.mem ((c.tc : Thread Cert.DwSsdIdeal.nD Cert.DwSsdIdeal.τ).loc Cert.DwSsdIdeal.main_arg1) = m ((c.tc : Thread Cert.DwSsdIdeal.nD Cert.DwSsdIdeal.τ).loc Cert.DwSsdIdeal.main_arg1))
      ∧ r.2.sem = fun _ => 0)

def quiescent_DwSsdRefIdeal [hDwSsdRefIdeal : Cert.DwSsdRefIdeal.Facts] : Prop :=
  ∀ (m : (ℓ : Loc Cert.DwSsdRefIdeal.nD Cert.DwSsdRefIdeal.τ Cert.DwSsdRefIdeal.sig) → Buf (Elt Ideal) ℓ) (g : Dev Cert.DwSsdRefIdeal.nD → PrngReg), Pre_DwSsdRefIdeal m →
    θ_run (Cert.DwSsdRefIdeal.defs (F := Ideal)) (onTc (τ := Cert.DwSsdRefIdeal.τ) (Cert.DwSsdRefIdeal.main (F := Ideal))) ⟨m, fun _ => 0, g⟩ (fun r => (∀ c : Dev Cert.DwSsdRefIdeal.nD,
      r.2.mem ((c.tc : Thread Cert.DwSsdRefIdeal.nD Cert.DwSsdRefIdeal.τ).loc Cert.DwSsdRefIdeal.main_arg0) = m ((c.tc : Thread Cert.DwSsdRefIdeal.nD Cert.DwSsdRefIdeal.τ).loc Cert.DwSsdRefIdeal.main_arg0)
      ∧ r.2.mem ((c.tc : Thread Cert.DwSsdRefIdeal.nD Cert.DwSsdRefIdeal.τ).loc Cert.DwSsdRefIdeal.main_arg1) = m ((c.tc : Thread Cert.DwSsdRefIdeal.nD Cert.DwSsdRefIdeal.τ).loc Cert.DwSsdRefIdeal.main_arg1))
      ∧ r.2.sem = fun _ => 0)

def quiescent_DuAg [hDuAg : Cert.DuAg.Facts] : Prop :=
  ∀ (m : (ℓ : Loc Cert.DuAg.nD Cert.DuAg.τ Cert.DuAg.sig) → Buf (Elt Bits) ℓ) (g : Dev Cert.DuAg.nD → PrngReg), Pre_DuAg m →
    θ_run (Cert.DuAg.defs (F := Bits)) (onTc (τ := Cert.DuAg.τ) (Cert.DuAg.main (F := Bits))) ⟨m, fun _ => 0, g⟩ (fun r => (∀ c : Dev Cert.DuAg.nD,
      r.2.mem ((c.tc : Thread Cert.DuAg.nD Cert.DuAg.τ).loc Cert.DuAg.main_arg0) = m ((c.tc : Thread Cert.DuAg.nD Cert.DuAg.τ).loc Cert.DuAg.main_arg0)
      ∧ r.2.mem ((c.tc : Thread Cert.DuAg.nD Cert.DuAg.τ).loc Cert.DuAg.main_arg1) = m ((c.tc : Thread Cert.DuAg.nD Cert.DuAg.τ).loc Cert.DuAg.main_arg1)
      ∧ r.2.mem ((c.tc : Thread Cert.DuAg.nD Cert.DuAg.τ).loc Cert.DuAg.main_arg2) = m ((c.tc : Thread Cert.DuAg.nD Cert.DuAg.τ).loc Cert.DuAg.main_arg2))
      ∧ r.2.sem = fun _ => 0)

def quiescent_DuAgIdeal [hDuAgIdeal : Cert.DuAgIdeal.Facts] : Prop :=
  ∀ (m : (ℓ : Loc Cert.DuAgIdeal.nD Cert.DuAgIdeal.τ Cert.DuAgIdeal.sig) → Buf (Elt Ideal) ℓ) (g : Dev Cert.DuAgIdeal.nD → PrngReg), Pre_DuAgIdeal m →
    θ_run (Cert.DuAgIdeal.defs (F := Ideal)) (onTc (τ := Cert.DuAgIdeal.τ) (Cert.DuAgIdeal.main (F := Ideal))) ⟨m, fun _ => 0, g⟩ (fun r => (∀ c : Dev Cert.DuAgIdeal.nD,
      r.2.mem ((c.tc : Thread Cert.DuAgIdeal.nD Cert.DuAgIdeal.τ).loc Cert.DuAgIdeal.main_arg0) = m ((c.tc : Thread Cert.DuAgIdeal.nD Cert.DuAgIdeal.τ).loc Cert.DuAgIdeal.main_arg0)
      ∧ r.2.mem ((c.tc : Thread Cert.DuAgIdeal.nD Cert.DuAgIdeal.τ).loc Cert.DuAgIdeal.main_arg1) = m ((c.tc : Thread Cert.DuAgIdeal.nD Cert.DuAgIdeal.τ).loc Cert.DuAgIdeal.main_arg1)
      ∧ r.2.mem ((c.tc : Thread Cert.DuAgIdeal.nD Cert.DuAgIdeal.τ).loc Cert.DuAgIdeal.main_arg2) = m ((c.tc : Thread Cert.DuAgIdeal.nD Cert.DuAgIdeal.τ).loc Cert.DuAgIdeal.main_arg2))
      ∧ r.2.sem = fun _ => 0)

def quiescent_DuAgRefIdeal [hDuAgRefIdeal : Cert.DuAgRefIdeal.Facts] : Prop :=
  ∀ (m : (ℓ : Loc Cert.DuAgRefIdeal.nD Cert.DuAgRefIdeal.τ Cert.DuAgRefIdeal.sig) → Buf (Elt Ideal) ℓ) (g : Dev Cert.DuAgRefIdeal.nD → PrngReg), Pre_DuAgRefIdeal m →
    θ_run (Cert.DuAgRefIdeal.defs (F := Ideal)) (onTc (τ := Cert.DuAgRefIdeal.τ) (Cert.DuAgRefIdeal.main (F := Ideal))) ⟨m, fun _ => 0, g⟩ (fun r => (∀ c : Dev Cert.DuAgRefIdeal.nD,
      r.2.mem ((c.tc : Thread Cert.DuAgRefIdeal.nD Cert.DuAgRefIdeal.τ).loc Cert.DuAgRefIdeal.main_arg0) = m ((c.tc : Thread Cert.DuAgRefIdeal.nD Cert.DuAgRefIdeal.τ).loc Cert.DuAgRefIdeal.main_arg0)
      ∧ r.2.mem ((c.tc : Thread Cert.DuAgRefIdeal.nD Cert.DuAgRefIdeal.τ).loc Cert.DuAgRefIdeal.main_arg1) = m ((c.tc : Thread Cert.DuAgRefIdeal.nD Cert.DuAgRefIdeal.τ).loc Cert.DuAgRefIdeal.main_arg1)
      ∧ r.2.mem ((c.tc : Thread Cert.DuAgRefIdeal.nD Cert.DuAgRefIdeal.τ).loc Cert.DuAgRefIdeal.main_arg2) = m ((c.tc : Thread Cert.DuAgRefIdeal.nD Cert.DuAgRefIdeal.τ).loc Cert.DuAgRefIdeal.main_arg2))
      ∧ r.2.sem = fun _ => 0)

def quiescent_DuZ [hDuZ : Cert.DuZ.Facts] : Prop :=
  ∀ (m : (ℓ : Loc Cert.DuZ.nD Cert.DuZ.τ Cert.DuZ.sig) → Buf (Elt Bits) ℓ) (g : Dev Cert.DuZ.nD → PrngReg), Pre_DuZ m →
    θ_run (Cert.DuZ.defs (F := Bits)) (onTc (τ := Cert.DuZ.τ) (Cert.DuZ.main (F := Bits))) ⟨m, fun _ => 0, g⟩ (fun r => (∀ c : Dev Cert.DuZ.nD,
      r.2.mem ((c.tc : Thread Cert.DuZ.nD Cert.DuZ.τ).loc Cert.DuZ.main_arg0) = m ((c.tc : Thread Cert.DuZ.nD Cert.DuZ.τ).loc Cert.DuZ.main_arg0)
      ∧ r.2.mem ((c.tc : Thread Cert.DuZ.nD Cert.DuZ.τ).loc Cert.DuZ.main_arg1) = m ((c.tc : Thread Cert.DuZ.nD Cert.DuZ.τ).loc Cert.DuZ.main_arg1)
      ∧ r.2.mem ((c.tc : Thread Cert.DuZ.nD Cert.DuZ.τ).loc Cert.DuZ.main_arg2) = m ((c.tc : Thread Cert.DuZ.nD Cert.DuZ.τ).loc Cert.DuZ.main_arg2))
      ∧ r.2.sem = fun _ => 0)

def quiescent_DuZIdeal [hDuZIdeal : Cert.DuZIdeal.Facts] : Prop :=
  ∀ (m : (ℓ : Loc Cert.DuZIdeal.nD Cert.DuZIdeal.τ Cert.DuZIdeal.sig) → Buf (Elt Ideal) ℓ) (g : Dev Cert.DuZIdeal.nD → PrngReg), Pre_DuZIdeal m →
    θ_run (Cert.DuZIdeal.defs (F := Ideal)) (onTc (τ := Cert.DuZIdeal.τ) (Cert.DuZIdeal.main (F := Ideal))) ⟨m, fun _ => 0, g⟩ (fun r => (∀ c : Dev Cert.DuZIdeal.nD,
      r.2.mem ((c.tc : Thread Cert.DuZIdeal.nD Cert.DuZIdeal.τ).loc Cert.DuZIdeal.main_arg0) = m ((c.tc : Thread Cert.DuZIdeal.nD Cert.DuZIdeal.τ).loc Cert.DuZIdeal.main_arg0)
      ∧ r.2.mem ((c.tc : Thread Cert.DuZIdeal.nD Cert.DuZIdeal.τ).loc Cert.DuZIdeal.main_arg1) = m ((c.tc : Thread Cert.DuZIdeal.nD Cert.DuZIdeal.τ).loc Cert.DuZIdeal.main_arg1)
      ∧ r.2.mem ((c.tc : Thread Cert.DuZIdeal.nD Cert.DuZIdeal.τ).loc Cert.DuZIdeal.main_arg2) = m ((c.tc : Thread Cert.DuZIdeal.nD Cert.DuZIdeal.τ).loc Cert.DuZIdeal.main_arg2))
      ∧ r.2.sem = fun _ => 0)

def quiescent_DuZRefIdeal [hDuZRefIdeal : Cert.DuZRefIdeal.Facts] : Prop :=
  ∀ (m : (ℓ : Loc Cert.DuZRefIdeal.nD Cert.DuZRefIdeal.τ Cert.DuZRefIdeal.sig) → Buf (Elt Ideal) ℓ) (g : Dev Cert.DuZRefIdeal.nD → PrngReg), Pre_DuZRefIdeal m →
    θ_run (Cert.DuZRefIdeal.defs (F := Ideal)) (onTc (τ := Cert.DuZRefIdeal.τ) (Cert.DuZRefIdeal.main (F := Ideal))) ⟨m, fun _ => 0, g⟩ (fun r => (∀ c : Dev Cert.DuZRefIdeal.nD,
      r.2.mem ((c.tc : Thread Cert.DuZRefIdeal.nD Cert.DuZRefIdeal.τ).loc Cert.DuZRefIdeal.main_arg0) = m ((c.tc : Thread Cert.DuZRefIdeal.nD Cert.DuZRefIdeal.τ).loc Cert.DuZRefIdeal.main_arg0)
      ∧ r.2.mem ((c.tc : Thread Cert.DuZRefIdeal.nD Cert.DuZRefIdeal.τ).loc Cert.DuZRefIdeal.main_arg1) = m ((c.tc : Thread Cert.DuZRefIdeal.nD Cert.DuZRefIdeal.τ).loc Cert.DuZRefIdeal.main_arg1)
      ∧ r.2.mem ((c.tc : Thread Cert.DuZRefIdeal.nD Cert.DuZRefIdeal.τ).loc Cert.DuZRefIdeal.main_arg2) = m ((c.tc : Thread Cert.DuZRefIdeal.nD Cert.DuZRefIdeal.τ).loc Cert.DuZRefIdeal.main_arg2))
      ∧ r.2.sem = fun _ => 0)

def quiescent_DuX [hDuX : Cert.DuX.Facts] : Prop :=
  ∀ (m : (ℓ : Loc Cert.DuX.nD Cert.DuX.τ Cert.DuX.sig) → Buf (Elt Bits) ℓ) (g : Dev Cert.DuX.nD → PrngReg), Pre_DuX m →
    θ_run (Cert.DuX.defs (F := Bits)) (onTc (τ := Cert.DuX.τ) (Cert.DuX.main (F := Bits))) ⟨m, fun _ => 0, g⟩ (fun r => (∀ c : Dev Cert.DuX.nD,
      r.2.mem ((c.tc : Thread Cert.DuX.nD Cert.DuX.τ).loc Cert.DuX.main_arg0) = m ((c.tc : Thread Cert.DuX.nD Cert.DuX.τ).loc Cert.DuX.main_arg0)
      ∧ r.2.mem ((c.tc : Thread Cert.DuX.nD Cert.DuX.τ).loc Cert.DuX.main_arg1) = m ((c.tc : Thread Cert.DuX.nD Cert.DuX.τ).loc Cert.DuX.main_arg1)
      ∧ r.2.mem ((c.tc : Thread Cert.DuX.nD Cert.DuX.τ).loc Cert.DuX.main_arg2) = m ((c.tc : Thread Cert.DuX.nD Cert.DuX.τ).loc Cert.DuX.main_arg2))
      ∧ r.2.sem = fun _ => 0)

def quiescent_DuXIdeal [hDuXIdeal : Cert.DuXIdeal.Facts] : Prop :=
  ∀ (m : (ℓ : Loc Cert.DuXIdeal.nD Cert.DuXIdeal.τ Cert.DuXIdeal.sig) → Buf (Elt Ideal) ℓ) (g : Dev Cert.DuXIdeal.nD → PrngReg), Pre_DuXIdeal m →
    θ_run (Cert.DuXIdeal.defs (F := Ideal)) (onTc (τ := Cert.DuXIdeal.τ) (Cert.DuXIdeal.main (F := Ideal))) ⟨m, fun _ => 0, g⟩ (fun r => (∀ c : Dev Cert.DuXIdeal.nD,
      r.2.mem ((c.tc : Thread Cert.DuXIdeal.nD Cert.DuXIdeal.τ).loc Cert.DuXIdeal.main_arg0) = m ((c.tc : Thread Cert.DuXIdeal.nD Cert.DuXIdeal.τ).loc Cert.DuXIdeal.main_arg0)
      ∧ r.2.mem ((c.tc : Thread Cert.DuXIdeal.nD Cert.DuXIdeal.τ).loc Cert.DuXIdeal.main_arg1) = m ((c.tc : Thread Cert.DuXIdeal.nD Cert.DuXIdeal.τ).loc Cert.DuXIdeal.main_arg1)
      ∧ r.2.mem ((c.tc : Thread Cert.DuXIdeal.nD Cert.DuXIdeal.τ).loc Cert.DuXIdeal.main_arg2) = m ((c.tc : Thread Cert.DuXIdeal.nD Cert.DuXIdeal.τ).loc Cert.DuXIdeal.main_arg2))
      ∧ r.2.sem = fun _ => 0)

def quiescent_DuXRefIdeal [hDuXRefIdeal : Cert.DuXRefIdeal.Facts] : Prop :=
  ∀ (m : (ℓ : Loc Cert.DuXRefIdeal.nD Cert.DuXRefIdeal.τ Cert.DuXRefIdeal.sig) → Buf (Elt Ideal) ℓ) (g : Dev Cert.DuXRefIdeal.nD → PrngReg), Pre_DuXRefIdeal m →
    θ_run (Cert.DuXRefIdeal.defs (F := Ideal)) (onTc (τ := Cert.DuXRefIdeal.τ) (Cert.DuXRefIdeal.main (F := Ideal))) ⟨m, fun _ => 0, g⟩ (fun r => (∀ c : Dev Cert.DuXRefIdeal.nD,
      r.2.mem ((c.tc : Thread Cert.DuXRefIdeal.nD Cert.DuXRefIdeal.τ).loc Cert.DuXRefIdeal.main_arg0) = m ((c.tc : Thread Cert.DuXRefIdeal.nD Cert.DuXRefIdeal.τ).loc Cert.DuXRefIdeal.main_arg0)
      ∧ r.2.mem ((c.tc : Thread Cert.DuXRefIdeal.nD Cert.DuXRefIdeal.τ).loc Cert.DuXRefIdeal.main_arg1) = m ((c.tc : Thread Cert.DuXRefIdeal.nD Cert.DuXRefIdeal.τ).loc Cert.DuXRefIdeal.main_arg1)
      ∧ r.2.mem ((c.tc : Thread Cert.DuXRefIdeal.nD Cert.DuXRefIdeal.τ).loc Cert.DuXRefIdeal.main_arg2) = m ((c.tc : Thread Cert.DuXRefIdeal.nD Cert.DuXRefIdeal.τ).loc Cert.DuXRefIdeal.main_arg2))
      ∧ r.2.sem = fun _ => 0)

def quiescent_DuDt [hDuDt : Cert.DuDt.Facts] : Prop :=
  ∀ (m : (ℓ : Loc Cert.DuDt.nD Cert.DuDt.τ Cert.DuDt.sig) → Buf (Elt Bits) ℓ) (g : Dev Cert.DuDt.nD → PrngReg), Pre_DuDt m →
    θ_run (Cert.DuDt.defs (F := Bits)) (onTc (τ := Cert.DuDt.τ) (Cert.DuDt.main (F := Bits))) ⟨m, fun _ => 0, g⟩ (fun r => (∀ c : Dev Cert.DuDt.nD,
      r.2.mem ((c.tc : Thread Cert.DuDt.nD Cert.DuDt.τ).loc Cert.DuDt.main_arg0) = m ((c.tc : Thread Cert.DuDt.nD Cert.DuDt.τ).loc Cert.DuDt.main_arg0)
      ∧ r.2.mem ((c.tc : Thread Cert.DuDt.nD Cert.DuDt.τ).loc Cert.DuDt.main_arg1) = m ((c.tc : Thread Cert.DuDt.nD Cert.DuDt.τ).loc Cert.DuDt.main_arg1)
      ∧ r.2.mem ((c.tc : Thread Cert.DuDt.nD Cert.DuDt.τ).loc Cert.DuDt.main_arg2) = m ((c.tc : Thread Cert.DuDt.nD Cert.DuDt.τ).loc Cert.DuDt.main_arg2))
      ∧ r.2.sem = fun _ => 0)

def quiescent_DuDtIdeal [hDuDtIdeal : Cert.DuDtIdeal.Facts] : Prop :=
  ∀ (m : (ℓ : Loc Cert.DuDtIdeal.nD Cert.DuDtIdeal.τ Cert.DuDtIdeal.sig) → Buf (Elt Ideal) ℓ) (g : Dev Cert.DuDtIdeal.nD → PrngReg), Pre_DuDtIdeal m →
    θ_run (Cert.DuDtIdeal.defs (F := Ideal)) (onTc (τ := Cert.DuDtIdeal.τ) (Cert.DuDtIdeal.main (F := Ideal))) ⟨m, fun _ => 0, g⟩ (fun r => (∀ c : Dev Cert.DuDtIdeal.nD,
      r.2.mem ((c.tc : Thread Cert.DuDtIdeal.nD Cert.DuDtIdeal.τ).loc Cert.DuDtIdeal.main_arg0) = m ((c.tc : Thread Cert.DuDtIdeal.nD Cert.DuDtIdeal.τ).loc Cert.DuDtIdeal.main_arg0)
      ∧ r.2.mem ((c.tc : Thread Cert.DuDtIdeal.nD Cert.DuDtIdeal.τ).loc Cert.DuDtIdeal.main_arg1) = m ((c.tc : Thread Cert.DuDtIdeal.nD Cert.DuDtIdeal.τ).loc Cert.DuDtIdeal.main_arg1)
      ∧ r.2.mem ((c.tc : Thread Cert.DuDtIdeal.nD Cert.DuDtIdeal.τ).loc Cert.DuDtIdeal.main_arg2) = m ((c.tc : Thread Cert.DuDtIdeal.nD Cert.DuDtIdeal.τ).loc Cert.DuDtIdeal.main_arg2))
      ∧ r.2.sem = fun _ => 0)

def quiescent_DuDtRefIdeal [hDuDtRefIdeal : Cert.DuDtRefIdeal.Facts] : Prop :=
  ∀ (m : (ℓ : Loc Cert.DuDtRefIdeal.nD Cert.DuDtRefIdeal.τ Cert.DuDtRefIdeal.sig) → Buf (Elt Ideal) ℓ) (g : Dev Cert.DuDtRefIdeal.nD → PrngReg), Pre_DuDtRefIdeal m →
    θ_run (Cert.DuDtRefIdeal.defs (F := Ideal)) (onTc (τ := Cert.DuDtRefIdeal.τ) (Cert.DuDtRefIdeal.main (F := Ideal))) ⟨m, fun _ => 0, g⟩ (fun r => (∀ c : Dev Cert.DuDtRefIdeal.nD,
      r.2.mem ((c.tc : Thread Cert.DuDtRefIdeal.nD Cert.DuDtRefIdeal.τ).loc Cert.DuDtRefIdeal.main_arg0) = m ((c.tc : Thread Cert.DuDtRefIdeal.nD Cert.DuDtRefIdeal.τ).loc Cert.DuDtRefIdeal.main_arg0)
      ∧ r.2.mem ((c.tc : Thread Cert.DuDtRefIdeal.nD Cert.DuDtRefIdeal.τ).loc Cert.DuDtRefIdeal.main_arg1) = m ((c.tc : Thread Cert.DuDtRefIdeal.nD Cert.DuDtRefIdeal.τ).loc Cert.DuDtRefIdeal.main_arg1)
      ∧ r.2.mem ((c.tc : Thread Cert.DuDtRefIdeal.nD Cert.DuDtRefIdeal.τ).loc Cert.DuDtRefIdeal.main_arg2) = m ((c.tc : Thread Cert.DuDtRefIdeal.nD Cert.DuDtRefIdeal.τ).loc Cert.DuDtRefIdeal.main_arg2))
      ∧ r.2.sem = fun _ => 0)

def quiescent_DuQkv [hDuQkv : Cert.DuQkv.Facts] : Prop :=
  ∀ (m : (ℓ : Loc Cert.DuQkv.nD Cert.DuQkv.τ Cert.DuQkv.sig) → Buf (Elt Bits) ℓ) (g : Dev Cert.DuQkv.nD → PrngReg), Pre_DuQkv m →
    θ_run (Cert.DuQkv.defs (F := Bits)) (onTc (τ := Cert.DuQkv.τ) (Cert.DuQkv.main (F := Bits))) ⟨m, fun _ => 0, g⟩ (fun r => (∀ c : Dev Cert.DuQkv.nD,
      r.2.mem ((c.tc : Thread Cert.DuQkv.nD Cert.DuQkv.τ).loc Cert.DuQkv.main_arg0) = m ((c.tc : Thread Cert.DuQkv.nD Cert.DuQkv.τ).loc Cert.DuQkv.main_arg0)
      ∧ r.2.mem ((c.tc : Thread Cert.DuQkv.nD Cert.DuQkv.τ).loc Cert.DuQkv.main_arg1) = m ((c.tc : Thread Cert.DuQkv.nD Cert.DuQkv.τ).loc Cert.DuQkv.main_arg1)
      ∧ r.2.mem ((c.tc : Thread Cert.DuQkv.nD Cert.DuQkv.τ).loc Cert.DuQkv.main_arg2) = m ((c.tc : Thread Cert.DuQkv.nD Cert.DuQkv.τ).loc Cert.DuQkv.main_arg2))
      ∧ r.2.sem = fun _ => 0)

def quiescent_DuQkvIdeal [hDuQkvIdeal : Cert.DuQkvIdeal.Facts] : Prop :=
  ∀ (m : (ℓ : Loc Cert.DuQkvIdeal.nD Cert.DuQkvIdeal.τ Cert.DuQkvIdeal.sig) → Buf (Elt Ideal) ℓ) (g : Dev Cert.DuQkvIdeal.nD → PrngReg), Pre_DuQkvIdeal m →
    θ_run (Cert.DuQkvIdeal.defs (F := Ideal)) (onTc (τ := Cert.DuQkvIdeal.τ) (Cert.DuQkvIdeal.main (F := Ideal))) ⟨m, fun _ => 0, g⟩ (fun r => (∀ c : Dev Cert.DuQkvIdeal.nD,
      r.2.mem ((c.tc : Thread Cert.DuQkvIdeal.nD Cert.DuQkvIdeal.τ).loc Cert.DuQkvIdeal.main_arg0) = m ((c.tc : Thread Cert.DuQkvIdeal.nD Cert.DuQkvIdeal.τ).loc Cert.DuQkvIdeal.main_arg0)
      ∧ r.2.mem ((c.tc : Thread Cert.DuQkvIdeal.nD Cert.DuQkvIdeal.τ).loc Cert.DuQkvIdeal.main_arg1) = m ((c.tc : Thread Cert.DuQkvIdeal.nD Cert.DuQkvIdeal.τ).loc Cert.DuQkvIdeal.main_arg1)
      ∧ r.2.mem ((c.tc : Thread Cert.DuQkvIdeal.nD Cert.DuQkvIdeal.τ).loc Cert.DuQkvIdeal.main_arg2) = m ((c.tc : Thread Cert.DuQkvIdeal.nD Cert.DuQkvIdeal.τ).loc Cert.DuQkvIdeal.main_arg2))
      ∧ r.2.sem = fun _ => 0)

def quiescent_DuQkvRefIdeal [hDuQkvRefIdeal : Cert.DuQkvRefIdeal.Facts] : Prop :=
  ∀ (m : (ℓ : Loc Cert.DuQkvRefIdeal.nD Cert.DuQkvRefIdeal.τ Cert.DuQkvRefIdeal.sig) → Buf (Elt Ideal) ℓ) (g : Dev Cert.DuQkvRefIdeal.nD → PrngReg), Pre_DuQkvRefIdeal m →
    θ_run (Cert.DuQkvRefIdeal.defs (F := Ideal)) (onTc (τ := Cert.DuQkvRefIdeal.τ) (Cert.DuQkvRefIdeal.main (F := Ideal))) ⟨m, fun _ => 0, g⟩ (fun r => (∀ c : Dev Cert.DuQkvRefIdeal.nD,
      r.2.mem ((c.tc : Thread Cert.DuQkvRefIdeal.nD Cert.DuQkvRefIdeal.τ).loc Cert.DuQkvRefIdeal.main_arg0) = m ((c.tc : Thread Cert.DuQkvRefIdeal.nD Cert.DuQkvRefIdeal.τ).loc Cert.DuQkvRefIdeal.main_arg0)
      ∧ r.2.mem ((c.tc : Thread Cert.DuQkvRefIdeal.nD Cert.DuQkvRefIdeal.τ).loc Cert.DuQkvRefIdeal.main_arg1) = m ((c.tc : Thread Cert.DuQkvRefIdeal.nD Cert.DuQkvRefIdeal.τ).loc Cert.DuQkvRefIdeal.main_arg1)
      ∧ r.2.mem ((c.tc : Thread Cert.DuQkvRefIdeal.nD Cert.DuQkvRefIdeal.τ).loc Cert.DuQkvRefIdeal.main_arg2) = m ((c.tc : Thread Cert.DuQkvRefIdeal.nD Cert.DuQkvRefIdeal.τ).loc Cert.DuQkvRefIdeal.main_arg2))
      ∧ r.2.sem = fun _ => 0)

def quiescent_DwZ [hDwZ : Cert.DwZ.Facts] : Prop :=
  ∀ (m : (ℓ : Loc Cert.DwZ.nD Cert.DwZ.τ Cert.DwZ.sig) → Buf (Elt Bits) ℓ) (g : Dev Cert.DwZ.nD → PrngReg), Pre_DwZ m →
    θ_run (Cert.DwZ.defs (F := Bits)) (onTc (τ := Cert.DwZ.τ) (Cert.DwZ.main (F := Bits))) ⟨m, fun _ => 0, g⟩ (fun r => (∀ c : Dev Cert.DwZ.nD,
      r.2.mem ((c.tc : Thread Cert.DwZ.nD Cert.DwZ.τ).loc Cert.DwZ.main_arg0) = m ((c.tc : Thread Cert.DwZ.nD Cert.DwZ.τ).loc Cert.DwZ.main_arg0)
      ∧ r.2.mem ((c.tc : Thread Cert.DwZ.nD Cert.DwZ.τ).loc Cert.DwZ.main_arg1) = m ((c.tc : Thread Cert.DwZ.nD Cert.DwZ.τ).loc Cert.DwZ.main_arg1))
      ∧ r.2.sem = fun _ => 0)

def quiescent_DwZIdeal [hDwZIdeal : Cert.DwZIdeal.Facts] : Prop :=
  ∀ (m : (ℓ : Loc Cert.DwZIdeal.nD Cert.DwZIdeal.τ Cert.DwZIdeal.sig) → Buf (Elt Ideal) ℓ) (g : Dev Cert.DwZIdeal.nD → PrngReg), Pre_DwZIdeal m →
    θ_run (Cert.DwZIdeal.defs (F := Ideal)) (onTc (τ := Cert.DwZIdeal.τ) (Cert.DwZIdeal.main (F := Ideal))) ⟨m, fun _ => 0, g⟩ (fun r => (∀ c : Dev Cert.DwZIdeal.nD,
      r.2.mem ((c.tc : Thread Cert.DwZIdeal.nD Cert.DwZIdeal.τ).loc Cert.DwZIdeal.main_arg0) = m ((c.tc : Thread Cert.DwZIdeal.nD Cert.DwZIdeal.τ).loc Cert.DwZIdeal.main_arg0)
      ∧ r.2.mem ((c.tc : Thread Cert.DwZIdeal.nD Cert.DwZIdeal.τ).loc Cert.DwZIdeal.main_arg1) = m ((c.tc : Thread Cert.DwZIdeal.nD Cert.DwZIdeal.τ).loc Cert.DwZIdeal.main_arg1))
      ∧ r.2.sem = fun _ => 0)

def quiescent_DwZRefIdeal [hDwZRefIdeal : Cert.DwZRefIdeal.Facts] : Prop :=
  ∀ (m : (ℓ : Loc Cert.DwZRefIdeal.nD Cert.DwZRefIdeal.τ Cert.DwZRefIdeal.sig) → Buf (Elt Ideal) ℓ) (g : Dev Cert.DwZRefIdeal.nD → PrngReg), Pre_DwZRefIdeal m →
    θ_run (Cert.DwZRefIdeal.defs (F := Ideal)) (onTc (τ := Cert.DwZRefIdeal.τ) (Cert.DwZRefIdeal.main (F := Ideal))) ⟨m, fun _ => 0, g⟩ (fun r => (∀ c : Dev Cert.DwZRefIdeal.nD,
      r.2.mem ((c.tc : Thread Cert.DwZRefIdeal.nD Cert.DwZRefIdeal.τ).loc Cert.DwZRefIdeal.main_arg0) = m ((c.tc : Thread Cert.DwZRefIdeal.nD Cert.DwZRefIdeal.τ).loc Cert.DwZRefIdeal.main_arg0)
      ∧ r.2.mem ((c.tc : Thread Cert.DwZRefIdeal.nD Cert.DwZRefIdeal.τ).loc Cert.DwZRefIdeal.main_arg1) = m ((c.tc : Thread Cert.DwZRefIdeal.nD Cert.DwZRefIdeal.τ).loc Cert.DwZRefIdeal.main_arg1))
      ∧ r.2.sem = fun _ => 0)

def quiescent_DwX [hDwX : Cert.DwX.Facts] : Prop :=
  ∀ (m : (ℓ : Loc Cert.DwX.nD Cert.DwX.τ Cert.DwX.sig) → Buf (Elt Bits) ℓ) (g : Dev Cert.DwX.nD → PrngReg), Pre_DwX m →
    θ_run (Cert.DwX.defs (F := Bits)) (onTc (τ := Cert.DwX.τ) (Cert.DwX.main (F := Bits))) ⟨m, fun _ => 0, g⟩ (fun r => (∀ c : Dev Cert.DwX.nD,
      r.2.mem ((c.tc : Thread Cert.DwX.nD Cert.DwX.τ).loc Cert.DwX.main_arg0) = m ((c.tc : Thread Cert.DwX.nD Cert.DwX.τ).loc Cert.DwX.main_arg0)
      ∧ r.2.mem ((c.tc : Thread Cert.DwX.nD Cert.DwX.τ).loc Cert.DwX.main_arg1) = m ((c.tc : Thread Cert.DwX.nD Cert.DwX.τ).loc Cert.DwX.main_arg1))
      ∧ r.2.sem = fun _ => 0)

def quiescent_DwXIdeal [hDwXIdeal : Cert.DwXIdeal.Facts] : Prop :=
  ∀ (m : (ℓ : Loc Cert.DwXIdeal.nD Cert.DwXIdeal.τ Cert.DwXIdeal.sig) → Buf (Elt Ideal) ℓ) (g : Dev Cert.DwXIdeal.nD → PrngReg), Pre_DwXIdeal m →
    θ_run (Cert.DwXIdeal.defs (F := Ideal)) (onTc (τ := Cert.DwXIdeal.τ) (Cert.DwXIdeal.main (F := Ideal))) ⟨m, fun _ => 0, g⟩ (fun r => (∀ c : Dev Cert.DwXIdeal.nD,
      r.2.mem ((c.tc : Thread Cert.DwXIdeal.nD Cert.DwXIdeal.τ).loc Cert.DwXIdeal.main_arg0) = m ((c.tc : Thread Cert.DwXIdeal.nD Cert.DwXIdeal.τ).loc Cert.DwXIdeal.main_arg0)
      ∧ r.2.mem ((c.tc : Thread Cert.DwXIdeal.nD Cert.DwXIdeal.τ).loc Cert.DwXIdeal.main_arg1) = m ((c.tc : Thread Cert.DwXIdeal.nD Cert.DwXIdeal.τ).loc Cert.DwXIdeal.main_arg1))
      ∧ r.2.sem = fun _ => 0)

def quiescent_DwXRefIdeal [hDwXRefIdeal : Cert.DwXRefIdeal.Facts] : Prop :=
  ∀ (m : (ℓ : Loc Cert.DwXRefIdeal.nD Cert.DwXRefIdeal.τ Cert.DwXRefIdeal.sig) → Buf (Elt Ideal) ℓ) (g : Dev Cert.DwXRefIdeal.nD → PrngReg), Pre_DwXRefIdeal m →
    θ_run (Cert.DwXRefIdeal.defs (F := Ideal)) (onTc (τ := Cert.DwXRefIdeal.τ) (Cert.DwXRefIdeal.main (F := Ideal))) ⟨m, fun _ => 0, g⟩ (fun r => (∀ c : Dev Cert.DwXRefIdeal.nD,
      r.2.mem ((c.tc : Thread Cert.DwXRefIdeal.nD Cert.DwXRefIdeal.τ).loc Cert.DwXRefIdeal.main_arg0) = m ((c.tc : Thread Cert.DwXRefIdeal.nD Cert.DwXRefIdeal.τ).loc Cert.DwXRefIdeal.main_arg0)
      ∧ r.2.mem ((c.tc : Thread Cert.DwXRefIdeal.nD Cert.DwXRefIdeal.τ).loc Cert.DwXRefIdeal.main_arg1) = m ((c.tc : Thread Cert.DwXRefIdeal.nD Cert.DwXRefIdeal.τ).loc Cert.DwXRefIdeal.main_arg1))
      ∧ r.2.sem = fun _ => 0)

def quiescent_DwDt [hDwDt : Cert.DwDt.Facts] : Prop :=
  ∀ (m : (ℓ : Loc Cert.DwDt.nD Cert.DwDt.τ Cert.DwDt.sig) → Buf (Elt Bits) ℓ) (g : Dev Cert.DwDt.nD → PrngReg), Pre_DwDt m →
    θ_run (Cert.DwDt.defs (F := Bits)) (onTc (τ := Cert.DwDt.τ) (Cert.DwDt.main (F := Bits))) ⟨m, fun _ => 0, g⟩ (fun r => (∀ c : Dev Cert.DwDt.nD,
      r.2.mem ((c.tc : Thread Cert.DwDt.nD Cert.DwDt.τ).loc Cert.DwDt.main_arg0) = m ((c.tc : Thread Cert.DwDt.nD Cert.DwDt.τ).loc Cert.DwDt.main_arg0)
      ∧ r.2.mem ((c.tc : Thread Cert.DwDt.nD Cert.DwDt.τ).loc Cert.DwDt.main_arg1) = m ((c.tc : Thread Cert.DwDt.nD Cert.DwDt.τ).loc Cert.DwDt.main_arg1))
      ∧ r.2.sem = fun _ => 0)

def quiescent_DwDtIdeal [hDwDtIdeal : Cert.DwDtIdeal.Facts] : Prop :=
  ∀ (m : (ℓ : Loc Cert.DwDtIdeal.nD Cert.DwDtIdeal.τ Cert.DwDtIdeal.sig) → Buf (Elt Ideal) ℓ) (g : Dev Cert.DwDtIdeal.nD → PrngReg), Pre_DwDtIdeal m →
    θ_run (Cert.DwDtIdeal.defs (F := Ideal)) (onTc (τ := Cert.DwDtIdeal.τ) (Cert.DwDtIdeal.main (F := Ideal))) ⟨m, fun _ => 0, g⟩ (fun r => (∀ c : Dev Cert.DwDtIdeal.nD,
      r.2.mem ((c.tc : Thread Cert.DwDtIdeal.nD Cert.DwDtIdeal.τ).loc Cert.DwDtIdeal.main_arg0) = m ((c.tc : Thread Cert.DwDtIdeal.nD Cert.DwDtIdeal.τ).loc Cert.DwDtIdeal.main_arg0)
      ∧ r.2.mem ((c.tc : Thread Cert.DwDtIdeal.nD Cert.DwDtIdeal.τ).loc Cert.DwDtIdeal.main_arg1) = m ((c.tc : Thread Cert.DwDtIdeal.nD Cert.DwDtIdeal.τ).loc Cert.DwDtIdeal.main_arg1))
      ∧ r.2.sem = fun _ => 0)

def quiescent_DwDtRefIdeal [hDwDtRefIdeal : Cert.DwDtRefIdeal.Facts] : Prop :=
  ∀ (m : (ℓ : Loc Cert.DwDtRefIdeal.nD Cert.DwDtRefIdeal.τ Cert.DwDtRefIdeal.sig) → Buf (Elt Ideal) ℓ) (g : Dev Cert.DwDtRefIdeal.nD → PrngReg), Pre_DwDtRefIdeal m →
    θ_run (Cert.DwDtRefIdeal.defs (F := Ideal)) (onTc (τ := Cert.DwDtRefIdeal.τ) (Cert.DwDtRefIdeal.main (F := Ideal))) ⟨m, fun _ => 0, g⟩ (fun r => (∀ c : Dev Cert.DwDtRefIdeal.nD,
      r.2.mem ((c.tc : Thread Cert.DwDtRefIdeal.nD Cert.DwDtRefIdeal.τ).loc Cert.DwDtRefIdeal.main_arg0) = m ((c.tc : Thread Cert.DwDtRefIdeal.nD Cert.DwDtRefIdeal.τ).loc Cert.DwDtRefIdeal.main_arg0)
      ∧ r.2.mem ((c.tc : Thread Cert.DwDtRefIdeal.nD Cert.DwDtRefIdeal.τ).loc Cert.DwDtRefIdeal.main_arg1) = m ((c.tc : Thread Cert.DwDtRefIdeal.nD Cert.DwDtRefIdeal.τ).loc Cert.DwDtRefIdeal.main_arg1))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1))
      ∧ r.2.sem = fun _ => 0)

def quiescent_DwQkvRefIdeal [hDwQkvRefIdeal : Cert.DwQkvRefIdeal.Facts] : Prop :=
  ∀ (m : (ℓ : Loc Cert.DwQkvRefIdeal.nD Cert.DwQkvRefIdeal.τ Cert.DwQkvRefIdeal.sig) → Buf (Elt Ideal) ℓ) (g : Dev Cert.DwQkvRefIdeal.nD → PrngReg), Pre_DwQkvRefIdeal m →
    θ_run (Cert.DwQkvRefIdeal.defs (F := Ideal)) (onTc (τ := Cert.DwQkvRefIdeal.τ) (Cert.DwQkvRefIdeal.main (F := Ideal))) ⟨m, fun _ => 0, g⟩ (fun r => (∀ c : Dev Cert.DwQkvRefIdeal.nD,
      r.2.mem ((c.tc : Thread Cert.DwQkvRefIdeal.nD Cert.DwQkvRefIdeal.τ).loc Cert.DwQkvRefIdeal.main_arg0) = m ((c.tc : Thread Cert.DwQkvRefIdeal.nD Cert.DwQkvRefIdeal.τ).loc Cert.DwQkvRefIdeal.main_arg0)
      ∧ r.2.mem ((c.tc : Thread Cert.DwQkvRefIdeal.nD Cert.DwQkvRefIdeal.τ).loc Cert.DwQkvRefIdeal.main_arg1) = m ((c.tc : Thread Cert.DwQkvRefIdeal.nD Cert.DwQkvRefIdeal.τ).loc Cert.DwQkvRefIdeal.main_arg1))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1))
      ∧ r.2.sem = fun _ => 0)

def quiescent_ProjZ [hProjZ : Cert.ProjZ.Facts] : Prop :=
  ∀ (m : (ℓ : Loc Cert.ProjZ.nD Cert.ProjZ.τ Cert.ProjZ.sig) → Buf (Elt Bits) ℓ) (g : Dev Cert.ProjZ.nD → PrngReg), Pre_ProjZ m →
    θ_run (Cert.ProjZ.defs (F := Bits)) (onTc (τ := Cert.ProjZ.τ) (Cert.ProjZ.main (F := Bits))) ⟨m, fun _ => 0, g⟩ (fun r => (∀ c : Dev Cert.ProjZ.nD,
      r.2.mem ((c.tc : Thread Cert.ProjZ.nD Cert.ProjZ.τ).loc Cert.ProjZ.main_arg0) = m ((c.tc : Thread Cert.ProjZ.nD Cert.ProjZ.τ).loc Cert.ProjZ.main_arg0)
      ∧ r.2.mem ((c.tc : Thread Cert.ProjZ.nD Cert.ProjZ.τ).loc Cert.ProjZ.main_arg1) = m ((c.tc : Thread Cert.ProjZ.nD Cert.ProjZ.τ).loc Cert.ProjZ.main_arg1))
      ∧ r.2.sem = fun _ => 0)

def quiescent_ProjZIdeal [hProjZIdeal : Cert.ProjZIdeal.Facts] : Prop :=
  ∀ (m : (ℓ : Loc Cert.ProjZIdeal.nD Cert.ProjZIdeal.τ Cert.ProjZIdeal.sig) → Buf (Elt Ideal) ℓ) (g : Dev Cert.ProjZIdeal.nD → PrngReg), Pre_ProjZIdeal m →
    θ_run (Cert.ProjZIdeal.defs (F := Ideal)) (onTc (τ := Cert.ProjZIdeal.τ) (Cert.ProjZIdeal.main (F := Ideal))) ⟨m, fun _ => 0, g⟩ (fun r => (∀ c : Dev Cert.ProjZIdeal.nD,
      r.2.mem ((c.tc : Thread Cert.ProjZIdeal.nD Cert.ProjZIdeal.τ).loc Cert.ProjZIdeal.main_arg0) = m ((c.tc : Thread Cert.ProjZIdeal.nD Cert.ProjZIdeal.τ).loc Cert.ProjZIdeal.main_arg0)
      ∧ r.2.mem ((c.tc : Thread Cert.ProjZIdeal.nD Cert.ProjZIdeal.τ).loc Cert.ProjZIdeal.main_arg1) = m ((c.tc : Thread Cert.ProjZIdeal.nD Cert.ProjZIdeal.τ).loc Cert.ProjZIdeal.main_arg1))
      ∧ r.2.sem = fun _ => 0)

def quiescent_ProjZRefIdeal [hProjZRefIdeal : Cert.ProjZRefIdeal.Facts] : Prop :=
  ∀ (m : (ℓ : Loc Cert.ProjZRefIdeal.nD Cert.ProjZRefIdeal.τ Cert.ProjZRefIdeal.sig) → Buf (Elt Ideal) ℓ) (g : Dev Cert.ProjZRefIdeal.nD → PrngReg), Pre_ProjZRefIdeal m →
    θ_run (Cert.ProjZRefIdeal.defs (F := Ideal)) (onTc (τ := Cert.ProjZRefIdeal.τ) (Cert.ProjZRefIdeal.main (F := Ideal))) ⟨m, fun _ => 0, g⟩ (fun r => (∀ c : Dev Cert.ProjZRefIdeal.nD,
      r.2.mem ((c.tc : Thread Cert.ProjZRefIdeal.nD Cert.ProjZRefIdeal.τ).loc Cert.ProjZRefIdeal.main_arg0) = m ((c.tc : Thread Cert.ProjZRefIdeal.nD Cert.ProjZRefIdeal.τ).loc Cert.ProjZRefIdeal.main_arg0)
      ∧ r.2.mem ((c.tc : Thread Cert.ProjZRefIdeal.nD Cert.ProjZRefIdeal.τ).loc Cert.ProjZRefIdeal.main_arg1) = m ((c.tc : Thread Cert.ProjZRefIdeal.nD Cert.ProjZRefIdeal.τ).loc Cert.ProjZRefIdeal.main_arg1))
      ∧ r.2.sem = fun _ => 0)

def quiescent_ProjX [hProjX : Cert.ProjX.Facts] : Prop :=
  ∀ (m : (ℓ : Loc Cert.ProjX.nD Cert.ProjX.τ Cert.ProjX.sig) → Buf (Elt Bits) ℓ) (g : Dev Cert.ProjX.nD → PrngReg), Pre_ProjX m →
    θ_run (Cert.ProjX.defs (F := Bits)) (onTc (τ := Cert.ProjX.τ) (Cert.ProjX.main (F := Bits))) ⟨m, fun _ => 0, g⟩ (fun r => (∀ c : Dev Cert.ProjX.nD,
      r.2.mem ((c.tc : Thread Cert.ProjX.nD Cert.ProjX.τ).loc Cert.ProjX.main_arg0) = m ((c.tc : Thread Cert.ProjX.nD Cert.ProjX.τ).loc Cert.ProjX.main_arg0)
      ∧ r.2.mem ((c.tc : Thread Cert.ProjX.nD Cert.ProjX.τ).loc Cert.ProjX.main_arg1) = m ((c.tc : Thread Cert.ProjX.nD Cert.ProjX.τ).loc Cert.ProjX.main_arg1))
      ∧ r.2.sem = fun _ => 0)

def quiescent_ProjXIdeal [hProjXIdeal : Cert.ProjXIdeal.Facts] : Prop :=
  ∀ (m : (ℓ : Loc Cert.ProjXIdeal.nD Cert.ProjXIdeal.τ Cert.ProjXIdeal.sig) → Buf (Elt Ideal) ℓ) (g : Dev Cert.ProjXIdeal.nD → PrngReg), Pre_ProjXIdeal m →
    θ_run (Cert.ProjXIdeal.defs (F := Ideal)) (onTc (τ := Cert.ProjXIdeal.τ) (Cert.ProjXIdeal.main (F := Ideal))) ⟨m, fun _ => 0, g⟩ (fun r => (∀ c : Dev Cert.ProjXIdeal.nD,
      r.2.mem ((c.tc : Thread Cert.ProjXIdeal.nD Cert.ProjXIdeal.τ).loc Cert.ProjXIdeal.main_arg0) = m ((c.tc : Thread Cert.ProjXIdeal.nD Cert.ProjXIdeal.τ).loc Cert.ProjXIdeal.main_arg0)
      ∧ r.2.mem ((c.tc : Thread Cert.ProjXIdeal.nD Cert.ProjXIdeal.τ).loc Cert.ProjXIdeal.main_arg1) = m ((c.tc : Thread Cert.ProjXIdeal.nD Cert.ProjXIdeal.τ).loc Cert.ProjXIdeal.main_arg1))
      ∧ r.2.sem = fun _ => 0)

def quiescent_ProjXRefIdeal [hProjXRefIdeal : Cert.ProjXRefIdeal.Facts] : Prop :=
  ∀ (m : (ℓ : Loc Cert.ProjXRefIdeal.nD Cert.ProjXRefIdeal.τ Cert.ProjXRefIdeal.sig) → Buf (Elt Ideal) ℓ) (g : Dev Cert.ProjXRefIdeal.nD → PrngReg), Pre_ProjXRefIdeal m →
    θ_run (Cert.ProjXRefIdeal.defs (F := Ideal)) (onTc (τ := Cert.ProjXRefIdeal.τ) (Cert.ProjXRefIdeal.main (F := Ideal))) ⟨m, fun _ => 0, g⟩ (fun r => (∀ c : Dev Cert.ProjXRefIdeal.nD,
      r.2.mem ((c.tc : Thread Cert.ProjXRefIdeal.nD Cert.ProjXRefIdeal.τ).loc Cert.ProjXRefIdeal.main_arg0) = m ((c.tc : Thread Cert.ProjXRefIdeal.nD Cert.ProjXRefIdeal.τ).loc Cert.ProjXRefIdeal.main_arg0)
      ∧ r.2.mem ((c.tc : Thread Cert.ProjXRefIdeal.nD Cert.ProjXRefIdeal.τ).loc Cert.ProjXRefIdeal.main_arg1) = m ((c.tc : Thread Cert.ProjXRefIdeal.nD Cert.ProjXRefIdeal.τ).loc Cert.ProjXRefIdeal.main_arg1))
      ∧ r.2.sem = fun _ => 0)

def quiescent_ProjDt [hProjDt : Cert.ProjDt.Facts] : Prop :=
  ∀ (m : (ℓ : Loc Cert.ProjDt.nD Cert.ProjDt.τ Cert.ProjDt.sig) → Buf (Elt Bits) ℓ) (g : Dev Cert.ProjDt.nD → PrngReg), Pre_ProjDt m →
    θ_run (Cert.ProjDt.defs (F := Bits)) (onTc (τ := Cert.ProjDt.τ) (Cert.ProjDt.main (F := Bits))) ⟨m, fun _ => 0, g⟩ (fun r => (∀ c : Dev Cert.ProjDt.nD,
      r.2.mem ((c.tc : Thread Cert.ProjDt.nD Cert.ProjDt.τ).loc Cert.ProjDt.main_arg0) = m ((c.tc : Thread Cert.ProjDt.nD Cert.ProjDt.τ).loc Cert.ProjDt.main_arg0)
      ∧ r.2.mem ((c.tc : Thread Cert.ProjDt.nD Cert.ProjDt.τ).loc Cert.ProjDt.main_arg1) = m ((c.tc : Thread Cert.ProjDt.nD Cert.ProjDt.τ).loc Cert.ProjDt.main_arg1))
      ∧ r.2.sem = fun _ => 0)

def quiescent_ProjDtIdeal [hProjDtIdeal : Cert.ProjDtIdeal.Facts] : Prop :=
  ∀ (m : (ℓ : Loc Cert.ProjDtIdeal.nD Cert.ProjDtIdeal.τ Cert.ProjDtIdeal.sig) → Buf (Elt Ideal) ℓ) (g : Dev Cert.ProjDtIdeal.nD → PrngReg), Pre_ProjDtIdeal m →
    θ_run (Cert.ProjDtIdeal.defs (F := Ideal)) (onTc (τ := Cert.ProjDtIdeal.τ) (Cert.ProjDtIdeal.main (F := Ideal))) ⟨m, fun _ => 0, g⟩ (fun r => (∀ c : Dev Cert.ProjDtIdeal.nD,
      r.2.mem ((c.tc : Thread Cert.ProjDtIdeal.nD Cert.ProjDtIdeal.τ).loc Cert.ProjDtIdeal.main_arg0) = m ((c.tc : Thread Cert.ProjDtIdeal.nD Cert.ProjDtIdeal.τ).loc Cert.ProjDtIdeal.main_arg0)
      ∧ r.2.mem ((c.tc : Thread Cert.ProjDtIdeal.nD Cert.ProjDtIdeal.τ).loc Cert.ProjDtIdeal.main_arg1) = m ((c.tc : Thread Cert.ProjDtIdeal.nD Cert.ProjDtIdeal.τ).loc Cert.ProjDtIdeal.main_arg1))
      ∧ r.2.sem = fun _ => 0)

def quiescent_ProjDtRefIdeal [hProjDtRefIdeal : Cert.ProjDtRefIdeal.Facts] : Prop :=
  ∀ (m : (ℓ : Loc Cert.ProjDtRefIdeal.nD Cert.ProjDtRefIdeal.τ Cert.ProjDtRefIdeal.sig) → Buf (Elt Ideal) ℓ) (g : Dev Cert.ProjDtRefIdeal.nD → PrngReg), Pre_ProjDtRefIdeal m →
    θ_run (Cert.ProjDtRefIdeal.defs (F := Ideal)) (onTc (τ := Cert.ProjDtRefIdeal.τ) (Cert.ProjDtRefIdeal.main (F := Ideal))) ⟨m, fun _ => 0, g⟩ (fun r => (∀ c : Dev Cert.ProjDtRefIdeal.nD,
      r.2.mem ((c.tc : Thread Cert.ProjDtRefIdeal.nD Cert.ProjDtRefIdeal.τ).loc Cert.ProjDtRefIdeal.main_arg0) = m ((c.tc : Thread Cert.ProjDtRefIdeal.nD Cert.ProjDtRefIdeal.τ).loc Cert.ProjDtRefIdeal.main_arg0)
      ∧ r.2.mem ((c.tc : Thread Cert.ProjDtRefIdeal.nD Cert.ProjDtRefIdeal.τ).loc Cert.ProjDtRefIdeal.main_arg1) = m ((c.tc : Thread Cert.ProjDtRefIdeal.nD Cert.ProjDtRefIdeal.τ).loc Cert.ProjDtRefIdeal.main_arg1))
      ∧ r.2.sem = fun _ => 0)

def quiescent_ProjQkv [hProjQkv : Cert.ProjQkv.Facts] : Prop :=
  ∀ (m : (ℓ : Loc Cert.ProjQkv.nD Cert.ProjQkv.τ Cert.ProjQkv.sig) → Buf (Elt Bits) ℓ) (g : Dev Cert.ProjQkv.nD → PrngReg), Pre_ProjQkv m →
    θ_run (Cert.ProjQkv.defs (F := Bits)) (onTc (τ := Cert.ProjQkv.τ) (Cert.ProjQkv.main (F := Bits))) ⟨m, fun _ => 0, g⟩ (fun r => (∀ c : Dev Cert.ProjQkv.nD,
      r.2.mem ((c.tc : Thread Cert.ProjQkv.nD Cert.ProjQkv.τ).loc Cert.ProjQkv.main_arg0) = m ((c.tc : Thread Cert.ProjQkv.nD Cert.ProjQkv.τ).loc Cert.ProjQkv.main_arg0)
      ∧ r.2.mem ((c.tc : Thread Cert.ProjQkv.nD Cert.ProjQkv.τ).loc Cert.ProjQkv.main_arg1) = m ((c.tc : Thread Cert.ProjQkv.nD Cert.ProjQkv.τ).loc Cert.ProjQkv.main_arg1))
      ∧ r.2.sem = fun _ => 0)

def quiescent_ProjQkvIdeal [hProjQkvIdeal : Cert.ProjQkvIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg), Pre_ProjQkvIdeal m →
    θ_run (Cert.ProjQkvIdeal.defs (F := Ideal)) (onTc (τ := Cert.ProjQkvIdeal.τ) (Cert.ProjQkvIdeal.main (F := Ideal))) ⟨m, fun _ => 0, g⟩ (fun r => (∀ c : Dev Cert.ProjQkvIdeal.nD,
      r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
      ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ r.2.sem = fun _ => 0)

def quiescent_ProjQkvRefIdeal [hProjQkvRefIdeal : Cert.ProjQkvRefIdeal.Facts] : Prop :=
  ∀ (m : (ℓ : Loc Cert.ProjQkvRefIdeal.nD Cert.ProjQkvRefIdeal.τ Cert.ProjQkvRefIdeal.sig) → Buf (Elt Ideal) ℓ) (g : Dev Cert.ProjQkvRefIdeal.nD → PrngReg), Pre_ProjQkvRefIdeal m →
    θ_run (Cert.ProjQkvRefIdeal.defs (F := Ideal)) (onTc (τ := Cert.ProjQkvRefIdeal.τ) (Cert.ProjQkvRefIdeal.main (F := Ideal))) ⟨m, fun _ => 0, g⟩ (fun r => (∀ c : Dev Cert.ProjQkvRefIdeal.nD,
      r.2.mem ((c.tc : Thread Cert.ProjQkvRefIdeal.nD Cert.ProjQkvRefIdeal.τ).loc Cert.ProjQkvRefIdeal.main_arg0) = m ((c.tc : Thread Cert.ProjQkvRefIdeal.nD Cert.ProjQkvRefIdeal.τ).loc Cert.ProjQkvRefIdeal.main_arg0)
      ∧ r.2.mem ((c.tc : Thread Cert.ProjQkvRefIdeal.nD Cert.ProjQkvRefIdeal.τ).loc Cert.ProjQkvRefIdeal.main_arg1) = m ((c.tc : Thread Cert.ProjQkvRefIdeal.nD Cert.ProjQkvRefIdeal.τ).loc Cert.ProjQkvRefIdeal.main_arg1))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1))
      ∧ r.2.sem = fun _ => 0)

def quiescent_SsdOutRefIdeal [hSsdOutRefIdeal : Cert.SsdOutRefIdeal.Facts] : Prop :=
  ∀ (m : (ℓ : Loc Cert.SsdOutRefIdeal.nD Cert.SsdOutRefIdeal.τ Cert.SsdOutRefIdeal.sig) → Buf (Elt Ideal) ℓ) (g : Dev Cert.SsdOutRefIdeal.nD → PrngReg), Pre_SsdOutRefIdeal m →
    θ_run (Cert.SsdOutRefIdeal.defs (F := Ideal)) (onTc (τ := Cert.SsdOutRefIdeal.τ) (Cert.SsdOutRefIdeal.main (F := Ideal))) ⟨m, fun _ => 0, g⟩ (fun r => (∀ c : Dev Cert.SsdOutRefIdeal.nD,
      r.2.mem ((c.tc : Thread Cert.SsdOutRefIdeal.nD Cert.SsdOutRefIdeal.τ).loc Cert.SsdOutRefIdeal.main_arg0) = m ((c.tc : Thread Cert.SsdOutRefIdeal.nD Cert.SsdOutRefIdeal.τ).loc Cert.SsdOutRefIdeal.main_arg0)
      ∧ r.2.mem ((c.tc : Thread Cert.SsdOutRefIdeal.nD Cert.SsdOutRefIdeal.τ).loc Cert.SsdOutRefIdeal.main_arg1) = m ((c.tc : Thread Cert.SsdOutRefIdeal.nD Cert.SsdOutRefIdeal.τ).loc Cert.SsdOutRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2))
      ∧ r.2.sem = fun _ => 0)

def quiescent_Xkv [hXkv : Cert.Xkv.Facts] : Prop :=
  ∀ (m : (ℓ : Loc Cert.Xkv.nD Cert.Xkv.τ Cert.Xkv.sig) → Buf (Elt Bits) ℓ) (g : Dev Cert.Xkv.nD → PrngReg), Pre_Xkv m →
    θ_run (Cert.Xkv.defs (F := Bits)) (onTc (τ := Cert.Xkv.τ) (Cert.Xkv.main (F := Bits))) ⟨m, fun _ => 0, g⟩ (fun r => (∀ c : Dev Cert.Xkv.nD,
      r.2.mem ((c.tc : Thread Cert.Xkv.nD Cert.Xkv.τ).loc Cert.Xkv.main_arg0) = m ((c.tc : Thread Cert.Xkv.nD Cert.Xkv.τ).loc Cert.Xkv.main_arg0)
      ∧ r.2.mem ((c.tc : Thread Cert.Xkv.nD Cert.Xkv.τ).loc Cert.Xkv.main_arg1) = m ((c.tc : Thread Cert.Xkv.nD Cert.Xkv.τ).loc Cert.Xkv.main_arg1))
      ∧ r.2.sem = fun _ => 0)

def quiescent_XkvIdeal [hXkvIdeal : Cert.XkvIdeal.Facts] : Prop :=
  ∀ (m : (ℓ : Loc Cert.XkvIdeal.nD Cert.XkvIdeal.τ Cert.XkvIdeal.sig) → Buf (Elt Ideal) ℓ) (g : Dev Cert.XkvIdeal.nD → PrngReg), Pre_XkvIdeal m →
    θ_run (Cert.XkvIdeal.defs (F := Ideal)) (onTc (τ := Cert.XkvIdeal.τ) (Cert.XkvIdeal.main (F := Ideal))) ⟨m, fun _ => 0, g⟩ (fun r => (∀ c : Dev Cert.XkvIdeal.nD,
      r.2.mem ((c.tc : Thread Cert.XkvIdeal.nD Cert.XkvIdeal.τ).loc Cert.XkvIdeal.main_arg0) = m ((c.tc : Thread Cert.XkvIdeal.nD Cert.XkvIdeal.τ).loc Cert.XkvIdeal.main_arg0)
      ∧ r.2.mem ((c.tc : Thread Cert.XkvIdeal.nD Cert.XkvIdeal.τ).loc Cert.XkvIdeal.main_arg1) = m ((c.tc : Thread Cert.XkvIdeal.nD Cert.XkvIdeal.τ).loc Cert.XkvIdeal.main_arg1))
      ∧ r.2.sem = fun _ => 0)

def quiescent_XkvRefIdeal [hXkvRefIdeal : Cert.XkvRefIdeal.Facts] : Prop :=
  ∀ (m : (ℓ : Loc Cert.XkvRefIdeal.nD Cert.XkvRefIdeal.τ Cert.XkvRefIdeal.sig) → Buf (Elt Ideal) ℓ) (g : Dev Cert.XkvRefIdeal.nD → PrngReg), Pre_XkvRefIdeal m →
    θ_run (Cert.XkvRefIdeal.defs (F := Ideal)) (onTc (τ := Cert.XkvRefIdeal.τ) (Cert.XkvRefIdeal.main (F := Ideal))) ⟨m, fun _ => 0, g⟩ (fun r => (∀ c : Dev Cert.XkvRefIdeal.nD,
      r.2.mem ((c.tc : Thread Cert.XkvRefIdeal.nD Cert.XkvRefIdeal.τ).loc Cert.XkvRefIdeal.main_arg0) = m ((c.tc : Thread Cert.XkvRefIdeal.nD Cert.XkvRefIdeal.τ).loc Cert.XkvRefIdeal.main_arg0)
      ∧ r.2.mem ((c.tc : Thread Cert.XkvRefIdeal.nD Cert.XkvRefIdeal.τ).loc Cert.XkvRefIdeal.main_arg1) = m ((c.tc : Thread Cert.XkvRefIdeal.nD Cert.XkvRefIdeal.τ).loc Cert.XkvRefIdeal.main_arg1))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_DRms [hDRms : Cert.DRms.Facts] : Prop :=
  ∀ (m : (ℓ : Loc Cert.DRms.nD Cert.DRms.τ Cert.DRms.sig) → Buf (Elt Bits) ℓ) (g : Dev Cert.DRms.nD → PrngReg), Pre_DRms m →
    θ_run (Cert.DRms.defs (F := Bits)) (onTc (τ := Cert.DRms.τ) (Cert.DRms.main (F := Bits))) ⟨m, fun _ => 0, g⟩ (fun r => (∀ c : Dev Cert.DRms.nD,
      r.2.mem ((c.tc : Thread Cert.DRms.nD Cert.DRms.τ).loc Cert.DRms.main_arg0) = m ((c.tc : Thread Cert.DRms.nD Cert.DRms.τ).loc Cert.DRms.main_arg0)
      ∧ r.2.mem ((c.tc : Thread Cert.DRms.nD Cert.DRms.τ).loc Cert.DRms.main_arg1) = m ((c.tc : Thread Cert.DRms.nD Cert.DRms.τ).loc Cert.DRms.main_arg1)
      ∧ r.2.mem ((c.tc : Thread Cert.DRms.nD Cert.DRms.τ).loc Cert.DRms.main_arg2) = m ((c.tc : Thread Cert.DRms.nD Cert.DRms.τ).loc Cert.DRms.main_arg2)
      ∧ r.2.mem ((c.tc : Thread Cert.DRms.nD Cert.DRms.τ).loc Cert.DRms.main_arg3) = m ((c.tc : Thread Cert.DRms.nD Cert.DRms.τ).loc Cert.DRms.main_arg3))
      ∧ r.2.sem = fun _ => 0)

def quiescent_DRmsIdeal [hDRmsIdeal : Cert.DRmsIdeal.Facts] : Prop :=
  ∀ (m : (ℓ : Loc Cert.DRmsIdeal.nD Cert.DRmsIdeal.τ Cert.DRmsIdeal.sig) → Buf (Elt Ideal) ℓ) (g : Dev Cert.DRmsIdeal.nD → PrngReg), Pre_DRmsIdeal m →
    θ_run (Cert.DRmsIdeal.defs (F := Ideal)) (onTc (τ := Cert.DRmsIdeal.τ) (Cert.DRmsIdeal.main (F := Ideal))) ⟨m, fun _ => 0, g⟩ (fun r => (∀ c : Dev Cert.DRmsIdeal.nD,
      r.2.mem ((c.tc : Thread Cert.DRmsIdeal.nD Cert.DRmsIdeal.τ).loc Cert.DRmsIdeal.main_arg0) = m ((c.tc : Thread Cert.DRmsIdeal.nD Cert.DRmsIdeal.τ).loc Cert.DRmsIdeal.main_arg0)
      ∧ r.2.mem ((c.tc : Thread Cert.DRmsIdeal.nD Cert.DRmsIdeal.τ).loc Cert.DRmsIdeal.main_arg1) = m ((c.tc : Thread Cert.DRmsIdeal.nD Cert.DRmsIdeal.τ).loc Cert.DRmsIdeal.main_arg1)
      ∧ r.2.mem ((c.tc : Thread Cert.DRmsIdeal.nD Cert.DRmsIdeal.τ).loc Cert.DRmsIdeal.main_arg2) = m ((c.tc : Thread Cert.DRmsIdeal.nD Cert.DRmsIdeal.τ).loc Cert.DRmsIdeal.main_arg2)
      ∧ r.2.mem ((c.tc : Thread Cert.DRmsIdeal.nD Cert.DRmsIdeal.τ).loc Cert.DRmsIdeal.main_arg3) = m ((c.tc : Thread Cert.DRmsIdeal.nD Cert.DRmsIdeal.τ).loc Cert.DRmsIdeal.main_arg3))
      ∧ r.2.sem = fun _ => 0)

def quiescent_DRmsRefIdeal [hDRmsRefIdeal : Cert.DRmsRefIdeal.Facts] : Prop :=
  ∀ (m : (ℓ : Loc Cert.DRmsRefIdeal.nD Cert.DRmsRefIdeal.τ Cert.DRmsRefIdeal.sig) → Buf (Elt Ideal) ℓ) (g : Dev Cert.DRmsRefIdeal.nD → PrngReg), Pre_DRmsRefIdeal m →
    θ_run (Cert.DRmsRefIdeal.defs (F := Ideal)) (onTc (τ := Cert.DRmsRefIdeal.τ) (Cert.DRmsRefIdeal.main (F := Ideal))) ⟨m, fun _ => 0, g⟩ (fun r => (∀ c : Dev Cert.DRmsRefIdeal.nD,
      r.2.mem ((c.tc : Thread Cert.DRmsRefIdeal.nD Cert.DRmsRefIdeal.τ).loc Cert.DRmsRefIdeal.main_arg0) = m ((c.tc : Thread Cert.DRmsRefIdeal.nD Cert.DRmsRefIdeal.τ).loc Cert.DRmsRefIdeal.main_arg0)
      ∧ r.2.mem ((c.tc : Thread Cert.DRmsRefIdeal.nD Cert.DRmsRefIdeal.τ).loc Cert.DRmsRefIdeal.main_arg1) = m ((c.tc : Thread Cert.DRmsRefIdeal.nD Cert.DRmsRefIdeal.τ).loc Cert.DRmsRefIdeal.main_arg1)
      ∧ r.2.mem ((c.tc : Thread Cert.DRmsRefIdeal.nD Cert.DRmsRefIdeal.τ).loc Cert.DRmsRefIdeal.main_arg2) = m ((c.tc : Thread Cert.DRmsRefIdeal.nD Cert.DRmsRefIdeal.τ).loc Cert.DRmsRefIdeal.main_arg2)
      ∧ r.2.mem ((c.tc : Thread Cert.DRmsRefIdeal.nD Cert.DRmsRefIdeal.τ).loc Cert.DRmsRefIdeal.main_arg3) = m ((c.tc : Thread Cert.DRmsRefIdeal.nD Cert.DRmsRefIdeal.τ).loc Cert.DRmsRefIdeal.main_arg3))
      ∧ r.2.sem = fun _ => 0)

def quiescent_DRmsMem [hDRmsMem : Cert.DRmsMem.Facts] : Prop :=
  ∀ (m : (ℓ : Loc Cert.DRmsMem.nD Cert.DRmsMem.τ Cert.DRmsMem.sig) → Buf (Elt Bits) ℓ) (g : Dev Cert.DRmsMem.nD → PrngReg), Pre_DRmsMem m →
    θ_run (Cert.DRmsMem.defs (F := Bits)) (onTc (τ := Cert.DRmsMem.τ) (Cert.DRmsMem.main (F := Bits))) ⟨m, fun _ => 0, g⟩ (fun r => (∀ c : Dev Cert.DRmsMem.nD,
      r.2.mem ((c.tc : Thread Cert.DRmsMem.nD Cert.DRmsMem.τ).loc Cert.DRmsMem.main_arg0) = m ((c.tc : Thread Cert.DRmsMem.nD Cert.DRmsMem.τ).loc Cert.DRmsMem.main_arg0)
      ∧ r.2.mem ((c.tc : Thread Cert.DRmsMem.nD Cert.DRmsMem.τ).loc Cert.DRmsMem.main_arg1) = m ((c.tc : Thread Cert.DRmsMem.nD Cert.DRmsMem.τ).loc Cert.DRmsMem.main_arg1)
      ∧ r.2.mem ((c.tc : Thread Cert.DRmsMem.nD Cert.DRmsMem.τ).loc Cert.DRmsMem.main_arg2) = m ((c.tc : Thread Cert.DRmsMem.nD Cert.DRmsMem.τ).loc Cert.DRmsMem.main_arg2))
      ∧ r.2.sem = fun _ => 0)

def quiescent_DRmsMemIdeal [hDRmsMemIdeal : Cert.DRmsMemIdeal.Facts] : Prop :=
  ∀ (m : (ℓ : Loc Cert.DRmsMemIdeal.nD Cert.DRmsMemIdeal.τ Cert.DRmsMemIdeal.sig) → Buf (Elt Ideal) ℓ) (g : Dev Cert.DRmsMemIdeal.nD → PrngReg), Pre_DRmsMemIdeal m →
    θ_run (Cert.DRmsMemIdeal.defs (F := Ideal)) (onTc (τ := Cert.DRmsMemIdeal.τ) (Cert.DRmsMemIdeal.main (F := Ideal))) ⟨m, fun _ => 0, g⟩ (fun r => (∀ c : Dev Cert.DRmsMemIdeal.nD,
      r.2.mem ((c.tc : Thread Cert.DRmsMemIdeal.nD Cert.DRmsMemIdeal.τ).loc Cert.DRmsMemIdeal.main_arg0) = m ((c.tc : Thread Cert.DRmsMemIdeal.nD Cert.DRmsMemIdeal.τ).loc Cert.DRmsMemIdeal.main_arg0)
      ∧ r.2.mem ((c.tc : Thread Cert.DRmsMemIdeal.nD Cert.DRmsMemIdeal.τ).loc Cert.DRmsMemIdeal.main_arg1) = m ((c.tc : Thread Cert.DRmsMemIdeal.nD Cert.DRmsMemIdeal.τ).loc Cert.DRmsMemIdeal.main_arg1)
      ∧ r.2.mem ((c.tc : Thread Cert.DRmsMemIdeal.nD Cert.DRmsMemIdeal.τ).loc Cert.DRmsMemIdeal.main_arg2) = m ((c.tc : Thread Cert.DRmsMemIdeal.nD Cert.DRmsMemIdeal.τ).loc Cert.DRmsMemIdeal.main_arg2))
      ∧ r.2.sem = fun _ => 0)

def quiescent_DRmsMemRefIdeal [hDRmsMemRefIdeal : Cert.DRmsMemRefIdeal.Facts] : Prop :=
  ∀ (m : (ℓ : Loc Cert.DRmsMemRefIdeal.nD Cert.DRmsMemRefIdeal.τ Cert.DRmsMemRefIdeal.sig) → Buf (Elt Ideal) ℓ) (g : Dev Cert.DRmsMemRefIdeal.nD → PrngReg), Pre_DRmsMemRefIdeal m →
    θ_run (Cert.DRmsMemRefIdeal.defs (F := Ideal)) (onTc (τ := Cert.DRmsMemRefIdeal.τ) (Cert.DRmsMemRefIdeal.main (F := Ideal))) ⟨m, fun _ => 0, g⟩ (fun r => (∀ c : Dev Cert.DRmsMemRefIdeal.nD,
      r.2.mem ((c.tc : Thread Cert.DRmsMemRefIdeal.nD Cert.DRmsMemRefIdeal.τ).loc Cert.DRmsMemRefIdeal.main_arg0) = m ((c.tc : Thread Cert.DRmsMemRefIdeal.nD Cert.DRmsMemRefIdeal.τ).loc Cert.DRmsMemRefIdeal.main_arg0)
      ∧ r.2.mem ((c.tc : Thread Cert.DRmsMemRefIdeal.nD Cert.DRmsMemRefIdeal.τ).loc Cert.DRmsMemRefIdeal.main_arg1) = m ((c.tc : Thread Cert.DRmsMemRefIdeal.nD Cert.DRmsMemRefIdeal.τ).loc Cert.DRmsMemRefIdeal.main_arg1)
      ∧ r.2.mem ((c.tc : Thread Cert.DRmsMemRefIdeal.nD Cert.DRmsMemRefIdeal.τ).loc Cert.DRmsMemRefIdeal.main_arg2) = m ((c.tc : Thread Cert.DRmsMemRefIdeal.nD Cert.DRmsMemRefIdeal.τ).loc Cert.DRmsMemRefIdeal.main_arg2))
      ∧ r.2.sem = fun _ => 0)

def quiescent_DLnSilu [hDLnSilu : Cert.DLnSilu.Facts] : Prop :=
  ∀ (m : (ℓ : Loc Cert.DLnSilu.nD Cert.DLnSilu.τ Cert.DLnSilu.sig) → Buf (Elt Bits) ℓ) (g : Dev Cert.DLnSilu.nD → PrngReg), Pre_DLnSilu m →
    θ_run (Cert.DLnSilu.defs (F := Bits)) (onTc (τ := Cert.DLnSilu.τ) (Cert.DLnSilu.main (F := Bits))) ⟨m, fun _ => 0, g⟩ (fun r => (∀ c : Dev Cert.DLnSilu.nD,
      r.2.mem ((c.tc : Thread Cert.DLnSilu.nD Cert.DLnSilu.τ).loc Cert.DLnSilu.main_arg0) = m ((c.tc : Thread Cert.DLnSilu.nD Cert.DLnSilu.τ).loc Cert.DLnSilu.main_arg0)
      ∧ r.2.mem ((c.tc : Thread Cert.DLnSilu.nD Cert.DLnSilu.τ).loc Cert.DLnSilu.main_arg1) = m ((c.tc : Thread Cert.DLnSilu.nD Cert.DLnSilu.τ).loc Cert.DLnSilu.main_arg1)
      ∧ r.2.mem ((c.tc : Thread Cert.DLnSilu.nD Cert.DLnSilu.τ).loc Cert.DLnSilu.main_arg2) = m ((c.tc : Thread Cert.DLnSilu.nD Cert.DLnSilu.τ).loc Cert.DLnSilu.main_arg2)
      ∧ r.2.mem ((c.tc : Thread Cert.DLnSilu.nD Cert.DLnSilu.τ).loc Cert.DLnSilu.main_arg3) = m ((c.tc : Thread Cert.DLnSilu.nD Cert.DLnSilu.τ).loc Cert.DLnSilu.main_arg3))
      ∧ r.2.sem = fun _ => 0)

def quiescent_DLnSiluIdeal [hDLnSiluIdeal : Cert.DLnSiluIdeal.Facts] : Prop :=
  ∀ (m : (ℓ : Loc Cert.DLnSiluIdeal.nD Cert.DLnSiluIdeal.τ Cert.DLnSiluIdeal.sig) → Buf (Elt Ideal) ℓ) (g : Dev Cert.DLnSiluIdeal.nD → PrngReg), Pre_DLnSiluIdeal m →
    θ_run (Cert.DLnSiluIdeal.defs (F := Ideal)) (onTc (τ := Cert.DLnSiluIdeal.τ) (Cert.DLnSiluIdeal.main (F := Ideal))) ⟨m, fun _ => 0, g⟩ (fun r => (∀ c : Dev Cert.DLnSiluIdeal.nD,
      r.2.mem ((c.tc : Thread Cert.DLnSiluIdeal.nD Cert.DLnSiluIdeal.τ).loc Cert.DLnSiluIdeal.main_arg0) = m ((c.tc : Thread Cert.DLnSiluIdeal.nD Cert.DLnSiluIdeal.τ).loc Cert.DLnSiluIdeal.main_arg0)
      ∧ r.2.mem ((c.tc : Thread Cert.DLnSiluIdeal.nD Cert.DLnSiluIdeal.τ).loc Cert.DLnSiluIdeal.main_arg1) = m ((c.tc : Thread Cert.DLnSiluIdeal.nD Cert.DLnSiluIdeal.τ).loc Cert.DLnSiluIdeal.main_arg1)
      ∧ r.2.mem ((c.tc : Thread Cert.DLnSiluIdeal.nD Cert.DLnSiluIdeal.τ).loc Cert.DLnSiluIdeal.main_arg2) = m ((c.tc : Thread Cert.DLnSiluIdeal.nD Cert.DLnSiluIdeal.τ).loc Cert.DLnSiluIdeal.main_arg2)
      ∧ r.2.mem ((c.tc : Thread Cert.DLnSiluIdeal.nD Cert.DLnSiluIdeal.τ).loc Cert.DLnSiluIdeal.main_arg3) = m ((c.tc : Thread Cert.DLnSiluIdeal.nD Cert.DLnSiluIdeal.τ).loc Cert.DLnSiluIdeal.main_arg3))
      ∧ r.2.sem = fun _ => 0)

def quiescent_DLnSiluRefIdeal [hDLnSiluRefIdeal : Cert.DLnSiluRefIdeal.Facts] : Prop :=
  ∀ (m : (ℓ : Loc Cert.DLnSiluRefIdeal.nD Cert.DLnSiluRefIdeal.τ Cert.DLnSiluRefIdeal.sig) → Buf (Elt Ideal) ℓ) (g : Dev Cert.DLnSiluRefIdeal.nD → PrngReg), Pre_DLnSiluRefIdeal m →
    θ_run (Cert.DLnSiluRefIdeal.defs (F := Ideal)) (onTc (τ := Cert.DLnSiluRefIdeal.τ) (Cert.DLnSiluRefIdeal.main (F := Ideal))) ⟨m, fun _ => 0, g⟩ (fun r => (∀ c : Dev Cert.DLnSiluRefIdeal.nD,
      r.2.mem ((c.tc : Thread Cert.DLnSiluRefIdeal.nD Cert.DLnSiluRefIdeal.τ).loc Cert.DLnSiluRefIdeal.main_arg0) = m ((c.tc : Thread Cert.DLnSiluRefIdeal.nD Cert.DLnSiluRefIdeal.τ).loc Cert.DLnSiluRefIdeal.main_arg0)
      ∧ r.2.mem ((c.tc : Thread Cert.DLnSiluRefIdeal.nD Cert.DLnSiluRefIdeal.τ).loc Cert.DLnSiluRefIdeal.main_arg1) = m ((c.tc : Thread Cert.DLnSiluRefIdeal.nD Cert.DLnSiluRefIdeal.τ).loc Cert.DLnSiluRefIdeal.main_arg1)
      ∧ r.2.mem ((c.tc : Thread Cert.DLnSiluRefIdeal.nD Cert.DLnSiluRefIdeal.τ).loc Cert.DLnSiluRefIdeal.main_arg2) = m ((c.tc : Thread Cert.DLnSiluRefIdeal.nD Cert.DLnSiluRefIdeal.τ).loc Cert.DLnSiluRefIdeal.main_arg2)
      ∧ r.2.mem ((c.tc : Thread Cert.DLnSiluRefIdeal.nD Cert.DLnSiluRefIdeal.τ).loc Cert.DLnSiluRefIdeal.main_arg3) = m ((c.tc : Thread Cert.DLnSiluRefIdeal.nD Cert.DLnSiluRefIdeal.τ).loc Cert.DLnSiluRefIdeal.main_arg3))
      ∧ r.2.sem = fun _ => 0)

def quiescent_DGate [hDGate : Cert.DGate.Facts] : Prop :=
  ∀ (m : (ℓ : Loc Cert.DGate.nD Cert.DGate.τ Cert.DGate.sig) → Buf (Elt Bits) ℓ) (g : Dev Cert.DGate.nD → PrngReg), Pre_DGate m →
    θ_run (Cert.DGate.defs (F := Bits)) (onTc (τ := Cert.DGate.τ) (Cert.DGate.main (F := Bits))) ⟨m, fun _ => 0, g⟩ (fun r => (∀ c : Dev Cert.DGate.nD,
      r.2.mem ((c.tc : Thread Cert.DGate.nD Cert.DGate.τ).loc Cert.DGate.main_arg0) = m ((c.tc : Thread Cert.DGate.nD Cert.DGate.τ).loc Cert.DGate.main_arg0)
      ∧ r.2.mem ((c.tc : Thread Cert.DGate.nD Cert.DGate.τ).loc Cert.DGate.main_arg1) = m ((c.tc : Thread Cert.DGate.nD Cert.DGate.τ).loc Cert.DGate.main_arg1)
      ∧ r.2.mem ((c.tc : Thread Cert.DGate.nD Cert.DGate.τ).loc Cert.DGate.main_arg2) = m ((c.tc : Thread Cert.DGate.nD Cert.DGate.τ).loc Cert.DGate.main_arg2)
      ∧ r.2.mem ((c.tc : Thread Cert.DGate.nD Cert.DGate.τ).loc Cert.DGate.main_arg3) = m ((c.tc : Thread Cert.DGate.nD Cert.DGate.τ).loc Cert.DGate.main_arg3))
      ∧ r.2.sem = fun _ => 0)

def quiescent_DGateIdeal [hDGateIdeal : Cert.DGateIdeal.Facts] : Prop :=
  ∀ (m : (ℓ : Loc Cert.DGateIdeal.nD Cert.DGateIdeal.τ Cert.DGateIdeal.sig) → Buf (Elt Ideal) ℓ) (g : Dev Cert.DGateIdeal.nD → PrngReg), Pre_DGateIdeal m →
    θ_run (Cert.DGateIdeal.defs (F := Ideal)) (onTc (τ := Cert.DGateIdeal.τ) (Cert.DGateIdeal.main (F := Ideal))) ⟨m, fun _ => 0, g⟩ (fun r => (∀ c : Dev Cert.DGateIdeal.nD,
      r.2.mem ((c.tc : Thread Cert.DGateIdeal.nD Cert.DGateIdeal.τ).loc Cert.DGateIdeal.main_arg0) = m ((c.tc : Thread Cert.DGateIdeal.nD Cert.DGateIdeal.τ).loc Cert.DGateIdeal.main_arg0)
      ∧ r.2.mem ((c.tc : Thread Cert.DGateIdeal.nD Cert.DGateIdeal.τ).loc Cert.DGateIdeal.main_arg1) = m ((c.tc : Thread Cert.DGateIdeal.nD Cert.DGateIdeal.τ).loc Cert.DGateIdeal.main_arg1)
      ∧ r.2.mem ((c.tc : Thread Cert.DGateIdeal.nD Cert.DGateIdeal.τ).loc Cert.DGateIdeal.main_arg2) = m ((c.tc : Thread Cert.DGateIdeal.nD Cert.DGateIdeal.τ).loc Cert.DGateIdeal.main_arg2)
      ∧ r.2.mem ((c.tc : Thread Cert.DGateIdeal.nD Cert.DGateIdeal.τ).loc Cert.DGateIdeal.main_arg3) = m ((c.tc : Thread Cert.DGateIdeal.nD Cert.DGateIdeal.τ).loc Cert.DGateIdeal.main_arg3))
      ∧ r.2.sem = fun _ => 0)

def quiescent_DGateRefIdeal [hDGateRefIdeal : Cert.DGateRefIdeal.Facts] : Prop :=
  ∀ (m : (ℓ : Loc Cert.DGateRefIdeal.nD Cert.DGateRefIdeal.τ Cert.DGateRefIdeal.sig) → Buf (Elt Ideal) ℓ) (g : Dev Cert.DGateRefIdeal.nD → PrngReg), Pre_DGateRefIdeal m →
    θ_run (Cert.DGateRefIdeal.defs (F := Ideal)) (onTc (τ := Cert.DGateRefIdeal.τ) (Cert.DGateRefIdeal.main (F := Ideal))) ⟨m, fun _ => 0, g⟩ (fun r => (∀ c : Dev Cert.DGateRefIdeal.nD,
      r.2.mem ((c.tc : Thread Cert.DGateRefIdeal.nD Cert.DGateRefIdeal.τ).loc Cert.DGateRefIdeal.main_arg0) = m ((c.tc : Thread Cert.DGateRefIdeal.nD Cert.DGateRefIdeal.τ).loc Cert.DGateRefIdeal.main_arg0)
      ∧ r.2.mem ((c.tc : Thread Cert.DGateRefIdeal.nD Cert.DGateRefIdeal.τ).loc Cert.DGateRefIdeal.main_arg1) = m ((c.tc : Thread Cert.DGateRefIdeal.nD Cert.DGateRefIdeal.τ).loc Cert.DGateRefIdeal.main_arg1)
      ∧ r.2.mem ((c.tc : Thread Cert.DGateRefIdeal.nD Cert.DGateRefIdeal.τ).loc Cert.DGateRefIdeal.main_arg2) = m ((c.tc : Thread Cert.DGateRefIdeal.nD Cert.DGateRefIdeal.τ).loc Cert.DGateRefIdeal.main_arg2)
      ∧ r.2.mem ((c.tc : Thread Cert.DGateRefIdeal.nD Cert.DGateRefIdeal.τ).loc Cert.DGateRefIdeal.main_arg3) = m ((c.tc : Thread Cert.DGateRefIdeal.nD Cert.DGateRefIdeal.τ).loc Cert.DGateRefIdeal.main_arg3))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_RmsMem [hRmsMem : Cert.RmsMem.Facts] : Prop :=
  ∀ (m : (ℓ : Loc Cert.RmsMem.nD Cert.RmsMem.τ Cert.RmsMem.sig) → Buf (Elt Bits) ℓ) (g : Dev Cert.RmsMem.nD → PrngReg), Pre_RmsMem m →
    θ_run (Cert.RmsMem.defs (F := Bits)) (onTc (τ := Cert.RmsMem.τ) (Cert.RmsMem.main (F := Bits))) ⟨m, fun _ => 0, g⟩ (fun r => (∀ c : Dev Cert.RmsMem.nD,
      r.2.mem ((c.tc : Thread Cert.RmsMem.nD Cert.RmsMem.τ).loc Cert.RmsMem.main_arg0) = m ((c.tc : Thread Cert.RmsMem.nD Cert.RmsMem.τ).loc Cert.RmsMem.main_arg0)
      ∧ r.2.mem ((c.tc : Thread Cert.RmsMem.nD Cert.RmsMem.τ).loc Cert.RmsMem.main_arg1) = m ((c.tc : Thread Cert.RmsMem.nD Cert.RmsMem.τ).loc Cert.RmsMem.main_arg1))
      ∧ r.2.sem = fun _ => 0)

def quiescent_RmsMemIdeal [hRmsMemIdeal : Cert.RmsMemIdeal.Facts] : Prop :=
  ∀ (m : (ℓ : Loc Cert.RmsMemIdeal.nD Cert.RmsMemIdeal.τ Cert.RmsMemIdeal.sig) → Buf (Elt Ideal) ℓ) (g : Dev Cert.RmsMemIdeal.nD → PrngReg), Pre_RmsMemIdeal m →
    θ_run (Cert.RmsMemIdeal.defs (F := Ideal)) (onTc (τ := Cert.RmsMemIdeal.τ) (Cert.RmsMemIdeal.main (F := Ideal))) ⟨m, fun _ => 0, g⟩ (fun r => (∀ c : Dev Cert.RmsMemIdeal.nD,
      r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
      ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1))
      ∧ r.2.sem = fun _ => 0)

def quiescent_RmsMemRefIdeal [hRmsMemRefIdeal : Cert.RmsMemRefIdeal.Facts] : Prop :=
  ∀ (m : (ℓ : Loc Cert.RmsMemRefIdeal.nD Cert.RmsMemRefIdeal.τ Cert.RmsMemRefIdeal.sig) → Buf (Elt Ideal) ℓ) (g : Dev Cert.RmsMemRefIdeal.nD → PrngReg), Pre_RmsMemRefIdeal m →
    θ_run (Cert.RmsMemRefIdeal.defs (F := Ideal)) (onTc (τ := Cert.RmsMemRefIdeal.τ) (Cert.RmsMemRefIdeal.main (F := Ideal))) ⟨m, fun _ => 0, g⟩ (fun r => (∀ c : Dev Cert.RmsMemRefIdeal.nD,
      r.2.mem ((c.tc : Thread Cert.RmsMemRefIdeal.nD Cert.RmsMemRefIdeal.τ).loc Cert.RmsMemRefIdeal.main_arg0) = m ((c.tc : Thread Cert.RmsMemRefIdeal.nD Cert.RmsMemRefIdeal.τ).loc Cert.RmsMemRefIdeal.main_arg0)
      ∧ r.2.mem ((c.tc : Thread Cert.RmsMemRefIdeal.nD Cert.RmsMemRefIdeal.τ).loc Cert.RmsMemRefIdeal.main_arg1) = m ((c.tc : Thread Cert.RmsMemRefIdeal.nD Cert.RmsMemRefIdeal.τ).loc Cert.RmsMemRefIdeal.main_arg1))
      ∧ r.2.sem = fun _ => 0)

def quiescent_LnSilu [hLnSilu : Cert.LnSilu.Facts] : Prop :=
  ∀ (m : (ℓ : Loc Cert.LnSilu.nD Cert.LnSilu.τ Cert.LnSilu.sig) → Buf (Elt Bits) ℓ) (g : Dev Cert.LnSilu.nD → PrngReg), Pre_LnSilu m →
    θ_run (Cert.LnSilu.defs (F := Bits)) (onTc (τ := Cert.LnSilu.τ) (Cert.LnSilu.main (F := Bits))) ⟨m, fun _ => 0, g⟩ (fun r => (∀ c : Dev Cert.LnSilu.nD,
      r.2.mem ((c.tc : Thread Cert.LnSilu.nD Cert.LnSilu.τ).loc Cert.LnSilu.main_arg0) = m ((c.tc : Thread Cert.LnSilu.nD Cert.LnSilu.τ).loc Cert.LnSilu.main_arg0)
      ∧ r.2.mem ((c.tc : Thread Cert.LnSilu.nD Cert.LnSilu.τ).loc Cert.LnSilu.main_arg1) = m ((c.tc : Thread Cert.LnSilu.nD Cert.LnSilu.τ).loc Cert.LnSilu.main_arg1)
      ∧ r.2.mem ((c.tc : Thread Cert.LnSilu.nD Cert.LnSilu.τ).loc Cert.LnSilu.main_arg2) = m ((c.tc : Thread Cert.LnSilu.nD Cert.LnSilu.τ).loc Cert.LnSilu.main_arg2))
      ∧ r.2.sem = fun _ => 0)

def quiescent_LnSiluIdeal [hLnSiluIdeal : Cert.LnSiluIdeal.Facts] : Prop :=
  ∀ (m : (ℓ : Loc Cert.LnSiluIdeal.nD Cert.LnSiluIdeal.τ Cert.LnSiluIdeal.sig) → Buf (Elt Ideal) ℓ) (g : Dev Cert.LnSiluIdeal.nD → PrngReg), Pre_LnSiluIdeal m →
    θ_run (Cert.LnSiluIdeal.defs (F := Ideal)) (onTc (τ := Cert.LnSiluIdeal.τ) (Cert.LnSiluIdeal.main (F := Ideal))) ⟨m, fun _ => 0, g⟩ (fun r => (∀ c : Dev Cert.LnSiluIdeal.nD,
      r.2.mem ((c.tc : Thread Cert.LnSiluIdeal.nD Cert.LnSiluIdeal.τ).loc Cert.LnSiluIdeal.main_arg0) = m ((c.tc : Thread Cert.LnSiluIdeal.nD Cert.LnSiluIdeal.τ).loc Cert.LnSiluIdeal.main_arg0)
      ∧ r.2.mem ((c.tc : Thread Cert.LnSiluIdeal.nD Cert.LnSiluIdeal.τ).loc Cert.LnSiluIdeal.main_arg1) = m ((c.tc : Thread Cert.LnSiluIdeal.nD Cert.LnSiluIdeal.τ).loc Cert.LnSiluIdeal.main_arg1)
      ∧ r.2.mem ((c.tc : Thread Cert.LnSiluIdeal.nD Cert.LnSiluIdeal.τ).loc Cert.LnSiluIdeal.main_arg2) = m ((c.tc : Thread Cert.LnSiluIdeal.nD Cert.LnSiluIdeal.τ).loc Cert.LnSiluIdeal.main_arg2))
      ∧ r.2.sem = fun _ => 0)

def quiescent_LnSiluRefIdeal [hLnSiluRefIdeal : Cert.LnSiluRefIdeal.Facts] : Prop :=
  ∀ (m : (ℓ : Loc Cert.LnSiluRefIdeal.nD Cert.LnSiluRefIdeal.τ Cert.LnSiluRefIdeal.sig) → Buf (Elt Ideal) ℓ) (g : Dev Cert.LnSiluRefIdeal.nD → PrngReg), Pre_LnSiluRefIdeal m →
    θ_run (Cert.LnSiluRefIdeal.defs (F := Ideal)) (onTc (τ := Cert.LnSiluRefIdeal.τ) (Cert.LnSiluRefIdeal.main (F := Ideal))) ⟨m, fun _ => 0, g⟩ (fun r => (∀ c : Dev Cert.LnSiluRefIdeal.nD,
      r.2.mem ((c.tc : Thread Cert.LnSiluRefIdeal.nD Cert.LnSiluRefIdeal.τ).loc Cert.LnSiluRefIdeal.main_arg0) = m ((c.tc : Thread Cert.LnSiluRefIdeal.nD Cert.LnSiluRefIdeal.τ).loc Cert.LnSiluRefIdeal.main_arg0)
      ∧ r.2.mem ((c.tc : Thread Cert.LnSiluRefIdeal.nD Cert.LnSiluRefIdeal.τ).loc Cert.LnSiluRefIdeal.main_arg1) = m ((c.tc : Thread Cert.LnSiluRefIdeal.nD Cert.LnSiluRefIdeal.τ).loc Cert.LnSiluRefIdeal.main_arg1)
      ∧ r.2.mem ((c.tc : Thread Cert.LnSiluRefIdeal.nD Cert.LnSiluRefIdeal.τ).loc Cert.LnSiluRefIdeal.main_arg2) = m ((c.tc : Thread Cert.LnSiluRefIdeal.nD Cert.LnSiluRefIdeal.τ).loc Cert.LnSiluRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4))
      ∧ r.2.sem = fun _ => 0)

def quiescent_AdamSq [hAdamSq : Cert.AdamSq.Facts] : Prop :=
  ∀ (m : (ℓ : Loc Cert.AdamSq.nD Cert.AdamSq.τ Cert.AdamSq.sig) → Buf (Elt Bits) ℓ) (g : Dev Cert.AdamSq.nD → PrngReg), Pre_AdamSq m →
    θ_run (Cert.AdamSq.defs (F := Bits)) (onTc (τ := Cert.AdamSq.τ) (Cert.AdamSq.main (F := Bits))) ⟨m, fun _ => 0, g⟩ (fun r => (∀ c : Dev Cert.AdamSq.nD,
      r.2.mem ((c.tc : Thread Cert.AdamSq.nD Cert.AdamSq.τ).loc Cert.AdamSq.main_arg0) = m ((c.tc : Thread Cert.AdamSq.nD Cert.AdamSq.τ).loc Cert.AdamSq.main_arg0)
      ∧ r.2.mem ((c.tc : Thread Cert.AdamSq.nD Cert.AdamSq.τ).loc Cert.AdamSq.main_arg1) = m ((c.tc : Thread Cert.AdamSq.nD Cert.AdamSq.τ).loc Cert.AdamSq.main_arg1)
      ∧ r.2.mem ((c.tc : Thread Cert.AdamSq.nD Cert.AdamSq.τ).loc Cert.AdamSq.main_arg2) = m ((c.tc : Thread Cert.AdamSq.nD Cert.AdamSq.τ).loc Cert.AdamSq.main_arg2)
      ∧ r.2.mem ((c.tc : Thread Cert.AdamSq.nD Cert.AdamSq.τ).loc Cert.AdamSq.main_arg3) = m ((c.tc : Thread Cert.AdamSq.nD Cert.AdamSq.τ).loc Cert.AdamSq.main_arg3))
      ∧ r.2.sem = fun _ => 0)

def quiescent_AdamSqIdeal [hAdamSqIdeal : Cert.AdamSqIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg), Pre_AdamSqIdeal m →
    θ_run (Cert.AdamSqIdeal.defs (F := Ideal)) (onTc (τ := Cert.AdamSqIdeal.τ) (Cert.AdamSqIdeal.main (F := Ideal))) ⟨m, fun _ => 0, g⟩ (fun r => (∀ c : Dev Cert.AdamSqIdeal.nD,
      r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
      ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
      ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
      ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3))
      ∧ r.2.sem = fun _ => 0)

def quiescent_AdamSqRefIdeal [hAdamSqRefIdeal : Cert.AdamSqRefIdeal.Facts] : Prop :=
  ∀ (m : (ℓ : Loc Cert.AdamSqRefIdeal.nD Cert.AdamSqRefIdeal.τ Cert.AdamSqRefIdeal.sig) → Buf (Elt Ideal) ℓ) (g : Dev Cert.AdamSqRefIdeal.nD → PrngReg), Pre_AdamSqRefIdeal m →
    θ_run (Cert.AdamSqRefIdeal.defs (F := Ideal)) (onTc (τ := Cert.AdamSqRefIdeal.τ) (Cert.AdamSqRefIdeal.main (F := Ideal))) ⟨m, fun _ => 0, g⟩ (fun r => (∀ c : Dev Cert.AdamSqRefIdeal.nD,
      r.2.mem ((c.tc : Thread Cert.AdamSqRefIdeal.nD Cert.AdamSqRefIdeal.τ).loc Cert.AdamSqRefIdeal.main_arg0) = m ((c.tc : Thread Cert.AdamSqRefIdeal.nD Cert.AdamSqRefIdeal.τ).loc Cert.AdamSqRefIdeal.main_arg0)
      ∧ r.2.mem ((c.tc : Thread Cert.AdamSqRefIdeal.nD Cert.AdamSqRefIdeal.τ).loc Cert.AdamSqRefIdeal.main_arg1) = m ((c.tc : Thread Cert.AdamSqRefIdeal.nD Cert.AdamSqRefIdeal.τ).loc Cert.AdamSqRefIdeal.main_arg1)
      ∧ r.2.mem ((c.tc : Thread Cert.AdamSqRefIdeal.nD Cert.AdamSqRefIdeal.τ).loc Cert.AdamSqRefIdeal.main_arg2) = m ((c.tc : Thread Cert.AdamSqRefIdeal.nD Cert.AdamSqRefIdeal.τ).loc Cert.AdamSqRefIdeal.main_arg2)
      ∧ r.2.mem ((c.tc : Thread Cert.AdamSqRefIdeal.nD Cert.AdamSqRefIdeal.τ).loc Cert.AdamSqRefIdeal.main_arg3) = m ((c.tc : Thread Cert.AdamSqRefIdeal.nD Cert.AdamSqRefIdeal.τ).loc Cert.AdamSqRefIdeal.main_arg3))
      ∧ r.2.sem = fun _ => 0)

def quiescent_AdamSsd [hAdamSsd : Cert.AdamSsd.Facts] : Prop :=
  ∀ (m : (ℓ : Loc Cert.AdamSsd.nD Cert.AdamSsd.τ Cert.AdamSsd.sig) → Buf (Elt Bits) ℓ) (g : Dev Cert.AdamSsd.nD → PrngReg), Pre_AdamSsd m →
    θ_run (Cert.AdamSsd.defs (F := Bits)) (onTc (τ := Cert.AdamSsd.τ) (Cert.AdamSsd.main (F := Bits))) ⟨m, fun _ => 0, g⟩ (fun r => (∀ c : Dev Cert.AdamSsd.nD,
      r.2.mem ((c.tc : Thread Cert.AdamSsd.nD Cert.AdamSsd.τ).loc Cert.AdamSsd.main_arg0) = m ((c.tc : Thread Cert.AdamSsd.nD Cert.AdamSsd.τ).loc Cert.AdamSsd.main_arg0)
      ∧ r.2.mem ((c.tc : Thread Cert.AdamSsd.nD Cert.AdamSsd.τ).loc Cert.AdamSsd.main_arg1) = m ((c.tc : Thread Cert.AdamSsd.nD Cert.AdamSsd.τ).loc Cert.AdamSsd.main_arg1)
      ∧ r.2.mem ((c.tc : Thread Cert.AdamSsd.nD Cert.AdamSsd.τ).loc Cert.AdamSsd.main_arg2) = m ((c.tc : Thread Cert.AdamSsd.nD Cert.AdamSsd.τ).loc Cert.AdamSsd.main_arg2)
      ∧ r.2.mem ((c.tc : Thread Cert.AdamSsd.nD Cert.AdamSsd.τ).loc Cert.AdamSsd.main_arg3) = m ((c.tc : Thread Cert.AdamSsd.nD Cert.AdamSsd.τ).loc Cert.AdamSsd.main_arg3))
      ∧ r.2.sem = fun _ => 0)

def quiescent_AdamSsdIdeal [hAdamSsdIdeal : Cert.AdamSsdIdeal.Facts] : Prop :=
  ∀ (m : (ℓ : Loc Cert.AdamSsdIdeal.nD Cert.AdamSsdIdeal.τ Cert.AdamSsdIdeal.sig) → Buf (Elt Ideal) ℓ) (g : Dev Cert.AdamSsdIdeal.nD → PrngReg), Pre_AdamSsdIdeal m →
    θ_run (Cert.AdamSsdIdeal.defs (F := Ideal)) (onTc (τ := Cert.AdamSsdIdeal.τ) (Cert.AdamSsdIdeal.main (F := Ideal))) ⟨m, fun _ => 0, g⟩ (fun r => (∀ c : Dev Cert.AdamSsdIdeal.nD,
      r.2.mem ((c.tc : Thread Cert.AdamSsdIdeal.nD Cert.AdamSsdIdeal.τ).loc Cert.AdamSsdIdeal.main_arg0) = m ((c.tc : Thread Cert.AdamSsdIdeal.nD Cert.AdamSsdIdeal.τ).loc Cert.AdamSsdIdeal.main_arg0)
      ∧ r.2.mem ((c.tc : Thread Cert.AdamSsdIdeal.nD Cert.AdamSsdIdeal.τ).loc Cert.AdamSsdIdeal.main_arg1) = m ((c.tc : Thread Cert.AdamSsdIdeal.nD Cert.AdamSsdIdeal.τ).loc Cert.AdamSsdIdeal.main_arg1)
      ∧ r.2.mem ((c.tc : Thread Cert.AdamSsdIdeal.nD Cert.AdamSsdIdeal.τ).loc Cert.AdamSsdIdeal.main_arg2) = m ((c.tc : Thread Cert.AdamSsdIdeal.nD Cert.AdamSsdIdeal.τ).loc Cert.AdamSsdIdeal.main_arg2)
      ∧ r.2.mem ((c.tc : Thread Cert.AdamSsdIdeal.nD Cert.AdamSsdIdeal.τ).loc Cert.AdamSsdIdeal.main_arg3) = m ((c.tc : Thread Cert.AdamSsdIdeal.nD Cert.AdamSsdIdeal.τ).loc Cert.AdamSsdIdeal.main_arg3))
      ∧ r.2.sem = fun _ => 0)

def quiescent_AdamSsdRefIdeal [hAdamSsdRefIdeal : Cert.AdamSsdRefIdeal.Facts] : Prop :=
  ∀ (m : (ℓ : Loc Cert.AdamSsdRefIdeal.nD Cert.AdamSsdRefIdeal.τ Cert.AdamSsdRefIdeal.sig) → Buf (Elt Ideal) ℓ) (g : Dev Cert.AdamSsdRefIdeal.nD → PrngReg), Pre_AdamSsdRefIdeal m →
    θ_run (Cert.AdamSsdRefIdeal.defs (F := Ideal)) (onTc (τ := Cert.AdamSsdRefIdeal.τ) (Cert.AdamSsdRefIdeal.main (F := Ideal))) ⟨m, fun _ => 0, g⟩ (fun r => (∀ c : Dev Cert.AdamSsdRefIdeal.nD,
      r.2.mem ((c.tc : Thread Cert.AdamSsdRefIdeal.nD Cert.AdamSsdRefIdeal.τ).loc Cert.AdamSsdRefIdeal.main_arg0) = m ((c.tc : Thread Cert.AdamSsdRefIdeal.nD Cert.AdamSsdRefIdeal.τ).loc Cert.AdamSsdRefIdeal.main_arg0)
      ∧ r.2.mem ((c.tc : Thread Cert.AdamSsdRefIdeal.nD Cert.AdamSsdRefIdeal.τ).loc Cert.AdamSsdRefIdeal.main_arg1) = m ((c.tc : Thread Cert.AdamSsdRefIdeal.nD Cert.AdamSsdRefIdeal.τ).loc Cert.AdamSsdRefIdeal.main_arg1)
      ∧ r.2.mem ((c.tc : Thread Cert.AdamSsdRefIdeal.nD Cert.AdamSsdRefIdeal.τ).loc Cert.AdamSsdRefIdeal.main_arg2) = m ((c.tc : Thread Cert.AdamSsdRefIdeal.nD Cert.AdamSsdRefIdeal.τ).loc Cert.AdamSsdRefIdeal.main_arg2)
      ∧ r.2.mem ((c.tc : Thread Cert.AdamSsdRefIdeal.nD Cert.AdamSsdRefIdeal.τ).loc Cert.AdamSsdRefIdeal.main_arg3) = m ((c.tc : Thread Cert.AdamSsdRefIdeal.nD Cert.AdamSsdRefIdeal.τ).loc Cert.AdamSsdRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamXkv [hAdamXkv : Cert.AdamXkv.Facts] : Prop :=
  ∀ (m : (ℓ : Loc Cert.AdamXkv.nD Cert.AdamXkv.τ Cert.AdamXkv.sig) → Buf (Elt Bits) ℓ) (g : Dev Cert.AdamXkv.nD → PrngReg), Pre_AdamXkv m →
    θ_run (Cert.AdamXkv.defs (F := Bits)) (onTc (τ := Cert.AdamXkv.τ) (Cert.AdamXkv.main (F := Bits))) ⟨m, fun _ => 0, g⟩ (fun r => (∀ c : Dev Cert.AdamXkv.nD,
      r.2.mem ((c.tc : Thread Cert.AdamXkv.nD Cert.AdamXkv.τ).loc Cert.AdamXkv.main_arg0) = m ((c.tc : Thread Cert.AdamXkv.nD Cert.AdamXkv.τ).loc Cert.AdamXkv.main_arg0)
      ∧ r.2.mem ((c.tc : Thread Cert.AdamXkv.nD Cert.AdamXkv.τ).loc Cert.AdamXkv.main_arg1) = m ((c.tc : Thread Cert.AdamXkv.nD Cert.AdamXkv.τ).loc Cert.AdamXkv.main_arg1)
      ∧ r.2.mem ((c.tc : Thread Cert.AdamXkv.nD Cert.AdamXkv.τ).loc Cert.AdamXkv.main_arg2) = m ((c.tc : Thread Cert.AdamXkv.nD Cert.AdamXkv.τ).loc Cert.AdamXkv.main_arg2)
      ∧ r.2.mem ((c.tc : Thread Cert.AdamXkv.nD Cert.AdamXkv.τ).loc Cert.AdamXkv.main_arg3) = m ((c.tc : Thread Cert.AdamXkv.nD Cert.AdamXkv.τ).loc Cert.AdamXkv.main_arg3))
      ∧ r.2.sem = fun _ => 0)

def quiescent_AdamXkvIdeal [hAdamXkvIdeal : Cert.AdamXkvIdeal.Facts] : Prop :=
  ∀ (m : (ℓ : Loc Cert.AdamXkvIdeal.nD Cert.AdamXkvIdeal.τ Cert.AdamXkvIdeal.sig) → Buf (Elt Ideal) ℓ) (g : Dev Cert.AdamXkvIdeal.nD → PrngReg), Pre_AdamXkvIdeal m →
    θ_run (Cert.AdamXkvIdeal.defs (F := Ideal)) (onTc (τ := Cert.AdamXkvIdeal.τ) (Cert.AdamXkvIdeal.main (F := Ideal))) ⟨m, fun _ => 0, g⟩ (fun r => (∀ c : Dev Cert.AdamXkvIdeal.nD,
      r.2.mem ((c.tc : Thread Cert.AdamXkvIdeal.nD Cert.AdamXkvIdeal.τ).loc Cert.AdamXkvIdeal.main_arg0) = m ((c.tc : Thread Cert.AdamXkvIdeal.nD Cert.AdamXkvIdeal.τ).loc Cert.AdamXkvIdeal.main_arg0)
      ∧ r.2.mem ((c.tc : Thread Cert.AdamXkvIdeal.nD Cert.AdamXkvIdeal.τ).loc Cert.AdamXkvIdeal.main_arg1) = m ((c.tc : Thread Cert.AdamXkvIdeal.nD Cert.AdamXkvIdeal.τ).loc Cert.AdamXkvIdeal.main_arg1)
      ∧ r.2.mem ((c.tc : Thread Cert.AdamXkvIdeal.nD Cert.AdamXkvIdeal.τ).loc Cert.AdamXkvIdeal.main_arg2) = m ((c.tc : Thread Cert.AdamXkvIdeal.nD Cert.AdamXkvIdeal.τ).loc Cert.AdamXkvIdeal.main_arg2)
      ∧ r.2.mem ((c.tc : Thread Cert.AdamXkvIdeal.nD Cert.AdamXkvIdeal.τ).loc Cert.AdamXkvIdeal.main_arg3) = m ((c.tc : Thread Cert.AdamXkvIdeal.nD Cert.AdamXkvIdeal.τ).loc Cert.AdamXkvIdeal.main_arg3))
      ∧ r.2.sem = fun _ => 0)

def quiescent_AdamXkvRefIdeal [hAdamXkvRefIdeal : Cert.AdamXkvRefIdeal.Facts] : Prop :=
  ∀ (m : (ℓ : Loc Cert.AdamXkvRefIdeal.nD Cert.AdamXkvRefIdeal.τ Cert.AdamXkvRefIdeal.sig) → Buf (Elt Ideal) ℓ) (g : Dev Cert.AdamXkvRefIdeal.nD → PrngReg), Pre_AdamXkvRefIdeal m →
    θ_run (Cert.AdamXkvRefIdeal.defs (F := Ideal)) (onTc (τ := Cert.AdamXkvRefIdeal.τ) (Cert.AdamXkvRefIdeal.main (F := Ideal))) ⟨m, fun _ => 0, g⟩ (fun r => (∀ c : Dev Cert.AdamXkvRefIdeal.nD,
      r.2.mem ((c.tc : Thread Cert.AdamXkvRefIdeal.nD Cert.AdamXkvRefIdeal.τ).loc Cert.AdamXkvRefIdeal.main_arg0) = m ((c.tc : Thread Cert.AdamXkvRefIdeal.nD Cert.AdamXkvRefIdeal.τ).loc Cert.AdamXkvRefIdeal.main_arg0)
      ∧ r.2.mem ((c.tc : Thread Cert.AdamXkvRefIdeal.nD Cert.AdamXkvRefIdeal.τ).loc Cert.AdamXkvRefIdeal.main_arg1) = m ((c.tc : Thread Cert.AdamXkvRefIdeal.nD Cert.AdamXkvRefIdeal.τ).loc Cert.AdamXkvRefIdeal.main_arg1)
      ∧ r.2.mem ((c.tc : Thread Cert.AdamXkvRefIdeal.nD Cert.AdamXkvRefIdeal.τ).loc Cert.AdamXkvRefIdeal.main_arg2) = m ((c.tc : Thread Cert.AdamXkvRefIdeal.nD Cert.AdamXkvRefIdeal.τ).loc Cert.AdamXkvRefIdeal.main_arg2)
      ∧ r.2.mem ((c.tc : Thread Cert.AdamXkvRefIdeal.nD Cert.AdamXkvRefIdeal.τ).loc Cert.AdamXkvRefIdeal.main_arg3) = m ((c.tc : Thread Cert.AdamXkvRefIdeal.nD Cert.AdamXkvRefIdeal.τ).loc Cert.AdamXkvRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)) (v4 : (c : Dev Cert.MergeIdeal.nD) → Buf (Elt Ideal) ((c.tc : Thread Cert.MergeIdeal.nD Cert.MergeIdeal.τ).loc Cert.MergeIdeal.main_v0_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_v0_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v44) = v0 c
          ∧ r.2.mem ((c.tc : Thread Cert.MergeRefIdeal.nD Cert.MergeRefIdeal.τ).loc Cert.MergeRefIdeal.main_v45) = v1 c
          ∧ r.2.mem ((c.tc : Thread Cert.MergeRefIdeal.nD Cert.MergeRefIdeal.τ).loc Cert.MergeRefIdeal.main_v46) = v2 c
          ∧ r.2.mem ((c.tc : Thread Cert.MergeRefIdeal.nD Cert.MergeRefIdeal.τ).loc Cert.MergeRefIdeal.main_v47) = v3 c
          ∧ r.2.mem ((c.tc : Thread Cert.MergeRefIdeal.nD Cert.MergeRefIdeal.τ).loc Cert.MergeRefIdeal.main_v42) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)
      ∧ m' ((c.tc : Thread Cert.DActRefIdeal.nD Cert.DActRefIdeal.τ).loc Cert.DActRefIdeal.main_arg2) = m ((c.tc : Thread Cert.DActIdeal.nD Cert.DActIdeal.τ).loc Cert.DActIdeal.main_arg2)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
          ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v14) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1)
          ∧ r.2.mem ((c.tc : Thread Cert.DActRefIdeal.nD Cert.DActRefIdeal.τ).loc Cert.DActRefIdeal.main_arg2) = m' ((c.tc : Thread Cert.DActRefIdeal.nD Cert.DActRefIdeal.τ).loc Cert.DActRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v6) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v8) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DUm_DUmIdeal : Prop :=
  True

def algebraic_DUmIdeal_DUmRefIdeal [hDUmIdeal : Cert.DUmIdeal.Facts] [hDUmRefIdeal : Cert.DUmRefIdeal.Facts] : Prop :=
  ∀ (m : (ℓ : Loc Cert.DUmIdeal.nD Cert.DUmIdeal.τ Cert.DUmIdeal.sig) → Buf (Elt Ideal) ℓ) (g : Dev Cert.DUmIdeal.nD → PrngReg)
    (m' : (ℓ : Loc Cert.DUmRefIdeal.nD Cert.DUmRefIdeal.τ Cert.DUmRefIdeal.sig) → Buf (Elt Ideal) ℓ) (g' : Dev Cert.DUmRefIdeal.nD → PrngReg), Pre_DUmIdeal m →
    (∀ c : Dev Cert.DUmIdeal.nD,
      m' ((c.tc : Thread Cert.DUmRefIdeal.nD Cert.DUmRefIdeal.τ).loc Cert.DUmRefIdeal.main_arg0) = m ((c.tc : Thread Cert.DUmIdeal.nD Cert.DUmIdeal.τ).loc Cert.DUmIdeal.main_arg0)
      ∧ m' ((c.tc : Thread Cert.DUmRefIdeal.nD Cert.DUmRefIdeal.τ).loc Cert.DUmRefIdeal.main_arg1) = m ((c.tc : Thread Cert.DUmIdeal.nD Cert.DUmIdeal.τ).loc Cert.DUmIdeal.main_arg1)) →
    ∃ (v0 : (c : Dev Cert.DUmIdeal.nD) → Buf (Elt Ideal) ((c.tc : Thread Cert.DUmIdeal.nD Cert.DUmIdeal.τ).loc Cert.DUmIdeal.main_v0)),
      θ_run (Cert.DUmIdeal.defs (F := Ideal)) (onTc (τ := Cert.DUmIdeal.τ) (Cert.DUmIdeal.main (F := Ideal))) ⟨m, fun _ => 0, g⟩ (fun r => ∀ c : Dev Cert.DUmIdeal.nD,
          r.2.mem ((c.tc : Thread Cert.DUmIdeal.nD Cert.DUmIdeal.τ).loc Cert.DUmIdeal.main_v0) = v0 c
          ∧ r.2.mem ((c.tc : Thread Cert.DUmIdeal.nD Cert.DUmIdeal.τ).loc Cert.DUmIdeal.main_arg0) = m ((c.tc : Thread Cert.DUmIdeal.nD Cert.DUmIdeal.τ).loc Cert.DUmIdeal.main_arg0)
          ∧ r.2.mem ((c.tc : Thread Cert.DUmIdeal.nD Cert.DUmIdeal.τ).loc Cert.DUmIdeal.main_arg1) = m ((c.tc : Thread Cert.DUmIdeal.nD Cert.DUmIdeal.τ).loc Cert.DUmIdeal.main_arg1))
      ∧ θ_run (Cert.DUmRefIdeal.defs (F := Ideal)) (onTc (τ := Cert.DUmRefIdeal.τ) (Cert.DUmRefIdeal.main (F := Ideal))) ⟨m', fun _ => 0, g'⟩ (fun r => ∀ c : Dev Cert.DUmRefIdeal.nD,
          r.2.mem ((c.tc : Thread Cert.DUmRefIdeal.nD Cert.DUmRefIdeal.τ).loc Cert.DUmRefIdeal.main_v6) = v0 c
          ∧ r.2.mem ((c.tc : Thread Cert.DUmRefIdeal.nD Cert.DUmRefIdeal.τ).loc Cert.DUmRefIdeal.main_arg0) = m' ((c.tc : Thread Cert.DUmRefIdeal.nD Cert.DUmRefIdeal.τ).loc Cert.DUmRefIdeal.main_arg0)
          ∧ r.2.mem ((c.tc : Thread Cert.DUmRefIdeal.nD Cert.DUmRefIdeal.τ).loc Cert.DUmRefIdeal.main_arg1) = m' ((c.tc : Thread Cert.DUmRefIdeal.nD Cert.DUmRefIdeal.τ).loc Cert.DUmRefIdeal.main_arg1))

def preserves_DXo_DXoIdeal : Prop :=
  True

def algebraic_DXoIdeal_DXoRefIdeal [hDXoIdeal : Cert.DXoIdeal.Facts] [hDXoRefIdeal : Cert.DXoRefIdeal.Facts] : Prop :=
  ∀ (m : (ℓ : Loc Cert.DXoIdeal.nD Cert.DXoIdeal.τ Cert.DXoIdeal.sig) → Buf (Elt Ideal) ℓ) (g : Dev Cert.DXoIdeal.nD → PrngReg)
    (m' : (ℓ : Loc Cert.DXoRefIdeal.nD Cert.DXoRefIdeal.τ Cert.DXoRefIdeal.sig) → Buf (Elt Ideal) ℓ) (g' : Dev Cert.DXoRefIdeal.nD → PrngReg), Pre_DXoIdeal m →
    (∀ c : Dev Cert.DXoIdeal.nD,
      m' ((c.tc : Thread Cert.DXoRefIdeal.nD Cert.DXoRefIdeal.τ).loc Cert.DXoRefIdeal.main_arg0) = m ((c.tc : Thread Cert.DXoIdeal.nD Cert.DXoIdeal.τ).loc Cert.DXoIdeal.main_arg0)
      ∧ m' ((c.tc : Thread Cert.DXoRefIdeal.nD Cert.DXoRefIdeal.τ).loc Cert.DXoRefIdeal.main_arg1) = m ((c.tc : Thread Cert.DXoIdeal.nD Cert.DXoIdeal.τ).loc Cert.DXoIdeal.main_arg1)) →
    ∃ (v0 : (c : Dev Cert.DXoIdeal.nD) → Buf (Elt Ideal) ((c.tc : Thread Cert.DXoIdeal.nD Cert.DXoIdeal.τ).loc Cert.DXoIdeal.main_v0)),
      θ_run (Cert.DXoIdeal.defs (F := Ideal)) (onTc (τ := Cert.DXoIdeal.τ) (Cert.DXoIdeal.main (F := Ideal))) ⟨m, fun _ => 0, g⟩ (fun r => ∀ c : Dev Cert.DXoIdeal.nD,
          r.2.mem ((c.tc : Thread Cert.DXoIdeal.nD Cert.DXoIdeal.τ).loc Cert.DXoIdeal.main_v0) = v0 c
          ∧ r.2.mem ((c.tc : Thread Cert.DXoIdeal.nD Cert.DXoIdeal.τ).loc Cert.DXoIdeal.main_arg0) = m ((c.tc : Thread Cert.DXoIdeal.nD Cert.DXoIdeal.τ).loc Cert.DXoIdeal.main_arg0)
          ∧ r.2.mem ((c.tc : Thread Cert.DXoIdeal.nD Cert.DXoIdeal.τ).loc Cert.DXoIdeal.main_arg1) = m ((c.tc : Thread Cert.DXoIdeal.nD Cert.DXoIdeal.τ).loc Cert.DXoIdeal.main_arg1))
      ∧ θ_run (Cert.DXoRefIdeal.defs (F := Ideal)) (onTc (τ := Cert.DXoRefIdeal.τ) (Cert.DXoRefIdeal.main (F := Ideal))) ⟨m', fun _ => 0, g'⟩ (fun r => ∀ c : Dev Cert.DXoRefIdeal.nD,
          r.2.mem ((c.tc : Thread Cert.DXoRefIdeal.nD Cert.DXoRefIdeal.τ).loc Cert.DXoRefIdeal.main_v5) = v0 c
          ∧ r.2.mem ((c.tc : Thread Cert.DXoRefIdeal.nD Cert.DXoRefIdeal.τ).loc Cert.DXoRefIdeal.main_arg0) = m' ((c.tc : Thread Cert.DXoRefIdeal.nD Cert.DXoRefIdeal.τ).loc Cert.DXoRefIdeal.main_arg0)
          ∧ r.2.mem ((c.tc : Thread Cert.DXoRefIdeal.nD Cert.DXoRefIdeal.τ).loc Cert.DXoRefIdeal.main_arg1) = m' ((c.tc : Thread Cert.DXoRefIdeal.nD Cert.DXoRefIdeal.τ).loc Cert.DXoRefIdeal.main_arg1))

def preserves_DUn_DUnIdeal : Prop :=
  True

def algebraic_DUnIdeal_DUnRefIdeal [hDUnIdeal : Cert.DUnIdeal.Facts] [hDUnRefIdeal : Cert.DUnRefIdeal.Facts] : Prop :=
  ∀ (m : (ℓ : Loc Cert.DUnIdeal.nD Cert.DUnIdeal.τ Cert.DUnIdeal.sig) → Buf (Elt Ideal) ℓ) (g : Dev Cert.DUnIdeal.nD → PrngReg)
    (m' : (ℓ : Loc Cert.DUnRefIdeal.nD Cert.DUnRefIdeal.τ Cert.DUnRefIdeal.sig) → Buf (Elt Ideal) ℓ) (g' : Dev Cert.DUnRefIdeal.nD → PrngReg), Pre_DUnIdeal m →
    (∀ c : Dev Cert.DUnIdeal.nD,
      m' ((c.tc : Thread Cert.DUnRefIdeal.nD Cert.DUnRefIdeal.τ).loc Cert.DUnRefIdeal.main_arg0) = m ((c.tc : Thread Cert.DUnIdeal.nD Cert.DUnIdeal.τ).loc Cert.DUnIdeal.main_arg0)
      ∧ m' ((c.tc : Thread Cert.DUnRefIdeal.nD Cert.DUnRefIdeal.τ).loc Cert.DUnRefIdeal.main_arg1) = m ((c.tc : Thread Cert.DUnIdeal.nD Cert.DUnIdeal.τ).loc Cert.DUnIdeal.main_arg1)) →
    ∃ (v0 : (c : Dev Cert.DUnIdeal.nD) → Buf (Elt Ideal) ((c.tc : Thread Cert.DUnIdeal.nD Cert.DUnIdeal.τ).loc Cert.DUnIdeal.main_v0)),
      θ_run (Cert.DUnIdeal.defs (F := Ideal)) (onTc (τ := Cert.DUnIdeal.τ) (Cert.DUnIdeal.main (F := Ideal))) ⟨m, fun _ => 0, g⟩ (fun r => ∀ c : Dev Cert.DUnIdeal.nD,
          r.2.mem ((c.tc : Thread Cert.DUnIdeal.nD Cert.DUnIdeal.τ).loc Cert.DUnIdeal.main_v0) = v0 c
          ∧ r.2.mem ((c.tc : Thread Cert.DUnIdeal.nD Cert.DUnIdeal.τ).loc Cert.DUnIdeal.main_arg0) = m ((c.tc : Thread Cert.DUnIdeal.nD Cert.DUnIdeal.τ).loc Cert.DUnIdeal.main_arg0)
          ∧ r.2.mem ((c.tc : Thread Cert.DUnIdeal.nD Cert.DUnIdeal.τ).loc Cert.DUnIdeal.main_arg1) = m ((c.tc : Thread Cert.DUnIdeal.nD Cert.DUnIdeal.τ).loc Cert.DUnIdeal.main_arg1))
      ∧ θ_run (Cert.DUnRefIdeal.defs (F := Ideal)) (onTc (τ := Cert.DUnRefIdeal.τ) (Cert.DUnRefIdeal.main (F := Ideal))) ⟨m', fun _ => 0, g'⟩ (fun r => ∀ c : Dev Cert.DUnRefIdeal.nD,
          r.2.mem ((c.tc : Thread Cert.DUnRefIdeal.nD Cert.DUnRefIdeal.τ).loc Cert.DUnRefIdeal.main_v4) = v0 c
          ∧ r.2.mem ((c.tc : Thread Cert.DUnRefIdeal.nD Cert.DUnRefIdeal.τ).loc Cert.DUnRefIdeal.main_arg0) = m' ((c.tc : Thread Cert.DUnRefIdeal.nD Cert.DUnRefIdeal.τ).loc Cert.DUnRefIdeal.main_arg0)
          ∧ r.2.mem ((c.tc : Thread Cert.DUnRefIdeal.nD Cert.DUnRefIdeal.τ).loc Cert.DUnRefIdeal.main_arg1) = m' ((c.tc : Thread Cert.DUnRefIdeal.nD Cert.DUnRefIdeal.τ).loc Cert.DUnRefIdeal.main_arg1))

def preserves_DwSq_DwSqIdeal : Prop :=
  True

def algebraic_DwSqIdeal_DwSqRefIdeal [hDwSqIdeal : Cert.DwSqIdeal.Facts] [hDwSqRefIdeal : Cert.DwSqRefIdeal.Facts] : Prop :=
  ∀ (m : (ℓ : Loc Cert.DwSqIdeal.nD Cert.DwSqIdeal.τ Cert.DwSqIdeal.sig) → Buf (Elt Ideal) ℓ) (g : Dev Cert.DwSqIdeal.nD → PrngReg)
    (m' : (ℓ : Loc Cert.DwSqRefIdeal.nD Cert.DwSqRefIdeal.τ Cert.DwSqRefIdeal.sig) → Buf (Elt Ideal) ℓ) (g' : Dev Cert.DwSqRefIdeal.nD → PrngReg), Pre_DwSqIdeal m →
    (∀ c : Dev Cert.DwSqIdeal.nD,
      m' ((c.tc : Thread Cert.DwSqRefIdeal.nD Cert.DwSqRefIdeal.τ).loc Cert.DwSqRefIdeal.main_arg0) = m ((c.tc : Thread Cert.DwSqIdeal.nD Cert.DwSqIdeal.τ).loc Cert.DwSqIdeal.main_arg0)
      ∧ m' ((c.tc : Thread Cert.DwSqRefIdeal.nD Cert.DwSqRefIdeal.τ).loc Cert.DwSqRefIdeal.main_arg1) = m ((c.tc : Thread Cert.DwSqIdeal.nD Cert.DwSqIdeal.τ).loc Cert.DwSqIdeal.main_arg1)) →
    ∃ (v0 : (c : Dev Cert.DwSqIdeal.nD) → Buf (Elt Ideal) ((c.tc : Thread Cert.DwSqIdeal.nD Cert.DwSqIdeal.τ).loc Cert.DwSqIdeal.main_v0)),
      θ_run (Cert.DwSqIdeal.defs (F := Ideal)) (onTc (τ := Cert.DwSqIdeal.τ) (Cert.DwSqIdeal.main (F := Ideal))) ⟨m, fun _ => 0, g⟩ (fun r => ∀ c : Dev Cert.DwSqIdeal.nD,
          r.2.mem ((c.tc : Thread Cert.DwSqIdeal.nD Cert.DwSqIdeal.τ).loc Cert.DwSqIdeal.main_v0) = v0 c
          ∧ r.2.mem ((c.tc : Thread Cert.DwSqIdeal.nD Cert.DwSqIdeal.τ).loc Cert.DwSqIdeal.main_arg0) = m ((c.tc : Thread Cert.DwSqIdeal.nD Cert.DwSqIdeal.τ).loc Cert.DwSqIdeal.main_arg0)
          ∧ r.2.mem ((c.tc : Thread Cert.DwSqIdeal.nD Cert.DwSqIdeal.τ).loc Cert.DwSqIdeal.main_arg1) = m ((c.tc : Thread Cert.DwSqIdeal.nD Cert.DwSqIdeal.τ).loc Cert.DwSqIdeal.main_arg1))
      ∧ θ_run (Cert.DwSqRefIdeal.defs (F := Ideal)) (onTc (τ := Cert.DwSqRefIdeal.τ) (Cert.DwSqRefIdeal.main (F := Ideal))) ⟨m', fun _ => 0, g'⟩ (fun r => ∀ c : Dev Cert.DwSqRefIdeal.nD,
          r.2.mem ((c.tc : Thread Cert.DwSqRefIdeal.nD Cert.DwSqRefIdeal.τ).loc Cert.DwSqRefIdeal.main_v6) = v0 c
          ∧ r.2.mem ((c.tc : Thread Cert.DwSqRefIdeal.nD Cert.DwSqRefIdeal.τ).loc Cert.DwSqRefIdeal.main_arg0) = m' ((c.tc : Thread Cert.DwSqRefIdeal.nD Cert.DwSqRefIdeal.τ).loc Cert.DwSqRefIdeal.main_arg0)
          ∧ r.2.mem ((c.tc : Thread Cert.DwSqRefIdeal.nD Cert.DwSqRefIdeal.τ).loc Cert.DwSqRefIdeal.main_arg1) = m' ((c.tc : Thread Cert.DwSqRefIdeal.nD Cert.DwSqRefIdeal.τ).loc Cert.DwSqRefIdeal.main_arg1))

def preserves_DwXkv_DwXkvIdeal : Prop :=
  True

def algebraic_DwXkvIdeal_DwXkvRefIdeal [hDwXkvIdeal : Cert.DwXkvIdeal.Facts] [hDwXkvRefIdeal : Cert.DwXkvRefIdeal.Facts] : Prop :=
  ∀ (m : (ℓ : Loc Cert.DwXkvIdeal.nD Cert.DwXkvIdeal.τ Cert.DwXkvIdeal.sig) → Buf (Elt Ideal) ℓ) (g : Dev Cert.DwXkvIdeal.nD → PrngReg)
    (m' : (ℓ : Loc Cert.DwXkvRefIdeal.nD Cert.DwXkvRefIdeal.τ Cert.DwXkvRefIdeal.sig) → Buf (Elt Ideal) ℓ) (g' : Dev Cert.DwXkvRefIdeal.nD → PrngReg), Pre_DwXkvIdeal m →
    (∀ c : Dev Cert.DwXkvIdeal.nD,
      m' ((c.tc : Thread Cert.DwXkvRefIdeal.nD Cert.DwXkvRefIdeal.τ).loc Cert.DwXkvRefIdeal.main_arg0) = m ((c.tc : Thread Cert.DwXkvIdeal.nD Cert.DwXkvIdeal.τ).loc Cert.DwXkvIdeal.main_arg0)
      ∧ m' ((c.tc : Thread Cert.DwXkvRefIdeal.nD Cert.DwXkvRefIdeal.τ).loc Cert.DwXkvRefIdeal.main_arg1) = m ((c.tc : Thread Cert.DwXkvIdeal.nD Cert.DwXkvIdeal.τ).loc Cert.DwXkvIdeal.main_arg1)) →
    ∃ (v0 : (c : Dev Cert.DwXkvIdeal.nD) → Buf (Elt Ideal) ((c.tc : Thread Cert.DwXkvIdeal.nD Cert.DwXkvIdeal.τ).loc Cert.DwXkvIdeal.main_v0)),
      θ_run (Cert.DwXkvIdeal.defs (F := Ideal)) (onTc (τ := Cert.DwXkvIdeal.τ) (Cert.DwXkvIdeal.main (F := Ideal))) ⟨m, fun _ => 0, g⟩ (fun r => ∀ c : Dev Cert.DwXkvIdeal.nD,
          r.2.mem ((c.tc : Thread Cert.DwXkvIdeal.nD Cert.DwXkvIdeal.τ).loc Cert.DwXkvIdeal.main_v0) = v0 c
          ∧ r.2.mem ((c.tc : Thread Cert.DwXkvIdeal.nD Cert.DwXkvIdeal.τ).loc Cert.DwXkvIdeal.main_arg0) = m ((c.tc : Thread Cert.DwXkvIdeal.nD Cert.DwXkvIdeal.τ).loc Cert.DwXkvIdeal.main_arg0)
          ∧ r.2.mem ((c.tc : Thread Cert.DwXkvIdeal.nD Cert.DwXkvIdeal.τ).loc Cert.DwXkvIdeal.main_arg1) = m ((c.tc : Thread Cert.DwXkvIdeal.nD Cert.DwXkvIdeal.τ).loc Cert.DwXkvIdeal.main_arg1))
      ∧ θ_run (Cert.DwXkvRefIdeal.defs (F := Ideal)) (onTc (τ := Cert.DwXkvRefIdeal.τ) (Cert.DwXkvRefIdeal.main (F := Ideal))) ⟨m', fun _ => 0, g'⟩ (fun r => ∀ c : Dev Cert.DwXkvRefIdeal.nD,
          r.2.mem ((c.tc : Thread Cert.DwXkvRefIdeal.nD Cert.DwXkvRefIdeal.τ).loc Cert.DwXkvRefIdeal.main_v7) = v0 c
          ∧ r.2.mem ((c.tc : Thread Cert.DwXkvRefIdeal.nD Cert.DwXkvRefIdeal.τ).loc Cert.DwXkvRefIdeal.main_arg0) = m' ((c.tc : Thread Cert.DwXkvRefIdeal.nD Cert.DwXkvRefIdeal.τ).loc Cert.DwXkvRefIdeal.main_arg0)
          ∧ r.2.mem ((c.tc : Thread Cert.DwXkvRefIdeal.nD Cert.DwXkvRefIdeal.τ).loc Cert.DwXkvRefIdeal.main_arg1) = m' ((c.tc : Thread Cert.DwXkvRefIdeal.nD Cert.DwXkvRefIdeal.τ).loc Cert.DwXkvRefIdeal.main_arg1))

def preserves_DMemn_DMemnIdeal : Prop :=
  True

def algebraic_DMemnIdeal_DMemnRefIdeal [hDMemnIdeal : Cert.DMemnIdeal.Facts] [hDMemnRefIdeal : Cert.DMemnRefIdeal.Facts] : Prop :=
  ∀ (m : (ℓ : Loc Cert.DMemnIdeal.nD Cert.DMemnIdeal.τ Cert.DMemnIdeal.sig) → Buf (Elt Ideal) ℓ) (g : Dev Cert.DMemnIdeal.nD → PrngReg)
    (m' : (ℓ : Loc Cert.DMemnRefIdeal.nD Cert.DMemnRefIdeal.τ Cert.DMemnRefIdeal.sig) → Buf (Elt Ideal) ℓ) (g' : Dev Cert.DMemnRefIdeal.nD → PrngReg), Pre_DMemnIdeal m →
    (∀ c : Dev Cert.DMemnIdeal.nD,
      m' ((c.tc : Thread Cert.DMemnRefIdeal.nD Cert.DMemnRefIdeal.τ).loc Cert.DMemnRefIdeal.main_arg0) = m ((c.tc : Thread Cert.DMemnIdeal.nD Cert.DMemnIdeal.τ).loc Cert.DMemnIdeal.main_arg0)
      ∧ m' ((c.tc : Thread Cert.DMemnRefIdeal.nD Cert.DMemnRefIdeal.τ).loc Cert.DMemnRefIdeal.main_arg1) = m ((c.tc : Thread Cert.DMemnIdeal.nD Cert.DMemnIdeal.τ).loc Cert.DMemnIdeal.main_arg1)) →
    ∃ (v0 : (c : Dev Cert.DMemnIdeal.nD) → Buf (Elt Ideal) ((c.tc : Thread Cert.DMemnIdeal.nD Cert.DMemnIdeal.τ).loc Cert.DMemnIdeal.main_v0)),
      θ_run (Cert.DMemnIdeal.defs (F := Ideal)) (onTc (τ := Cert.DMemnIdeal.τ) (Cert.DMemnIdeal.main (F := Ideal))) ⟨m, fun _ => 0, g⟩ (fun r => ∀ c : Dev Cert.DMemnIdeal.nD,
          r.2.mem ((c.tc : Thread Cert.DMemnIdeal.nD Cert.DMemnIdeal.τ).loc Cert.DMemnIdeal.main_v0) = v0 c
          ∧ r.2.mem ((c.tc : Thread Cert.DMemnIdeal.nD Cert.DMemnIdeal.τ).loc Cert.DMemnIdeal.main_arg0) = m ((c.tc : Thread Cert.DMemnIdeal.nD Cert.DMemnIdeal.τ).loc Cert.DMemnIdeal.main_arg0)
          ∧ r.2.mem ((c.tc : Thread Cert.DMemnIdeal.nD Cert.DMemnIdeal.τ).loc Cert.DMemnIdeal.main_arg1) = m ((c.tc : Thread Cert.DMemnIdeal.nD Cert.DMemnIdeal.τ).loc Cert.DMemnIdeal.main_arg1))
      ∧ θ_run (Cert.DMemnRefIdeal.defs (F := Ideal)) (onTc (τ := Cert.DMemnRefIdeal.τ) (Cert.DMemnRefIdeal.main (F := Ideal))) ⟨m', fun _ => 0, g'⟩ (fun r => ∀ c : Dev Cert.DMemnRefIdeal.nD,
          r.2.mem ((c.tc : Thread Cert.DMemnRefIdeal.nD Cert.DMemnRefIdeal.τ).loc Cert.DMemnRefIdeal.main_v5) = v0 c
          ∧ r.2.mem ((c.tc : Thread Cert.DMemnRefIdeal.nD Cert.DMemnRefIdeal.τ).loc Cert.DMemnRefIdeal.main_arg0) = m' ((c.tc : Thread Cert.DMemnRefIdeal.nD Cert.DMemnRefIdeal.τ).loc Cert.DMemnRefIdeal.main_arg0)
          ∧ r.2.mem ((c.tc : Thread Cert.DMemnRefIdeal.nD Cert.DMemnRefIdeal.τ).loc Cert.DMemnRefIdeal.main_arg1) = m' ((c.tc : Thread Cert.DMemnRefIdeal.nD Cert.DMemnRefIdeal.τ).loc Cert.DMemnRefIdeal.main_arg1))

def preserves_DYb_DYbIdeal : Prop :=
  True

def algebraic_DYbIdeal_DYbRefIdeal [hDYbIdeal : Cert.DYbIdeal.Facts] [hDYbRefIdeal : Cert.DYbRefIdeal.Facts] : Prop :=
  ∀ (m : (ℓ : Loc Cert.DYbIdeal.nD Cert.DYbIdeal.τ Cert.DYbIdeal.sig) → Buf (Elt Ideal) ℓ) (g : Dev Cert.DYbIdeal.nD → PrngReg)
    (m' : (ℓ : Loc Cert.DYbRefIdeal.nD Cert.DYbRefIdeal.τ Cert.DYbRefIdeal.sig) → Buf (Elt Ideal) ℓ) (g' : Dev Cert.DYbRefIdeal.nD → PrngReg), Pre_DYbIdeal m →
    (∀ c : Dev Cert.DYbIdeal.nD,
      m' ((c.tc : Thread Cert.DYbRefIdeal.nD Cert.DYbRefIdeal.τ).loc Cert.DYbRefIdeal.main_arg0) = m ((c.tc : Thread Cert.DYbIdeal.nD Cert.DYbIdeal.τ).loc Cert.DYbIdeal.main_arg0)
      ∧ m' ((c.tc : Thread Cert.DYbRefIdeal.nD Cert.DYbRefIdeal.τ).loc Cert.DYbRefIdeal.main_arg1) = m ((c.tc : Thread Cert.DYbIdeal.nD Cert.DYbIdeal.τ).loc Cert.DYbIdeal.main_arg1)) →
    ∃ (v0 : (c : Dev Cert.DYbIdeal.nD) → Buf (Elt Ideal) ((c.tc : Thread Cert.DYbIdeal.nD Cert.DYbIdeal.τ).loc Cert.DYbIdeal.main_v0)),
      θ_run (Cert.DYbIdeal.defs (F := Ideal)) (onTc (τ := Cert.DYbIdeal.τ) (Cert.DYbIdeal.main (F := Ideal))) ⟨m, fun _ => 0, g⟩ (fun r => ∀ c : Dev Cert.DYbIdeal.nD,
          r.2.mem ((c.tc : Thread Cert.DYbIdeal.nD Cert.DYbIdeal.τ).loc Cert.DYbIdeal.main_v0) = v0 c
          ∧ r.2.mem ((c.tc : Thread Cert.DYbIdeal.nD Cert.DYbIdeal.τ).loc Cert.DYbIdeal.main_arg0) = m ((c.tc : Thread Cert.DYbIdeal.nD Cert.DYbIdeal.τ).loc Cert.DYbIdeal.main_arg0)
          ∧ r.2.mem ((c.tc : Thread Cert.DYbIdeal.nD Cert.DYbIdeal.τ).loc Cert.DYbIdeal.main_arg1) = m ((c.tc : Thread Cert.DYbIdeal.nD Cert.DYbIdeal.τ).loc Cert.DYbIdeal.main_arg1))
      ∧ θ_run (Cert.DYbRefIdeal.defs (F := Ideal)) (onTc (τ := Cert.DYbRefIdeal.τ) (Cert.DYbRefIdeal.main (F := Ideal))) ⟨m', fun _ => 0, g'⟩ (fun r => ∀ c : Dev Cert.DYbRefIdeal.nD,
          r.2.mem ((c.tc : Thread Cert.DYbRefIdeal.nD Cert.DYbRefIdeal.τ).loc Cert.DYbRefIdeal.main_v5) = v0 c
          ∧ r.2.mem ((c.tc : Thread Cert.DYbRefIdeal.nD Cert.DYbRefIdeal.τ).loc Cert.DYbRefIdeal.main_arg0) = m' ((c.tc : Thread Cert.DYbRefIdeal.nD Cert.DYbRefIdeal.τ).loc Cert.DYbRefIdeal.main_arg0)
          ∧ r.2.mem ((c.tc : Thread Cert.DYbRefIdeal.nD Cert.DYbRefIdeal.τ).loc Cert.DYbRefIdeal.main_arg1) = m' ((c.tc : Thread Cert.DYbRefIdeal.nD Cert.DYbRefIdeal.τ).loc Cert.DYbRefIdeal.main_arg1))

def preserves_DwSsd_DwSsdIdeal : Prop :=
  True

def algebraic_DwSsdIdeal_DwSsdRefIdeal [hDwSsdIdeal : Cert.DwSsdIdeal.Facts] [hDwSsdRefIdeal : Cert.DwSsdRefIdeal.Facts] : Prop :=
  ∀ (m : (ℓ : Loc Cert.DwSsdIdeal.nD Cert.DwSsdIdeal.τ Cert.DwSsdIdeal.sig) → Buf (Elt Ideal) ℓ) (g : Dev Cert.DwSsdIdeal.nD → PrngReg)
    (m' : (ℓ : Loc Cert.DwSsdRefIdeal.nD Cert.DwSsdRefIdeal.τ Cert.DwSsdRefIdeal.sig) → Buf (Elt Ideal) ℓ) (g' : Dev Cert.DwSsdRefIdeal.nD → PrngReg), Pre_DwSsdIdeal m →
    (∀ c : Dev Cert.DwSsdIdeal.nD,
      m' ((c.tc : Thread Cert.DwSsdRefIdeal.nD Cert.DwSsdRefIdeal.τ).loc Cert.DwSsdRefIdeal.main_arg0) = m ((c.tc : Thread Cert.DwSsdIdeal.nD Cert.DwSsdIdeal.τ).loc Cert.DwSsdIdeal.main_arg0)
      ∧ m' ((c.tc : Thread Cert.DwSsdRefIdeal.nD Cert.DwSsdRefIdeal.τ).loc Cert.DwSsdRefIdeal.main_arg1) = m ((c.tc : Thread Cert.DwSsdIdeal.nD Cert.DwSsdIdeal.τ).loc Cert.DwSsdIdeal.main_arg1)) →
    ∃ (v0 : (c : Dev Cert.DwSsdIdeal.nD) → Buf (Elt Ideal) ((c.tc : Thread Cert.DwSsdIdeal.nD Cert.DwSsdIdeal.τ).loc Cert.DwSsdIdeal.main_v0)),
      θ_run (Cert.DwSsdIdeal.defs (F := Ideal)) (onTc (τ := Cert.DwSsdIdeal.τ) (Cert.DwSsdIdeal.main (F := Ideal))) ⟨m, fun _ => 0, g⟩ (fun r => ∀ c : Dev Cert.DwSsdIdeal.nD,
          r.2.mem ((c.tc : Thread Cert.DwSsdIdeal.nD Cert.DwSsdIdeal.τ).loc Cert.DwSsdIdeal.main_v0) = v0 c
          ∧ r.2.mem ((c.tc : Thread Cert.DwSsdIdeal.nD Cert.DwSsdIdeal.τ).loc Cert.DwSsdIdeal.main_arg0) = m ((c.tc : Thread Cert.DwSsdIdeal.nD Cert.DwSsdIdeal.τ).loc Cert.DwSsdIdeal.main_arg0)
          ∧ r.2.mem ((c.tc : Thread Cert.DwSsdIdeal.nD Cert.DwSsdIdeal.τ).loc Cert.DwSsdIdeal.main_arg1) = m ((c.tc : Thread Cert.DwSsdIdeal.nD Cert.DwSsdIdeal.τ).loc Cert.DwSsdIdeal.main_arg1))
      ∧ θ_run (Cert.DwSsdRefIdeal.defs (F := Ideal)) (onTc (τ := Cert.DwSsdRefIdeal.τ) (Cert.DwSsdRefIdeal.main (F := Ideal))) ⟨m', fun _ => 0, g'⟩ (fun r => ∀ c : Dev Cert.DwSsdRefIdeal.nD,
          r.2.mem ((c.tc : Thread Cert.DwSsdRefIdeal.nD Cert.DwSsdRefIdeal.τ).loc Cert.DwSsdRefIdeal.main_v6) = v0 c
          ∧ r.2.mem ((c.tc : Thread Cert.DwSsdRefIdeal.nD Cert.DwSsdRefIdeal.τ).loc Cert.DwSsdRefIdeal.main_arg0) = m' ((c.tc : Thread Cert.DwSsdRefIdeal.nD Cert.DwSsdRefIdeal.τ).loc Cert.DwSsdRefIdeal.main_arg0)
          ∧ r.2.mem ((c.tc : Thread Cert.DwSsdRefIdeal.nD Cert.DwSsdRefIdeal.τ).loc Cert.DwSsdRefIdeal.main_arg1) = m' ((c.tc : Thread Cert.DwSsdRefIdeal.nD Cert.DwSsdRefIdeal.τ).loc Cert.DwSsdRefIdeal.main_arg1))

def preserves_DuAg_DuAgIdeal : Prop :=
  True

def algebraic_DuAgIdeal_DuAgRefIdeal [hDuAgIdeal : Cert.DuAgIdeal.Facts] [hDuAgRefIdeal : Cert.DuAgRefIdeal.Facts] : Prop :=
  ∀ (m : (ℓ : Loc Cert.DuAgIdeal.nD Cert.DuAgIdeal.τ Cert.DuAgIdeal.sig) → Buf (Elt Ideal) ℓ) (g : Dev Cert.DuAgIdeal.nD → PrngReg)
    (m' : (ℓ : Loc Cert.DuAgRefIdeal.nD Cert.DuAgRefIdeal.τ Cert.DuAgRefIdeal.sig) → Buf (Elt Ideal) ℓ) (g' : Dev Cert.DuAgRefIdeal.nD → PrngReg), Pre_DuAgIdeal m →
    (∀ c : Dev Cert.DuAgIdeal.nD,
      m' ((c.tc : Thread Cert.DuAgRefIdeal.nD Cert.DuAgRefIdeal.τ).loc Cert.DuAgRefIdeal.main_arg0) = m ((c.tc : Thread Cert.DuAgIdeal.nD Cert.DuAgIdeal.τ).loc Cert.DuAgIdeal.main_arg0)
      ∧ m' ((c.tc : Thread Cert.DuAgRefIdeal.nD Cert.DuAgRefIdeal.τ).loc Cert.DuAgRefIdeal.main_arg1) = m ((c.tc : Thread Cert.DuAgIdeal.nD Cert.DuAgIdeal.τ).loc Cert.DuAgIdeal.main_arg1)
      ∧ m' ((c.tc : Thread Cert.DuAgRefIdeal.nD Cert.DuAgRefIdeal.τ).loc Cert.DuAgRefIdeal.main_arg2) = m ((c.tc : Thread Cert.DuAgIdeal.nD Cert.DuAgIdeal.τ).loc Cert.DuAgIdeal.main_arg2)) →
    ∃ (v0 : (c : Dev Cert.DuAgIdeal.nD) → Buf (Elt Ideal) ((c.tc : Thread Cert.DuAgIdeal.nD Cert.DuAgIdeal.τ).loc Cert.DuAgIdeal.main_v0)),
      θ_run (Cert.DuAgIdeal.defs (F := Ideal)) (onTc (τ := Cert.DuAgIdeal.τ) (Cert.DuAgIdeal.main (F := Ideal))) ⟨m, fun _ => 0, g⟩ (fun r => ∀ c : Dev Cert.DuAgIdeal.nD,
          r.2.mem ((c.tc : Thread Cert.DuAgIdeal.nD Cert.DuAgIdeal.τ).loc Cert.DuAgIdeal.main_v0) = v0 c
          ∧ r.2.mem ((c.tc : Thread Cert.DuAgIdeal.nD Cert.DuAgIdeal.τ).loc Cert.DuAgIdeal.main_arg0) = m ((c.tc : Thread Cert.DuAgIdeal.nD Cert.DuAgIdeal.τ).loc Cert.DuAgIdeal.main_arg0)
          ∧ r.2.mem ((c.tc : Thread Cert.DuAgIdeal.nD Cert.DuAgIdeal.τ).loc Cert.DuAgIdeal.main_arg1) = m ((c.tc : Thread Cert.DuAgIdeal.nD Cert.DuAgIdeal.τ).loc Cert.DuAgIdeal.main_arg1)
          ∧ r.2.mem ((c.tc : Thread Cert.DuAgIdeal.nD Cert.DuAgIdeal.τ).loc Cert.DuAgIdeal.main_arg2) = m ((c.tc : Thread Cert.DuAgIdeal.nD Cert.DuAgIdeal.τ).loc Cert.DuAgIdeal.main_arg2))
      ∧ θ_run (Cert.DuAgRefIdeal.defs (F := Ideal)) (onTc (τ := Cert.DuAgRefIdeal.τ) (Cert.DuAgRefIdeal.main (F := Ideal))) ⟨m', fun _ => 0, g'⟩ (fun r => ∀ c : Dev Cert.DuAgRefIdeal.nD,
          r.2.mem ((c.tc : Thread Cert.DuAgRefIdeal.nD Cert.DuAgRefIdeal.τ).loc Cert.DuAgRefIdeal.main_v5) = v0 c
          ∧ r.2.mem ((c.tc : Thread Cert.DuAgRefIdeal.nD Cert.DuAgRefIdeal.τ).loc Cert.DuAgRefIdeal.main_arg0) = m' ((c.tc : Thread Cert.DuAgRefIdeal.nD Cert.DuAgRefIdeal.τ).loc Cert.DuAgRefIdeal.main_arg0)
          ∧ r.2.mem ((c.tc : Thread Cert.DuAgRefIdeal.nD Cert.DuAgRefIdeal.τ).loc Cert.DuAgRefIdeal.main_arg1) = m' ((c.tc : Thread Cert.DuAgRefIdeal.nD Cert.DuAgRefIdeal.τ).loc Cert.DuAgRefIdeal.main_arg1)
          ∧ r.2.mem ((c.tc : Thread Cert.DuAgRefIdeal.nD Cert.DuAgRefIdeal.τ).loc Cert.DuAgRefIdeal.main_arg2) = m' ((c.tc : Thread Cert.DuAgRefIdeal.nD Cert.DuAgRefIdeal.τ).loc Cert.DuAgRefIdeal.main_arg2))

def preserves_DuZ_DuZIdeal : Prop :=
  True

def algebraic_DuZIdeal_DuZRefIdeal [hDuZIdeal : Cert.DuZIdeal.Facts] [hDuZRefIdeal : Cert.DuZRefIdeal.Facts] : Prop :=
  ∀ (m : (ℓ : Loc Cert.DuZIdeal.nD Cert.DuZIdeal.τ Cert.DuZIdeal.sig) → Buf (Elt Ideal) ℓ) (g : Dev Cert.DuZIdeal.nD → PrngReg)
    (m' : (ℓ : Loc Cert.DuZRefIdeal.nD Cert.DuZRefIdeal.τ Cert.DuZRefIdeal.sig) → Buf (Elt Ideal) ℓ) (g' : Dev Cert.DuZRefIdeal.nD → PrngReg), Pre_DuZIdeal m →
    (∀ c : Dev Cert.DuZIdeal.nD,
      m' ((c.tc : Thread Cert.DuZRefIdeal.nD Cert.DuZRefIdeal.τ).loc Cert.DuZRefIdeal.main_arg0) = m ((c.tc : Thread Cert.DuZIdeal.nD Cert.DuZIdeal.τ).loc Cert.DuZIdeal.main_arg0)
      ∧ m' ((c.tc : Thread Cert.DuZRefIdeal.nD Cert.DuZRefIdeal.τ).loc Cert.DuZRefIdeal.main_arg1) = m ((c.tc : Thread Cert.DuZIdeal.nD Cert.DuZIdeal.τ).loc Cert.DuZIdeal.main_arg1)
      ∧ m' ((c.tc : Thread Cert.DuZRefIdeal.nD Cert.DuZRefIdeal.τ).loc Cert.DuZRefIdeal.main_arg2) = m ((c.tc : Thread Cert.DuZIdeal.nD Cert.DuZIdeal.τ).loc Cert.DuZIdeal.main_arg2)) →
    ∃ (v0 : (c : Dev Cert.DuZIdeal.nD) → Buf (Elt Ideal) ((c.tc : Thread Cert.DuZIdeal.nD Cert.DuZIdeal.τ).loc Cert.DuZIdeal.main_v0)),
      θ_run (Cert.DuZIdeal.defs (F := Ideal)) (onTc (τ := Cert.DuZIdeal.τ) (Cert.DuZIdeal.main (F := Ideal))) ⟨m, fun _ => 0, g⟩ (fun r => ∀ c : Dev Cert.DuZIdeal.nD,
          r.2.mem ((c.tc : Thread Cert.DuZIdeal.nD Cert.DuZIdeal.τ).loc Cert.DuZIdeal.main_v0) = v0 c
          ∧ r.2.mem ((c.tc : Thread Cert.DuZIdeal.nD Cert.DuZIdeal.τ).loc Cert.DuZIdeal.main_arg0) = m ((c.tc : Thread Cert.DuZIdeal.nD Cert.DuZIdeal.τ).loc Cert.DuZIdeal.main_arg0)
          ∧ r.2.mem ((c.tc : Thread Cert.DuZIdeal.nD Cert.DuZIdeal.τ).loc Cert.DuZIdeal.main_arg1) = m ((c.tc : Thread Cert.DuZIdeal.nD Cert.DuZIdeal.τ).loc Cert.DuZIdeal.main_arg1)
          ∧ r.2.mem ((c.tc : Thread Cert.DuZIdeal.nD Cert.DuZIdeal.τ).loc Cert.DuZIdeal.main_arg2) = m ((c.tc : Thread Cert.DuZIdeal.nD Cert.DuZIdeal.τ).loc Cert.DuZIdeal.main_arg2))
      ∧ θ_run (Cert.DuZRefIdeal.defs (F := Ideal)) (onTc (τ := Cert.DuZRefIdeal.τ) (Cert.DuZRefIdeal.main (F := Ideal))) ⟨m', fun _ => 0, g'⟩ (fun r => ∀ c : Dev Cert.DuZRefIdeal.nD,
          r.2.mem ((c.tc : Thread Cert.DuZRefIdeal.nD Cert.DuZRefIdeal.τ).loc Cert.DuZRefIdeal.main_v5) = v0 c
          ∧ r.2.mem ((c.tc : Thread Cert.DuZRefIdeal.nD Cert.DuZRefIdeal.τ).loc Cert.DuZRefIdeal.main_arg0) = m' ((c.tc : Thread Cert.DuZRefIdeal.nD Cert.DuZRefIdeal.τ).loc Cert.DuZRefIdeal.main_arg0)
          ∧ r.2.mem ((c.tc : Thread Cert.DuZRefIdeal.nD Cert.DuZRefIdeal.τ).loc Cert.DuZRefIdeal.main_arg1) = m' ((c.tc : Thread Cert.DuZRefIdeal.nD Cert.DuZRefIdeal.τ).loc Cert.DuZRefIdeal.main_arg1)
          ∧ r.2.mem ((c.tc : Thread Cert.DuZRefIdeal.nD Cert.DuZRefIdeal.τ).loc Cert.DuZRefIdeal.main_arg2) = m' ((c.tc : Thread Cert.DuZRefIdeal.nD Cert.DuZRefIdeal.τ).loc Cert.DuZRefIdeal.main_arg2))

def preserves_DuX_DuXIdeal : Prop :=
  True

def algebraic_DuXIdeal_DuXRefIdeal [hDuXIdeal : Cert.DuXIdeal.Facts] [hDuXRefIdeal : Cert.DuXRefIdeal.Facts] : Prop :=
  ∀ (m : (ℓ : Loc Cert.DuXIdeal.nD Cert.DuXIdeal.τ Cert.DuXIdeal.sig) → Buf (Elt Ideal) ℓ) (g : Dev Cert.DuXIdeal.nD → PrngReg)
    (m' : (ℓ : Loc Cert.DuXRefIdeal.nD Cert.DuXRefIdeal.τ Cert.DuXRefIdeal.sig) → Buf (Elt Ideal) ℓ) (g' : Dev Cert.DuXRefIdeal.nD → PrngReg), Pre_DuXIdeal m →
    (∀ c : Dev Cert.DuXIdeal.nD,
      m' ((c.tc : Thread Cert.DuXRefIdeal.nD Cert.DuXRefIdeal.τ).loc Cert.DuXRefIdeal.main_arg0) = m ((c.tc : Thread Cert.DuXIdeal.nD Cert.DuXIdeal.τ).loc Cert.DuXIdeal.main_arg0)
      ∧ m' ((c.tc : Thread Cert.DuXRefIdeal.nD Cert.DuXRefIdeal.τ).loc Cert.DuXRefIdeal.main_arg1) = m ((c.tc : Thread Cert.DuXIdeal.nD Cert.DuXIdeal.τ).loc Cert.DuXIdeal.main_arg1)
      ∧ m' ((c.tc : Thread Cert.DuXRefIdeal.nD Cert.DuXRefIdeal.τ).loc Cert.DuXRefIdeal.main_arg2) = m ((c.tc : Thread Cert.DuXIdeal.nD Cert.DuXIdeal.τ).loc Cert.DuXIdeal.main_arg2)) →
    ∃ (v0 : (c : Dev Cert.DuXIdeal.nD) → Buf (Elt Ideal) ((c.tc : Thread Cert.DuXIdeal.nD Cert.DuXIdeal.τ).loc Cert.DuXIdeal.main_v0)),
      θ_run (Cert.DuXIdeal.defs (F := Ideal)) (onTc (τ := Cert.DuXIdeal.τ) (Cert.DuXIdeal.main (F := Ideal))) ⟨m, fun _ => 0, g⟩ (fun r => ∀ c : Dev Cert.DuXIdeal.nD,
          r.2.mem ((c.tc : Thread Cert.DuXIdeal.nD Cert.DuXIdeal.τ).loc Cert.DuXIdeal.main_v0) = v0 c
          ∧ r.2.mem ((c.tc : Thread Cert.DuXIdeal.nD Cert.DuXIdeal.τ).loc Cert.DuXIdeal.main_arg0) = m ((c.tc : Thread Cert.DuXIdeal.nD Cert.DuXIdeal.τ).loc Cert.DuXIdeal.main_arg0)
          ∧ r.2.mem ((c.tc : Thread Cert.DuXIdeal.nD Cert.DuXIdeal.τ).loc Cert.DuXIdeal.main_arg1) = m ((c.tc : Thread Cert.DuXIdeal.nD Cert.DuXIdeal.τ).loc Cert.DuXIdeal.main_arg1)
          ∧ r.2.mem ((c.tc : Thread Cert.DuXIdeal.nD Cert.DuXIdeal.τ).loc Cert.DuXIdeal.main_arg2) = m ((c.tc : Thread Cert.DuXIdeal.nD Cert.DuXIdeal.τ).loc Cert.DuXIdeal.main_arg2))
      ∧ θ_run (Cert.DuXRefIdeal.defs (F := Ideal)) (onTc (τ := Cert.DuXRefIdeal.τ) (Cert.DuXRefIdeal.main (F := Ideal))) ⟨m', fun _ => 0, g'⟩ (fun r => ∀ c : Dev Cert.DuXRefIdeal.nD,
          r.2.mem ((c.tc : Thread Cert.DuXRefIdeal.nD Cert.DuXRefIdeal.τ).loc Cert.DuXRefIdeal.main_v5) = v0 c
          ∧ r.2.mem ((c.tc : Thread Cert.DuXRefIdeal.nD Cert.DuXRefIdeal.τ).loc Cert.DuXRefIdeal.main_arg0) = m' ((c.tc : Thread Cert.DuXRefIdeal.nD Cert.DuXRefIdeal.τ).loc Cert.DuXRefIdeal.main_arg0)
          ∧ r.2.mem ((c.tc : Thread Cert.DuXRefIdeal.nD Cert.DuXRefIdeal.τ).loc Cert.DuXRefIdeal.main_arg1) = m' ((c.tc : Thread Cert.DuXRefIdeal.nD Cert.DuXRefIdeal.τ).loc Cert.DuXRefIdeal.main_arg1)
          ∧ r.2.mem ((c.tc : Thread Cert.DuXRefIdeal.nD Cert.DuXRefIdeal.τ).loc Cert.DuXRefIdeal.main_arg2) = m' ((c.tc : Thread Cert.DuXRefIdeal.nD Cert.DuXRefIdeal.τ).loc Cert.DuXRefIdeal.main_arg2))

def preserves_DuDt_DuDtIdeal : Prop :=
  True

def algebraic_DuDtIdeal_DuDtRefIdeal [hDuDtIdeal : Cert.DuDtIdeal.Facts] [hDuDtRefIdeal : Cert.DuDtRefIdeal.Facts] : Prop :=
  ∀ (m : (ℓ : Loc Cert.DuDtIdeal.nD Cert.DuDtIdeal.τ Cert.DuDtIdeal.sig) → Buf (Elt Ideal) ℓ) (g : Dev Cert.DuDtIdeal.nD → PrngReg)
    (m' : (ℓ : Loc Cert.DuDtRefIdeal.nD Cert.DuDtRefIdeal.τ Cert.DuDtRefIdeal.sig) → Buf (Elt Ideal) ℓ) (g' : Dev Cert.DuDtRefIdeal.nD → PrngReg), Pre_DuDtIdeal m →
    (∀ c : Dev Cert.DuDtIdeal.nD,
      m' ((c.tc : Thread Cert.DuDtRefIdeal.nD Cert.DuDtRefIdeal.τ).loc Cert.DuDtRefIdeal.main_arg0) = m ((c.tc : Thread Cert.DuDtIdeal.nD Cert.DuDtIdeal.τ).loc Cert.DuDtIdeal.main_arg0)
      ∧ m' ((c.tc : Thread Cert.DuDtRefIdeal.nD Cert.DuDtRefIdeal.τ).loc Cert.DuDtRefIdeal.main_arg1) = m ((c.tc : Thread Cert.DuDtIdeal.nD Cert.DuDtIdeal.τ).loc Cert.DuDtIdeal.main_arg1)
      ∧ m' ((c.tc : Thread Cert.DuDtRefIdeal.nD Cert.DuDtRefIdeal.τ).loc Cert.DuDtRefIdeal.main_arg2) = m ((c.tc : Thread Cert.DuDtIdeal.nD Cert.DuDtIdeal.τ).loc Cert.DuDtIdeal.main_arg2)) →
    ∃ (v0 : (c : Dev Cert.DuDtIdeal.nD) → Buf (Elt Ideal) ((c.tc : Thread Cert.DuDtIdeal.nD Cert.DuDtIdeal.τ).loc Cert.DuDtIdeal.main_v0)),
      θ_run (Cert.DuDtIdeal.defs (F := Ideal)) (onTc (τ := Cert.DuDtIdeal.τ) (Cert.DuDtIdeal.main (F := Ideal))) ⟨m, fun _ => 0, g⟩ (fun r => ∀ c : Dev Cert.DuDtIdeal.nD,
          r.2.mem ((c.tc : Thread Cert.DuDtIdeal.nD Cert.DuDtIdeal.τ).loc Cert.DuDtIdeal.main_v0) = v0 c
          ∧ r.2.mem ((c.tc : Thread Cert.DuDtIdeal.nD Cert.DuDtIdeal.τ).loc Cert.DuDtIdeal.main_arg0) = m ((c.tc : Thread Cert.DuDtIdeal.nD Cert.DuDtIdeal.τ).loc Cert.DuDtIdeal.main_arg0)
          ∧ r.2.mem ((c.tc : Thread Cert.DuDtIdeal.nD Cert.DuDtIdeal.τ).loc Cert.DuDtIdeal.main_arg1) = m ((c.tc : Thread Cert.DuDtIdeal.nD Cert.DuDtIdeal.τ).loc Cert.DuDtIdeal.main_arg1)
          ∧ r.2.mem ((c.tc : Thread Cert.DuDtIdeal.nD Cert.DuDtIdeal.τ).loc Cert.DuDtIdeal.main_arg2) = m ((c.tc : Thread Cert.DuDtIdeal.nD Cert.DuDtIdeal.τ).loc Cert.DuDtIdeal.main_arg2))
      ∧ θ_run (Cert.DuDtRefIdeal.defs (F := Ideal)) (onTc (τ := Cert.DuDtRefIdeal.τ) (Cert.DuDtRefIdeal.main (F := Ideal))) ⟨m', fun _ => 0, g'⟩ (fun r => ∀ c : Dev Cert.DuDtRefIdeal.nD,
          r.2.mem ((c.tc : Thread Cert.DuDtRefIdeal.nD Cert.DuDtRefIdeal.τ).loc Cert.DuDtRefIdeal.main_v4) = v0 c
          ∧ r.2.mem ((c.tc : Thread Cert.DuDtRefIdeal.nD Cert.DuDtRefIdeal.τ).loc Cert.DuDtRefIdeal.main_arg0) = m' ((c.tc : Thread Cert.DuDtRefIdeal.nD Cert.DuDtRefIdeal.τ).loc Cert.DuDtRefIdeal.main_arg0)
          ∧ r.2.mem ((c.tc : Thread Cert.DuDtRefIdeal.nD Cert.DuDtRefIdeal.τ).loc Cert.DuDtRefIdeal.main_arg1) = m' ((c.tc : Thread Cert.DuDtRefIdeal.nD Cert.DuDtRefIdeal.τ).loc Cert.DuDtRefIdeal.main_arg1)
          ∧ r.2.mem ((c.tc : Thread Cert.DuDtRefIdeal.nD Cert.DuDtRefIdeal.τ).loc Cert.DuDtRefIdeal.main_arg2) = m' ((c.tc : Thread Cert.DuDtRefIdeal.nD Cert.DuDtRefIdeal.τ).loc Cert.DuDtRefIdeal.main_arg2))

def preserves_DuQkv_DuQkvIdeal : Prop :=
  True

def algebraic_DuQkvIdeal_DuQkvRefIdeal [hDuQkvIdeal : Cert.DuQkvIdeal.Facts] [hDuQkvRefIdeal : Cert.DuQkvRefIdeal.Facts] : Prop :=
  ∀ (m : (ℓ : Loc Cert.DuQkvIdeal.nD Cert.DuQkvIdeal.τ Cert.DuQkvIdeal.sig) → Buf (Elt Ideal) ℓ) (g : Dev Cert.DuQkvIdeal.nD → PrngReg)
    (m' : (ℓ : Loc Cert.DuQkvRefIdeal.nD Cert.DuQkvRefIdeal.τ Cert.DuQkvRefIdeal.sig) → Buf (Elt Ideal) ℓ) (g' : Dev Cert.DuQkvRefIdeal.nD → PrngReg), Pre_DuQkvIdeal m →
    (∀ c : Dev Cert.DuQkvIdeal.nD,
      m' ((c.tc : Thread Cert.DuQkvRefIdeal.nD Cert.DuQkvRefIdeal.τ).loc Cert.DuQkvRefIdeal.main_arg0) = m ((c.tc : Thread Cert.DuQkvIdeal.nD Cert.DuQkvIdeal.τ).loc Cert.DuQkvIdeal.main_arg0)
      ∧ m' ((c.tc : Thread Cert.DuQkvRefIdeal.nD Cert.DuQkvRefIdeal.τ).loc Cert.DuQkvRefIdeal.main_arg1) = m ((c.tc : Thread Cert.DuQkvIdeal.nD Cert.DuQkvIdeal.τ).loc Cert.DuQkvIdeal.main_arg1)
      ∧ m' ((c.tc : Thread Cert.DuQkvRefIdeal.nD Cert.DuQkvRefIdeal.τ).loc Cert.DuQkvRefIdeal.main_arg2) = m ((c.tc : Thread Cert.DuQkvIdeal.nD Cert.DuQkvIdeal.τ).loc Cert.DuQkvIdeal.main_arg2)) →
    ∃ (v0 : (c : Dev Cert.DuQkvIdeal.nD) → Buf (Elt Ideal) ((c.tc : Thread Cert.DuQkvIdeal.nD Cert.DuQkvIdeal.τ).loc Cert.DuQkvIdeal.main_v0)),
      θ_run (Cert.DuQkvIdeal.defs (F := Ideal)) (onTc (τ := Cert.DuQkvIdeal.τ) (Cert.DuQkvIdeal.main (F := Ideal))) ⟨m, fun _ => 0, g⟩ (fun r => ∀ c : Dev Cert.DuQkvIdeal.nD,
          r.2.mem ((c.tc : Thread Cert.DuQkvIdeal.nD Cert.DuQkvIdeal.τ).loc Cert.DuQkvIdeal.main_v0) = v0 c
          ∧ r.2.mem ((c.tc : Thread Cert.DuQkvIdeal.nD Cert.DuQkvIdeal.τ).loc Cert.DuQkvIdeal.main_arg0) = m ((c.tc : Thread Cert.DuQkvIdeal.nD Cert.DuQkvIdeal.τ).loc Cert.DuQkvIdeal.main_arg0)
          ∧ r.2.mem ((c.tc : Thread Cert.DuQkvIdeal.nD Cert.DuQkvIdeal.τ).loc Cert.DuQkvIdeal.main_arg1) = m ((c.tc : Thread Cert.DuQkvIdeal.nD Cert.DuQkvIdeal.τ).loc Cert.DuQkvIdeal.main_arg1)
          ∧ r.2.mem ((c.tc : Thread Cert.DuQkvIdeal.nD Cert.DuQkvIdeal.τ).loc Cert.DuQkvIdeal.main_arg2) = m ((c.tc : Thread Cert.DuQkvIdeal.nD Cert.DuQkvIdeal.τ).loc Cert.DuQkvIdeal.main_arg2))
      ∧ θ_run (Cert.DuQkvRefIdeal.defs (F := Ideal)) (onTc (τ := Cert.DuQkvRefIdeal.τ) (Cert.DuQkvRefIdeal.main (F := Ideal))) ⟨m', fun _ => 0, g'⟩ (fun r => ∀ c : Dev Cert.DuQkvRefIdeal.nD,
          r.2.mem ((c.tc : Thread Cert.DuQkvRefIdeal.nD Cert.DuQkvRefIdeal.τ).loc Cert.DuQkvRefIdeal.main_v5) = v0 c
          ∧ r.2.mem ((c.tc : Thread Cert.DuQkvRefIdeal.nD Cert.DuQkvRefIdeal.τ).loc Cert.DuQkvRefIdeal.main_arg0) = m' ((c.tc : Thread Cert.DuQkvRefIdeal.nD Cert.DuQkvRefIdeal.τ).loc Cert.DuQkvRefIdeal.main_arg0)
          ∧ r.2.mem ((c.tc : Thread Cert.DuQkvRefIdeal.nD Cert.DuQkvRefIdeal.τ).loc Cert.DuQkvRefIdeal.main_arg1) = m' ((c.tc : Thread Cert.DuQkvRefIdeal.nD Cert.DuQkvRefIdeal.τ).loc Cert.DuQkvRefIdeal.main_arg1)
          ∧ r.2.mem ((c.tc : Thread Cert.DuQkvRefIdeal.nD Cert.DuQkvRefIdeal.τ).loc Cert.DuQkvRefIdeal.main_arg2) = m' ((c.tc : Thread Cert.DuQkvRefIdeal.nD Cert.DuQkvRefIdeal.τ).loc Cert.DuQkvRefIdeal.main_arg2))

def preserves_DwZ_DwZIdeal : Prop :=
  True

def algebraic_DwZIdeal_DwZRefIdeal [hDwZIdeal : Cert.DwZIdeal.Facts] [hDwZRefIdeal : Cert.DwZRefIdeal.Facts] : Prop :=
  ∀ (m : (ℓ : Loc Cert.DwZIdeal.nD Cert.DwZIdeal.τ Cert.DwZIdeal.sig) → Buf (Elt Ideal) ℓ) (g : Dev Cert.DwZIdeal.nD → PrngReg)
    (m' : (ℓ : Loc Cert.DwZRefIdeal.nD Cert.DwZRefIdeal.τ Cert.DwZRefIdeal.sig) → Buf (Elt Ideal) ℓ) (g' : Dev Cert.DwZRefIdeal.nD → PrngReg), Pre_DwZIdeal m →
    (∀ c : Dev Cert.DwZIdeal.nD,
      m' ((c.tc : Thread Cert.DwZRefIdeal.nD Cert.DwZRefIdeal.τ).loc Cert.DwZRefIdeal.main_arg0) = m ((c.tc : Thread Cert.DwZIdeal.nD Cert.DwZIdeal.τ).loc Cert.DwZIdeal.main_arg0)
      ∧ m' ((c.tc : Thread Cert.DwZRefIdeal.nD Cert.DwZRefIdeal.τ).loc Cert.DwZRefIdeal.main_arg1) = m ((c.tc : Thread Cert.DwZIdeal.nD Cert.DwZIdeal.τ).loc Cert.DwZIdeal.main_arg1)) →
    ∃ (v0 : (c : Dev Cert.DwZIdeal.nD) → Buf (Elt Ideal) ((c.tc : Thread Cert.DwZIdeal.nD Cert.DwZIdeal.τ).loc Cert.DwZIdeal.main_v0)),
      θ_run (Cert.DwZIdeal.defs (F := Ideal)) (onTc (τ := Cert.DwZIdeal.τ) (Cert.DwZIdeal.main (F := Ideal))) ⟨m, fun _ => 0, g⟩ (fun r => ∀ c : Dev Cert.DwZIdeal.nD,
          r.2.mem ((c.tc : Thread Cert.DwZIdeal.nD Cert.DwZIdeal.τ).loc Cert.DwZIdeal.main_v0) = v0 c
          ∧ r.2.mem ((c.tc : Thread Cert.DwZIdeal.nD Cert.DwZIdeal.τ).loc Cert.DwZIdeal.main_arg0) = m ((c.tc : Thread Cert.DwZIdeal.nD Cert.DwZIdeal.τ).loc Cert.DwZIdeal.main_arg0)
          ∧ r.2.mem ((c.tc : Thread Cert.DwZIdeal.nD Cert.DwZIdeal.τ).loc Cert.DwZIdeal.main_arg1) = m ((c.tc : Thread Cert.DwZIdeal.nD Cert.DwZIdeal.τ).loc Cert.DwZIdeal.main_arg1))
      ∧ θ_run (Cert.DwZRefIdeal.defs (F := Ideal)) (onTc (τ := Cert.DwZRefIdeal.τ) (Cert.DwZRefIdeal.main (F := Ideal))) ⟨m', fun _ => 0, g'⟩ (fun r => ∀ c : Dev Cert.DwZRefIdeal.nD,
          r.2.mem ((c.tc : Thread Cert.DwZRefIdeal.nD Cert.DwZRefIdeal.τ).loc Cert.DwZRefIdeal.main_v6) = v0 c
          ∧ r.2.mem ((c.tc : Thread Cert.DwZRefIdeal.nD Cert.DwZRefIdeal.τ).loc Cert.DwZRefIdeal.main_arg0) = m' ((c.tc : Thread Cert.DwZRefIdeal.nD Cert.DwZRefIdeal.τ).loc Cert.DwZRefIdeal.main_arg0)
          ∧ r.2.mem ((c.tc : Thread Cert.DwZRefIdeal.nD Cert.DwZRefIdeal.τ).loc Cert.DwZRefIdeal.main_arg1) = m' ((c.tc : Thread Cert.DwZRefIdeal.nD Cert.DwZRefIdeal.τ).loc Cert.DwZRefIdeal.main_arg1))

def preserves_DwX_DwXIdeal : Prop :=
  True

def algebraic_DwXIdeal_DwXRefIdeal [hDwXIdeal : Cert.DwXIdeal.Facts] [hDwXRefIdeal : Cert.DwXRefIdeal.Facts] : Prop :=
  ∀ (m : (ℓ : Loc Cert.DwXIdeal.nD Cert.DwXIdeal.τ Cert.DwXIdeal.sig) → Buf (Elt Ideal) ℓ) (g : Dev Cert.DwXIdeal.nD → PrngReg)
    (m' : (ℓ : Loc Cert.DwXRefIdeal.nD Cert.DwXRefIdeal.τ Cert.DwXRefIdeal.sig) → Buf (Elt Ideal) ℓ) (g' : Dev Cert.DwXRefIdeal.nD → PrngReg), Pre_DwXIdeal m →
    (∀ c : Dev Cert.DwXIdeal.nD,
      m' ((c.tc : Thread Cert.DwXRefIdeal.nD Cert.DwXRefIdeal.τ).loc Cert.DwXRefIdeal.main_arg0) = m ((c.tc : Thread Cert.DwXIdeal.nD Cert.DwXIdeal.τ).loc Cert.DwXIdeal.main_arg0)
      ∧ m' ((c.tc : Thread Cert.DwXRefIdeal.nD Cert.DwXRefIdeal.τ).loc Cert.DwXRefIdeal.main_arg1) = m ((c.tc : Thread Cert.DwXIdeal.nD Cert.DwXIdeal.τ).loc Cert.DwXIdeal.main_arg1)) →
    ∃ (v0 : (c : Dev Cert.DwXIdeal.nD) → Buf (Elt Ideal) ((c.tc : Thread Cert.DwXIdeal.nD Cert.DwXIdeal.τ).loc Cert.DwXIdeal.main_v0)),
      θ_run (Cert.DwXIdeal.defs (F := Ideal)) (onTc (τ := Cert.DwXIdeal.τ) (Cert.DwXIdeal.main (F := Ideal))) ⟨m, fun _ => 0, g⟩ (fun r => ∀ c : Dev Cert.DwXIdeal.nD,
          r.2.mem ((c.tc : Thread Cert.DwXIdeal.nD Cert.DwXIdeal.τ).loc Cert.DwXIdeal.main_v0) = v0 c
          ∧ r.2.mem ((c.tc : Thread Cert.DwXIdeal.nD Cert.DwXIdeal.τ).loc Cert.DwXIdeal.main_arg0) = m ((c.tc : Thread Cert.DwXIdeal.nD Cert.DwXIdeal.τ).loc Cert.DwXIdeal.main_arg0)
          ∧ r.2.mem ((c.tc : Thread Cert.DwXIdeal.nD Cert.DwXIdeal.τ).loc Cert.DwXIdeal.main_arg1) = m ((c.tc : Thread Cert.DwXIdeal.nD Cert.DwXIdeal.τ).loc Cert.DwXIdeal.main_arg1))
      ∧ θ_run (Cert.DwXRefIdeal.defs (F := Ideal)) (onTc (τ := Cert.DwXRefIdeal.τ) (Cert.DwXRefIdeal.main (F := Ideal))) ⟨m', fun _ => 0, g'⟩ (fun r => ∀ c : Dev Cert.DwXRefIdeal.nD,
          r.2.mem ((c.tc : Thread Cert.DwXRefIdeal.nD Cert.DwXRefIdeal.τ).loc Cert.DwXRefIdeal.main_v6) = v0 c
          ∧ r.2.mem ((c.tc : Thread Cert.DwXRefIdeal.nD Cert.DwXRefIdeal.τ).loc Cert.DwXRefIdeal.main_arg0) = m' ((c.tc : Thread Cert.DwXRefIdeal.nD Cert.DwXRefIdeal.τ).loc Cert.DwXRefIdeal.main_arg0)
          ∧ r.2.mem ((c.tc : Thread Cert.DwXRefIdeal.nD Cert.DwXRefIdeal.τ).loc Cert.DwXRefIdeal.main_arg1) = m' ((c.tc : Thread Cert.DwXRefIdeal.nD Cert.DwXRefIdeal.τ).loc Cert.DwXRefIdeal.main_arg1))

def preserves_DwDt_DwDtIdeal : Prop :=
  True

def algebraic_DwDtIdeal_DwDtRefIdeal [hDwDtIdeal : Cert.DwDtIdeal.Facts] [hDwDtRefIdeal : Cert.DwDtRefIdeal.Facts] : Prop :=
  ∀ (m : (ℓ : Loc Cert.DwDtIdeal.nD Cert.DwDtIdeal.τ Cert.DwDtIdeal.sig) → Buf (Elt Ideal) ℓ) (g : Dev Cert.DwDtIdeal.nD → PrngReg)
    (m' : (ℓ : Loc Cert.DwDtRefIdeal.nD Cert.DwDtRefIdeal.τ Cert.DwDtRefIdeal.sig) → Buf (Elt Ideal) ℓ) (g' : Dev Cert.DwDtRefIdeal.nD → PrngReg), Pre_DwDtIdeal m →
    (∀ c : Dev Cert.DwDtIdeal.nD,
      m' ((c.tc : Thread Cert.DwDtRefIdeal.nD Cert.DwDtRefIdeal.τ).loc Cert.DwDtRefIdeal.main_arg0) = m ((c.tc : Thread Cert.DwDtIdeal.nD Cert.DwDtIdeal.τ).loc Cert.DwDtIdeal.main_arg0)
      ∧ m' ((c.tc : Thread Cert.DwDtRefIdeal.nD Cert.DwDtRefIdeal.τ).loc Cert.DwDtRefIdeal.main_arg1) = m ((c.tc : Thread Cert.DwDtIdeal.nD Cert.DwDtIdeal.τ).loc Cert.DwDtIdeal.main_arg1)) →
    ∃ (v0 : (c : Dev Cert.DwDtIdeal.nD) → Buf (Elt Ideal) ((c.tc : Thread Cert.DwDtIdeal.nD Cert.DwDtIdeal.τ).loc Cert.DwDtIdeal.main_v0)),
      θ_run (Cert.DwDtIdeal.defs (F := Ideal)) (onTc (τ := Cert.DwDtIdeal.τ) (Cert.DwDtIdeal.main (F := Ideal))) ⟨m, fun _ => 0, g⟩ (fun r => ∀ c : Dev Cert.DwDtIdeal.nD,
          r.2.mem ((c.tc : Thread Cert.DwDtIdeal.nD Cert.DwDtIdeal.τ).loc Cert.DwDtIdeal.main_v0) = v0 c
          ∧ r.2.mem ((c.tc : Thread Cert.DwDtIdeal.nD Cert.DwDtIdeal.τ).loc Cert.DwDtIdeal.main_arg0) = m ((c.tc : Thread Cert.DwDtIdeal.nD Cert.DwDtIdeal.τ).loc Cert.DwDtIdeal.main_arg0)
          ∧ r.2.mem ((c.tc : Thread Cert.DwDtIdeal.nD Cert.DwDtIdeal.τ).loc Cert.DwDtIdeal.main_arg1) = m ((c.tc : Thread Cert.DwDtIdeal.nD Cert.DwDtIdeal.τ).loc Cert.DwDtIdeal.main_arg1))
      ∧ θ_run (Cert.DwDtRefIdeal.defs (F := Ideal)) (onTc (τ := Cert.DwDtRefIdeal.τ) (Cert.DwDtRefIdeal.main (F := Ideal))) ⟨m', fun _ => 0, g'⟩ (fun r => ∀ c : Dev Cert.DwDtRefIdeal.nD,
          r.2.mem ((c.tc : Thread Cert.DwDtRefIdeal.nD Cert.DwDtRefIdeal.τ).loc Cert.DwDtRefIdeal.main_v5) = v0 c
          ∧ r.2.mem ((c.tc : Thread Cert.DwDtRefIdeal.nD Cert.DwDtRefIdeal.τ).loc Cert.DwDtRefIdeal.main_arg0) = m' ((c.tc : Thread Cert.DwDtRefIdeal.nD Cert.DwDtRefIdeal.τ).loc Cert.DwDtRefIdeal.main_arg0)
          ∧ r.2.mem ((c.tc : Thread Cert.DwDtRefIdeal.nD Cert.DwDtRefIdeal.τ).loc Cert.DwDtRefIdeal.main_arg1) = m' ((c.tc : Thread Cert.DwDtRefIdeal.nD Cert.DwDtRefIdeal.τ).loc Cert.DwDtRefIdeal.main_arg1))

def preserves_DwQkv_DwQkvIdeal : Prop :=
  True

def algebraic_DwQkvIdeal_DwQkvRefIdeal [hDwQkvIdeal : Cert.DwQkvIdeal.Facts] [hDwQkvRefIdeal : Cert.DwQkvRefIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.DwQkvRefIdeal.nD Cert.DwQkvRefIdeal.τ Cert.DwQkvRefIdeal.sig) → Buf (Elt Ideal) ℓ) (g' : Dev Cert.DwQkvRefIdeal.nD → PrngReg), Pre_DwQkvIdeal m →
    (∀ c : Dev Cert.DwQkvIdeal.nD,
      m' ((c.tc : Thread Cert.DwQkvRefIdeal.nD Cert.DwQkvRefIdeal.τ).loc Cert.DwQkvRefIdeal.main_arg0) = m ((c.tc : Thread Cert.DwQkvIdeal.nD Cert.DwQkvIdeal.τ).loc Cert.DwQkvIdeal.main_arg0)
      ∧ m' ((c.tc : Thread Cert.DwQkvRefIdeal.nD Cert.DwQkvRefIdeal.τ).loc Cert.DwQkvRefIdeal.main_arg1) = m ((c.tc : Thread Cert.DwQkvIdeal.nD Cert.DwQkvIdeal.τ).loc Cert.DwQkvIdeal.main_arg1)) →
    ∃ (v0 : (c : Dev Cert.DwQkvIdeal.nD) → Buf (Elt Ideal) ((c.tc : Thread Cert.DwQkvIdeal.nD Cert.DwQkvIdeal.τ).loc Cert.DwQkvIdeal.main_v0)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v0) = v0 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1))
      ∧ θ_run (Cert.DwQkvRefIdeal.defs (F := Ideal)) (onTc (τ := Cert.DwQkvRefIdeal.τ) (Cert.DwQkvRefIdeal.main (F := Ideal))) ⟨m', fun _ => 0, g'⟩ (fun r => ∀ c : Dev Cert.DwQkvRefIdeal.nD,
          r.2.mem ((c.tc : Thread Cert.DwQkvRefIdeal.nD Cert.DwQkvRefIdeal.τ).loc Cert.DwQkvRefIdeal.main_v6) = v0 c
          ∧ r.2.mem ((c.tc : Thread Cert.DwQkvRefIdeal.nD Cert.DwQkvRefIdeal.τ).loc Cert.DwQkvRefIdeal.main_arg0) = m' ((c.tc : Thread Cert.DwQkvRefIdeal.nD Cert.DwQkvRefIdeal.τ).loc Cert.DwQkvRefIdeal.main_arg0)
          ∧ r.2.mem ((c.tc : Thread Cert.DwQkvRefIdeal.nD Cert.DwQkvRefIdeal.τ).loc Cert.DwQkvRefIdeal.main_arg1) = m' ((c.tc : Thread Cert.DwQkvRefIdeal.nD Cert.DwQkvRefIdeal.τ).loc Cert.DwQkvRefIdeal.main_arg1))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v0)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v0) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v2) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1))

def preserves_ProjZ_ProjZIdeal : Prop :=
  True

def algebraic_ProjZIdeal_ProjZRefIdeal [hProjZIdeal : Cert.ProjZIdeal.Facts] [hProjZRefIdeal : Cert.ProjZRefIdeal.Facts] : Prop :=
  ∀ (m : (ℓ : Loc Cert.ProjZIdeal.nD Cert.ProjZIdeal.τ Cert.ProjZIdeal.sig) → Buf (Elt Ideal) ℓ) (g : Dev Cert.ProjZIdeal.nD → PrngReg)
    (m' : (ℓ : Loc Cert.ProjZRefIdeal.nD Cert.ProjZRefIdeal.τ Cert.ProjZRefIdeal.sig) → Buf (Elt Ideal) ℓ) (g' : Dev Cert.ProjZRefIdeal.nD → PrngReg), Pre_ProjZIdeal m →
    (∀ c : Dev Cert.ProjZIdeal.nD,
      m' ((c.tc : Thread Cert.ProjZRefIdeal.nD Cert.ProjZRefIdeal.τ).loc Cert.ProjZRefIdeal.main_arg0) = m ((c.tc : Thread Cert.ProjZIdeal.nD Cert.ProjZIdeal.τ).loc Cert.ProjZIdeal.main_arg0)
      ∧ m' ((c.tc : Thread Cert.ProjZRefIdeal.nD Cert.ProjZRefIdeal.τ).loc Cert.ProjZRefIdeal.main_arg1) = m ((c.tc : Thread Cert.ProjZIdeal.nD Cert.ProjZIdeal.τ).loc Cert.ProjZIdeal.main_arg1)) →
    ∃ (v0 : (c : Dev Cert.ProjZIdeal.nD) → Buf (Elt Ideal) ((c.tc : Thread Cert.ProjZIdeal.nD Cert.ProjZIdeal.τ).loc Cert.ProjZIdeal.main_v0)),
      θ_run (Cert.ProjZIdeal.defs (F := Ideal)) (onTc (τ := Cert.ProjZIdeal.τ) (Cert.ProjZIdeal.main (F := Ideal))) ⟨m, fun _ => 0, g⟩ (fun r => ∀ c : Dev Cert.ProjZIdeal.nD,
          r.2.mem ((c.tc : Thread Cert.ProjZIdeal.nD Cert.ProjZIdeal.τ).loc Cert.ProjZIdeal.main_v0) = v0 c
          ∧ r.2.mem ((c.tc : Thread Cert.ProjZIdeal.nD Cert.ProjZIdeal.τ).loc Cert.ProjZIdeal.main_arg0) = m ((c.tc : Thread Cert.ProjZIdeal.nD Cert.ProjZIdeal.τ).loc Cert.ProjZIdeal.main_arg0)
          ∧ r.2.mem ((c.tc : Thread Cert.ProjZIdeal.nD Cert.ProjZIdeal.τ).loc Cert.ProjZIdeal.main_arg1) = m ((c.tc : Thread Cert.ProjZIdeal.nD Cert.ProjZIdeal.τ).loc Cert.ProjZIdeal.main_arg1))
      ∧ θ_run (Cert.ProjZRefIdeal.defs (F := Ideal)) (onTc (τ := Cert.ProjZRefIdeal.τ) (Cert.ProjZRefIdeal.main (F := Ideal))) ⟨m', fun _ => 0, g'⟩ (fun r => ∀ c : Dev Cert.ProjZRefIdeal.nD,
          r.2.mem ((c.tc : Thread Cert.ProjZRefIdeal.nD Cert.ProjZRefIdeal.τ).loc Cert.ProjZRefIdeal.main_v2) = v0 c
          ∧ r.2.mem ((c.tc : Thread Cert.ProjZRefIdeal.nD Cert.ProjZRefIdeal.τ).loc Cert.ProjZRefIdeal.main_arg0) = m' ((c.tc : Thread Cert.ProjZRefIdeal.nD Cert.ProjZRefIdeal.τ).loc Cert.ProjZRefIdeal.main_arg0)
          ∧ r.2.mem ((c.tc : Thread Cert.ProjZRefIdeal.nD Cert.ProjZRefIdeal.τ).loc Cert.ProjZRefIdeal.main_arg1) = m' ((c.tc : Thread Cert.ProjZRefIdeal.nD Cert.ProjZRefIdeal.τ).loc Cert.ProjZRefIdeal.main_arg1))

def preserves_ProjX_ProjXIdeal : Prop :=
  True

def algebraic_ProjXIdeal_ProjXRefIdeal [hProjXIdeal : Cert.ProjXIdeal.Facts] [hProjXRefIdeal : Cert.ProjXRefIdeal.Facts] : Prop :=
  ∀ (m : (ℓ : Loc Cert.ProjXIdeal.nD Cert.ProjXIdeal.τ Cert.ProjXIdeal.sig) → Buf (Elt Ideal) ℓ) (g : Dev Cert.ProjXIdeal.nD → PrngReg)
    (m' : (ℓ : Loc Cert.ProjXRefIdeal.nD Cert.ProjXRefIdeal.τ Cert.ProjXRefIdeal.sig) → Buf (Elt Ideal) ℓ) (g' : Dev Cert.ProjXRefIdeal.nD → PrngReg), Pre_ProjXIdeal m →
    (∀ c : Dev Cert.ProjXIdeal.nD,
      m' ((c.tc : Thread Cert.ProjXRefIdeal.nD Cert.ProjXRefIdeal.τ).loc Cert.ProjXRefIdeal.main_arg0) = m ((c.tc : Thread Cert.ProjXIdeal.nD Cert.ProjXIdeal.τ).loc Cert.ProjXIdeal.main_arg0)
      ∧ m' ((c.tc : Thread Cert.ProjXRefIdeal.nD Cert.ProjXRefIdeal.τ).loc Cert.ProjXRefIdeal.main_arg1) = m ((c.tc : Thread Cert.ProjXIdeal.nD Cert.ProjXIdeal.τ).loc Cert.ProjXIdeal.main_arg1)) →
    ∃ (v0 : (c : Dev Cert.ProjXIdeal.nD) → Buf (Elt Ideal) ((c.tc : Thread Cert.ProjXIdeal.nD Cert.ProjXIdeal.τ).loc Cert.ProjXIdeal.main_v0)),
      θ_run (Cert.ProjXIdeal.defs (F := Ideal)) (onTc (τ := Cert.ProjXIdeal.τ) (Cert.ProjXIdeal.main (F := Ideal))) ⟨m, fun _ => 0, g⟩ (fun r => ∀ c : Dev Cert.ProjXIdeal.nD,
          r.2.mem ((c.tc : Thread Cert.ProjXIdeal.nD Cert.ProjXIdeal.τ).loc Cert.ProjXIdeal.main_v0) = v0 c
          ∧ r.2.mem ((c.tc : Thread Cert.ProjXIdeal.nD Cert.ProjXIdeal.τ).loc Cert.ProjXIdeal.main_arg0) = m ((c.tc : Thread Cert.ProjXIdeal.nD Cert.ProjXIdeal.τ).loc Cert.ProjXIdeal.main_arg0)
          ∧ r.2.mem ((c.tc : Thread Cert.ProjXIdeal.nD Cert.ProjXIdeal.τ).loc Cert.ProjXIdeal.main_arg1) = m ((c.tc : Thread Cert.ProjXIdeal.nD Cert.ProjXIdeal.τ).loc Cert.ProjXIdeal.main_arg1))
      ∧ θ_run (Cert.ProjXRefIdeal.defs (F := Ideal)) (onTc (τ := Cert.ProjXRefIdeal.τ) (Cert.ProjXRefIdeal.main (F := Ideal))) ⟨m', fun _ => 0, g'⟩ (fun r => ∀ c : Dev Cert.ProjXRefIdeal.nD,
          r.2.mem ((c.tc : Thread Cert.ProjXRefIdeal.nD Cert.ProjXRefIdeal.τ).loc Cert.ProjXRefIdeal.main_v2) = v0 c
          ∧ r.2.mem ((c.tc : Thread Cert.ProjXRefIdeal.nD Cert.ProjXRefIdeal.τ).loc Cert.ProjXRefIdeal.main_arg0) = m' ((c.tc : Thread Cert.ProjXRefIdeal.nD Cert.ProjXRefIdeal.τ).loc Cert.ProjXRefIdeal.main_arg0)
          ∧ r.2.mem ((c.tc : Thread Cert.ProjXRefIdeal.nD Cert.ProjXRefIdeal.τ).loc Cert.ProjXRefIdeal.main_arg1) = m' ((c.tc : Thread Cert.ProjXRefIdeal.nD Cert.ProjXRefIdeal.τ).loc Cert.ProjXRefIdeal.main_arg1))

def preserves_ProjDt_ProjDtIdeal : Prop :=
  True

def algebraic_ProjDtIdeal_ProjDtRefIdeal [hProjDtIdeal : Cert.ProjDtIdeal.Facts] [hProjDtRefIdeal : Cert.ProjDtRefIdeal.Facts] : Prop :=
  ∀ (m : (ℓ : Loc Cert.ProjDtIdeal.nD Cert.ProjDtIdeal.τ Cert.ProjDtIdeal.sig) → Buf (Elt Ideal) ℓ) (g : Dev Cert.ProjDtIdeal.nD → PrngReg)
    (m' : (ℓ : Loc Cert.ProjDtRefIdeal.nD Cert.ProjDtRefIdeal.τ Cert.ProjDtRefIdeal.sig) → Buf (Elt Ideal) ℓ) (g' : Dev Cert.ProjDtRefIdeal.nD → PrngReg), Pre_ProjDtIdeal m →
    (∀ c : Dev Cert.ProjDtIdeal.nD,
      m' ((c.tc : Thread Cert.ProjDtRefIdeal.nD Cert.ProjDtRefIdeal.τ).loc Cert.ProjDtRefIdeal.main_arg0) = m ((c.tc : Thread Cert.ProjDtIdeal.nD Cert.ProjDtIdeal.τ).loc Cert.ProjDtIdeal.main_arg0)
      ∧ m' ((c.tc : Thread Cert.ProjDtRefIdeal.nD Cert.ProjDtRefIdeal.τ).loc Cert.ProjDtRefIdeal.main_arg1) = m ((c.tc : Thread Cert.ProjDtIdeal.nD Cert.ProjDtIdeal.τ).loc Cert.ProjDtIdeal.main_arg1)) →
    ∃ (v0 : (c : Dev Cert.ProjDtIdeal.nD) → Buf (Elt Ideal) ((c.tc : Thread Cert.ProjDtIdeal.nD Cert.ProjDtIdeal.τ).loc Cert.ProjDtIdeal.main_v0)),
      θ_run (Cert.ProjDtIdeal.defs (F := Ideal)) (onTc (τ := Cert.ProjDtIdeal.τ) (Cert.ProjDtIdeal.main (F := Ideal))) ⟨m, fun _ => 0, g⟩ (fun r => ∀ c : Dev Cert.ProjDtIdeal.nD,
          r.2.mem ((c.tc : Thread Cert.ProjDtIdeal.nD Cert.ProjDtIdeal.τ).loc Cert.ProjDtIdeal.main_v0) = v0 c
          ∧ r.2.mem ((c.tc : Thread Cert.ProjDtIdeal.nD Cert.ProjDtIdeal.τ).loc Cert.ProjDtIdeal.main_arg0) = m ((c.tc : Thread Cert.ProjDtIdeal.nD Cert.ProjDtIdeal.τ).loc Cert.ProjDtIdeal.main_arg0)
          ∧ r.2.mem ((c.tc : Thread Cert.ProjDtIdeal.nD Cert.ProjDtIdeal.τ).loc Cert.ProjDtIdeal.main_arg1) = m ((c.tc : Thread Cert.ProjDtIdeal.nD Cert.ProjDtIdeal.τ).loc Cert.ProjDtIdeal.main_arg1))
      ∧ θ_run (Cert.ProjDtRefIdeal.defs (F := Ideal)) (onTc (τ := Cert.ProjDtRefIdeal.τ) (Cert.ProjDtRefIdeal.main (F := Ideal))) ⟨m', fun _ => 0, g'⟩ (fun r => ∀ c : Dev Cert.ProjDtRefIdeal.nD,
          r.2.mem ((c.tc : Thread Cert.ProjDtRefIdeal.nD Cert.ProjDtRefIdeal.τ).loc Cert.ProjDtRefIdeal.main_v2) = v0 c
          ∧ r.2.mem ((c.tc : Thread Cert.ProjDtRefIdeal.nD Cert.ProjDtRefIdeal.τ).loc Cert.ProjDtRefIdeal.main_arg0) = m' ((c.tc : Thread Cert.ProjDtRefIdeal.nD Cert.ProjDtRefIdeal.τ).loc Cert.ProjDtRefIdeal.main_arg0)
          ∧ r.2.mem ((c.tc : Thread Cert.ProjDtRefIdeal.nD Cert.ProjDtRefIdeal.τ).loc Cert.ProjDtRefIdeal.main_arg1) = m' ((c.tc : Thread Cert.ProjDtRefIdeal.nD Cert.ProjDtRefIdeal.τ).loc Cert.ProjDtRefIdeal.main_arg1))

def preserves_ProjQkv_ProjQkvIdeal : Prop :=
  True

def algebraic_ProjQkvIdeal_ProjQkvRefIdeal [hProjQkvIdeal : Cert.ProjQkvIdeal.Facts] [hProjQkvRefIdeal : Cert.ProjQkvRefIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg)
    (m' : (ℓ : Loc Cert.ProjQkvRefIdeal.nD Cert.ProjQkvRefIdeal.τ Cert.ProjQkvRefIdeal.sig) → Buf (Elt Ideal) ℓ) (g' : Dev Cert.ProjQkvRefIdeal.nD → PrngReg), Pre_ProjQkvIdeal m →
    (∀ c : Dev Cert.ProjQkvIdeal.nD,
      m' ((c.tc : Thread Cert.ProjQkvRefIdeal.nD Cert.ProjQkvRefIdeal.τ).loc Cert.ProjQkvRefIdeal.main_arg0) = m ((c.tc : Thread Cert.ProjQkvIdeal.nD Cert.ProjQkvIdeal.τ).loc Cert.ProjQkvIdeal.main_arg0)
      ∧ m' ((c.tc : Thread Cert.ProjQkvRefIdeal.nD Cert.ProjQkvRefIdeal.τ).loc Cert.ProjQkvRefIdeal.main_arg1) = m ((c.tc : Thread Cert.ProjQkvIdeal.nD Cert.ProjQkvIdeal.τ).loc Cert.ProjQkvIdeal.main_arg1)) →
    ∃ (v0 : (c : Dev Cert.ProjQkvIdeal.nD) → Buf (Elt Ideal) ((c.tc : Thread Cert.ProjQkvIdeal.nD Cert.ProjQkvIdeal.τ).loc Cert.ProjQkvIdeal.main_v0)),
      θ_run (Cert.ProjQkvIdeal.defs (F := Ideal)) (onTc (τ := Cert.ProjQkvIdeal.τ) (Cert.ProjQkvIdeal.main (F := Ideal))) ⟨m, fun _ => 0, g⟩ (fun r => ∀ c : Dev Cert.ProjQkvIdeal.nD,
          r.2.mem ((c.tc : Thread Cert.ProjQkvIdeal.nD Cert.ProjQkvIdeal.τ).loc Cert.ProjQkvIdeal.main_v0) = v0 c
          ∧ r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
          ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ θ_run (Cert.ProjQkvRefIdeal.defs (F := Ideal)) (onTc (τ := Cert.ProjQkvRefIdeal.τ) (Cert.ProjQkvRefIdeal.main (F := Ideal))) ⟨m', fun _ => 0, g'⟩ (fun r => ∀ c : Dev Cert.ProjQkvRefIdeal.nD,
          r.2.mem ((c.tc : Thread Cert.ProjQkvRefIdeal.nD Cert.ProjQkvRefIdeal.τ).loc Cert.ProjQkvRefIdeal.main_v2) = v0 c
          ∧ r.2.mem ((c.tc : Thread Cert.ProjQkvRefIdeal.nD Cert.ProjQkvRefIdeal.τ).loc Cert.ProjQkvRefIdeal.main_arg0) = m' ((c.tc : Thread Cert.ProjQkvRefIdeal.nD Cert.ProjQkvRefIdeal.τ).loc Cert.ProjQkvRefIdeal.main_arg0)
          ∧ r.2.mem ((c.tc : Thread Cert.ProjQkvRefIdeal.nD Cert.ProjQkvRefIdeal.τ).loc Cert.ProjQkvRefIdeal.main_arg1) = m' ((c.tc : Thread Cert.ProjQkvRefIdeal.nD Cert.ProjQkvRefIdeal.τ).loc Cert.ProjQkvRefIdeal.main_arg1))

def preserves_SsdOut_SsdOutIdeal : Prop :=
  True

def algebraic_SsdOutIdeal_SsdOutRefIdeal [hSsdOutIdeal : Cert.SsdOutIdeal.Facts] [hSsdOutRefIdeal : Cert.SsdOutRefIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.SsdOutRefIdeal.nD Cert.SsdOutRefIdeal.τ Cert.SsdOutRefIdeal.sig) → Buf (Elt Ideal) ℓ) (g' : Dev Cert.SsdOutRefIdeal.nD → PrngReg), Pre_SsdOutIdeal m →
    (∀ c : Dev Cert.SsdOutIdeal.nD,
      m' ((c.tc : Thread Cert.SsdOutRefIdeal.nD Cert.SsdOutRefIdeal.τ).loc Cert.SsdOutRefIdeal.main_arg0) = m ((c.tc : Thread Cert.SsdOutIdeal.nD Cert.SsdOutIdeal.τ).loc Cert.SsdOutIdeal.main_arg0)
      ∧ m' ((c.tc : Thread Cert.SsdOutRefIdeal.nD Cert.SsdOutRefIdeal.τ).loc Cert.SsdOutRefIdeal.main_arg1) = m ((c.tc : Thread Cert.SsdOutIdeal.nD Cert.SsdOutIdeal.τ).loc Cert.SsdOutIdeal.main_arg1)) →
    ∃ (v0 : (c : Dev Cert.SsdOutIdeal.nD) → Buf (Elt Ideal) ((c.tc : Thread Cert.SsdOutIdeal.nD Cert.SsdOutIdeal.τ).loc Cert.SsdOutIdeal.main_v0)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v0) = v0 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1))
      ∧ θ_run (Cert.SsdOutRefIdeal.defs (F := Ideal)) (onTc (τ := Cert.SsdOutRefIdeal.τ) (Cert.SsdOutRefIdeal.main (F := Ideal))) ⟨m', fun _ => 0, g'⟩ (fun r => ∀ c : Dev Cert.SsdOutRefIdeal.nD,
          r.2.mem ((c.tc : Thread Cert.SsdOutRefIdeal.nD Cert.SsdOutRefIdeal.τ).loc Cert.SsdOutRefIdeal.main_v2) = v0 c
          ∧ r.2.mem ((c.tc : Thread Cert.SsdOutRefIdeal.nD Cert.SsdOutRefIdeal.τ).loc Cert.SsdOutRefIdeal.main_arg0) = m' ((c.tc : Thread Cert.SsdOutRefIdeal.nD Cert.SsdOutRefIdeal.τ).loc Cert.SsdOutRefIdeal.main_arg0)
          ∧ r.2.mem ((c.tc : Thread Cert.SsdOutRefIdeal.nD Cert.SsdOutRefIdeal.τ).loc Cert.SsdOutRefIdeal.main_arg1) = m' ((c.tc : Thread Cert.SsdOutRefIdeal.nD Cert.SsdOutRefIdeal.τ).loc Cert.SsdOutRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)) →
    ∃ (v0 : (c : Dev Cert.MlpDownIdeal.nD) → Buf (Elt Ideal) ((c.tc : Thread Cert.MlpDownIdeal.nD Cert.MlpDownIdeal.τ).loc Cert.MlpDownIdeal.main_v0)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v0) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v3) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2))

def preserves_Xkv_XkvIdeal : Prop :=
  True

def algebraic_XkvIdeal_XkvRefIdeal [hXkvIdeal : Cert.XkvIdeal.Facts] [hXkvRefIdeal : Cert.XkvRefIdeal.Facts] : Prop :=
  ∀ (m : (ℓ : Loc Cert.XkvIdeal.nD Cert.XkvIdeal.τ Cert.XkvIdeal.sig) → Buf (Elt Ideal) ℓ) (g : Dev Cert.XkvIdeal.nD → PrngReg)
    (m' : (ℓ : Loc Cert.XkvRefIdeal.nD Cert.XkvRefIdeal.τ Cert.XkvRefIdeal.sig) → Buf (Elt Ideal) ℓ) (g' : Dev Cert.XkvRefIdeal.nD → PrngReg), Pre_XkvIdeal m →
    (∀ c : Dev Cert.XkvIdeal.nD,
      m' ((c.tc : Thread Cert.XkvRefIdeal.nD Cert.XkvRefIdeal.τ).loc Cert.XkvRefIdeal.main_arg0) = m ((c.tc : Thread Cert.XkvIdeal.nD Cert.XkvIdeal.τ).loc Cert.XkvIdeal.main_arg0)
      ∧ m' ((c.tc : Thread Cert.XkvRefIdeal.nD Cert.XkvRefIdeal.τ).loc Cert.XkvRefIdeal.main_arg1) = m ((c.tc : Thread Cert.XkvIdeal.nD Cert.XkvIdeal.τ).loc Cert.XkvIdeal.main_arg1)) →
    ∃ (v0 : (c : Dev Cert.XkvIdeal.nD) → Buf (Elt Ideal) ((c.tc : Thread Cert.XkvIdeal.nD Cert.XkvIdeal.τ).loc Cert.XkvIdeal.main_v0)),
      θ_run (Cert.XkvIdeal.defs (F := Ideal)) (onTc (τ := Cert.XkvIdeal.τ) (Cert.XkvIdeal.main (F := Ideal))) ⟨m, fun _ => 0, g⟩ (fun r => ∀ c : Dev Cert.XkvIdeal.nD,
          r.2.mem ((c.tc : Thread Cert.XkvIdeal.nD Cert.XkvIdeal.τ).loc Cert.XkvIdeal.main_v0) = v0 c
          ∧ r.2.mem ((c.tc : Thread Cert.XkvIdeal.nD Cert.XkvIdeal.τ).loc Cert.XkvIdeal.main_arg0) = m ((c.tc : Thread Cert.XkvIdeal.nD Cert.XkvIdeal.τ).loc Cert.XkvIdeal.main_arg0)
          ∧ r.2.mem ((c.tc : Thread Cert.XkvIdeal.nD Cert.XkvIdeal.τ).loc Cert.XkvIdeal.main_arg1) = m ((c.tc : Thread Cert.XkvIdeal.nD Cert.XkvIdeal.τ).loc Cert.XkvIdeal.main_arg1))
      ∧ θ_run (Cert.XkvRefIdeal.defs (F := Ideal)) (onTc (τ := Cert.XkvRefIdeal.τ) (Cert.XkvRefIdeal.main (F := Ideal))) ⟨m', fun _ => 0, g'⟩ (fun r => ∀ c : Dev Cert.XkvRefIdeal.nD,
          r.2.mem ((c.tc : Thread Cert.XkvRefIdeal.nD Cert.XkvRefIdeal.τ).loc Cert.XkvRefIdeal.main_v4) = v0 c
          ∧ r.2.mem ((c.tc : Thread Cert.XkvRefIdeal.nD Cert.XkvRefIdeal.τ).loc Cert.XkvRefIdeal.main_arg0) = m' ((c.tc : Thread Cert.XkvRefIdeal.nD Cert.XkvRefIdeal.τ).loc Cert.XkvRefIdeal.main_arg0)
          ∧ r.2.mem ((c.tc : Thread Cert.XkvRefIdeal.nD Cert.XkvRefIdeal.τ).loc Cert.XkvRefIdeal.main_arg1) = m' ((c.tc : Thread Cert.XkvRefIdeal.nD Cert.XkvRefIdeal.τ).loc Cert.XkvRefIdeal.main_arg1))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v0_0)) (v1 : (c : Dev Cert.MlpUpIdeal.nD) → Buf (Elt Ideal) ((c.tc : Thread Cert.MlpUpIdeal.nD Cert.MlpUpIdeal.τ).loc Cert.MlpUpIdeal.main_v0_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v0_0) = v0 c
          ∧ r.2.mem ((c.tc : Thread Cert.MlpUpIdeal.nD Cert.MlpUpIdeal.τ).loc Cert.MlpUpIdeal.main_v0_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v4) = v0 c
          ∧ r.2.mem ((c.tc : Thread Cert.MlpUpRefIdeal.nD Cert.MlpUpRefIdeal.τ).loc Cert.MlpUpRefIdeal.main_v7) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_DRms_DRmsIdeal : Prop :=
  True

def algebraic_DRmsIdeal_DRmsRefIdeal [hDRmsIdeal : Cert.DRmsIdeal.Facts] [hDRmsRefIdeal : Cert.DRmsRefIdeal.Facts] : Prop :=
  ∀ (m : (ℓ : Loc Cert.DRmsIdeal.nD Cert.DRmsIdeal.τ Cert.DRmsIdeal.sig) → Buf (Elt Ideal) ℓ) (g : Dev Cert.DRmsIdeal.nD → PrngReg)
    (m' : (ℓ : Loc Cert.DRmsRefIdeal.nD Cert.DRmsRefIdeal.τ Cert.DRmsRefIdeal.sig) → Buf (Elt Ideal) ℓ) (g' : Dev Cert.DRmsRefIdeal.nD → PrngReg), Pre_DRmsIdeal m →
    (∀ c : Dev Cert.DRmsIdeal.nD,
      m' ((c.tc : Thread Cert.DRmsRefIdeal.nD Cert.DRmsRefIdeal.τ).loc Cert.DRmsRefIdeal.main_arg0) = m ((c.tc : Thread Cert.DRmsIdeal.nD Cert.DRmsIdeal.τ).loc Cert.DRmsIdeal.main_arg0)
      ∧ m' ((c.tc : Thread Cert.DRmsRefIdeal.nD Cert.DRmsRefIdeal.τ).loc Cert.DRmsRefIdeal.main_arg1) = m ((c.tc : Thread Cert.DRmsIdeal.nD Cert.DRmsIdeal.τ).loc Cert.DRmsIdeal.main_arg1)
      ∧ m' ((c.tc : Thread Cert.DRmsRefIdeal.nD Cert.DRmsRefIdeal.τ).loc Cert.DRmsRefIdeal.main_arg2) = m ((c.tc : Thread Cert.DRmsIdeal.nD Cert.DRmsIdeal.τ).loc Cert.DRmsIdeal.main_arg2)
      ∧ m' ((c.tc : Thread Cert.DRmsRefIdeal.nD Cert.DRmsRefIdeal.τ).loc Cert.DRmsRefIdeal.main_arg3) = m ((c.tc : Thread Cert.DRmsIdeal.nD Cert.DRmsIdeal.τ).loc Cert.DRmsIdeal.main_arg3)) →
    ∃ (v0 : (c : Dev Cert.DRmsIdeal.nD) → Buf (Elt Ideal) ((c.tc : Thread Cert.DRmsIdeal.nD Cert.DRmsIdeal.τ).loc Cert.DRmsIdeal.main_v0_0)) (v1 : (c : Dev Cert.DRmsIdeal.nD) → Buf (Elt Ideal) ((c.tc : Thread Cert.DRmsIdeal.nD Cert.DRmsIdeal.τ).loc Cert.DRmsIdeal.main_v0_1)) (v2 : (c : Dev Cert.DRmsIdeal.nD) → Buf (Elt Ideal) ((c.tc : Thread Cert.DRmsIdeal.nD Cert.DRmsIdeal.τ).loc Cert.DRmsIdeal.main_v0_2)),
      θ_run (Cert.DRmsIdeal.defs (F := Ideal)) (onTc (τ := Cert.DRmsIdeal.τ) (Cert.DRmsIdeal.main (F := Ideal))) ⟨m, fun _ => 0, g⟩ (fun r => ∀ c : Dev Cert.DRmsIdeal.nD,
          r.2.mem ((c.tc : Thread Cert.DRmsIdeal.nD Cert.DRmsIdeal.τ).loc Cert.DRmsIdeal.main_v0_0) = v0 c
          ∧ r.2.mem ((c.tc : Thread Cert.DRmsIdeal.nD Cert.DRmsIdeal.τ).loc Cert.DRmsIdeal.main_v0_1) = v1 c
          ∧ r.2.mem ((c.tc : Thread Cert.DRmsIdeal.nD Cert.DRmsIdeal.τ).loc Cert.DRmsIdeal.main_v0_2) = v2 c
          ∧ r.2.mem ((c.tc : Thread Cert.DRmsIdeal.nD Cert.DRmsIdeal.τ).loc Cert.DRmsIdeal.main_arg0) = m ((c.tc : Thread Cert.DRmsIdeal.nD Cert.DRmsIdeal.τ).loc Cert.DRmsIdeal.main_arg0)
          ∧ r.2.mem ((c.tc : Thread Cert.DRmsIdeal.nD Cert.DRmsIdeal.τ).loc Cert.DRmsIdeal.main_arg1) = m ((c.tc : Thread Cert.DRmsIdeal.nD Cert.DRmsIdeal.τ).loc Cert.DRmsIdeal.main_arg1)
          ∧ r.2.mem ((c.tc : Thread Cert.DRmsIdeal.nD Cert.DRmsIdeal.τ).loc Cert.DRmsIdeal.main_arg2) = m ((c.tc : Thread Cert.DRmsIdeal.nD Cert.DRmsIdeal.τ).loc Cert.DRmsIdeal.main_arg2)
          ∧ r.2.mem ((c.tc : Thread Cert.DRmsIdeal.nD Cert.DRmsIdeal.τ).loc Cert.DRmsIdeal.main_arg3) = m ((c.tc : Thread Cert.DRmsIdeal.nD Cert.DRmsIdeal.τ).loc Cert.DRmsIdeal.main_arg3))
      ∧ θ_run (Cert.DRmsRefIdeal.defs (F := Ideal)) (onTc (τ := Cert.DRmsRefIdeal.τ) (Cert.DRmsRefIdeal.main (F := Ideal))) ⟨m', fun _ => 0, g'⟩ (fun r => ∀ c : Dev Cert.DRmsRefIdeal.nD,
          r.2.mem ((c.tc : Thread Cert.DRmsRefIdeal.nD Cert.DRmsRefIdeal.τ).loc Cert.DRmsRefIdeal.main_v34) = v0 c
          ∧ r.2.mem ((c.tc : Thread Cert.DRmsRefIdeal.nD Cert.DRmsRefIdeal.τ).loc Cert.DRmsRefIdeal.main_v36) = v1 c
          ∧ r.2.mem ((c.tc : Thread Cert.DRmsRefIdeal.nD Cert.DRmsRefIdeal.τ).loc Cert.DRmsRefIdeal.main_v17) = v2 c
          ∧ r.2.mem ((c.tc : Thread Cert.DRmsRefIdeal.nD Cert.DRmsRefIdeal.τ).loc Cert.DRmsRefIdeal.main_arg0) = m' ((c.tc : Thread Cert.DRmsRefIdeal.nD Cert.DRmsRefIdeal.τ).loc Cert.DRmsRefIdeal.main_arg0)
          ∧ r.2.mem ((c.tc : Thread Cert.DRmsRefIdeal.nD Cert.DRmsRefIdeal.τ).loc Cert.DRmsRefIdeal.main_arg1) = m' ((c.tc : Thread Cert.DRmsRefIdeal.nD Cert.DRmsRefIdeal.τ).loc Cert.DRmsRefIdeal.main_arg1)
          ∧ r.2.mem ((c.tc : Thread Cert.DRmsRefIdeal.nD Cert.DRmsRefIdeal.τ).loc Cert.DRmsRefIdeal.main_arg2) = m' ((c.tc : Thread Cert.DRmsRefIdeal.nD Cert.DRmsRefIdeal.τ).loc Cert.DRmsRefIdeal.main_arg2)
          ∧ r.2.mem ((c.tc : Thread Cert.DRmsRefIdeal.nD Cert.DRmsRefIdeal.τ).loc Cert.DRmsRefIdeal.main_arg3) = m' ((c.tc : Thread Cert.DRmsRefIdeal.nD Cert.DRmsRefIdeal.τ).loc Cert.DRmsRefIdeal.main_arg3))

def preserves_DRmsMem_DRmsMemIdeal : Prop :=
  True

def algebraic_DRmsMemIdeal_DRmsMemRefIdeal [hDRmsMemIdeal : Cert.DRmsMemIdeal.Facts] [hDRmsMemRefIdeal : Cert.DRmsMemRefIdeal.Facts] : Prop :=
  ∀ (m : (ℓ : Loc Cert.DRmsMemIdeal.nD Cert.DRmsMemIdeal.τ Cert.DRmsMemIdeal.sig) → Buf (Elt Ideal) ℓ) (g : Dev Cert.DRmsMemIdeal.nD → PrngReg)
    (m' : (ℓ : Loc Cert.DRmsMemRefIdeal.nD Cert.DRmsMemRefIdeal.τ Cert.DRmsMemRefIdeal.sig) → Buf (Elt Ideal) ℓ) (g' : Dev Cert.DRmsMemRefIdeal.nD → PrngReg), Pre_DRmsMemIdeal m →
    (∀ c : Dev Cert.DRmsMemIdeal.nD,
      m' ((c.tc : Thread Cert.DRmsMemRefIdeal.nD Cert.DRmsMemRefIdeal.τ).loc Cert.DRmsMemRefIdeal.main_arg0) = m ((c.tc : Thread Cert.DRmsMemIdeal.nD Cert.DRmsMemIdeal.τ).loc Cert.DRmsMemIdeal.main_arg0)
      ∧ m' ((c.tc : Thread Cert.DRmsMemRefIdeal.nD Cert.DRmsMemRefIdeal.τ).loc Cert.DRmsMemRefIdeal.main_arg1) = m ((c.tc : Thread Cert.DRmsMemIdeal.nD Cert.DRmsMemIdeal.τ).loc Cert.DRmsMemIdeal.main_arg1)
      ∧ m' ((c.tc : Thread Cert.DRmsMemRefIdeal.nD Cert.DRmsMemRefIdeal.τ).loc Cert.DRmsMemRefIdeal.main_arg2) = m ((c.tc : Thread Cert.DRmsMemIdeal.nD Cert.DRmsMemIdeal.τ).loc Cert.DRmsMemIdeal.main_arg2)) →
    ∃ (v0 : (c : Dev Cert.DRmsMemIdeal.nD) → Buf (Elt Ideal) ((c.tc : Thread Cert.DRmsMemIdeal.nD Cert.DRmsMemIdeal.τ).loc Cert.DRmsMemIdeal.main_v1_2)),
      θ_run (Cert.DRmsMemIdeal.defs (F := Ideal)) (onTc (τ := Cert.DRmsMemIdeal.τ) (Cert.DRmsMemIdeal.main (F := Ideal))) ⟨m, fun _ => 0, g⟩ (fun r => ∀ c : Dev Cert.DRmsMemIdeal.nD,
          r.2.mem ((c.tc : Thread Cert.DRmsMemIdeal.nD Cert.DRmsMemIdeal.τ).loc Cert.DRmsMemIdeal.main_v1_2) = v0 c
          ∧ r.2.mem ((c.tc : Thread Cert.DRmsMemIdeal.nD Cert.DRmsMemIdeal.τ).loc Cert.DRmsMemIdeal.main_arg0) = m ((c.tc : Thread Cert.DRmsMemIdeal.nD Cert.DRmsMemIdeal.τ).loc Cert.DRmsMemIdeal.main_arg0)
          ∧ r.2.mem ((c.tc : Thread Cert.DRmsMemIdeal.nD Cert.DRmsMemIdeal.τ).loc Cert.DRmsMemIdeal.main_arg1) = m ((c.tc : Thread Cert.DRmsMemIdeal.nD Cert.DRmsMemIdeal.τ).loc Cert.DRmsMemIdeal.main_arg1)
          ∧ r.2.mem ((c.tc : Thread Cert.DRmsMemIdeal.nD Cert.DRmsMemIdeal.τ).loc Cert.DRmsMemIdeal.main_arg2) = m ((c.tc : Thread Cert.DRmsMemIdeal.nD Cert.DRmsMemIdeal.τ).loc Cert.DRmsMemIdeal.main_arg2))
      ∧ θ_run (Cert.DRmsMemRefIdeal.defs (F := Ideal)) (onTc (τ := Cert.DRmsMemRefIdeal.τ) (Cert.DRmsMemRefIdeal.main (F := Ideal))) ⟨m', fun _ => 0, g'⟩ (fun r => ∀ c : Dev Cert.DRmsMemRefIdeal.nD,
          r.2.mem ((c.tc : Thread Cert.DRmsMemRefIdeal.nD Cert.DRmsMemRefIdeal.τ).loc Cert.DRmsMemRefIdeal.main_v14) = v0 c
          ∧ r.2.mem ((c.tc : Thread Cert.DRmsMemRefIdeal.nD Cert.DRmsMemRefIdeal.τ).loc Cert.DRmsMemRefIdeal.main_arg0) = m' ((c.tc : Thread Cert.DRmsMemRefIdeal.nD Cert.DRmsMemRefIdeal.τ).loc Cert.DRmsMemRefIdeal.main_arg0)
          ∧ r.2.mem ((c.tc : Thread Cert.DRmsMemRefIdeal.nD Cert.DRmsMemRefIdeal.τ).loc Cert.DRmsMemRefIdeal.main_arg1) = m' ((c.tc : Thread Cert.DRmsMemRefIdeal.nD Cert.DRmsMemRefIdeal.τ).loc Cert.DRmsMemRefIdeal.main_arg1)
          ∧ r.2.mem ((c.tc : Thread Cert.DRmsMemRefIdeal.nD Cert.DRmsMemRefIdeal.τ).loc Cert.DRmsMemRefIdeal.main_arg2) = m' ((c.tc : Thread Cert.DRmsMemRefIdeal.nD Cert.DRmsMemRefIdeal.τ).loc Cert.DRmsMemRefIdeal.main_arg2))

def preserves_DLnSilu_DLnSiluIdeal : Prop :=
  True

def algebraic_DLnSiluIdeal_DLnSiluRefIdeal [hDLnSiluIdeal : Cert.DLnSiluIdeal.Facts] [hDLnSiluRefIdeal : Cert.DLnSiluRefIdeal.Facts] : Prop :=
  ∀ (m : (ℓ : Loc Cert.DLnSiluIdeal.nD Cert.DLnSiluIdeal.τ Cert.DLnSiluIdeal.sig) → Buf (Elt Ideal) ℓ) (g : Dev Cert.DLnSiluIdeal.nD → PrngReg)
    (m' : (ℓ : Loc Cert.DLnSiluRefIdeal.nD Cert.DLnSiluRefIdeal.τ Cert.DLnSiluRefIdeal.sig) → Buf (Elt Ideal) ℓ) (g' : Dev Cert.DLnSiluRefIdeal.nD → PrngReg), Pre_DLnSiluIdeal m →
    (∀ c : Dev Cert.DLnSiluIdeal.nD,
      m' ((c.tc : Thread Cert.DLnSiluRefIdeal.nD Cert.DLnSiluRefIdeal.τ).loc Cert.DLnSiluRefIdeal.main_arg0) = m ((c.tc : Thread Cert.DLnSiluIdeal.nD Cert.DLnSiluIdeal.τ).loc Cert.DLnSiluIdeal.main_arg0)
      ∧ m' ((c.tc : Thread Cert.DLnSiluRefIdeal.nD Cert.DLnSiluRefIdeal.τ).loc Cert.DLnSiluRefIdeal.main_arg1) = m ((c.tc : Thread Cert.DLnSiluIdeal.nD Cert.DLnSiluIdeal.τ).loc Cert.DLnSiluIdeal.main_arg1)
      ∧ m' ((c.tc : Thread Cert.DLnSiluRefIdeal.nD Cert.DLnSiluRefIdeal.τ).loc Cert.DLnSiluRefIdeal.main_arg2) = m ((c.tc : Thread Cert.DLnSiluIdeal.nD Cert.DLnSiluIdeal.τ).loc Cert.DLnSiluIdeal.main_arg2)
      ∧ m' ((c.tc : Thread Cert.DLnSiluRefIdeal.nD Cert.DLnSiluRefIdeal.τ).loc Cert.DLnSiluRefIdeal.main_arg3) = m ((c.tc : Thread Cert.DLnSiluIdeal.nD Cert.DLnSiluIdeal.τ).loc Cert.DLnSiluIdeal.main_arg3)) →
    ∃ (v0 : (c : Dev Cert.DLnSiluIdeal.nD) → Buf (Elt Ideal) ((c.tc : Thread Cert.DLnSiluIdeal.nD Cert.DLnSiluIdeal.τ).loc Cert.DLnSiluIdeal.main_v0_0)) (v1 : (c : Dev Cert.DLnSiluIdeal.nD) → Buf (Elt Ideal) ((c.tc : Thread Cert.DLnSiluIdeal.nD Cert.DLnSiluIdeal.τ).loc Cert.DLnSiluIdeal.main_v0_1)) (v2 : (c : Dev Cert.DLnSiluIdeal.nD) → Buf (Elt Ideal) ((c.tc : Thread Cert.DLnSiluIdeal.nD Cert.DLnSiluIdeal.τ).loc Cert.DLnSiluIdeal.main_v0_2)),
      θ_run (Cert.DLnSiluIdeal.defs (F := Ideal)) (onTc (τ := Cert.DLnSiluIdeal.τ) (Cert.DLnSiluIdeal.main (F := Ideal))) ⟨m, fun _ => 0, g⟩ (fun r => ∀ c : Dev Cert.DLnSiluIdeal.nD,
          r.2.mem ((c.tc : Thread Cert.DLnSiluIdeal.nD Cert.DLnSiluIdeal.τ).loc Cert.DLnSiluIdeal.main_v0_0) = v0 c
          ∧ r.2.mem ((c.tc : Thread Cert.DLnSiluIdeal.nD Cert.DLnSiluIdeal.τ).loc Cert.DLnSiluIdeal.main_v0_1) = v1 c
          ∧ r.2.mem ((c.tc : Thread Cert.DLnSiluIdeal.nD Cert.DLnSiluIdeal.τ).loc Cert.DLnSiluIdeal.main_v0_2) = v2 c
          ∧ r.2.mem ((c.tc : Thread Cert.DLnSiluIdeal.nD Cert.DLnSiluIdeal.τ).loc Cert.DLnSiluIdeal.main_arg0) = m ((c.tc : Thread Cert.DLnSiluIdeal.nD Cert.DLnSiluIdeal.τ).loc Cert.DLnSiluIdeal.main_arg0)
          ∧ r.2.mem ((c.tc : Thread Cert.DLnSiluIdeal.nD Cert.DLnSiluIdeal.τ).loc Cert.DLnSiluIdeal.main_arg1) = m ((c.tc : Thread Cert.DLnSiluIdeal.nD Cert.DLnSiluIdeal.τ).loc Cert.DLnSiluIdeal.main_arg1)
          ∧ r.2.mem ((c.tc : Thread Cert.DLnSiluIdeal.nD Cert.DLnSiluIdeal.τ).loc Cert.DLnSiluIdeal.main_arg2) = m ((c.tc : Thread Cert.DLnSiluIdeal.nD Cert.DLnSiluIdeal.τ).loc Cert.DLnSiluIdeal.main_arg2)
          ∧ r.2.mem ((c.tc : Thread Cert.DLnSiluIdeal.nD Cert.DLnSiluIdeal.τ).loc Cert.DLnSiluIdeal.main_arg3) = m ((c.tc : Thread Cert.DLnSiluIdeal.nD Cert.DLnSiluIdeal.τ).loc Cert.DLnSiluIdeal.main_arg3))
      ∧ θ_run (Cert.DLnSiluRefIdeal.defs (F := Ideal)) (onTc (τ := Cert.DLnSiluRefIdeal.τ) (Cert.DLnSiluRefIdeal.main (F := Ideal))) ⟨m', fun _ => 0, g'⟩ (fun r => ∀ c : Dev Cert.DLnSiluRefIdeal.nD,
          r.2.mem ((c.tc : Thread Cert.DLnSiluRefIdeal.nD Cert.DLnSiluRefIdeal.τ).loc Cert.DLnSiluRefIdeal.main_v54) = v0 c
          ∧ r.2.mem ((c.tc : Thread Cert.DLnSiluRefIdeal.nD Cert.DLnSiluRefIdeal.τ).loc Cert.DLnSiluRefIdeal.main_v30) = v1 c
          ∧ r.2.mem ((c.tc : Thread Cert.DLnSiluRefIdeal.nD Cert.DLnSiluRefIdeal.τ).loc Cert.DLnSiluRefIdeal.main_v27) = v2 c
          ∧ r.2.mem ((c.tc : Thread Cert.DLnSiluRefIdeal.nD Cert.DLnSiluRefIdeal.τ).loc Cert.DLnSiluRefIdeal.main_arg0) = m' ((c.tc : Thread Cert.DLnSiluRefIdeal.nD Cert.DLnSiluRefIdeal.τ).loc Cert.DLnSiluRefIdeal.main_arg0)
          ∧ r.2.mem ((c.tc : Thread Cert.DLnSiluRefIdeal.nD Cert.DLnSiluRefIdeal.τ).loc Cert.DLnSiluRefIdeal.main_arg1) = m' ((c.tc : Thread Cert.DLnSiluRefIdeal.nD Cert.DLnSiluRefIdeal.τ).loc Cert.DLnSiluRefIdeal.main_arg1)
          ∧ r.2.mem ((c.tc : Thread Cert.DLnSiluRefIdeal.nD Cert.DLnSiluRefIdeal.τ).loc Cert.DLnSiluRefIdeal.main_arg2) = m' ((c.tc : Thread Cert.DLnSiluRefIdeal.nD Cert.DLnSiluRefIdeal.τ).loc Cert.DLnSiluRefIdeal.main_arg2)
          ∧ r.2.mem ((c.tc : Thread Cert.DLnSiluRefIdeal.nD Cert.DLnSiluRefIdeal.τ).loc Cert.DLnSiluRefIdeal.main_arg3) = m' ((c.tc : Thread Cert.DLnSiluRefIdeal.nD Cert.DLnSiluRefIdeal.τ).loc Cert.DLnSiluRefIdeal.main_arg3))

def preserves_DGate_DGateIdeal : Prop :=
  True

def algebraic_DGateIdeal_DGateRefIdeal [hDGateIdeal : Cert.DGateIdeal.Facts] [hDGateRefIdeal : Cert.DGateRefIdeal.Facts] : Prop :=
  ∀ (m : (ℓ : Loc Cert.DGateIdeal.nD Cert.DGateIdeal.τ Cert.DGateIdeal.sig) → Buf (Elt Ideal) ℓ) (g : Dev Cert.DGateIdeal.nD → PrngReg)
    (m' : (ℓ : Loc Cert.DGateRefIdeal.nD Cert.DGateRefIdeal.τ Cert.DGateRefIdeal.sig) → Buf (Elt Ideal) ℓ) (g' : Dev Cert.DGateRefIdeal.nD → PrngReg), Pre_DGateIdeal m →
    (∀ c : Dev Cert.DGateIdeal.nD,
      m' ((c.tc : Thread Cert.DGateRefIdeal.nD Cert.DGateRefIdeal.τ).loc Cert.DGateRefIdeal.main_arg0) = m ((c.tc : Thread Cert.DGateIdeal.nD Cert.DGateIdeal.τ).loc Cert.DGateIdeal.main_arg0)
      ∧ m' ((c.tc : Thread Cert.DGateRefIdeal.nD Cert.DGateRefIdeal.τ).loc Cert.DGateRefIdeal.main_arg1) = m ((c.tc : Thread Cert.DGateIdeal.nD Cert.DGateIdeal.τ).loc Cert.DGateIdeal.main_arg1)
      ∧ m' ((c.tc : Thread Cert.DGateRefIdeal.nD Cert.DGateRefIdeal.τ).loc Cert.DGateRefIdeal.main_arg2) = m ((c.tc : Thread Cert.DGateIdeal.nD Cert.DGateIdeal.τ).loc Cert.DGateIdeal.main_arg2)
      ∧ m' ((c.tc : Thread Cert.DGateRefIdeal.nD Cert.DGateRefIdeal.τ).loc Cert.DGateRefIdeal.main_arg3) = m ((c.tc : Thread Cert.DGateIdeal.nD Cert.DGateIdeal.τ).loc Cert.DGateIdeal.main_arg3)) →
    ∃ (v0 : (c : Dev Cert.DGateIdeal.nD) → Buf (Elt Ideal) ((c.tc : Thread Cert.DGateIdeal.nD Cert.DGateIdeal.τ).loc Cert.DGateIdeal.main_v0_0)) (v1 : (c : Dev Cert.DGateIdeal.nD) → Buf (Elt Ideal) ((c.tc : Thread Cert.DGateIdeal.nD Cert.DGateIdeal.τ).loc Cert.DGateIdeal.main_v0_1)) (v2 : (c : Dev Cert.DGateIdeal.nD) → Buf (Elt Ideal) ((c.tc : Thread Cert.DGateIdeal.nD Cert.DGateIdeal.τ).loc Cert.DGateIdeal.main_v0_2)),
      θ_run (Cert.DGateIdeal.defs (F := Ideal)) (onTc (τ := Cert.DGateIdeal.τ) (Cert.DGateIdeal.main (F := Ideal))) ⟨m, fun _ => 0, g⟩ (fun r => ∀ c : Dev Cert.DGateIdeal.nD,
          r.2.mem ((c.tc : Thread Cert.DGateIdeal.nD Cert.DGateIdeal.τ).loc Cert.DGateIdeal.main_v0_0) = v0 c
          ∧ r.2.mem ((c.tc : Thread Cert.DGateIdeal.nD Cert.DGateIdeal.τ).loc Cert.DGateIdeal.main_v0_1) = v1 c
          ∧ r.2.mem ((c.tc : Thread Cert.DGateIdeal.nD Cert.DGateIdeal.τ).loc Cert.DGateIdeal.main_v0_2) = v2 c
          ∧ r.2.mem ((c.tc : Thread Cert.DGateIdeal.nD Cert.DGateIdeal.τ).loc Cert.DGateIdeal.main_arg0) = m ((c.tc : Thread Cert.DGateIdeal.nD Cert.DGateIdeal.τ).loc Cert.DGateIdeal.main_arg0)
          ∧ r.2.mem ((c.tc : Thread Cert.DGateIdeal.nD Cert.DGateIdeal.τ).loc Cert.DGateIdeal.main_arg1) = m ((c.tc : Thread Cert.DGateIdeal.nD Cert.DGateIdeal.τ).loc Cert.DGateIdeal.main_arg1)
          ∧ r.2.mem ((c.tc : Thread Cert.DGateIdeal.nD Cert.DGateIdeal.τ).loc Cert.DGateIdeal.main_arg2) = m ((c.tc : Thread Cert.DGateIdeal.nD Cert.DGateIdeal.τ).loc Cert.DGateIdeal.main_arg2)
          ∧ r.2.mem ((c.tc : Thread Cert.DGateIdeal.nD Cert.DGateIdeal.τ).loc Cert.DGateIdeal.main_arg3) = m ((c.tc : Thread Cert.DGateIdeal.nD Cert.DGateIdeal.τ).loc Cert.DGateIdeal.main_arg3))
      ∧ θ_run (Cert.DGateRefIdeal.defs (F := Ideal)) (onTc (τ := Cert.DGateRefIdeal.τ) (Cert.DGateRefIdeal.main (F := Ideal))) ⟨m', fun _ => 0, g'⟩ (fun r => ∀ c : Dev Cert.DGateRefIdeal.nD,
          r.2.mem ((c.tc : Thread Cert.DGateRefIdeal.nD Cert.DGateRefIdeal.τ).loc Cert.DGateRefIdeal.main_v46) = v0 c
          ∧ r.2.mem ((c.tc : Thread Cert.DGateRefIdeal.nD Cert.DGateRefIdeal.τ).loc Cert.DGateRefIdeal.main_v48) = v1 c
          ∧ r.2.mem ((c.tc : Thread Cert.DGateRefIdeal.nD Cert.DGateRefIdeal.τ).loc Cert.DGateRefIdeal.main_v43) = v2 c
          ∧ r.2.mem ((c.tc : Thread Cert.DGateRefIdeal.nD Cert.DGateRefIdeal.τ).loc Cert.DGateRefIdeal.main_arg0) = m' ((c.tc : Thread Cert.DGateRefIdeal.nD Cert.DGateRefIdeal.τ).loc Cert.DGateRefIdeal.main_arg0)
          ∧ r.2.mem ((c.tc : Thread Cert.DGateRefIdeal.nD Cert.DGateRefIdeal.τ).loc Cert.DGateRefIdeal.main_arg1) = m' ((c.tc : Thread Cert.DGateRefIdeal.nD Cert.DGateRefIdeal.τ).loc Cert.DGateRefIdeal.main_arg1)
          ∧ r.2.mem ((c.tc : Thread Cert.DGateRefIdeal.nD Cert.DGateRefIdeal.τ).loc Cert.DGateRefIdeal.main_arg2) = m' ((c.tc : Thread Cert.DGateRefIdeal.nD Cert.DGateRefIdeal.τ).loc Cert.DGateRefIdeal.main_arg2)
          ∧ r.2.mem ((c.tc : Thread Cert.DGateRefIdeal.nD Cert.DGateRefIdeal.τ).loc Cert.DGateRefIdeal.main_arg3) = m' ((c.tc : Thread Cert.DGateRefIdeal.nD Cert.DGateRefIdeal.τ).loc Cert.DGateRefIdeal.main_arg3))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v0)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v12) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_RmsMem_RmsMemIdeal : Prop :=
  True

def algebraic_RmsMemIdeal_RmsMemRefIdeal [hRmsMemIdeal : Cert.RmsMemIdeal.Facts] [hRmsMemRefIdeal : Cert.RmsMemRefIdeal.Facts] : Prop :=
  ∀ (m : (ℓ : Loc Cert.RmsMemIdeal.nD Cert.RmsMemIdeal.τ Cert.RmsMemIdeal.sig) → Buf (Elt Ideal) ℓ) (g : Dev Cert.RmsMemIdeal.nD → PrngReg)
    (m' : (ℓ : Loc Cert.RmsMemRefIdeal.nD Cert.RmsMemRefIdeal.τ Cert.RmsMemRefIdeal.sig) → Buf (Elt Ideal) ℓ) (g' : Dev Cert.RmsMemRefIdeal.nD → PrngReg), Pre_RmsMemIdeal m →
    (∀ c : Dev Cert.RmsMemIdeal.nD,
      m' ((c.tc : Thread Cert.RmsMemRefIdeal.nD Cert.RmsMemRefIdeal.τ).loc Cert.RmsMemRefIdeal.main_arg0) = m ((c.tc : Thread Cert.RmsMemIdeal.nD Cert.RmsMemIdeal.τ).loc Cert.RmsMemIdeal.main_arg0)
      ∧ m' ((c.tc : Thread Cert.RmsMemRefIdeal.nD Cert.RmsMemRefIdeal.τ).loc Cert.RmsMemRefIdeal.main_arg1) = m ((c.tc : Thread Cert.RmsMemIdeal.nD Cert.RmsMemIdeal.τ).loc Cert.RmsMemIdeal.main_arg1)) →
    ∃ (v0 : (c : Dev Cert.RmsMemIdeal.nD) → Buf (Elt Ideal) ((c.tc : Thread Cert.RmsMemIdeal.nD Cert.RmsMemIdeal.τ).loc Cert.RmsMemIdeal.main_v0)),
      θ_run (Cert.RmsMemIdeal.defs (F := Ideal)) (onTc (τ := Cert.RmsMemIdeal.τ) (Cert.RmsMemIdeal.main (F := Ideal))) ⟨m, fun _ => 0, g⟩ (fun r => ∀ c : Dev Cert.RmsMemIdeal.nD,
          r.2.mem ((c.tc : Thread Cert.RmsMemIdeal.nD Cert.RmsMemIdeal.τ).loc Cert.RmsMemIdeal.main_v0) = v0 c
          ∧ r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
          ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1))
      ∧ θ_run (Cert.RmsMemRefIdeal.defs (F := Ideal)) (onTc (τ := Cert.RmsMemRefIdeal.τ) (Cert.RmsMemRefIdeal.main (F := Ideal))) ⟨m', fun _ => 0, g'⟩ (fun r => ∀ c : Dev Cert.RmsMemRefIdeal.nD,
          r.2.mem ((c.tc : Thread Cert.RmsMemRefIdeal.nD Cert.RmsMemRefIdeal.τ).loc Cert.RmsMemRefIdeal.main_v12) = v0 c
          ∧ r.2.mem ((c.tc : Thread Cert.RmsMemRefIdeal.nD Cert.RmsMemRefIdeal.τ).loc Cert.RmsMemRefIdeal.main_arg0) = m' ((c.tc : Thread Cert.RmsMemRefIdeal.nD Cert.RmsMemRefIdeal.τ).loc Cert.RmsMemRefIdeal.main_arg0)
          ∧ r.2.mem ((c.tc : Thread Cert.RmsMemRefIdeal.nD Cert.RmsMemRefIdeal.τ).loc Cert.RmsMemRefIdeal.main_arg1) = m' ((c.tc : Thread Cert.RmsMemRefIdeal.nD Cert.RmsMemRefIdeal.τ).loc Cert.RmsMemRefIdeal.main_arg1))

def preserves_LnSilu_LnSiluIdeal : Prop :=
  True

def algebraic_LnSiluIdeal_LnSiluRefIdeal [hLnSiluIdeal : Cert.LnSiluIdeal.Facts] [hLnSiluRefIdeal : Cert.LnSiluRefIdeal.Facts] : Prop :=
  ∀ (m : (ℓ : Loc Cert.LnSiluIdeal.nD Cert.LnSiluIdeal.τ Cert.LnSiluIdeal.sig) → Buf (Elt Ideal) ℓ) (g : Dev Cert.LnSiluIdeal.nD → PrngReg)
    (m' : (ℓ : Loc Cert.LnSiluRefIdeal.nD Cert.LnSiluRefIdeal.τ Cert.LnSiluRefIdeal.sig) → Buf (Elt Ideal) ℓ) (g' : Dev Cert.LnSiluRefIdeal.nD → PrngReg), Pre_LnSiluIdeal m →
    (∀ c : Dev Cert.LnSiluIdeal.nD,
      m' ((c.tc : Thread Cert.LnSiluRefIdeal.nD Cert.LnSiluRefIdeal.τ).loc Cert.LnSiluRefIdeal.main_arg0) = m ((c.tc : Thread Cert.LnSiluIdeal.nD Cert.LnSiluIdeal.τ).loc Cert.LnSiluIdeal.main_arg0)
      ∧ m' ((c.tc : Thread Cert.LnSiluRefIdeal.nD Cert.LnSiluRefIdeal.τ).loc Cert.LnSiluRefIdeal.main_arg1) = m ((c.tc : Thread Cert.LnSiluIdeal.nD Cert.LnSiluIdeal.τ).loc Cert.LnSiluIdeal.main_arg1)
      ∧ m' ((c.tc : Thread Cert.LnSiluRefIdeal.nD Cert.LnSiluRefIdeal.τ).loc Cert.LnSiluRefIdeal.main_arg2) = m ((c.tc : Thread Cert.LnSiluIdeal.nD Cert.LnSiluIdeal.τ).loc Cert.LnSiluIdeal.main_arg2)) →
    ∃ (v0 : (c : Dev Cert.LnSiluIdeal.nD) → Buf (Elt Ideal) ((c.tc : Thread Cert.LnSiluIdeal.nD Cert.LnSiluIdeal.τ).loc Cert.LnSiluIdeal.main_v0)),
      θ_run (Cert.LnSiluIdeal.defs (F := Ideal)) (onTc (τ := Cert.LnSiluIdeal.τ) (Cert.LnSiluIdeal.main (F := Ideal))) ⟨m, fun _ => 0, g⟩ (fun r => ∀ c : Dev Cert.LnSiluIdeal.nD,
          r.2.mem ((c.tc : Thread Cert.LnSiluIdeal.nD Cert.LnSiluIdeal.τ).loc Cert.LnSiluIdeal.main_v0) = v0 c
          ∧ r.2.mem ((c.tc : Thread Cert.LnSiluIdeal.nD Cert.LnSiluIdeal.τ).loc Cert.LnSiluIdeal.main_arg0) = m ((c.tc : Thread Cert.LnSiluIdeal.nD Cert.LnSiluIdeal.τ).loc Cert.LnSiluIdeal.main_arg0)
          ∧ r.2.mem ((c.tc : Thread Cert.LnSiluIdeal.nD Cert.LnSiluIdeal.τ).loc Cert.LnSiluIdeal.main_arg1) = m ((c.tc : Thread Cert.LnSiluIdeal.nD Cert.LnSiluIdeal.τ).loc Cert.LnSiluIdeal.main_arg1)
          ∧ r.2.mem ((c.tc : Thread Cert.LnSiluIdeal.nD Cert.LnSiluIdeal.τ).loc Cert.LnSiluIdeal.main_arg2) = m ((c.tc : Thread Cert.LnSiluIdeal.nD Cert.LnSiluIdeal.τ).loc Cert.LnSiluIdeal.main_arg2))
      ∧ θ_run (Cert.LnSiluRefIdeal.defs (F := Ideal)) (onTc (τ := Cert.LnSiluRefIdeal.τ) (Cert.LnSiluRefIdeal.main (F := Ideal))) ⟨m', fun _ => 0, g'⟩ (fun r => ∀ c : Dev Cert.LnSiluRefIdeal.nD,
          r.2.mem ((c.tc : Thread Cert.LnSiluRefIdeal.nD Cert.LnSiluRefIdeal.τ).loc Cert.LnSiluRefIdeal.main_v21) = v0 c
          ∧ r.2.mem ((c.tc : Thread Cert.LnSiluRefIdeal.nD Cert.LnSiluRefIdeal.τ).loc Cert.LnSiluRefIdeal.main_arg0) = m' ((c.tc : Thread Cert.LnSiluRefIdeal.nD Cert.LnSiluRefIdeal.τ).loc Cert.LnSiluRefIdeal.main_arg0)
          ∧ r.2.mem ((c.tc : Thread Cert.LnSiluRefIdeal.nD Cert.LnSiluRefIdeal.τ).loc Cert.LnSiluRefIdeal.main_arg1) = m' ((c.tc : Thread Cert.LnSiluRefIdeal.nD Cert.LnSiluRefIdeal.τ).loc Cert.LnSiluRefIdeal.main_arg1)
          ∧ r.2.mem ((c.tc : Thread Cert.LnSiluRefIdeal.nD Cert.LnSiluRefIdeal.τ).loc Cert.LnSiluRefIdeal.main_arg2) = m' ((c.tc : Thread Cert.LnSiluRefIdeal.nD Cert.LnSiluRefIdeal.τ).loc Cert.LnSiluRefIdeal.main_arg2))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v18) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v21) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4))

def preserves_AdamSq_AdamSqIdeal : Prop :=
  True

def algebraic_AdamSqIdeal_AdamSqRefIdeal [hAdamSqIdeal : Cert.AdamSqIdeal.Facts] [hAdamSqRefIdeal : Cert.AdamSqRefIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg)
    (m' : (ℓ : Loc Cert.AdamSqRefIdeal.nD Cert.AdamSqRefIdeal.τ Cert.AdamSqRefIdeal.sig) → Buf (Elt Ideal) ℓ) (g' : Dev Cert.AdamSqRefIdeal.nD → PrngReg), Pre_AdamSqIdeal m →
    (∀ c : Dev Cert.AdamSqIdeal.nD,
      m' ((c.tc : Thread Cert.AdamSqRefIdeal.nD Cert.AdamSqRefIdeal.τ).loc Cert.AdamSqRefIdeal.main_arg0) = m ((c.tc : Thread Cert.AdamSqIdeal.nD Cert.AdamSqIdeal.τ).loc Cert.AdamSqIdeal.main_arg0)
      ∧ m' ((c.tc : Thread Cert.AdamSqRefIdeal.nD Cert.AdamSqRefIdeal.τ).loc Cert.AdamSqRefIdeal.main_arg1) = m ((c.tc : Thread Cert.AdamSqIdeal.nD Cert.AdamSqIdeal.τ).loc Cert.AdamSqIdeal.main_arg1)
      ∧ m' ((c.tc : Thread Cert.AdamSqRefIdeal.nD Cert.AdamSqRefIdeal.τ).loc Cert.AdamSqRefIdeal.main_arg2) = m ((c.tc : Thread Cert.AdamSqIdeal.nD Cert.AdamSqIdeal.τ).loc Cert.AdamSqIdeal.main_arg2)
      ∧ m' ((c.tc : Thread Cert.AdamSqRefIdeal.nD Cert.AdamSqRefIdeal.τ).loc Cert.AdamSqRefIdeal.main_arg3) = m ((c.tc : Thread Cert.AdamSqIdeal.nD Cert.AdamSqIdeal.τ).loc Cert.AdamSqIdeal.main_arg3)) →
    ∃ (v0 : (c : Dev Cert.AdamSqIdeal.nD) → Buf (Elt Ideal) ((c.tc : Thread Cert.AdamSqIdeal.nD Cert.AdamSqIdeal.τ).loc Cert.AdamSqIdeal.main_v0_0)) (v1 : (c : Dev Cert.AdamSqIdeal.nD) → Buf (Elt Ideal) ((c.tc : Thread Cert.AdamSqIdeal.nD Cert.AdamSqIdeal.τ).loc Cert.AdamSqIdeal.main_v0_1)) (v2 : (c : Dev Cert.AdamSqIdeal.nD) → Buf (Elt Ideal) ((c.tc : Thread Cert.AdamSqIdeal.nD Cert.AdamSqIdeal.τ).loc Cert.AdamSqIdeal.main_v0_2)) (v3 : (c : Dev Cert.AdamSqIdeal.nD) → Buf (Elt Ideal) ((c.tc : Thread Cert.AdamSqIdeal.nD Cert.AdamSqIdeal.τ).loc Cert.AdamSqIdeal.main_v0_3)),
      θ_run (Cert.AdamSqIdeal.defs (F := Ideal)) (onTc (τ := Cert.AdamSqIdeal.τ) (Cert.AdamSqIdeal.main (F := Ideal))) ⟨m, fun _ => 0, g⟩ (fun r => ∀ c : Dev Cert.AdamSqIdeal.nD,
          r.2.mem ((c.tc : Thread Cert.AdamSqIdeal.nD Cert.AdamSqIdeal.τ).loc Cert.AdamSqIdeal.main_v0_0) = v0 c
          ∧ r.2.mem ((c.tc : Thread Cert.AdamSqIdeal.nD Cert.AdamSqIdeal.τ).loc Cert.AdamSqIdeal.main_v0_1) = v1 c
          ∧ r.2.mem ((c.tc : Thread Cert.AdamSqIdeal.nD Cert.AdamSqIdeal.τ).loc Cert.AdamSqIdeal.main_v0_2) = v2 c
          ∧ r.2.mem ((c.tc : Thread Cert.AdamSqIdeal.nD Cert.AdamSqIdeal.τ).loc Cert.AdamSqIdeal.main_v0_3) = v3 c
          ∧ r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
          ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
          ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
          ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3))
      ∧ θ_run (Cert.AdamSqRefIdeal.defs (F := Ideal)) (onTc (τ := Cert.AdamSqRefIdeal.τ) (Cert.AdamSqRefIdeal.main (F := Ideal))) ⟨m', fun _ => 0, g'⟩ (fun r => ∀ c : Dev Cert.AdamSqRefIdeal.nD,
          r.2.mem ((c.tc : Thread Cert.AdamSqRefIdeal.nD Cert.AdamSqRefIdeal.τ).loc Cert.AdamSqRefIdeal.main_v1) = v0 c
          ∧ r.2.mem ((c.tc : Thread Cert.AdamSqRefIdeal.nD Cert.AdamSqRefIdeal.τ).loc Cert.AdamSqRefIdeal.main_v31) = v1 c
          ∧ r.2.mem ((c.tc : Thread Cert.AdamSqRefIdeal.nD Cert.AdamSqRefIdeal.τ).loc Cert.AdamSqRefIdeal.main_v12) = v2 c
          ∧ r.2.mem ((c.tc : Thread Cert.AdamSqRefIdeal.nD Cert.AdamSqRefIdeal.τ).loc Cert.AdamSqRefIdeal.main_v18) = v3 c
          ∧ r.2.mem ((c.tc : Thread Cert.AdamSqRefIdeal.nD Cert.AdamSqRefIdeal.τ).loc Cert.AdamSqRefIdeal.main_arg0) = m' ((c.tc : Thread Cert.AdamSqRefIdeal.nD Cert.AdamSqRefIdeal.τ).loc Cert.AdamSqRefIdeal.main_arg0)
          ∧ r.2.mem ((c.tc : Thread Cert.AdamSqRefIdeal.nD Cert.AdamSqRefIdeal.τ).loc Cert.AdamSqRefIdeal.main_arg1) = m' ((c.tc : Thread Cert.AdamSqRefIdeal.nD Cert.AdamSqRefIdeal.τ).loc Cert.AdamSqRefIdeal.main_arg1)
          ∧ r.2.mem ((c.tc : Thread Cert.AdamSqRefIdeal.nD Cert.AdamSqRefIdeal.τ).loc Cert.AdamSqRefIdeal.main_arg2) = m' ((c.tc : Thread Cert.AdamSqRefIdeal.nD Cert.AdamSqRefIdeal.τ).loc Cert.AdamSqRefIdeal.main_arg2)
          ∧ r.2.mem ((c.tc : Thread Cert.AdamSqRefIdeal.nD Cert.AdamSqRefIdeal.τ).loc Cert.AdamSqRefIdeal.main_arg3) = m' ((c.tc : Thread Cert.AdamSqRefIdeal.nD Cert.AdamSqRefIdeal.τ).loc Cert.AdamSqRefIdeal.main_arg3))

def preserves_AdamSsd_AdamSsdIdeal : Prop :=
  True

def algebraic_AdamSsdIdeal_AdamSsdRefIdeal [hAdamSsdIdeal : Cert.AdamSsdIdeal.Facts] [hAdamSsdRefIdeal : Cert.AdamSsdRefIdeal.Facts] : Prop :=
  ∀ (m : (ℓ : Loc Cert.AdamSsdIdeal.nD Cert.AdamSsdIdeal.τ Cert.AdamSsdIdeal.sig) → Buf (Elt Ideal) ℓ) (g : Dev Cert.AdamSsdIdeal.nD → PrngReg)
    (m' : (ℓ : Loc Cert.AdamSsdRefIdeal.nD Cert.AdamSsdRefIdeal.τ Cert.AdamSsdRefIdeal.sig) → Buf (Elt Ideal) ℓ) (g' : Dev Cert.AdamSsdRefIdeal.nD → PrngReg), Pre_AdamSsdIdeal m →
    (∀ c : Dev Cert.AdamSsdIdeal.nD,
      m' ((c.tc : Thread Cert.AdamSsdRefIdeal.nD Cert.AdamSsdRefIdeal.τ).loc Cert.AdamSsdRefIdeal.main_arg0) = m ((c.tc : Thread Cert.AdamSsdIdeal.nD Cert.AdamSsdIdeal.τ).loc Cert.AdamSsdIdeal.main_arg0)
      ∧ m' ((c.tc : Thread Cert.AdamSsdRefIdeal.nD Cert.AdamSsdRefIdeal.τ).loc Cert.AdamSsdRefIdeal.main_arg1) = m ((c.tc : Thread Cert.AdamSsdIdeal.nD Cert.AdamSsdIdeal.τ).loc Cert.AdamSsdIdeal.main_arg1)
      ∧ m' ((c.tc : Thread Cert.AdamSsdRefIdeal.nD Cert.AdamSsdRefIdeal.τ).loc Cert.AdamSsdRefIdeal.main_arg2) = m ((c.tc : Thread Cert.AdamSsdIdeal.nD Cert.AdamSsdIdeal.τ).loc Cert.AdamSsdIdeal.main_arg2)
      ∧ m' ((c.tc : Thread Cert.AdamSsdRefIdeal.nD Cert.AdamSsdRefIdeal.τ).loc Cert.AdamSsdRefIdeal.main_arg3) = m ((c.tc : Thread Cert.AdamSsdIdeal.nD Cert.AdamSsdIdeal.τ).loc Cert.AdamSsdIdeal.main_arg3)) →
    ∃ (v0 : (c : Dev Cert.AdamSsdIdeal.nD) → Buf (Elt Ideal) ((c.tc : Thread Cert.AdamSsdIdeal.nD Cert.AdamSsdIdeal.τ).loc Cert.AdamSsdIdeal.main_v0_0)) (v1 : (c : Dev Cert.AdamSsdIdeal.nD) → Buf (Elt Ideal) ((c.tc : Thread Cert.AdamSsdIdeal.nD Cert.AdamSsdIdeal.τ).loc Cert.AdamSsdIdeal.main_v0_1)) (v2 : (c : Dev Cert.AdamSsdIdeal.nD) → Buf (Elt Ideal) ((c.tc : Thread Cert.AdamSsdIdeal.nD Cert.AdamSsdIdeal.τ).loc Cert.AdamSsdIdeal.main_v0_2)) (v3 : (c : Dev Cert.AdamSsdIdeal.nD) → Buf (Elt Ideal) ((c.tc : Thread Cert.AdamSsdIdeal.nD Cert.AdamSsdIdeal.τ).loc Cert.AdamSsdIdeal.main_v0_3)),
      θ_run (Cert.AdamSsdIdeal.defs (F := Ideal)) (onTc (τ := Cert.AdamSsdIdeal.τ) (Cert.AdamSsdIdeal.main (F := Ideal))) ⟨m, fun _ => 0, g⟩ (fun r => ∀ c : Dev Cert.AdamSsdIdeal.nD,
          r.2.mem ((c.tc : Thread Cert.AdamSsdIdeal.nD Cert.AdamSsdIdeal.τ).loc Cert.AdamSsdIdeal.main_v0_0) = v0 c
          ∧ r.2.mem ((c.tc : Thread Cert.AdamSsdIdeal.nD Cert.AdamSsdIdeal.τ).loc Cert.AdamSsdIdeal.main_v0_1) = v1 c
          ∧ r.2.mem ((c.tc : Thread Cert.AdamSsdIdeal.nD Cert.AdamSsdIdeal.τ).loc Cert.AdamSsdIdeal.main_v0_2) = v2 c
          ∧ r.2.mem ((c.tc : Thread Cert.AdamSsdIdeal.nD Cert.AdamSsdIdeal.τ).loc Cert.AdamSsdIdeal.main_v0_3) = v3 c
          ∧ r.2.mem ((c.tc : Thread Cert.AdamSsdIdeal.nD Cert.AdamSsdIdeal.τ).loc Cert.AdamSsdIdeal.main_arg0) = m ((c.tc : Thread Cert.AdamSsdIdeal.nD Cert.AdamSsdIdeal.τ).loc Cert.AdamSsdIdeal.main_arg0)
          ∧ r.2.mem ((c.tc : Thread Cert.AdamSsdIdeal.nD Cert.AdamSsdIdeal.τ).loc Cert.AdamSsdIdeal.main_arg1) = m ((c.tc : Thread Cert.AdamSsdIdeal.nD Cert.AdamSsdIdeal.τ).loc Cert.AdamSsdIdeal.main_arg1)
          ∧ r.2.mem ((c.tc : Thread Cert.AdamSsdIdeal.nD Cert.AdamSsdIdeal.τ).loc Cert.AdamSsdIdeal.main_arg2) = m ((c.tc : Thread Cert.AdamSsdIdeal.nD Cert.AdamSsdIdeal.τ).loc Cert.AdamSsdIdeal.main_arg2)
          ∧ r.2.mem ((c.tc : Thread Cert.AdamSsdIdeal.nD Cert.AdamSsdIdeal.τ).loc Cert.AdamSsdIdeal.main_arg3) = m ((c.tc : Thread Cert.AdamSsdIdeal.nD Cert.AdamSsdIdeal.τ).loc Cert.AdamSsdIdeal.main_arg3))
      ∧ θ_run (Cert.AdamSsdRefIdeal.defs (F := Ideal)) (onTc (τ := Cert.AdamSsdRefIdeal.τ) (Cert.AdamSsdRefIdeal.main (F := Ideal))) ⟨m', fun _ => 0, g'⟩ (fun r => ∀ c : Dev Cert.AdamSsdRefIdeal.nD,
          r.2.mem ((c.tc : Thread Cert.AdamSsdRefIdeal.nD Cert.AdamSsdRefIdeal.τ).loc Cert.AdamSsdRefIdeal.main_v1) = v0 c
          ∧ r.2.mem ((c.tc : Thread Cert.AdamSsdRefIdeal.nD Cert.AdamSsdRefIdeal.τ).loc Cert.AdamSsdRefIdeal.main_v31) = v1 c
          ∧ r.2.mem ((c.tc : Thread Cert.AdamSsdRefIdeal.nD Cert.AdamSsdRefIdeal.τ).loc Cert.AdamSsdRefIdeal.main_v12) = v2 c
          ∧ r.2.mem ((c.tc : Thread Cert.AdamSsdRefIdeal.nD Cert.AdamSsdRefIdeal.τ).loc Cert.AdamSsdRefIdeal.main_v18) = v3 c
          ∧ r.2.mem ((c.tc : Thread Cert.AdamSsdRefIdeal.nD Cert.AdamSsdRefIdeal.τ).loc Cert.AdamSsdRefIdeal.main_arg0) = m' ((c.tc : Thread Cert.AdamSsdRefIdeal.nD Cert.AdamSsdRefIdeal.τ).loc Cert.AdamSsdRefIdeal.main_arg0)
          ∧ r.2.mem ((c.tc : Thread Cert.AdamSsdRefIdeal.nD Cert.AdamSsdRefIdeal.τ).loc Cert.AdamSsdRefIdeal.main_arg1) = m' ((c.tc : Thread Cert.AdamSsdRefIdeal.nD Cert.AdamSsdRefIdeal.τ).loc Cert.AdamSsdRefIdeal.main_arg1)
          ∧ r.2.mem ((c.tc : Thread Cert.AdamSsdRefIdeal.nD Cert.AdamSsdRefIdeal.τ).loc Cert.AdamSsdRefIdeal.main_arg2) = m' ((c.tc : Thread Cert.AdamSsdRefIdeal.nD Cert.AdamSsdRefIdeal.τ).loc Cert.AdamSsdRefIdeal.main_arg2)
          ∧ r.2.mem ((c.tc : Thread Cert.AdamSsdRefIdeal.nD Cert.AdamSsdRefIdeal.τ).loc Cert.AdamSsdRefIdeal.main_arg3) = m' ((c.tc : Thread Cert.AdamSsdRefIdeal.nD Cert.AdamSsdRefIdeal.τ).loc Cert.AdamSsdRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v1) = v0 c
          ∧ r.2.mem ((c.tc : Thread Cert.AdamDownRefIdeal.nD Cert.AdamDownRefIdeal.τ).loc Cert.AdamDownRefIdeal.main_v31) = v1 c
          ∧ r.2.mem ((c.tc : Thread Cert.AdamDownRefIdeal.nD Cert.AdamDownRefIdeal.τ).loc Cert.AdamDownRefIdeal.main_v12) = v2 c
          ∧ r.2.mem ((c.tc : Thread Cert.AdamDownRefIdeal.nD Cert.AdamDownRefIdeal.τ).loc Cert.AdamDownRefIdeal.main_v18) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v31) = v1 c
          ∧ r.2.mem ((c.tc : Thread Cert.AdamInRefIdeal.nD Cert.AdamInRefIdeal.τ).loc Cert.AdamInRefIdeal.main_v12) = v2 c
          ∧ r.2.mem ((c.tc : Thread Cert.AdamInRefIdeal.nD Cert.AdamInRefIdeal.τ).loc Cert.AdamInRefIdeal.main_v18) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamXkv_AdamXkvIdeal : Prop :=
  True

def algebraic_AdamXkvIdeal_AdamXkvRefIdeal [hAdamXkvIdeal : Cert.AdamXkvIdeal.Facts] [hAdamXkvRefIdeal : Cert.AdamXkvRefIdeal.Facts] : Prop :=
  ∀ (m : (ℓ : Loc Cert.AdamXkvIdeal.nD Cert.AdamXkvIdeal.τ Cert.AdamXkvIdeal.sig) → Buf (Elt Ideal) ℓ) (g : Dev Cert.AdamXkvIdeal.nD → PrngReg)
    (m' : (ℓ : Loc Cert.AdamXkvRefIdeal.nD Cert.AdamXkvRefIdeal.τ Cert.AdamXkvRefIdeal.sig) → Buf (Elt Ideal) ℓ) (g' : Dev Cert.AdamXkvRefIdeal.nD → PrngReg), Pre_AdamXkvIdeal m →
    (∀ c : Dev Cert.AdamXkvIdeal.nD,
      m' ((c.tc : Thread Cert.AdamXkvRefIdeal.nD Cert.AdamXkvRefIdeal.τ).loc Cert.AdamXkvRefIdeal.main_arg0) = m ((c.tc : Thread Cert.AdamXkvIdeal.nD Cert.AdamXkvIdeal.τ).loc Cert.AdamXkvIdeal.main_arg0)
      ∧ m' ((c.tc : Thread Cert.AdamXkvRefIdeal.nD Cert.AdamXkvRefIdeal.τ).loc Cert.AdamXkvRefIdeal.main_arg1) = m ((c.tc : Thread Cert.AdamXkvIdeal.nD Cert.AdamXkvIdeal.τ).loc Cert.AdamXkvIdeal.main_arg1)
      ∧ m' ((c.tc : Thread Cert.AdamXkvRefIdeal.nD Cert.AdamXkvRefIdeal.τ).loc Cert.AdamXkvRefIdeal.main_arg2) = m ((c.tc : Thread Cert.AdamXkvIdeal.nD Cert.AdamXkvIdeal.τ).loc Cert.AdamXkvIdeal.main_arg2)
      ∧ m' ((c.tc : Thread Cert.AdamXkvRefIdeal.nD Cert.AdamXkvRefIdeal.τ).loc Cert.AdamXkvRefIdeal.main_arg3) = m ((c.tc : Thread Cert.AdamXkvIdeal.nD Cert.AdamXkvIdeal.τ).loc Cert.AdamXkvIdeal.main_arg3)) →
    ∃ (v0 : (c : Dev Cert.AdamXkvIdeal.nD) → Buf (Elt Ideal) ((c.tc : Thread Cert.AdamXkvIdeal.nD Cert.AdamXkvIdeal.τ).loc Cert.AdamXkvIdeal.main_v0_0)) (v1 : (c : Dev Cert.AdamXkvIdeal.nD) → Buf (Elt Ideal) ((c.tc : Thread Cert.AdamXkvIdeal.nD Cert.AdamXkvIdeal.τ).loc Cert.AdamXkvIdeal.main_v0_1)) (v2 : (c : Dev Cert.AdamXkvIdeal.nD) → Buf (Elt Ideal) ((c.tc : Thread Cert.AdamXkvIdeal.nD Cert.AdamXkvIdeal.τ).loc Cert.AdamXkvIdeal.main_v0_2)) (v3 : (c : Dev Cert.AdamXkvIdeal.nD) → Buf (Elt Ideal) ((c.tc : Thread Cert.AdamXkvIdeal.nD Cert.AdamXkvIdeal.τ).loc Cert.AdamXkvIdeal.main_v0_3)),
      θ_run (Cert.AdamXkvIdeal.defs (F := Ideal)) (onTc (τ := Cert.AdamXkvIdeal.τ) (Cert.AdamXkvIdeal.main (F := Ideal))) ⟨m, fun _ => 0, g⟩ (fun r => ∀ c : Dev Cert.AdamXkvIdeal.nD,
          r.2.mem ((c.tc : Thread Cert.AdamXkvIdeal.nD Cert.AdamXkvIdeal.τ).loc Cert.AdamXkvIdeal.main_v0_0) = v0 c
          ∧ r.2.mem ((c.tc : Thread Cert.AdamXkvIdeal.nD Cert.AdamXkvIdeal.τ).loc Cert.AdamXkvIdeal.main_v0_1) = v1 c
          ∧ r.2.mem ((c.tc : Thread Cert.AdamXkvIdeal.nD Cert.AdamXkvIdeal.τ).loc Cert.AdamXkvIdeal.main_v0_2) = v2 c
          ∧ r.2.mem ((c.tc : Thread Cert.AdamXkvIdeal.nD Cert.AdamXkvIdeal.τ).loc Cert.AdamXkvIdeal.main_v0_3) = v3 c
          ∧ r.2.mem ((c.tc : Thread Cert.AdamXkvIdeal.nD Cert.AdamXkvIdeal.τ).loc Cert.AdamXkvIdeal.main_arg0) = m ((c.tc : Thread Cert.AdamXkvIdeal.nD Cert.AdamXkvIdeal.τ).loc Cert.AdamXkvIdeal.main_arg0)
          ∧ r.2.mem ((c.tc : Thread Cert.AdamXkvIdeal.nD Cert.AdamXkvIdeal.τ).loc Cert.AdamXkvIdeal.main_arg1) = m ((c.tc : Thread Cert.AdamXkvIdeal.nD Cert.AdamXkvIdeal.τ).loc Cert.AdamXkvIdeal.main_arg1)
          ∧ r.2.mem ((c.tc : Thread Cert.AdamXkvIdeal.nD Cert.AdamXkvIdeal.τ).loc Cert.AdamXkvIdeal.main_arg2) = m ((c.tc : Thread Cert.AdamXkvIdeal.nD Cert.AdamXkvIdeal.τ).loc Cert.AdamXkvIdeal.main_arg2)
          ∧ r.2.mem ((c.tc : Thread Cert.AdamXkvIdeal.nD Cert.AdamXkvIdeal.τ).loc Cert.AdamXkvIdeal.main_arg3) = m ((c.tc : Thread Cert.AdamXkvIdeal.nD Cert.AdamXkvIdeal.τ).loc Cert.AdamXkvIdeal.main_arg3))
      ∧ θ_run (Cert.AdamXkvRefIdeal.defs (F := Ideal)) (onTc (τ := Cert.AdamXkvRefIdeal.τ) (Cert.AdamXkvRefIdeal.main (F := Ideal))) ⟨m', fun _ => 0, g'⟩ (fun r => ∀ c : Dev Cert.AdamXkvRefIdeal.nD,
          r.2.mem ((c.tc : Thread Cert.AdamXkvRefIdeal.nD Cert.AdamXkvRefIdeal.τ).loc Cert.AdamXkvRefIdeal.main_v1) = v0 c
          ∧ r.2.mem ((c.tc : Thread Cert.AdamXkvRefIdeal.nD Cert.AdamXkvRefIdeal.τ).loc Cert.AdamXkvRefIdeal.main_v31) = v1 c
          ∧ r.2.mem ((c.tc : Thread Cert.AdamXkvRefIdeal.nD Cert.AdamXkvRefIdeal.τ).loc Cert.AdamXkvRefIdeal.main_v12) = v2 c
          ∧ r.2.mem ((c.tc : Thread Cert.AdamXkvRefIdeal.nD Cert.AdamXkvRefIdeal.τ).loc Cert.AdamXkvRefIdeal.main_v18) = v3 c
          ∧ r.2.mem ((c.tc : Thread Cert.AdamXkvRefIdeal.nD Cert.AdamXkvRefIdeal.τ).loc Cert.AdamXkvRefIdeal.main_arg0) = m' ((c.tc : Thread Cert.AdamXkvRefIdeal.nD Cert.AdamXkvRefIdeal.τ).loc Cert.AdamXkvRefIdeal.main_arg0)
          ∧ r.2.mem ((c.tc : Thread Cert.AdamXkvRefIdeal.nD Cert.AdamXkvRefIdeal.τ).loc Cert.AdamXkvRefIdeal.main_arg1) = m' ((c.tc : Thread Cert.AdamXkvRefIdeal.nD Cert.AdamXkvRefIdeal.τ).loc Cert.AdamXkvRefIdeal.main_arg1)
          ∧ r.2.mem ((c.tc : Thread Cert.AdamXkvRefIdeal.nD Cert.AdamXkvRefIdeal.τ).loc Cert.AdamXkvRefIdeal.main_arg2) = m' ((c.tc : Thread Cert.AdamXkvRefIdeal.nD Cert.AdamXkvRefIdeal.τ).loc Cert.AdamXkvRefIdeal.main_arg2)
          ∧ r.2.mem ((c.tc : Thread Cert.AdamXkvRefIdeal.nD Cert.AdamXkvRefIdeal.τ).loc Cert.AdamXkvRefIdeal.main_arg3) = m' ((c.tc : Thread Cert.AdamXkvRefIdeal.nD Cert.AdamXkvRefIdeal.τ).loc Cert.AdamXkvRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v1) = v0 c
          ∧ r.2.mem ((c.tc : Thread Cert.AdamUpRefIdeal.nD Cert.AdamUpRefIdeal.τ).loc Cert.AdamUpRefIdeal.main_v31) = v1 c
          ∧ r.2.mem ((c.tc : Thread Cert.AdamUpRefIdeal.nD Cert.AdamUpRefIdeal.τ).loc Cert.AdamUpRefIdeal.main_v12) = v2 c
          ∧ r.2.mem ((c.tc : Thread Cert.AdamUpRefIdeal.nD Cert.AdamUpRefIdeal.τ).loc Cert.AdamUpRefIdeal.main_v18) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_v16) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def Claim : Prop :=
  ∃ (hMerge : Cert.Merge.Facts) (hMergeIdeal : Cert.MergeIdeal.Facts) (hMergeRefIdeal : Cert.MergeRefIdeal.Facts) (hDAct : Cert.DAct.Facts) (hDActIdeal : Cert.DActIdeal.Facts) (hDActRefIdeal : Cert.DActRefIdeal.Facts) (hDwDown : Cert.DwDown.Facts) (hDwDownIdeal : Cert.DwDownIdeal.Facts) (hDwDownRefIdeal : Cert.DwDownRefIdeal.Facts) (hDwUp : Cert.DwUp.Facts) (hDwUpIdeal : Cert.DwUpIdeal.Facts) (hDwUpRefIdeal : Cert.DwUpRefIdeal.Facts) (hDUm : Cert.DUm.Facts) (hDUmIdeal : Cert.DUmIdeal.Facts) (hDUmRefIdeal : Cert.DUmRefIdeal.Facts) (hDXo : Cert.DXo.Facts) (hDXoIdeal : Cert.DXoIdeal.Facts) (hDXoRefIdeal : Cert.DXoRefIdeal.Facts) (hDUn : Cert.DUn.Facts) (hDUnIdeal : Cert.DUnIdeal.Facts) (hDUnRefIdeal : Cert.DUnRefIdeal.Facts) (hDwSq : Cert.DwSq.Facts) (hDwSqIdeal : Cert.DwSqIdeal.Facts) (hDwSqRefIdeal : Cert.DwSqRefIdeal.Facts) (hDwXkv : Cert.DwXkv.Facts) (hDwXkvIdeal : Cert.DwXkvIdeal.Facts) (hDwXkvRefIdeal : Cert.DwXkvRefIdeal.Facts) (hDMemn : Cert.DMemn.Facts) (hDMemnIdeal : Cert.DMemnIdeal.Facts) (hDMemnRefIdeal : Cert.DMemnRefIdeal.Facts) (hDYb : Cert.DYb.Facts) (hDYbIdeal : Cert.DYbIdeal.Facts) (hDYbRefIdeal : Cert.DYbRefIdeal.Facts) (hDwSsd : Cert.DwSsd.Facts) (hDwSsdIdeal : Cert.DwSsdIdeal.Facts) (hDwSsdRefIdeal : Cert.DwSsdRefIdeal.Facts) (hDuAg : Cert.DuAg.Facts) (hDuAgIdeal : Cert.DuAgIdeal.Facts) (hDuAgRefIdeal : Cert.DuAgRefIdeal.Facts) (hDuZ : Cert.DuZ.Facts) (hDuZIdeal : Cert.DuZIdeal.Facts) (hDuZRefIdeal : Cert.DuZRefIdeal.Facts) (hDuX : Cert.DuX.Facts) (hDuXIdeal : Cert.DuXIdeal.Facts) (hDuXRefIdeal : Cert.DuXRefIdeal.Facts) (hDuDt : Cert.DuDt.Facts) (hDuDtIdeal : Cert.DuDtIdeal.Facts) (hDuDtRefIdeal : Cert.DuDtRefIdeal.Facts) (hDuQkv : Cert.DuQkv.Facts) (hDuQkvIdeal : Cert.DuQkvIdeal.Facts) (hDuQkvRefIdeal : Cert.DuQkvRefIdeal.Facts) (hDwZ : Cert.DwZ.Facts) (hDwZIdeal : Cert.DwZIdeal.Facts) (hDwZRefIdeal : Cert.DwZRefIdeal.Facts) (hDwX : Cert.DwX.Facts) (hDwXIdeal : Cert.DwXIdeal.Facts) (hDwXRefIdeal : Cert.DwXRefIdeal.Facts) (hDwDt : Cert.DwDt.Facts) (hDwDtIdeal : Cert.DwDtIdeal.Facts) (hDwDtRefIdeal : Cert.DwDtRefIdeal.Facts) (hDwQkv : Cert.DwQkv.Facts) (hDwQkvIdeal : Cert.DwQkvIdeal.Facts) (hDwQkvRefIdeal : Cert.DwQkvRefIdeal.Facts) (hProjA : Cert.ProjA.Facts) (hProjAIdeal : Cert.ProjAIdeal.Facts) (hProjARefIdeal : Cert.ProjARefIdeal.Facts) (hProjZ : Cert.ProjZ.Facts) (hProjZIdeal : Cert.ProjZIdeal.Facts) (hProjZRefIdeal : Cert.ProjZRefIdeal.Facts) (hProjX : Cert.ProjX.Facts) (hProjXIdeal : Cert.ProjXIdeal.Facts) (hProjXRefIdeal : Cert.ProjXRefIdeal.Facts) (hProjDt : Cert.ProjDt.Facts) (hProjDtIdeal : Cert.ProjDtIdeal.Facts) (hProjDtRefIdeal : Cert.ProjDtRefIdeal.Facts) (hProjQkv : Cert.ProjQkv.Facts) (hProjQkvIdeal : Cert.ProjQkvIdeal.Facts) (hProjQkvRefIdeal : Cert.ProjQkvRefIdeal.Facts) (hSsdOut : Cert.SsdOut.Facts) (hSsdOutIdeal : Cert.SsdOutIdeal.Facts) (hSsdOutRefIdeal : Cert.SsdOutRefIdeal.Facts) (hMixOut : Cert.MixOut.Facts) (hMixOutIdeal : Cert.MixOutIdeal.Facts) (hMixOutRefIdeal : Cert.MixOutRefIdeal.Facts) (hMlpDown : Cert.MlpDown.Facts) (hMlpDownIdeal : Cert.MlpDownIdeal.Facts) (hMlpDownRefIdeal : Cert.MlpDownRefIdeal.Facts) (hXkv : Cert.Xkv.Facts) (hXkvIdeal : Cert.XkvIdeal.Facts) (hXkvRefIdeal : Cert.XkvRefIdeal.Facts) (hMlpUp : Cert.MlpUp.Facts) (hMlpUpIdeal : Cert.MlpUpIdeal.Facts) (hMlpUpRefIdeal : Cert.MlpUpRefIdeal.Facts) (hDRms : Cert.DRms.Facts) (hDRmsIdeal : Cert.DRmsIdeal.Facts) (hDRmsRefIdeal : Cert.DRmsRefIdeal.Facts) (hDRmsMem : Cert.DRmsMem.Facts) (hDRmsMemIdeal : Cert.DRmsMemIdeal.Facts) (hDRmsMemRefIdeal : Cert.DRmsMemRefIdeal.Facts) (hDLnSilu : Cert.DLnSilu.Facts) (hDLnSiluIdeal : Cert.DLnSiluIdeal.Facts) (hDLnSiluRefIdeal : Cert.DLnSiluRefIdeal.Facts) (hDGate : Cert.DGate.Facts) (hDGateIdeal : Cert.DGateIdeal.Facts) (hDGateRefIdeal : Cert.DGateRefIdeal.Facts) (hRms : Cert.Rms.Facts) (hRmsIdeal : Cert.RmsIdeal.Facts) (hRmsRefIdeal : Cert.RmsRefIdeal.Facts) (hRmsMem : Cert.RmsMem.Facts) (hRmsMemIdeal : Cert.RmsMemIdeal.Facts) (hRmsMemRefIdeal : Cert.RmsMemRefIdeal.Facts) (hLnSilu : Cert.LnSilu.Facts) (hLnSiluIdeal : Cert.LnSiluIdeal.Facts) (hLnSiluRefIdeal : Cert.LnSiluRefIdeal.Facts) (hGate : Cert.Gate.Facts) (hGateIdeal : Cert.GateIdeal.Facts) (hGateRefIdeal : Cert.GateRefIdeal.Facts) (hMergeFwd : Cert.MergeFwd.Facts) (hMergeFwdIdeal : Cert.MergeFwdIdeal.Facts) (hMergeFwdRefIdeal : Cert.MergeFwdRefIdeal.Facts) (hAdamSq : Cert.AdamSq.Facts) (hAdamSqIdeal : Cert.AdamSqIdeal.Facts) (hAdamSqRefIdeal : Cert.AdamSqRefIdeal.Facts) (hAdamSsd : Cert.AdamSsd.Facts) (hAdamSsdIdeal : Cert.AdamSsdIdeal.Facts) (hAdamSsdRefIdeal : Cert.AdamSsdRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hAdamXkv : Cert.AdamXkv.Facts) (hAdamXkvIdeal : Cert.AdamXkvIdeal.Facts) (hAdamXkvRefIdeal : Cert.AdamXkvRefIdeal.Facts) (hAdamUp : Cert.AdamUp.Facts) (hAdamUpIdeal : Cert.AdamUpIdeal.Facts) (hAdamUpRefIdeal : Cert.AdamUpRefIdeal.Facts) (hAdamSmall : Cert.AdamSmall.Facts) (hAdamSmallIdeal : Cert.AdamSmallIdeal.Facts) (hAdamSmallRefIdeal : Cert.AdamSmallRefIdeal.Facts) (hSumSmall : Cert.SumSmall.Facts) (hSumSmallIdeal : Cert.SumSmallIdeal.Facts) (hSumSmallRefIdeal : Cert.SumSmallRefIdeal.Facts) (hLoss : Cert.Loss.Facts) (hLossIdeal : Cert.LossIdeal.Facts) (hLossRefIdeal : Cert.LossRefIdeal.Facts),
    quiescent_Merge (hMerge := hMerge)
    ∧ quiescent_MergeIdeal (hMergeIdeal := hMergeIdeal)
    ∧ quiescent_MergeRefIdeal (hMergeRefIdeal := hMergeRefIdeal)
    ∧ quiescent_DAct (hDAct := hDAct)
    ∧ quiescent_DActIdeal (hDActIdeal := hDActIdeal)
    ∧ quiescent_DActRefIdeal (hDActRefIdeal := hDActRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DUm (hDUm := hDUm)
    ∧ quiescent_DUmIdeal (hDUmIdeal := hDUmIdeal)
    ∧ quiescent_DUmRefIdeal (hDUmRefIdeal := hDUmRefIdeal)
    ∧ quiescent_DXo (hDXo := hDXo)
    ∧ quiescent_DXoIdeal (hDXoIdeal := hDXoIdeal)
    ∧ quiescent_DXoRefIdeal (hDXoRefIdeal := hDXoRefIdeal)
    ∧ quiescent_DUn (hDUn := hDUn)
    ∧ quiescent_DUnIdeal (hDUnIdeal := hDUnIdeal)
    ∧ quiescent_DUnRefIdeal (hDUnRefIdeal := hDUnRefIdeal)
    ∧ quiescent_DwSq (hDwSq := hDwSq)
    ∧ quiescent_DwSqIdeal (hDwSqIdeal := hDwSqIdeal)
    ∧ quiescent_DwSqRefIdeal (hDwSqRefIdeal := hDwSqRefIdeal)
    ∧ quiescent_DwXkv (hDwXkv := hDwXkv)
    ∧ quiescent_DwXkvIdeal (hDwXkvIdeal := hDwXkvIdeal)
    ∧ quiescent_DwXkvRefIdeal (hDwXkvRefIdeal := hDwXkvRefIdeal)
    ∧ quiescent_DMemn (hDMemn := hDMemn)
    ∧ quiescent_DMemnIdeal (hDMemnIdeal := hDMemnIdeal)
    ∧ quiescent_DMemnRefIdeal (hDMemnRefIdeal := hDMemnRefIdeal)
    ∧ quiescent_DYb (hDYb := hDYb)
    ∧ quiescent_DYbIdeal (hDYbIdeal := hDYbIdeal)
    ∧ quiescent_DYbRefIdeal (hDYbRefIdeal := hDYbRefIdeal)
    ∧ quiescent_DwSsd (hDwSsd := hDwSsd)
    ∧ quiescent_DwSsdIdeal (hDwSsdIdeal := hDwSsdIdeal)
    ∧ quiescent_DwSsdRefIdeal (hDwSsdRefIdeal := hDwSsdRefIdeal)
    ∧ quiescent_DuAg (hDuAg := hDuAg)
    ∧ quiescent_DuAgIdeal (hDuAgIdeal := hDuAgIdeal)
    ∧ quiescent_DuAgRefIdeal (hDuAgRefIdeal := hDuAgRefIdeal)
    ∧ quiescent_DuZ (hDuZ := hDuZ)
    ∧ quiescent_DuZIdeal (hDuZIdeal := hDuZIdeal)
    ∧ quiescent_DuZRefIdeal (hDuZRefIdeal := hDuZRefIdeal)
    ∧ quiescent_DuX (hDuX := hDuX)
    ∧ quiescent_DuXIdeal (hDuXIdeal := hDuXIdeal)
    ∧ quiescent_DuXRefIdeal (hDuXRefIdeal := hDuXRefIdeal)
    ∧ quiescent_DuDt (hDuDt := hDuDt)
    ∧ quiescent_DuDtIdeal (hDuDtIdeal := hDuDtIdeal)
    ∧ quiescent_DuDtRefIdeal (hDuDtRefIdeal := hDuDtRefIdeal)
    ∧ quiescent_DuQkv (hDuQkv := hDuQkv)
    ∧ quiescent_DuQkvIdeal (hDuQkvIdeal := hDuQkvIdeal)
    ∧ quiescent_DuQkvRefIdeal (hDuQkvRefIdeal := hDuQkvRefIdeal)
    ∧ quiescent_DwZ (hDwZ := hDwZ)
    ∧ quiescent_DwZIdeal (hDwZIdeal := hDwZIdeal)
    ∧ quiescent_DwZRefIdeal (hDwZRefIdeal := hDwZRefIdeal)
    ∧ quiescent_DwX (hDwX := hDwX)
    ∧ quiescent_DwXIdeal (hDwXIdeal := hDwXIdeal)
    ∧ quiescent_DwXRefIdeal (hDwXRefIdeal := hDwXRefIdeal)
    ∧ quiescent_DwDt (hDwDt := hDwDt)
    ∧ quiescent_DwDtIdeal (hDwDtIdeal := hDwDtIdeal)
    ∧ quiescent_DwDtRefIdeal (hDwDtRefIdeal := hDwDtRefIdeal)
    ∧ quiescent_DwQkv (hDwQkv := hDwQkv)
    ∧ quiescent_DwQkvIdeal (hDwQkvIdeal := hDwQkvIdeal)
    ∧ quiescent_DwQkvRefIdeal (hDwQkvRefIdeal := hDwQkvRefIdeal)
    ∧ quiescent_ProjA (hProjA := hProjA)
    ∧ quiescent_ProjAIdeal (hProjAIdeal := hProjAIdeal)
    ∧ quiescent_ProjARefIdeal (hProjARefIdeal := hProjARefIdeal)
    ∧ quiescent_ProjZ (hProjZ := hProjZ)
    ∧ quiescent_ProjZIdeal (hProjZIdeal := hProjZIdeal)
    ∧ quiescent_ProjZRefIdeal (hProjZRefIdeal := hProjZRefIdeal)
    ∧ quiescent_ProjX (hProjX := hProjX)
    ∧ quiescent_ProjXIdeal (hProjXIdeal := hProjXIdeal)
    ∧ quiescent_ProjXRefIdeal (hProjXRefIdeal := hProjXRefIdeal)
    ∧ quiescent_ProjDt (hProjDt := hProjDt)
    ∧ quiescent_ProjDtIdeal (hProjDtIdeal := hProjDtIdeal)
    ∧ quiescent_ProjDtRefIdeal (hProjDtRefIdeal := hProjDtRefIdeal)
    ∧ quiescent_ProjQkv (hProjQkv := hProjQkv)
    ∧ quiescent_ProjQkvIdeal (hProjQkvIdeal := hProjQkvIdeal)
    ∧ quiescent_ProjQkvRefIdeal (hProjQkvRefIdeal := hProjQkvRefIdeal)
    ∧ quiescent_SsdOut (hSsdOut := hSsdOut)
    ∧ quiescent_SsdOutIdeal (hSsdOutIdeal := hSsdOutIdeal)
    ∧ quiescent_SsdOutRefIdeal (hSsdOutRefIdeal := hSsdOutRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_Xkv (hXkv := hXkv)
    ∧ quiescent_XkvIdeal (hXkvIdeal := hXkvIdeal)
    ∧ quiescent_XkvRefIdeal (hXkvRefIdeal := hXkvRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_DRms (hDRms := hDRms)
    ∧ quiescent_DRmsIdeal (hDRmsIdeal := hDRmsIdeal)
    ∧ quiescent_DRmsRefIdeal (hDRmsRefIdeal := hDRmsRefIdeal)
    ∧ quiescent_DRmsMem (hDRmsMem := hDRmsMem)
    ∧ quiescent_DRmsMemIdeal (hDRmsMemIdeal := hDRmsMemIdeal)
    ∧ quiescent_DRmsMemRefIdeal (hDRmsMemRefIdeal := hDRmsMemRefIdeal)
    ∧ quiescent_DLnSilu (hDLnSilu := hDLnSilu)
    ∧ quiescent_DLnSiluIdeal (hDLnSiluIdeal := hDLnSiluIdeal)
    ∧ quiescent_DLnSiluRefIdeal (hDLnSiluRefIdeal := hDLnSiluRefIdeal)
    ∧ quiescent_DGate (hDGate := hDGate)
    ∧ quiescent_DGateIdeal (hDGateIdeal := hDGateIdeal)
    ∧ quiescent_DGateRefIdeal (hDGateRefIdeal := hDGateRefIdeal)
    ∧ quiescent_Rms (hRms := hRms)
    ∧ quiescent_RmsIdeal (hRmsIdeal := hRmsIdeal)
    ∧ quiescent_RmsRefIdeal (hRmsRefIdeal := hRmsRefIdeal)
    ∧ quiescent_RmsMem (hRmsMem := hRmsMem)
    ∧ quiescent_RmsMemIdeal (hRmsMemIdeal := hRmsMemIdeal)
    ∧ quiescent_RmsMemRefIdeal (hRmsMemRefIdeal := hRmsMemRefIdeal)
    ∧ quiescent_LnSilu (hLnSilu := hLnSilu)
    ∧ quiescent_LnSiluIdeal (hLnSiluIdeal := hLnSiluIdeal)
    ∧ quiescent_LnSiluRefIdeal (hLnSiluRefIdeal := hLnSiluRefIdeal)
    ∧ quiescent_Gate (hGate := hGate)
    ∧ quiescent_GateIdeal (hGateIdeal := hGateIdeal)
    ∧ quiescent_GateRefIdeal (hGateRefIdeal := hGateRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_AdamSq (hAdamSq := hAdamSq)
    ∧ quiescent_AdamSqIdeal (hAdamSqIdeal := hAdamSqIdeal)
    ∧ quiescent_AdamSqRefIdeal (hAdamSqRefIdeal := hAdamSqRefIdeal)
    ∧ quiescent_AdamSsd (hAdamSsd := hAdamSsd)
    ∧ quiescent_AdamSsdIdeal (hAdamSsdIdeal := hAdamSsdIdeal)
    ∧ quiescent_AdamSsdRefIdeal (hAdamSsdRefIdeal := hAdamSsdRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamXkv (hAdamXkv := hAdamXkv)
    ∧ quiescent_AdamXkvIdeal (hAdamXkvIdeal := hAdamXkvIdeal)
    ∧ quiescent_AdamXkvRefIdeal (hAdamXkvRefIdeal := hAdamXkvRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_Loss (hLoss := hLoss)
    ∧ quiescent_LossIdeal (hLossIdeal := hLossIdeal)
    ∧ quiescent_LossRefIdeal (hLossRefIdeal := hLossRefIdeal)
    ∧ preserves_Merge_MergeIdeal
    ∧ algebraic_MergeIdeal_MergeRefIdeal (hMergeIdeal := hMergeIdeal) (hMergeRefIdeal := hMergeRefIdeal)
    ∧ preserves_DAct_DActIdeal
    ∧ algebraic_DActIdeal_DActRefIdeal (hDActIdeal := hDActIdeal) (hDActRefIdeal := hDActRefIdeal)
    ∧ preserves_DwDown_DwDownIdeal
    ∧ algebraic_DwDownIdeal_DwDownRefIdeal (hDwDownIdeal := hDwDownIdeal) (hDwDownRefIdeal := hDwDownRefIdeal)
    ∧ preserves_DwUp_DwUpIdeal
    ∧ algebraic_DwUpIdeal_DwUpRefIdeal (hDwUpIdeal := hDwUpIdeal) (hDwUpRefIdeal := hDwUpRefIdeal)
    ∧ preserves_DUm_DUmIdeal
    ∧ algebraic_DUmIdeal_DUmRefIdeal (hDUmIdeal := hDUmIdeal) (hDUmRefIdeal := hDUmRefIdeal)
    ∧ preserves_DXo_DXoIdeal
    ∧ algebraic_DXoIdeal_DXoRefIdeal (hDXoIdeal := hDXoIdeal) (hDXoRefIdeal := hDXoRefIdeal)
    ∧ preserves_DUn_DUnIdeal
    ∧ algebraic_DUnIdeal_DUnRefIdeal (hDUnIdeal := hDUnIdeal) (hDUnRefIdeal := hDUnRefIdeal)
    ∧ preserves_DwSq_DwSqIdeal
    ∧ algebraic_DwSqIdeal_DwSqRefIdeal (hDwSqIdeal := hDwSqIdeal) (hDwSqRefIdeal := hDwSqRefIdeal)
    ∧ preserves_DwXkv_DwXkvIdeal
    ∧ algebraic_DwXkvIdeal_DwXkvRefIdeal (hDwXkvIdeal := hDwXkvIdeal) (hDwXkvRefIdeal := hDwXkvRefIdeal)
    ∧ preserves_DMemn_DMemnIdeal
    ∧ algebraic_DMemnIdeal_DMemnRefIdeal (hDMemnIdeal := hDMemnIdeal) (hDMemnRefIdeal := hDMemnRefIdeal)
    ∧ preserves_DYb_DYbIdeal
    ∧ algebraic_DYbIdeal_DYbRefIdeal (hDYbIdeal := hDYbIdeal) (hDYbRefIdeal := hDYbRefIdeal)
    ∧ preserves_DwSsd_DwSsdIdeal
    ∧ algebraic_DwSsdIdeal_DwSsdRefIdeal (hDwSsdIdeal := hDwSsdIdeal) (hDwSsdRefIdeal := hDwSsdRefIdeal)
    ∧ preserves_DuAg_DuAgIdeal
    ∧ algebraic_DuAgIdeal_DuAgRefIdeal (hDuAgIdeal := hDuAgIdeal) (hDuAgRefIdeal := hDuAgRefIdeal)
    ∧ preserves_DuZ_DuZIdeal
    ∧ algebraic_DuZIdeal_DuZRefIdeal (hDuZIdeal := hDuZIdeal) (hDuZRefIdeal := hDuZRefIdeal)
    ∧ preserves_DuX_DuXIdeal
    ∧ algebraic_DuXIdeal_DuXRefIdeal (hDuXIdeal := hDuXIdeal) (hDuXRefIdeal := hDuXRefIdeal)
    ∧ preserves_DuDt_DuDtIdeal
    ∧ algebraic_DuDtIdeal_DuDtRefIdeal (hDuDtIdeal := hDuDtIdeal) (hDuDtRefIdeal := hDuDtRefIdeal)
    ∧ preserves_DuQkv_DuQkvIdeal
    ∧ algebraic_DuQkvIdeal_DuQkvRefIdeal (hDuQkvIdeal := hDuQkvIdeal) (hDuQkvRefIdeal := hDuQkvRefIdeal)
    ∧ preserves_DwZ_DwZIdeal
    ∧ algebraic_DwZIdeal_DwZRefIdeal (hDwZIdeal := hDwZIdeal) (hDwZRefIdeal := hDwZRefIdeal)
    ∧ preserves_DwX_DwXIdeal
    ∧ algebraic_DwXIdeal_DwXRefIdeal (hDwXIdeal := hDwXIdeal) (hDwXRefIdeal := hDwXRefIdeal)
    ∧ preserves_DwDt_DwDtIdeal
    ∧ algebraic_DwDtIdeal_DwDtRefIdeal (hDwDtIdeal := hDwDtIdeal) (hDwDtRefIdeal := hDwDtRefIdeal)
    ∧ preserves_DwQkv_DwQkvIdeal
    ∧ algebraic_DwQkvIdeal_DwQkvRefIdeal (hDwQkvIdeal := hDwQkvIdeal) (hDwQkvRefIdeal := hDwQkvRefIdeal)
    ∧ preserves_ProjA_ProjAIdeal
    ∧ algebraic_ProjAIdeal_ProjARefIdeal (hProjAIdeal := hProjAIdeal) (hProjARefIdeal := hProjARefIdeal)
    ∧ preserves_ProjZ_ProjZIdeal
    ∧ algebraic_ProjZIdeal_ProjZRefIdeal (hProjZIdeal := hProjZIdeal) (hProjZRefIdeal := hProjZRefIdeal)
    ∧ preserves_ProjX_ProjXIdeal
    ∧ algebraic_ProjXIdeal_ProjXRefIdeal (hProjXIdeal := hProjXIdeal) (hProjXRefIdeal := hProjXRefIdeal)
    ∧ preserves_ProjDt_ProjDtIdeal
    ∧ algebraic_ProjDtIdeal_ProjDtRefIdeal (hProjDtIdeal := hProjDtIdeal) (hProjDtRefIdeal := hProjDtRefIdeal)
    ∧ preserves_ProjQkv_ProjQkvIdeal
    ∧ algebraic_ProjQkvIdeal_ProjQkvRefIdeal (hProjQkvIdeal := hProjQkvIdeal) (hProjQkvRefIdeal := hProjQkvRefIdeal)
    ∧ preserves_SsdOut_SsdOutIdeal
    ∧ algebraic_SsdOutIdeal_SsdOutRefIdeal (hSsdOutIdeal := hSsdOutIdeal) (hSsdOutRefIdeal := hSsdOutRefIdeal)
    ∧ preserves_MixOut_MixOutIdeal
    ∧ algebraic_MixOutIdeal_MixOutRefIdeal (hMixOutIdeal := hMixOutIdeal) (hMixOutRefIdeal := hMixOutRefIdeal)
    ∧ preserves_MlpDown_MlpDownIdeal
    ∧ algebraic_MlpDownIdeal_MlpDownRefIdeal (hMlpDownIdeal := hMlpDownIdeal) (hMlpDownRefIdeal := hMlpDownRefIdeal)
    ∧ preserves_Xkv_XkvIdeal
    ∧ algebraic_XkvIdeal_XkvRefIdeal (hXkvIdeal := hXkvIdeal) (hXkvRefIdeal := hXkvRefIdeal)
    ∧ preserves_MlpUp_MlpUpIdeal
    ∧ algebraic_MlpUpIdeal_MlpUpRefIdeal (hMlpUpIdeal := hMlpUpIdeal) (hMlpUpRefIdeal := hMlpUpRefIdeal)
    ∧ preserves_DRms_DRmsIdeal
    ∧ algebraic_DRmsIdeal_DRmsRefIdeal (hDRmsIdeal := hDRmsIdeal) (hDRmsRefIdeal := hDRmsRefIdeal)
    ∧ preserves_DRmsMem_DRmsMemIdeal
    ∧ algebraic_DRmsMemIdeal_DRmsMemRefIdeal (hDRmsMemIdeal := hDRmsMemIdeal) (hDRmsMemRefIdeal := hDRmsMemRefIdeal)
    ∧ preserves_DLnSilu_DLnSiluIdeal
    ∧ algebraic_DLnSiluIdeal_DLnSiluRefIdeal (hDLnSiluIdeal := hDLnSiluIdeal) (hDLnSiluRefIdeal := hDLnSiluRefIdeal)
    ∧ preserves_DGate_DGateIdeal
    ∧ algebraic_DGateIdeal_DGateRefIdeal (hDGateIdeal := hDGateIdeal) (hDGateRefIdeal := hDGateRefIdeal)
    ∧ preserves_Rms_RmsIdeal
    ∧ algebraic_RmsIdeal_RmsRefIdeal (hRmsIdeal := hRmsIdeal) (hRmsRefIdeal := hRmsRefIdeal)
    ∧ preserves_RmsMem_RmsMemIdeal
    ∧ algebraic_RmsMemIdeal_RmsMemRefIdeal (hRmsMemIdeal := hRmsMemIdeal) (hRmsMemRefIdeal := hRmsMemRefIdeal)
    ∧ preserves_LnSilu_LnSiluIdeal
    ∧ algebraic_LnSiluIdeal_LnSiluRefIdeal (hLnSiluIdeal := hLnSiluIdeal) (hLnSiluRefIdeal := hLnSiluRefIdeal)
    ∧ preserves_Gate_GateIdeal
    ∧ algebraic_GateIdeal_GateRefIdeal (hGateIdeal := hGateIdeal) (hGateRefIdeal := hGateRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_AdamSq_AdamSqIdeal
    ∧ algebraic_AdamSqIdeal_AdamSqRefIdeal (hAdamSqIdeal := hAdamSqIdeal) (hAdamSqRefIdeal := hAdamSqRefIdeal)
    ∧ preserves_AdamSsd_AdamSsdIdeal
    ∧ algebraic_AdamSsdIdeal_AdamSsdRefIdeal (hAdamSsdIdeal := hAdamSsdIdeal) (hAdamSsdRefIdeal := hAdamSsdRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
    ∧ preserves_AdamXkv_AdamXkvIdeal
    ∧ algebraic_AdamXkvIdeal_AdamXkvRefIdeal (hAdamXkvIdeal := hAdamXkvIdeal) (hAdamXkvRefIdeal := hAdamXkvRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumSmall_SumSmallIdeal
    ∧ algebraic_SumSmallIdeal_SumSmallRefIdeal (hSumSmallIdeal := hSumSmallIdeal) (hSumSmallRefIdeal := hSumSmallRefIdeal)
    ∧ preserves_Loss_LossIdeal
    ∧ algebraic_LossIdeal_LossRefIdeal (hLossIdeal := hLossIdeal) (hLossRefIdeal := hLossRefIdeal)
-- ==== Merge.lean ====
abbrev S4096x3072 : Shape := ⟨2, ![4096, 3072]⟩
abbrev S4096x1024 : Shape := ⟨2, ![4096, 1024]⟩
abbrev S3x1024 : Shape := ⟨2, ![3, 1024]⟩
abbrev S256x3072 : Shape := ⟨2, ![256, 3072]⟩
abbrev S256x1024 : Shape := ⟨2, ![256, 1024]⟩
abbrev S1x1024 : Shape := ⟨2, ![1, 1024]⟩
abbrev S1024 : Shape := ⟨1, ![1024]⟩
abbrev S2x1024 : Shape := ⟨2, ![2, 1024]⟩
abbrev S256x2048 : Shape := ⟨2, ![256, 2048]⟩

abbrev nBuf : Space → Nat
  | .hbm => 11
  | .vmem => 20
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S3x1024, .f32⟩
  | .hbm, ⟨6, _⟩ => ⟨S4096x3072, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S3x1024, .f32⟩
  | .local _ .vmem, ⟨0, _⟩ => ⟨S256x3072, .f32⟩
  | .local _ .vmem, ⟨1, _⟩ => ⟨S256x3072, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S3x1024, .f32⟩
  | .local _ .vmem, ⟨11, _⟩ => ⟨S256x3072, .bf16⟩
  | .local _ .vmem, ⟨12, _⟩ => ⟨S256x3072, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S3x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v74 : BitVec 1 := Scalar.cmpi .eq arg0 c0_i32
  let v75 : BitVec 32 := Scalar.extui v74
  let c0_i32_30 : BitVec 32 := 0#32
  let v76 : BitVec 1 := Scalar.cmpi .ne v75 c0_i32_30
  v76

def k0_cond2 (i : grid0.Coords) : BitVec 1 :=
  let arg0 : BitVec 32 := BitVec.ofNat 32 (i 0).val
  let c0_i32_31 : BitVec 32 := 0#32
  let v77 : BitVec 1 := Scalar.cmpi .sgt arg0 c0_i32_31
  let v78 : BitVec 32 := Scalar.extui v77
  let c0_i32_32 : BitVec 32 := 0#32
  let v79 : BitVec 1 := Scalar.cmpi .ne v78 c0_i32_32
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MergeRefIdeal.lean ====
abbrev S4096x3072 : Shape := ⟨2, ![4096, 3072]⟩
abbrev S4096x1024 : Shape := ⟨2, ![4096, 1024]⟩
abbrev S3x1024 : Shape := ⟨2, ![3, 1024]⟩
abbrev S4096x3x1024 : Shape := ⟨3, ![4096, 3, 1024]⟩
abbrev S1x3x1024 : Shape := ⟨3, ![1, 3, 1024]⟩
abbrev S_ : Shape := ⟨0, ![]⟩
abbrev S4096x1x1024 : Shape := ⟨3, ![4096, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S3x1024, .f32⟩
  | .hbm, ⟨6, _⟩ => ⟨S4096x3x1024, .f32⟩
  | .hbm, ⟨7, _⟩ => ⟨S1x3x1024, .f32⟩
  | .hbm, ⟨8, _⟩ => ⟨S4096x3x1024, .f32⟩
  | .hbm, ⟨9, _⟩ => ⟨S4096x3x1024, .f32⟩
  | .hbm, ⟨10, _⟩ => ⟨S4096x3x1024, .f32⟩
  | .hbm, ⟨11, _⟩ => ⟨S4096x3x1024, .f32⟩
  | .hbm, ⟨12, _⟩ => ⟨S_, .f32⟩
  | .hbm, ⟨13, _⟩ => ⟨S4096x3x1024, .f32⟩
  | .hbm, ⟨14, _⟩ => ⟨S4096x3x1024, .f32⟩
  | .hbm, ⟨15, _⟩ => ⟨S_, .f32⟩
  | .hbm, ⟨16, _⟩ => ⟨S4096x3x1024, .f32⟩
  | .hbm, ⟨17, _⟩ => ⟨S4096x3x1024, .f32⟩
  | .hbm, ⟨18, _⟩ => ⟨S_, .f32⟩
  | .hbm, ⟨19, _⟩ => ⟨S4096x3x1024, .f32⟩
  | .hbm, ⟨20, _⟩ => ⟨S4096x3x1024, .f32⟩
  | .hbm, ⟨21, _⟩ => ⟨S4096x3x1024, .f32⟩
  | .hbm, ⟨22, _⟩ => ⟨S4096x1x1024, .f32⟩
  | .hbm, ⟨23, _⟩ => ⟨S4096x1024, .f32⟩
  | .hbm, ⟨24, _⟩ => ⟨S4096x1024, .f32⟩
  | .hbm, ⟨25, _⟩ => ⟨S4096x1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1x1024, .f32⟩
  | .hbm, ⟨37, _⟩ => ⟨S_, .f32⟩
  | .hbm, ⟨38, _⟩ => ⟨S4096x3x1024, .f32⟩
  | .hbm, ⟨39, _⟩ => ⟨S4096x1024, .f32⟩
  | .hbm, ⟨40, _⟩ => ⟨S4096x1024, .f32⟩
  | .hbm, ⟨41, _⟩ => ⟨S4096x1x1024, .f32⟩
  | .hbm, ⟨42, _⟩ => ⟨S_, .f32⟩
  | .hbm, ⟨43, _⟩ => ⟨S4096x3x1024, .f32⟩
  | .hbm, ⟨44, _⟩ => ⟨S4096x3x1024, .f32⟩
  | .hbm, ⟨45, _⟩ => ⟨S4096x1024, .f32⟩
  | .hbm, ⟨46, _⟩ => ⟨S4096x1024, .f32⟩
  | .hbm, ⟨47, _⟩ => ⟨S4096x1x1024, .f32⟩
  | .hbm, ⟨48, _⟩ => ⟨S_, .f32⟩
  | .hbm, ⟨49, _⟩ => ⟨S4096x3x1024, .f32⟩
  | .hbm, ⟨50, _⟩ => ⟨S4096x3x1024, .f32⟩
  | .hbm, ⟨51, _⟩ => ⟨S4096x3x1024, .f32⟩
  | .hbm, ⟨52, _⟩ => ⟨S_, .f32⟩
  | .hbm, ⟨53, _⟩ => ⟨S3x1024, .f32⟩
  | .hbm, ⟨54, _⟩ => ⟨S1x3x1024, .f32⟩
  | .hbm, ⟨55, _⟩ => ⟨S_, .f32⟩
  | .hbm, ⟨56, _⟩ => ⟨S3x1024, .f32⟩
  | .hbm, ⟨57, _⟩ => ⟨S4096x3072, .f32⟩
  | .hbm, ⟨58, _⟩ => ⟨S4096x3072, .bf16⟩
  | .hbm, ⟨59, _⟩ => ⟨S4096x1024, .bf16⟩
  | .hbm, ⟨60, _⟩ => ⟨S4096x1024, .bf16⟩
  | .hbm, ⟨61, _⟩ => ⟨S4096x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== DAct.lean ====
abbrev S4096x1024 : Shape := ⟨2, ![4096, 1024]⟩
abbrev S4096x4096 : Shape := ⟨2, ![4096, 4096]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .f32⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DActRefIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DwDown.lean ====
abbrev S4096x4096 : Shape := ⟨2, ![4096, 4096]⟩
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownIdeal.lean ====
abbrev S4096x4096 : Shape := ⟨2, ![4096, 4096]⟩
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwUp.lean ====
abbrev S4096x1024 : Shape := ⟨2, ![4096, 1024]⟩
abbrev S4096x4096 : Shape := ⟨2, ![4096, 4096]⟩
abbrev S8x1024x512 : Shape := ⟨3, ![8, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpIdeal.lean ====
abbrev S4096x1024 : Shape := ⟨2, ![4096, 1024]⟩
abbrev S4096x4096 : Shape := ⟨2, ![4096, 4096]⟩
abbrev S8x1024x512 : Shape := ⟨3, ![8, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DUm.lean ====
abbrev S4096x4096 : Shape := ⟨2, ![4096, 4096]⟩
abbrev S8x1024x512 : Shape := ⟨3, ![8, 1024, 512]⟩
abbrev S4096x1024 : Shape := ⟨2, ![4096, 1024]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DUmIdeal.lean ====
abbrev S4096x4096 : Shape := ⟨2, ![4096, 4096]⟩
abbrev S8x1024x512 : Shape := ⟨3, ![8, 1024, 512]⟩
abbrev S4096x1024 : Shape := ⟨2, ![4096, 1024]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DUmRefIdeal.lean ====
abbrev S4096x4096 : Shape := ⟨2, ![4096, 4096]⟩
abbrev S8x1024x512 : Shape := ⟨3, ![8, 1024, 512]⟩
abbrev S1024x8x512 : Shape := ⟨3, ![1024, 8, 512]⟩
abbrev S1024x4096 : Shape := ⟨2, ![1024, 4096]⟩
abbrev S_ : Shape := ⟨0, ![]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S1024x8x512, .bf16⟩
  | .hbm, ⟨3, _⟩ => ⟨S1024x4096, .bf16⟩
  | .hbm, ⟨4, _⟩ => ⟨S1024x4096, .f32⟩
  | .hbm, ⟨5, _⟩ => ⟨S_, .f32⟩
  | .hbm, ⟨6, _⟩ => ⟨S4096x1024, .f32⟩
  | .hbm, ⟨7, _⟩ => ⟨S4096x4096, .f32⟩
  | .hbm, ⟨8, _⟩ => ⟨S4096x4096, .f32⟩
  | .hbm, ⟨9, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DXo.lean ====
abbrev S4096x1024 : Shape := ⟨2, ![4096, 1024]⟩
abbrev S1024x1024 : Shape := ⟨2, ![1024, 1024]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .bf16⟩
  | .local _ .vmem, ⟨5, _⟩ => ⟨S2048x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DXoIdeal.lean ====
abbrev S4096x1024 : Shape := ⟨2, ![4096, 1024]⟩
abbrev S1024x1024 : Shape := ⟨2, ![1024, 1024]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .bf16⟩
  | .local _ .vmem, ⟨5, _⟩ => ⟨S2048x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DXoRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DUn.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DUnIdeal.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DUnRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwSq.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwSqIdeal.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwSqRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwXkv.lean ====
abbrev S256x1024 : Shape := ⟨2, ![256, 1024]⟩
abbrev S256x2048 : Shape := ⟨2, ![256, 2048]⟩
abbrev S8x1024x256 : Shape := ⟨3, ![8, 1024, 256]⟩
abbrev S256x256 : Shape := ⟨2, ![256, 256]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S8x1024x256, .bf16⟩
  | .local _ .vmem, ⟨0, _⟩ => ⟨S256x1024, .bf16⟩
  | .local _ .vmem, ⟨1, _⟩ => ⟨S256x256, .f32⟩
  | .local _ .vmem, ⟨2, _⟩ => ⟨S256x256, .f32⟩
  | .local _ .vmem, ⟨3, _⟩ => ⟨S1x1024x256, .bf16⟩
  | .local _ .vmem, ⟨4, _⟩ => ⟨S1x1024x256, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwXkvIdeal.lean ====
abbrev S256x1024 : Shape := ⟨2, ![256, 1024]⟩
abbrev S256x2048 : Shape := ⟨2, ![256, 2048]⟩
abbrev S8x1024x256 : Shape := ⟨3, ![8, 1024, 256]⟩
abbrev S256x256 : Shape := ⟨2, ![256, 256]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S8x1024x256, .bf16⟩
  | .local _ .vmem, ⟨0, _⟩ => ⟨S256x1024, .bf16⟩
  | .local _ .vmem, ⟨1, _⟩ => ⟨S256x256, .f32⟩
  | .local _ .vmem, ⟨2, _⟩ => ⟨S256x256, .f32⟩
  | .local _ .vmem, ⟨3, _⟩ => ⟨S1x1024x256, .bf16⟩
  | .local _ .vmem, ⟨4, _⟩ => ⟨S1x1024x256, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwXkvRefIdeal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S_, .f32⟩
  | .hbm, ⟨3, _⟩ => ⟨S1024x2048, .f32⟩
  | .hbm, ⟨4, _⟩ => ⟨S256x1024, .f32⟩
  | .hbm, ⟨5, _⟩ => ⟨S256x2048, .f32⟩
  | .hbm, ⟨6, _⟩ => ⟨S2048x1024, .f32⟩
  | .hbm, ⟨7, _⟩ => ⟨S1024x2048, .f32⟩
  | .hbm, ⟨8, _⟩ => ⟨S1024x8x256, .f32⟩
  | .hbm, ⟨9, _⟩ => ⟨S8x1024x256, .f32⟩
  | .hbm, ⟨10, _⟩ => ⟨S8x1024x256, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DMemn.lean ====
abbrev S256x2048 : Shape := ⟨2, ![256, 2048]⟩
abbrev S8x1024x256 : Shape := ⟨3, ![8, 1024, 256]⟩
abbrev S256x1024 : Shape := ⟨2, ![256, 1024]⟩
abbrev S256x256 : Shape := ⟨2, ![256, 256]⟩
abbrev S1x512x256 : Shape := ⟨3, ![1, 512, 256]⟩
abbrev S256x512 : Shape := ⟨2, ![256, 512]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S8x1024x256, .bf16⟩
  | .hbm, ⟨2, _⟩ => ⟨S256x1024, .f32⟩
  | .local _ .vmem, ⟨0, _⟩ => ⟨S256x256, .f32⟩
  | .local _ .vmem, ⟨1, _⟩ => ⟨S256x256, .f32⟩
  | .local _ .vmem, ⟨2, _⟩ => ⟨S1x512x256, .bf16⟩
  | .local _ .vmem, ⟨3, _⟩ => ⟨S1x512x256, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMemnIdeal.lean ====
abbrev S256x2048 : Shape := ⟨2, ![256, 2048]⟩
abbrev S8x1024x256 : Shape := ⟨3, ![8, 1024, 256]⟩
abbrev S256x1024 : Shape := ⟨2, ![256, 1024]⟩
abbrev S256x256 : Shape := ⟨2, ![256, 256]⟩
abbrev S1x512x256 : Shape := ⟨3, ![1, 512, 256]⟩
abbrev S256x512 : Shape := ⟨2, ![256, 512]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S8x1024x256, .bf16⟩
  | .hbm, ⟨2, _⟩ => ⟨S256x1024, .f32⟩
  | .local _ .vmem, ⟨0, _⟩ => ⟨S256x256, .f32⟩
  | .local _ .vmem, ⟨1, _⟩ => ⟨S256x256, .f32⟩
  | .local _ .vmem, ⟨2, _⟩ => ⟨S1x512x256, .bf16⟩
  | .local _ .vmem, ⟨3, _⟩ => ⟨S1x512x256, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMemnRefIdeal.lean ====
abbrev S256x2048 : Shape := ⟨2, ![256, 2048]⟩
abbrev S8x1024x256 : Shape := ⟨3, ![8, 1024, 256]⟩
abbrev S1024x8x256 : Shape := ⟨3, ![1024, 8, 256]⟩
abbrev S1024x2048 : Shape := ⟨2, ![1024, 2048]⟩
abbrev S_ : Shape := ⟨0, ![]⟩
abbrev S256x1024 : Shape := ⟨2, ![256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S8x1024x256, .bf16⟩
  | .hbm, ⟨2, _⟩ => ⟨S1024x8x256, .bf16⟩
  | .hbm, ⟨3, _⟩ => ⟨S1024x2048, .bf16⟩
  | .hbm, ⟨4, _⟩ => ⟨S1024x2048, .f32⟩
  | .hbm, ⟨5, _⟩ => ⟨S_, .f32⟩
  | .hbm, ⟨6, _⟩ => ⟨S256x1024, .f32⟩
  | .hbm, ⟨7, _⟩ => ⟨S256x2048, .f32⟩
  | .hbm, ⟨8, _⟩ => ⟨S256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DYb.lean ====
abbrev S4096x1024 : Shape := ⟨2, ![4096, 1024]⟩
abbrev S2048x1024 : Shape := ⟨2, ![2048, 1024]⟩
abbrev S4096x2048 : Shape := ⟨2, ![4096, 2048]⟩
abbrev S512x1024 : Shape := ⟨2, ![512, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .bf16⟩
  | .local _ .vmem, ⟨5, _⟩ => ⟨S2048x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYbIdeal.lean ====
abbrev S4096x1024 : Shape := ⟨2, ![4096, 1024]⟩
abbrev S2048x1024 : Shape := ⟨2, ![2048, 1024]⟩
abbrev S4096x2048 : Shape := ⟨2, ![4096, 2048]⟩
abbrev S512x1024 : Shape := ⟨2, ![512, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .bf16⟩
  | .local _ .vmem, ⟨5, _⟩ => ⟨S2048x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYbRefIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S4096x2048, .f32⟩
  | .hbm, ⟨8, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwSsd.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwSsdIdeal.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwSsdRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DuAg.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DuAgIdeal.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DuAgRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DuZ.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DuZIdeal.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DuZRefIdeal.lean ====
abbrev S4096x2048 : Shape := ⟨2, ![4096, 2048]⟩
abbrev S1024x2048 : Shape := ⟨2, ![1024, 2048]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S_, .f32⟩
  | .hbm, ⟨5, _⟩ => ⟨S4096x1024, .f32⟩
  | .hbm, ⟨6, _⟩ => ⟨S4096x2048, .f32⟩
  | .hbm, ⟨7, _⟩ => ⟨S4096x2048, .f32⟩
  | .hbm, ⟨8, _⟩ => ⟨S4096x1024, .f32⟩
  | .hbm, ⟨9, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DuX.lean ====
abbrev S4096x3072 : Shape := ⟨2, ![4096, 3072]⟩
abbrev S1024x3072 : Shape := ⟨2, ![1024, 3072]⟩
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DuXIdeal.lean ====
abbrev S4096x3072 : Shape := ⟨2, ![4096, 3072]⟩
abbrev S1024x3072 : Shape := ⟨2, ![1024, 3072]⟩
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DuXRefIdeal.lean ====
abbrev S4096x3072 : Shape := ⟨2, ![4096, 3072]⟩
abbrev S1024x3072 : Shape := ⟨2, ![1024, 3072]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S_, .f32⟩
  | .hbm, ⟨5, _⟩ => ⟨S4096x1024, .f32⟩
  | .hbm, ⟨6, _⟩ => ⟨S4096x3072, .f32⟩
  | .hbm, ⟨7, _⟩ => ⟨S4096x3072, .f32⟩
  | .hbm, ⟨8, _⟩ => ⟨S4096x1024, .f32⟩
  | .hbm, ⟨9, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DuDt.lean ====
abbrev S4096x128 : Shape := ⟨2, ![4096, 128]⟩
abbrev S1024x128 : Shape := ⟨2, ![1024, 128]⟩
abbrev S4096x1024 : Shape := ⟨2, ![4096, 1024]⟩
abbrev S512x128 : Shape := ⟨2, ![512, 128]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S1024x128, .bf16⟩
  | .hbm, ⟨2, _⟩ => ⟨S4096x1024, .f32⟩
  | .hbm, ⟨3, _⟩ => ⟨S4096x1024, .f32⟩
  | .local _ .vmem, ⟨0, _⟩ => ⟨S1024x128, .f32⟩
  | .local _ .vmem, ⟨1, _⟩ => ⟨S1024x128, .f32⟩
  | .local _ .vmem, ⟨2, _⟩ => ⟨S512x128, .bf16⟩
  | .local _ .vmem, ⟨3, _⟩ => ⟨S512x128, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DuDtIdeal.lean ====
abbrev S4096x128 : Shape := ⟨2, ![4096, 128]⟩
abbrev S1024x128 : Shape := ⟨2, ![1024, 128]⟩
abbrev S4096x1024 : Shape := ⟨2, ![4096, 1024]⟩
abbrev S512x128 : Shape := ⟨2, ![512, 128]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S1024x128, .bf16⟩
  | .hbm, ⟨2, _⟩ => ⟨S4096x1024, .f32⟩
  | .hbm, ⟨3, _⟩ => ⟨S4096x1024, .f32⟩
  | .local _ .vmem, ⟨0, _⟩ => ⟨S1024x128, .f32⟩
  | .local _ .vmem, ⟨1, _⟩ => ⟨S1024x128, .f32⟩
  | .local _ .vmem, ⟨2, _⟩ => ⟨S512x128, .bf16⟩
  | .local _ .vmem, ⟨3, _⟩ => ⟨S512x128, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DuDtRefIdeal.lean ====
abbrev S4096x128 : Shape := ⟨2, ![4096, 128]⟩
abbrev S1024x128 : Shape := ⟨2, ![1024, 128]⟩
abbrev S4096x1024 : Shape := ⟨2, ![4096, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1024x128, .bf16⟩
  | .hbm, ⟨2, _⟩ => ⟨S4096x1024, .f32⟩
  | .hbm, ⟨3, _⟩ => ⟨S1024x128, .f32⟩
  | .hbm, ⟨4, _⟩ => ⟨S_, .f32⟩
  | .hbm, ⟨5, _⟩ => ⟨S4096x1024, .f32⟩
  | .hbm, ⟨6, _⟩ => ⟨S4096x128, .f32⟩
  | .hbm, ⟨7, _⟩ => ⟨S4096x1024, .f32⟩
  | .hbm, ⟨8, _⟩ => ⟨S4096x1024, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== DuQkv.lean ====
abbrev S4096x1536 : Shape := ⟨2, ![4096, 1536]⟩
abbrev S1024x1536 : Shape := ⟨2, ![1024, 1536]⟩
abbrev S4096x1024 : Shape := ⟨2, ![4096, 1024]⟩
abbrev S1024x768 : Shape := ⟨2, ![1024, 768]⟩
abbrev S512x768 : Shape := ⟨2, ![512, 768]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .hbm, ⟨3, _⟩ => ⟨S4096x1024, .f32⟩
  | .local _ .vmem, ⟨0, _⟩ => ⟨S1024x768, .bf16⟩
  | .local _ .vmem, ⟨1, _⟩ => ⟨S1024x768, .bf16⟩
  | .local _ .vmem, ⟨2, _⟩ => ⟨S512x768, .bf16⟩
  | .local _ .vmem, ⟨3, _⟩ => ⟨S512x768, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DuQkvIdeal.lean ====
abbrev S4096x1536 : Shape := ⟨2, ![4096, 1536]⟩
abbrev S1024x1536 : Shape := ⟨2, ![1024, 1536]⟩
abbrev S4096x1024 : Shape := ⟨2, ![4096, 1024]⟩
abbrev S1024x768 : Shape := ⟨2, ![1024, 768]⟩
abbrev S512x768 : Shape := ⟨2, ![512, 768]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .hbm, ⟨3, _⟩ => ⟨S4096x1024, .f32⟩
  | .local _ .vmem, ⟨0, _⟩ => ⟨S1024x768, .bf16⟩
  | .local _ .vmem, ⟨1, _⟩ => ⟨S1024x768, .bf16⟩
  | .local _ .vmem, ⟨2, _⟩ => ⟨S512x768, .bf16⟩
  | .local _ .vmem, ⟨3, _⟩ => ⟨S512x768, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DuQkvRefIdeal.lean ====
abbrev S4096x1536 : Shape := ⟨2, ![4096, 1536]⟩
abbrev S1024x1536 : Shape := ⟨2, ![1024, 1536]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .hbm, ⟨3, _⟩ => ⟨S1024x1536, .f32⟩
  | .hbm, ⟨4, _⟩ => ⟨S_, .f32⟩
  | .hbm, ⟨5, _⟩ => ⟨S4096x1024, .f32⟩
  | .hbm, ⟨6, _⟩ => ⟨S4096x1536, .f32⟩
  | .hbm, ⟨7, _⟩ => ⟨S4096x1536, .f32⟩
  | .hbm, ⟨8, _⟩ => ⟨S4096x1024, .f32⟩
  | .hbm, ⟨9, _⟩ => ⟨S4096x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DwZ.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwZIdeal.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwZRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwX.lean ====
abbrev S4096x1024 : Shape := ⟨2, ![4096, 1024]⟩
abbrev S4096x3072 : Shape := ⟨2, ![4096, 3072]⟩
abbrev S1024x3072 : Shape := ⟨2, ![1024, 3072]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwXIdeal.lean ====
abbrev S4096x1024 : Shape := ⟨2, ![4096, 1024]⟩
abbrev S4096x3072 : Shape := ⟨2, ![4096, 3072]⟩
abbrev S1024x3072 : Shape := ⟨2, ![1024, 3072]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwXRefIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwDt.lean ====
abbrev S4096x1024 : Shape := ⟨2, ![4096, 1024]⟩
abbrev S4096x128 : Shape := ⟨2, ![4096, 128]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S1024x128, .bf16⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x128, .bf16⟩
  | .local _ .vmem, ⟨5, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwDtIdeal.lean ====
abbrev S4096x1024 : Shape := ⟨2, ![4096, 1024]⟩
abbrev S4096x128 : Shape := ⟨2, ![4096, 128]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S1024x128, .bf16⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x128, .bf16⟩
  | .local _ .vmem, ⟨5, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwDtRefIdeal.lean ====
abbrev S4096x1024 : Shape := ⟨2, ![4096, 1024]⟩
abbrev S4096x128 : Shape := ⟨2, ![4096, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S_, .f32⟩
  | .hbm, ⟨3, _⟩ => ⟨S1024x128, .f32⟩
  | .hbm, ⟨4, _⟩ => ⟨S4096x1024, .f32⟩
  | .hbm, ⟨5, _⟩ => ⟨S4096x128, .f32⟩
  | .hbm, ⟨6, _⟩ => ⟨S128x1024, .f32⟩
  | .hbm, ⟨7, _⟩ => ⟨S1024x128, .f32⟩
  | .hbm, ⟨8, _⟩ => ⟨S1024x128, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwQkv.lean ====
abbrev S4096x1024 : Shape := ⟨2, ![4096, 1024]⟩
abbrev S4096x1536 : Shape := ⟨2, ![4096, 1536]⟩
abbrev S1024x1536 : Shape := ⟨2, ![1024, 1536]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S1024x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwQkvIdeal.lean ====
abbrev S4096x1024 : Shape := ⟨2, ![4096, 1024]⟩
abbrev S4096x1536 : Shape := ⟨2, ![4096, 1536]⟩
abbrev S1024x1536 : Shape := ⟨2, ![1024, 1536]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S1024x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwQkvRefIdeal.lean ====
abbrev S4096x1024 : Shape := ⟨2, ![4096, 1024]⟩
abbrev S4096x1536 : Shape := ⟨2, ![4096, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S_, .f32⟩
  | .hbm, ⟨3, _⟩ => ⟨S1024x1536, .f32⟩
  | .hbm, ⟨4, _⟩ => ⟨S4096x1024, .f32⟩
  | .hbm, ⟨5, _⟩ => ⟨S4096x1536, .f32⟩
  | .hbm, ⟨6, _⟩ => ⟨S4096x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjA.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjAIdeal.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjARefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjZ.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjZIdeal.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjZRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjX.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjXIdeal.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjXRefIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjDt.lean ====
abbrev S4096x1024 : Shape := ⟨2, ![4096, 1024]⟩
abbrev S1024x128 : Shape := ⟨2, ![1024, 128]⟩
abbrev S4096x128 : Shape := ⟨2, ![4096, 128]⟩
abbrev S2048x1024 : Shape := ⟨2, ![2048, 1024]⟩
abbrev S2048x128 : Shape := ⟨2, ![2048, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x128, .f32⟩
  | .local _ .vmem, ⟨0, _⟩ => ⟨S2048x1024, .bf16⟩
  | .local _ .vmem, ⟨1, _⟩ => ⟨S2048x1024, .bf16⟩
  | .local _ .vmem, ⟨2, _⟩ => ⟨S1024x128, .bf16⟩
  | .local _ .vmem, ⟨3, _⟩ => ⟨S2048x128, .f32⟩
  | .local _ .vmem, ⟨4, _⟩ => ⟨S2048x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDtIdeal.lean ====
abbrev S4096x1024 : Shape := ⟨2, ![4096, 1024]⟩
abbrev S1024x128 : Shape := ⟨2, ![1024, 128]⟩
abbrev S4096x128 : Shape := ⟨2, ![4096, 128]⟩
abbrev S2048x1024 : Shape := ⟨2, ![2048, 1024]⟩
abbrev S2048x128 : Shape := ⟨2, ![2048, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x128, .f32⟩
  | .local _ .vmem, ⟨0, _⟩ => ⟨S2048x1024, .bf16⟩
  | .local _ .vmem, ⟨1, _⟩ => ⟨S2048x1024, .bf16⟩
  | .local _ .vmem, ⟨2, _⟩ => ⟨S1024x128, .bf16⟩
  | .local _ .vmem, ⟨3, _⟩ => ⟨S2048x128, .f32⟩
  | .local _ .vmem, ⟨4, _⟩ => ⟨S2048x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDtRefIdeal.lean ====
abbrev S4096x1024 : Shape := ⟨2, ![4096, 1024]⟩
abbrev S1024x128 : Shape := ⟨2, ![1024, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x1024, .f32⟩
  | .hbm, ⟨3, _⟩ => ⟨S1024x128, .f32⟩
  | .hbm, ⟨4, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjQkv.lean ====
abbrev S4096x1024 : Shape := ⟨2, ![4096, 1024]⟩
abbrev S1024x1536 : Shape := ⟨2, ![1024, 1536]⟩
abbrev S4096x1536 : Shape := ⟨2, ![4096, 1536]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjQkvIdeal.lean ====
abbrev S4096x1024 : Shape := ⟨2, ![4096, 1024]⟩
abbrev S1024x1536 : Shape := ⟨2, ![1024, 1536]⟩
abbrev S4096x1536 : Shape := ⟨2, ![4096, 1536]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjQkvRefIdeal.lean ====
abbrev S4096x1024 : Shape := ⟨2, ![4096, 1024]⟩
abbrev S1024x1536 : Shape := ⟨2, ![1024, 1536]⟩
abbrev S4096x1536 : Shape := ⟨2, ![4096, 1536]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1024, .f32⟩
  | .hbm, ⟨3, _⟩ => ⟨S1024x1536, .f32⟩
  | .hbm, ⟨4, _⟩ => ⟨S4096x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsdOut.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdOutIdeal.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdOutRefIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixOut.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutIdeal.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MlpDown.lean ====
abbrev S4096x4096 : Shape := ⟨2, ![4096, 4096]⟩
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownIdeal.lean ====
abbrev S4096x4096 : Shape := ⟨2, ![4096, 4096]⟩
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownRefIdeal.lean ====
abbrev S4096x4096 : Shape := ⟨2, ![4096, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Xkv.lean ====
abbrev S256x1024 : Shape := ⟨2, ![256, 1024]⟩
abbrev S8x1024x256 : Shape := ⟨3, ![8, 1024, 256]⟩
abbrev S256x2048 : Shape := ⟨2, ![256, 2048]⟩
abbrev S1x1024x256 : Shape := ⟨3, ![1, 1024, 256]⟩
abbrev S256x256 : Shape := ⟨2, ![256, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S8x1024x256, .bf16⟩
  | .hbm, ⟨2, _⟩ => ⟨S256x2048, .f32⟩
  | .local _ .vmem, ⟨0, _⟩ => ⟨S256x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S256x256, .f32⟩
  | .local _ .vmem, ⟨4, _⟩ => ⟨S256x256, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XkvIdeal.lean ====
abbrev S256x1024 : Shape := ⟨2, ![256, 1024]⟩
abbrev S8x1024x256 : Shape := ⟨3, ![8, 1024, 256]⟩
abbrev S256x2048 : Shape := ⟨2, ![256, 2048]⟩
abbrev S1x1024x256 : Shape := ⟨3, ![1, 1024, 256]⟩
abbrev S256x256 : Shape := ⟨2, ![256, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S8x1024x256, .bf16⟩
  | .hbm, ⟨2, _⟩ => ⟨S256x2048, .f32⟩
  | .local _ .vmem, ⟨0, _⟩ => ⟨S256x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S256x256, .f32⟩
  | .local _ .vmem, ⟨4, _⟩ => ⟨S256x256, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XkvRefIdeal.lean ====
abbrev S256x1024 : Shape := ⟨2, ![256, 1024]⟩
abbrev S8x1024x256 : Shape := ⟨3, ![8, 1024, 256]⟩
abbrev S1024x8x256 : Shape := ⟨3, ![1024, 8, 256]⟩
abbrev S1024x2048 : Shape := ⟨2, ![1024, 2048]⟩
abbrev S256x2048 : Shape := ⟨2, ![256, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S8x1024x256, .bf16⟩
  | .hbm, ⟨2, _⟩ => ⟨S256x1024, .f32⟩
  | .hbm, ⟨3, _⟩ => ⟨S1024x8x256, .bf16⟩
  | .hbm, ⟨4, _⟩ => ⟨S1024x2048, .bf16⟩
  | .hbm, ⟨5, _⟩ => ⟨S1024x2048, .f32⟩
  | .hbm, ⟨6, _⟩ => ⟨S256x2048, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MlpUp.lean ====
abbrev S4096x1024 : Shape := ⟨2, ![4096, 1024]⟩
abbrev S8x1024x512 : Shape := ⟨3, ![8, 1024, 512]⟩
abbrev S4096x4096 : Shape := ⟨2, ![4096, 4096]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x4096, .f32⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUpRefIdeal.lean ====
abbrev S4096x1024 : Shape := ⟨2, ![4096, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S4096x4096 : Shape := ⟨2, ![4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x1024, .f32⟩
  | .hbm, ⟨3, _⟩ => ⟨S1024x8x512, .bf16⟩
  | .hbm, ⟨4, _⟩ => ⟨S1024x4096, .bf16⟩
  | .hbm, ⟨5, _⟩ => ⟨S1024x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== DRms.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_18 : BitVec 32 := 0#32
  let v44 : BitVec 1 := Scalar.cmpi .ne v43 c0_i32_18
  v44

def k0_cond2 (i : grid0.Coords) : BitVec 1 :=
  let arg0 : BitVec 32 := BitVec.ofNat 32 (i 0).val
  let c0_i32_19 : BitVec 32 := 0#32
  let v45 : BitVec 1 := Scalar.cmpi .sgt arg0 c0_i32_19
  let v46 : BitVec 32 := Scalar.extui v45
  let c0_i32_20 : BitVec 32 := 0#32
  let v47 : BitVec 1 := Scalar.cmpi .ne v46 c0_i32_20
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DRmsIdeal.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_18 : BitVec 32 := 0#32
  let v44 : BitVec 1 := Scalar.cmpi .ne v43 c0_i32_18
  v44

def k0_cond2 (i : grid0.Coords) : BitVec 1 :=
  let arg0 : BitVec 32 := BitVec.ofNat 32 (i 0).val
  let c0_i32_19 : BitVec 32 := 0#32
  let v45 : BitVec 1 := Scalar.cmpi .sgt arg0 c0_i32_19
  let v46 : BitVec 32 := Scalar.extui v45
  let c0_i32_20 : BitVec 32 := 0#32
  let v47 : BitVec 1 := Scalar.cmpi .ne v46 c0_i32_20
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DRmsRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== DRmsMem.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 8
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256x1024, .f32⟩
  | .hbm, ⟨5, _⟩ => ⟨S256x1024, .f32⟩
  | .hbm, ⟨6, _⟩ => ⟨S256x1024, .bf16⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .bf16⟩
  | .local _ .vmem, ⟨6, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_18 : BitVec 32 := 0#32
  let v45 : BitVec 1 := Scalar.cmpi .ne v44 c0_i32_18
  v45

def k0_cond2 (i : grid0.Coords) : BitVec 1 :=
  let arg0 : BitVec 32 := BitVec.ofNat 32 (i 0).val
  let c0_i32_19 : BitVec 32 := 0#32
  let v46 : BitVec 1 := Scalar.cmpi .sgt arg0 c0_i32_19
  let v47 : BitVec 32 := Scalar.extui v46
  let c0_i32_20 : BitVec 32 := 0#32
  let v48 : BitVec 1 := Scalar.cmpi .ne v47 c0_i32_20
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DRmsMemIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 8
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256x1024, .f32⟩
  | .hbm, ⟨5, _⟩ => ⟨S256x1024, .f32⟩
  | .hbm, ⟨6, _⟩ => ⟨S256x1024, .bf16⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .bf16⟩
  | .local _ .vmem, ⟨6, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_18 : BitVec 32 := 0#32
  let v45 : BitVec 1 := Scalar.cmpi .ne v44 c0_i32_18
  v45

def k0_cond2 (i : grid0.Coords) : BitVec 1 :=
  let arg0 : BitVec 32 := BitVec.ofNat 32 (i 0).val
  let c0_i32_19 : BitVec 32 := 0#32
  let v46 : BitVec 1 := Scalar.cmpi .sgt arg0 c0_i32_19
  let v47 : BitVec 32 := Scalar.extui v46
  let c0_i32_20 : BitVec 32 := 0#32
  let v48 : BitVec 1 := Scalar.cmpi .ne v47 c0_i32_20
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DRmsMemRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S1024, .f32⟩
  | .hbm, ⟨21, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== DLnSilu.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .bf16⟩
  | .hbm, ⟨4, _⟩ => ⟨S4096x1024, .f32⟩
  | .hbm, ⟨5, _⟩ => ⟨S1x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v69 : BitVec 1 := Scalar.cmpi .eq arg0 c0_i32
  let v70 : BitVec 32 := Scalar.extui v69
  let c0_i32_24 : BitVec 32 := 0#32
  let v71 : BitVec 1 := Scalar.cmpi .ne v70 c0_i32_24
  v71

def k0_cond2 (i : grid0.Coords) : BitVec 1 :=
  let arg0 : BitVec 32 := BitVec.ofNat 32 (i 0).val
  let c0_i32_25 : BitVec 32 := 0#32
  let v72 : BitVec 1 := Scalar.cmpi .sgt arg0 c0_i32_25
  let v73 : BitVec 32 := Scalar.extui v72
  let c0_i32_26 : BitVec 32 := 0#32
  let v74 : BitVec 1 := Scalar.cmpi .ne v73 c0_i32_26
  v74

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DLnSiluIdeal.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .bf16⟩
  | .hbm, ⟨4, _⟩ => ⟨S4096x1024, .f32⟩
  | .hbm, ⟨5, _⟩ => ⟨S1x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v69 : BitVec 1 := Scalar.cmpi .eq arg0 c0_i32
  let v70 : BitVec 32 := Scalar.extui v69
  let c0_i32_24 : BitVec 32 := 0#32
  let v71 : BitVec 1 := Scalar.cmpi .ne v70 c0_i32_24
  v71

def k0_cond2 (i : grid0.Coords) : BitVec 1 :=
  let arg0 : BitVec 32 := BitVec.ofNat 32 (i 0).val
  let c0_i32_25 : BitVec 32 := 0#32
  let v72 : BitVec 1 := Scalar.cmpi .sgt arg0 c0_i32_25
  let v73 : BitVec 32 := Scalar.extui v72
  let c0_i32_26 : BitVec 32 := 0#32
  let v74 : BitVec 1 := Scalar.cmpi .ne v73 c0_i32_26
  v74

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DLnSiluRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .bf16⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x1024, .f32⟩
  | .hbm, ⟨87, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v23_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v23_1 : Ref sig .tc := ⟨.hbm, 44, rfl⟩
abbrev main_v23_0 : Ref sig .tc := ⟨.hbm, 45, rfl⟩
abbrev main_v24 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_cst_11 : Ref sig .tc := ⟨.hbm, 81, rfl⟩
abbrev main_v50 : Ref sig .tc := ⟨.hbm, 82, rfl⟩
abbrev main_v51 : Ref sig .tc := ⟨.hbm, 83, rfl⟩
abbrev main_cst_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩

abbrev nD : Nat := 1
abbrev τ : Topo := Topo.v7x

variable {F : FTy → Type} [FloatOps F]
-- ==== DGate.lean ====
abbrev S4096x2048 : Shape := ⟨2, ![4096, 2048]⟩
abbrev S1x2048 : Shape := ⟨2, ![1, 2048]⟩
abbrev S256x2048 : Shape := ⟨2, ![256, 2048]⟩
abbrev S256x512 : Shape := ⟨2, ![256, 512]⟩
abbrev S1x512 : Shape := ⟨2, ![1, 512]⟩
abbrev S256 : Shape := ⟨1, ![256]⟩
abbrev S256x1 : Shape := ⟨2, ![256, 1]⟩
abbrev S512 : Shape := ⟨1, ![512]⟩
abbrev S1x1536 : Shape := ⟨2, ![1, 1536]⟩
abbrev S256x1536 : Shape := ⟨2, ![256, 1536]⟩
abbrev S1x1024 : Shape := ⟨2, ![1, 1024]⟩
abbrev S256x1024 : Shape := ⟨2, ![256, 1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .bf16⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v194 : BitVec 1 := Scalar.cmpi .eq arg0 c0_i32
  let v195 : BitVec 32 := Scalar.extui v194
  let c0_i32_51 : BitVec 32 := 0#32
  let v196 : BitVec 1 := Scalar.cmpi .ne v195 c0_i32_51
  v196

def k0_cond2 (i : grid0.Coords) : BitVec 1 :=
  let arg0 : BitVec 32 := BitVec.ofNat 32 (i 0).val
  let c0_i32_52 : BitVec 32 := 0#32
  let v197 : BitVec 1 := Scalar.cmpi .sgt arg0 c0_i32_52
  let v198 : BitVec 32 := Scalar.extui v197
  let c0_i32_53 : BitVec 32 := 0#32
  let v199 : BitVec 1 := Scalar.cmpi .ne v198 c0_i32_53
  v199

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DGateIdeal.lean ====
abbrev S4096x2048 : Shape := ⟨2, ![4096, 2048]⟩
abbrev S1x2048 : Shape := ⟨2, ![1, 2048]⟩
abbrev S256x2048 : Shape := ⟨2, ![256, 2048]⟩
abbrev S256x512 : Shape := ⟨2, ![256, 512]⟩
abbrev S1x512 : Shape := ⟨2, ![1, 512]⟩
abbrev S256 : Shape := ⟨1, ![256]⟩
abbrev S256x1 : Shape := ⟨2, ![256, 1]⟩
abbrev S512 : Shape := ⟨1, ![512]⟩
abbrev S1x1536 : Shape := ⟨2, ![1, 1536]⟩
abbrev S256x1536 : Shape := ⟨2, ![256, 1536]⟩
abbrev S1x1024 : Shape := ⟨2, ![1, 1024]⟩
abbrev S256x1024 : Shape := ⟨2, ![256, 1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .bf16⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v194 : BitVec 1 := Scalar.cmpi .eq arg0 c0_i32
  let v195 : BitVec 32 := Scalar.extui v194
  let c0_i32_51 : BitVec 32 := 0#32
  let v196 : BitVec 1 := Scalar.cmpi .ne v195 c0_i32_51
  v196

def k0_cond2 (i : grid0.Coords) : BitVec 1 :=
  let arg0 : BitVec 32 := BitVec.ofNat 32 (i 0).val
  let c0_i32_52 : BitVec 32 := 0#32
  let v197 : BitVec 1 := Scalar.cmpi .sgt arg0 c0_i32_52
  let v198 : BitVec 32 := Scalar.extui v197
  let c0_i32_53 : BitVec 32 := 0#32
  let v199 : BitVec 1 := Scalar.cmpi .ne v198 c0_i32_53
  v199

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DGateRefIdeal.lean ====
abbrev S4096x2048 : Shape := ⟨2, ![4096, 2048]⟩
abbrev S1x2048 : Shape := ⟨2, ![1, 2048]⟩
abbrev S_ : Shape := ⟨0, ![]⟩
abbrev S4096x4x512 : Shape := ⟨3, ![4096, 4, 512]⟩
abbrev S4x512 : Shape := ⟨2, ![4, 512]⟩
abbrev S4096x4 : Shape := ⟨2, ![4096, 4]⟩
abbrev S4096x4x1 : Shape := ⟨3, ![4096, 4, 1]⟩
abbrev S1x4x512 : Shape := ⟨3, ![1, 4, 512]⟩

abbrev nBuf : Space → Nat
  | .hbm => 77
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .bf16⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x4x512, .f32⟩
  | .hbm, ⟨19, _⟩ => ⟨S4x512, .f32⟩
  | .hbm, ⟨20, _⟩ => ⟨S4096x4x512, .f32⟩
  | .hbm, ⟨21, _⟩ => ⟨S_, .f32⟩
  | .hbm, ⟨22, _⟩ => ⟨S4096x4, .f32⟩
  | .hbm, ⟨23, _⟩ => ⟨S4096x4x1, .f32⟩
  | .hbm, ⟨24, _⟩ => ⟨S_, .f32⟩
  | .hbm, ⟨25, _⟩ => ⟨S4096x4x1, .f32⟩
  | .hbm, ⟨26, _⟩ => ⟨S4096x4x1, .f32⟩
  | .hbm, ⟨27, _⟩ => ⟨S_, .f32⟩
  | .hbm, ⟨28, _⟩ => ⟨S4096x4x1, .f32⟩
  | .hbm, ⟨29, _⟩ => ⟨S4096x4x1, .f32⟩
  | .hbm, ⟨30, _⟩ => ⟨S4096x4x1, .f32⟩
  | .hbm, ⟨31, _⟩ => ⟨S4096x4x1, .f32⟩
  | .hbm, ⟨32, _⟩ => ⟨S_, .f32⟩
  | .hbm, ⟨33, _⟩ => ⟨S4096x4x1, .f32⟩
  | .hbm, ⟨34, _⟩ => ⟨S4096x4x1, .f32⟩
  | .hbm, ⟨35, _⟩ => ⟨S4096x4x512, .f32⟩
  | .hbm, ⟨36, _⟩ => ⟨S4096x4x512, .f32⟩
  | .hbm, ⟨37, _⟩ => ⟨S1x4x512, .f32⟩
  | .hbm, ⟨38, _⟩ => ⟨S4096x4x512, .f32⟩
  | .hbm, ⟨39, _⟩ => ⟨S4096x4x512, .f32⟩
  | .hbm, ⟨40, _⟩ => ⟨S4096x2048, .f32⟩
  | .hbm, ⟨41, _⟩ => ⟨S4096x2048, .f32⟩
  | .hbm, ⟨42, _⟩ => ⟨S4096x4x512, .f32⟩
  | .hbm, ⟨43, _⟩ => ⟨S4096x4x512, .f32⟩
  | .hbm, ⟨44, _⟩ => ⟨S_, .f32⟩
  | .hbm, ⟨45, _⟩ => ⟨S4x512, .f32⟩
  | .hbm, ⟨46, _⟩ => ⟨S1x4x512, .f32⟩
  | .hbm, ⟨47, _⟩ => ⟨S4096x4x512, .f32⟩
  | .hbm, ⟨48, _⟩ => ⟨S4096x4x512, .f32⟩
  | .hbm, ⟨49, _⟩ => ⟨S_, .f32⟩
  | .hbm, ⟨50, _⟩ => ⟨S4x512, .f32⟩
  | .hbm, ⟨51, _⟩ => ⟨S4096x4x512, .f32⟩
  | .hbm, ⟨52, _⟩ => ⟨S_, .f32⟩
  | .hbm, ⟨53, _⟩ => ⟨S4096x4, .f32⟩
  | .hbm, ⟨54, _⟩ => ⟨S4096x4x1, .f32⟩
  | .hbm, ⟨55, _⟩ => ⟨S4096x4x512, .f32⟩
  | .hbm, ⟨56, _⟩ => ⟨S4096x4x512, .f32⟩
  | .hbm, ⟨57, _⟩ => ⟨S4096x4x1, .f32⟩
  | .hbm, ⟨58, _⟩ => ⟨S_, .f32⟩
  | .hbm, ⟨59, _⟩ => ⟨S4096x4x1, .f32⟩
  | .hbm, ⟨60, _⟩ => ⟨S4096x4x1, .f32⟩
  | .hbm, ⟨61, _⟩ => ⟨S_, .f32⟩
  | .hbm, ⟨62, _⟩ => ⟨S4096x4, .f32⟩
  | .hbm, ⟨63, _⟩ => ⟨S4096x4x512, .f32⟩
  | .hbm, ⟨64, _⟩ => ⟨S4096x4x512, .f32⟩
  | .hbm, ⟨65, _⟩ => ⟨S4096x4x512, .f32⟩
  | .hbm, ⟨66, _⟩ => ⟨S4096x4x512, .f32⟩
  | .hbm, ⟨67, _⟩ => ⟨S4096x4x512, .f32⟩
  | .hbm, ⟨68, _⟩ => ⟨S1x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v47 : Ref sig .tc := ⟨.hbm, 75, rfl⟩
abbrev main_v48 : Ref sig .tc := ⟨.hbm, 76, rfl⟩

abbrev nD : Nat := 1
abbrev τ : Topo := Topo.v7x

variable {F : FTy → Type} [FloatOps F]
-- ==== Rms.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsIdeal.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== RmsMem.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RmsMemIdeal.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RmsMemRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== LnSilu.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LnSiluIdeal.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LnSiluRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Gate.lean ====
abbrev S4096x2048 : Shape := ⟨2, ![4096, 2048]⟩
abbrev S1x2048 : Shape := ⟨2, ![1, 2048]⟩
abbrev S256x2048 : Shape := ⟨2, ![256, 2048]⟩
abbrev S256x512 : Shape := ⟨2, ![256, 512]⟩
abbrev S1x512 : Shape := ⟨2, ![1, 512]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateIdeal.lean ====
abbrev S4096x2048 : Shape := ⟨2, ![4096, 2048]⟩
abbrev S1x2048 : Shape := ⟨2, ![1, 2048]⟩
abbrev S256x2048 : Shape := ⟨2, ![256, 2048]⟩
abbrev S256x512 : Shape := ⟨2, ![256, 512]⟩
abbrev S1x512 : Shape := ⟨2, ![1, 512]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateRefIdeal.lean ====
abbrev S4096x2048 : Shape := ⟨2, ![4096, 2048]⟩
abbrev S1x2048 : Shape := ⟨2, ![1, 2048]⟩
abbrev S_ : Shape := ⟨0, ![]⟩
abbrev S4096x4x512 : Shape := ⟨3, ![4096, 4, 512]⟩
abbrev S4x512 : Shape := ⟨2, ![4, 512]⟩
abbrev S4096x4 : Shape := ⟨2, ![4096, 4]⟩
abbrev S4096x4x1 : Shape := ⟨3, ![4096, 4, 1]⟩
abbrev S1x4x512 : Shape := ⟨3, ![1, 4, 512]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x4x512, .f32⟩
  | .hbm, ⟨14, _⟩ => ⟨S4x512, .f32⟩
  | .hbm, ⟨15, _⟩ => ⟨S4096x4x512, .f32⟩
  | .hbm, ⟨16, _⟩ => ⟨S_, .f32⟩
  | .hbm, ⟨17, _⟩ => ⟨S4096x4, .f32⟩
  | .hbm, ⟨18, _⟩ => ⟨S4096x4x1, .f32⟩
  | .hbm, ⟨19, _⟩ => ⟨S_, .f32⟩
  | .hbm, ⟨20, _⟩ => ⟨S4096x4x1, .f32⟩
  | .hbm, ⟨21, _⟩ => ⟨S4096x4x1, .f32⟩
  | .hbm, ⟨22, _⟩ => ⟨S_, .f32⟩
  | .hbm, ⟨23, _⟩ => ⟨S4096x4x1, .f32⟩
  | .hbm, ⟨24, _⟩ => ⟨S4096x4x1, .f32⟩
  | .hbm, ⟨25, _⟩ => ⟨S4096x4x1, .f32⟩
  | .hbm, ⟨26, _⟩ => ⟨S4096x4x512, .f32⟩
  | .hbm, ⟨27, _⟩ => ⟨S4096x4x512, .f32⟩
  | .hbm, ⟨28, _⟩ => ⟨S1x4x512, .f32⟩
  | .hbm, ⟨29, _⟩ => ⟨S4096x4x512, .f32⟩
  | .hbm, ⟨30, _⟩ => ⟨S4096x4x512, .f32⟩
  | .hbm, ⟨31, _⟩ => ⟨S4096x2048, .f32⟩
  | .hbm, ⟨32, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== MergeFwd.lean ====
abbrev S4096x3072 : Shape := ⟨2, ![4096, 3072]⟩
abbrev S4096x1024 : Shape := ⟨2, ![4096, 1024]⟩
abbrev S3x1024 : Shape := ⟨2, ![3, 1024]⟩
abbrev S256x3072 : Shape := ⟨2, ![256, 3072]⟩
abbrev S256x1024 : Shape := ⟨2, ![256, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S3x1024, .f32⟩
  | .hbm, ⟨5, _⟩ => ⟨S4096x1024, .bf16⟩
  | .local _ .vmem, ⟨0, _⟩ => ⟨S256x3072, .f32⟩
  | .local _ .vmem, ⟨1, _⟩ => ⟨S256x3072, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S3x1024, .f32⟩
  | .local _ .vmem, ⟨9, _⟩ => ⟨S256x1024, .bf16⟩
  | .local _ .vmem, ⟨10, _⟩ => ⟨S256x1024, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MergeFwdIdeal.lean ====
abbrev S4096x3072 : Shape := ⟨2, ![4096, 3072]⟩
abbrev S4096x1024 : Shape := ⟨2, ![4096, 1024]⟩
abbrev S3x1024 : Shape := ⟨2, ![3, 1024]⟩
abbrev S256x3072 : Shape := ⟨2, ![256, 3072]⟩
abbrev S256x1024 : Shape := ⟨2, ![256, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S3x1024, .f32⟩
  | .hbm, ⟨5, _⟩ => ⟨S4096x1024, .bf16⟩
  | .local _ .vmem, ⟨0, _⟩ => ⟨S256x3072, .f32⟩
  | .local _ .vmem, ⟨1, _⟩ => ⟨S256x3072, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S3x1024, .f32⟩
  | .local _ .vmem, ⟨9, _⟩ => ⟨S256x1024, .bf16⟩
  | .local _ .vmem, ⟨10, _⟩ => ⟨S256x1024, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MergeFwdRefIdeal.lean ====
abbrev S4096x3072 : Shape := ⟨2, ![4096, 3072]⟩
abbrev S4096x1024 : Shape := ⟨2, ![4096, 1024]⟩
abbrev S3x1024 : Shape := ⟨2, ![3, 1024]⟩
abbrev S4096x3x1024 : Shape := ⟨3, ![4096, 3, 1024]⟩
abbrev S1x3x1024 : Shape := ⟨3, ![1, 3, 1024]⟩
abbrev S_ : Shape := ⟨0, ![]⟩
abbrev S4096x1x1024 : Shape := ⟨3, ![4096, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S3x1024, .f32⟩
  | .hbm, ⟨5, _⟩ => ⟨S4096x3x1024, .f32⟩
  | .hbm, ⟨6, _⟩ => ⟨S1x3x1024, .f32⟩
  | .hbm, ⟨7, _⟩ => ⟨S4096x3x1024, .f32⟩
  | .hbm, ⟨8, _⟩ => ⟨S4096x3x1024, .f32⟩
  | .hbm, ⟨9, _⟩ => ⟨S4096x3x1024, .f32⟩
  | .hbm, ⟨10, _⟩ => ⟨S4096x3x1024, .f32⟩
  | .hbm, ⟨11, _⟩ => ⟨S_, .f32⟩
  | .hbm, ⟨12, _⟩ => ⟨S4096x3x1024, .f32⟩
  | .hbm, ⟨13, _⟩ => ⟨S4096x3x1024, .f32⟩
  | .hbm, ⟨14, _⟩ => ⟨S_, .f32⟩
  | .hbm, ⟨15, _⟩ => ⟨S4096x3x1024, .f32⟩
  | .hbm, ⟨16, _⟩ => ⟨S4096x3x1024, .f32⟩
  | .hbm, ⟨17, _⟩ => ⟨S4096x1x1024, .f32⟩
  | .hbm, ⟨18, _⟩ => ⟨S4096x1024, .f32⟩
  | .hbm, ⟨19, _⟩ => ⟨S4096x1024, .f32⟩
  | .hbm, ⟨20, _⟩ => ⟨S4096x1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== AdamSq.lean ====
abbrev S8x128x1024 : Shape := ⟨3, ![8, 128, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSqIdeal.lean ====
abbrev S8x128x1024 : Shape := ⟨3, ![8, 128, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSqRefIdeal.lean ====
abbrev S8x128x1024 : Shape := ⟨3, ![8, 128, 1024]⟩
abbrev S4x128x1024 : Shape := ⟨3, ![4, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S128x1024, .f32⟩
  | .hbm, ⟨9, _⟩ => ⟨S1x128x1024, .f32⟩
  | .hbm, ⟨10, _⟩ => ⟨S128x1024, .f32⟩
  | .hbm, ⟨11, _⟩ => ⟨S1x128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== AdamSsd.lean ====
abbrev S8x256x1024 : Shape := ⟨3, ![8, 256, 1024]⟩
abbrev S4x256x1024 : Shape := ⟨3, ![4, 256, 1024]⟩
abbrev S256x1024 : Shape := ⟨2, ![256, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSsdIdeal.lean ====
abbrev S8x256x1024 : Shape := ⟨3, ![8, 256, 1024]⟩
abbrev S4x256x1024 : Shape := ⟨3, ![4, 256, 1024]⟩
abbrev S256x1024 : Shape := ⟨2, ![256, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSsdRefIdeal.lean ====
abbrev S8x256x1024 : Shape := ⟨3, ![8, 256, 1024]⟩
abbrev S4x256x1024 : Shape := ⟨3, ![4, 256, 1024]⟩
abbrev S_ : Shape := ⟨0, ![]⟩
abbrev S256x1024 : Shape := ⟨2, ![256, 1024]⟩
abbrev S1x256x1024 : Shape := ⟨3, ![1, 256, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S1x256x1024, .f32⟩
  | .hbm, ⟨8, _⟩ => ⟨S256x1024, .f32⟩
  | .hbm, ⟨9, _⟩ => ⟨S1x256x1024, .f32⟩
  | .hbm, ⟨10, _⟩ => ⟨S256x1024, .f32⟩
  | .hbm, ⟨11, _⟩ => ⟨S1x256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | .hbm, ⟨38, _⟩ => ⟨S256x1024, .f32⟩
  | .hbm, ⟨39, _⟩ => ⟨S_, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S_, .f32⟩
  | .hbm, ⟨44, _⟩ => ⟨S256x1024, .f32⟩
  | .hbm, ⟨45, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== AdamDown.lean ====
abbrev S8x512x1024 : Shape := ⟨3, ![8, 512, 1024]⟩
abbrev S4x512x1024 : Shape := ⟨3, ![4, 512, 1024]⟩
abbrev S512x1024 : Shape := ⟨2, ![512, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
abbrev S8x512x1024 : Shape := ⟨3, ![8, 512, 1024]⟩
abbrev S4x512x1024 : Shape := ⟨3, ![4, 512, 1024]⟩
abbrev S512x1024 : Shape := ⟨2, ![512, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S8x512x1024 : Shape := ⟨3, ![8, 512, 1024]⟩
abbrev S4x512x1024 : Shape := ⟨3, ![4, 512, 1024]⟩
abbrev S_ : Shape := ⟨0, ![]⟩
abbrev S512x1024 : Shape := ⟨2, ![512, 1024]⟩
abbrev S1x512x1024 : Shape := ⟨3, ![1, 512, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S1x512x1024, .f32⟩
  | .hbm, ⟨8, _⟩ => ⟨S512x1024, .f32⟩
  | .hbm, ⟨9, _⟩ => ⟨S1x512x1024, .f32⟩
  | .hbm, ⟨10, _⟩ => ⟨S512x1024, .f32⟩
  | .hbm, ⟨11, _⟩ => ⟨S1x512x1024, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S512x1024, .f32⟩
  | .hbm, ⟨16, _⟩ => ⟨S_, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S_, .f32⟩
  | .hbm, ⟨21, _⟩ => ⟨S512x1024, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S_, .f32⟩
  | .hbm, ⟨32, _⟩ => ⟨S512x1024, .f32⟩
  | .hbm, ⟨33, _⟩ => ⟨S512x1024, .f32⟩
  | .hbm, ⟨34, _⟩ => ⟨S512x1024, .f32⟩
  | .hbm, ⟨35, _⟩ => ⟨S_, .f32⟩
  | .hbm, ⟨36, _⟩ => ⟨S512x1024, .f32⟩
  | .hbm, ⟨37, _⟩ => ⟨S512x1024, .f32⟩
  | .hbm, ⟨38, _⟩ => ⟨S512x1024, .f32⟩
  | .hbm, ⟨39, _⟩ => ⟨S_, .f32⟩
  | .hbm, ⟨40, _⟩ => ⟨S512x1024, .f32⟩
  | .hbm, ⟨41, _⟩ => ⟨S512x1024, .f32⟩
  | .hbm, ⟨42, _⟩ => ⟨S512x1024, .f32⟩
  | .hbm, ⟨43, _⟩ => ⟨S_, .f32⟩
  | .hbm, ⟨44, _⟩ => ⟨S512x1024, .f32⟩
  | .hbm, ⟨45, _⟩ => ⟨S512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== AdamIn.lean ====
abbrev S8x1024x1476 : Shape := ⟨3, ![8, 1024, 1476]⟩
abbrev S4x1024x1476 : Shape := ⟨3, ![4, 1024, 1476]⟩
abbrev S1024x1476 : Shape := ⟨2, ![1024, 1476]⟩
abbrev S8x64x1476 : Shape := ⟨3, ![8, 64, 1476]⟩
abbrev S1x64x1476 : Shape := ⟨3, ![1, 64, 1476]⟩
abbrev S64x1476 : Shape := ⟨2, ![64, 1476]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x1476, .bf16⟩
  | .hbm, ⟨1, _⟩ => ⟨S4x1024x1476, .f32⟩
  | .hbm, ⟨2, _⟩ => ⟨S4x1024x1476, .f32⟩
  | .hbm, ⟨3, _⟩ => ⟨S4x1024x1476, .f32⟩
  | .hbm, ⟨4, _⟩ => ⟨S1024x1476, .f32⟩
  | .hbm, ⟨5, _⟩ => ⟨S1024x1476, .f32⟩
  | .hbm, ⟨6, _⟩ => ⟨S1024x1476, .f32⟩
  | .hbm, ⟨7, _⟩ => ⟨S1024x1476, .f32⟩
  | .local _ .vmem, ⟨0, _⟩ => ⟨S8x64x1476, .bf16⟩
  | .local _ .vmem, ⟨1, _⟩ => ⟨S8x64x1476, .bf16⟩
  | .local _ .vmem, ⟨2, _⟩ => ⟨S1x64x1476, .f32⟩
  | .local _ .vmem, ⟨3, _⟩ => ⟨S1x64x1476, .f32⟩
  | .local _ .vmem, ⟨4, _⟩ => ⟨S1x64x1476, .f32⟩
  | .local _ .vmem, ⟨5, _⟩ => ⟨S1x64x1476, .f32⟩
  | .local _ .vmem, ⟨6, _⟩ => ⟨S1x64x1476, .f32⟩
  | .local _ .vmem, ⟨7, _⟩ => ⟨S1x64x1476, .f32⟩
  | .local _ .vmem, ⟨8, _⟩ => ⟨S64x1476, .f32⟩
  | .local _ .vmem, ⟨9, _⟩ => ⟨S64x1476, .f32⟩
  | .local _ .vmem, ⟨10, _⟩ => ⟨S64x1476, .f32⟩
  | .local _ .vmem, ⟨11, _⟩ => ⟨S64x1476, .f32⟩
  | .local _ .vmem, ⟨12, _⟩ => ⟨S64x1476, .f32⟩
  | .local _ .vmem, ⟨13, _⟩ => ⟨S64x1476, .f32⟩
  | .local _ .vmem, ⟨14, _⟩ => ⟨S64x1476, .f32⟩
  | .local _ .vmem, ⟨15, _⟩ => ⟨S64x1476, .f32⟩
  | _, _ => ⟨S8x1024x1476, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1476 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1476 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1476 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1476 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1476 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1476 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1476 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1476 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S8x1024x1476 : Shape := ⟨3, ![8, 1024, 1476]⟩
abbrev S4x1024x1476 : Shape := ⟨3, ![4, 1024, 1476]⟩
abbrev S1024x1476 : Shape := ⟨2, ![1024, 1476]⟩
abbrev S8x64x1476 : Shape := ⟨3, ![8, 64, 1476]⟩
abbrev S1x64x1476 : Shape := ⟨3, ![1, 64, 1476]⟩
abbrev S64x1476 : Shape := ⟨2, ![64, 1476]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x1476, .bf16⟩
  | .hbm, ⟨1, _⟩ => ⟨S4x1024x1476, .f32⟩
  | .hbm, ⟨2, _⟩ => ⟨S4x1024x1476, .f32⟩
  | .hbm, ⟨3, _⟩ => ⟨S4x1024x1476, .f32⟩
  | .hbm, ⟨4, _⟩ => ⟨S1024x1476, .f32⟩
  | .hbm, ⟨5, _⟩ => ⟨S1024x1476, .f32⟩
  | .hbm, ⟨6, _⟩ => ⟨S1024x1476, .f32⟩
  | .hbm, ⟨7, _⟩ => ⟨S1024x1476, .f32⟩
  | .local _ .vmem, ⟨0, _⟩ => ⟨S8x64x1476, .bf16⟩
  | .local _ .vmem, ⟨1, _⟩ => ⟨S8x64x1476, .bf16⟩
  | .local _ .vmem, ⟨2, _⟩ => ⟨S1x64x1476, .f32⟩
  | .local _ .vmem, ⟨3, _⟩ => ⟨S1x64x1476, .f32⟩
  | .local _ .vmem, ⟨4, _⟩ => ⟨S1x64x1476, .f32⟩
  | .local _ .vmem, ⟨5, _⟩ => ⟨S1x64x1476, .f32⟩
  | .local _ .vmem, ⟨6, _⟩ => ⟨S1x64x1476, .f32⟩
  | .local _ .vmem, ⟨7, _⟩ => ⟨S1x64x1476, .f32⟩
  | .local _ .vmem, ⟨8, _⟩ => ⟨S64x1476, .f32⟩
  | .local _ .vmem, ⟨9, _⟩ => ⟨S64x1476, .f32⟩
  | .local _ .vmem, ⟨10, _⟩ => ⟨S64x1476, .f32⟩
  | .local _ .vmem, ⟨11, _⟩ => ⟨S64x1476, .f32⟩
  | .local _ .vmem, ⟨12, _⟩ => ⟨S64x1476, .f32⟩
  | .local _ .vmem, ⟨13, _⟩ => ⟨S64x1476, .f32⟩
  | .local _ .vmem, ⟨14, _⟩ => ⟨S64x1476, .f32⟩
  | .local _ .vmem, ⟨15, _⟩ => ⟨S64x1476, .f32⟩
  | _, _ => ⟨S8x1024x1476, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1476 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1476 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1476 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1476 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1476 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1476 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1476 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1476 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S8x1024x1476 : Shape := ⟨3, ![8, 1024, 1476]⟩
abbrev S4x1024x1476 : Shape := ⟨3, ![4, 1024, 1476]⟩
abbrev S_ : Shape := ⟨0, ![]⟩
abbrev S1024x1476 : Shape := ⟨2, ![1024, 1476]⟩
abbrev S1x1024x1476 : Shape := ⟨3, ![1, 1024, 1476]⟩

abbrev nBuf : Space → Nat
  | .hbm => 46
  | .vmem => 0
  | .smem => 0
  | _ => 0

abbrev bufTy : (tb : Table) → Fin (tcTables nBuf tb) → BufTy
  | .hbm, ⟨0, _⟩ => ⟨S8x1024x1476, .bf16⟩
  | .hbm, ⟨1, _⟩ => ⟨S4x1024x1476, .f32⟩
  | .hbm, ⟨2, _⟩ => ⟨S4x1024x1476, .f32⟩
  | .hbm, ⟨3, _⟩ => ⟨S4x1024x1476, .f32⟩
  | .hbm, ⟨4, _⟩ => ⟨S8x1024x1476, .f32⟩
  | .hbm, ⟨5, _⟩ => ⟨S_, .f32⟩
  | .hbm, ⟨6, _⟩ => ⟨S1024x1476, .f32⟩
  | .hbm, ⟨7, _⟩ => ⟨S1x1024x1476, .f32⟩
  | .hbm, ⟨8, _⟩ => ⟨S1024x1476, .f32⟩
  | .hbm, ⟨9, _⟩ => ⟨S1x1024x1476, .f32⟩
  | .hbm, ⟨10, _⟩ => ⟨S1024x1476, .f32⟩
  | .hbm, ⟨11, _⟩ => ⟨S1x1024x1476, .f32⟩
  | .hbm, ⟨12, _⟩ => ⟨S1024x1476, .f32⟩
  | .hbm, ⟨13, _⟩ => ⟨S_, .f32⟩
  | .hbm, ⟨14, _⟩ => ⟨S1024x1476, .f32⟩
  | .hbm, ⟨15, _⟩ => ⟨S1024x1476, .f32⟩
  | .hbm, ⟨16, _⟩ => ⟨S_, .f32⟩
  | .hbm, ⟨17, _⟩ => ⟨S1024x1476, .f32⟩
  | .hbm, ⟨18, _⟩ => ⟨S1024x1476, .f32⟩
  | .hbm, ⟨19, _⟩ => ⟨S1024x1476, .f32⟩
  | .hbm, ⟨20, _⟩ => ⟨S_, .f32⟩
  | .hbm, ⟨21, _⟩ => ⟨S1024x1476, .f32⟩
  | .hbm, ⟨22, _⟩ => ⟨S1024x1476, .f32⟩
  | .hbm, ⟨23, _⟩ => ⟨S1024x1476, .f32⟩
  | .hbm, ⟨24, _⟩ => ⟨S_, .f32⟩
  | .hbm, ⟨25, _⟩ => ⟨S1024x1476, .f32⟩
  | .hbm, ⟨26, _⟩ => ⟨S1024x1476, .f32⟩
  | .hbm, ⟨27, _⟩ => ⟨S1024x1476, .f32⟩
  | .hbm, ⟨28, _⟩ => ⟨S_, .f32⟩
  | .hbm, ⟨29, _⟩ => ⟨S1024x1476, .f32⟩
  | .hbm, ⟨30, _⟩ => ⟨S1024x1476, .f32⟩
  | .hbm, ⟨31, _⟩ => ⟨S_, .f32⟩
  | .hbm, ⟨32, _⟩ => ⟨S1024x1476, .f32⟩
  | .hbm, ⟨33, _⟩ => ⟨S1024x1476, .f32⟩
  | .hbm, ⟨34, _⟩ => ⟨S1024x1476, .f32⟩
  | .hbm, ⟨35, _⟩ => ⟨S_, .f32⟩
  | .hbm, ⟨36, _⟩ => ⟨S1024x1476, .f32⟩
  | .hbm, ⟨37, _⟩ => ⟨S1024x1476, .f32⟩
  | .hbm, ⟨38, _⟩ => ⟨S1024x1476, .f32⟩
  | .hbm, ⟨39, _⟩ => ⟨S_, .f32⟩
  | .hbm, ⟨40, _⟩ => ⟨S1024x1476, .f32⟩
  | .hbm, ⟨41, _⟩ => ⟨S1024x1476, .f32⟩
  | .hbm, ⟨42, _⟩ => ⟨S1024x1476, .f32⟩
  | .hbm, ⟨43, _⟩ => ⟨S_, .f32⟩
  | .hbm, ⟨44, _⟩ => ⟨S1024x1476, .f32⟩
  | .hbm, ⟨45, _⟩ => ⟨S1024x1476, .f32⟩
  | _, _ => ⟨S8x1024x1476, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== AdamXkv.lean ====
abbrev S8x1024x256 : Shape := ⟨3, ![8, 1024, 256]⟩
abbrev S4x1024x256 : Shape := ⟨3, ![4, 1024, 256]⟩
abbrev S1024x256 : Shape := ⟨2, ![1024, 256]⟩
abbrev S8x512x256 : Shape := ⟨3, ![8, 512, 256]⟩
abbrev S1x512x256 : Shape := ⟨3, ![1, 512, 256]⟩
abbrev S512x256 : Shape := ⟨2, ![512, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x256, .bf16⟩
  | .hbm, ⟨1, _⟩ => ⟨S4x1024x256, .f32⟩
  | .hbm, ⟨2, _⟩ => ⟨S4x1024x256, .f32⟩
  | .hbm, ⟨3, _⟩ => ⟨S4x1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S8x512x256, .bf16⟩
  | .local _ .vmem, ⟨1, _⟩ => ⟨S8x512x256, .bf16⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamXkvIdeal.lean ====
abbrev S8x1024x256 : Shape := ⟨3, ![8, 1024, 256]⟩
abbrev S4x1024x256 : Shape := ⟨3, ![4, 1024, 256]⟩
abbrev S1024x256 : Shape := ⟨2, ![1024, 256]⟩
abbrev S8x512x256 : Shape := ⟨3, ![8, 512, 256]⟩
abbrev S1x512x256 : Shape := ⟨3, ![1, 512, 256]⟩
abbrev S512x256 : Shape := ⟨2, ![512, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x256, .bf16⟩
  | .hbm, ⟨1, _⟩ => ⟨S4x1024x256, .f32⟩
  | .hbm, ⟨2, _⟩ => ⟨S4x1024x256, .f32⟩
  | .hbm, ⟨3, _⟩ => ⟨S4x1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S8x512x256, .bf16⟩
  | .local _ .vmem, ⟨1, _⟩ => ⟨S8x512x256, .bf16⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamXkvRefIdeal.lean ====
abbrev S8x1024x256 : Shape := ⟨3, ![8, 1024, 256]⟩
abbrev S4x1024x256 : Shape := ⟨3, ![4, 1024, 256]⟩
abbrev S_ : Shape := ⟨0, ![]⟩
abbrev S1024x256 : Shape := ⟨2, ![1024, 256]⟩
abbrev S1x1024x256 : Shape := ⟨3, ![1, 1024, 256]⟩

abbrev nBuf : Space → Nat
  | .hbm => 46
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S4x1024x256, .f32⟩
  | .hbm, ⟨2, _⟩ => ⟨S4x1024x256, .f32⟩
  | .hbm, ⟨3, _⟩ => ⟨S4x1024x256, .f32⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S1x1024x256, .f32⟩
  | .hbm, ⟨8, _⟩ => ⟨S1024x256, .f32⟩
  | .hbm, ⟨9, _⟩ => ⟨S1x1024x256, .f32⟩
  | .hbm, ⟨10, _⟩ => ⟨S1024x256, .f32⟩
  | .hbm, ⟨11, _⟩ => ⟨S1x1024x256, .f32⟩
  | .hbm, ⟨12, _⟩ => ⟨S1024x256, .f32⟩
  | .hbm, ⟨13, _⟩ => ⟨S_, .f32⟩
  | .hbm, ⟨14, _⟩ => ⟨S1024x256, .f32⟩
  | .hbm, ⟨15, _⟩ => ⟨S1024x256, .f32⟩
  | .hbm, ⟨16, _⟩ => ⟨S_, .f32⟩
  | .hbm, ⟨17, _⟩ => ⟨S1024x256, .f32⟩
  | .hbm, ⟨18, _⟩ => ⟨S1024x256, .f32⟩
  | .hbm, ⟨19, _⟩ => ⟨S1024x256, .f32⟩
  | .hbm, ⟨20, _⟩ => ⟨S_, .f32⟩
  | .hbm, ⟨21, _⟩ => ⟨S1024x256, .f32⟩
  | .hbm, ⟨22, _⟩ => ⟨S1024x256, .f32⟩
  | .hbm, ⟨23, _⟩ => ⟨S1024x256, .f32⟩
  | .hbm, ⟨24, _⟩ => ⟨S_, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S1024x256, .f32⟩
  | .hbm, ⟨30, _⟩ => ⟨S1024x256, .f32⟩
  | .hbm, ⟨31, _⟩ => ⟨S_, .f32⟩
  | .hbm, ⟨32, _⟩ => ⟨S1024x256, .f32⟩
  | .hbm, ⟨33, _⟩ => ⟨S1024x256, .f32⟩
  | .hbm, ⟨34, _⟩ => ⟨S1024x256, .f32⟩
  | .hbm, ⟨35, _⟩ => ⟨S_, .f32⟩
  | .hbm, ⟨36, _⟩ => ⟨S1024x256, .f32⟩
  | .hbm, ⟨37, _⟩ => ⟨S1024x256, .f32⟩
  | .hbm, ⟨38, _⟩ => ⟨S1024x256, .f32⟩
  | .hbm, ⟨39, _⟩ => ⟨S_, .f32⟩
  | .hbm, ⟨40, _⟩ => ⟨S1024x256, .f32⟩
  | .hbm, ⟨41, _⟩ => ⟨S1024x256, .f32⟩
  | .hbm, ⟨42, _⟩ => ⟨S1024x256, .f32⟩
  | .hbm, ⟨43, _⟩ => ⟨S_, .f32⟩
  | .hbm, ⟨44, _⟩ => ⟨S1024x256, .f32⟩
  | .hbm, ⟨45, _⟩ => ⟨S1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== AdamUp.lean ====
abbrev S8x1024x512 : Shape := ⟨3, ![8, 1024, 512]⟩
abbrev S4x1024x512 : Shape := ⟨3, ![4, 1024, 512]⟩
abbrev S1024x512 : Shape := ⟨2, ![1024, 512]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S8x256x512, .bf16⟩
  | .local _ .vmem, ⟨1, _⟩ => ⟨S8x256x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S8x1024x512 : Shape := ⟨3, ![8, 1024, 512]⟩
abbrev S4x1024x512 : Shape := ⟨3, ![4, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 46
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S1x1024x512, .f32⟩
  | .hbm, ⟨8, _⟩ => ⟨S1024x512, .f32⟩
  | .hbm, ⟨9, _⟩ => ⟨S1x1024x512, .f32⟩
  | .hbm, ⟨10, _⟩ => ⟨S1024x512, .f32⟩
  | .hbm, ⟨11, _⟩ => ⟨S1x1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S_, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S_, .f32⟩
  | .hbm, ⟨32, _⟩ => ⟨S1024x512, .f32⟩
  | .hbm, ⟨33, _⟩ => ⟨S1024x512, .f32⟩
  | .hbm, ⟨34, _⟩ => ⟨S1024x512, .f32⟩
  | .hbm, ⟨35, _⟩ => ⟨S_, .f32⟩
  | .hbm, ⟨36, _⟩ => ⟨S1024x512, .f32⟩
  | .hbm, ⟨37, _⟩ => ⟨S1024x512, .f32⟩
  | .hbm, ⟨38, _⟩ => ⟨S1024x512, .f32⟩
  | .hbm, ⟨39, _⟩ => ⟨S_, .f32⟩
  | .hbm, ⟨40, _⟩ => ⟨S1024x512, .f32⟩
  | .hbm, ⟨41, _⟩ => ⟨S1024x512, .f32⟩
  | .hbm, ⟨42, _⟩ => ⟨S1024x512, .f32⟩
  | .hbm, ⟨43, _⟩ => ⟨S_, .f32⟩
  | .hbm, ⟨44, _⟩ => ⟨S1024x512, .f32⟩
  | .hbm, ⟨45, _⟩ => ⟨S1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== AdamSmall.lean ====
abbrev S596x128 : Shape := ⟨2, ![596, 128]⟩

abbrev nBuf : Space → Nat
  | .hbm => 7
  | .vmem => 7
  | .smem => 0
  | _ => 0

abbrev bufTy : (tb : Table) → Fin (tcTables nBuf tb) → BufTy
  | .hbm, ⟨0, _⟩ => ⟨S596x128, .f32⟩
  | .hbm, ⟨1, _⟩ => ⟨S596x128, .f32⟩
  | .hbm, ⟨2, _⟩ => ⟨S596x128, .f32⟩
  | .hbm, ⟨3, _⟩ => ⟨S596x128, .f32⟩
  | .hbm, ⟨4, _⟩ => ⟨S596x128, .f32⟩
  | .hbm, ⟨5, _⟩ => ⟨S596x128, .f32⟩
  | .hbm, ⟨6, _⟩ => ⟨S596x128, .f32⟩
  | .local _ .vmem, ⟨0, _⟩ => ⟨S596x128, .f32⟩
  | .local _ .vmem, ⟨1, _⟩ => ⟨S596x128, .f32⟩
  | .local _ .vmem, ⟨2, _⟩ => ⟨S596x128, .f32⟩
  | .local _ .vmem, ⟨3, _⟩ => ⟨S596x128, .f32⟩
  | .local _ .vmem, ⟨4, _⟩ => ⟨S596x128, .f32⟩
  | .local _ .vmem, ⟨5, _⟩ => ⟨S596x128, .f32⟩
  | .local _ .vmem, ⟨6, _⟩ => ⟨S596x128, .f32⟩
  | _, _ => ⟨S596x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S596x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S596x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S596x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S596x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S596x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S596x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S596x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallIdeal.lean ====
abbrev S596x128 : Shape := ⟨2, ![596, 128]⟩

abbrev nBuf : Space → Nat
  | .hbm => 7
  | .vmem => 7
  | .smem => 0
  | _ => 0

abbrev bufTy : (tb : Table) → Fin (tcTables nBuf tb) → BufTy
  | .hbm, ⟨0, _⟩ => ⟨S596x128, .f32⟩
  | .hbm, ⟨1, _⟩ => ⟨S596x128, .f32⟩
  | .hbm, ⟨2, _⟩ => ⟨S596x128, .f32⟩
  | .hbm, ⟨3, _⟩ => ⟨S596x128, .f32⟩
  | .hbm, ⟨4, _⟩ => ⟨S596x128, .f32⟩
  | .hbm, ⟨5, _⟩ => ⟨S596x128, .f32⟩
  | .hbm, ⟨6, _⟩ => ⟨S596x128, .f32⟩
  | .local _ .vmem, ⟨0, _⟩ => ⟨S596x128, .f32⟩
  | .local _ .vmem, ⟨1, _⟩ => ⟨S596x128, .f32⟩
  | .local _ .vmem, ⟨2, _⟩ => ⟨S596x128, .f32⟩
  | .local _ .vmem, ⟨3, _⟩ => ⟨S596x128, .f32⟩
  | .local _ .vmem, ⟨4, _⟩ => ⟨S596x128, .f32⟩
  | .local _ .vmem, ⟨5, _⟩ => ⟨S596x128, .f32⟩
  | .local _ .vmem, ⟨6, _⟩ => ⟨S596x128, .f32⟩
  | _, _ => ⟨S596x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S596x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S596x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S596x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S596x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S596x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S596x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S596x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S596x128 : Shape := ⟨2, ![596, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S596x128, .f32⟩
  | .hbm, ⟨1, _⟩ => ⟨S596x128, .f32⟩
  | .hbm, ⟨2, _⟩ => ⟨S596x128, .f32⟩
  | .hbm, ⟨3, _⟩ => ⟨S596x128, .f32⟩
  | .hbm, ⟨4, _⟩ => ⟨S_, .f32⟩
  | .hbm, ⟨5, _⟩ => ⟨S596x128, .f32⟩
  | .hbm, ⟨6, _⟩ => ⟨S596x128, .f32⟩
  | .hbm, ⟨7, _⟩ => ⟨S_, .f32⟩
  | .hbm, ⟨8, _⟩ => ⟨S596x128, .f32⟩
  | .hbm, ⟨9, _⟩ => ⟨S596x128, .f32⟩
  | .hbm, ⟨10, _⟩ => ⟨S596x128, .f32⟩
  | .hbm, ⟨11, _⟩ => ⟨S_, .f32⟩
  | .hbm, ⟨12, _⟩ => ⟨S596x128, .f32⟩
  | .hbm, ⟨13, _⟩ => ⟨S596x128, .f32⟩
  | .hbm, ⟨14, _⟩ => ⟨S596x128, .f32⟩
  | .hbm, ⟨15, _⟩ => ⟨S_, .f32⟩
  | .hbm, ⟨16, _⟩ => ⟨S596x128, .f32⟩
  | .hbm, ⟨17, _⟩ => ⟨S596x128, .f32⟩
  | .hbm, ⟨18, _⟩ => ⟨S596x128, .f32⟩
  | .hbm, ⟨19, _⟩ => ⟨S_, .f32⟩
  | .hbm, ⟨20, _⟩ => ⟨S596x128, .f32⟩
  | .hbm, ⟨21, _⟩ => ⟨S596x128, .f32⟩
  | .hbm, ⟨22, _⟩ => ⟨S_, .f32⟩
  | .hbm, ⟨23, _⟩ => ⟨S596x128, .f32⟩
  | .hbm, ⟨24, _⟩ => ⟨S596x128, .f32⟩
  | .hbm, ⟨25, _⟩ => ⟨S596x128, .f32⟩
  | .hbm, ⟨26, _⟩ => ⟨S_, .f32⟩
  | .hbm, ⟨27, _⟩ => ⟨S596x128, .f32⟩
  | .hbm, ⟨28, _⟩ => ⟨S596x128, .f32⟩
  | .hbm, ⟨29, _⟩ => ⟨S596x128, .f32⟩
  | .hbm, ⟨30, _⟩ => ⟨S_, .f32⟩
  | .hbm, ⟨31, _⟩ => ⟨S596x128, .f32⟩
  | .hbm, ⟨32, _⟩ => ⟨S596x128, .f32⟩
  | .hbm, ⟨33, _⟩ => ⟨S596x128, .f32⟩
  | .hbm, ⟨34, _⟩ => ⟨S_, .f32⟩
  | .hbm, ⟨35, _⟩ => ⟨S596x128, .f32⟩
  | .hbm, ⟨36, _⟩ => ⟨S596x128, .f32⟩
  | _, _ => ⟨S596x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSmall.lean ====
abbrev S8x1885x128 : Shape := ⟨3, ![8, 1885, 128]⟩
abbrev S1885x128 : Shape := ⟨2, ![1885, 128]⟩
abbrev S1x1885x128 : Shape := ⟨3, ![1, 1885, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1885x128, .f32⟩
  | .hbm, ⟨1, _⟩ => ⟨S1885x128, .f32⟩
  | .local _ .vmem, ⟨0, _⟩ => ⟨S8x1885x128, .f32⟩
  | .local _ .vmem, ⟨1, _⟩ => ⟨S1885x128, .f32⟩
  | _, _ => ⟨S8x1885x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1885x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1885x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x1885x128 : Shape := ⟨3, ![8, 1885, 128]⟩
abbrev S_ : Shape := ⟨0, ![]⟩
abbrev S1885x128 : Shape := ⟨2, ![1885, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1885x128, .f32⟩
  | .hbm, ⟨1, _⟩ => ⟨S_, .f32⟩
  | .hbm, ⟨2, _⟩ => ⟨S1885x128, .f32⟩
  | _, _ => ⟨S8x1885x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Loss.lean ====
abbrev S4096x1024 : Shape := ⟨2, ![4096, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_10 : BitVec 32 := 0#32
  let v19 : BitVec 1 := Scalar.cmpi .ne v18 c0_i32_10
  v19

def k0_cond2 (i : grid0.Coords) : BitVec 1 :=
  let arg0 : BitVec 32 := BitVec.ofNat 32 (i 0).val
  let c0_i32_11 : BitVec 32 := 0#32
  let v20 : BitVec 1 := Scalar.cmpi .sgt arg0 c0_i32_11
  let v21 : BitVec 32 := Scalar.extui v20
  let c0_i32_12 : BitVec 32 := 0#32
  let v22 : BitVec 1 := Scalar.cmpi .ne v21 c0_i32_12
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossRefIdeal.lean ====
abbrev S4096x1024 : Shape := ⟨2, ![4096, 1024]⟩
abbrev S_ : Shape := ⟨0, ![]⟩
abbrev S4096 : Shape := ⟨1, ![4096]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Proof.Shared.lean ====
/- Facts about indices and blocks that the value proofs of several calls use. -/
module

public import Idealize.ShloMosaic.Lib.Pipeline.ValueKit
public import Idealize.ShloMosaic.Lib.Pipeline.ReadBack
public import Idealize.ShloMosaic.Lib.Pointwise
public import Idealize.ShloMosaic.Lib.IdealHost

@[expose] public section

noncomputable section

namespace Cert.Shared

open Idealize.ShloMosaic Idealize.ShloMosaic.Pointwise

/-- The zero offsets of a rank-two rectangle. -/
theorem hz : (![0, 0] : Fin 2 → Nat) = fun _ => 0 := funext fun a => by fin_cases a <;> rfl

/-- Two indices of a rank-two shape with the same coordinates are the same. -/
theorem ext2 {n0 n1 : Nat} {x y : (⟨2, ![n0, n1]⟩ : Shape).Idx} (h0 : (x 0).val = (y 0).val) (h1 : (x 1).val = (y 1).val) :
    x = y := by
  funext a; apply Fin.ext
  match a with
  | ⟨0, _⟩ => exact h0
  | ⟨1, _⟩ => exact h1

/-- An index of a rank-two shape is the pair of its coordinates. -/
theorem pair {n0 n1 : Nat} (y : (⟨2, ![n0, n1]⟩ : Shape).Idx) : ∃ (a : Fin n0) (b : Fin n1), y = ix2 a b := ⟨y 0, y 1, eq_ix2 y⟩

theorem two_f32 : Ideal.ofBits .f32 0x40000000#32 = 2 := by
  rw [show (2 : EReal) = ((2 : ℝ) : EReal) by norm_cast]
  simp [Ideal.ofBits, Ideal.ieee, -EReal.coe_mul]; norm_num

theorem hz3 : (![0, 0, 0] : Fin 3 → Nat) = fun _ => 0 := funext fun a => by fin_cases a <;> rfl

/-- Two indices of a rank-three shape with the same coordinates are the same. -/
theorem ext3 {n0 n1 n2 : Nat} {x y : (⟨3, ![n0, n1, n2]⟩ : Shape).Idx} (h0 : (x 0).val = (y 0).val)
    (h1 : (x 1).val = (y 1).val) (h2 : (x 2).val = (y 2).val) : x = y := by
  funext a; apply Fin.ext
  match a with
  | ⟨0, _⟩ => exact h0
  | ⟨1, _⟩ => exact h1
  | ⟨2, _⟩ => exact h2

/-- A quantity that starts a run of `J` points at `init + term 0` and gains `term k` at the run's point `k` is a sum. -/
theorem run_sum {N : Nat} (f : (n : Nat) → n < N → EReal) (J q : Nat) (init : EReal) (term : Nat → EReal)
    (h0 : ∀ h, f (J * q) h = init + term 0)
    (hs : ∀ k, k + 1 < J → ∀ h h', f (J * q + (k + 1)) h = f (J * q + k) h' + term (k + 1)) (k : Nat) (hk : k < J)
    (h : J * q + k < N) : f (J * q + k) h = init + ∑ i ∈ Finset.range (k + 1), term i := by
  induction k with
  | zero => rw [Finset.sum_range_one]; exact h0 h
  | succ k ih => rw [hs k hk h (by omega), ih (by omega) (by omega), Finset.sum_range_succ _ (k + 1), add_assoc]

/-- The same for the last point `t` of a run, with the points named by their number. -/
theorem run_tile {N : Nat} (f : (n : Nat) → n < N → EReal) (J t : Nat) (ht : t < N) (hl : t % J = J - 1) (init : EReal) (term : Nat → EReal)
    (h0 : ∀ u, u / J = t / J → u % J = 0 → ∀ h, f u h = init + term 0)
    (hs : ∀ u, u / J = t / J → ¬u % J = 0 → ∀ h h', f u h = f (u - 1) h' + term (u % J)) (hJ : 0 < J := by decide) :
    f t ht = init + ∑ i ∈ Finset.range J, term i := by
  have e : J * (t / J) + (J - 1) = t := by rw [← hl]; exact Nat.div_add_mod t J
  have d : ∀ k, k < J → (J * (t / J) + k) / J = t / J ∧ (J * (t / J) + k) % J = k := fun k hk => by
    rw [Nat.mul_add_div hJ, Nat.mul_add_mod, Nat.div_eq_of_lt hk, Nat.mod_eq_of_lt hk]
    exact ⟨rfl, rfl⟩
  have key := run_sum f J (t / J) init term (fun h => h0 _ (d 0 hJ).1 (d 0 hJ).2 h)
    (fun k hk h h' => by
      have := hs _ (d _ hk).1 (by rw [(d _ hk).2]; omega) h h'
      rw [(d _ hk).2] at this
      exact this)
    (J - 1) (by omega) (by omega)
  simp only [e] at key
  rw [key, Nat.sub_add_cancel hJ]

end Cert.Shared

end
-- ==== Proof.MergeSpec.lean ====
/- The gradient through the gated merge of the three branches (`d_merge`): the mathematics, apart from kernel and
   reference. -/
module

public import Idealize.ShloMosaic.Lib.Pointwise
public import proofs.«01_k».proof.Proof.Shared

@[expose] public section

set_option maxRecDepth 16384

noncomputable section

namespace Cert.MergeProof

open Idealize.ShloMosaic Idealize.ShloMosaic.Pointwise

/-- One entry of the gradient with respect to a gate's argument `z`: the incoming gradient `d` times the branch `y`
    times the derivative of the logistic function at `z`. -/
def gateGrad (d y z : EReal) : EReal := d * y * (Ideal.logistic z * (1 - Ideal.logistic z))

/-- One entry of the gradient with respect to a branch: the gate times the incoming gradient. -/
def branchGrad (d z : EReal) : EReal := Ideal.logistic z * d

/-- Column `d` of gate `j` in the packed array of the three gates' arguments. -/
def col (j : Fin 3) (d : Fin 1024) : Fin 3072 := ⟨1024 * j.val + d.val, by omega⟩
/-- The gate a packed column belongs to, and its place there. -/
def gateOf (n : Fin 3072) : Fin 3 := ⟨n.val / 1024, by omega⟩
def colOf (n : Fin 3072) : Fin 1024 := ⟨n.val % 1024, by omega⟩
theorem col_gateOf (n : Fin 3072) : col (gateOf n) (colOf n) = n := Fin.ext (by show 1024 * (n.val / 1024) + n.val % 1024 = n.val; omega)

theorem fin3 {P : Fin 3 → Prop} (h0 : P 0) (h1 : P 1) (h2 : P 2) : ∀ j, P j
  | 0 => h0
  | 1 => h1
  | 2 => h2

/-- The gradient of the gate arguments for `n` rows: gate `j`, row `r`, column `d`. -/
def gateCell {n : Nat} (pg : Vec Ideal ⟨2, ![n, 3072]⟩ .f32) (ya yb yc : Vec Ideal ⟨2, ![n, 1024]⟩ .f32)
    (dm : Vec Ideal ⟨2, ![n, 1024]⟩ .bf16) (gb : Vec Ideal ⟨2, ![3, 1024]⟩ .f32) (r : Fin n) (j : Fin 3) (d : Fin 1024) : EReal :=
  gateGrad (dm (ix2 r d)) ((![ya, yb, yc] j : Vec Ideal ⟨2, ![n, 1024]⟩ .f32) (ix2 r d)) (pg (ix2 r (col j d)) + gb (ix2 j d))

/-- The gradient of branch `j` for `n` rows. -/
def branchCell {n : Nat} (pg : Vec Ideal ⟨2, ![n, 3072]⟩ .f32)
    (dm : Vec Ideal ⟨2, ![n, 1024]⟩ .bf16) (gb : Vec Ideal ⟨2, ![3, 1024]⟩ .f32) (j : Fin 3) (r : Fin n) (d : Fin 1024) : EReal :=
  branchGrad (dm (ix2 r d)) (pg (ix2 r (col j d)) + gb (ix2 j d))

/-- Cells agree where the arguments' entries agree. -/
theorem gateCell_congr {n n' : Nat} {x0 : Vec Ideal ⟨2, ![n, 3072]⟩ .f32} {x1 x2 x3 : Vec Ideal ⟨2, ![n, 1024]⟩ .f32}
    {x4 : Vec Ideal ⟨2, ![n, 1024]⟩ .bf16} {x5 : Vec Ideal ⟨2, ![3, 1024]⟩ .f32}
    {y0 : Vec Ideal ⟨2, ![n', 3072]⟩ .f32} {y1 y2 y3 : Vec Ideal ⟨2, ![n', 1024]⟩ .f32}
    {y4 : Vec Ideal ⟨2, ![n', 1024]⟩ .bf16} {y5 : Vec Ideal ⟨2, ![3, 1024]⟩ .f32} {a : Fin n} {r : Fin n'}
    (h0 : ∀ b, x0 (ix2 a b) = y0 (ix2 r b)) (h1 : ∀ b, x1 (ix2 a b) = y1 (ix2 r b)) (h2 : ∀ b, x2 (ix2 a b) = y2 (ix2 r b))
    (h3 : ∀ b, x3 (ix2 a b) = y3 (ix2 r b)) (h4 : ∀ b, x4 (ix2 a b) = y4 (ix2 r b)) (h5 : ∀ j b, x5 (ix2 j b) = y5 (ix2 j b))
    (d : Fin 1024) : ∀ j : Fin 3, gateCell x0 x1 x2 x3 x4 x5 a j d = gateCell y0 y1 y2 y3 y4 y5 r j d := by
  refine fin3 ?_ ?_ ?_
  · show gateGrad (x4 (ix2 a d)) (x1 (ix2 a d)) (x0 (ix2 a (col 0 d)) + x5 (ix2 0 d)) = _
    rw [h0, h1, h4, h5]; rfl
  · show gateGrad (x4 (ix2 a d)) (x2 (ix2 a d)) (x0 (ix2 a (col 1 d)) + x5 (ix2 1 d)) = _
    rw [h0, h2, h4, h5]; rfl
  · show gateGrad (x4 (ix2 a d)) (x3 (ix2 a d)) (x0 (ix2 a (col 2 d)) + x5 (ix2 2 d)) = _
    rw [h0, h3, h4, h5]; rfl
theorem branchCell_congr {n n' : Nat} {x0 : Vec Ideal ⟨2, ![n, 3072]⟩ .f32}
    {x4 : Vec Ideal ⟨2, ![n, 1024]⟩ .bf16} {x5 : Vec Ideal ⟨2, ![3, 1024]⟩ .f32}
    {y0 : Vec Ideal ⟨2, ![n', 3072]⟩ .f32}
    {y4 : Vec Ideal ⟨2, ![n', 1024]⟩ .bf16} {y5 : Vec Ideal ⟨2, ![3, 1024]⟩ .f32} {a : Fin n} {r : Fin n'}
    (h0 : ∀ b, x0 (ix2 a b) = y0 (ix2 r b)) (h4 : ∀ b, x4 (ix2 a b) = y4 (ix2 r b)) (h5 : ∀ j b, x5 (ix2 j b) = y5 (ix2 j b))
    (j : Fin 3) (d : Fin 1024) : branchCell x0 x4 x5 j a d = branchCell y0 y4 y5 j r d := by
  unfold branchCell
  rw [h0, h4, h5]

/-- The five result arrays as functions of the six arguments. -/
def Gpg (pg : Vec Ideal ⟨2, ![4096, 3072]⟩ .f32) (ya yb yc : Vec Ideal ⟨2, ![4096, 1024]⟩ .f32)
    (dm : Vec Ideal ⟨2, ![4096, 1024]⟩ .bf16) (gb : Vec Ideal ⟨2, ![3, 1024]⟩ .f32) : Vec Ideal ⟨2, ![4096, 3072]⟩ .bf16 :=
  fun i => gateCell pg ya yb yc dm gb (i 0) (gateOf (i 1)) (colOf (i 1))
def Gy (j : Fin 3) (pg : Vec Ideal ⟨2, ![4096, 3072]⟩ .f32)
    (dm : Vec Ideal ⟨2, ![4096, 1024]⟩ .bf16) (gb : Vec Ideal ⟨2, ![3, 1024]⟩ .f32) : Vec Ideal ⟨2, ![4096, 1024]⟩ .bf16 :=
  fun i => branchCell pg dm gb j (i 0) (i 1)
def Ggb (pg : Vec Ideal ⟨2, ![4096, 3072]⟩ .f32) (ya yb yc : Vec Ideal ⟨2, ![4096, 1024]⟩ .f32)
    (dm : Vec Ideal ⟨2, ![4096, 1024]⟩ .bf16) (gb : Vec Ideal ⟨2, ![3, 1024]⟩ .f32) : Vec Ideal ⟨2, ![3, 1024]⟩ .f32 :=
  fun i => ∑ r : Fin 4096, gateCell pg ya yb yc dm gb r (i 0) (i 1)

end Cert.MergeProof

end
-- ==== Proof.MergeBlock.lean ====
/- The gradient through the gated merge: what one grid point computes from its block of 256 rows, at one index. -/
module

public import proofs.«01_k».proof.Proof.Gen.MergeIdeal.Value
public import proofs.«01_k».proof.Proof.MergeSpec

@[expose] public section

set_option maxRecDepth 16384

noncomputable section

namespace Cert.MergeProof

open Cert.MergeIdeal Cert.MergeIdeal.Gen Idealize.ShloMosaic Idealize.ShloMosaic.TcCoe Idealize.SL.Sem
open Idealize.ShloMosaic.Pointwise Cert.Shared

variable (x0 : Vec Ideal S256x3072 .f32) (x1 x2 x3 : Vec Ideal S256x1024 .f32) (x4 : Vec Ideal S256x1024 .bf16)
  (x5 : Vec Ideal S3x1024 .f32)

theorem pay17_apply (a : Fin 256) (d : Fin 1024) :
    k0_pay17 (k0_pay2 x0 x5) (k0_pay7 x4) (ix2 a d) = branchCell x0 x4 x5 0 a d := by
  pointwise [k0_pay17, k0_pay2, k0_pay7]
  simp only [branchCell, branchGrad, col, Fin.isValue, Fin.val_zero, mul_zero, zero_add]
theorem pay18_apply (a : Fin 256) (d : Fin 1024) :
    k0_pay18 (k0_pay12 x0 x4 x5) (ix2 a d) = branchCell x0 x4 x5 1 a d := by
  pointwise [k0_pay18, k0_pay12, k0_pay4, k0_pay7]
  rfl
theorem pay19_apply (a : Fin 256) (d : Fin 1024) :
    k0_pay19 (k0_pay8 x0 x4 x5) (ix2 a d) = branchCell x0 x4 x5 2 a d := by
  pointwise [k0_pay19, k0_pay8, k0_pay6, k0_pay7]
  rfl

/-- The gradient of the gate arguments: three concatenations with zeros, added, are the three gates side by side. -/
theorem pay16_apply (a : Fin 256) (d : Fin 1024) : ∀ j : Fin 3,
    k0_pay16 x1 x2 (k0_pay3 x0 x5) (k0_pay5 x0 x5) (k0_pay7 x4) (k0_pay11 x0 x3 x4 x5) (ix2 a (col j d))
    = gateCell x0 x1 x2 x3 x4 x5 a j d := by
  refine fin3 ?_ ?_ ?_
  · show k0_pay16 x1 x2 (k0_pay3 x0 x5) (k0_pay5 x0 x5) (k0_pay7 x4) (k0_pay11 x0 x3 x4 x5) (ix2 a (⟨1024 * 0 + d.val, by omega⟩ : Fin 3072)) = _
    pointwise [k0_pay16, k0_pay13, k0_pay14, k0_pay11, k0_pay9, k0_pay3, k0_pay5, k0_pay7, k0_pay2, k0_pay4, k0_pay6]
    rw [dif_pos (by omega), dif_pos (by omega), zero_add, zero_add]
    simp only [gateCell, gateGrad, col, Fin.isValue, Fin.val_zero, mul_zero, zero_add, Matrix.cons_val_zero]
  · show k0_pay16 x1 x2 (k0_pay3 x0 x5) (k0_pay5 x0 x5) (k0_pay7 x4) (k0_pay11 x0 x3 x4 x5) (ix2 a (⟨1024 + d.val, by omega⟩ : Fin 3072)) = _
    pointwise [k0_pay16, k0_pay13, k0_pay14, k0_pay11, k0_pay9, k0_pay3, k0_pay5, k0_pay7, k0_pay2, k0_pay4, k0_pay6]
    rw [dif_pos (by omega), dif_pos (by omega), zero_add]
    rfl
  · show k0_pay16 x1 x2 (k0_pay3 x0 x5) (k0_pay5 x0 x5) (k0_pay7 x4) (k0_pay11 x0 x3 x4 x5) (ix2 a (⟨2048 + d.val, by omega⟩ : Fin 3072)) = _
    pointwise [k0_pay16, k0_pay13, k0_pay14, k0_pay11, k0_pay9, k0_pay3, k0_pay5, k0_pay7, k0_pay2, k0_pay4, k0_pay6]
    rw [dif_neg (by omega), add_zero]
    rfl

/-- The block's share of the bias gradient: row `j` sums gate `j`'s entries over the block's rows. -/
theorem pay15_apply (d : Fin 1024) : ∀ j : Fin 3,
    k0_pay15 x1 x2 (k0_pay3 x0 x5) (k0_pay5 x0 x5) (k0_pay7 x4) (k0_pay10 x0 x3 x4 x5) (ix2 j d)
    = ∑ a : Fin 256, gateCell x0 x1 x2 x3 x4 x5 a j d := by
  refine fin3 ?_ ?_ ?_
  · pointwise [k0_pay15, k0_pay13, k0_pay14, k0_pay10, k0_pay9, k0_pay3, k0_pay5, k0_pay7, k0_pay2, k0_pay4, k0_pay6]
    simp only [gateCell, gateGrad, col, Fin.isValue, Fin.val_zero, mul_zero, zero_add, Matrix.cons_val_zero]
  · pointwise [k0_pay15, k0_pay13, k0_pay14, k0_pay10, k0_pay9, k0_pay3, k0_pay5, k0_pay7, k0_pay2, k0_pay4, k0_pay6]
    rfl
  · pointwise [k0_pay15, k0_pay13, k0_pay14, k0_pay10, k0_pay9, k0_pay3, k0_pay5, k0_pay7, k0_pay2, k0_pay4, k0_pay6]
    rfl

end Cert.MergeProof

end
-- ==== Proof.MergeRef.lean ====
/- The gradient through the gated merge: what the reference computes, at one index. -/
module

public import proofs.«01_k».proof.Proof.Gen.MergeRefIdeal.Run
public import proofs.«01_k».proof.Proof.MergeSpec
public import Idealize.ShloMosaic.Lib.IdealHost

@[expose] public section

set_option maxRecDepth 16384

noncomputable section

namespace Cert.MergeProof

open Cert.MergeRefIdeal Idealize.ShloMosaic Idealize.ShloMosaic.TcCoe Idealize.SL.Sem
open Idealize.ShloMosaic.Pointwise Cert.Shared

/-! Arrays by their shapes. -/
abbrev R3x1024r := Vec Ideal S3x1024 .f32
abbrev B4096x1024r := Vec Ideal S4096x1024 .bf16
abbrev R4096x3072r := Vec Ideal S4096x3072 .f32
abbrev R4096x3x1024r := Vec Ideal S4096x3x1024 .f32

/-- The gates and the gradient of their arguments as the reference composes them, over the arguments `Y` already cut in
    three. -/
def gates (Y : R4096x3x1024r) (y5 : R3x1024r) : R4096x3x1024r :=
  Host.divf (broadcastInDim S4096x3x1024 ![] Facts₀.bcast_S_S4096x3x1024 (constant (F := Ideal) S_ .f32 0x3F800000#32)) (addf (broadcastInDim S4096x3x1024 ![] Facts₀.bcast_S_S4096x3x1024 (constant (F := Ideal) S_ .f32 0x3F800000#32)) (Host.exp (Host.negf (addf Y (broadcastInDim S4096x3x1024 ![0, 1, 2] Facts₀.bcast_S1x3x1024_S4096x3x1024_0_1_2 (broadcastInDim S1x3x1024 ![1, 2] Facts₀.bcast_S3x1024_S1x3x1024_1_2 y5))))))
def dgates (Y : R4096x3x1024r) (y1 y2 y3 : Vec Ideal S4096x1024 .f32) (y4 : B4096x1024r)
    (y5 : R3x1024r) : R4096x3x1024r :=
  mulf (addf (addf (pad S4096x3x1024 ![0, 2, 0] ![0, 0, 0] ![0, 0, 0] (broadcastInDim S4096x1x1024 ![0, 2] Facts₀.bcast_S4096x1024_S4096x1x1024_0_2 (mulf (extf .f32 y4 Facts₀.bitsLt_bf16_f32) y3)) (constant (F := Ideal) S_ .f32 0x00000000#32) Facts₀.pads_S4096x1x1024_S4096x3x1024_000_200_000 Facts₀.h_S_) (pad S4096x3x1024 ![0, 1, 0] ![0, 1, 0] ![0, 0, 0] (broadcastInDim S4096x1x1024 ![0, 2] Facts₀.bcast_S4096x1024_S4096x1x1024_0_2 (mulf (extf .f32 y4 Facts₀.bitsLt_bf16_f32) y2)) (constant (F := Ideal) S_ .f32 0x00000000#32) Facts₀.pads_S4096x1x1024_S4096x3x1024_000_110_000 Facts₀.h_S_)) (pad S4096x3x1024 ![0, 0, 0] ![0, 2, 0] ![0, 0, 0] (broadcastInDim S4096x1x1024 ![0, 2] Facts₀.bcast_S4096x1024_S4096x1x1024_0_2 (mulf (extf .f32 y4 Facts₀.bitsLt_bf16_f32) y1)) (constant (F := Ideal) S_ .f32 0x00000000#32) Facts₀.pads_S4096x1x1024_S4096x3x1024_000_020_000 Facts₀.h_S_)) (mulf (gates Y y5) (subf (broadcastInDim S4096x3x1024 ![] Facts₀.bcast_S_S4096x3x1024 (constant (F := Ideal) S_ .f32 0x3F800000#32)) (gates Y y5)))

/-- Cutting the columns in three and packing them again, at an index. -/
theorem cut_apply (y0 : R4096x3072r) (h : S4096x3072.ShapeCasts S4096x3x1024) (a : Fin 4096) (j : Fin 3) (d : Fin 1024) :
    shapeCast S4096x3x1024 y0 h (ix3 a j d) = y0 (ix2 a (col j d)) := by
  rw [Pointwise.shapeCast_apply, Shape.reshapeEquiv_eq_of_vals (y := ix2 a (col j d)) (hA := rowMajor_val2 _ _ rfl) (hB := rowMajor_val3 _ _ _ rfl rfl)]
  show a.val * 3072 + (1024 * j.val + d.val) = a.val * (3 * 1024) + j.val * 1024 + d.val
  omega
theorem pack_apply (Z : R4096x3x1024r) (h : S4096x3x1024.ShapeCasts S4096x3072) (a : Fin 4096) (j : Fin 3) (d : Fin 1024) :
    shapeCast S4096x3072 Z h (ix2 a (col j d)) = Z (ix3 a j d) := by
  rw [Pointwise.shapeCast_apply, Shape.reshapeEquiv_eq_of_vals (y := ix3 a j d) (hB := rowMajor_val2 _ _ rfl) (hA := rowMajor_val3 _ _ _ rfl rfl)]
  show a.val * (3 * 1024) + j.val * 1024 + d.val = a.val * 3072 + (1024 * j.val + d.val)
  omega

theorem gates_apply (Y : R4096x3x1024r) (y5 : R3x1024r) (a : Fin 4096) (j : Fin 3) (d : Fin 1024) :
    gates Y y5 (ix3 a j d) = Ideal.logistic (Y (ix3 a j d) + y5 (ix2 j d)) := by
  pointwise [gates]
  rfl

theorem dgates_apply (y0 : R4096x3072r) (y1 y2 y3 : Vec Ideal S4096x1024 .f32) (y4 : B4096x1024r)
    (y5 : R3x1024r) (h : S4096x3072.ShapeCasts S4096x3x1024) (a : Fin 4096) (d : Fin 1024) : ∀ j : Fin 3,
    dgates (shapeCast S4096x3x1024 y0 h) y1 y2 y3 y4 y5 (ix3 a j d) = gateCell y0 y1 y2 y3 y4 y5 a j d := by
  have hg : ∀ j, gates (shapeCast S4096x3x1024 y0 h) y5 (ix3 a j d) = Ideal.logistic (y0 (ix2 a (col j d)) + y5 (ix2 j d)) :=
    fun j => (gates_apply (shapeCast S4096x3x1024 y0 h) y5 a j d).trans (by rw [cut_apply])
  unfold dgates
  generalize gates (shapeCast S4096x3x1024 y0 h) y5 = g at hg
  refine fin3 ?_ ?_ ?_
  · pointwise
    rw [hg 0]
    rfl
  · pointwise
    rw [hg 1]
    rfl
  · pointwise
    rw [hg 2]
    rfl

theorem ref_pg (y0 : R4096x3072r) (y1 y2 y3 : Vec Ideal S4096x1024 .f32) (y4 : B4096x1024r)
    (y5 : R3x1024r) (h : S4096x3072.ShapeCasts S4096x3x1024) (h' : S4096x3x1024.ShapeCasts S4096x3072) (hb : FTy.bf16.bits < FTy.f32.bits) :
    truncf (F := Ideal) (φ := .f32) .bf16 (shapeCast S4096x3072 (dgates (shapeCast S4096x3x1024 y0 h) y1 y2 y3 y4 y5) h') hb = Gpg y0 y1 y2 y3 y4 y5 := by
  funext y
  obtain ⟨a, b, rfl⟩ : ∃ (a : Fin 4096) (b : Fin 3072), y = ix2 a b := ⟨y 0, y 1, eq_ix2 y⟩
  refine (?_ : shapeCast S4096x3072 (dgates (shapeCast S4096x3x1024 y0 h) y1 y2 y3 y4 y5) h' (ix2 a b) = _)
  conv_lhs => rw [← col_gateOf b]
  rw [pack_apply, dgates_apply]
  rfl

theorem ref_y0 (y0 : R4096x3072r) (y4 : B4096x1024r)
    (y5 : R3x1024r) (h : S4096x3072.ShapeCasts S4096x3x1024) :
    truncf (F := Ideal) .bf16 (mulf (shapeCast _ (extractStridedSlice S4096x1x1024 ![0, 0, 0] (gates (shapeCast S4096x3x1024 y0 h) y5) Facts₀.slices_S4096x3x1024_S4096x1x1024_0_0_0) Facts₀.shapeCasts_S4096x1x1024_S4096x1024) (extf .f32 y4 Facts₀.bitsLt_bf16_f32)) Facts₀.bitsLt_bf16_f32
      = Gy 0 y0 y4 y5 := by
  funext y
  obtain ⟨a, b, rfl⟩ : ∃ (a : Fin 4096) (b : Fin 1024), y = ix2 a b := ⟨y 0, y 1, eq_ix2 y⟩
  have hg := (gates_apply (shapeCast S4096x3x1024 y0 h) y5 a 0 b).trans (by rw [cut_apply])
  generalize gates (shapeCast S4096x3x1024 y0 h) y5 = g at hg
  pointwise
  rw [hg]
  rfl
theorem ref_y1 (y0 : R4096x3072r) (y4 : B4096x1024r)
    (y5 : R3x1024r) (h : S4096x3072.ShapeCasts S4096x3x1024) :
    truncf (F := Ideal) .bf16 (mulf (shapeCast _ (extractStridedSlice S4096x1x1024 ![0, 1, 0] (gates (shapeCast S4096x3x1024 y0 h) y5) Facts₀.slices_S4096x3x1024_S4096x1x1024_0_1_0) Facts₀.shapeCasts_S4096x1x1024_S4096x1024) (extf .f32 y4 Facts₀.bitsLt_bf16_f32)) Facts₀.bitsLt_bf16_f32
      = Gy 1 y0 y4 y5 := by
  funext y
  obtain ⟨a, b, rfl⟩ : ∃ (a : Fin 4096) (b : Fin 1024), y = ix2 a b := ⟨y 0, y 1, eq_ix2 y⟩
  have hg := (gates_apply (shapeCast S4096x3x1024 y0 h) y5 a 1 b).trans (by rw [cut_apply])
  generalize gates (shapeCast S4096x3x1024 y0 h) y5 = g at hg
  pointwise
  rw [hg]
  rfl
theorem ref_y2 (y0 : R4096x3072r) (y4 : B4096x1024r)
    (y5 : R3x1024r) (h : S4096x3072.ShapeCasts S4096x3x1024) :
    truncf (F := Ideal) .bf16 (mulf (shapeCast _ (extractStridedSlice S4096x1x1024 ![0, 2, 0] (gates (shapeCast S4096x3x1024 y0 h) y5) Facts₀.slices_S4096x3x1024_S4096x1x1024_0_2_0) Facts₀.shapeCasts_S4096x1x1024_S4096x1024) (extf .f32 y4 Facts₀.bitsLt_bf16_f32)) Facts₀.bitsLt_bf16_f32
      = Gy 2 y0 y4 y5 := by
  funext y
  obtain ⟨a, b, rfl⟩ : ∃ (a : Fin 4096) (b : Fin 1024), y = ix2 a b := ⟨y 0, y 1, eq_ix2 y⟩
  have hg := (gates_apply (shapeCast S4096x3x1024 y0 h) y5 a 2 b).trans (by rw [cut_apply])
  generalize gates (shapeCast S4096x3x1024 y0 h) y5 = g at hg
  pointwise
  rw [hg]
  rfl

theorem ref_gb (y0 : R4096x3072r) (y1 y2 y3 : Vec Ideal S4096x1024 .f32) (y4 : B4096x1024r)
    (y5 : R3x1024r) (h : S4096x3072.ShapeCasts S4096x3x1024) :
    Host.reduceAdd (shapeCast _ (Host.reduceAdd (dgates (shapeCast S4096x3x1024 y0 h) y1 y2 y3 y4 y5) (constant (F := Ideal) S_ .f32 0x00000000#32) Facts₀.reducesTo_S4096x3x1024_S3x1024_d0 Facts₀.h_S_) Facts₀.shapeCasts_S3x1024_S1x3x1024) (constant (F := Ideal) S_ .f32 0x00000000#32) Facts₀.reducesTo_S1x3x1024_S3x1024_d0 Facts₀.h_S_
      = Ggb y0 y1 y2 y3 y4 y5 := by
  funext y
  obtain ⟨j, d, rfl⟩ : ∃ (a : Fin 3) (b : Fin 1024), y = ix2 a b := ⟨y 0, y 1, eq_ix2 y⟩
  have hg := fun a => dgates_apply y0 y1 y2 y3 y4 y5 h a d j
  generalize dgates (shapeCast S4096x3x1024 y0 h) y1 y2 y3 y4 y5 = g at hg
  pointwise
  rw [Fin.sum_univ_one]
  simp only [hg]
  rfl

end Cert.MergeProof

end
-- ==== Proof.Merge.lean ====
/- The gradient through the gated merge: what the kernel leaves in its five result arrays, and that the reference leaves
   the same. -/
module

public import proofs.«01_k».proof.Defs
public import proofs.«01_k».proof.Proof.MergeBlock
public import proofs.«01_k».proof.Proof.MergeRef
public import Idealize.ShloMosaic.Lib.Pipeline.ValueKit

@[expose] public section

set_option maxRecDepth 16384

noncomputable section

namespace Cert.MergeProof

open Cert.MergeIdeal Cert.MergeIdeal.Gen Idealize.ShloMosaic Idealize.ShloMosaic.TcCoe Idealize.SL.Sem
open Idealize.ShloMosaic.Pointwise Cert.Shared

/-! Arrays by their shapes. -/
abbrev R3x1024 := Vec Ideal S3x1024 .f32
abbrev R4096x1024 := Vec Ideal S4096x1024 .f32

variable (m : (ℓ : Loc nD τ sig) → Buf (Elt Ideal) ℓ)

/-! What the body leaves in each result's block, at every point. -/

theorem pos (t : Fin cfg0.N) (h : ¬t.val % 16 = 0) : 1 ≤ t.val := by omega
theorem zero (t : Fin cfg0.N) (h : t.val % 16 = 0) : ¬1 ≤ t.val := by
  have hN : cfg0.N = 16 := N_0
  have := t.isLt; omega

theorem out6 (c : Dev nD) (t : Fin cfg0.N) : (outsAt0 m c t.val t.isLt).1
    = k0_pay16 (iblk m c 1 t) (iblk m c 2 t) (k0_pay3 (iblk m c 0 t) (iblk m c 5 t)) (k0_pay5 (iblk m c 0 t) (iblk m c 5 t)) (k0_pay7 (iblk m c 4 t)) (k0_pay11 (iblk m c 0 t) (iblk m c 3 t) (iblk m c 4 t) (iblk m c 5 t)) := by
  by_cases h : t.val % 16 = 0
  · rw [outsAt0_A m c t h (zero t h)]
    frame_out
  · rw [outsAt0_B m c t h (pos t h)]
    frame_out
theorem out7 (c : Dev nD) (t : Fin cfg0.N) : (outsAt0 m c t.val t.isLt).2.1
    = k0_pay17 (k0_pay2 (iblk m c 0 t) (iblk m c 5 t)) (k0_pay7 (iblk m c 4 t)) := by
  by_cases h : t.val % 16 = 0
  · rw [outsAt0_A m c t h (zero t h)]
    frame_out
  · rw [outsAt0_B m c t h (pos t h)]
    frame_out
theorem out8 (c : Dev nD) (t : Fin cfg0.N) : (outsAt0 m c t.val t.isLt).2.2.1
    = k0_pay18 (k0_pay12 (iblk m c 0 t) (iblk m c 4 t) (iblk m c 5 t)) := by
  by_cases h : t.val % 16 = 0
  · rw [outsAt0_A m c t h (zero t h)]
    frame_out
  · rw [outsAt0_B m c t h (pos t h)]
    frame_out
theorem out9 (c : Dev nD) (t : Fin cfg0.N) : (outsAt0 m c t.val t.isLt).2.2.2.1
    = k0_pay19 (k0_pay8 (iblk m c 0 t) (iblk m c 4 t) (iblk m c 5 t)) := by
  by_cases h : t.val % 16 = 0
  · rw [outsAt0_A m c t h (zero t h)]
    frame_out
  · rw [outsAt0_B m c t h (pos t h)]
    frame_out

/-- The block's share of the bias gradient. -/
def share (c : Dev nD) (t : Fin cfg0.N) : R3x1024 :=
  k0_pay15 (iblk m c 1 t) (iblk m c 2 t) (k0_pay3 (iblk m c 0 t) (iblk m c 5 t)) (k0_pay5 (iblk m c 0 t) (iblk m c 5 t)) (k0_pay7 (iblk m c 4 t)) (k0_pay10 (iblk m c 0 t) (iblk m c 3 t) (iblk m c 4 t) (iblk m c 5 t))
theorem out10_first (c : Dev nD) (t : Fin cfg0.N) (h : t.val % 16 = 0) : (outsAt0 m c t.val t.isLt).2.2.2.2 = share m c t := by
  rw [outsAt0_A m c t h (zero t h)]
  frame_out
  rfl
theorem out10_later (c : Dev nD) (t : Fin cfg0.N) (h : ¬t.val % 16 = 0) : (outsAt0 m c t.val t.isLt).2.2.2.2
    = k0_pay1 (share m c t) (outsAt0 m c (t.val - 1) (Nat.lt_of_le_of_lt (Nat.sub_le _ _) t.isLt)).2.2.2.2 := by
  rw [outsAt0_B m c t h (pos t h)]
  frame_out
  rfl
theorem pay1_apply (u v : R3x1024) (j : Fin 3) (d : Fin 1024) : k0_pay1 u v (ix2 j d) = v (ix2 j d) + u (ix2 j d) := by
  pointwise [k0_pay1]

/-! The blocks: point `t` has rows `256 t … 256 t + 255`. -/

theorem idx : ∀ t : Fin cfg0.N, t.val < 16
    ∧ (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = 0 ∧ win0_10.index t (1 : Fin 2) = 0) :=
  (by decide +kernel : ∀ t : Fin grid0.N, _)

/-- Row `a` of point `t`'s block, as a row of the array. -/
def row (t : Fin cfg0.N) (a : Fin 256) : Fin 4096 := ⟨t.val * 256 + a.val, by have := (idx t).1; omega⟩

theorem emb0 (t : Fin cfg0.N) (a : Fin 256) (b : Fin 3072) : ((cfg0.win 0).blk t).view.emb (ix2 a b) = ix2 (row t a) b := by
  obtain ⟨-, ⟨e0, e1⟩, -⟩ := idx t
  refine ext2 ?_ ?_
  · show win0_0.index t (0 : Fin 2) * 256 + 1 * a.val = t.val * 256 + a.val; rw [e0]; omega
  · show win0_0.index t (1 : Fin 2) * 3072 + 1 * b.val = b.val; rw [e1]; omega
theorem emb1 (t : Fin cfg0.N) (a : Fin 256) (b : Fin 1024) : ((cfg0.win 1).blk t).view.emb (ix2 a b) = ix2 (row t a) b := by
  obtain ⟨-, -, ⟨e0, e1⟩, -⟩ := idx t
  refine ext2 ?_ ?_
  · show win0_1.index t (0 : Fin 2) * 256 + 1 * a.val = t.val * 256 + a.val; rw [e0]; omega
  · show win0_1.index t (1 : Fin 2) * 1024 + 1 * b.val = b.val; rw [e1]; omega
theorem emb2 (t : Fin cfg0.N) (a : Fin 256) (b : Fin 1024) : ((cfg0.win 2).blk t).view.emb (ix2 a b) = ix2 (row t a) b := by
  obtain ⟨-, -, -, ⟨e0, e1⟩, -⟩ := idx t
  refine ext2 ?_ ?_
  · show win0_2.index t (0 : Fin 2) * 256 + 1 * a.val = t.val * 256 + a.val; rw [e0]; omega
  · show win0_2.index t (1 : Fin 2) * 1024 + 1 * b.val = b.val; rw [e1]; omega
theorem emb3 (t : Fin cfg0.N) (a : Fin 256) (b : Fin 1024) : ((cfg0.win 3).blk t).view.emb (ix2 a b) = ix2 (row t a) b := by
  obtain ⟨-, -, -, -, ⟨e0, e1⟩, -⟩ := idx t
  refine ext2 ?_ ?_
  · show win0_3.index t (0 : Fin 2) * 256 + 1 * a.val = t.val * 256 + a.val; rw [e0]; omega
  · show win0_3.index t (1 : Fin 2) * 1024 + 1 * b.val = b.val; rw [e1]; omega
theorem emb4 (t : Fin cfg0.N) (a : Fin 256) (b : Fin 1024) : ((cfg0.win 4).blk t).view.emb (ix2 a b) = ix2 (row t a) b := by
  obtain ⟨-, -, -, -, -, ⟨e0, e1⟩, -⟩ := idx t
  refine ext2 ?_ ?_
  · show win0_4.index t (0 : Fin 2) * 256 + 1 * a.val = t.val * 256 + a.val; rw [e0]; omega
  · show win0_4.index t (1 : Fin 2) * 1024 + 1 * b.val = b.val; rw [e1]; omega
theorem emb5 (t : Fin cfg0.N) (a : Fin 3) (b : Fin 1024) : ((cfg0.win 5).blk t).view.emb (ix2 a b) = ix2 a b := by
  obtain ⟨-, -, -, -, -, -, ⟨e0, e1⟩, -⟩ := idx t
  refine ext2 ?_ ?_
  · show win0_5.index t (0 : Fin 2) * 3 + 1 * a.val = a.val; rw [e0]; omega
  · show win0_5.index t (1 : Fin 2) * 1024 + 1 * b.val = b.val; rw [e1]; omega
theorem emb6 (t : Fin cfg0.N) (a : Fin 256) (b : Fin 3072) : ((cfg0.win 6).blk t).view.emb (ix2 a b) = ix2 (row t a) b := by
  obtain ⟨-, -, -, -, -, -, -, ⟨e0, e1⟩, -⟩ := idx t
  refine ext2 ?_ ?_
  · show win0_6.index t (0 : Fin 2) * 256 + 1 * a.val = t.val * 256 + a.val; rw [e0]; omega
  · show win0_6.index t (1 : Fin 2) * 3072 + 1 * b.val = b.val; rw [e1]; omega
theorem emb7 (t : Fin cfg0.N) (a : Fin 256) (b : Fin 1024) : ((cfg0.win 7).blk t).view.emb (ix2 a b) = ix2 (row t a) b := by
  obtain ⟨-, -, -, -, -, -, -, -, ⟨e0, e1⟩, -⟩ := idx t
  refine ext2 ?_ ?_
  · show win0_7.index t (0 : Fin 2) * 256 + 1 * a.val = t.val * 256 + a.val; rw [e0]; omega
  · show win0_7.index t (1 : Fin 2) * 1024 + 1 * b.val = b.val; rw [e1]; omega
theorem emb8 (t : Fin cfg0.N) (a : Fin 256) (b : Fin 1024) : ((cfg0.win 8).blk t).view.emb (ix2 a b) = ix2 (row t a) b := by
  obtain ⟨-, -, -, -, -, -, -, -, -, ⟨e0, e1⟩, -⟩ := idx t
  refine ext2 ?_ ?_
  · show win0_8.index t (0 : Fin 2) * 256 + 1 * a.val = t.val * 256 + a.val; rw [e0]; omega
  · show win0_8.index t (1 : Fin 2) * 1024 + 1 * b.val = b.val; rw [e1]; omega
theorem emb9 (t : Fin cfg0.N) (a : Fin 256) (b : Fin 1024) : ((cfg0.win 9).blk t).view.emb (ix2 a b) = ix2 (row t a) b := by
  obtain ⟨-, -, -, -, -, -, -, -, -, -, ⟨e0, e1⟩, -⟩ := idx t
  refine ext2 ?_ ?_
  · show win0_9.index t (0 : Fin 2) * 256 + 1 * a.val = t.val * 256 + a.val; rw [e0]; omega
  · show win0_9.index t (1 : Fin 2) * 1024 + 1 * b.val = b.val; rw [e1]; omega
theorem emb10 (t : Fin cfg0.N) (a : Fin 3) (b : Fin 1024) : ((cfg0.win 10).blk t).view.emb (ix2 a b) = ix2 a b := by
  obtain ⟨-, -, -, -, -, -, -, -, -, -, -, e0, e1⟩ := idx t
  refine ext2 ?_ ?_
  · show win0_10.index t (0 : Fin 2) * 3 + 1 * a.val = a.val; rw [e0]; omega
  · show win0_10.index t (1 : Fin 2) * 1024 + 1 * b.val = b.val; rw [e1]; omega
theorem iblk0_apply (c : Dev nD) (t : Fin cfg0.N) (a : Fin 256) (b : Fin 3072) : (iblk m c 0 t : Vec Ideal S256x3072 .f32) (ix2 a b)
    = (V m c main_arg0 : Vec Ideal S4096x3072 .f32) (ix2 (row t a) b) :=
  congrArg (V m c main_arg0 : Vec Ideal S4096x3072 .f32) (emb0 t a b)
theorem iblk1_apply (c : Dev nD) (t : Fin cfg0.N) (a : Fin 256) (b : Fin 1024) : (iblk m c 1 t : Vec Ideal S256x1024 .f32) (ix2 a b)
    = (V m c main_arg1 : R4096x1024) (ix2 (row t a) b) :=
  congrArg (V m c main_arg1) (emb1 t a b)
theorem iblk2_apply (c : Dev nD) (t : Fin cfg0.N) (a : Fin 256) (b : Fin 1024) : (iblk m c 2 t : Vec Ideal S256x1024 .f32) (ix2 a b)
    = (V m c main_arg2 : R4096x1024) (ix2 (row t a) b) :=
  congrArg (V m c main_arg2) (emb2 t a b)
theorem iblk3_apply (c : Dev nD) (t : Fin cfg0.N) (a : Fin 256) (b : Fin 1024) : (iblk m c 3 t : Vec Ideal S256x1024 .f32) (ix2 a b)
    = (V m c main_arg3 : R4096x1024) (ix2 (row t a) b) :=
  congrArg (V m c main_arg3) (emb3 t a b)
theorem iblk4_apply (c : Dev nD) (t : Fin cfg0.N) (a : Fin 256) (b : Fin 1024) : (iblk m c 4 t : Vec Ideal S256x1024 .bf16) (ix2 a b)
    = (V m c main_arg4 : Vec Ideal S4096x1024 .bf16) (ix2 (row t a) b) :=
  congrArg (V m c main_arg4 : Vec Ideal S4096x1024 .bf16) (emb4 t a b)
theorem iblk5_apply (c : Dev nD) (t : Fin cfg0.N) (a : Fin 3) (b : Fin 1024) : (iblk m c 5 t : R3x1024) (ix2 a b)
    = (V m c main_arg5 : R3x1024) (ix2 a b) :=
  congrArg (V m c main_arg5) (emb5 t a b)

/-- A block's cells are the array's cells at the block's rows. -/
theorem gateCell_blk (c : Dev nD) (t : Fin cfg0.N) (a : Fin 256) (d : Fin 1024) (j : Fin 3) :
    gateCell (iblk m c 0 t) (iblk m c 1 t) (iblk m c 2 t) (iblk m c 3 t) (iblk m c 4 t) (iblk m c 5 t) a j d
    = gateCell (V m c main_arg0) (V m c main_arg1) (V m c main_arg2) (V m c main_arg3) (V m c main_arg4) (V m c main_arg5) (row t a) j d :=
  gateCell_congr (iblk0_apply m c t a) (iblk1_apply m c t a) (iblk2_apply m c t a) (iblk3_apply m c t a) (iblk4_apply m c t a) (iblk5_apply m c t) d j
theorem branchCell_blk (c : Dev nD) (t : Fin cfg0.N) (j : Fin 3) (a : Fin 256) (d : Fin 1024) :
    branchCell (iblk m c 0 t) (iblk m c 4 t) (iblk m c 5 t) j a d
    = branchCell (V m c main_arg0) (V m c main_arg4) (V m c main_arg5) j (row t a) d := by
  exact branchCell_congr (iblk0_apply m c t a) (iblk4_apply m c t a) (iblk5_apply m c t) j d

/-! The result arrays. -/

theorem final6 (c : Dev nD) : (dats m 0 c).arrAt 6 cfg0.N = Gpg (V m c main_arg0) (V m c main_arg1) (V m c main_arg2) (V m c main_arg3) (V m c main_arg4) (V m c main_arg5) := by
  refine (dats m 0 c).arrAt_eq_of_covers 6 _ (by decide +kernel) fun t _ y => ?_
  rw [after0_6, out6]
  obtain ⟨a, b, rfl⟩ : ∃ (a : Fin 256) (b : Fin 3072), y = ix2 a b := ⟨y 0, y 1, eq_ix2 y⟩
  rw [emb6]
  show k0_pay16 _ _ _ _ _ _ (ix2 a b) = _
  conv_lhs => rw [← col_gateOf b]
  rw [pay16_apply, gateCell_blk]
  rfl
theorem final7 (c : Dev nD) : (dats m 0 c).arrAt 7 cfg0.N = Gy 0 (V m c main_arg0) (V m c main_arg4) (V m c main_arg5) := by
  refine (dats m 0 c).arrAt_eq_of_covers 7 _ (by decide +kernel) fun t _ y => ?_
  rw [after0_7, out7]
  obtain ⟨a, b, rfl⟩ : ∃ (a : Fin 256) (b : Fin 1024), y = ix2 a b := ⟨y 0, y 1, eq_ix2 y⟩
  rw [emb7]
  show k0_pay17 _ _ (ix2 a b) = _
  rw [pay17_apply, branchCell_blk]
  rfl
theorem final8 (c : Dev nD) : (dats m 0 c).arrAt 8 cfg0.N = Gy 1 (V m c main_arg0) (V m c main_arg4) (V m c main_arg5) := by
  refine (dats m 0 c).arrAt_eq_of_covers 8 _ (by decide +kernel) fun t _ y => ?_
  rw [after0_8, out8]
  obtain ⟨a, b, rfl⟩ : ∃ (a : Fin 256) (b : Fin 1024), y = ix2 a b := ⟨y 0, y 1, eq_ix2 y⟩
  rw [emb8]
  show k0_pay18 _ (ix2 a b) = _
  rw [pay18_apply, branchCell_blk]
  rfl
theorem final9 (c : Dev nD) : (dats m 0 c).arrAt 9 cfg0.N = Gy 2 (V m c main_arg0) (V m c main_arg4) (V m c main_arg5) := by
  refine (dats m 0 c).arrAt_eq_of_covers 9 _ (by decide +kernel) fun t _ y => ?_
  rw [after0_9, out9]
  obtain ⟨a, b, rfl⟩ : ∃ (a : Fin 256) (b : Fin 1024), y = ix2 a b := ⟨y 0, y 1, eq_ix2 y⟩
  rw [emb9]
  show k0_pay19 _ (ix2 a b) = _
  rw [pay19_apply, branchCell_blk]
  rfl

theorem share_apply (c : Dev nD) (t : Fin cfg0.N) (j : Fin 3) (d : Fin 1024) : share m c t (ix2 j d)
    = ∑ a : Fin 256, gateCell (V m c main_arg0) (V m c main_arg1) (V m c main_arg2) (V m c main_arg3) (V m c main_arg4) (V m c main_arg5) (row t a) j d := by
  unfold share
  rw [pay15_apply]
  exact Finset.sum_congr rfl fun a _ => gateCell_blk m c t a d j

/-- The share of the `k`-th block, for any `k`. -/
def term (c : Dev nD) (j : Fin 3) (d : Fin 1024) (k : Nat) : EReal :=
  if h : k < cfg0.N then share m c ⟨k, h⟩ (ix2 j d) else 0

/-- The bias gradient after the last point is the sum of all shares. -/
theorem out10_last (c : Dev nD) (t : Fin cfg0.N) (h : t.val % 16 = 15) (j : Fin 3) (d : Fin 1024) :
    ((outsAt0 m c t.val t.isLt).2.2.2.2 : R3x1024) (ix2 j d) = ∑ r : Fin 4096, gateCell (V m c main_arg0) (V m c main_arg1) (V m c main_arg2) (V m c main_arg3) (V m c main_arg4) (V m c main_arg5) r j d := by
  have hN : cfg0.N = 16 := N_0
  have key := Pipeline.eq_sum_of_reset_step_of_mod (N := cfg0.N)
    (fun n hn => ((outsAt0 m c n hn).2.2.2.2 : R3x1024) (ix2 j d)) 16 0 (term m c j d)
    (fun t h => by
      show ((outsAt0 m c t.val t.isLt).2.2.2.2 : R3x1024) (ix2 j d) = _
      rw [out10_first m c t h, term, dif_pos t.isLt, zero_add])
    (fun t h => by
      show ((outsAt0 m c t.val t.isLt).2.2.2.2 : R3x1024) (ix2 j d) = _
      rw [out10_later m c t h, pay1_apply, term, dif_pos t.isLt])
    t h
  refine key.trans ?_
  have ht : t.val / 16 = 0 := by have := t.isLt; omega
  rw [ht, zero_add, Fin.sum_univ_tiles 16 256 rfl, ← Fin.sum_univ_eq_sum_range (fun k => term m c j d (16 * 0 + k)) 16]
  refine Finset.sum_congr rfl fun k _ => ?_
  have hk : 16 * 0 + k.val < cfg0.N := by have := k.isLt; omega
  rw [term, dif_pos hk, share_apply]
  refine Finset.sum_congr rfl fun a _ => ?_
  congr 1
  exact Fin.ext (by show (16 * 0 + k.val) * 256 + a.val = k.val * 256 + a.val; omega)

theorem final10 (c : Dev nD) : (dats m 0 c).arrAt 10 cfg0.N = Ggb (V m c main_arg0) (V m c main_arg1) (V m c main_arg2) (V m c main_arg3) (V m c main_arg4) (V m c main_arg5) := by
  refine (dats m 0 c).arrAt_eq_of_covers 10 _ (by decide +kernel) fun t hf y => ?_
  rw [after0_10]
  obtain ⟨j, d, rfl⟩ : ∃ (a : Fin 3) (b : Fin 1024), y = ix2 a b := ⟨y 0, y 1, eq_ix2 y⟩
  rw [emb10]
  exact out10_last m c t ((flush0_10 t).mp hf) j d

/-- The claim of the call: kernel and reference end with the same five arrays. -/
theorem algebraic : Cert.algebraic_MergeIdeal_MergeRefIdeal := fun m ρ m' ρ' _ hag =>
  ⟨fun c => Gpg (V m c main_arg0) (V m c main_arg1) (V m c main_arg2) (V m c main_arg3) (V m c main_arg4) (V m c main_arg5),
   fun c => Gy 0 (V m c main_arg0) (V m c main_arg4) (V m c main_arg5),
   fun c => Gy 1 (V m c main_arg0) (V m c main_arg4) (V m c main_arg5),
   fun c => Gy 2 (V m c main_arg0) (V m c main_arg4) (V m c main_arg5),
   fun c => Ggb (V m c main_arg0) (V m c main_arg1) (V m c main_arg2) (V m c main_arg3) (V m c main_arg4) (V m c main_arg5),
   (θ_run _ _ _).mono (fun _ h c => ⟨(h c).1.trans (final6 m c), (h c).2.1.trans (final7 m c), (h c).2.2.1.trans (final8 m c),
      (h c).2.2.2.1.trans (final9 m c), (h c).2.2.2.2.1.trans (final10 m c), (h c).2.2.2.2.2⟩) (Value.run_blocks m ρ),
   (θ_run _ _ _).mono (fun _ h c => by
      obtain ⟨a0, a1, a2, a3, a4, a5⟩ := hag c
      refine ⟨(h c).1.trans ?_, (h c).2.1.trans ?_, (h c).2.2.1.trans ?_, (h c).2.2.2.1.trans ?_, (h c).2.2.2.2.1.trans ?_, (h c).2.2.2.2.2⟩
      · rw [a0, a1, a2, a3, a4, a5]; exact ref_pg _ _ _ _ _ _ _ _ _
      · rw [a0, a4, a5]; exact ref_y0 _ _ _ _
      · rw [a0, a4, a5]; exact ref_y1 _ _ _ _
      · rw [a0, a4, a5]; exact ref_y2 _ _ _ _
      · rw [a0, a1, a2, a3, a4, a5]; exact ref_gb _ _ _ _ _ _ _)
     (Cert.MergeRefIdeal.Value.run m' ρ')⟩

end Cert.MergeProof

end
-- ==== Proof.DAct.lean ====
/- The gradient through the MLP's down projection and its squared ReLU (`d_act`): what the kernel leaves in its result
   array, what the reference computes, and that the two are equal at every index. -/
module

public import proofs.«01_k».proof.Defs
public import proofs.«01_k».proof.Proof.Gen.DActIdeal.Value
public import proofs.«01_k».proof.Proof.Gen.DActRefIdeal.Run
public import proofs.«01_k».proof.Proof.Shared

@[expose] public section

set_option maxRecDepth 16384

noncomputable section

namespace Cert.DActProof

open Cert.DActIdeal Cert.DActIdeal.Gen Idealize.ShloMosaic Idealize.ShloMosaic.TcCoe Idealize.SL.Sem
open Idealize.ShloMosaic.Pointwise Cert.Shared

/-! Arrays by their shapes. -/
abbrev B4096x1024 := Vec Ideal S4096x1024 .bf16

/-- One entry of the gradient: the product's entry `p` times the derivative of `max u 0` squared. -/
def cell (p u : EReal) : EReal := if 0 < u then p * (2 * max u 0) else 0

/-- What one grid point stores, at one index of its block. -/
theorem pay_apply (x0 : Vec Ideal S1024x1024 .bf16) (x1 : Vec Ideal S512x1024 .bf16) (x2 : Vec Ideal S1024x512 .f32)
    (a : Fin 1024) (b : Fin 512) :
    k0_pay1 x0 x1 x2 (ix2 a b) = cell (∑ k : Fin 1024, x0 (ix2 a k) * x1 (ix2 b k)) (x2 (ix2 a b)) := by
  pointwise [k0_pay1]
  unfold cell
  rw [two_f32]
  by_cases h : 0 < x2 (ix2 a b)
  · rw [if_pos h, if_pos h, mul_one]
  · rw [if_neg h, if_neg h, max_eq_right (not_lt.mp h), mul_zero, mul_zero, zero_mul]

/-- The whole result array as a function of the three arguments. -/
def G (dh w : B4096x1024) (up : Vec Ideal S4096x4096 .f32) : Vec Ideal S4096x4096 .bf16 :=
  fun i => cell (∑ k : Fin 1024, dh (ix2 (i 0) k) * w (ix2 (i 1) k)) (up i)

variable (m : (ℓ : Loc nD τ sig) → Buf (Elt Ideal) ℓ)

/-- The block indices of the four windows at point `t`: the grid is 4 row tiles by 8 column tiles. -/
theorem idx : ∀ t : Fin cfg0.N, t.val < 32
    ∧ (win0_0.index t (0 : Fin 2) = t.val / 8 ∧ win0_0.index t (1 : Fin 2) = 0)
    ∧ (win0_1.index t (0 : Fin 2) = t.val % 8 ∧ win0_1.index t (1 : Fin 2) = 0)
    ∧ (win0_2.index t (0 : Fin 2) = t.val / 8 ∧ win0_2.index t (1 : Fin 2) = t.val % 8)
    ∧ (win0_3.index t (0 : Fin 2) = t.val / 8 ∧ win0_3.index t (1 : Fin 2) = t.val % 8) :=
  (by decide +kernel : ∀ t : Fin grid0.N, _)

theorem row_lt (t : Fin cfg0.N) (a : Fin 1024) : t.val / 8 * 1024 + a.val < 4096 := by
  have := (idx t).1; omega
theorem col_lt (t : Fin cfg0.N) (b : Fin 512) : t.val % 8 * 512 + b.val < 4096 := by omega

/-- Row `a` and column `b` of point `t`'s block, as a row and a column of the array. -/
def row (t : Fin cfg0.N) (a : Fin 1024) : Fin 4096 := ⟨t.val / 8 * 1024 + a.val, row_lt t a⟩
def col (t : Fin cfg0.N) (b : Fin 512) : Fin 4096 := ⟨t.val % 8 * 512 + b.val, col_lt t b⟩

theorem emb0 (t : Fin cfg0.N) (a k : Fin 1024) : ((cfg0.win 0).blk t).view.emb (ix2 a k) = ix2 (row t a) k := by
  obtain ⟨-, ⟨e0, e1⟩, -⟩ := idx t
  refine ext2 ?_ ?_
  · show win0_0.index t (0 : Fin 2) * 1024 + 1 * a.val = t.val / 8 * 1024 + a.val; rw [e0]; omega
  · show win0_0.index t (1 : Fin 2) * 1024 + 1 * k.val = k.val; rw [e1]; omega
theorem emb1 (t : Fin cfg0.N) (b : Fin 512) (k : Fin 1024) : ((cfg0.win 1).blk t).view.emb (ix2 b k) = ix2 (col t b) k := by
  obtain ⟨-, -, ⟨e0, e1⟩, -⟩ := idx t
  refine ext2 ?_ ?_
  · show win0_1.index t (0 : Fin 2) * 512 + 1 * b.val = t.val % 8 * 512 + b.val; rw [e0]; omega
  · show win0_1.index t (1 : Fin 2) * 1024 + 1 * k.val = k.val; rw [e1]; omega
theorem emb2 (t : Fin cfg0.N) (a : Fin 1024) (b : Fin 512) : ((cfg0.win 2).blk t).view.emb (ix2 a b) = ix2 (row t a) (col t b) := by
  obtain ⟨-, -, -, ⟨e0, e1⟩, -⟩ := idx t
  refine ext2 ?_ ?_
  · show win0_2.index t (0 : Fin 2) * 1024 + 1 * a.val = t.val / 8 * 1024 + a.val; rw [e0]; omega
  · show win0_2.index t (1 : Fin 2) * 512 + 1 * b.val = t.val % 8 * 512 + b.val; rw [e1]; omega
theorem emb3 (t : Fin cfg0.N) (a : Fin 1024) (b : Fin 512) : ((cfg0.win 3).blk t).view.emb (ix2 a b) = ix2 (row t a) (col t b) := by
  obtain ⟨-, -, -, -, e0, e1⟩ := idx t
  refine ext2 ?_ ?_
  · show win0_3.index t (0 : Fin 2) * 1024 + 1 * a.val = t.val / 8 * 1024 + a.val; rw [e0]; omega
  · show win0_3.index t (1 : Fin 2) * 512 + 1 * b.val = t.val % 8 * 512 + b.val; rw [e1]; omega

/-- The argument blocks of point `t`, at one index each. -/
theorem iblk0_apply (c : Dev nD) (t : Fin cfg0.N) (a k : Fin 1024) : (iblk m c 0 t : Vec Ideal S1024x1024 .bf16) (ix2 a k)
    = (V m c main_arg0 : B4096x1024) (ix2 (row t a) k) :=
  congrArg (V m c main_arg0) (emb0 t a k)
theorem iblk1_apply (c : Dev nD) (t : Fin cfg0.N) (b : Fin 512) (k : Fin 1024) : (iblk m c 1 t : Vec Ideal S512x1024 .bf16) (ix2 b k)
    = (V m c main_arg1 : B4096x1024) (ix2 (col t b) k) :=
  congrArg (V m c main_arg1) (emb1 t b k)
theorem iblk2_apply (c : Dev nD) (t : Fin cfg0.N) (a : Fin 1024) (b : Fin 512) : (iblk m c 2 t : Vec Ideal S1024x512 .f32) (ix2 a b)
    = (V m c main_arg2 : Vec Ideal S4096x4096 .f32) (ix2 (row t a) (col t b)) :=
  congrArg (V m c main_arg2 : Vec Ideal S4096x4096 .f32) (emb2 t a b)

/-- What point `t` writes back is its block of `G`. -/
theorem flushed_eq (c : Dev nD) (t : Fin cfg0.N) : (dats m 0 c).flushed 3 t
    = ((cfg0.win 3).blk t).view.read (Elt Ideal) (G (V m c main_arg0) (V m c main_arg1) (V m c main_arg2)) := by
  rw [Value.flushed3]
  unfold out0_3
  rw [View.canon_unit_zero hz, View.ld_unit_zero hz, View.ld_unit_zero hz, View.ld_unit_zero hz]
  funext y
  obtain ⟨a, b, rfl⟩ := pair y
  show k0_pay1 (iblk m c 0 t) (iblk m c 1 t) (iblk m c 2 t) (ix2 a b)
    = G (V m c main_arg0) (V m c main_arg1) (V m c main_arg2) (((cfg0.win 3).blk t).view.emb (ix2 a b))
  rw [pay_apply, emb3]
  simp only [iblk0_apply, iblk1_apply, iblk2_apply]
  rfl

/-- The blocks cover the array. -/
theorem cover (i : S4096x4096.Idx) : ∃ t : Fin cfg0.N, (cfg0.win 3).flush t = true ∧ i ∈ ((cfg0.win 3).blk t).view.set := by
  have h0 : (i 0).val < 4096 := (i 0).isLt
  have h1 : (i 1).val < 4096 := (i 1).isLt
  have hN : cfg0.N = 32 := N_0
  let t : Fin cfg0.N := ⟨(i 0).val / 1024 * 8 + (i 1).val / 512, by omega⟩
  refine ⟨t, flush0_3 _, ?_⟩
  have e : ((cfg0.win 3).blk t).view.emb (ix2 (⟨(i 0).val % 1024, by omega⟩ : Fin 1024) (⟨(i 1).val % 512, by omega⟩ : Fin 512)) = i := by
    rw [emb3]
    refine ext2 ?_ ?_
    · show ((i 0).val / 1024 * 8 + (i 1).val / 512) / 8 * 1024 + (i 0).val % 1024 = (i 0).val; omega
    · show ((i 0).val / 1024 * 8 + (i 1).val / 512) % 8 * 512 + (i 1).val % 512 = (i 1).val; omega
  have h := ((cfg0.win 3).blk t).view.emb_mem_set (ix2 (⟨(i 0).val % 1024, by omega⟩ : Fin 1024) (⟨(i 1).val % 512, by omega⟩ : Fin 512))
  rwa [e] at h

/-- The result array after the run. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 (G (V m c main_arg0) (V m c main_arg1) (V m c main_arg2)) (fun t _ => flushed_eq m c t) cover

/-- What the reference's composed term is at every index. -/
theorem ref_eq (dh w : B4096x1024) (up : Vec Ideal S4096x4096 .f32) :
    truncf .bf16 (select (cmpf .ogt up (broadcastInDim S4096x4096 ![] Cert.DActRefIdeal.Facts₀.bcast_S_S4096x4096 (constant (F := Ideal) Cert.DActRefIdeal.S_ .f32 0x00000000#32)))
      (mulf (Host.dotGeneral Cert.DActRefIdeal.dot_S4096x1024_S4096x1024_S4096x4096_1_1_0_0_n_n none
          (extf .f32 dh Cert.DActRefIdeal.Facts₀.bitsLt_bf16_f32) (extf .f32 w Cert.DActRefIdeal.Facts₀.bitsLt_bf16_f32))
        (mulf (broadcastInDim S4096x4096 ![] Cert.DActRefIdeal.Facts₀.bcast_S_S4096x4096 (constant (F := Ideal) Cert.DActRefIdeal.S_ .f32 0x40000000#32))
          (maximumf up (broadcastInDim S4096x4096 ![] Cert.DActRefIdeal.Facts₀.bcast_S_S4096x4096 (constant (F := Ideal) Cert.DActRefIdeal.S_ .f32 0x00000000#32)))))
      (broadcastInDim S4096x4096 ![] Cert.DActRefIdeal.Facts₀.bcast_S_S4096x4096 (constant (F := Ideal) Cert.DActRefIdeal.S_ .f32 0x00000000#32)))
      Cert.DActRefIdeal.Facts₀.bitsLt_bf16_f32 = G dh w up := by
  funext y
  obtain ⟨a, b, rfl⟩ : ∃ (a b : Fin 4096), y = ix2 a b := ⟨y 0, y 1, eq_ix2 y⟩
  pointwise
  unfold G cell
  rw [two_f32]
  rfl

/-- The claim of the call: kernel and reference end with the same array. -/
theorem algebraic : Cert.algebraic_DActIdeal_DActRefIdeal := fun m ρ m' ρ' _ hag =>
  ⟨fun c => G (V m c main_arg0) (V m c main_arg1) (V m c main_arg2),
   (θ_run _ _ _).mono (fun _ h c => ⟨(h c).1.trans (final m c), (h c).2⟩) (Value.run_blocks m ρ),
   (θ_run _ _ _).mono (fun _ h c => ⟨(h c).1.trans (by rw [(hag c).1, (hag c).2.1, (hag c).2.2]; exact ref_eq _ _ _), (h c).2⟩)
     (Cert.DActRefIdeal.Value.run m' ρ')⟩

end Cert.DActProof

end
-- ==== Proof.DwDown.lean ====
/- The gradient of the MLP's down weight (`dw_mlp_down`): what the kernel leaves in its result, and that the reference leaves the same. -/
module

public import proofs.«01_k».proof.Defs
public import proofs.«01_k».proof.Proof.Gen.DwDownIdeal.Value
public import proofs.«01_k».proof.Proof.Gen.DwDownRefIdeal.Run
public import proofs.«01_k».proof.Proof.Shared

@[expose] public section

set_option maxRecDepth 16384

noncomputable section

namespace Cert.DwDownProof

open Cert.DwDownIdeal Cert.DwDownIdeal.Gen Idealize.ShloMosaic Idealize.ShloMosaic.TcCoe Idealize.SL.Sem
open Idealize.ShloMosaic.Pointwise Cert.Shared

/-! Arrays by their shapes. -/
abbrev B4096x1024 := Vec Ideal S4096x1024 .bf16
abbrev B4096x4096 := Vec Ideal S4096x4096 .bf16
abbrev R1024x512 := Vec Ideal S1024x512 .f32
abbrev B1024x1024 := Vec Ideal S1024x1024 .bf16
abbrev B1024x512 := Vec Ideal S1024x512 .bf16

/-- Entry `i, j` of the product. -/
def cell (x : B4096x4096) (y : B4096x1024) (i : Fin 4096) (j : Fin 1024) : EReal := ∑ k : Fin 4096, x (ix2 k i) * y (ix2 k j)

/-- The result array. -/
def G (x : B4096x4096) (y : B4096x1024) : B4096x1024 := fun i => cell x y (i 0) (i 1)

/-! What one grid point computes. -/

theorem pay1_apply (x : B1024x1024) (y : B1024x512) (a : Fin 1024) (b : Fin 512) :
    k0_pay1 x y (ix2 a b) = ∑ k : Fin 1024, x (ix2 k a) * y (ix2 k b) := by
  pointwise [k0_pay1]

theorem pay2_apply (x : B1024x1024) (y : B1024x512) (a : Fin 1024) (b : Fin 512) :
    k0_pay2 x y (ix2 a b) = 0 + k0_pay1 x y (ix2 a b) := by
  pointwise [k0_pay2]

theorem pay3_apply (x : B1024x1024) (y : B1024x512) (s : R1024x512) (a : Fin 1024) (b : Fin 512) :
    k0_pay3 x y s (ix2 a b) = s (ix2 a b) + k0_pay1 x y (ix2 a b) := by
  pointwise [k0_pay3]

theorem pay4_apply (s : R1024x512) (a : Fin 1024) (b : Fin 512) : k0_pay4 s (ix2 a b) = s (ix2 a b) := by
  pointwise [k0_pay4]

variable (m : (ℓ : Loc nD τ sig) → Buf (Elt Ideal) ℓ)

/-- The block indices at point `t`: 4 row tiles by 2 column tiles by 4 steps of the sum. -/
theorem idx : ∀ t : Fin cfg0.N, t.val < 32
    ∧ (win0_0.index t (0 : Fin 2) = t.val % 4 ∧ win0_0.index t (1 : Fin 2) = t.val / 8)
    ∧ (win0_1.index t (0 : Fin 2) = t.val % 4 ∧ win0_1.index t (1 : Fin 2) = t.val / 4 % 2)
    ∧ (win0_2.index t (0 : Fin 2) = t.val / 8 ∧ win0_2.index t (1 : Fin 2) = t.val / 4 % 2) :=
  (by decide +kernel : ∀ t : Fin grid0.N, _)

/-- Row `a` and column `b` of point `t`'s block, and its step `k` of the sum, in the whole arrays. -/
def row (t : Fin cfg0.N) (a : Fin 1024) : Fin 4096 := ⟨t.val / 8 * 1024 + a.val, by have := (idx t).1; omega⟩
def col (t : Fin cfg0.N) (b : Fin 512) : Fin 1024 := ⟨t.val / 4 % 2 * 512 + b.val, by have := (idx t).1; omega⟩
def stp (t : Fin cfg0.N) (k : Fin 1024) : Fin 4096 := ⟨t.val % 4 * 1024 + k.val, by have := (idx t).1; omega⟩

theorem emb0 (t : Fin cfg0.N) (a : Fin 1024) (k : Fin 1024) : ((cfg0.win 0).blk t).view.emb (ix2 k a) = ix2 (stp t k) (row t a) := by
  obtain ⟨-, ⟨e0, e1⟩, -⟩ := idx t
  refine ext2 ?_ ?_
  · show win0_0.index t (0 : Fin 2) * 1024 + 1 * k.val = t.val % 4 * 1024 + k.val; rw [e0]; omega
  · show win0_0.index t (1 : Fin 2) * 1024 + 1 * a.val = t.val / 8 * 1024 + a.val; rw [e1]; omega

theorem emb1 (t : Fin cfg0.N) (b : Fin 512) (k : Fin 1024) : ((cfg0.win 1).blk t).view.emb (ix2 k b) = ix2 (stp t k) (col t b) := by
  obtain ⟨-, -, ⟨e0, e1⟩, -⟩ := idx t
  refine ext2 ?_ ?_
  · show win0_1.index t (0 : Fin 2) * 1024 + 1 * k.val = t.val % 4 * 1024 + k.val; rw [e0]; omega
  · show win0_1.index t (1 : Fin 2) * 512 + 1 * b.val = t.val / 4 % 2 * 512 + b.val; rw [e1]; omega

theorem emb2 (t : Fin cfg0.N) (a : Fin 1024) (b : Fin 512) : ((cfg0.win 2).blk t).view.emb (ix2 a b) = ix2 (row t a) (col t b) := by
  obtain ⟨-, -, -, e0, e1⟩ := idx t
  refine ext2 ?_ ?_
  · show win0_2.index t (0 : Fin 2) * 1024 + 1 * a.val = t.val / 8 * 1024 + a.val; rw [e0]; omega
  · show win0_2.index t (1 : Fin 2) * 512 + 1 * b.val = t.val / 4 % 2 * 512 + b.val; rw [e1]; omega

/-- The argument blocks of point `t`, at one index each. -/
theorem iblk0_apply (c : Dev nD) (t : Fin cfg0.N) (a : Fin 1024) (k : Fin 1024) : (iblk m c 0 t : B1024x1024) (ix2 k a)
    = (V m c main_arg0 : B4096x4096) (ix2 (stp t k) (row t a)) :=
  congrArg (V m c main_arg0) (emb0 t a k)
theorem iblk1_apply (c : Dev nD) (t : Fin cfg0.N) (b : Fin 512) (k : Fin 1024) : (iblk m c 1 t : B1024x512) (ix2 k b)
    = (V m c main_arg1 : B4096x1024) (ix2 (stp t k) (col t b)) :=
  congrArg (V m c main_arg1) (emb1 t b k)

/-! What the accumulator and the result's block hold. -/

theorem acc_first (c : Dev nD) (t : Fin cfg0.N) (h : t.val % 4 = 0) : (outsAt0 m c t.val t.isLt).2 = k0_pay2 (iblk m c 0 t) (iblk m c 1 t) := by
  have ht := (idx t).1
  rw [outsAt0_A m c t h (by omega) (by omega)]
  frame_out
theorem acc_later (c : Dev nD) (t : Fin cfg0.N) (h : ¬t.val % 4 = 0) : (outsAt0 m c t.val t.isLt).2
    = k0_pay3 (iblk m c 0 t) (iblk m c 1 t) (outsAt0 m c (t.val - 1) (Nat.sub_lt_of_lt t.isLt)).2 := by
  have ht := (idx t).1
  by_cases hl : t.val % 4 = 3
  · rw [outsAt0_C m c t h (by omega) hl]
    frame_out
    rw [read_unread_whole]
  · rw [outsAt0_B m c t h (by omega) hl]
    frame_out
    rw [read_unread_whole]
theorem out_last (c : Dev nD) (t : Fin cfg0.N) (h : t.val % 4 = 3) : (outsAt0 m c t.val t.isLt).1 = k0_pay4 (outsAt0 m c t.val t.isLt).2 := by
  have ht := (idx t).1
  rw [outsAt0_C m c t (by omega) (by omega) (by omega)]
  frame_out

/-- One step's part of a sum, over the whole arrays. -/
def part (x : B4096x4096) (y : B4096x1024) (i : Fin 4096) (j : Fin 1024) (q : Nat) : EReal :=
  if h : q < 4 then ∑ k : Fin 1024, x (ix2 ⟨q * 1024 + k.val, by omega⟩ i) * y (ix2 ⟨q * 1024 + k.val, by omega⟩ j) else 0
theorem part_apply (c : Dev nD) (t : Fin cfg0.N) (a : Fin 1024) (b : Fin 512) : k0_pay1 (iblk m c 0 t) (iblk m c 1 t) (ix2 a b)
    = part (V m c main_arg0) (V m c main_arg1) (row t a) (col t b) (t.val % 4) := by
  rw [pay1_apply, part, dif_pos (Nat.mod_lt _ (by decide))]
  simp only [iblk0_apply, iblk1_apply]
  rfl
theorem row_eq {t u : Fin cfg0.N} (h : t.val / 4 = u.val / 4) (a : Fin 1024) : row t a = row u a :=
  Fin.ext (by show t.val / 8 * 1024 + a.val = u.val / 8 * 1024 + a.val; omega)
theorem col_eq {t u : Fin cfg0.N} (h : t.val / 4 = u.val / 4) (b : Fin 512) : col t b = col u b :=
  Fin.ext (by show t.val / 4 % 2 * 512 + b.val = u.val / 4 % 2 * 512 + b.val; omega)

/-- After the last step of a run the accumulator holds the whole sum. -/
theorem acc_last (c : Dev nD) (t : Fin cfg0.N) (h : t.val % 4 = 3) (a : Fin 1024) (b : Fin 512) :
    ((outsAt0 m c t.val t.isLt).2 : R1024x512) (ix2 a b)
    = 0 + cell (V m c main_arg0) (V m c main_arg1) (row t a) (col t b) := by
  have key := run_tile (fun n hn => ((outsAt0 m c n hn).2 : R1024x512) (ix2 a b)) 4 t.val t.isLt h
    (0) (part (V m c main_arg0) (V m c main_arg1) (row t a) (col t b))
    (fun u f e hu => by
      show ((outsAt0 m c u hu).2 : R1024x512) (ix2 a b) = _
      rw [acc_first m c ⟨u, hu⟩ e, pay2_apply, part_apply, row_eq (u := t) f, col_eq (u := t) f]
      show _ + part _ _ _ _ (u % 4) = _
      rw [e])
    (fun u f e hu hu' => by
      show ((outsAt0 m c u hu).2 : R1024x512) (ix2 a b) = _
      rw [acc_later m c ⟨u, hu⟩ e, pay3_apply, part_apply, row_eq (u := t) f, col_eq (u := t) f] <;> rfl)
  refine key.trans ?_
  congr 1
  rw [cell, Fin.sum_univ_tiles 4 1024 rfl, ← Fin.sum_univ_eq_sum_range (part _ _ _ _) 4]
  refine Finset.sum_congr rfl fun q _ => ?_
  rw [part, dif_pos q.isLt]

/-- The result array after the run. -/
theorem final2 (c : Dev nD) : (dats m 0 c).arrAt 2 cfg0.N = G (V m c main_arg0) (V m c main_arg1) := by
  refine (dats m 0 c).arrAt_eq_of_covers 2 _ (by decide +kernel) fun t hf y => ?_
  have hl := (flush0_2 t).mp hf
  rw [after0_2, out_last m c t hl]
  obtain ⟨a, b, rfl⟩ := pair y
  rw [emb2]
  show k0_pay4 ((outsAt0 m c t.val t.isLt).2) (ix2 a b) = _
  rw [pay4_apply, acc_last m c t hl, zero_add]
  rfl

/-- What the reference computes, at every index. -/
theorem ref_eq (x : B4096x4096) (y : B4096x1024) :
    truncf (F := Ideal) (φ := .f32) .bf16 (transpose Cert.DwDownRefIdeal.S4096x1024 [1, 0] (Host.dotGeneral (F := Ideal) (φ₁ := .f32) (φ₂ := .f32) Cert.DwDownRefIdeal.dot_S4096x1024_S4096x4096_S1024x4096_0_0_1_1_n_n none (extf .f32 y Cert.DwDownRefIdeal.Facts₀.bitsLt_bf16_f32) (extf .f32 x Cert.DwDownRefIdeal.Facts₀.bitsLt_bf16_f32)) Cert.DwDownRefIdeal.Facts₀.transposes_S1024x4096_S4096x1024_1_0) Cert.DwDownRefIdeal.Facts₀.bitsLt_bf16_f32 = G x y := by
  funext i
  obtain ⟨a, b, rfl⟩ : ∃ (a : Fin 4096) (b : Fin 1024), i = ix2 a b := ⟨i 0, i 1, eq_ix2 i⟩
  pointwise
  exact Finset.sum_congr rfl fun k _ => mul_comm _ _

/-- The claim of the call: kernel and reference end with the same array. -/
theorem algebraic : Cert.algebraic_DwDownIdeal_DwDownRefIdeal := fun m ρ m' ρ' _ hag =>
  ⟨fun c => G (V m c main_arg0) (V m c main_arg1),
   (θ_run _ _ _).mono (fun _ h c => ⟨(h c).1.trans (final2 m c), (h c).2⟩) (Value.run_blocks m ρ),
   (θ_run _ _ _).mono (fun _ h c => ⟨(h c).1.trans (by rw [(hag c).1, (hag c).2]; exact ref_eq _ _ ), (h c).2⟩)
     (Cert.DwDownRefIdeal.Value.run m' ρ')⟩

end Cert.DwDownProof

end
-- ==== Proof.DwUp.lean ====
/- The gradient of the MLP's up weight, in eight slabs of columns (`dw_mlp_up`): what the kernel leaves in its result, and that the reference leaves the same. -/
module

public import proofs.«01_k».proof.Defs
public import proofs.«01_k».proof.Proof.Gen.DwUpIdeal.Value
public import proofs.«01_k».proof.Proof.Gen.DwUpRefIdeal.Run
public import proofs.«01_k».proof.Proof.Shared

@[expose] public section

set_option maxRecDepth 16384

noncomputable section

namespace Cert.DwUpProof

open Cert.DwUpIdeal Cert.DwUpIdeal.Gen Idealize.ShloMosaic Idealize.ShloMosaic.TcCoe Idealize.SL.Sem
open Idealize.ShloMosaic.Pointwise Cert.Shared

/-! Arrays by their shapes. -/
abbrev B4096x1024 := Vec Ideal S4096x1024 .bf16
abbrev B4096x4096 := Vec Ideal S4096x4096 .bf16
abbrev R1024x512 := Vec Ideal S1024x512 .f32
abbrev B1024x1024 := Vec Ideal S1024x1024 .bf16
abbrev B1024x512 := Vec Ideal S1024x512 .bf16

/-- A column of the whole matrix: the slab that holds it, and its column there. -/
def hi (j : Fin 4096) : Fin 8 := ⟨j.val / 512, by omega⟩
def lo (j : Fin 4096) : Fin 512 := ⟨j.val % 512, by omega⟩

/-- Entry `i, j` of the product. -/
def cell (x : B4096x1024) (y : B4096x4096) (i : Fin 1024) (j : Fin 4096) : EReal := ∑ k : Fin 4096, x (ix2 k i) * y (ix2 k j)

/-- The result array: slab `i 0` holds the columns from `512 * i 0` on. -/
def G (x : B4096x1024) (y : B4096x4096) : Vec Ideal S8x1024x512 .bf16 :=
  fun i => cell x y (i 1) ⟨(i 0).val * 512 + (i 2).val, by have h0 : (i 0).val < 8 := (i 0).isLt; have h2 : (i 2).val < 512 := (i 2).isLt; omega⟩

/-- A column of the matrix is found again from its slab and its column there. -/
theorem cell_slab (x : B4096x1024) (y : B4096x4096) (i : Fin 1024) (j : Fin 4096) (h : (hi j).val * 512 + (lo j).val < 4096) :
    cell x y i ⟨(hi j).val * 512 + (lo j).val, h⟩ = cell x y i j :=
  congrArg (cell x y i) (Fin.ext (by show j.val / 512 * 512 + j.val % 512 = j.val; omega))

/-! What one grid point computes. -/

theorem pay1_apply (x : B1024x1024) (y : B1024x512) (a : Fin 1024) (b : Fin 512) :
    k0_pay1 x y (ix2 a b) = ∑ k : Fin 1024, x (ix2 k a) * y (ix2 k b) := by
  pointwise [k0_pay1]

theorem pay2_apply (x : B1024x1024) (y : B1024x512) (a : Fin 1024) (b : Fin 512) :
    k0_pay2 x y (ix2 a b) = 0 + k0_pay1 x y (ix2 a b) := by
  pointwise [k0_pay2]

theorem pay3_apply (x : B1024x1024) (y : B1024x512) (s : R1024x512) (a : Fin 1024) (b : Fin 512) :
    k0_pay3 x y s (ix2 a b) = s (ix2 a b) + k0_pay1 x y (ix2 a b) := by
  pointwise [k0_pay3]

theorem pay4_apply (s : R1024x512) (a : Fin 1024) (b : Fin 512) : k0_pay4 s (ix3 0 a b) = s (ix2 a b) := by
  pointwise [k0_pay4]

variable (m : (ℓ : Loc nD τ sig) → Buf (Elt Ideal) ℓ)

/-- The block indices at point `t`: 1 row tiles by 8 column tiles by 4 steps of the sum. -/
theorem idx : ∀ t : Fin cfg0.N, t.val < 32
    ∧ (win0_0.index t (0 : Fin 2) = t.val % 4 ∧ win0_0.index t (1 : Fin 2) = 0)
    ∧ (win0_1.index t (0 : Fin 2) = t.val % 4 ∧ win0_1.index t (1 : Fin 2) = t.val / 4 % 8)
    ∧ (win0_2.index t (0 : Fin 3) = t.val / 4 % 8 ∧ win0_2.index t (1 : Fin 3) = 0 ∧ win0_2.index t (2 : Fin 3) = 0) :=
  (by decide +kernel : ∀ t : Fin grid0.N, _)

/-- Row `a` and column `b` of point `t`'s block, and its step `k` of the sum, in the whole arrays. -/
def row (t : Fin cfg0.N) (a : Fin 1024) : Fin 1024 := ⟨0 * 1024 + a.val, by have := (idx t).1; omega⟩
def col (t : Fin cfg0.N) (b : Fin 512) : Fin 4096 := ⟨t.val / 4 % 8 * 512 + b.val, by have := (idx t).1; omega⟩
def stp (t : Fin cfg0.N) (k : Fin 1024) : Fin 4096 := ⟨t.val % 4 * 1024 + k.val, by have := (idx t).1; omega⟩

theorem emb0 (t : Fin cfg0.N) (a : Fin 1024) (k : Fin 1024) : ((cfg0.win 0).blk t).view.emb (ix2 k a) = ix2 (stp t k) (row t a) := by
  obtain ⟨-, ⟨e0, e1⟩, -⟩ := idx t
  refine ext2 ?_ ?_
  · show win0_0.index t (0 : Fin 2) * 1024 + 1 * k.val = t.val % 4 * 1024 + k.val; rw [e0]; omega
  · show win0_0.index t (1 : Fin 2) * 1024 + 1 * a.val = 0 * 1024 + a.val; rw [e1]; omega

theorem emb1 (t : Fin cfg0.N) (b : Fin 512) (k : Fin 1024) : ((cfg0.win 1).blk t).view.emb (ix2 k b) = ix2 (stp t k) (col t b) := by
  obtain ⟨-, -, ⟨e0, e1⟩, -⟩ := idx t
  refine ext2 ?_ ?_
  · show win0_1.index t (0 : Fin 2) * 1024 + 1 * k.val = t.val % 4 * 1024 + k.val; rw [e0]; omega
  · show win0_1.index t (1 : Fin 2) * 512 + 1 * b.val = t.val / 4 % 8 * 512 + b.val; rw [e1]; omega

theorem emb2 (t : Fin cfg0.N) (a : Fin 1024) (b : Fin 512) : ((cfg0.win 2).blk t).view.emb (ix3 0 a b) = ix3 (hi (col t b)) (row t a) (lo (col t b)) := by
  obtain ⟨-, -, -, e0, e1, e2⟩ := idx t
  refine ext3 ?_ ?_ ?_
  · show win0_2.index t (0 : Fin 3) * 1 + 1 * 0 = (t.val / 4 % 8 * 512 + b.val) / 512; rw [e0]; omega
  · show win0_2.index t (1 : Fin 3) * 1024 + 1 * a.val = 0 * 1024 + a.val; rw [e1]; omega
  · show win0_2.index t (2 : Fin 3) * 512 + 1 * b.val = (t.val / 4 % 8 * 512 + b.val) % 512; rw [e2]; omega

/-- The argument blocks of point `t`, at one index each. -/
theorem iblk0_apply (c : Dev nD) (t : Fin cfg0.N) (a : Fin 1024) (k : Fin 1024) : (iblk m c 0 t : B1024x1024) (ix2 k a)
    = (V m c main_arg0 : B4096x1024) (ix2 (stp t k) (row t a)) :=
  congrArg (V m c main_arg0) (emb0 t a k)
theorem iblk1_apply (c : Dev nD) (t : Fin cfg0.N) (b : Fin 512) (k : Fin 1024) : (iblk m c 1 t : B1024x512) (ix2 k b)
    = (V m c main_arg1 : B4096x4096) (ix2 (stp t k) (col t b)) :=
  congrArg (V m c main_arg1) (emb1 t b k)

/-! What the accumulator and the result's block hold. -/

theorem acc_first (c : Dev nD) (t : Fin cfg0.N) (h : t.val % 4 = 0) : (outsAt0 m c t.val t.isLt).2 = k0_pay2 (iblk m c 0 t) (iblk m c 1 t) := by
  have ht := (idx t).1
  rw [outsAt0_A m c t h (by omega) (by omega)]
  frame_out
theorem acc_later (c : Dev nD) (t : Fin cfg0.N) (h : ¬t.val % 4 = 0) : (outsAt0 m c t.val t.isLt).2
    = k0_pay3 (iblk m c 0 t) (iblk m c 1 t) (outsAt0 m c (t.val - 1) (Nat.sub_lt_of_lt t.isLt)).2 := by
  have ht := (idx t).1
  by_cases hl : t.val % 4 = 3
  · rw [outsAt0_C m c t h (by omega) hl]
    frame_out
    rw [read_unread_whole]
  · rw [outsAt0_B m c t h (by omega) hl]
    frame_out
    rw [read_unread_whole]
theorem out_last (c : Dev nD) (t : Fin cfg0.N) (h : t.val % 4 = 3) : (outsAt0 m c t.val t.isLt).1 = k0_pay4 (outsAt0 m c t.val t.isLt).2 := by
  have ht := (idx t).1
  rw [outsAt0_C m c t (by omega) (by omega) (by omega)]
  frame_out

/-- One step's part of a sum, over the whole arrays. -/
def part (x : B4096x1024) (y : B4096x4096) (i : Fin 1024) (j : Fin 4096) (q : Nat) : EReal :=
  if h : q < 4 then ∑ k : Fin 1024, x (ix2 ⟨q * 1024 + k.val, by omega⟩ i) * y (ix2 ⟨q * 1024 + k.val, by omega⟩ j) else 0
theorem part_apply (c : Dev nD) (t : Fin cfg0.N) (a : Fin 1024) (b : Fin 512) : k0_pay1 (iblk m c 0 t) (iblk m c 1 t) (ix2 a b)
    = part (V m c main_arg0) (V m c main_arg1) (row t a) (col t b) (t.val % 4) := by
  rw [pay1_apply, part, dif_pos (Nat.mod_lt _ (by decide))]
  simp only [iblk0_apply, iblk1_apply]
  rfl
theorem row_eq {t u : Fin cfg0.N} (h : t.val / 4 = u.val / 4) (a : Fin 1024) : row t a = row u a :=
  Fin.ext (by show 0 * 1024 + a.val = 0 * 1024 + a.val; omega)
theorem col_eq {t u : Fin cfg0.N} (h : t.val / 4 = u.val / 4) (b : Fin 512) : col t b = col u b :=
  Fin.ext (by show t.val / 4 % 8 * 512 + b.val = u.val / 4 % 8 * 512 + b.val; omega)

/-- After the last step of a run the accumulator holds the whole sum. -/
theorem acc_last (c : Dev nD) (t : Fin cfg0.N) (h : t.val % 4 = 3) (a : Fin 1024) (b : Fin 512) :
    ((outsAt0 m c t.val t.isLt).2 : R1024x512) (ix2 a b)
    = 0 + cell (V m c main_arg0) (V m c main_arg1) (row t a) (col t b) := by
  have key := run_tile (fun n hn => ((outsAt0 m c n hn).2 : R1024x512) (ix2 a b)) 4 t.val t.isLt h
    (0) (part (V m c main_arg0) (V m c main_arg1) (row t a) (col t b))
    (fun u f e hu => by
      show ((outsAt0 m c u hu).2 : R1024x512) (ix2 a b) = _
      rw [acc_first m c ⟨u, hu⟩ e, pay2_apply, part_apply, row_eq (u := t) f, col_eq (u := t) f]
      show _ + part _ _ _ _ (u % 4) = _
      rw [e])
    (fun u f e hu hu' => by
      show ((outsAt0 m c u hu).2 : R1024x512) (ix2 a b) = _
      rw [acc_later m c ⟨u, hu⟩ e, pay3_apply, part_apply, row_eq (u := t) f, col_eq (u := t) f] <;> rfl)
  refine key.trans ?_
  congr 1
  rw [cell, Fin.sum_univ_tiles 4 1024 rfl, ← Fin.sum_univ_eq_sum_range (part _ _ _ _) 4]
  refine Finset.sum_congr rfl fun q _ => ?_
  rw [part, dif_pos q.isLt]

/-- The result array after the run. -/
theorem final2 (c : Dev nD) : (dats m 0 c).arrAt 2 cfg0.N = G (V m c main_arg0) (V m c main_arg1) := by
  refine (dats m 0 c).arrAt_eq_of_covers 2 _ (by decide +kernel) fun t hf y => ?_
  have hl := (flush0_2 t).mp hf
  rw [after0_2, out_last m c t hl]
  obtain ⟨a, b, rfl⟩ : ∃ (a : Fin 1024) (b : Fin 512), y = ix3 0 a b := ⟨y 1, y 2, by
    refine ext3 ?_ rfl rfl
    have h : (y 0).val < 1 := (y 0).isLt
    show (y 0).val = 0; omega⟩
  rw [emb2]
  show k0_pay4 (outsAt0 m c t.val t.isLt).2 (ix3 0 a b) = _
  rw [pay4_apply, acc_last m c t hl, zero_add]
  exact (cell_slab _ _ _ _ _).symm

/-- A matrix in slabs, at an index. -/
theorem slabs_apply (Z : Vec Ideal Cert.DwUpRefIdeal.S1024x4096 .f32) (s : Fin 8) (a : Fin 1024) (b : Fin 512) :
    truncf (F := Ideal) (φ := .f32) .bf16 (transpose Cert.DwUpRefIdeal.S8x1024x512 [1, 0, 2] (shapeCast Cert.DwUpRefIdeal.S1024x8x512 Z Cert.DwUpRefIdeal.Facts₀.shapeCasts_S1024x4096_S1024x8x512) Cert.DwUpRefIdeal.Facts₀.transposes_S1024x8x512_S8x1024x512_1_0_2) Cert.DwUpRefIdeal.Facts₀.bitsLt_bf16_f32 (ix3 s a b)
      = Z (ix2 a ⟨s.val * 512 + b.val, by omega⟩) := by
  have e : shapeCast Cert.DwUpRefIdeal.S1024x8x512 Z Cert.DwUpRefIdeal.Facts₀.shapeCasts_S1024x4096_S1024x8x512 (ix3 a s b) = Z (ix2 a ⟨s.val * 512 + b.val, by omega⟩) := by
    rw [Pointwise.shapeCast_apply, Shape.reshapeEquiv_eq_of_vals (y := ix2 a ⟨s.val * 512 + b.val, by omega⟩) (hA := rowMajor_val2 _ _ rfl) (hB := rowMajor_val3 _ _ _ rfl rfl)]
    show a.val * 4096 + (s.val * 512 + b.val) = a.val * (8 * 512) + s.val * 512 + b.val
    omega
  rw [← e]
  generalize shapeCast Cert.DwUpRefIdeal.S1024x8x512 Z Cert.DwUpRefIdeal.Facts₀.shapeCasts_S1024x4096_S1024x8x512 = u
  pointwise

/-- What the reference computes, at every index. -/
theorem ref_eq (x : B4096x1024) (y : B4096x4096) :
    truncf (F := Ideal) (φ := .f32) .bf16 (transpose Cert.DwUpRefIdeal.S8x1024x512 [1, 0, 2] (shapeCast Cert.DwUpRefIdeal.S1024x8x512 (transpose Cert.DwUpRefIdeal.S1024x4096 [1, 0] (Host.dotGeneral (F := Ideal) (φ₁ := .f32) (φ₂ := .f32) Cert.DwUpRefIdeal.dot_S4096x4096_S4096x1024_S4096x1024_0_0_1_1_n_n none (extf .f32 y Cert.DwUpRefIdeal.Facts₀.bitsLt_bf16_f32) (extf .f32 x Cert.DwUpRefIdeal.Facts₀.bitsLt_bf16_f32)) Cert.DwUpRefIdeal.Facts₀.transposes_S4096x1024_S1024x4096_1_0) Cert.DwUpRefIdeal.Facts₀.shapeCasts_S1024x4096_S1024x8x512) Cert.DwUpRefIdeal.Facts₀.transposes_S1024x8x512_S8x1024x512_1_0_2) Cert.DwUpRefIdeal.Facts₀.bitsLt_bf16_f32 = G x y := by
  funext i
  obtain ⟨s, a, b, rfl⟩ : ∃ (s : Fin 8) (a : Fin 1024) (b : Fin 512), i = ix3 s a b := ⟨i 0, i 1, i 2, eq_ix3 i⟩
  refine (slabs_apply _ s a b).trans ?_
  pointwise
  exact Finset.sum_congr rfl fun k _ => mul_comm _ _

/-- The claim of the call: kernel and reference end with the same array. -/
theorem algebraic : Cert.algebraic_DwUpIdeal_DwUpRefIdeal := fun m ρ m' ρ' _ hag =>
  ⟨fun c => G (V m c main_arg0) (V m c main_arg1),
   (θ_run _ _ _).mono (fun _ h c => ⟨(h c).1.trans (final2 m c), (h c).2⟩) (Value.run_blocks m ρ),
   (θ_run _ _ _).mono (fun _ h c => ⟨(h c).1.trans (by rw [(hag c).1, (hag c).2]; exact ref_eq _ _ ), (h c).2⟩)
     (Cert.DwUpRefIdeal.Value.run m' ρ')⟩

end Cert.DwUpProof

end
-- ==== Proof.DUm.lean ====
/- The gradient through the MLP's up product (`d_um`): what the kernel leaves in its result, and that the reference leaves the same. -/
module

public import proofs.«01_k».proof.Defs
public import proofs.«01_k».proof.Proof.Gen.DUmIdeal.Value
public import proofs.«01_k».proof.Proof.Gen.DUmRefIdeal.Run
public import proofs.«01_k».proof.Proof.Shared

@[expose] public section

set_option maxRecDepth 16384

noncomputable section

namespace Cert.DUmProof

open Cert.DUmIdeal Cert.DUmIdeal.Gen Idealize.ShloMosaic Idealize.ShloMosaic.TcCoe Idealize.SL.Sem
open Idealize.ShloMosaic.Pointwise Cert.Shared

/-! Arrays by their shapes. -/
abbrev B8x1024x512 := Vec Ideal S8x1024x512 .bf16
abbrev B4096x4096 := Vec Ideal S4096x4096 .bf16
abbrev R1024x512 := Vec Ideal S1024x512 .f32
abbrev B1024x512 := Vec Ideal S1024x512 .bf16
abbrev B1x512x512 := Vec Ideal S1x512x512 .bf16

/-- A column of the whole matrix: the slab that holds it, and its column there. -/
def hi (j : Fin 4096) : Fin 8 := ⟨j.val / 512, by omega⟩
def lo (j : Fin 4096) : Fin 512 := ⟨j.val % 512, by omega⟩

/-- Entry `i, j` of the product. -/
def cell (x : B4096x4096) (y : B8x1024x512) (i : Fin 4096) (j : Fin 1024) : EReal := ∑ k : Fin 4096, x (ix2 i k) * y (ix3 (hi k) j (lo k))

/-- The result array. -/
def G (x : B4096x4096) (y : B8x1024x512) : Vec Ideal S4096x1024 .f32 := fun i => cell x y (i 0) (i 1)

/-! What one grid point computes. -/

theorem pay1_apply (x : B1024x512) (y : B1x512x512) (a : Fin 1024) (b : Fin 512) :
    k0_pay1 x y (ix2 a b) = ∑ k : Fin 512, x (ix2 a k) * y (ix3 0 b k) := by
  pointwise [k0_pay1]

theorem pay2_apply (x : B1024x512) (y : B1x512x512) (a : Fin 1024) (b : Fin 512) :
    k0_pay2 x y (ix2 a b) = 0 + k0_pay1 x y (ix2 a b) := by
  pointwise [k0_pay2]

theorem pay3_apply (x : B1024x512) (y : B1x512x512) (s : R1024x512) (a : Fin 1024) (b : Fin 512) :
    k0_pay3 x y s (ix2 a b) = s (ix2 a b) + k0_pay1 x y (ix2 a b) := by
  pointwise [k0_pay3]

variable (m : (ℓ : Loc nD τ sig) → Buf (Elt Ideal) ℓ)

/-- The block indices at point `t`: 4 row tiles by 2 column tiles by 8 steps of the sum. -/
theorem idx : ∀ t : Fin cfg0.N, t.val < 64
    ∧ (win0_0.index t (0 : Fin 2) = t.val / 16 ∧ win0_0.index t (1 : Fin 2) = t.val % 8)
    ∧ (win0_1.index t (0 : Fin 3) = t.val % 8 ∧ win0_1.index t (1 : Fin 3) = t.val / 8 % 2 ∧ win0_1.index t (2 : Fin 3) = 0)
    ∧ (win0_2.index t (0 : Fin 2) = t.val / 16 ∧ win0_2.index t (1 : Fin 2) = t.val / 8 % 2) :=
  (by decide +kernel : ∀ t : Fin grid0.N, _)

/-- Row `a` and column `b` of point `t`'s block, and its step `k` of the sum, in the whole arrays. -/
def row (t : Fin cfg0.N) (a : Fin 1024) : Fin 4096 := ⟨t.val / 16 * 1024 + a.val, by have := (idx t).1; omega⟩
def col (t : Fin cfg0.N) (b : Fin 512) : Fin 1024 := ⟨t.val / 8 % 2 * 512 + b.val, by have := (idx t).1; omega⟩
def stp (t : Fin cfg0.N) (k : Fin 512) : Fin 4096 := ⟨t.val % 8 * 512 + k.val, by have := (idx t).1; omega⟩

theorem emb0 (t : Fin cfg0.N) (a : Fin 1024) (k : Fin 512) : ((cfg0.win 0).blk t).view.emb (ix2 a k) = ix2 (row t a) (stp t k) := by
  obtain ⟨-, ⟨e0, e1⟩, -⟩ := idx t
  refine ext2 ?_ ?_
  · show win0_0.index t (0 : Fin 2) * 1024 + 1 * a.val = t.val / 16 * 1024 + a.val; rw [e0]; omega
  · show win0_0.index t (1 : Fin 2) * 512 + 1 * k.val = t.val % 8 * 512 + k.val; rw [e1]; omega

theorem emb1 (t : Fin cfg0.N) (b : Fin 512) (k : Fin 512) : ((cfg0.win 1).blk t).view.emb (ix3 0 b k) = ix3 (hi (stp t k)) (col t b) (lo (stp t k)) := by
  obtain ⟨-, -, ⟨e0, e1, e2⟩, -⟩ := idx t
  refine ext3 ?_ ?_ ?_
  · show win0_1.index t (0 : Fin 3) * 1 + 1 * 0 = (t.val % 8 * 512 + k.val) / 512; rw [e0]; omega
  · show win0_1.index t (1 : Fin 3) * 512 + 1 * b.val = t.val / 8 % 2 * 512 + b.val; rw [e1]; omega
  · show win0_1.index t (2 : Fin 3) * 512 + 1 * k.val = (t.val % 8 * 512 + k.val) % 512; rw [e2]; omega

theorem emb2 (t : Fin cfg0.N) (a : Fin 1024) (b : Fin 512) : ((cfg0.win 2).blk t).view.emb (ix2 a b) = ix2 (row t a) (col t b) := by
  obtain ⟨-, -, -, e0, e1⟩ := idx t
  refine ext2 ?_ ?_
  · show win0_2.index t (0 : Fin 2) * 1024 + 1 * a.val = t.val / 16 * 1024 + a.val; rw [e0]; omega
  · show win0_2.index t (1 : Fin 2) * 512 + 1 * b.val = t.val / 8 % 2 * 512 + b.val; rw [e1]; omega

/-- The argument blocks of point `t`, at one index each. -/
theorem iblk0_apply (c : Dev nD) (t : Fin cfg0.N) (a : Fin 1024) (k : Fin 512) : (iblk m c 0 t : B1024x512) (ix2 a k)
    = (V m c main_arg0 : B4096x4096) (ix2 (row t a) (stp t k)) :=
  congrArg (V m c main_arg0) (emb0 t a k)
theorem iblk1_apply (c : Dev nD) (t : Fin cfg0.N) (b : Fin 512) (k : Fin 512) : (iblk m c 1 t : B1x512x512) (ix3 0 b k)
    = (V m c main_arg1 : B8x1024x512) (ix3 (hi (stp t k)) (col t b) (lo (stp t k))) :=
  congrArg (V m c main_arg1) (emb1 t b k)

/-! What the accumulator and the result's block hold. -/

theorem acc_first (c : Dev nD) (t : Fin cfg0.N) (h : t.val % 8 = 0) : (outsAt0 m c t.val t.isLt).2 = k0_pay2 (iblk m c 0 t) (iblk m c 1 t) := by
  have ht := (idx t).1
  rw [outsAt0_A m c t h (by omega) (by omega)]
  frame_out
theorem acc_later (c : Dev nD) (t : Fin cfg0.N) (h : ¬t.val % 8 = 0) : (outsAt0 m c t.val t.isLt).2
    = k0_pay3 (iblk m c 0 t) (iblk m c 1 t) (outsAt0 m c (t.val - 1) (Nat.sub_lt_of_lt t.isLt)).2 := by
  have ht := (idx t).1
  by_cases hl : t.val % 8 = 7
  · rw [outsAt0_C m c t h (by omega) hl]
    frame_out
    rw [read_unread_whole]
  · rw [outsAt0_B m c t h (by omega) hl]
    frame_out
    rw [read_unread_whole]
theorem out_last (c : Dev nD) (t : Fin cfg0.N) (h : t.val % 8 = 7) : (outsAt0 m c t.val t.isLt).1 = (outsAt0 m c t.val t.isLt).2 := by
  have ht := (idx t).1
  rw [outsAt0_C m c t (by omega) (by omega) (by omega)]
  frame_out

/-- One step's part of a sum, over the whole arrays. -/
def part (x : B4096x4096) (y : B8x1024x512) (i : Fin 4096) (j : Fin 1024) (q : Nat) : EReal :=
  if h : q < 8 then ∑ k : Fin 512, x (ix2 i ⟨q * 512 + k.val, by omega⟩) * y (ix3 (hi ⟨q * 512 + k.val, by omega⟩) j (lo ⟨q * 512 + k.val, by omega⟩)) else 0
theorem part_apply (c : Dev nD) (t : Fin cfg0.N) (a : Fin 1024) (b : Fin 512) : k0_pay1 (iblk m c 0 t) (iblk m c 1 t) (ix2 a b)
    = part (V m c main_arg0) (V m c main_arg1) (row t a) (col t b) (t.val % 8) := by
  rw [pay1_apply, part, dif_pos (Nat.mod_lt _ (by decide))]
  simp only [iblk0_apply, iblk1_apply]
  rfl
theorem row_eq {t u : Fin cfg0.N} (h : t.val / 8 = u.val / 8) (a : Fin 1024) : row t a = row u a :=
  Fin.ext (by show t.val / 16 * 1024 + a.val = u.val / 16 * 1024 + a.val; omega)
theorem col_eq {t u : Fin cfg0.N} (h : t.val / 8 = u.val / 8) (b : Fin 512) : col t b = col u b :=
  Fin.ext (by show t.val / 8 % 2 * 512 + b.val = u.val / 8 % 2 * 512 + b.val; omega)

/-- After the last step of a run the accumulator holds the whole sum. -/
theorem acc_last (c : Dev nD) (t : Fin cfg0.N) (h : t.val % 8 = 7) (a : Fin 1024) (b : Fin 512) :
    ((outsAt0 m c t.val t.isLt).2 : R1024x512) (ix2 a b)
    = 0 + cell (V m c main_arg0) (V m c main_arg1) (row t a) (col t b) := by
  have key := run_tile (fun n hn => ((outsAt0 m c n hn).2 : R1024x512) (ix2 a b)) 8 t.val t.isLt h
    (0) (part (V m c main_arg0) (V m c main_arg1) (row t a) (col t b))
    (fun u f e hu => by
      show ((outsAt0 m c u hu).2 : R1024x512) (ix2 a b) = _
      rw [acc_first m c ⟨u, hu⟩ e, pay2_apply, part_apply, row_eq (u := t) f, col_eq (u := t) f]
      show _ + part _ _ _ _ (u % 8) = _
      rw [e])
    (fun u f e hu hu' => by
      show ((outsAt0 m c u hu).2 : R1024x512) (ix2 a b) = _
      rw [acc_later m c ⟨u, hu⟩ e, pay3_apply, part_apply, row_eq (u := t) f, col_eq (u := t) f] <;> rfl)
  refine key.trans ?_
  congr 1
  rw [cell, Fin.sum_univ_tiles 8 512 rfl, ← Fin.sum_univ_eq_sum_range (part _ _ _ _) 8]
  refine Finset.sum_congr rfl fun q _ => ?_
  rw [part, dif_pos q.isLt]

/-- The result array after the run. -/
theorem final2 (c : Dev nD) : (dats m 0 c).arrAt 2 cfg0.N = G (V m c main_arg0) (V m c main_arg1) := by
  refine (dats m 0 c).arrAt_eq_of_covers 2 _ (by decide +kernel) fun t hf y => ?_
  have hl := (flush0_2 t).mp hf
  rw [after0_2, out_last m c t hl]
  obtain ⟨a, b, rfl⟩ := pair y
  rw [emb2]
  show (((outsAt0 m c t.val t.isLt).2 : R1024x512)) (ix2 a b) = _
  rw [acc_last m c t hl, zero_add]
  rfl

/-- The slabs as one matrix, at an index. -/
theorem whole_apply (y : B8x1024x512) (r : Fin 1024) (j : Fin 4096) :
    shapeCast Cert.DUmRefIdeal.S1024x4096 (transpose Cert.DUmRefIdeal.S1024x8x512 [1, 0, 2] y Cert.DUmRefIdeal.Facts₀.transposes_S8x1024x512_S1024x8x512_1_0_2) Cert.DUmRefIdeal.Facts₀.shapeCasts_S1024x8x512_S1024x4096 (ix2 r j) = y (ix3 (hi j) r (lo j)) := by
  rw [Pointwise.shapeCast_apply, Shape.reshapeEquiv_eq_of_vals (y := ix3 r (hi j) (lo j)) (hB := rowMajor_val2 _ _ rfl) (hA := rowMajor_val3 _ _ _ rfl rfl)]
  · pointwise
  · show r.val * (8 * 512) + j.val / 512 * 512 + j.val % 512 = r.val * 4096 + j.val
    omega

/-- What the reference computes, at every index. -/
theorem ref_eq (x : B4096x4096) (y : B8x1024x512) :
    Host.dotGeneral (F := Ideal) (φ₁ := .f32) (φ₂ := .f32) Cert.DUmRefIdeal.dot_S4096x4096_S1024x4096_S4096x1024_1_1_0_0_n_n none (extf .f32 x Cert.DUmRefIdeal.Facts₀.bitsLt_bf16_f32) (extf .f32 (shapeCast Cert.DUmRefIdeal.S1024x4096 (transpose Cert.DUmRefIdeal.S1024x8x512 [1, 0, 2] y Cert.DUmRefIdeal.Facts₀.transposes_S8x1024x512_S1024x8x512_1_0_2) Cert.DUmRefIdeal.Facts₀.shapeCasts_S1024x8x512_S1024x4096) Cert.DUmRefIdeal.Facts₀.bitsLt_bf16_f32) = G x y := by
  funext i
  obtain ⟨a, b, rfl⟩ : ∃ (a : Fin 4096) (b : Fin 1024), i = ix2 a b := ⟨i 0, i 1, eq_ix2 i⟩
  have e := whole_apply y
  generalize shapeCast Cert.DUmRefIdeal.S1024x4096 (transpose Cert.DUmRefIdeal.S1024x8x512 [1, 0, 2] y Cert.DUmRefIdeal.Facts₀.transposes_S8x1024x512_S1024x8x512_1_0_2) Cert.DUmRefIdeal.Facts₀.shapeCasts_S1024x8x512_S1024x4096 = u at e ⊢
  pointwise
  unfold G cell
  simp only [e]
  rfl

/-- The claim of the call: kernel and reference end with the same array. -/
theorem algebraic : Cert.algebraic_DUmIdeal_DUmRefIdeal := fun m ρ m' ρ' _ hag =>
  ⟨fun c => G (V m c main_arg0) (V m c main_arg1),
   (θ_run _ _ _).mono (fun _ h c => ⟨(h c).1.trans (final2 m c), (h c).2⟩) (Value.run_blocks m ρ),
   (θ_run _ _ _).mono (fun _ h c => ⟨(h c).1.trans (by rw [(hag c).1, (hag c).2]; exact ref_eq _ _ ), (h c).2⟩)
     (Cert.DUmRefIdeal.Value.run m' ρ')⟩

end Cert.DUmProof

end
-- ==== Proof.DXo.lean ====
/- The gradient through a square product, in bf16 (`d_xo`, `d_merged`, `d_att`, `d_ya_in`): what the kernel leaves in its result, and that the reference leaves the same. -/
module

public import proofs.«01_k».proof.Defs
public import proofs.«01_k».proof.Proof.Gen.DXoIdeal.Value
public import proofs.«01_k».proof.Proof.Gen.DXoRefIdeal.Run
public import proofs.«01_k».proof.Proof.Shared

@[expose] public section

set_option maxRecDepth 16384

noncomputable section

namespace Cert.DXoProof

open Cert.DXoIdeal Cert.DXoIdeal.Gen Idealize.ShloMosaic Idealize.ShloMosaic.TcCoe Idealize.SL.Sem
open Idealize.ShloMosaic.Pointwise Cert.Shared

/-! Arrays by their shapes. -/
abbrev B4096x1024 := Vec Ideal S4096x1024 .bf16
abbrev B1024x1024 := Vec Ideal S1024x1024 .bf16

/-- Entry `i, j` of the product. -/
def cell (x : B4096x1024) (y : B1024x1024) (i : Fin 4096) (j : Fin 1024) : EReal := ∑ k : Fin 1024, x (ix2 i k) * y (ix2 j k)

/-- The result array. -/
def G (x : B4096x1024) (y : B1024x1024) : B4096x1024 := fun i => cell x y (i 0) (i 1)

/-! What one grid point computes. -/

theorem pay_apply (x : Vec Ideal S2048x1024 .bf16) (y : Vec Ideal S512x1024 .bf16) (a : Fin 2048) (b : Fin 512) :
    k0_pay1 x y (ix2 a b) = ∑ k : Fin 1024, x (ix2 a k) * y (ix2 b k) := by
  pointwise [k0_pay1]

variable (m : (ℓ : Loc nD τ sig) → Buf (Elt Ideal) ℓ)

/-- The block indices at point `t`: 2 row tiles by 2 column tiles by 1 steps of the sum. -/
theorem idx : ∀ t : Fin cfg0.N, t.val < 4
    ∧ (win0_0.index t (0 : Fin 2) = t.val / 2 ∧ win0_0.index t (1 : Fin 2) = 0)
    ∧ (win0_1.index t (0 : Fin 2) = t.val % 2 ∧ win0_1.index t (1 : Fin 2) = 0)
    ∧ (win0_2.index t (0 : Fin 2) = t.val / 2 ∧ win0_2.index t (1 : Fin 2) = t.val % 2) :=
  (by decide +kernel : ∀ t : Fin grid0.N, _)

/-- Row `a` and column `b` of point `t`'s block, in the whole arrays. -/
def row (t : Fin cfg0.N) (a : Fin 2048) : Fin 4096 := ⟨t.val / 2 * 2048 + a.val, by have := (idx t).1; omega⟩
def col (t : Fin cfg0.N) (b : Fin 512) : Fin 1024 := ⟨t.val % 2 * 512 + b.val, by have := (idx t).1; omega⟩

theorem emb0 (t : Fin cfg0.N) (a : Fin 2048) (k : Fin 1024) : ((cfg0.win 0).blk t).view.emb (ix2 a k) = ix2 (row t a) k := by
  obtain ⟨-, ⟨e0, e1⟩, -⟩ := idx t
  refine ext2 ?_ ?_
  · show win0_0.index t (0 : Fin 2) * 2048 + 1 * a.val = t.val / 2 * 2048 + a.val; rw [e0]; omega
  · show win0_0.index t (1 : Fin 2) * 1024 + 1 * k.val = k.val; rw [e1]; omega

theorem emb1 (t : Fin cfg0.N) (b : Fin 512) (k : Fin 1024) : ((cfg0.win 1).blk t).view.emb (ix2 b k) = ix2 (col t b) k := by
  obtain ⟨-, -, ⟨e0, e1⟩, -⟩ := idx t
  refine ext2 ?_ ?_
  · show win0_1.index t (0 : Fin 2) * 512 + 1 * b.val = t.val % 2 * 512 + b.val; rw [e0]; omega
  · show win0_1.index t (1 : Fin 2) * 1024 + 1 * k.val = k.val; rw [e1]; omega

theorem emb2 (t : Fin cfg0.N) (a : Fin 2048) (b : Fin 512) : ((cfg0.win 2).blk t).view.emb (ix2 a b) = ix2 (row t a) (col t b) := by
  obtain ⟨-, -, -, e0, e1⟩ := idx t
  refine ext2 ?_ ?_
  · show win0_2.index t (0 : Fin 2) * 2048 + 1 * a.val = t.val / 2 * 2048 + a.val; rw [e0]; omega
  · show win0_2.index t (1 : Fin 2) * 512 + 1 * b.val = t.val % 2 * 512 + b.val; rw [e1]; omega

/-- The argument blocks of point `t`, at one index each. -/
theorem iblk0_apply (c : Dev nD) (t : Fin cfg0.N) (a : Fin 2048) (k : Fin 1024) : (iblk m c 0 t : Vec Ideal S2048x1024 .bf16) (ix2 a k)
    = (V m c main_arg0 : B4096x1024) (ix2 (row t a) k) :=
  congrArg (V m c main_arg0) (emb0 t a k)
theorem iblk1_apply (c : Dev nD) (t : Fin cfg0.N) (b : Fin 512) (k : Fin 1024) : (iblk m c 1 t : Vec Ideal S512x1024 .bf16) (ix2 b k)
    = (V m c main_arg1 : B1024x1024) (ix2 (col t b) k) :=
  congrArg (V m c main_arg1) (emb1 t b k)

/-- The result array after the run. -/
theorem final2 (c : Dev nD) : (dats m 0 c).arrAt 2 cfg0.N = G (V m c main_arg0) (V m c main_arg1) := by
  refine (dats m 0 c).arrAt_eq_of_covers 2 _ (by decide +kernel) fun t _ y => ?_
  rw [after0_2]
  unfold out0_2
  rw [View.canon_unit_zero hz, View.ld_unit_zero hz, View.ld_unit_zero hz]
  obtain ⟨a, b, rfl⟩ := pair y
  rw [emb2]
  show k0_pay1 (iblk m c 0 t) (iblk m c 1 t) (ix2 a b) = _
  rw [pay_apply]
  simp only [iblk0_apply, iblk1_apply]
  rfl

/-- What the reference computes, at every index. -/
theorem ref_eq (x : B4096x1024) (y : B1024x1024) :
    truncf (F := Ideal) (φ := .f32) .bf16 (Host.dotGeneral (F := Ideal) (φ₁ := .f32) (φ₂ := .f32) Cert.DXoRefIdeal.dot_S4096x1024_S1024x1024_S4096x1024_1_1_0_0_n_n none (extf .f32 x Cert.DXoRefIdeal.Facts₀.bitsLt_bf16_f32) (extf .f32 y Cert.DXoRefIdeal.Facts₀.bitsLt_bf16_f32)) Cert.DXoRefIdeal.Facts₀.bitsLt_bf16_f32 = G x y := by
  funext i
  obtain ⟨a, b, rfl⟩ : ∃ (a : Fin 4096) (b : Fin 1024), i = ix2 a b := ⟨i 0, i 1, eq_ix2 i⟩
  pointwise
  rfl

/-- The claim of the call: kernel and reference end with the same array. -/
theorem algebraic : Cert.algebraic_DXoIdeal_DXoRefIdeal := fun m ρ m' ρ' _ hag =>
  ⟨fun c => G (V m c main_arg0) (V m c main_arg1),
   (θ_run _ _ _).mono (fun _ h c => ⟨(h c).1.trans (final2 m c), (h c).2⟩) (Value.run_blocks m ρ),
   (θ_run _ _ _).mono (fun _ h c => ⟨(h c).1.trans (by rw [(hag c).1, (hag c).2]; exact ref_eq _ _ ), (h c).2⟩)
     (Cert.DXoRefIdeal.Value.run m' ρ')⟩

end Cert.DXoProof

end
-- ==== Proof.DUn.lean ====
/- The gradient through a square product, in f32 (`d_un`, `d_u_a`): what the kernel leaves in its result, and that the reference leaves the same. -/
module

public import proofs.«01_k».proof.Defs
public import proofs.«01_k».proof.Proof.Gen.DUnIdeal.Value
public import proofs.«01_k».proof.Proof.Gen.DUnRefIdeal.Run
public import proofs.«01_k».proof.Proof.Shared

@[expose] public section

set_option maxRecDepth 16384

noncomputable section

namespace Cert.DUnProof

open Cert.DUnIdeal Cert.DUnIdeal.Gen Idealize.ShloMosaic Idealize.ShloMosaic.TcCoe Idealize.SL.Sem
open Idealize.ShloMosaic.Pointwise Cert.Shared

/-! Arrays by their shapes. -/
abbrev B1024x1024 := Vec Ideal S1024x1024 .bf16
abbrev B4096x1024 := Vec Ideal S4096x1024 .bf16

/-- Entry `i, j` of the product. -/
def cell (x : B4096x1024) (y : B1024x1024) (i : Fin 4096) (j : Fin 1024) : EReal := ∑ k : Fin 1024, x (ix2 i k) * y (ix2 j k)

/-- The result array. -/
def G (x : B4096x1024) (y : B1024x1024) : Vec Ideal S4096x1024 .f32 := fun i => cell x y (i 0) (i 1)

/-! What one grid point computes. -/

theorem pay_apply (x : B1024x1024) (y : Vec Ideal S512x1024 .bf16) (a : Fin 1024) (b : Fin 512) :
    k0_pay1 x y (ix2 a b) = ∑ k : Fin 1024, x (ix2 a k) * y (ix2 b k) := by
  pointwise [k0_pay1]

variable (m : (ℓ : Loc nD τ sig) → Buf (Elt Ideal) ℓ)

/-- The block indices at point `t`: 4 row tiles by 2 column tiles by 1 steps of the sum. -/
theorem idx : ∀ t : Fin cfg0.N, t.val < 8
    ∧ (win0_0.index t (0 : Fin 2) = t.val / 2 ∧ win0_0.index t (1 : Fin 2) = 0)
    ∧ (win0_1.index t (0 : Fin 2) = t.val % 2 ∧ win0_1.index t (1 : Fin 2) = 0)
    ∧ (win0_2.index t (0 : Fin 2) = t.val / 2 ∧ win0_2.index t (1 : Fin 2) = t.val % 2) :=
  (by decide +kernel : ∀ t : Fin grid0.N, _)

/-- Row `a` and column `b` of point `t`'s block, in the whole arrays. -/
def row (t : Fin cfg0.N) (a : Fin 1024) : Fin 4096 := ⟨t.val / 2 * 1024 + a.val, by have := (idx t).1; omega⟩
def col (t : Fin cfg0.N) (b : Fin 512) : Fin 1024 := ⟨t.val % 2 * 512 + b.val, by have := (idx t).1; omega⟩

theorem emb0 (t : Fin cfg0.N) (a : Fin 1024) (k : Fin 1024) : ((cfg0.win 0).blk t).view.emb (ix2 a k) = ix2 (row t a) k := by
  obtain ⟨-, ⟨e0, e1⟩, -⟩ := idx t
  refine ext2 ?_ ?_
  · show win0_0.index t (0 : Fin 2) * 1024 + 1 * a.val = t.val / 2 * 1024 + a.val; rw [e0]; omega
  · show win0_0.index t (1 : Fin 2) * 1024 + 1 * k.val = k.val; rw [e1]; omega

theorem emb1 (t : Fin cfg0.N) (b : Fin 512) (k : Fin 1024) : ((cfg0.win 1).blk t).view.emb (ix2 b k) = ix2 (col t b) k := by
  obtain ⟨-, -, ⟨e0, e1⟩, -⟩ := idx t
  refine ext2 ?_ ?_
  · show win0_1.index t (0 : Fin 2) * 512 + 1 * b.val = t.val % 2 * 512 + b.val; rw [e0]; omega
  · show win0_1.index t (1 : Fin 2) * 1024 + 1 * k.val = k.val; rw [e1]; omega

theorem emb2 (t : Fin cfg0.N) (a : Fin 1024) (b : Fin 512) : ((cfg0.win 2).blk t).view.emb (ix2 a b) = ix2 (row t a) (col t b) := by
  obtain ⟨-, -, -, e0, e1⟩ := idx t
  refine ext2 ?_ ?_
  · show win0_2.index t (0 : Fin 2) * 1024 + 1 * a.val = t.val / 2 * 1024 + a.val; rw [e0]; omega
  · show win0_2.index t (1 : Fin 2) * 512 + 1 * b.val = t.val % 2 * 512 + b.val; rw [e1]; omega

/-- The argument blocks of point `t`, at one index each. -/
theorem iblk0_apply (c : Dev nD) (t : Fin cfg0.N) (a : Fin 1024) (k : Fin 1024) : (iblk m c 0 t : B1024x1024) (ix2 a k)
    = (V m c main_arg0 : B4096x1024) (ix2 (row t a) k) :=
  congrArg (V m c main_arg0) (emb0 t a k)
theorem iblk1_apply (c : Dev nD) (t : Fin cfg0.N) (b : Fin 512) (k : Fin 1024) : (iblk m c 1 t : Vec Ideal S512x1024 .bf16) (ix2 b k)
    = (V m c main_arg1 : B1024x1024) (ix2 (col t b) k) :=
  congrArg (V m c main_arg1) (emb1 t b k)

/-- The result array after the run. -/
theorem final2 (c : Dev nD) : (dats m 0 c).arrAt 2 cfg0.N = G (V m c main_arg0) (V m c main_arg1) := by
  refine (dats m 0 c).arrAt_eq_of_covers 2 _ (by decide +kernel) fun t _ y => ?_
  rw [after0_2]
  unfold out0_2
  rw [View.canon_unit_zero hz, View.ld_unit_zero hz, View.ld_unit_zero hz]
  obtain ⟨a, b, rfl⟩ := pair y
  rw [emb2]
  show k0_pay1 (iblk m c 0 t) (iblk m c 1 t) (ix2 a b) = _
  rw [pay_apply]
  simp only [iblk0_apply, iblk1_apply]
  rfl

/-- What the reference computes, at every index. -/
theorem ref_eq (x : B4096x1024) (y : B1024x1024) :
    Host.dotGeneral (F := Ideal) (φ₁ := .f32) (φ₂ := .f32) Cert.DUnRefIdeal.dot_S4096x1024_S1024x1024_S4096x1024_1_1_0_0_n_n none (extf .f32 x Cert.DUnRefIdeal.Facts₀.bitsLt_bf16_f32) (extf .f32 y Cert.DUnRefIdeal.Facts₀.bitsLt_bf16_f32) = G x y := by
  funext i
  obtain ⟨a, b, rfl⟩ : ∃ (a : Fin 4096) (b : Fin 1024), i = ix2 a b := ⟨i 0, i 1, eq_ix2 i⟩
  pointwise
  rfl

/-- The claim of the call: kernel and reference end with the same array. -/
theorem algebraic : Cert.algebraic_DUnIdeal_DUnRefIdeal := fun m ρ m' ρ' _ hag =>
  ⟨fun c => G (V m c main_arg0) (V m c main_arg1),
   (θ_run _ _ _).mono (fun _ h c => ⟨(h c).1.trans (final2 m c), (h c).2⟩) (Value.run_blocks m ρ),
   (θ_run _ _ _).mono (fun _ h c => ⟨(h c).1.trans (by rw [(hag c).1, (hag c).2]; exact ref_eq _ _ ), (h c).2⟩)
     (Cert.DUnRefIdeal.Value.run m' ρ')⟩

end Cert.DUnProof

end
-- ==== Proof.DwSq.lean ====
/- The gradient of a square weight (`dw_xo`, `dw_xq`, `dw_mix_out`, `dw_attn_out`, `dw_conv_out`, `dw_in_a`, `dw_in_ag`): what the kernel leaves in its result, and that the reference leaves the same. -/
module

public import proofs.«01_k».proof.Defs
public import proofs.«01_k».proof.Proof.Gen.DwSqIdeal.Value
public import proofs.«01_k».proof.Proof.Gen.DwSqRefIdeal.Run
public import proofs.«01_k».proof.Proof.Shared

@[expose] public section

set_option maxRecDepth 16384

noncomputable section

namespace Cert.DwSqProof

open Cert.DwSqIdeal Cert.DwSqIdeal.Gen Idealize.ShloMosaic Idealize.ShloMosaic.TcCoe Idealize.SL.Sem
open Idealize.ShloMosaic.Pointwise Cert.Shared

/-! Arrays by their shapes. -/
abbrev B4096x1024 := Vec Ideal S4096x1024 .bf16
abbrev R1024x512 := Vec Ideal S1024x512 .f32
abbrev B1024x1024 := Vec Ideal S1024x1024 .bf16
abbrev B1024x512 := Vec Ideal S1024x512 .bf16

/-- Entry `i, j` of the product. -/
def cell (x : B4096x1024) (y : B4096x1024) (i : Fin 1024) (j : Fin 1024) : EReal := ∑ k : Fin 4096, x (ix2 k i) * y (ix2 k j)

/-- The result array. -/
def G (x : B4096x1024) (y : B4096x1024) : B1024x1024 := fun i => cell x y (i 0) (i 1)

/-! What one grid point computes. -/

theorem pay1_apply (x : B1024x1024) (y : B1024x512) (a : Fin 1024) (b : Fin 512) :
    k0_pay1 x y (ix2 a b) = ∑ k : Fin 1024, x (ix2 k a) * y (ix2 k b) := by
  pointwise [k0_pay1]

theorem pay2_apply (x : B1024x1024) (y : B1024x512) (a : Fin 1024) (b : Fin 512) :
    k0_pay2 x y (ix2 a b) = 0 + k0_pay1 x y (ix2 a b) := by
  pointwise [k0_pay2]

theorem pay3_apply (x : B1024x1024) (y : B1024x512) (s : R1024x512) (a : Fin 1024) (b : Fin 512) :
    k0_pay3 x y s (ix2 a b) = s (ix2 a b) + k0_pay1 x y (ix2 a b) := by
  pointwise [k0_pay3]

theorem pay4_apply (s : R1024x512) (a : Fin 1024) (b : Fin 512) : k0_pay4 s (ix2 a b) = s (ix2 a b) := by
  pointwise [k0_pay4]

variable (m : (ℓ : Loc nD τ sig) → Buf (Elt Ideal) ℓ)

/-- The block indices at point `t`: 1 row tiles by 2 column tiles by 4 steps of the sum. -/
theorem idx : ∀ t : Fin cfg0.N, t.val < 8
    ∧ (win0_0.index t (0 : Fin 2) = t.val % 4 ∧ win0_0.index t (1 : Fin 2) = 0)
    ∧ (win0_1.index t (0 : Fin 2) = t.val % 4 ∧ win0_1.index t (1 : Fin 2) = t.val / 4 % 2)
    ∧ (win0_2.index t (0 : Fin 2) = 0 ∧ win0_2.index t (1 : Fin 2) = t.val / 4 % 2) :=
  (by decide +kernel : ∀ t : Fin grid0.N, _)

/-- Row `a` and column `b` of point `t`'s block, and its step `k` of the sum, in the whole arrays. -/
def row (t : Fin cfg0.N) (a : Fin 1024) : Fin 1024 := ⟨0 * 1024 + a.val, by have := (idx t).1; omega⟩
def col (t : Fin cfg0.N) (b : Fin 512) : Fin 1024 := ⟨t.val / 4 % 2 * 512 + b.val, by have := (idx t).1; omega⟩
def stp (t : Fin cfg0.N) (k : Fin 1024) : Fin 4096 := ⟨t.val % 4 * 1024 + k.val, by have := (idx t).1; omega⟩

theorem emb0 (t : Fin cfg0.N) (a : Fin 1024) (k : Fin 1024) : ((cfg0.win 0).blk t).view.emb (ix2 k a) = ix2 (stp t k) (row t a) := by
  obtain ⟨-, ⟨e0, e1⟩, -⟩ := idx t
  refine ext2 ?_ ?_
  · show win0_0.index t (0 : Fin 2) * 1024 + 1 * k.val = t.val % 4 * 1024 + k.val; rw [e0]; omega
  · show win0_0.index t (1 : Fin 2) * 1024 + 1 * a.val = 0 * 1024 + a.val; rw [e1]; omega

theorem emb1 (t : Fin cfg0.N) (b : Fin 512) (k : Fin 1024) : ((cfg0.win 1).blk t).view.emb (ix2 k b) = ix2 (stp t k) (col t b) := by
  obtain ⟨-, -, ⟨e0, e1⟩, -⟩ := idx t
  refine ext2 ?_ ?_
  · show win0_1.index t (0 : Fin 2) * 1024 + 1 * k.val = t.val % 4 * 1024 + k.val; rw [e0]; omega
  · show win0_1.index t (1 : Fin 2) * 512 + 1 * b.val = t.val / 4 % 2 * 512 + b.val; rw [e1]; omega

theorem emb2 (t : Fin cfg0.N) (a : Fin 1024) (b : Fin 512) : ((cfg0.win 2).blk t).view.emb (ix2 a b) = ix2 (row t a) (col t b) := by
  obtain ⟨-, -, -, e0, e1⟩ := idx t
  refine ext2 ?_ ?_
  · show win0_2.index t (0 : Fin 2) * 1024 + 1 * a.val = 0 * 1024 + a.val; rw [e0]; omega
  · show win0_2.index t (1 : Fin 2) * 512 + 1 * b.val = t.val / 4 % 2 * 512 + b.val; rw [e1]; omega

/-- The argument blocks of point `t`, at one index each. -/
theorem iblk0_apply (c : Dev nD) (t : Fin cfg0.N) (a : Fin 1024) (k : Fin 1024) : (iblk m c 0 t : B1024x1024) (ix2 k a)
    = (V m c main_arg0 : B4096x1024) (ix2 (stp t k) (row t a)) :=
  congrArg (V m c main_arg0) (emb0 t a k)
theorem iblk1_apply (c : Dev nD) (t : Fin cfg0.N) (b : Fin 512) (k : Fin 1024) : (iblk m c 1 t : B1024x512) (ix2 k b)
    = (V m c main_arg1 : B4096x1024) (ix2 (stp t k) (col t b)) :=
  congrArg (V m c main_arg1) (emb1 t b k)

/-! What the accumulator and the result's block hold. -/

theorem acc_first (c : Dev nD) (t : Fin cfg0.N) (h : t.val % 4 = 0) : (outsAt0 m c t.val t.isLt).2 = k0_pay2 (iblk m c 0 t) (iblk m c 1 t) := by
  have ht := (idx t).1
  rw [outsAt0_A m c t h (by omega) (by omega)]
  frame_out
theorem acc_later (c : Dev nD) (t : Fin cfg0.N) (h : ¬t.val % 4 = 0) : (outsAt0 m c t.val t.isLt).2
    = k0_pay3 (iblk m c 0 t) (iblk m c 1 t) (outsAt0 m c (t.val - 1) (Nat.sub_lt_of_lt t.isLt)).2 := by
  have ht := (idx t).1
  by_cases hl : t.val % 4 = 3
  · rw [outsAt0_C m c t h (by omega) hl]
    frame_out
    rw [read_unread_whole]
  · rw [outsAt0_B m c t h (by omega) hl]
    frame_out
    rw [read_unread_whole]
theorem out_last (c : Dev nD) (t : Fin cfg0.N) (h : t.val % 4 = 3) : (outsAt0 m c t.val t.isLt).1 = k0_pay4 (outsAt0 m c t.val t.isLt).2 := by
  have ht := (idx t).1
  rw [outsAt0_C m c t (by omega) (by omega) (by omega)]
  frame_out

/-- One step's part of a sum, over the whole arrays. -/
def part (x : B4096x1024) (y : B4096x1024) (i : Fin 1024) (j : Fin 1024) (q : Nat) : EReal :=
  if h : q < 4 then ∑ k : Fin 1024, x (ix2 ⟨q * 1024 + k.val, by omega⟩ i) * y (ix2 ⟨q * 1024 + k.val, by omega⟩ j) else 0
theorem part_apply (c : Dev nD) (t : Fin cfg0.N) (a : Fin 1024) (b : Fin 512) : k0_pay1 (iblk m c 0 t) (iblk m c 1 t) (ix2 a b)
    = part (V m c main_arg0) (V m c main_arg1) (row t a) (col t b) (t.val % 4) := by
  rw [pay1_apply, part, dif_pos (Nat.mod_lt _ (by decide))]
  simp only [iblk0_apply, iblk1_apply]
  rfl
theorem row_eq {t u : Fin cfg0.N} (h : t.val / 4 = u.val / 4) (a : Fin 1024) : row t a = row u a :=
  Fin.ext (by show 0 * 1024 + a.val = 0 * 1024 + a.val; omega)
theorem col_eq {t u : Fin cfg0.N} (h : t.val / 4 = u.val / 4) (b : Fin 512) : col t b = col u b :=
  Fin.ext (by show t.val / 4 % 2 * 512 + b.val = u.val / 4 % 2 * 512 + b.val; omega)

/-- After the last step of a run the accumulator holds the whole sum. -/
theorem acc_last (c : Dev nD) (t : Fin cfg0.N) (h : t.val % 4 = 3) (a : Fin 1024) (b : Fin 512) :
    ((outsAt0 m c t.val t.isLt).2 : R1024x512) (ix2 a b)
    = 0 + cell (V m c main_arg0) (V m c main_arg1) (row t a) (col t b) := by
  have key := run_tile (fun n hn => ((outsAt0 m c n hn).2 : R1024x512) (ix2 a b)) 4 t.val t.isLt h
    (0) (part (V m c main_arg0) (V m c main_arg1) (row t a) (col t b))
    (fun u f e hu => by
      show ((outsAt0 m c u hu).2 : R1024x512) (ix2 a b) = _
      rw [acc_first m c ⟨u, hu⟩ e, pay2_apply, part_apply, row_eq (u := t) f, col_eq (u := t) f]
      show _ + part _ _ _ _ (u % 4) = _
      rw [e])
    (fun u f e hu hu' => by
      show ((outsAt0 m c u hu).2 : R1024x512) (ix2 a b) = _
      rw [acc_later m c ⟨u, hu⟩ e, pay3_apply, part_apply, row_eq (u := t) f, col_eq (u := t) f] <;> rfl)
  refine key.trans ?_
  congr 1
  rw [cell, Fin.sum_univ_tiles 4 1024 rfl, ← Fin.sum_univ_eq_sum_range (part _ _ _ _) 4]
  refine Finset.sum_congr rfl fun q _ => ?_
  rw [part, dif_pos q.isLt]

/-- The result array after the run. -/
theorem final2 (c : Dev nD) : (dats m 0 c).arrAt 2 cfg0.N = G (V m c main_arg0) (V m c main_arg1) := by
  refine (dats m 0 c).arrAt_eq_of_covers 2 _ (by decide +kernel) fun t hf y => ?_
  have hl := (flush0_2 t).mp hf
  rw [after0_2, out_last m c t hl]
  obtain ⟨a, b, rfl⟩ := pair y
  rw [emb2]
  show k0_pay4 ((outsAt0 m c t.val t.isLt).2) (ix2 a b) = _
  rw [pay4_apply, acc_last m c t hl, zero_add]
  rfl

/-- What the reference computes, at every index. -/
theorem ref_eq (x : B4096x1024) (y : B4096x1024) :
    truncf (F := Ideal) (φ := .f32) .bf16 (transpose Cert.DwSqRefIdeal.S1024x1024 [1, 0] (Host.dotGeneral (F := Ideal) (φ₁ := .f32) (φ₂ := .f32) Cert.DwSqRefIdeal.dot_S4096x1024_S4096x1024_S1024x1024_0_0_1_1_n_n none (extf .f32 y Cert.DwSqRefIdeal.Facts₀.bitsLt_bf16_f32) (extf .f32 x Cert.DwSqRefIdeal.Facts₀.bitsLt_bf16_f32)) Cert.DwSqRefIdeal.Facts₀.transposes_S1024x1024_S1024x1024_1_0) Cert.DwSqRefIdeal.Facts₀.bitsLt_bf16_f32 = G x y := by
  funext i
  obtain ⟨a, b, rfl⟩ : ∃ (a : Fin 1024) (b : Fin 1024), i = ix2 a b := ⟨i 0, i 1, eq_ix2 i⟩
  pointwise
  exact Finset.sum_congr rfl fun k _ => mul_comm _ _

/-- The claim of the call: kernel and reference end with the same array. -/
theorem algebraic : Cert.algebraic_DwSqIdeal_DwSqRefIdeal := fun m ρ m' ρ' _ hag =>
  ⟨fun c => G (V m c main_arg0) (V m c main_arg1),
   (θ_run _ _ _).mono (fun _ h c => ⟨(h c).1.trans (final2 m c), (h c).2⟩) (Value.run_blocks m ρ),
   (θ_run _ _ _).mono (fun _ h c => ⟨(h c).1.trans (by rw [(hag c).1, (hag c).2]; exact ref_eq _ _ ), (h c).2⟩)
     (Cert.DwSqRefIdeal.Value.run m' ρ')⟩

end Cert.DwSqProof

end
-- ==== Proof.DwXkv.lean ====
/- The gradient of the memory's key and value weight, in eight slabs of columns (`dw_xkv`): what the kernel leaves in its result, and that the reference leaves the same. -/
module

public import proofs.«01_k».proof.Defs
public import proofs.«01_k».proof.Proof.Gen.DwXkvIdeal.Value
public import proofs.«01_k».proof.Proof.Gen.DwXkvRefIdeal.Run
public import proofs.«01_k».proof.Proof.Shared

@[expose] public section

set_option maxRecDepth 16384

noncomputable section

namespace Cert.DwXkvProof

open Cert.DwXkvIdeal Cert.DwXkvIdeal.Gen Idealize.ShloMosaic Idealize.ShloMosaic.TcCoe Idealize.SL.Sem
open Idealize.ShloMosaic.Pointwise Cert.Shared

/-! Arrays by their shapes. -/
abbrev B256x1024 := Vec Ideal S256x1024 .bf16
abbrev R256x2048 := Vec Ideal S256x2048 .f32

/-- A column of the whole matrix: the slab that holds it, and its column there. -/
def hi (j : Fin 2048) : Fin 8 := ⟨j.val / 256, by omega⟩
def lo (j : Fin 2048) : Fin 256 := ⟨j.val % 256, by omega⟩

/-- Entry `i, j` of the product. -/
def cell (x : B256x1024) (y : R256x2048) (i : Fin 1024) (j : Fin 2048) : EReal := ∑ k : Fin 256, x (ix2 k i) * y (ix2 k j)

/-- The result array: slab `i 0` holds the columns from `256 * i 0` on. -/
def G (x : B256x1024) (y : R256x2048) : Vec Ideal S8x1024x256 .bf16 :=
  fun i => cell x y (i 1) ⟨(i 0).val * 256 + (i 2).val, by have h0 : (i 0).val < 8 := (i 0).isLt; have h2 : (i 2).val < 256 := (i 2).isLt; omega⟩

/-- A column of the matrix is found again from its slab and its column there. -/
theorem cell_slab (x : B256x1024) (y : R256x2048) (i : Fin 1024) (j : Fin 2048) (h : (hi j).val * 256 + (lo j).val < 2048) :
    cell x y i ⟨(hi j).val * 256 + (lo j).val, h⟩ = cell x y i j :=
  congrArg (cell x y i) (Fin.ext (by show j.val / 256 * 256 + j.val % 256 = j.val; omega))

/-! What one grid point computes. -/

theorem pay_apply (x : B256x1024) (y : Vec Ideal S256x256 .f32) (a : Fin 1024) (b : Fin 256) :
    k0_pay1 x y (ix3 0 a b) = ∑ k : Fin 256, x (ix2 k a) * y (ix2 k b) := by
  pointwise [k0_pay1]

variable (m : (ℓ : Loc nD τ sig) → Buf (Elt Ideal) ℓ)

/-- The block indices at point `t`: 1 row tiles by 8 column tiles by 1 steps of the sum. -/
theorem idx : ∀ t : Fin cfg0.N, t.val < 8
    ∧ (win0_0.index t (0 : Fin 2) = 0 ∧ win0_0.index t (1 : Fin 2) = 0)
    ∧ (win0_1.index t (0 : Fin 2) = 0 ∧ win0_1.index t (1 : Fin 2) = t.val % 8)
    ∧ (win0_2.index t (0 : Fin 3) = t.val % 8 ∧ win0_2.index t (1 : Fin 3) = 0 ∧ win0_2.index t (2 : Fin 3) = 0) :=
  (by decide +kernel : ∀ t : Fin grid0.N, _)

/-- Row `a` and column `b` of point `t`'s block, in the whole arrays. -/
def row (t : Fin cfg0.N) (a : Fin 1024) : Fin 1024 := ⟨0 * 1024 + a.val, by have := (idx t).1; omega⟩
def col (t : Fin cfg0.N) (b : Fin 256) : Fin 2048 := ⟨t.val % 8 * 256 + b.val, by have := (idx t).1; omega⟩

theorem emb0 (t : Fin cfg0.N) (a : Fin 1024) (k : Fin 256) : ((cfg0.win 0).blk t).view.emb (ix2 k a) = ix2 k (row t a) := by
  obtain ⟨-, ⟨e0, e1⟩, -⟩ := idx t
  refine ext2 ?_ ?_
  · show win0_0.index t (0 : Fin 2) * 256 + 1 * k.val = k.val; rw [e0]; omega
  · show win0_0.index t (1 : Fin 2) * 1024 + 1 * a.val = 0 * 1024 + a.val; rw [e1]; omega

theorem emb1 (t : Fin cfg0.N) (b : Fin 256) (k : Fin 256) : ((cfg0.win 1).blk t).view.emb (ix2 k b) = ix2 k (col t b) := by
  obtain ⟨-, -, ⟨e0, e1⟩, -⟩ := idx t
  refine ext2 ?_ ?_
  · show win0_1.index t (0 : Fin 2) * 256 + 1 * k.val = k.val; rw [e0]; omega
  · show win0_1.index t (1 : Fin 2) * 256 + 1 * b.val = t.val % 8 * 256 + b.val; rw [e1]; omega

theorem emb2 (t : Fin cfg0.N) (a : Fin 1024) (b : Fin 256) : ((cfg0.win 2).blk t).view.emb (ix3 0 a b) = ix3 (hi (col t b)) (row t a) (lo (col t b)) := by
  obtain ⟨-, -, -, e0, e1, e2⟩ := idx t
  refine ext3 ?_ ?_ ?_
  · show win0_2.index t (0 : Fin 3) * 1 + 1 * 0 = (t.val % 8 * 256 + b.val) / 256; rw [e0]; omega
  · show win0_2.index t (1 : Fin 3) * 1024 + 1 * a.val = 0 * 1024 + a.val; rw [e1]; omega
  · show win0_2.index t (2 : Fin 3) * 256 + 1 * b.val = (t.val % 8 * 256 + b.val) % 256; rw [e2]; omega

/-- The argument blocks of point `t`, at one index each. -/
theorem iblk0_apply (c : Dev nD) (t : Fin cfg0.N) (a : Fin 1024) (k : Fin 256) : (iblk m c 0 t : B256x1024) (ix2 k a)
    = (V m c main_arg0 : B256x1024) (ix2 k (row t a)) :=
  congrArg (V m c main_arg0) (emb0 t a k)
theorem iblk1_apply (c : Dev nD) (t : Fin cfg0.N) (b : Fin 256) (k : Fin 256) : (iblk m c 1 t : Vec Ideal S256x256 .f32) (ix2 k b)
    = (V m c main_arg1 : R256x2048) (ix2 k (col t b)) :=
  congrArg (V m c main_arg1) (emb1 t b k)

/-- The result array after the run. -/
theorem final2 (c : Dev nD) : (dats m 0 c).arrAt 2 cfg0.N = G (V m c main_arg0) (V m c main_arg1) := by
  refine (dats m 0 c).arrAt_eq_of_covers 2 _ (by decide +kernel) fun t _ y => ?_
  rw [after0_2]
  unfold out0_2
  rw [View.canon_unit_zero hz3, View.ld_unit_zero hz, View.ld_unit_zero hz]
  obtain ⟨a, b, rfl⟩ : ∃ (a : Fin 1024) (b : Fin 256), y = ix3 0 a b := ⟨y 1, y 2, by
    refine ext3 ?_ rfl rfl
    have h : (y 0).val < 1 := (y 0).isLt
    show (y 0).val = 0; omega⟩
  rw [emb2]
  show k0_pay1 (iblk m c 0 t) (iblk m c 1 t) (ix3 0 a b) = _
  rw [pay_apply]
  simp only [iblk0_apply, iblk1_apply]
  exact (cell_slab _ _ _ _ _).symm

/-- A matrix in slabs, at an index. -/
theorem slabs_apply (Z : Vec Ideal Cert.DwXkvRefIdeal.S1024x2048 .f32) (s : Fin 8) (a : Fin 1024) (b : Fin 256) :
    truncf (F := Ideal) (φ := .f32) .bf16 (transpose Cert.DwXkvRefIdeal.S8x1024x256 [1, 0, 2] (shapeCast Cert.DwXkvRefIdeal.S1024x8x256 Z Cert.DwXkvRefIdeal.Facts₀.shapeCasts_S1024x2048_S1024x8x256) Cert.DwXkvRefIdeal.Facts₀.transposes_S1024x8x256_S8x1024x256_1_0_2) Cert.DwXkvRefIdeal.Facts₀.bitsLt_bf16_f32 (ix3 s a b)
      = Z (ix2 a ⟨s.val * 256 + b.val, by omega⟩) := by
  have e : shapeCast Cert.DwXkvRefIdeal.S1024x8x256 Z Cert.DwXkvRefIdeal.Facts₀.shapeCasts_S1024x2048_S1024x8x256 (ix3 a s b) = Z (ix2 a ⟨s.val * 256 + b.val, by omega⟩) := by
    rw [Pointwise.shapeCast_apply, Shape.reshapeEquiv_eq_of_vals (y := ix2 a ⟨s.val * 256 + b.val, by omega⟩) (hA := rowMajor_val2 _ _ rfl) (hB := rowMajor_val3 _ _ _ rfl rfl)]
    show a.val * 2048 + (s.val * 256 + b.val) = a.val * (8 * 256) + s.val * 256 + b.val
    omega
  rw [← e]
  generalize shapeCast Cert.DwXkvRefIdeal.S1024x8x256 Z Cert.DwXkvRefIdeal.Facts₀.shapeCasts_S1024x2048_S1024x8x256 = u
  pointwise

/-- What the reference computes, at every index. -/
theorem ref_eq (x : B256x1024) (y : R256x2048) :
    truncf (F := Ideal) (φ := .f32) .bf16 (transpose Cert.DwXkvRefIdeal.S8x1024x256 [1, 0, 2] (shapeCast Cert.DwXkvRefIdeal.S1024x8x256 (transpose Cert.DwXkvRefIdeal.S1024x2048 [1, 0] (Host.dotGeneral (F := Ideal) (φ₁ := .f32) (φ₂ := .f32) Cert.DwXkvRefIdeal.dot_S256x2048_S256x1024_S2048x1024_0_0_1_1_n_n none y (extf .f32 x Cert.DwXkvRefIdeal.Facts₀.bitsLt_bf16_f32)) Cert.DwXkvRefIdeal.Facts₀.transposes_S2048x1024_S1024x2048_1_0) Cert.DwXkvRefIdeal.Facts₀.shapeCasts_S1024x2048_S1024x8x256) Cert.DwXkvRefIdeal.Facts₀.transposes_S1024x8x256_S8x1024x256_1_0_2) Cert.DwXkvRefIdeal.Facts₀.bitsLt_bf16_f32 = G x y := by
  funext i
  obtain ⟨s, a, b, rfl⟩ : ∃ (s : Fin 8) (a : Fin 1024) (b : Fin 256), i = ix3 s a b := ⟨i 0, i 1, i 2, eq_ix3 i⟩
  refine (slabs_apply _ s a b).trans ?_
  pointwise
  exact Finset.sum_congr rfl fun k _ => mul_comm _ _

/-- The claim of the call: kernel and reference end with the same array. -/
theorem algebraic : Cert.algebraic_DwXkvIdeal_DwXkvRefIdeal := fun m ρ m' ρ' _ hag =>
  ⟨fun c => G (V m c main_arg0) (V m c main_arg1),
   (θ_run _ _ _).mono (fun _ h c => ⟨(h c).1.trans (final2 m c), (h c).2⟩) (Value.run_blocks m ρ),
   (θ_run _ _ _).mono (fun _ h c => ⟨(h c).1.trans (by rw [(hag c).1, (hag c).2]; exact ref_eq _ _ ), (h c).2⟩)
     (Cert.DwXkvRefIdeal.Value.run m' ρ')⟩

end Cert.DwXkvProof

end
-- ==== Proof.DMemn.lean ====
/- The gradient through the memory's key and value product (`d_memn`): what the kernel leaves in its result, and that the reference leaves the same. -/
module

public import proofs.«01_k».proof.Defs
public import proofs.«01_k».proof.Proof.Gen.DMemnIdeal.Value
public import proofs.«01_k».proof.Proof.Gen.DMemnRefIdeal.Run
public import proofs.«01_k».proof.Proof.Shared

@[expose] public section

set_option maxRecDepth 16384

noncomputable section

namespace Cert.DMemnProof

open Cert.DMemnIdeal Cert.DMemnIdeal.Gen Idealize.ShloMosaic Idealize.ShloMosaic.TcCoe Idealize.SL.Sem
open Idealize.ShloMosaic.Pointwise Cert.Shared

/-! Arrays by their shapes. -/
abbrev B8x1024x256 := Vec Ideal S8x1024x256 .bf16
abbrev R256x2048 := Vec Ideal S256x2048 .f32
abbrev R256x512 := Vec Ideal S256x512 .f32
abbrev R256x256 := Vec Ideal S256x256 .f32
abbrev B1x512x256 := Vec Ideal S1x512x256 .bf16

/-- A column of the whole matrix: the slab that holds it, and its column there. -/
def hi (j : Fin 2048) : Fin 8 := ⟨j.val / 256, by omega⟩
def lo (j : Fin 2048) : Fin 256 := ⟨j.val % 256, by omega⟩

/-- Entry `i, j` of the product. -/
def cell (x : R256x2048) (y : B8x1024x256) (i : Fin 256) (j : Fin 1024) : EReal := ∑ k : Fin 2048, x (ix2 i k) * y (ix3 (hi k) j (lo k))

/-- The result array. -/
def G (x : R256x2048) (y : B8x1024x256) : Vec Ideal S256x1024 .f32 := fun i => cell x y (i 0) (i 1)

/-! What one grid point computes. -/

theorem pay1_apply (x : R256x256) (y : B1x512x256) (a : Fin 256) (b : Fin 512) :
    k0_pay1 x y (ix2 a b) = ∑ k : Fin 256, x (ix2 a k) * y (ix3 0 b k) := by
  pointwise [k0_pay1]

theorem pay2_apply (x : R256x256) (y : B1x512x256) (a : Fin 256) (b : Fin 512) :
    k0_pay2 x y (ix2 a b) = 0 + k0_pay1 x y (ix2 a b) := by
  pointwise [k0_pay2]

theorem pay3_apply (x : R256x256) (y : B1x512x256) (s : R256x512) (a : Fin 256) (b : Fin 512) :
    k0_pay3 x y s (ix2 a b) = s (ix2 a b) + k0_pay1 x y (ix2 a b) := by
  pointwise [k0_pay3]

variable (m : (ℓ : Loc nD τ sig) → Buf (Elt Ideal) ℓ)

/-- The block indices at point `t`: 1 row tiles by 2 column tiles by 8 steps of the sum. -/
theorem idx : ∀ t : Fin cfg0.N, t.val < 16
    ∧ (win0_0.index t (0 : Fin 2) = 0 ∧ win0_0.index t (1 : Fin 2) = t.val % 8)
    ∧ (win0_1.index t (0 : Fin 3) = t.val % 8 ∧ win0_1.index t (1 : Fin 3) = t.val / 8 % 2 ∧ win0_1.index t (2 : Fin 3) = 0)
    ∧ (win0_2.index t (0 : Fin 2) = 0 ∧ win0_2.index t (1 : Fin 2) = t.val / 8 % 2) :=
  (by decide +kernel : ∀ t : Fin grid0.N, _)

/-- Row `a` and column `b` of point `t`'s block, and its step `k` of the sum, in the whole arrays. -/
def row (t : Fin cfg0.N) (a : Fin 256) : Fin 256 := ⟨0 * 256 + a.val, by have := (idx t).1; omega⟩
def col (t : Fin cfg0.N) (b : Fin 512) : Fin 1024 := ⟨t.val / 8 % 2 * 512 + b.val, by have := (idx t).1; omega⟩
def stp (t : Fin cfg0.N) (k : Fin 256) : Fin 2048 := ⟨t.val % 8 * 256 + k.val, by have := (idx t).1; omega⟩

theorem emb0 (t : Fin cfg0.N) (a : Fin 256) (k : Fin 256) : ((cfg0.win 0).blk t).view.emb (ix2 a k) = ix2 (row t a) (stp t k) := by
  obtain ⟨-, ⟨e0, e1⟩, -⟩ := idx t
  refine ext2 ?_ ?_
  · show win0_0.index t (0 : Fin 2) * 256 + 1 * a.val = 0 * 256 + a.val; rw [e0]; omega
  · show win0_0.index t (1 : Fin 2) * 256 + 1 * k.val = t.val % 8 * 256 + k.val; rw [e1]; omega

theorem emb1 (t : Fin cfg0.N) (b : Fin 512) (k : Fin 256) : ((cfg0.win 1).blk t).view.emb (ix3 0 b k) = ix3 (hi (stp t k)) (col t b) (lo (stp t k)) := by
  obtain ⟨-, -, ⟨e0, e1, e2⟩, -⟩ := idx t
  refine ext3 ?_ ?_ ?_
  · show win0_1.index t (0 : Fin 3) * 1 + 1 * 0 = (t.val % 8 * 256 + k.val) / 256; rw [e0]; omega
  · show win0_1.index t (1 : Fin 3) * 512 + 1 * b.val = t.val / 8 % 2 * 512 + b.val; rw [e1]; omega
  · show win0_1.index t (2 : Fin 3) * 256 + 1 * k.val = (t.val % 8 * 256 + k.val) % 256; rw [e2]; omega

theorem emb2 (t : Fin cfg0.N) (a : Fin 256) (b : Fin 512) : ((cfg0.win 2).blk t).view.emb (ix2 a b) = ix2 (row t a) (col t b) := by
  obtain ⟨-, -, -, e0, e1⟩ := idx t
  refine ext2 ?_ ?_
  · show win0_2.index t (0 : Fin 2) * 256 + 1 * a.val = 0 * 256 + a.val; rw [e0]; omega
  · show win0_2.index t (1 : Fin 2) * 512 + 1 * b.val = t.val / 8 % 2 * 512 + b.val; rw [e1]; omega

/-- The argument blocks of point `t`, at one index each. -/
theorem iblk0_apply (c : Dev nD) (t : Fin cfg0.N) (a : Fin 256) (k : Fin 256) : (iblk m c 0 t : R256x256) (ix2 a k)
    = (V m c main_arg0 : R256x2048) (ix2 (row t a) (stp t k)) :=
  congrArg (V m c main_arg0) (emb0 t a k)
theorem iblk1_apply (c : Dev nD) (t : Fin cfg0.N) (b : Fin 512) (k : Fin 256) : (iblk m c 1 t : B1x512x256) (ix3 0 b k)
    = (V m c main_arg1 : B8x1024x256) (ix3 (hi (stp t k)) (col t b) (lo (stp t k))) :=
  congrArg (V m c main_arg1) (emb1 t b k)

/-! What the accumulator and the result's block hold. -/

theorem acc_first (c : Dev nD) (t : Fin cfg0.N) (h : t.val % 8 = 0) : (outsAt0 m c t.val t.isLt).2 = k0_pay2 (iblk m c 0 t) (iblk m c 1 t) := by
  have ht := (idx t).1
  rw [outsAt0_A m c t h (by omega) (by omega)]
  frame_out
theorem acc_later (c : Dev nD) (t : Fin cfg0.N) (h : ¬t.val % 8 = 0) : (outsAt0 m c t.val t.isLt).2
    = k0_pay3 (iblk m c 0 t) (iblk m c 1 t) (outsAt0 m c (t.val - 1) (Nat.sub_lt_of_lt t.isLt)).2 := by
  have ht := (idx t).1
  by_cases hl : t.val % 8 = 7
  · rw [outsAt0_C m c t h (by omega) hl]
    frame_out
    rw [read_unread_whole]
  · rw [outsAt0_B m c t h (by omega) hl]
    frame_out
    rw [read_unread_whole]
theorem out_last (c : Dev nD) (t : Fin cfg0.N) (h : t.val % 8 = 7) : (outsAt0 m c t.val t.isLt).1 = (outsAt0 m c t.val t.isLt).2 := by
  have ht := (idx t).1
  rw [outsAt0_C m c t (by omega) (by omega) (by omega)]
  frame_out

/-- One step's part of a sum, over the whole arrays. -/
def part (x : R256x2048) (y : B8x1024x256) (i : Fin 256) (j : Fin 1024) (q : Nat) : EReal :=
  if h : q < 8 then ∑ k : Fin 256, x (ix2 i ⟨q * 256 + k.val, by omega⟩) * y (ix3 (hi ⟨q * 256 + k.val, by omega⟩) j (lo ⟨q * 256 + k.val, by omega⟩)) else 0
theorem part_apply (c : Dev nD) (t : Fin cfg0.N) (a : Fin 256) (b : Fin 512) : k0_pay1 (iblk m c 0 t) (iblk m c 1 t) (ix2 a b)
    = part (V m c main_arg0) (V m c main_arg1) (row t a) (col t b) (t.val % 8) := by
  rw [pay1_apply, part, dif_pos (Nat.mod_lt _ (by decide))]
  simp only [iblk0_apply, iblk1_apply]
  rfl
theorem row_eq {t u : Fin cfg0.N} (h : t.val / 8 = u.val / 8) (a : Fin 256) : row t a = row u a :=
  Fin.ext (by show 0 * 256 + a.val = 0 * 256 + a.val; omega)
theorem col_eq {t u : Fin cfg0.N} (h : t.val / 8 = u.val / 8) (b : Fin 512) : col t b = col u b :=
  Fin.ext (by show t.val / 8 % 2 * 512 + b.val = u.val / 8 % 2 * 512 + b.val; omega)

/-- After the last step of a run the accumulator holds the whole sum. -/
theorem acc_last (c : Dev nD) (t : Fin cfg0.N) (h : t.val % 8 = 7) (a : Fin 256) (b : Fin 512) :
    ((outsAt0 m c t.val t.isLt).2 : R256x512) (ix2 a b)
    = 0 + cell (V m c main_arg0) (V m c main_arg1) (row t a) (col t b) := by
  have key := run_tile (fun n hn => ((outsAt0 m c n hn).2 : R256x512) (ix2 a b)) 8 t.val t.isLt h
    (0) (part (V m c main_arg0) (V m c main_arg1) (row t a) (col t b))
    (fun u f e hu => by
      show ((outsAt0 m c u hu).2 : R256x512) (ix2 a b) = _
      rw [acc_first m c ⟨u, hu⟩ e, pay2_apply, part_apply, row_eq (u := t) f, col_eq (u := t) f]
      show _ + part _ _ _ _ (u % 8) = _
      rw [e])
    (fun u f e hu hu' => by
      show ((outsAt0 m c u hu).2 : R256x512) (ix2 a b) = _
      rw [acc_later m c ⟨u, hu⟩ e, pay3_apply, part_apply, row_eq (u := t) f, col_eq (u := t) f] <;> rfl)
  refine key.trans ?_
  congr 1
  rw [cell, Fin.sum_univ_tiles 8 256 rfl, ← Fin.sum_univ_eq_sum_range (part _ _ _ _) 8]
  refine Finset.sum_congr rfl fun q _ => ?_
  rw [part, dif_pos q.isLt]

/-- The result array after the run. -/
theorem final2 (c : Dev nD) : (dats m 0 c).arrAt 2 cfg0.N = G (V m c main_arg0) (V m c main_arg1) := by
  refine (dats m 0 c).arrAt_eq_of_covers 2 _ (by decide +kernel) fun t hf y => ?_
  have hl := (flush0_2 t).mp hf
  rw [after0_2, out_last m c t hl]
  obtain ⟨a, b, rfl⟩ := pair y
  rw [emb2]
  show (((outsAt0 m c t.val t.isLt).2 : R256x512)) (ix2 a b) = _
  rw [acc_last m c t hl, zero_add]
  rfl

/-- The slabs as one matrix, at an index. -/
theorem whole_apply (y : B8x1024x256) (r : Fin 1024) (j : Fin 2048) :
    shapeCast Cert.DMemnRefIdeal.S1024x2048 (transpose Cert.DMemnRefIdeal.S1024x8x256 [1, 0, 2] y Cert.DMemnRefIdeal.Facts₀.transposes_S8x1024x256_S1024x8x256_1_0_2) Cert.DMemnRefIdeal.Facts₀.shapeCasts_S1024x8x256_S1024x2048 (ix2 r j) = y (ix3 (hi j) r (lo j)) := by
  rw [Pointwise.shapeCast_apply, Shape.reshapeEquiv_eq_of_vals (y := ix3 r (hi j) (lo j)) (hB := rowMajor_val2 _ _ rfl) (hA := rowMajor_val3 _ _ _ rfl rfl)]
  · pointwise
  · show r.val * (8 * 256) + j.val / 256 * 256 + j.val % 256 = r.val * 2048 + j.val
    omega

/-- What the reference computes, at every index. -/
theorem ref_eq (x : R256x2048) (y : B8x1024x256) :
    Host.dotGeneral (F := Ideal) (φ₁ := .f32) (φ₂ := .f32) Cert.DMemnRefIdeal.dot_S256x2048_S1024x2048_S256x1024_1_1_0_0_n_n none x (extf .f32 (shapeCast Cert.DMemnRefIdeal.S1024x2048 (transpose Cert.DMemnRefIdeal.S1024x8x256 [1, 0, 2] y Cert.DMemnRefIdeal.Facts₀.transposes_S8x1024x256_S1024x8x256_1_0_2) Cert.DMemnRefIdeal.Facts₀.shapeCasts_S1024x8x256_S1024x2048) Cert.DMemnRefIdeal.Facts₀.bitsLt_bf16_f32) = G x y := by
  funext i
  obtain ⟨a, b, rfl⟩ : ∃ (a : Fin 256) (b : Fin 1024), i = ix2 a b := ⟨i 0, i 1, eq_ix2 i⟩
  have e := whole_apply y
  generalize shapeCast Cert.DMemnRefIdeal.S1024x2048 (transpose Cert.DMemnRefIdeal.S1024x8x256 [1, 0, 2] y Cert.DMemnRefIdeal.Facts₀.transposes_S8x1024x256_S1024x8x256_1_0_2) Cert.DMemnRefIdeal.Facts₀.shapeCasts_S1024x8x256_S1024x2048 = u at e ⊢
  pointwise
  unfold G cell
  simp only [e]
  rfl

/-- The claim of the call: kernel and reference end with the same array. -/
theorem algebraic : Cert.algebraic_DMemnIdeal_DMemnRefIdeal := fun m ρ m' ρ' _ hag =>
  ⟨fun c => G (V m c main_arg0) (V m c main_arg1),
   (θ_run _ _ _).mono (fun _ h c => ⟨(h c).1.trans (final2 m c), (h c).2⟩) (Value.run_blocks m ρ),
   (θ_run _ _ _).mono (fun _ h c => ⟨(h c).1.trans (by rw [(hag c).1, (hag c).2]; exact ref_eq _ _ ), (h c).2⟩)
     (Cert.DMemnRefIdeal.Value.run m' ρ')⟩

end Cert.DMemnProof

end
-- ==== Proof.DYb.lean ====
/- The gradient through the recurrence's output product (`d_yb_in`): what the kernel leaves in its result, and that the reference leaves the same. -/
module

public import proofs.«01_k».proof.Defs
public import proofs.«01_k».proof.Proof.Gen.DYbIdeal.Value
public import proofs.«01_k».proof.Proof.Gen.DYbRefIdeal.Run
public import proofs.«01_k».proof.Proof.Shared

@[expose] public section

set_option maxRecDepth 16384

noncomputable section

namespace Cert.DYbProof

open Cert.DYbIdeal Cert.DYbIdeal.Gen Idealize.ShloMosaic Idealize.ShloMosaic.TcCoe Idealize.SL.Sem
open Idealize.ShloMosaic.Pointwise Cert.Shared

/-! Arrays by their shapes. -/
abbrev B2048x1024 := Vec Ideal S2048x1024 .bf16
abbrev B4096x1024 := Vec Ideal S4096x1024 .bf16

/-- Entry `i, j` of the product. -/
def cell (x : B4096x1024) (y : B2048x1024) (i : Fin 4096) (j : Fin 2048) : EReal := ∑ k : Fin 1024, x (ix2 i k) * y (ix2 j k)

/-- The result array. -/
def G (x : B4096x1024) (y : B2048x1024) : Vec Ideal S4096x2048 .bf16 := fun i => cell x y (i 0) (i 1)

/-! What one grid point computes. -/

theorem pay_apply (x : B2048x1024) (y : Vec Ideal S512x1024 .bf16) (a : Fin 2048) (b : Fin 512) :
    k0_pay1 x y (ix2 a b) = ∑ k : Fin 1024, x (ix2 a k) * y (ix2 b k) := by
  pointwise [k0_pay1]

variable (m : (ℓ : Loc nD τ sig) → Buf (Elt Ideal) ℓ)

/-- The block indices at point `t`: 2 row tiles by 4 column tiles by 1 steps of the sum. -/
theorem idx : ∀ t : Fin cfg0.N, t.val < 8
    ∧ (win0_0.index t (0 : Fin 2) = t.val / 4 ∧ win0_0.index t (1 : Fin 2) = 0)
    ∧ (win0_1.index t (0 : Fin 2) = t.val % 4 ∧ win0_1.index t (1 : Fin 2) = 0)
    ∧ (win0_2.index t (0 : Fin 2) = t.val / 4 ∧ win0_2.index t (1 : Fin 2) = t.val % 4) :=
  (by decide +kernel : ∀ t : Fin grid0.N, _)

/-- Row `a` and column `b` of point `t`'s block, in the whole arrays. -/
def row (t : Fin cfg0.N) (a : Fin 2048) : Fin 4096 := ⟨t.val / 4 * 2048 + a.val, by have := (idx t).1; omega⟩
def col (t : Fin cfg0.N) (b : Fin 512) : Fin 2048 := ⟨t.val % 4 * 512 + b.val, by have := (idx t).1; omega⟩

theorem emb0 (t : Fin cfg0.N) (a : Fin 2048) (k : Fin 1024) : ((cfg0.win 0).blk t).view.emb (ix2 a k) = ix2 (row t a) k := by
  obtain ⟨-, ⟨e0, e1⟩, -⟩ := idx t
  refine ext2 ?_ ?_
  · show win0_0.index t (0 : Fin 2) * 2048 + 1 * a.val = t.val / 4 * 2048 + a.val; rw [e0]; omega
  · show win0_0.index t (1 : Fin 2) * 1024 + 1 * k.val = k.val; rw [e1]; omega

theorem emb1 (t : Fin cfg0.N) (b : Fin 512) (k : Fin 1024) : ((cfg0.win 1).blk t).view.emb (ix2 b k) = ix2 (col t b) k := by
  obtain ⟨-, -, ⟨e0, e1⟩, -⟩ := idx t
  refine ext2 ?_ ?_
  · show win0_1.index t (0 : Fin 2) * 512 + 1 * b.val = t.val % 4 * 512 + b.val; rw [e0]; omega
  · show win0_1.index t (1 : Fin 2) * 1024 + 1 * k.val = k.val; rw [e1]; omega

theorem emb2 (t : Fin cfg0.N) (a : Fin 2048) (b : Fin 512) : ((cfg0.win 2).blk t).view.emb (ix2 a b) = ix2 (row t a) (col t b) := by
  obtain ⟨-, -, -, e0, e1⟩ := idx t
  refine ext2 ?_ ?_
  · show win0_2.index t (0 : Fin 2) * 2048 + 1 * a.val = t.val / 4 * 2048 + a.val; rw [e0]; omega
  · show win0_2.index t (1 : Fin 2) * 512 + 1 * b.val = t.val % 4 * 512 + b.val; rw [e1]; omega

/-- The argument blocks of point `t`, at one index each. -/
theorem iblk0_apply (c : Dev nD) (t : Fin cfg0.N) (a : Fin 2048) (k : Fin 1024) : (iblk m c 0 t : B2048x1024) (ix2 a k)
    = (V m c main_arg0 : B4096x1024) (ix2 (row t a) k) :=
  congrArg (V m c main_arg0) (emb0 t a k)
theorem iblk1_apply (c : Dev nD) (t : Fin cfg0.N) (b : Fin 512) (k : Fin 1024) : (iblk m c 1 t : Vec Ideal S512x1024 .bf16) (ix2 b k)
    = (V m c main_arg1 : B2048x1024) (ix2 (col t b) k) :=
  congrArg (V m c main_arg1) (emb1 t b k)

/-- The result array after the run. -/
theorem final2 (c : Dev nD) : (dats m 0 c).arrAt 2 cfg0.N = G (V m c main_arg0) (V m c main_arg1) := by
  refine (dats m 0 c).arrAt_eq_of_covers 2 _ (by decide +kernel) fun t _ y => ?_
  rw [after0_2]
  unfold out0_2
  rw [View.canon_unit_zero hz, View.ld_unit_zero hz, View.ld_unit_zero hz]
  obtain ⟨a, b, rfl⟩ := pair y
  rw [emb2]
  show k0_pay1 (iblk m c 0 t) (iblk m c 1 t) (ix2 a b) = _
  rw [pay_apply]
  simp only [iblk0_apply, iblk1_apply]
  rfl

/-- What the reference computes, at every index. -/
theorem ref_eq (x : B4096x1024) (y : B2048x1024) :
    truncf (F := Ideal) (φ := .f32) .bf16 (Host.dotGeneral (F := Ideal) (φ₁ := .f32) (φ₂ := .f32) Cert.DYbRefIdeal.dot_S4096x1024_S2048x1024_S4096x2048_1_1_0_0_n_n none (extf .f32 x Cert.DYbRefIdeal.Facts₀.bitsLt_bf16_f32) (extf .f32 y Cert.DYbRefIdeal.Facts₀.bitsLt_bf16_f32)) Cert.DYbRefIdeal.Facts₀.bitsLt_bf16_f32 = G x y := by
  funext i
  obtain ⟨a, b, rfl⟩ : ∃ (a : Fin 4096) (b : Fin 2048), i = ix2 a b := ⟨i 0, i 1, eq_ix2 i⟩
  pointwise
  rfl

/-- The claim of the call: kernel and reference end with the same array. -/
theorem algebraic : Cert.algebraic_DYbIdeal_DYbRefIdeal := fun m ρ m' ρ' _ hag =>
  ⟨fun c => G (V m c main_arg0) (V m c main_arg1),
   (θ_run _ _ _).mono (fun _ h c => ⟨(h c).1.trans (final2 m c), (h c).2⟩) (Value.run_blocks m ρ),
   (θ_run _ _ _).mono (fun _ h c => ⟨(h c).1.trans (by rw [(hag c).1, (hag c).2]; exact ref_eq _ _ ), (h c).2⟩)
     (Cert.DYbRefIdeal.Value.run m' ρ')⟩

end Cert.DYbProof

end
-- ==== Proof.DwSsd.lean ====
/- The gradient of the recurrence's output weight (`dw_ssd_out`): what the kernel leaves in its result, and that the reference leaves the same. -/
module

public import proofs.«01_k».proof.Defs
public import proofs.«01_k».proof.Proof.Gen.DwSsdIdeal.Value
public import proofs.«01_k».proof.Proof.Gen.DwSsdRefIdeal.Run
public import proofs.«01_k».proof.Proof.Shared

@[expose] public section

set_option maxRecDepth 16384

noncomputable section

namespace Cert.DwSsdProof

open Cert.DwSsdIdeal Cert.DwSsdIdeal.Gen Idealize.ShloMosaic Idealize.ShloMosaic.TcCoe Idealize.SL.Sem
open Idealize.ShloMosaic.Pointwise Cert.Shared

/-! Arrays by their shapes. -/
abbrev B4096x2048 := Vec Ideal S4096x2048 .bf16
abbrev B4096x1024 := Vec Ideal S4096x1024 .bf16
abbrev R1024x512 := Vec Ideal S1024x512 .f32
abbrev B1024x1024 := Vec Ideal S1024x1024 .bf16
abbrev B1024x512 := Vec Ideal S1024x512 .bf16

/-- Entry `i, j` of the product. -/
def cell (x : B4096x2048) (y : B4096x1024) (i : Fin 2048) (j : Fin 1024) : EReal := ∑ k : Fin 4096, x (ix2 k i) * y (ix2 k j)

/-- The result array. -/
def G (x : B4096x2048) (y : B4096x1024) : Vec Ideal S2048x1024 .bf16 := fun i => cell x y (i 0) (i 1)

/-! What one grid point computes. -/

theorem pay1_apply (x : B1024x1024) (y : B1024x512) (a : Fin 1024) (b : Fin 512) :
    k0_pay1 x y (ix2 a b) = ∑ k : Fin 1024, x (ix2 k a) * y (ix2 k b) := by
  pointwise [k0_pay1]

theorem pay2_apply (x : B1024x1024) (y : B1024x512) (a : Fin 1024) (b : Fin 512) :
    k0_pay2 x y (ix2 a b) = 0 + k0_pay1 x y (ix2 a b) := by
  pointwise [k0_pay2]

theorem pay3_apply (x : B1024x1024) (y : B1024x512) (s : R1024x512) (a : Fin 1024) (b : Fin 512) :
    k0_pay3 x y s (ix2 a b) = s (ix2 a b) + k0_pay1 x y (ix2 a b) := by
  pointwise [k0_pay3]

theorem pay4_apply (s : R1024x512) (a : Fin 1024) (b : Fin 512) : k0_pay4 s (ix2 a b) = s (ix2 a b) := by
  pointwise [k0_pay4]

variable (m : (ℓ : Loc nD τ sig) → Buf (Elt Ideal) ℓ)

/-- The block indices at point `t`: 2 row tiles by 2 column tiles by 4 steps of the sum. -/
theorem idx : ∀ t : Fin cfg0.N, t.val < 16
    ∧ (win0_0.index t (0 : Fin 2) = t.val % 4 ∧ win0_0.index t (1 : Fin 2) = t.val / 8)
    ∧ (win0_1.index t (0 : Fin 2) = t.val % 4 ∧ win0_1.index t (1 : Fin 2) = t.val / 4 % 2)
    ∧ (win0_2.index t (0 : Fin 2) = t.val / 8 ∧ win0_2.index t (1 : Fin 2) = t.val / 4 % 2) :=
  (by decide +kernel : ∀ t : Fin grid0.N, _)

/-- Row `a` and column `b` of point `t`'s block, and its step `k` of the sum, in the whole arrays. -/
def row (t : Fin cfg0.N) (a : Fin 1024) : Fin 2048 := ⟨t.val / 8 * 1024 + a.val, by have := (idx t).1; omega⟩
def col (t : Fin cfg0.N) (b : Fin 512) : Fin 1024 := ⟨t.val / 4 % 2 * 512 + b.val, by have := (idx t).1; omega⟩
def stp (t : Fin cfg0.N) (k : Fin 1024) : Fin 4096 := ⟨t.val % 4 * 1024 + k.val, by have := (idx t).1; omega⟩

theorem emb0 (t : Fin cfg0.N) (a : Fin 1024) (k : Fin 1024) : ((cfg0.win 0).blk t).view.emb (ix2 k a) = ix2 (stp t k) (row t a) := by
  obtain ⟨-, ⟨e0, e1⟩, -⟩ := idx t
  refine ext2 ?_ ?_
  · show win0_0.index t (0 : Fin 2) * 1024 + 1 * k.val = t.val % 4 * 1024 + k.val; rw [e0]; omega
  · show win0_0.index t (1 : Fin 2) * 1024 + 1 * a.val = t.val / 8 * 1024 + a.val; rw [e1]; omega

theorem emb1 (t : Fin cfg0.N) (b : Fin 512) (k : Fin 1024) : ((cfg0.win 1).blk t).view.emb (ix2 k b) = ix2 (stp t k) (col t b) := by
  obtain ⟨-, -, ⟨e0, e1⟩, -⟩ := idx t
  refine ext2 ?_ ?_
  · show win0_1.index t (0 : Fin 2) * 1024 + 1 * k.val = t.val % 4 * 1024 + k.val; rw [e0]; omega
  · show win0_1.index t (1 : Fin 2) * 512 + 1 * b.val = t.val / 4 % 2 * 512 + b.val; rw [e1]; omega

theorem emb2 (t : Fin cfg0.N) (a : Fin 1024) (b : Fin 512) : ((cfg0.win 2).blk t).view.emb (ix2 a b) = ix2 (row t a) (col t b) := by
  obtain ⟨-, -, -, e0, e1⟩ := idx t
  refine ext2 ?_ ?_
  · show win0_2.index t (0 : Fin 2) * 1024 + 1 * a.val = t.val / 8 * 1024 + a.val; rw [e0]; omega
  · show win0_2.index t (1 : Fin 2) * 512 + 1 * b.val = t.val / 4 % 2 * 512 + b.val; rw [e1]; omega

/-- The argument blocks of point `t`, at one index each. -/
theorem iblk0_apply (c : Dev nD) (t : Fin cfg0.N) (a : Fin 1024) (k : Fin 1024) : (iblk m c 0 t : B1024x1024) (ix2 k a)
    = (V m c main_arg0 : B4096x2048) (ix2 (stp t k) (row t a)) :=
  congrArg (V m c main_arg0) (emb0 t a k)
theorem iblk1_apply (c : Dev nD) (t : Fin cfg0.N) (b : Fin 512) (k : Fin 1024) : (iblk m c 1 t : B1024x512) (ix2 k b)
    = (V m c main_arg1 : B4096x1024) (ix2 (stp t k) (col t b)) :=
  congrArg (V m c main_arg1) (emb1 t b k)

/-! What the accumulator and the result's block hold. -/

theorem acc_first (c : Dev nD) (t : Fin cfg0.N) (h : t.val % 4 = 0) : (outsAt0 m c t.val t.isLt).2 = k0_pay2 (iblk m c 0 t) (iblk m c 1 t) := by
  have ht := (idx t).1
  rw [outsAt0_A m c t h (by omega) (by omega)]
  frame_out
theorem acc_later (c : Dev nD) (t : Fin cfg0.N) (h : ¬t.val % 4 = 0) : (outsAt0 m c t.val t.isLt).2
    = k0_pay3 (iblk m c 0 t) (iblk m c 1 t) (outsAt0 m c (t.val - 1) (Nat.sub_lt_of_lt t.isLt)).2 := by
  have ht := (idx t).1
  by_cases hl : t.val % 4 = 3
  · rw [outsAt0_C m c t h (by omega) hl]
    frame_out
    rw [read_unread_whole]
  · rw [outsAt0_B m c t h (by omega) hl]
    frame_out
    rw [read_unread_whole]
theorem out_last (c : Dev nD) (t : Fin cfg0.N) (h : t.val % 4 = 3) : (outsAt0 m c t.val t.isLt).1 = k0_pay4 (outsAt0 m c t.val t.isLt).2 := by
  have ht := (idx t).1
  rw [outsAt0_C m c t (by omega) (by omega) (by omega)]
  frame_out

/-- One step's part of a sum, over the whole arrays. -/
def part (x : B4096x2048) (y : B4096x1024) (i : Fin 2048) (j : Fin 1024) (q : Nat) : EReal :=
  if h : q < 4 then ∑ k : Fin 1024, x (ix2 ⟨q * 1024 + k.val, by omega⟩ i) * y (ix2 ⟨q * 1024 + k.val, by omega⟩ j) else 0
theorem part_apply (c : Dev nD) (t : Fin cfg0.N) (a : Fin 1024) (b : Fin 512) : k0_pay1 (iblk m c 0 t) (iblk m c 1 t) (ix2 a b)
    = part (V m c main_arg0) (V m c main_arg1) (row t a) (col t b) (t.val % 4) := by
  rw [pay1_apply, part, dif_pos (Nat.mod_lt _ (by decide))]
  simp only [iblk0_apply, iblk1_apply]
  rfl
theorem row_eq {t u : Fin cfg0.N} (h : t.val / 4 = u.val / 4) (a : Fin 1024) : row t a = row u a :=
  Fin.ext (by show t.val / 8 * 1024 + a.val = u.val / 8 * 1024 + a.val; omega)
theorem col_eq {t u : Fin cfg0.N} (h : t.val / 4 = u.val / 4) (b : Fin 512) : col t b = col u b :=
  Fin.ext (by show t.val / 4 % 2 * 512 + b.val = u.val / 4 % 2 * 512 + b.val; omega)

/-- After the last step of a run the accumulator holds the whole sum. -/
theorem acc_last (c : Dev nD) (t : Fin cfg0.N) (h : t.val % 4 = 3) (a : Fin 1024) (b : Fin 512) :
    ((outsAt0 m c t.val t.isLt).2 : R1024x512) (ix2 a b)
    = 0 + cell (V m c main_arg0) (V m c main_arg1) (row t a) (col t b) := by
  have key := run_tile (fun n hn => ((outsAt0 m c n hn).2 : R1024x512) (ix2 a b)) 4 t.val t.isLt h
    (0) (part (V m c main_arg0) (V m c main_arg1) (row t a) (col t b))
    (fun u f e hu => by
      show ((outsAt0 m c u hu).2 : R1024x512) (ix2 a b) = _
      rw [acc_first m c ⟨u, hu⟩ e, pay2_apply, part_apply, row_eq (u := t) f, col_eq (u := t) f]
      show _ + part _ _ _ _ (u % 4) = _
      rw [e])
    (fun u f e hu hu' => by
      show ((outsAt0 m c u hu).2 : R1024x512) (ix2 a b) = _
      rw [acc_later m c ⟨u, hu⟩ e, pay3_apply, part_apply, row_eq (u := t) f, col_eq (u := t) f] <;> rfl)
  refine key.trans ?_
  congr 1
  rw [cell, Fin.sum_univ_tiles 4 1024 rfl, ← Fin.sum_univ_eq_sum_range (part _ _ _ _) 4]
  refine Finset.sum_congr rfl fun q _ => ?_
  rw [part, dif_pos q.isLt]

/-- The result array after the run. -/
theorem final2 (c : Dev nD) : (dats m 0 c).arrAt 2 cfg0.N = G (V m c main_arg0) (V m c main_arg1) := by
  refine (dats m 0 c).arrAt_eq_of_covers 2 _ (by decide +kernel) fun t hf y => ?_
  have hl := (flush0_2 t).mp hf
  rw [after0_2, out_last m c t hl]
  obtain ⟨a, b, rfl⟩ := pair y
  rw [emb2]
  show k0_pay4 ((outsAt0 m c t.val t.isLt).2) (ix2 a b) = _
  rw [pay4_apply, acc_last m c t hl, zero_add]
  rfl

/-- What the reference computes, at every index. -/
theorem ref_eq (x : B4096x2048) (y : B4096x1024) :
    truncf (F := Ideal) (φ := .f32) .bf16 (transpose Cert.DwSsdRefIdeal.S2048x1024 [1, 0] (Host.dotGeneral (F := Ideal) (φ₁ := .f32) (φ₂ := .f32) Cert.DwSsdRefIdeal.dot_S4096x1024_S4096x2048_S1024x2048_0_0_1_1_n_n none (extf .f32 y Cert.DwSsdRefIdeal.Facts₀.bitsLt_bf16_f32) (extf .f32 x Cert.DwSsdRefIdeal.Facts₀.bitsLt_bf16_f32)) Cert.DwSsdRefIdeal.Facts₀.transposes_S1024x2048_S2048x1024_1_0) Cert.DwSsdRefIdeal.Facts₀.bitsLt_bf16_f32 = G x y := by
  funext i
  obtain ⟨a, b, rfl⟩ : ∃ (a : Fin 2048) (b : Fin 1024), i = ix2 a b := ⟨i 0, i 1, eq_ix2 i⟩
  pointwise
  exact Finset.sum_congr rfl fun k _ => mul_comm _ _

/-- The claim of the call: kernel and reference end with the same array. -/
theorem algebraic : Cert.algebraic_DwSsdIdeal_DwSsdRefIdeal := fun m ρ m' ρ' _ hag =>
  ⟨fun c => G (V m c main_arg0) (V m c main_arg1),
   (θ_run _ _ _).mono (fun _ h c => ⟨(h c).1.trans (final2 m c), (h c).2⟩) (Value.run_blocks m ρ),
   (θ_run _ _ _).mono (fun _ h c => ⟨(h c).1.trans (by rw [(hag c).1, (hag c).2]; exact ref_eq _ _ ), (h c).2⟩)
     (Cert.DwSsdRefIdeal.Value.run m' ρ')⟩

end Cert.DwSsdProof

end
-- ==== Proof.DuAg.lean ====
/- One summand of the gradient through the input projection (`d_u_ag`): what the kernel leaves in its result, and that the reference leaves the same. -/
module

public import proofs.«01_k».proof.Defs
public import proofs.«01_k».proof.Proof.Gen.DuAgIdeal.Value
public import proofs.«01_k».proof.Proof.Gen.DuAgRefIdeal.Run
public import proofs.«01_k».proof.Proof.Shared

@[expose] public section

set_option maxRecDepth 16384

noncomputable section

namespace Cert.DuAgProof

open Cert.DuAgIdeal Cert.DuAgIdeal.Gen Idealize.ShloMosaic Idealize.ShloMosaic.TcCoe Idealize.SL.Sem
open Idealize.ShloMosaic.Pointwise Cert.Shared

/-! Arrays by their shapes. -/
abbrev B1024x1024 := Vec Ideal S1024x1024 .bf16
abbrev R4096x1024 := Vec Ideal S4096x1024 .f32
abbrev B4096x1024 := Vec Ideal S4096x1024 .bf16

/-- Entry `i, j` of the product. -/
def cell (x : B4096x1024) (y : B1024x1024) (i : Fin 4096) (j : Fin 1024) : EReal := ∑ k : Fin 1024, x (ix2 i k) * y (ix2 j k)

/-- The result array. -/
def G (x : B4096x1024) (y : B1024x1024) (z : R4096x1024) : R4096x1024 := fun i => z i + cell x y (i 0) (i 1)

/-- The array added, at a row and a column. -/
def at2 (z : R4096x1024) (i : Fin 4096) (j : Fin 1024) : EReal := z (ix2 i j)

/-! What one grid point computes. -/

theorem pay_apply (x : B1024x1024) (y : Vec Ideal S512x1024 .bf16) (z : Vec Ideal S1024x512 .f32) (a : Fin 1024) (b : Fin 512) :
    k0_pay1 x y z (ix2 a b) = z (ix2 a b) + ∑ k : Fin 1024, x (ix2 a k) * y (ix2 b k) := by
  pointwise [k0_pay1]
  exact add_comm _ _

variable (m : (ℓ : Loc nD τ sig) → Buf (Elt Ideal) ℓ)

/-- The block indices at point `t`: 4 row tiles by 2 column tiles by 1 steps of the sum. -/
theorem idx : ∀ t : Fin cfg0.N, t.val < 8
    ∧ (win0_0.index t (0 : Fin 2) = t.val / 2 ∧ win0_0.index t (1 : Fin 2) = 0)
    ∧ (win0_1.index t (0 : Fin 2) = t.val % 2 ∧ win0_1.index t (1 : Fin 2) = 0)
    ∧ (win0_2.index t (0 : Fin 2) = t.val / 2 ∧ win0_2.index t (1 : Fin 2) = t.val % 2)
    ∧ (win0_3.index t (0 : Fin 2) = t.val / 2 ∧ win0_3.index t (1 : Fin 2) = t.val % 2) :=
  (by decide +kernel : ∀ t : Fin grid0.N, _)

/-- Row `a` and column `b` of point `t`'s block, in the whole arrays. -/
def row (t : Fin cfg0.N) (a : Fin 1024) : Fin 4096 := ⟨t.val / 2 * 1024 + a.val, by have := (idx t).1; omega⟩
def col (t : Fin cfg0.N) (b : Fin 512) : Fin 1024 := ⟨t.val % 2 * 512 + b.val, by have := (idx t).1; omega⟩

theorem emb0 (t : Fin cfg0.N) (a : Fin 1024) (k : Fin 1024) : ((cfg0.win 0).blk t).view.emb (ix2 a k) = ix2 (row t a) k := by
  obtain ⟨-, ⟨e0, e1⟩, -⟩ := idx t
  refine ext2 ?_ ?_
  · show win0_0.index t (0 : Fin 2) * 1024 + 1 * a.val = t.val / 2 * 1024 + a.val; rw [e0]; omega
  · show win0_0.index t (1 : Fin 2) * 1024 + 1 * k.val = k.val; rw [e1]; omega

theorem emb1 (t : Fin cfg0.N) (b : Fin 512) (k : Fin 1024) : ((cfg0.win 1).blk t).view.emb (ix2 b k) = ix2 (col t b) k := by
  obtain ⟨-, -, ⟨e0, e1⟩, -⟩ := idx t
  refine ext2 ?_ ?_
  · show win0_1.index t (0 : Fin 2) * 512 + 1 * b.val = t.val % 2 * 512 + b.val; rw [e0]; omega
  · show win0_1.index t (1 : Fin 2) * 1024 + 1 * k.val = k.val; rw [e1]; omega

theorem emb2 (t : Fin cfg0.N) (a : Fin 1024) (b : Fin 512) : ((cfg0.win 2).blk t).view.emb (ix2 a b) = ix2 (row t a) (col t b) := by
  obtain ⟨-, -, -, ⟨e0, e1⟩, -⟩ := idx t
  refine ext2 ?_ ?_
  · show win0_2.index t (0 : Fin 2) * 1024 + 1 * a.val = t.val / 2 * 1024 + a.val; rw [e0]; omega
  · show win0_2.index t (1 : Fin 2) * 512 + 1 * b.val = t.val % 2 * 512 + b.val; rw [e1]; omega

theorem emb3 (t : Fin cfg0.N) (a : Fin 1024) (b : Fin 512) : ((cfg0.win 3).blk t).view.emb (ix2 a b) = ix2 (row t a) (col t b) := by
  obtain ⟨-, -, -, -, e0, e1⟩ := idx t
  refine ext2 ?_ ?_
  · show win0_3.index t (0 : Fin 2) * 1024 + 1 * a.val = t.val / 2 * 1024 + a.val; rw [e0]; omega
  · show win0_3.index t (1 : Fin 2) * 512 + 1 * b.val = t.val % 2 * 512 + b.val; rw [e1]; omega

/-- The argument blocks of point `t`, at one index each. -/
theorem iblk0_apply (c : Dev nD) (t : Fin cfg0.N) (a : Fin 1024) (k : Fin 1024) : (iblk m c 0 t : B1024x1024) (ix2 a k)
    = (V m c main_arg0 : B4096x1024) (ix2 (row t a) k) :=
  congrArg (V m c main_arg0) (emb0 t a k)
theorem iblk1_apply (c : Dev nD) (t : Fin cfg0.N) (b : Fin 512) (k : Fin 1024) : (iblk m c 1 t : Vec Ideal S512x1024 .bf16) (ix2 b k)
    = (V m c main_arg1 : B1024x1024) (ix2 (col t b) k) :=
  congrArg (V m c main_arg1) (emb1 t b k)
theorem iblk2_apply (c : Dev nD) (t : Fin cfg0.N) (a : Fin 1024) (b : Fin 512) : (iblk m c 2 t : Vec Ideal S1024x512 .f32) (ix2 a b)
    = (V m c main_arg2 : R4096x1024) (ix2 (row t a) (col t b)) :=
  congrArg (V m c main_arg2) (emb2 t a b)

/-- The result array after the run. -/
theorem final3 (c : Dev nD) : (dats m 0 c).arrAt 3 cfg0.N = G (V m c main_arg0) (V m c main_arg1) (V m c main_arg2) := by
  refine (dats m 0 c).arrAt_eq_of_covers 3 _ (by decide +kernel) fun t _ y => ?_
  rw [after0_3]
  unfold out0_3
  rw [View.canon_unit_zero hz, View.ld_unit_zero hz, View.ld_unit_zero hz, View.ld_unit_zero hz]
  obtain ⟨a, b, rfl⟩ := pair y
  rw [emb3]
  show k0_pay1 (iblk m c 0 t) (iblk m c 1 t) (iblk m c 2 t) (ix2 a b) = _
  rw [pay_apply]
  simp only [iblk0_apply, iblk1_apply, iblk2_apply]
  rfl

/-- What the reference computes, at every index. -/
theorem ref_eq (x : B4096x1024) (y : B1024x1024) (z : R4096x1024) :
    addf (F := Ideal) z (Host.dotGeneral (F := Ideal) (φ₁ := .f32) (φ₂ := .f32) Cert.DuAgRefIdeal.dot_S4096x1024_S1024x1024_S4096x1024_1_1_0_0_n_n none (extf .f32 x Cert.DuAgRefIdeal.Facts₀.bitsLt_bf16_f32) (extf .f32 y Cert.DuAgRefIdeal.Facts₀.bitsLt_bf16_f32)) = G x y z := by
  funext i
  obtain ⟨a, b, rfl⟩ : ∃ (a : Fin 4096) (b : Fin 1024), i = ix2 a b := ⟨i 0, i 1, eq_ix2 i⟩
  pointwise
  rfl

/-- The claim of the call: kernel and reference end with the same array. -/
theorem algebraic : Cert.algebraic_DuAgIdeal_DuAgRefIdeal := fun m ρ m' ρ' _ hag =>
  ⟨fun c => G (V m c main_arg0) (V m c main_arg1) (V m c main_arg2),
   (θ_run _ _ _).mono (fun _ h c => ⟨(h c).1.trans (final3 m c), (h c).2⟩) (Value.run_blocks m ρ),
   (θ_run _ _ _).mono (fun _ h c => ⟨(h c).1.trans (by rw [(hag c).1, (hag c).2.1, (hag c).2.2]; exact ref_eq _ _ _ ), (h c).2⟩)
     (Cert.DuAgRefIdeal.Value.run m' ρ')⟩

end Cert.DuAgProof

end
-- ==== Proof.DuZ.lean ====
/- One summand of the gradient through the input projection (`d_u_z`): what the kernel leaves in its result, and that the reference leaves the same. -/
module

public import proofs.«01_k».proof.Defs
public import proofs.«01_k».proof.Proof.Gen.DuZIdeal.Value
public import proofs.«01_k».proof.Proof.Gen.DuZRefIdeal.Run
public import proofs.«01_k».proof.Proof.Shared

@[expose] public section

set_option maxRecDepth 16384

noncomputable section

namespace Cert.DuZProof

open Cert.DuZIdeal Cert.DuZIdeal.Gen Idealize.ShloMosaic Idealize.ShloMosaic.TcCoe Idealize.SL.Sem
open Idealize.ShloMosaic.Pointwise Cert.Shared

/-! Arrays by their shapes. -/
abbrev R1024x512 := Vec Ideal S1024x512 .f32
abbrev B4096x2048 := Vec Ideal S4096x2048 .bf16
abbrev B1024x2048 := Vec Ideal S1024x2048 .bf16
abbrev R4096x1024 := Vec Ideal S4096x1024 .f32
abbrev B1024x1024 := Vec Ideal S1024x1024 .bf16
abbrev B512x1024 := Vec Ideal S512x1024 .bf16

/-- Entry `i, j` of the product. -/
def cell (x : B4096x2048) (y : B1024x2048) (i : Fin 4096) (j : Fin 1024) : EReal := ∑ k : Fin 2048, x (ix2 i k) * y (ix2 j k)

/-- The result array. -/
def G (x : B4096x2048) (y : B1024x2048) (z : R4096x1024) : R4096x1024 := fun i => z i + cell x y (i 0) (i 1)

/-- The array added, at a row and a column. -/
def at2 (z : R4096x1024) (i : Fin 4096) (j : Fin 1024) : EReal := z (ix2 i j)

/-! What one grid point computes. -/

theorem pay1_apply (x : B1024x1024) (y : B512x1024) (a : Fin 1024) (b : Fin 512) :
    k0_pay1 x y (ix2 a b) = ∑ k : Fin 1024, x (ix2 a k) * y (ix2 b k) := by
  pointwise [k0_pay1]

theorem pay2_apply (x : B1024x1024) (y : B512x1024) (z : R1024x512) (a : Fin 1024) (b : Fin 512) :
    k0_pay2 x y z (ix2 a b) = z (ix2 a b) + k0_pay1 x y (ix2 a b) := by
  pointwise [k0_pay2]
  exact add_comm _ _

theorem pay3_apply (x : B1024x1024) (y : B512x1024) (s : R1024x512) (a : Fin 1024) (b : Fin 512) :
    k0_pay3 x y s (ix2 a b) = s (ix2 a b) + k0_pay1 x y (ix2 a b) := by
  pointwise [k0_pay3]

variable (m : (ℓ : Loc nD τ sig) → Buf (Elt Ideal) ℓ)

/-- The block indices at point `t`: 4 row tiles by 2 column tiles by 2 steps of the sum. -/
theorem idx : ∀ t : Fin cfg0.N, t.val < 16
    ∧ (win0_0.index t (0 : Fin 2) = t.val / 4 ∧ win0_0.index t (1 : Fin 2) = t.val % 2)
    ∧ (win0_1.index t (0 : Fin 2) = t.val / 2 % 2 ∧ win0_1.index t (1 : Fin 2) = t.val % 2)
    ∧ (win0_2.index t (0 : Fin 2) = t.val / 4 ∧ win0_2.index t (1 : Fin 2) = t.val / 2 % 2)
    ∧ (win0_3.index t (0 : Fin 2) = t.val / 4 ∧ win0_3.index t (1 : Fin 2) = t.val / 2 % 2) :=
  (by decide +kernel : ∀ t : Fin grid0.N, _)

/-- Row `a` and column `b` of point `t`'s block, and its step `k` of the sum, in the whole arrays. -/
def row (t : Fin cfg0.N) (a : Fin 1024) : Fin 4096 := ⟨t.val / 4 * 1024 + a.val, by have := (idx t).1; omega⟩
def col (t : Fin cfg0.N) (b : Fin 512) : Fin 1024 := ⟨t.val / 2 % 2 * 512 + b.val, by have := (idx t).1; omega⟩
def stp (t : Fin cfg0.N) (k : Fin 1024) : Fin 2048 := ⟨t.val % 2 * 1024 + k.val, by have := (idx t).1; omega⟩

theorem emb0 (t : Fin cfg0.N) (a : Fin 1024) (k : Fin 1024) : ((cfg0.win 0).blk t).view.emb (ix2 a k) = ix2 (row t a) (stp t k) := by
  obtain ⟨-, ⟨e0, e1⟩, -⟩ := idx t
  refine ext2 ?_ ?_
  · show win0_0.index t (0 : Fin 2) * 1024 + 1 * a.val = t.val / 4 * 1024 + a.val; rw [e0]; omega
  · show win0_0.index t (1 : Fin 2) * 1024 + 1 * k.val = t.val % 2 * 1024 + k.val; rw [e1]; omega

theorem emb1 (t : Fin cfg0.N) (b : Fin 512) (k : Fin 1024) : ((cfg0.win 1).blk t).view.emb (ix2 b k) = ix2 (col t b) (stp t k) := by
  obtain ⟨-, -, ⟨e0, e1⟩, -⟩ := idx t
  refine ext2 ?_ ?_
  · show win0_1.index t (0 : Fin 2) * 512 + 1 * b.val = t.val / 2 % 2 * 512 + b.val; rw [e0]; omega
  · show win0_1.index t (1 : Fin 2) * 1024 + 1 * k.val = t.val % 2 * 1024 + k.val; rw [e1]; omega

theorem emb2 (t : Fin cfg0.N) (a : Fin 1024) (b : Fin 512) : ((cfg0.win 2).blk t).view.emb (ix2 a b) = ix2 (row t a) (col t b) := by
  obtain ⟨-, -, -, ⟨e0, e1⟩, -⟩ := idx t
  refine ext2 ?_ ?_
  · show win0_2.index t (0 : Fin 2) * 1024 + 1 * a.val = t.val / 4 * 1024 + a.val; rw [e0]; omega
  · show win0_2.index t (1 : Fin 2) * 512 + 1 * b.val = t.val / 2 % 2 * 512 + b.val; rw [e1]; omega

theorem emb3 (t : Fin cfg0.N) (a : Fin 1024) (b : Fin 512) : ((cfg0.win 3).blk t).view.emb (ix2 a b) = ix2 (row t a) (col t b) := by
  obtain ⟨-, -, -, -, e0, e1⟩ := idx t
  refine ext2 ?_ ?_
  · show win0_3.index t (0 : Fin 2) * 1024 + 1 * a.val = t.val / 4 * 1024 + a.val; rw [e0]; omega
  · show win0_3.index t (1 : Fin 2) * 512 + 1 * b.val = t.val / 2 % 2 * 512 + b.val; rw [e1]; omega

/-- The argument blocks of point `t`, at one index each. -/
theorem iblk0_apply (c : Dev nD) (t : Fin cfg0.N) (a : Fin 1024) (k : Fin 1024) : (iblk m c 0 t : B1024x1024) (ix2 a k)
    = (V m c main_arg0 : B4096x2048) (ix2 (row t a) (stp t k)) :=
  congrArg (V m c main_arg0) (emb0 t a k)
theorem iblk1_apply (c : Dev nD) (t : Fin cfg0.N) (b : Fin 512) (k : Fin 1024) : (iblk m c 1 t : B512x1024) (ix2 b k)
    = (V m c main_arg1 : B1024x2048) (ix2 (col t b) (stp t k)) :=
  congrArg (V m c main_arg1) (emb1 t b k)
theorem iblk2_apply (c : Dev nD) (t : Fin cfg0.N) (a : Fin 1024) (b : Fin 512) : (iblk m c 2 t : R1024x512) (ix2 a b)
    = (V m c main_arg2 : R4096x1024) (ix2 (row t a) (col t b)) :=
  congrArg (V m c main_arg2) (emb2 t a b)

/-! What the accumulator and the result's block hold. -/

theorem acc_first (c : Dev nD) (t : Fin cfg0.N) (h : t.val % 2 = 0) : (outsAt0 m c t.val t.isLt).2 = k0_pay2 (iblk m c 0 t) (iblk m c 1 t) (iblk m c 2 t) := by
  have ht := (idx t).1
  rw [outsAt0_A m c t h (by omega) (by omega)]
  frame_out
theorem acc_later (c : Dev nD) (t : Fin cfg0.N) (h : ¬t.val % 2 = 0) : (outsAt0 m c t.val t.isLt).2
    = k0_pay3 (iblk m c 0 t) (iblk m c 1 t) (outsAt0 m c (t.val - 1) (Nat.sub_lt_of_lt t.isLt)).2 := by
  have ht := (idx t).1
  rw [outsAt0_B m c t h (by omega) (by omega)]
  frame_out
  rw [read_unread_whole]
theorem out_last (c : Dev nD) (t : Fin cfg0.N) (h : t.val % 2 = 1) : (outsAt0 m c t.val t.isLt).1 = (outsAt0 m c t.val t.isLt).2 := by
  have ht := (idx t).1
  rw [outsAt0_B m c t (by omega) (by omega) (by omega)]
  frame_out

/-- One step's part of a sum, over the whole arrays. -/
def part (x : B4096x2048) (y : B1024x2048) (i : Fin 4096) (j : Fin 1024) (q : Nat) : EReal :=
  if h : q < 2 then ∑ k : Fin 1024, x (ix2 i ⟨q * 1024 + k.val, by omega⟩) * y (ix2 j ⟨q * 1024 + k.val, by omega⟩) else 0
theorem part_apply (c : Dev nD) (t : Fin cfg0.N) (a : Fin 1024) (b : Fin 512) : k0_pay1 (iblk m c 0 t) (iblk m c 1 t) (ix2 a b)
    = part (V m c main_arg0) (V m c main_arg1) (row t a) (col t b) (t.val % 2) := by
  rw [pay1_apply, part, dif_pos (Nat.mod_lt _ (by decide))]
  simp only [iblk0_apply, iblk1_apply]
  rfl
theorem row_eq {t u : Fin cfg0.N} (h : t.val / 2 = u.val / 2) (a : Fin 1024) : row t a = row u a :=
  Fin.ext (by show t.val / 4 * 1024 + a.val = u.val / 4 * 1024 + a.val; omega)
theorem col_eq {t u : Fin cfg0.N} (h : t.val / 2 = u.val / 2) (b : Fin 512) : col t b = col u b :=
  Fin.ext (by show t.val / 2 % 2 * 512 + b.val = u.val / 2 % 2 * 512 + b.val; omega)

/-- After the last step of a run the accumulator holds the whole sum. -/
theorem acc_last (c : Dev nD) (t : Fin cfg0.N) (h : t.val % 2 = 1) (a : Fin 1024) (b : Fin 512) :
    ((outsAt0 m c t.val t.isLt).2 : R1024x512) (ix2 a b)
    = at2 (V m c main_arg2) (row t a) (col t b) + cell (V m c main_arg0) (V m c main_arg1) (row t a) (col t b) := by
  have key := run_tile (fun n hn => ((outsAt0 m c n hn).2 : R1024x512) (ix2 a b)) 2 t.val t.isLt h
    (at2 (V m c main_arg2) (row t a) (col t b)) (part (V m c main_arg0) (V m c main_arg1) (row t a) (col t b))
    (fun u f e hu => by
      show ((outsAt0 m c u hu).2 : R1024x512) (ix2 a b) = _
      rw [acc_first m c ⟨u, hu⟩ e, pay2_apply, part_apply, iblk2_apply, row_eq (u := t) f, col_eq (u := t) f]
      show _ + part _ _ _ _ (u % 2) = _
      rw [e]
      rfl)
    (fun u f e hu hu' => by
      show ((outsAt0 m c u hu).2 : R1024x512) (ix2 a b) = _
      rw [acc_later m c ⟨u, hu⟩ e, pay3_apply, part_apply, row_eq (u := t) f, col_eq (u := t) f] <;> rfl)
  refine key.trans ?_
  congr 1
  rw [cell, Fin.sum_univ_tiles 2 1024 rfl, ← Fin.sum_univ_eq_sum_range (part _ _ _ _) 2]
  refine Finset.sum_congr rfl fun q _ => ?_
  rw [part, dif_pos q.isLt]

/-- The result array after the run. -/
theorem final3 (c : Dev nD) : (dats m 0 c).arrAt 3 cfg0.N = G (V m c main_arg0) (V m c main_arg1) (V m c main_arg2) := by
  refine (dats m 0 c).arrAt_eq_of_covers 3 _ (by decide +kernel) fun t hf y => ?_
  have hl := (flush0_3 t).mp hf
  rw [after0_3, out_last m c t hl]
  obtain ⟨a, b, rfl⟩ := pair y
  rw [emb3]
  show (((outsAt0 m c t.val t.isLt).2 : R1024x512)) (ix2 a b) = _
  rw [acc_last m c t hl]
  rfl

/-- What the reference computes, at every index. -/
theorem ref_eq (x : B4096x2048) (y : B1024x2048) (z : R4096x1024) :
    addf (F := Ideal) z (Host.dotGeneral (F := Ideal) (φ₁ := .f32) (φ₂ := .f32) Cert.DuZRefIdeal.dot_S4096x2048_S1024x2048_S4096x1024_1_1_0_0_n_n none (extf .f32 x Cert.DuZRefIdeal.Facts₀.bitsLt_bf16_f32) (extf .f32 y Cert.DuZRefIdeal.Facts₀.bitsLt_bf16_f32)) = G x y z := by
  funext i
  obtain ⟨a, b, rfl⟩ : ∃ (a : Fin 4096) (b : Fin 1024), i = ix2 a b := ⟨i 0, i 1, eq_ix2 i⟩
  pointwise
  rfl

/-- The claim of the call: kernel and reference end with the same array. -/
theorem algebraic : Cert.algebraic_DuZIdeal_DuZRefIdeal := fun m ρ m' ρ' _ hag =>
  ⟨fun c => G (V m c main_arg0) (V m c main_arg1) (V m c main_arg2),
   (θ_run _ _ _).mono (fun _ h c => ⟨(h c).1.trans (final3 m c), (h c).2⟩) (Value.run_blocks m ρ),
   (θ_run _ _ _).mono (fun _ h c => ⟨(h c).1.trans (by rw [(hag c).1, (hag c).2.1, (hag c).2.2]; exact ref_eq _ _ _ ), (h c).2⟩)
     (Cert.DuZRefIdeal.Value.run m' ρ')⟩

end Cert.DuZProof

end
-- ==== Proof.DuX.lean ====
/- One summand of the gradient through the input projection (`d_u_x`, `d_u_g`): what the kernel leaves in its result, and that the reference leaves the same. -/
module

public import proofs.«01_k».proof.Defs
public import proofs.«01_k».proof.Proof.Gen.DuXIdeal.Value
public import proofs.«01_k».proof.Proof.Gen.DuXRefIdeal.Run
public import proofs.«01_k».proof.Proof.Shared

@[expose] public section

set_option maxRecDepth 16384

noncomputable section

namespace Cert.DuXProof

open Cert.DuXIdeal Cert.DuXIdeal.Gen Idealize.ShloMosaic Idealize.ShloMosaic.TcCoe Idealize.SL.Sem
open Idealize.ShloMosaic.Pointwise Cert.Shared

/-! Arrays by their shapes. -/
abbrev R1024x512 := Vec Ideal S1024x512 .f32
abbrev B4096x3072 := Vec Ideal S4096x3072 .bf16
abbrev B1024x3072 := Vec Ideal S1024x3072 .bf16
abbrev R4096x1024 := Vec Ideal S4096x1024 .f32
abbrev B1024x1024 := Vec Ideal S1024x1024 .bf16
abbrev B512x1024 := Vec Ideal S512x1024 .bf16

/-- Entry `i, j` of the product. -/
def cell (x : B4096x3072) (y : B1024x3072) (i : Fin 4096) (j : Fin 1024) : EReal := ∑ k : Fin 3072, x (ix2 i k) * y (ix2 j k)

/-- The result array. -/
def G (x : B4096x3072) (y : B1024x3072) (z : R4096x1024) : R4096x1024 := fun i => z i + cell x y (i 0) (i 1)

/-- The array added, at a row and a column. -/
def at2 (z : R4096x1024) (i : Fin 4096) (j : Fin 1024) : EReal := z (ix2 i j)

/-! What one grid point computes. -/

theorem pay1_apply (x : B1024x1024) (y : B512x1024) (a : Fin 1024) (b : Fin 512) :
    k0_pay1 x y (ix2 a b) = ∑ k : Fin 1024, x (ix2 a k) * y (ix2 b k) := by
  pointwise [k0_pay1]

theorem pay2_apply (x : B1024x1024) (y : B512x1024) (z : R1024x512) (a : Fin 1024) (b : Fin 512) :
    k0_pay2 x y z (ix2 a b) = z (ix2 a b) + k0_pay1 x y (ix2 a b) := by
  pointwise [k0_pay2]
  exact add_comm _ _

theorem pay3_apply (x : B1024x1024) (y : B512x1024) (s : R1024x512) (a : Fin 1024) (b : Fin 512) :
    k0_pay3 x y s (ix2 a b) = s (ix2 a b) + k0_pay1 x y (ix2 a b) := by
  pointwise [k0_pay3]

variable (m : (ℓ : Loc nD τ sig) → Buf (Elt Ideal) ℓ)

/-- The block indices at point `t`: 4 row tiles by 2 column tiles by 3 steps of the sum. -/
theorem idx : ∀ t : Fin cfg0.N, t.val < 24
    ∧ (win0_0.index t (0 : Fin 2) = t.val / 6 ∧ win0_0.index t (1 : Fin 2) = t.val % 3)
    ∧ (win0_1.index t (0 : Fin 2) = t.val / 3 % 2 ∧ win0_1.index t (1 : Fin 2) = t.val % 3)
    ∧ (win0_2.index t (0 : Fin 2) = t.val / 6 ∧ win0_2.index t (1 : Fin 2) = t.val / 3 % 2)
    ∧ (win0_3.index t (0 : Fin 2) = t.val / 6 ∧ win0_3.index t (1 : Fin 2) = t.val / 3 % 2) :=
  (by decide +kernel : ∀ t : Fin grid0.N, _)

/-- Row `a` and column `b` of point `t`'s block, and its step `k` of the sum, in the whole arrays. -/
def row (t : Fin cfg0.N) (a : Fin 1024) : Fin 4096 := ⟨t.val / 6 * 1024 + a.val, by have := (idx t).1; omega⟩
def col (t : Fin cfg0.N) (b : Fin 512) : Fin 1024 := ⟨t.val / 3 % 2 * 512 + b.val, by have := (idx t).1; omega⟩
def stp (t : Fin cfg0.N) (k : Fin 1024) : Fin 3072 := ⟨t.val % 3 * 1024 + k.val, by have := (idx t).1; omega⟩

theorem emb0 (t : Fin cfg0.N) (a : Fin 1024) (k : Fin 1024) : ((cfg0.win 0).blk t).view.emb (ix2 a k) = ix2 (row t a) (stp t k) := by
  obtain ⟨-, ⟨e0, e1⟩, -⟩ := idx t
  refine ext2 ?_ ?_
  · show win0_0.index t (0 : Fin 2) * 1024 + 1 * a.val = t.val / 6 * 1024 + a.val; rw [e0]; omega
  · show win0_0.index t (1 : Fin 2) * 1024 + 1 * k.val = t.val % 3 * 1024 + k.val; rw [e1]; omega

theorem emb1 (t : Fin cfg0.N) (b : Fin 512) (k : Fin 1024) : ((cfg0.win 1).blk t).view.emb (ix2 b k) = ix2 (col t b) (stp t k) := by
  obtain ⟨-, -, ⟨e0, e1⟩, -⟩ := idx t
  refine ext2 ?_ ?_
  · show win0_1.index t (0 : Fin 2) * 512 + 1 * b.val = t.val / 3 % 2 * 512 + b.val; rw [e0]; omega
  · show win0_1.index t (1 : Fin 2) * 1024 + 1 * k.val = t.val % 3 * 1024 + k.val; rw [e1]; omega

theorem emb2 (t : Fin cfg0.N) (a : Fin 1024) (b : Fin 512) : ((cfg0.win 2).blk t).view.emb (ix2 a b) = ix2 (row t a) (col t b) := by
  obtain ⟨-, -, -, ⟨e0, e1⟩, -⟩ := idx t
  refine ext2 ?_ ?_
  · show win0_2.index t (0 : Fin 2) * 1024 + 1 * a.val = t.val / 6 * 1024 + a.val; rw [e0]; omega
  · show win0_2.index t (1 : Fin 2) * 512 + 1 * b.val = t.val / 3 % 2 * 512 + b.val; rw [e1]; omega

theorem emb3 (t : Fin cfg0.N) (a : Fin 1024) (b : Fin 512) : ((cfg0.win 3).blk t).view.emb (ix2 a b) = ix2 (row t a) (col t b) := by
  obtain ⟨-, -, -, -, e0, e1⟩ := idx t
  refine ext2 ?_ ?_
  · show win0_3.index t (0 : Fin 2) * 1024 + 1 * a.val = t.val / 6 * 1024 + a.val; rw [e0]; omega
  · show win0_3.index t (1 : Fin 2) * 512 + 1 * b.val = t.val / 3 % 2 * 512 + b.val; rw [e1]; omega

/-- The argument blocks of point `t`, at one index each. -/
theorem iblk0_apply (c : Dev nD) (t : Fin cfg0.N) (a : Fin 1024) (k : Fin 1024) : (iblk m c 0 t : B1024x1024) (ix2 a k)
    = (V m c main_arg0 : B4096x3072) (ix2 (row t a) (stp t k)) :=
  congrArg (V m c main_arg0) (emb0 t a k)
theorem iblk1_apply (c : Dev nD) (t : Fin cfg0.N) (b : Fin 512) (k : Fin 1024) : (iblk m c 1 t : B512x1024) (ix2 b k)
    = (V m c main_arg1 : B1024x3072) (ix2 (col t b) (stp t k)) :=
  congrArg (V m c main_arg1) (emb1 t b k)
theorem iblk2_apply (c : Dev nD) (t : Fin cfg0.N) (a : Fin 1024) (b : Fin 512) : (iblk m c 2 t : R1024x512) (ix2 a b)
    = (V m c main_arg2 : R4096x1024) (ix2 (row t a) (col t b)) :=
  congrArg (V m c main_arg2) (emb2 t a b)

/-! What the accumulator and the result's block hold. -/

theorem acc_first (c : Dev nD) (t : Fin cfg0.N) (h : t.val % 3 = 0) : (outsAt0 m c t.val t.isLt).2 = k0_pay2 (iblk m c 0 t) (iblk m c 1 t) (iblk m c 2 t) := by
  have ht := (idx t).1
  rw [outsAt0_A m c t h (by omega) (by omega)]
  frame_out
theorem acc_later (c : Dev nD) (t : Fin cfg0.N) (h : ¬t.val % 3 = 0) : (outsAt0 m c t.val t.isLt).2
    = k0_pay3 (iblk m c 0 t) (iblk m c 1 t) (outsAt0 m c (t.val - 1) (Nat.sub_lt_of_lt t.isLt)).2 := by
  have ht := (idx t).1
  by_cases hl : t.val % 3 = 2
  · rw [outsAt0_C m c t h (by omega) hl]
    frame_out
    rw [read_unread_whole]
  · rw [outsAt0_B m c t h (by omega) hl]
    frame_out
    rw [read_unread_whole]
theorem out_last (c : Dev nD) (t : Fin cfg0.N) (h : t.val % 3 = 2) : (outsAt0 m c t.val t.isLt).1 = (outsAt0 m c t.val t.isLt).2 := by
  have ht := (idx t).1
  rw [outsAt0_C m c t (by omega) (by omega) (by omega)]
  frame_out

/-- One step's part of a sum, over the whole arrays. -/
def part (x : B4096x3072) (y : B1024x3072) (i : Fin 4096) (j : Fin 1024) (q : Nat) : EReal :=
  if h : q < 3 then ∑ k : Fin 1024, x (ix2 i ⟨q * 1024 + k.val, by omega⟩) * y (ix2 j ⟨q * 1024 + k.val, by omega⟩) else 0
theorem part_apply (c : Dev nD) (t : Fin cfg0.N) (a : Fin 1024) (b : Fin 512) : k0_pay1 (iblk m c 0 t) (iblk m c 1 t) (ix2 a b)
    = part (V m c main_arg0) (V m c main_arg1) (row t a) (col t b) (t.val % 3) := by
  rw [pay1_apply, part, dif_pos (Nat.mod_lt _ (by decide))]
  simp only [iblk0_apply, iblk1_apply]
  rfl
theorem row_eq {t u : Fin cfg0.N} (h : t.val / 3 = u.val / 3) (a : Fin 1024) : row t a = row u a :=
  Fin.ext (by show t.val / 6 * 1024 + a.val = u.val / 6 * 1024 + a.val; omega)
theorem col_eq {t u : Fin cfg0.N} (h : t.val / 3 = u.val / 3) (b : Fin 512) : col t b = col u b :=
  Fin.ext (by show t.val / 3 % 2 * 512 + b.val = u.val / 3 % 2 * 512 + b.val; omega)

/-- After the last step of a run the accumulator holds the whole sum. -/
theorem acc_last (c : Dev nD) (t : Fin cfg0.N) (h : t.val % 3 = 2) (a : Fin 1024) (b : Fin 512) :
    ((outsAt0 m c t.val t.isLt).2 : R1024x512) (ix2 a b)
    = at2 (V m c main_arg2) (row t a) (col t b) + cell (V m c main_arg0) (V m c main_arg1) (row t a) (col t b) := by
  have key := run_tile (fun n hn => ((outsAt0 m c n hn).2 : R1024x512) (ix2 a b)) 3 t.val t.isLt h
    (at2 (V m c main_arg2) (row t a) (col t b)) (part (V m c main_arg0) (V m c main_arg1) (row t a) (col t b))
    (fun u f e hu => by
      show ((outsAt0 m c u hu).2 : R1024x512) (ix2 a b) = _
      rw [acc_first m c ⟨u, hu⟩ e, pay2_apply, part_apply, iblk2_apply, row_eq (u := t) f, col_eq (u := t) f]
      show _ + part _ _ _ _ (u % 3) = _
      rw [e]
      rfl)
    (fun u f e hu hu' => by
      show ((outsAt0 m c u hu).2 : R1024x512) (ix2 a b) = _
      rw [acc_later m c ⟨u, hu⟩ e, pay3_apply, part_apply, row_eq (u := t) f, col_eq (u := t) f] <;> rfl)
  refine key.trans ?_
  congr 1
  rw [cell, Fin.sum_univ_tiles 3 1024 rfl, ← Fin.sum_univ_eq_sum_range (part _ _ _ _) 3]
  refine Finset.sum_congr rfl fun q _ => ?_
  rw [part, dif_pos q.isLt]

/-- The result array after the run. -/
theorem final3 (c : Dev nD) : (dats m 0 c).arrAt 3 cfg0.N = G (V m c main_arg0) (V m c main_arg1) (V m c main_arg2) := by
  refine (dats m 0 c).arrAt_eq_of_covers 3 _ (by decide +kernel) fun t hf y => ?_
  have hl := (flush0_3 t).mp hf
  rw [after0_3, out_last m c t hl]
  obtain ⟨a, b, rfl⟩ := pair y
  rw [emb3]
  show (((outsAt0 m c t.val t.isLt).2 : R1024x512)) (ix2 a b) = _
  rw [acc_last m c t hl]
  rfl

/-- What the reference computes, at every index. -/
theorem ref_eq (x : B4096x3072) (y : B1024x3072) (z : R4096x1024) :
    addf (F := Ideal) z (Host.dotGeneral (F := Ideal) (φ₁ := .f32) (φ₂ := .f32) Cert.DuXRefIdeal.dot_S4096x3072_S1024x3072_S4096x1024_1_1_0_0_n_n none (extf .f32 x Cert.DuXRefIdeal.Facts₀.bitsLt_bf16_f32) (extf .f32 y Cert.DuXRefIdeal.Facts₀.bitsLt_bf16_f32)) = G x y z := by
  funext i
  obtain ⟨a, b, rfl⟩ : ∃ (a : Fin 4096) (b : Fin 1024), i = ix2 a b := ⟨i 0, i 1, eq_ix2 i⟩
  pointwise
  rfl

/-- The claim of the call: kernel and reference end with the same array. -/
theorem algebraic : Cert.algebraic_DuXIdeal_DuXRefIdeal := fun m ρ m' ρ' _ hag =>
  ⟨fun c => G (V m c main_arg0) (V m c main_arg1) (V m c main_arg2),
   (θ_run _ _ _).mono (fun _ h c => ⟨(h c).1.trans (final3 m c), (h c).2⟩) (Value.run_blocks m ρ),
   (θ_run _ _ _).mono (fun _ h c => ⟨(h c).1.trans (by rw [(hag c).1, (hag c).2.1, (hag c).2.2]; exact ref_eq _ _ _ ), (h c).2⟩)
     (Cert.DuXRefIdeal.Value.run m' ρ')⟩

end Cert.DuXProof

end
-- ==== Proof.DuDt.lean ====
/- One summand of the gradient through the input projection (`d_u_dt`): what the kernel leaves in its result, and that the reference leaves the same. -/
module

public import proofs.«01_k».proof.Defs
public import proofs.«01_k».proof.Proof.Gen.DuDtIdeal.Value
public import proofs.«01_k».proof.Proof.Gen.DuDtRefIdeal.Run
public import proofs.«01_k».proof.Proof.Shared

@[expose] public section

set_option maxRecDepth 16384

noncomputable section

namespace Cert.DuDtProof

open Cert.DuDtIdeal Cert.DuDtIdeal.Gen Idealize.ShloMosaic Idealize.ShloMosaic.TcCoe Idealize.SL.Sem
open Idealize.ShloMosaic.Pointwise Cert.Shared

/-! Arrays by their shapes. -/
abbrev R4096x1024 := Vec Ideal S4096x1024 .f32
abbrev R4096x128 := Vec Ideal S4096x128 .f32
abbrev B1024x128 := Vec Ideal S1024x128 .bf16

/-- Entry `i, j` of the product. -/
def cell (x : R4096x128) (y : B1024x128) (i : Fin 4096) (j : Fin 1024) : EReal := ∑ k : Fin 128, x (ix2 i k) * y (ix2 j k)

/-- The result array. -/
def G (x : R4096x128) (y : B1024x128) (z : R4096x1024) : R4096x1024 := fun i => z i + cell x y (i 0) (i 1)

/-- The array added, at a row and a column. -/
def at2 (z : R4096x1024) (i : Fin 4096) (j : Fin 1024) : EReal := z (ix2 i j)

/-! What one grid point computes. -/

theorem pay_apply (x : Vec Ideal S1024x128 .f32) (y : Vec Ideal S512x128 .bf16) (z : Vec Ideal S1024x512 .f32) (a : Fin 1024) (b : Fin 512) :
    k0_pay1 x y z (ix2 a b) = z (ix2 a b) + ∑ k : Fin 128, x (ix2 a k) * y (ix2 b k) := by
  pointwise [k0_pay1]
  exact add_comm _ _

variable (m : (ℓ : Loc nD τ sig) → Buf (Elt Ideal) ℓ)

/-- The block indices at point `t`: 4 row tiles by 2 column tiles by 1 steps of the sum. -/
theorem idx : ∀ t : Fin cfg0.N, t.val < 8
    ∧ (win0_0.index t (0 : Fin 2) = t.val / 2 ∧ win0_0.index t (1 : Fin 2) = 0)
    ∧ (win0_1.index t (0 : Fin 2) = t.val % 2 ∧ win0_1.index t (1 : Fin 2) = 0)
    ∧ (win0_2.index t (0 : Fin 2) = t.val / 2 ∧ win0_2.index t (1 : Fin 2) = t.val % 2)
    ∧ (win0_3.index t (0 : Fin 2) = t.val / 2 ∧ win0_3.index t (1 : Fin 2) = t.val % 2) :=
  (by decide +kernel : ∀ t : Fin grid0.N, _)

/-- Row `a` and column `b` of point `t`'s block, in the whole arrays. -/
def row (t : Fin cfg0.N) (a : Fin 1024) : Fin 4096 := ⟨t.val / 2 * 1024 + a.val, by have := (idx t).1; omega⟩
def col (t : Fin cfg0.N) (b : Fin 512) : Fin 1024 := ⟨t.val % 2 * 512 + b.val, by have := (idx t).1; omega⟩

theorem emb0 (t : Fin cfg0.N) (a : Fin 1024) (k : Fin 128) : ((cfg0.win 0).blk t).view.emb (ix2 a k) = ix2 (row t a) k := by
  obtain ⟨-, ⟨e0, e1⟩, -⟩ := idx t
  refine ext2 ?_ ?_
  · show win0_0.index t (0 : Fin 2) * 1024 + 1 * a.val = t.val / 2 * 1024 + a.val; rw [e0]; omega
  · show win0_0.index t (1 : Fin 2) * 128 + 1 * k.val = k.val; rw [e1]; omega

theorem emb1 (t : Fin cfg0.N) (b : Fin 512) (k : Fin 128) : ((cfg0.win 1).blk t).view.emb (ix2 b k) = ix2 (col t b) k := by
  obtain ⟨-, -, ⟨e0, e1⟩, -⟩ := idx t
  refine ext2 ?_ ?_
  · show win0_1.index t (0 : Fin 2) * 512 + 1 * b.val = t.val % 2 * 512 + b.val; rw [e0]; omega
  · show win0_1.index t (1 : Fin 2) * 128 + 1 * k.val = k.val; rw [e1]; omega

theorem emb2 (t : Fin cfg0.N) (a : Fin 1024) (b : Fin 512) : ((cfg0.win 2).blk t).view.emb (ix2 a b) = ix2 (row t a) (col t b) := by
  obtain ⟨-, -, -, ⟨e0, e1⟩, -⟩ := idx t
  refine ext2 ?_ ?_
  · show win0_2.index t (0 : Fin 2) * 1024 + 1 * a.val = t.val / 2 * 1024 + a.val; rw [e0]; omega
  · show win0_2.index t (1 : Fin 2) * 512 + 1 * b.val = t.val % 2 * 512 + b.val; rw [e1]; omega

theorem emb3 (t : Fin cfg0.N) (a : Fin 1024) (b : Fin 512) : ((cfg0.win 3).blk t).view.emb (ix2 a b) = ix2 (row t a) (col t b) := by
  obtain ⟨-, -, -, -, e0, e1⟩ := idx t
  refine ext2 ?_ ?_
  · show win0_3.index t (0 : Fin 2) * 1024 + 1 * a.val = t.val / 2 * 1024 + a.val; rw [e0]; omega
  · show win0_3.index t (1 : Fin 2) * 512 + 1 * b.val = t.val % 2 * 512 + b.val; rw [e1]; omega

/-- The argument blocks of point `t`, at one index each. -/
theorem iblk0_apply (c : Dev nD) (t : Fin cfg0.N) (a : Fin 1024) (k : Fin 128) : (iblk m c 0 t : Vec Ideal S1024x128 .f32) (ix2 a k)
    = (V m c main_arg0 : R4096x128) (ix2 (row t a) k) :=
  congrArg (V m c main_arg0) (emb0 t a k)
theorem iblk1_apply (c : Dev nD) (t : Fin cfg0.N) (b : Fin 512) (k : Fin 128) : (iblk m c 1 t : Vec Ideal S512x128 .bf16) (ix2 b k)
    = (V m c main_arg1 : B1024x128) (ix2 (col t b) k) :=
  congrArg (V m c main_arg1) (emb1 t b k)
theorem iblk2_apply (c : Dev nD) (t : Fin cfg0.N) (a : Fin 1024) (b : Fin 512) : (iblk m c 2 t : Vec Ideal S1024x512 .f32) (ix2 a b)
    = (V m c main_arg2 : R4096x1024) (ix2 (row t a) (col t b)) :=
  congrArg (V m c main_arg2) (emb2 t a b)

/-- The result array after the run. -/
theorem final3 (c : Dev nD) : (dats m 0 c).arrAt 3 cfg0.N = G (V m c main_arg0) (V m c main_arg1) (V m c main_arg2) := by
  refine (dats m 0 c).arrAt_eq_of_covers 3 _ (by decide +kernel) fun t _ y => ?_
  rw [after0_3]
  unfold out0_3
  rw [View.canon_unit_zero hz, View.ld_unit_zero hz, View.ld_unit_zero hz, View.ld_unit_zero hz]
  obtain ⟨a, b, rfl⟩ := pair y
  rw [emb3]
  show k0_pay1 (iblk m c 0 t) (iblk m c 1 t) (iblk m c 2 t) (ix2 a b) = _
  rw [pay_apply]
  simp only [iblk0_apply, iblk1_apply, iblk2_apply]
  rfl

/-- What the reference computes, at every index. -/
theorem ref_eq (x : R4096x128) (y : B1024x128) (z : R4096x1024) :
    addf (F := Ideal) z (Host.dotGeneral (F := Ideal) (φ₁ := .f32) (φ₂ := .f32) Cert.DuDtRefIdeal.dot_S4096x128_S1024x128_S4096x1024_1_1_0_0_n_n none x (extf .f32 y Cert.DuDtRefIdeal.Facts₀.bitsLt_bf16_f32)) = G x y z := by
  funext i
  obtain ⟨a, b, rfl⟩ : ∃ (a : Fin 4096) (b : Fin 1024), i = ix2 a b := ⟨i 0, i 1, eq_ix2 i⟩
  pointwise
  rfl

/-- The claim of the call: kernel and reference end with the same array. -/
theorem algebraic : Cert.algebraic_DuDtIdeal_DuDtRefIdeal := fun m ρ m' ρ' _ hag =>
  ⟨fun c => G (V m c main_arg0) (V m c main_arg1) (V m c main_arg2),
   (θ_run _ _ _).mono (fun _ h c => ⟨(h c).1.trans (final3 m c), (h c).2⟩) (Value.run_blocks m ρ),
   (θ_run _ _ _).mono (fun _ h c => ⟨(h c).1.trans (by rw [(hag c).1, (hag c).2.1, (hag c).2.2]; exact ref_eq _ _ _ ), (h c).2⟩)
     (Cert.DuDtRefIdeal.Value.run m' ρ')⟩

end Cert.DuDtProof

end
-- ==== Proof.DuQkv.lean ====
/- One summand of the gradient through the input projection (`d_u_qkv`): what the kernel leaves in its result, and that the reference leaves the same. -/
module

public import proofs.«01_k».proof.Defs
public import proofs.«01_k».proof.Proof.Gen.DuQkvIdeal.Value
public import proofs.«01_k».proof.Proof.Gen.DuQkvRefIdeal.Run
public import proofs.«01_k».proof.Proof.Shared

@[expose] public section

set_option maxRecDepth 16384

noncomputable section

namespace Cert.DuQkvProof

open Cert.DuQkvIdeal Cert.DuQkvIdeal.Gen Idealize.ShloMosaic Idealize.ShloMosaic.TcCoe Idealize.SL.Sem
open Idealize.ShloMosaic.Pointwise Cert.Shared

/-! Arrays by their shapes. -/
abbrev R1024x512 := Vec Ideal S1024x512 .f32
abbrev B4096x1536 := Vec Ideal S4096x1536 .bf16
abbrev B1024x1536 := Vec Ideal S1024x1536 .bf16
abbrev R4096x1024 := Vec Ideal S4096x1024 .f32
abbrev B1024x768 := Vec Ideal S1024x768 .bf16
abbrev B512x768 := Vec Ideal S512x768 .bf16

/-- Entry `i, j` of the product. -/
def cell (x : B4096x1536) (y : B1024x1536) (i : Fin 4096) (j : Fin 1024) : EReal := ∑ k : Fin 1536, x (ix2 i k) * y (ix2 j k)

/-- The result array. -/
def G (x : B4096x1536) (y : B1024x1536) (z : R4096x1024) : R4096x1024 := fun i => z i + cell x y (i 0) (i 1)

/-- The array added, at a row and a column. -/
def at2 (z : R4096x1024) (i : Fin 4096) (j : Fin 1024) : EReal := z (ix2 i j)

/-! What one grid point computes. -/

theorem pay1_apply (x : B1024x768) (y : B512x768) (a : Fin 1024) (b : Fin 512) :
    k0_pay1 x y (ix2 a b) = ∑ k : Fin 768, x (ix2 a k) * y (ix2 b k) := by
  pointwise [k0_pay1]

theorem pay2_apply (x : B1024x768) (y : B512x768) (z : R1024x512) (a : Fin 1024) (b : Fin 512) :
    k0_pay2 x y z (ix2 a b) = z (ix2 a b) + k0_pay1 x y (ix2 a b) := by
  pointwise [k0_pay2]
  exact add_comm _ _

theorem pay3_apply (x : B1024x768) (y : B512x768) (s : R1024x512) (a : Fin 1024) (b : Fin 512) :
    k0_pay3 x y s (ix2 a b) = s (ix2 a b) + k0_pay1 x y (ix2 a b) := by
  pointwise [k0_pay3]

variable (m : (ℓ : Loc nD τ sig) → Buf (Elt Ideal) ℓ)

/-- The block indices at point `t`: 4 row tiles by 2 column tiles by 2 steps of the sum. -/
theorem idx : ∀ t : Fin cfg0.N, t.val < 16
    ∧ (win0_0.index t (0 : Fin 2) = t.val / 4 ∧ win0_0.index t (1 : Fin 2) = t.val % 2)
    ∧ (win0_1.index t (0 : Fin 2) = t.val / 2 % 2 ∧ win0_1.index t (1 : Fin 2) = t.val % 2)
    ∧ (win0_2.index t (0 : Fin 2) = t.val / 4 ∧ win0_2.index t (1 : Fin 2) = t.val / 2 % 2)
    ∧ (win0_3.index t (0 : Fin 2) = t.val / 4 ∧ win0_3.index t (1 : Fin 2) = t.val / 2 % 2) :=
  (by decide +kernel : ∀ t : Fin grid0.N, _)

/-- Row `a` and column `b` of point `t`'s block, and its step `k` of the sum, in the whole arrays. -/
def row (t : Fin cfg0.N) (a : Fin 1024) : Fin 4096 := ⟨t.val / 4 * 1024 + a.val, by have := (idx t).1; omega⟩
def col (t : Fin cfg0.N) (b : Fin 512) : Fin 1024 := ⟨t.val / 2 % 2 * 512 + b.val, by have := (idx t).1; omega⟩
def stp (t : Fin cfg0.N) (k : Fin 768) : Fin 1536 := ⟨t.val % 2 * 768 + k.val, by have := (idx t).1; omega⟩

theorem emb0 (t : Fin cfg0.N) (a : Fin 1024) (k : Fin 768) : ((cfg0.win 0).blk t).view.emb (ix2 a k) = ix2 (row t a) (stp t k) := by
  obtain ⟨-, ⟨e0, e1⟩, -⟩ := idx t
  refine ext2 ?_ ?_
  · show win0_0.index t (0 : Fin 2) * 1024 + 1 * a.val = t.val / 4 * 1024 + a.val; rw [e0]; omega
  · show win0_0.index t (1 : Fin 2) * 768 + 1 * k.val = t.val % 2 * 768 + k.val; rw [e1]; omega

theorem emb1 (t : Fin cfg0.N) (b : Fin 512) (k : Fin 768) : ((cfg0.win 1).blk t).view.emb (ix2 b k) = ix2 (col t b) (stp t k) := by
  obtain ⟨-, -, ⟨e0, e1⟩, -⟩ := idx t
  refine ext2 ?_ ?_
  · show win0_1.index t (0 : Fin 2) * 512 + 1 * b.val = t.val / 2 % 2 * 512 + b.val; rw [e0]; omega
  · show win0_1.index t (1 : Fin 2) * 768 + 1 * k.val = t.val % 2 * 768 + k.val; rw [e1]; omega

theorem emb2 (t : Fin cfg0.N) (a : Fin 1024) (b : Fin 512) : ((cfg0.win 2).blk t).view.emb (ix2 a b) = ix2 (row t a) (col t b) := by
  obtain ⟨-, -, -, ⟨e0, e1⟩, -⟩ := idx t
  refine ext2 ?_ ?_
  · show win0_2.index t (0 : Fin 2) * 1024 + 1 * a.val = t.val / 4 * 1024 + a.val; rw [e0]; omega
  · show win0_2.index t (1 : Fin 2) * 512 + 1 * b.val = t.val / 2 % 2 * 512 + b.val; rw [e1]; omega

theorem emb3 (t : Fin cfg0.N) (a : Fin 1024) (b : Fin 512) : ((cfg0.win 3).blk t).view.emb (ix2 a b) = ix2 (row t a) (col t b) := by
  obtain ⟨-, -, -, -, e0, e1⟩ := idx t
  refine ext2 ?_ ?_
  · show win0_3.index t (0 : Fin 2) * 1024 + 1 * a.val = t.val / 4 * 1024 + a.val; rw [e0]; omega
  · show win0_3.index t (1 : Fin 2) * 512 + 1 * b.val = t.val / 2 % 2 * 512 + b.val; rw [e1]; omega

/-- The argument blocks of point `t`, at one index each. -/
theorem iblk0_apply (c : Dev nD) (t : Fin cfg0.N) (a : Fin 1024) (k : Fin 768) : (iblk m c 0 t : B1024x768) (ix2 a k)
    = (V m c main_arg0 : B4096x1536) (ix2 (row t a) (stp t k)) :=
  congrArg (V m c main_arg0) (emb0 t a k)
theorem iblk1_apply (c : Dev nD) (t : Fin cfg0.N) (b : Fin 512) (k : Fin 768) : (iblk m c 1 t : B512x768) (ix2 b k)
    = (V m c main_arg1 : B1024x1536) (ix2 (col t b) (stp t k)) :=
  congrArg (V m c main_arg1) (emb1 t b k)
theorem iblk2_apply (c : Dev nD) (t : Fin cfg0.N) (a : Fin 1024) (b : Fin 512) : (iblk m c 2 t : R1024x512) (ix2 a b)
    = (V m c main_arg2 : R4096x1024) (ix2 (row t a) (col t b)) :=
  congrArg (V m c main_arg2) (emb2 t a b)

/-! What the accumulator and the result's block hold. -/

theorem acc_first (c : Dev nD) (t : Fin cfg0.N) (h : t.val % 2 = 0) : (outsAt0 m c t.val t.isLt).2 = k0_pay2 (iblk m c 0 t) (iblk m c 1 t) (iblk m c 2 t) := by
  have ht := (idx t).1
  rw [outsAt0_A m c t h (by omega) (by omega)]
  frame_out
theorem acc_later (c : Dev nD) (t : Fin cfg0.N) (h : ¬t.val % 2 = 0) : (outsAt0 m c t.val t.isLt).2
    = k0_pay3 (iblk m c 0 t) (iblk m c 1 t) (outsAt0 m c (t.val - 1) (Nat.sub_lt_of_lt t.isLt)).2 := by
  have ht := (idx t).1
  rw [outsAt0_B m c t h (by omega) (by omega)]
  frame_out
  rw [read_unread_whole]
theorem out_last (c : Dev nD) (t : Fin cfg0.N) (h : t.val % 2 = 1) : (outsAt0 m c t.val t.isLt).1 = (outsAt0 m c t.val t.isLt).2 := by
  have ht := (idx t).1
  rw [outsAt0_B m c t (by omega) (by omega) (by omega)]
  frame_out

/-- One step's part of a sum, over the whole arrays. -/
def part (x : B4096x1536) (y : B1024x1536) (i : Fin 4096) (j : Fin 1024) (q : Nat) : EReal :=
  if h : q < 2 then ∑ k : Fin 768, x (ix2 i ⟨q * 768 + k.val, by omega⟩) * y (ix2 j ⟨q * 768 + k.val, by omega⟩) else 0
theorem part_apply (c : Dev nD) (t : Fin cfg0.N) (a : Fin 1024) (b : Fin 512) : k0_pay1 (iblk m c 0 t) (iblk m c 1 t) (ix2 a b)
    = part (V m c main_arg0) (V m c main_arg1) (row t a) (col t b) (t.val % 2) := by
  rw [pay1_apply, part, dif_pos (Nat.mod_lt _ (by decide))]
  simp only [iblk0_apply, iblk1_apply]
  rfl
theorem row_eq {t u : Fin cfg0.N} (h : t.val / 2 = u.val / 2) (a : Fin 1024) : row t a = row u a :=
  Fin.ext (by show t.val / 4 * 1024 + a.val = u.val / 4 * 1024 + a.val; omega)
theorem col_eq {t u : Fin cfg0.N} (h : t.val / 2 = u.val / 2) (b : Fin 512) : col t b = col u b :=
  Fin.ext (by show t.val / 2 % 2 * 512 + b.val = u.val / 2 % 2 * 512 + b.val; omega)

/-- After the last step of a run the accumulator holds the whole sum. -/
theorem acc_last (c : Dev nD) (t : Fin cfg0.N) (h : t.val % 2 = 1) (a : Fin 1024) (b : Fin 512) :
    ((outsAt0 m c t.val t.isLt).2 : R1024x512) (ix2 a b)
    = at2 (V m c main_arg2) (row t a) (col t b) + cell (V m c main_arg0) (V m c main_arg1) (row t a) (col t b) := by
  have key := run_tile (fun n hn => ((outsAt0 m c n hn).2 : R1024x512) (ix2 a b)) 2 t.val t.isLt h
    (at2 (V m c main_arg2) (row t a) (col t b)) (part (V m c main_arg0) (V m c main_arg1) (row t a) (col t b))
    (fun u f e hu => by
      show ((outsAt0 m c u hu).2 : R1024x512) (ix2 a b) = _
      rw [acc_first m c ⟨u, hu⟩ e, pay2_apply, part_apply, iblk2_apply, row_eq (u := t) f, col_eq (u := t) f]
      show _ + part _ _ _ _ (u % 2) = _
      rw [e]
      rfl)
    (fun u f e hu hu' => by
      show ((outsAt0 m c u hu).2 : R1024x512) (ix2 a b) = _
      rw [acc_later m c ⟨u, hu⟩ e, pay3_apply, part_apply, row_eq (u := t) f, col_eq (u := t) f] <;> rfl)
  refine key.trans ?_
  congr 1
  rw [cell, Fin.sum_univ_tiles 2 768 rfl, ← Fin.sum_univ_eq_sum_range (part _ _ _ _) 2]
  refine Finset.sum_congr rfl fun q _ => ?_
  rw [part, dif_pos q.isLt]

/-- The result array after the run. -/
theorem final3 (c : Dev nD) : (dats m 0 c).arrAt 3 cfg0.N = G (V m c main_arg0) (V m c main_arg1) (V m c main_arg2) := by
  refine (dats m 0 c).arrAt_eq_of_covers 3 _ (by decide +kernel) fun t hf y => ?_
  have hl := (flush0_3 t).mp hf
  rw [after0_3, out_last m c t hl]
  obtain ⟨a, b, rfl⟩ := pair y
  rw [emb3]
  show (((outsAt0 m c t.val t.isLt).2 : R1024x512)) (ix2 a b) = _
  rw [acc_last m c t hl]
  rfl

/-- What the reference computes, at every index. -/
theorem ref_eq (x : B4096x1536) (y : B1024x1536) (z : R4096x1024) :
    addf (F := Ideal) z (Host.dotGeneral (F := Ideal) (φ₁ := .f32) (φ₂ := .f32) Cert.DuQkvRefIdeal.dot_S4096x1536_S1024x1536_S4096x1024_1_1_0_0_n_n none (extf .f32 x Cert.DuQkvRefIdeal.Facts₀.bitsLt_bf16_f32) (extf .f32 y Cert.DuQkvRefIdeal.Facts₀.bitsLt_bf16_f32)) = G x y z := by
  funext i
  obtain ⟨a, b, rfl⟩ : ∃ (a : Fin 4096) (b : Fin 1024), i = ix2 a b := ⟨i 0, i 1, eq_ix2 i⟩
  pointwise
  rfl

/-- The claim of the call: kernel and reference end with the same array. -/
theorem algebraic : Cert.algebraic_DuQkvIdeal_DuQkvRefIdeal := fun m ρ m' ρ' _ hag =>
  ⟨fun c => G (V m c main_arg0) (V m c main_arg1) (V m c main_arg2),
   (θ_run _ _ _).mono (fun _ h c => ⟨(h c).1.trans (final3 m c), (h c).2⟩) (Value.run_blocks m ρ),
   (θ_run _ _ _).mono (fun _ h c => ⟨(h c).1.trans (by rw [(hag c).1, (hag c).2.1, (hag c).2.2]; exact ref_eq _ _ _ ), (h c).2⟩)
     (Cert.DuQkvRefIdeal.Value.run m' ρ')⟩

end Cert.DuQkvProof

end
-- ==== Proof.DwZ.lean ====
/- The gradient of one segment of the input weight (`dw_in_z`): what the kernel leaves in its result, and that the reference leaves the same. -/
module

public import proofs.«01_k».proof.Defs
public import proofs.«01_k».proof.Proof.Gen.DwZIdeal.Value
public import proofs.«01_k».proof.Proof.Gen.DwZRefIdeal.Run
public import proofs.«01_k».proof.Proof.Shared

@[expose] public section

set_option maxRecDepth 16384

noncomputable section

namespace Cert.DwZProof

open Cert.DwZIdeal Cert.DwZIdeal.Gen Idealize.ShloMosaic Idealize.ShloMosaic.TcCoe Idealize.SL.Sem
open Idealize.ShloMosaic.Pointwise Cert.Shared

/-! Arrays by their shapes. -/
abbrev B4096x1024 := Vec Ideal S4096x1024 .bf16
abbrev B4096x2048 := Vec Ideal S4096x2048 .bf16
abbrev R1024x512 := Vec Ideal S1024x512 .f32
abbrev B1024x1024 := Vec Ideal S1024x1024 .bf16
abbrev B1024x512 := Vec Ideal S1024x512 .bf16

/-- Entry `i, j` of the product. -/
def cell (x : B4096x1024) (y : B4096x2048) (i : Fin 1024) (j : Fin 2048) : EReal := ∑ k : Fin 4096, x (ix2 k i) * y (ix2 k j)

/-- The result array. -/
def G (x : B4096x1024) (y : B4096x2048) : Vec Ideal S1024x2048 .bf16 := fun i => cell x y (i 0) (i 1)

/-! What one grid point computes. -/

theorem pay1_apply (x : B1024x1024) (y : B1024x512) (a : Fin 1024) (b : Fin 512) :
    k0_pay1 x y (ix2 a b) = ∑ k : Fin 1024, x (ix2 k a) * y (ix2 k b) := by
  pointwise [k0_pay1]

theorem pay2_apply (x : B1024x1024) (y : B1024x512) (a : Fin 1024) (b : Fin 512) :
    k0_pay2 x y (ix2 a b) = 0 + k0_pay1 x y (ix2 a b) := by
  pointwise [k0_pay2]

theorem pay3_apply (x : B1024x1024) (y : B1024x512) (s : R1024x512) (a : Fin 1024) (b : Fin 512) :
    k0_pay3 x y s (ix2 a b) = s (ix2 a b) + k0_pay1 x y (ix2 a b) := by
  pointwise [k0_pay3]

theorem pay4_apply (s : R1024x512) (a : Fin 1024) (b : Fin 512) : k0_pay4 s (ix2 a b) = s (ix2 a b) := by
  pointwise [k0_pay4]

variable (m : (ℓ : Loc nD τ sig) → Buf (Elt Ideal) ℓ)

/-- The block indices at point `t`: 1 row tiles by 4 column tiles by 4 steps of the sum. -/
theorem idx : ∀ t : Fin cfg0.N, t.val < 16
    ∧ (win0_0.index t (0 : Fin 2) = t.val % 4 ∧ win0_0.index t (1 : Fin 2) = 0)
    ∧ (win0_1.index t (0 : Fin 2) = t.val % 4 ∧ win0_1.index t (1 : Fin 2) = t.val / 4 % 4)
    ∧ (win0_2.index t (0 : Fin 2) = 0 ∧ win0_2.index t (1 : Fin 2) = t.val / 4 % 4) :=
  (by decide +kernel : ∀ t : Fin grid0.N, _)

/-- Row `a` and column `b` of point `t`'s block, and its step `k` of the sum, in the whole arrays. -/
def row (t : Fin cfg0.N) (a : Fin 1024) : Fin 1024 := ⟨0 * 1024 + a.val, by have := (idx t).1; omega⟩
def col (t : Fin cfg0.N) (b : Fin 512) : Fin 2048 := ⟨t.val / 4 % 4 * 512 + b.val, by have := (idx t).1; omega⟩
def stp (t : Fin cfg0.N) (k : Fin 1024) : Fin 4096 := ⟨t.val % 4 * 1024 + k.val, by have := (idx t).1; omega⟩

theorem emb0 (t : Fin cfg0.N) (a : Fin 1024) (k : Fin 1024) : ((cfg0.win 0).blk t).view.emb (ix2 k a) = ix2 (stp t k) (row t a) := by
  obtain ⟨-, ⟨e0, e1⟩, -⟩ := idx t
  refine ext2 ?_ ?_
  · show win0_0.index t (0 : Fin 2) * 1024 + 1 * k.val = t.val % 4 * 1024 + k.val; rw [e0]; omega
  · show win0_0.index t (1 : Fin 2) * 1024 + 1 * a.val = 0 * 1024 + a.val; rw [e1]; omega

theorem emb1 (t : Fin cfg0.N) (b : Fin 512) (k : Fin 1024) : ((cfg0.win 1).blk t).view.emb (ix2 k b) = ix2 (stp t k) (col t b) := by
  obtain ⟨-, -, ⟨e0, e1⟩, -⟩ := idx t
  refine ext2 ?_ ?_
  · show win0_1.index t (0 : Fin 2) * 1024 + 1 * k.val = t.val % 4 * 1024 + k.val; rw [e0]; omega
  · show win0_1.index t (1 : Fin 2) * 512 + 1 * b.val = t.val / 4 % 4 * 512 + b.val; rw [e1]; omega

theorem emb2 (t : Fin cfg0.N) (a : Fin 1024) (b : Fin 512) : ((cfg0.win 2).blk t).view.emb (ix2 a b) = ix2 (row t a) (col t b) := by
  obtain ⟨-, -, -, e0, e1⟩ := idx t
  refine ext2 ?_ ?_
  · show win0_2.index t (0 : Fin 2) * 1024 + 1 * a.val = 0 * 1024 + a.val; rw [e0]; omega
  · show win0_2.index t (1 : Fin 2) * 512 + 1 * b.val = t.val / 4 % 4 * 512 + b.val; rw [e1]; omega

/-- The argument blocks of point `t`, at one index each. -/
theorem iblk0_apply (c : Dev nD) (t : Fin cfg0.N) (a : Fin 1024) (k : Fin 1024) : (iblk m c 0 t : B1024x1024) (ix2 k a)
    = (V m c main_arg0 : B4096x1024) (ix2 (stp t k) (row t a)) :=
  congrArg (V m c main_arg0) (emb0 t a k)
theorem iblk1_apply (c : Dev nD) (t : Fin cfg0.N) (b : Fin 512) (k : Fin 1024) : (iblk m c 1 t : B1024x512) (ix2 k b)
    = (V m c main_arg1 : B4096x2048) (ix2 (stp t k) (col t b)) :=
  congrArg (V m c main_arg1) (emb1 t b k)

/-! What the accumulator and the result's block hold. -/

theorem acc_first (c : Dev nD) (t : Fin cfg0.N) (h : t.val % 4 = 0) : (outsAt0 m c t.val t.isLt).2 = k0_pay2 (iblk m c 0 t) (iblk m c 1 t) := by
  have ht := (idx t).1
  rw [outsAt0_A m c t h (by omega) (by omega)]
  frame_out
theorem acc_later (c : Dev nD) (t : Fin cfg0.N) (h : ¬t.val % 4 = 0) : (outsAt0 m c t.val t.isLt).2
    = k0_pay3 (iblk m c 0 t) (iblk m c 1 t) (outsAt0 m c (t.val - 1) (Nat.sub_lt_of_lt t.isLt)).2 := by
  have ht := (idx t).1
  by_cases hl : t.val % 4 = 3
  · rw [outsAt0_C m c t h (by omega) hl]
    frame_out
    rw [read_unread_whole]
  · rw [outsAt0_B m c t h (by omega) hl]
    frame_out
    rw [read_unread_whole]
theorem out_last (c : Dev nD) (t : Fin cfg0.N) (h : t.val % 4 = 3) : (outsAt0 m c t.val t.isLt).1 = k0_pay4 (outsAt0 m c t.val t.isLt).2 := by
  have ht := (idx t).1
  rw [outsAt0_C m c t (by omega) (by omega) (by omega)]
  frame_out

/-- One step's part of a sum, over the whole arrays. -/
def part (x : B4096x1024) (y : B4096x2048) (i : Fin 1024) (j : Fin 2048) (q : Nat) : EReal :=
  if h : q < 4 then ∑ k : Fin 1024, x (ix2 ⟨q * 1024 + k.val, by omega⟩ i) * y (ix2 ⟨q * 1024 + k.val, by omega⟩ j) else 0
theorem part_apply (c : Dev nD) (t : Fin cfg0.N) (a : Fin 1024) (b : Fin 512) : k0_pay1 (iblk m c 0 t) (iblk m c 1 t) (ix2 a b)
    = part (V m c main_arg0) (V m c main_arg1) (row t a) (col t b) (t.val % 4) := by
  rw [pay1_apply, part, dif_pos (Nat.mod_lt _ (by decide))]
  simp only [iblk0_apply, iblk1_apply]
  rfl
theorem row_eq {t u : Fin cfg0.N} (h : t.val / 4 = u.val / 4) (a : Fin 1024) : row t a = row u a :=
  Fin.ext (by show 0 * 1024 + a.val = 0 * 1024 + a.val; omega)
theorem col_eq {t u : Fin cfg0.N} (h : t.val / 4 = u.val / 4) (b : Fin 512) : col t b = col u b :=
  Fin.ext (by show t.val / 4 % 4 * 512 + b.val = u.val / 4 % 4 * 512 + b.val; omega)

/-- After the last step of a run the accumulator holds the whole sum. -/
theorem acc_last (c : Dev nD) (t : Fin cfg0.N) (h : t.val % 4 = 3) (a : Fin 1024) (b : Fin 512) :
    ((outsAt0 m c t.val t.isLt).2 : R1024x512) (ix2 a b)
    = 0 + cell (V m c main_arg0) (V m c main_arg1) (row t a) (col t b) := by
  have key := run_tile (fun n hn => ((outsAt0 m c n hn).2 : R1024x512) (ix2 a b)) 4 t.val t.isLt h
    (0) (part (V m c main_arg0) (V m c main_arg1) (row t a) (col t b))
    (fun u f e hu => by
      show ((outsAt0 m c u hu).2 : R1024x512) (ix2 a b) = _
      rw [acc_first m c ⟨u, hu⟩ e, pay2_apply, part_apply, row_eq (u := t) f, col_eq (u := t) f]
      show _ + part _ _ _ _ (u % 4) = _
      rw [e])
    (fun u f e hu hu' => by
      show ((outsAt0 m c u hu).2 : R1024x512) (ix2 a b) = _
      rw [acc_later m c ⟨u, hu⟩ e, pay3_apply, part_apply, row_eq (u := t) f, col_eq (u := t) f] <;> rfl)
  refine key.trans ?_
  congr 1
  rw [cell, Fin.sum_univ_tiles 4 1024 rfl, ← Fin.sum_univ_eq_sum_range (part _ _ _ _) 4]
  refine Finset.sum_congr rfl fun q _ => ?_
  rw [part, dif_pos q.isLt]

/-- The result array after the run. -/
theorem final2 (c : Dev nD) : (dats m 0 c).arrAt 2 cfg0.N = G (V m c main_arg0) (V m c main_arg1) := by
  refine (dats m 0 c).arrAt_eq_of_covers 2 _ (by decide +kernel) fun t hf y => ?_
  have hl := (flush0_2 t).mp hf
  rw [after0_2, out_last m c t hl]
  obtain ⟨a, b, rfl⟩ := pair y
  rw [emb2]
  show k0_pay4 ((outsAt0 m c t.val t.isLt).2) (ix2 a b) = _
  rw [pay4_apply, acc_last m c t hl, zero_add]
  rfl

/-- What the reference computes, at every index. -/
theorem ref_eq (x : B4096x1024) (y : B4096x2048) :
    truncf (F := Ideal) (φ := .f32) .bf16 (transpose Cert.DwZRefIdeal.S1024x2048 [1, 0] (Host.dotGeneral (F := Ideal) (φ₁ := .f32) (φ₂ := .f32) Cert.DwZRefIdeal.dot_S4096x2048_S4096x1024_S2048x1024_0_0_1_1_n_n none (extf .f32 y Cert.DwZRefIdeal.Facts₀.bitsLt_bf16_f32) (extf .f32 x Cert.DwZRefIdeal.Facts₀.bitsLt_bf16_f32)) Cert.DwZRefIdeal.Facts₀.transposes_S2048x1024_S1024x2048_1_0) Cert.DwZRefIdeal.Facts₀.bitsLt_bf16_f32 = G x y := by
  funext i
  obtain ⟨a, b, rfl⟩ : ∃ (a : Fin 1024) (b : Fin 2048), i = ix2 a b := ⟨i 0, i 1, eq_ix2 i⟩
  pointwise
  exact Finset.sum_congr rfl fun k _ => mul_comm _ _

/-- The claim of the call: kernel and reference end with the same array. -/
theorem algebraic : Cert.algebraic_DwZIdeal_DwZRefIdeal := fun m ρ m' ρ' _ hag =>
  ⟨fun c => G (V m c main_arg0) (V m c main_arg1),
   (θ_run _ _ _).mono (fun _ h c => ⟨(h c).1.trans (final2 m c), (h c).2⟩) (Value.run_blocks m ρ),
   (θ_run _ _ _).mono (fun _ h c => ⟨(h c).1.trans (by rw [(hag c).1, (hag c).2]; exact ref_eq _ _ ), (h c).2⟩)
     (Cert.DwZRefIdeal.Value.run m' ρ')⟩

end Cert.DwZProof

end
-- ==== Proof.DwX.lean ====
/- The gradient of one segment of the input weight (`dw_in_x`, `dw_in_g`): what the kernel leaves in its result, and that the reference leaves the same. -/
module

public import proofs.«01_k».proof.Defs
public import proofs.«01_k».proof.Proof.Gen.DwXIdeal.Value
public import proofs.«01_k».proof.Proof.Gen.DwXRefIdeal.Run
public import proofs.«01_k».proof.Proof.Shared

@[expose] public section

set_option maxRecDepth 16384

noncomputable section

namespace Cert.DwXProof

open Cert.DwXIdeal Cert.DwXIdeal.Gen Idealize.ShloMosaic Idealize.ShloMosaic.TcCoe Idealize.SL.Sem
open Idealize.ShloMosaic.Pointwise Cert.Shared

/-! Arrays by their shapes. -/
abbrev B4096x1024 := Vec Ideal S4096x1024 .bf16
abbrev B4096x3072 := Vec Ideal S4096x3072 .bf16
abbrev R1024x512 := Vec Ideal S1024x512 .f32
abbrev B1024x1024 := Vec Ideal S1024x1024 .bf16
abbrev B1024x512 := Vec Ideal S1024x512 .bf16

/-- Entry `i, j` of the product. -/
def cell (x : B4096x1024) (y : B4096x3072) (i : Fin 1024) (j : Fin 3072) : EReal := ∑ k : Fin 4096, x (ix2 k i) * y (ix2 k j)

/-- The result array. -/
def G (x : B4096x1024) (y : B4096x3072) : Vec Ideal S1024x3072 .bf16 := fun i => cell x y (i 0) (i 1)

/-! What one grid point computes. -/

theorem pay1_apply (x : B1024x1024) (y : B1024x512) (a : Fin 1024) (b : Fin 512) :
    k0_pay1 x y (ix2 a b) = ∑ k : Fin 1024, x (ix2 k a) * y (ix2 k b) := by
  pointwise [k0_pay1]

theorem pay2_apply (x : B1024x1024) (y : B1024x512) (a : Fin 1024) (b : Fin 512) :
    k0_pay2 x y (ix2 a b) = 0 + k0_pay1 x y (ix2 a b) := by
  pointwise [k0_pay2]

theorem pay3_apply (x : B1024x1024) (y : B1024x512) (s : R1024x512) (a : Fin 1024) (b : Fin 512) :
    k0_pay3 x y s (ix2 a b) = s (ix2 a b) + k0_pay1 x y (ix2 a b) := by
  pointwise [k0_pay3]

theorem pay4_apply (s : R1024x512) (a : Fin 1024) (b : Fin 512) : k0_pay4 s (ix2 a b) = s (ix2 a b) := by
  pointwise [k0_pay4]

variable (m : (ℓ : Loc nD τ sig) → Buf (Elt Ideal) ℓ)

/-- The block indices at point `t`: 1 row tiles by 6 column tiles by 4 steps of the sum. -/
theorem idx : ∀ t : Fin cfg0.N, t.val < 24
    ∧ (win0_0.index t (0 : Fin 2) = t.val % 4 ∧ win0_0.index t (1 : Fin 2) = 0)
    ∧ (win0_1.index t (0 : Fin 2) = t.val % 4 ∧ win0_1.index t (1 : Fin 2) = t.val / 4 % 6)
    ∧ (win0_2.index t (0 : Fin 2) = 0 ∧ win0_2.index t (1 : Fin 2) = t.val / 4 % 6) :=
  (by decide +kernel : ∀ t : Fin grid0.N, _)

/-- Row `a` and column `b` of point `t`'s block, and its step `k` of the sum, in the whole arrays. -/
def row (t : Fin cfg0.N) (a : Fin 1024) : Fin 1024 := ⟨0 * 1024 + a.val, by have := (idx t).1; omega⟩
def col (t : Fin cfg0.N) (b : Fin 512) : Fin 3072 := ⟨t.val / 4 % 6 * 512 + b.val, by have := (idx t).1; omega⟩
def stp (t : Fin cfg0.N) (k : Fin 1024) : Fin 4096 := ⟨t.val % 4 * 1024 + k.val, by have := (idx t).1; omega⟩

theorem emb0 (t : Fin cfg0.N) (a : Fin 1024) (k : Fin 1024) : ((cfg0.win 0).blk t).view.emb (ix2 k a) = ix2 (stp t k) (row t a) := by
  obtain ⟨-, ⟨e0, e1⟩, -⟩ := idx t
  refine ext2 ?_ ?_
  · show win0_0.index t (0 : Fin 2) * 1024 + 1 * k.val = t.val % 4 * 1024 + k.val; rw [e0]; omega
  · show win0_0.index t (1 : Fin 2) * 1024 + 1 * a.val = 0 * 1024 + a.val; rw [e1]; omega

theorem emb1 (t : Fin cfg0.N) (b : Fin 512) (k : Fin 1024) : ((cfg0.win 1).blk t).view.emb (ix2 k b) = ix2 (stp t k) (col t b) := by
  obtain ⟨-, -, ⟨e0, e1⟩, -⟩ := idx t
  refine ext2 ?_ ?_
  · show win0_1.index t (0 : Fin 2) * 1024 + 1 * k.val = t.val % 4 * 1024 + k.val; rw [e0]; omega
  · show win0_1.index t (1 : Fin 2) * 512 + 1 * b.val = t.val / 4 % 6 * 512 + b.val; rw [e1]; omega

theorem emb2 (t : Fin cfg0.N) (a : Fin 1024) (b : Fin 512) : ((cfg0.win 2).blk t).view.emb (ix2 a b) = ix2 (row t a) (col t b) := by
  obtain ⟨-, -, -, e0, e1⟩ := idx t
  refine ext2 ?_ ?_
  · show win0_2.index t (0 : Fin 2) * 1024 + 1 * a.val = 0 * 1024 + a.val; rw [e0]; omega
  · show win0_2.index t (1 : Fin 2) * 512 + 1 * b.val = t.val / 4 % 6 * 512 + b.val; rw [e1]; omega

/-- The argument blocks of point `t`, at one index each. -/
theorem iblk0_apply (c : Dev nD) (t : Fin cfg0.N) (a : Fin 1024) (k : Fin 1024) : (iblk m c 0 t : B1024x1024) (ix2 k a)
    = (V m c main_arg0 : B4096x1024) (ix2 (stp t k) (row t a)) :=
  congrArg (V m c main_arg0) (emb0 t a k)
theorem iblk1_apply (c : Dev nD) (t : Fin cfg0.N) (b : Fin 512) (k : Fin 1024) : (iblk m c 1 t : B1024x512) (ix2 k b)
    = (V m c main_arg1 : B4096x3072) (ix2 (stp t k) (col t b)) :=
  congrArg (V m c main_arg1) (emb1 t b k)

/-! What the accumulator and the result's block hold. -/

theorem acc_first (c : Dev nD) (t : Fin cfg0.N) (h : t.val % 4 = 0) : (outsAt0 m c t.val t.isLt).2 = k0_pay2 (iblk m c 0 t) (iblk m c 1 t) := by
  have ht := (idx t).1
  rw [outsAt0_A m c t h (by omega) (by omega)]
  frame_out
theorem acc_later (c : Dev nD) (t : Fin cfg0.N) (h : ¬t.val % 4 = 0) : (outsAt0 m c t.val t.isLt).2
    = k0_pay3 (iblk m c 0 t) (iblk m c 1 t) (outsAt0 m c (t.val - 1) (Nat.sub_lt_of_lt t.isLt)).2 := by
  have ht := (idx t).1
  by_cases hl : t.val % 4 = 3
  · rw [outsAt0_C m c t h (by omega) hl]
    frame_out
    rw [read_unread_whole]
  · rw [outsAt0_B m c t h (by omega) hl]
    frame_out
    rw [read_unread_whole]
theorem out_last (c : Dev nD) (t : Fin cfg0.N) (h : t.val % 4 = 3) : (outsAt0 m c t.val t.isLt).1 = k0_pay4 (outsAt0 m c t.val t.isLt).2 := by
  have ht := (idx t).1
  rw [outsAt0_C m c t (by omega) (by omega) (by omega)]
  frame_out

/-- One step's part of a sum, over the whole arrays. -/
def part (x : B4096x1024) (y : B4096x3072) (i : Fin 1024) (j : Fin 3072) (q : Nat) : EReal :=
  if h : q < 4 then ∑ k : Fin 1024, x (ix2 ⟨q * 1024 + k.val, by omega⟩ i) * y (ix2 ⟨q * 1024 + k.val, by omega⟩ j) else 0
theorem part_apply (c : Dev nD) (t : Fin cfg0.N) (a : Fin 1024) (b : Fin 512) : k0_pay1 (iblk m c 0 t) (iblk m c 1 t) (ix2 a b)
    = part (V m c main_arg0) (V m c main_arg1) (row t a) (col t b) (t.val % 4) := by
  rw [pay1_apply, part, dif_pos (Nat.mod_lt _ (by decide))]
  simp only [iblk0_apply, iblk1_apply]
  rfl
theorem row_eq {t u : Fin cfg0.N} (h : t.val / 4 = u.val / 4) (a : Fin 1024) : row t a = row u a :=
  Fin.ext (by show 0 * 1024 + a.val = 0 * 1024 + a.val; omega)
theorem col_eq {t u : Fin cfg0.N} (h : t.val / 4 = u.val / 4) (b : Fin 512) : col t b = col u b :=
  Fin.ext (by show t.val / 4 % 6 * 512 + b.val = u.val / 4 % 6 * 512 + b.val; omega)

/-- After the last step of a run the accumulator holds the whole sum. -/
theorem acc_last (c : Dev nD) (t : Fin cfg0.N) (h : t.val % 4 = 3) (a : Fin 1024) (b : Fin 512) :
    ((outsAt0 m c t.val t.isLt).2 : R1024x512) (ix2 a b)
    = 0 + cell (V m c main_arg0) (V m c main_arg1) (row t a) (col t b) := by
  have key := run_tile (fun n hn => ((outsAt0 m c n hn).2 : R1024x512) (ix2 a b)) 4 t.val t.isLt h
    (0) (part (V m c main_arg0) (V m c main_arg1) (row t a) (col t b))
    (fun u f e hu => by
      show ((outsAt0 m c u hu).2 : R1024x512) (ix2 a b) = _
      rw [acc_first m c ⟨u, hu⟩ e, pay2_apply, part_apply, row_eq (u := t) f, col_eq (u := t) f]
      show _ + part _ _ _ _ (u % 4) = _
      rw [e])
    (fun u f e hu hu' => by
      show ((outsAt0 m c u hu).2 : R1024x512) (ix2 a b) = _
      rw [acc_later m c ⟨u, hu⟩ e, pay3_apply, part_apply, row_eq (u := t) f, col_eq (u := t) f] <;> rfl)
  refine key.trans ?_
  congr 1
  rw [cell, Fin.sum_univ_tiles 4 1024 rfl, ← Fin.sum_univ_eq_sum_range (part _ _ _ _) 4]
  refine Finset.sum_congr rfl fun q _ => ?_
  rw [part, dif_pos q.isLt]

/-- The result array after the run. -/
theorem final2 (c : Dev nD) : (dats m 0 c).arrAt 2 cfg0.N = G (V m c main_arg0) (V m c main_arg1) := by
  refine (dats m 0 c).arrAt_eq_of_covers 2 _ (by decide +kernel) fun t hf y => ?_
  have hl := (flush0_2 t).mp hf
  rw [after0_2, out_last m c t hl]
  obtain ⟨a, b, rfl⟩ := pair y
  rw [emb2]
  show k0_pay4 ((outsAt0 m c t.val t.isLt).2) (ix2 a b) = _
  rw [pay4_apply, acc_last m c t hl, zero_add]
  rfl

/-- What the reference computes, at every index. -/
theorem ref_eq (x : B4096x1024) (y : B4096x3072) :
    truncf (F := Ideal) (φ := .f32) .bf16 (transpose Cert.DwXRefIdeal.S1024x3072 [1, 0] (Host.dotGeneral (F := Ideal) (φ₁ := .f32) (φ₂ := .f32) Cert.DwXRefIdeal.dot_S4096x3072_S4096x1024_S3072x1024_0_0_1_1_n_n none (extf .f32 y Cert.DwXRefIdeal.Facts₀.bitsLt_bf16_f32) (extf .f32 x Cert.DwXRefIdeal.Facts₀.bitsLt_bf16_f32)) Cert.DwXRefIdeal.Facts₀.transposes_S3072x1024_S1024x3072_1_0) Cert.DwXRefIdeal.Facts₀.bitsLt_bf16_f32 = G x y := by
  funext i
  obtain ⟨a, b, rfl⟩ : ∃ (a : Fin 1024) (b : Fin 3072), i = ix2 a b := ⟨i 0, i 1, eq_ix2 i⟩
  pointwise
  exact Finset.sum_congr rfl fun k _ => mul_comm _ _

/-- The claim of the call: kernel and reference end with the same array. -/
theorem algebraic : Cert.algebraic_DwXIdeal_DwXRefIdeal := fun m ρ m' ρ' _ hag =>
  ⟨fun c => G (V m c main_arg0) (V m c main_arg1),
   (θ_run _ _ _).mono (fun _ h c => ⟨(h c).1.trans (final2 m c), (h c).2⟩) (Value.run_blocks m ρ),
   (θ_run _ _ _).mono (fun _ h c => ⟨(h c).1.trans (by rw [(hag c).1, (hag c).2]; exact ref_eq _ _ ), (h c).2⟩)
     (Cert.DwXRefIdeal.Value.run m' ρ')⟩

end Cert.DwXProof

end
-- ==== Proof.DwDt.lean ====
/- The gradient of one segment of the input weight (`dw_in_dt`): what the kernel leaves in its result, and that the reference leaves the same. -/
module

public import proofs.«01_k».proof.Defs
public import proofs.«01_k».proof.Proof.Gen.DwDtIdeal.Value
public import proofs.«01_k».proof.Proof.Gen.DwDtRefIdeal.Run
public import proofs.«01_k».proof.Proof.Shared

@[expose] public section

set_option maxRecDepth 16384

noncomputable section

namespace Cert.DwDtProof

open Cert.DwDtIdeal Cert.DwDtIdeal.Gen Idealize.ShloMosaic Idealize.ShloMosaic.TcCoe Idealize.SL.Sem
open Idealize.ShloMosaic.Pointwise Cert.Shared

/-! Arrays by their shapes. -/
abbrev R1024x128 := Vec Ideal S1024x128 .f32
abbrev B4096x1024 := Vec Ideal S4096x1024 .bf16
abbrev R4096x128 := Vec Ideal S4096x128 .f32
abbrev B1024x1024 := Vec Ideal S1024x1024 .bf16

/-- Entry `i, j` of the product. -/
def cell (x : B4096x1024) (y : R4096x128) (i : Fin 1024) (j : Fin 128) : EReal := ∑ k : Fin 4096, x (ix2 k i) * y (ix2 k j)

/-- The result array. -/
def G (x : B4096x1024) (y : R4096x128) : Vec Ideal S1024x128 .bf16 := fun i => cell x y (i 0) (i 1)

/-! What one grid point computes. -/

theorem pay1_apply (x : B1024x1024) (y : R1024x128) (a : Fin 1024) (b : Fin 128) :
    k0_pay1 x y (ix2 a b) = ∑ k : Fin 1024, x (ix2 k a) * y (ix2 k b) := by
  pointwise [k0_pay1]

theorem pay2_apply (x : B1024x1024) (y : R1024x128) (a : Fin 1024) (b : Fin 128) :
    k0_pay2 x y (ix2 a b) = 0 + k0_pay1 x y (ix2 a b) := by
  pointwise [k0_pay2]

theorem pay3_apply (x : B1024x1024) (y : R1024x128) (s : R1024x128) (a : Fin 1024) (b : Fin 128) :
    k0_pay3 x y s (ix2 a b) = s (ix2 a b) + k0_pay1 x y (ix2 a b) := by
  pointwise [k0_pay3]

theorem pay4_apply (s : R1024x128) (a : Fin 1024) (b : Fin 128) : k0_pay4 s (ix2 a b) = s (ix2 a b) := by
  pointwise [k0_pay4]

variable (m : (ℓ : Loc nD τ sig) → Buf (Elt Ideal) ℓ)

/-- The block indices at point `t`: 1 row tiles by 1 column tiles by 4 steps of the sum. -/
theorem idx : ∀ t : Fin cfg0.N, t.val < 4
    ∧ (win0_0.index t (0 : Fin 2) = t.val % 4 ∧ win0_0.index t (1 : Fin 2) = 0)
    ∧ (win0_1.index t (0 : Fin 2) = t.val % 4 ∧ win0_1.index t (1 : Fin 2) = 0)
    ∧ (win0_2.index t (0 : Fin 2) = 0 ∧ win0_2.index t (1 : Fin 2) = 0) :=
  (by decide +kernel : ∀ t : Fin grid0.N, _)

/-- Row `a` and column `b` of point `t`'s block, and its step `k` of the sum, in the whole arrays. -/
def row (t : Fin cfg0.N) (a : Fin 1024) : Fin 1024 := ⟨0 * 1024 + a.val, by have := (idx t).1; omega⟩
def col (t : Fin cfg0.N) (b : Fin 128) : Fin 128 := ⟨0 * 128 + b.val, by have := (idx t).1; omega⟩
def stp (t : Fin cfg0.N) (k : Fin 1024) : Fin 4096 := ⟨t.val % 4 * 1024 + k.val, by have := (idx t).1; omega⟩

theorem emb0 (t : Fin cfg0.N) (a : Fin 1024) (k : Fin 1024) : ((cfg0.win 0).blk t).view.emb (ix2 k a) = ix2 (stp t k) (row t a) := by
  obtain ⟨-, ⟨e0, e1⟩, -⟩ := idx t
  refine ext2 ?_ ?_
  · show win0_0.index t (0 : Fin 2) * 1024 + 1 * k.val = t.val % 4 * 1024 + k.val; rw [e0]; omega
  · show win0_0.index t (1 : Fin 2) * 1024 + 1 * a.val = 0 * 1024 + a.val; rw [e1]; omega

theorem emb1 (t : Fin cfg0.N) (b : Fin 128) (k : Fin 1024) : ((cfg0.win 1).blk t).view.emb (ix2 k b) = ix2 (stp t k) (col t b) := by
  obtain ⟨-, -, ⟨e0, e1⟩, -⟩ := idx t
  refine ext2 ?_ ?_
  · show win0_1.index t (0 : Fin 2) * 1024 + 1 * k.val = t.val % 4 * 1024 + k.val; rw [e0]; omega
  · show win0_1.index t (1 : Fin 2) * 128 + 1 * b.val = 0 * 128 + b.val; rw [e1]; omega

theorem emb2 (t : Fin cfg0.N) (a : Fin 1024) (b : Fin 128) : ((cfg0.win 2).blk t).view.emb (ix2 a b) = ix2 (row t a) (col t b) := by
  obtain ⟨-, -, -, e0, e1⟩ := idx t
  refine ext2 ?_ ?_
  · show win0_2.index t (0 : Fin 2) * 1024 + 1 * a.val = 0 * 1024 + a.val; rw [e0]; omega
  · show win0_2.index t (1 : Fin 2) * 128 + 1 * b.val = 0 * 128 + b.val; rw [e1]; omega

/-- The argument blocks of point `t`, at one index each. -/
theorem iblk0_apply (c : Dev nD) (t : Fin cfg0.N) (a : Fin 1024) (k : Fin 1024) : (iblk m c 0 t : B1024x1024) (ix2 k a)
    = (V m c main_arg0 : B4096x1024) (ix2 (stp t k) (row t a)) :=
  congrArg (V m c main_arg0) (emb0 t a k)
theorem iblk1_apply (c : Dev nD) (t : Fin cfg0.N) (b : Fin 128) (k : Fin 1024) : (iblk m c 1 t : R1024x128) (ix2 k b)
    = (V m c main_arg1 : R4096x128) (ix2 (stp t k) (col t b)) :=
  congrArg (V m c main_arg1) (emb1 t b k)

/-! What the accumulator and the result's block hold. -/

theorem acc_first (c : Dev nD) (t : Fin cfg0.N) (h : t.val % 4 = 0) : (outsAt0 m c t.val t.isLt).2 = k0_pay2 (iblk m c 0 t) (iblk m c 1 t) := by
  have ht := (idx t).1
  rw [outsAt0_A m c t h (by omega) (by omega)]
  frame_out
theorem acc_later (c : Dev nD) (t : Fin cfg0.N) (h : ¬t.val % 4 = 0) : (outsAt0 m c t.val t.isLt).2
    = k0_pay3 (iblk m c 0 t) (iblk m c 1 t) (outsAt0 m c (t.val - 1) (Nat.sub_lt_of_lt t.isLt)).2 := by
  have ht := (idx t).1
  by_cases hl : t.val % 4 = 3
  · rw [outsAt0_C m c t h (by omega) hl]
    frame_out
    rw [read_unread_whole]
  · rw [outsAt0_B m c t h (by omega) hl]
    frame_out
    rw [read_unread_whole]
theorem out_last (c : Dev nD) (t : Fin cfg0.N) (h : t.val % 4 = 3) : (outsAt0 m c t.val t.isLt).1 = k0_pay4 (outsAt0 m c t.val t.isLt).2 := by
  have ht := (idx t).1
  rw [outsAt0_C m c t (by omega) (by omega) (by omega)]
  frame_out

/-- One step's part of a sum, over the whole arrays. -/
def part (x : B4096x1024) (y : R4096x128) (i : Fin 1024) (j : Fin 128) (q : Nat) : EReal :=
  if h : q < 4 then ∑ k : Fin 1024, x (ix2 ⟨q * 1024 + k.val, by omega⟩ i) * y (ix2 ⟨q * 1024 + k.val, by omega⟩ j) else 0
theorem part_apply (c : Dev nD) (t : Fin cfg0.N) (a : Fin 1024) (b : Fin 128) : k0_pay1 (iblk m c 0 t) (iblk m c 1 t) (ix2 a b)
    = part (V m c main_arg0) (V m c main_arg1) (row t a) (col t b) (t.val % 4) := by
  rw [pay1_apply, part, dif_pos (Nat.mod_lt _ (by decide))]
  simp only [iblk0_apply, iblk1_apply]
  rfl
theorem row_eq {t u : Fin cfg0.N} (h : t.val / 4 = u.val / 4) (a : Fin 1024) : row t a = row u a :=
  Fin.ext (by show 0 * 1024 + a.val = 0 * 1024 + a.val; omega)
theorem col_eq {t u : Fin cfg0.N} (h : t.val / 4 = u.val / 4) (b : Fin 128) : col t b = col u b :=
  Fin.ext (by show 0 * 128 + b.val = 0 * 128 + b.val; omega)

/-- After the last step of a run the accumulator holds the whole sum. -/
theorem acc_last (c : Dev nD) (t : Fin cfg0.N) (h : t.val % 4 = 3) (a : Fin 1024) (b : Fin 128) :
    ((outsAt0 m c t.val t.isLt).2 : R1024x128) (ix2 a b)
    = 0 + cell (V m c main_arg0) (V m c main_arg1) (row t a) (col t b) := by
  have key := run_tile (fun n hn => ((outsAt0 m c n hn).2 : R1024x128) (ix2 a b)) 4 t.val t.isLt h
    (0) (part (V m c main_arg0) (V m c main_arg1) (row t a) (col t b))
    (fun u f e hu => by
      show ((outsAt0 m c u hu).2 : R1024x128) (ix2 a b) = _
      rw [acc_first m c ⟨u, hu⟩ e, pay2_apply, part_apply, row_eq (u := t) f, col_eq (u := t) f]
      show _ + part _ _ _ _ (u % 4) = _
      rw [e])
    (fun u f e hu hu' => by
      show ((outsAt0 m c u hu).2 : R1024x128) (ix2 a b) = _
      rw [acc_later m c ⟨u, hu⟩ e, pay3_apply, part_apply, row_eq (u := t) f, col_eq (u := t) f] <;> rfl)
  refine key.trans ?_
  congr 1
  rw [cell, Fin.sum_univ_tiles 4 1024 rfl, ← Fin.sum_univ_eq_sum_range (part _ _ _ _) 4]
  refine Finset.sum_congr rfl fun q _ => ?_
  rw [part, dif_pos q.isLt]

/-- The result array after the run. -/
theorem final2 (c : Dev nD) : (dats m 0 c).arrAt 2 cfg0.N = G (V m c main_arg0) (V m c main_arg1) := by
  refine (dats m 0 c).arrAt_eq_of_covers 2 _ (by decide +kernel) fun t hf y => ?_
  have hl := (flush0_2 t).mp hf
  rw [after0_2, out_last m c t hl]
  obtain ⟨a, b, rfl⟩ := pair y
  rw [emb2]
  show k0_pay4 ((outsAt0 m c t.val t.isLt).2) (ix2 a b) = _
  rw [pay4_apply, acc_last m c t hl, zero_add]
  rfl

/-- What the reference computes, at every index. -/
theorem ref_eq (x : B4096x1024) (y : R4096x128) :
    truncf (F := Ideal) (φ := .f32) .bf16 (transpose Cert.DwDtRefIdeal.S1024x128 [1, 0] (Host.dotGeneral (F := Ideal) (φ₁ := .f32) (φ₂ := .f32) Cert.DwDtRefIdeal.dot_S4096x128_S4096x1024_S128x1024_0_0_1_1_n_n none y (extf .f32 x Cert.DwDtRefIdeal.Facts₀.bitsLt_bf16_f32)) Cert.DwDtRefIdeal.Facts₀.transposes_S128x1024_S1024x128_1_0) Cert.DwDtRefIdeal.Facts₀.bitsLt_bf16_f32 = G x y := by
  funext i
  obtain ⟨a, b, rfl⟩ : ∃ (a : Fin 1024) (b : Fin 128), i = ix2 a b := ⟨i 0, i 1, eq_ix2 i⟩
  pointwise
  exact Finset.sum_congr rfl fun k _ => mul_comm _ _

/-- The claim of the call: kernel and reference end with the same array. -/
theorem algebraic : Cert.algebraic_DwDtIdeal_DwDtRefIdeal := fun m ρ m' ρ' _ hag =>
  ⟨fun c => G (V m c main_arg0) (V m c main_arg1),
   (θ_run _ _ _).mono (fun _ h c => ⟨(h c).1.trans (final2 m c), (h c).2⟩) (Value.run_blocks m ρ),
   (θ_run _ _ _).mono (fun _ h c => ⟨(h c).1.trans (by rw [(hag c).1, (hag c).2]; exact ref_eq _ _ ), (h c).2⟩)
     (Cert.DwDtRefIdeal.Value.run m' ρ')⟩

end Cert.DwDtProof

end
-- ==== Proof.DwQkv.lean ====
/- The gradient of one segment of the input weight (`dw_in_qkv`): what the kernel leaves in its result, and that the reference leaves the same. -/
module

public import proofs.«01_k».proof.Defs
public import proofs.«01_k».proof.Proof.Gen.DwQkvIdeal.Value
public import proofs.«01_k».proof.Proof.Gen.DwQkvRefIdeal.Run
public import proofs.«01_k».proof.Proof.Shared

@[expose] public section

set_option maxRecDepth 16384

noncomputable section

namespace Cert.DwQkvProof

open Cert.DwQkvIdeal Cert.DwQkvIdeal.Gen Idealize.ShloMosaic Idealize.ShloMosaic.TcCoe Idealize.SL.Sem
open Idealize.ShloMosaic.Pointwise Cert.Shared

/-! Arrays by their shapes. -/
abbrev B4096x1024 := Vec Ideal S4096x1024 .bf16
abbrev B4096x1536 := Vec Ideal S4096x1536 .bf16
abbrev R1024x512 := Vec Ideal S1024x512 .f32
abbrev B1024x1024 := Vec Ideal S1024x1024 .bf16
abbrev B1024x512 := Vec Ideal S1024x512 .bf16

/-- Entry `i, j` of the product. -/
def cell (x : B4096x1024) (y : B4096x1536) (i : Fin 1024) (j : Fin 1536) : EReal := ∑ k : Fin 4096, x (ix2 k i) * y (ix2 k j)

/-- The result array. -/
def G (x : B4096x1024) (y : B4096x1536) : Vec Ideal S1024x1536 .bf16 := fun i => cell x y (i 0) (i 1)

/-! What one grid point computes. -/

theorem pay1_apply (x : B1024x1024) (y : B1024x512) (a : Fin 1024) (b : Fin 512) :
    k0_pay1 x y (ix2 a b) = ∑ k : Fin 1024, x (ix2 k a) * y (ix2 k b) := by
  pointwise [k0_pay1]

theorem pay2_apply (x : B1024x1024) (y : B1024x512) (a : Fin 1024) (b : Fin 512) :
    k0_pay2 x y (ix2 a b) = 0 + k0_pay1 x y (ix2 a b) := by
  pointwise [k0_pay2]

theorem pay3_apply (x : B1024x1024) (y : B1024x512) (s : R1024x512) (a : Fin 1024) (b : Fin 512) :
    k0_pay3 x y s (ix2 a b) = s (ix2 a b) + k0_pay1 x y (ix2 a b) := by
  pointwise [k0_pay3]

theorem pay4_apply (s : R1024x512) (a : Fin 1024) (b : Fin 512) : k0_pay4 s (ix2 a b) = s (ix2 a b) := by
  pointwise [k0_pay4]

variable (m : (ℓ : Loc nD τ sig) → Buf (Elt Ideal) ℓ)

/-- The block indices at point `t`: 1 row tiles by 3 column tiles by 4 steps of the sum. -/
theorem idx : ∀ t : Fin cfg0.N, t.val < 12
    ∧ (win0_0.index t (0 : Fin 2) = t.val % 4 ∧ win0_0.index t (1 : Fin 2) = 0)
    ∧ (win0_1.index t (0 : Fin 2) = t.val % 4 ∧ win0_1.index t (1 : Fin 2) = t.val / 4 % 3)
    ∧ (win0_2.index t (0 : Fin 2) = 0 ∧ win0_2.index t (1 : Fin 2) = t.val / 4 % 3) :=
  (by decide +kernel : ∀ t : Fin grid0.N, _)

/-- Row `a` and column `b` of point `t`'s block, and its step `k` of the sum, in the whole arrays. -/
def row (t : Fin cfg0.N) (a : Fin 1024) : Fin 1024 := ⟨0 * 1024 + a.val, by have := (idx t).1; omega⟩
def col (t : Fin cfg0.N) (b : Fin 512) : Fin 1536 := ⟨t.val / 4 % 3 * 512 + b.val, by have := (idx t).1; omega⟩
def stp (t : Fin cfg0.N) (k : Fin 1024) : Fin 4096 := ⟨t.val % 4 * 1024 + k.val, by have := (idx t).1; omega⟩

theorem emb0 (t : Fin cfg0.N) (a : Fin 1024) (k : Fin 1024) : ((cfg0.win 0).blk t).view.emb (ix2 k a) = ix2 (stp t k) (row t a) := by
  obtain ⟨-, ⟨e0, e1⟩, -⟩ := idx t
  refine ext2 ?_ ?_
  · show win0_0.index t (0 : Fin 2) * 1024 + 1 * k.val = t.val % 4 * 1024 + k.val; rw [e0]; omega
  · show win0_0.index t (1 : Fin 2) * 1024 + 1 * a.val = 0 * 1024 + a.val; rw [e1]; omega

theorem emb1 (t : Fin cfg0.N) (b : Fin 512) (k : Fin 1024) : ((cfg0.win 1).blk t).view.emb (ix2 k b) = ix2 (stp t k) (col t b) := by
  obtain ⟨-, -, ⟨e0, e1⟩, -⟩ := idx t
  refine ext2 ?_ ?_
  · show win0_1.index t (0 : Fin 2) * 1024 + 1 * k.val = t.val % 4 * 1024 + k.val; rw [e0]; omega
  · show win0_1.index t (1 : Fin 2) * 512 + 1 * b.val = t.val / 4 % 3 * 512 + b.val; rw [e1]; omega

theorem emb2 (t : Fin cfg0.N) (a : Fin 1024) (b : Fin 512) : ((cfg0.win 2).blk t).view.emb (ix2 a b) = ix2 (row t a) (col t b) := by
  obtain ⟨-, -, -, e0, e1⟩ := idx t
  refine ext2 ?_ ?_
  · show win0_2.index t (0 : Fin 2) * 1024 + 1 * a.val = 0 * 1024 + a.val; rw [e0]; omega
  · show win0_2.index t (1 : Fin 2) * 512 + 1 * b.val = t.val / 4 % 3 * 512 + b.val; rw [e1]; omega

/-- The argument blocks of point `t`, at one index each. -/
theorem iblk0_apply (c : Dev nD) (t : Fin cfg0.N) (a : Fin 1024) (k : Fin 1024) : (iblk m c 0 t : B1024x1024) (ix2 k a)
    = (V m c main_arg0 : B4096x1024) (ix2 (stp t k) (row t a)) :=
  congrArg (V m c main_arg0) (emb0 t a k)
theorem iblk1_apply (c : Dev nD) (t : Fin cfg0.N) (b : Fin 512) (k : Fin 1024) : (iblk m c 1 t : B1024x512) (ix2 k b)
    = (V m c main_arg1 : B4096x1536) (ix2 (stp t k) (col t b)) :=
  congrArg (V m c main_arg1) (emb1 t b k)

/-! What the accumulator and the result's block hold. -/

theorem acc_first (c : Dev nD) (t : Fin cfg0.N) (h : t.val % 4 = 0) : (outsAt0 m c t.val t.isLt).2 = k0_pay2 (iblk m c 0 t) (iblk m c 1 t) := by
  have ht := (idx t).1
  rw [outsAt0_A m c t h (by omega) (by omega)]
  frame_out
theorem acc_later (c : Dev nD) (t : Fin cfg0.N) (h : ¬t.val % 4 = 0) : (outsAt0 m c t.val t.isLt).2
    = k0_pay3 (iblk m c 0 t) (iblk m c 1 t) (outsAt0 m c (t.val - 1) (Nat.sub_lt_of_lt t.isLt)).2 := by
  have ht := (idx t).1
  by_cases hl : t.val % 4 = 3
  · rw [outsAt0_C m c t h (by omega) hl]
    frame_out
    rw [read_unread_whole]
  · rw [outsAt0_B m c t h (by omega) hl]
    frame_out
    rw [read_unread_whole]
theorem out_last (c : Dev nD) (t : Fin cfg0.N) (h : t.val % 4 = 3) : (outsAt0 m c t.val t.isLt).1 = k0_pay4 (outsAt0 m c t.val t.isLt).2 := by
  have ht := (idx t).1
  rw [outsAt0_C m c t (by omega) (by omega) (by omega)]
  frame_out

/-- One step's part of a sum, over the whole arrays. -/
def part (x : B4096x1024) (y : B4096x1536) (i : Fin 1024) (j : Fin 1536) (q : Nat) : EReal :=
  if h : q < 4 then ∑ k : Fin 1024, x (ix2 ⟨q * 1024 + k.val, by omega⟩ i) * y (ix2 ⟨q * 1024 + k.val, by omega⟩ j) else 0
theorem part_apply (c : Dev nD) (t : Fin cfg0.N) (a : Fin 1024) (b : Fin 512) : k0_pay1 (iblk m c 0 t) (iblk m c 1 t) (ix2 a b)
    = part (V m c main_arg0) (V m c main_arg1) (row t a) (col t b) (t.val % 4) := by
  rw [pay1_apply, part, dif_pos (Nat.mod_lt _ (by decide))]
  simp only [iblk0_apply, iblk1_apply]
  rfl
theorem row_eq {t u : Fin cfg0.N} (h : t.val / 4 = u.val / 4) (a : Fin 1024) : row t a = row u a :=
  Fin.ext (by show 0 * 1024 + a.val = 0 * 1024 + a.val; omega)
theorem col_eq {t u : Fin cfg0.N} (h : t.val / 4 = u.val / 4) (b : Fin 512) : col t b = col u b :=
  Fin.ext (by show t.val / 4 % 3 * 512 + b.val = u.val / 4 % 3 * 512 + b.val; omega)

/-- After the last step of a run the accumulator holds the whole sum. -/
theorem acc_last (c : Dev nD) (t : Fin cfg0.N) (h : t.val % 4 = 3) (a : Fin 1024) (b : Fin 512) :
    ((outsAt0 m c t.val t.isLt).2 : R1024x512) (ix2 a b)
    = 0 + cell (V m c main_arg0) (V m c main_arg1) (row t a) (col t b) := by
  have key := run_tile (fun n hn => ((outsAt0 m c n hn).2 : R1024x512) (ix2 a b)) 4 t.val t.isLt h
    (0) (part (V m c main_arg0) (V m c main_arg1) (row t a) (col t b))
    (fun u f e hu => by
      show ((outsAt0 m c u hu).2 : R1024x512) (ix2 a b) = _
      rw [acc_first m c ⟨u, hu⟩ e, pay2_apply, part_apply, row_eq (u := t) f, col_eq (u := t) f]
      show _ + part _ _ _ _ (u % 4) = _
      rw [e])
    (fun u f e hu hu' => by
      show ((outsAt0 m c u hu).2 : R1024x512) (ix2 a b) = _
      rw [acc_later m c ⟨u, hu⟩ e, pay3_apply, part_apply, row_eq (u := t) f, col_eq (u := t) f] <;> rfl)
  refine key.trans ?_
  congr 1
  rw [cell, Fin.sum_univ_tiles 4 1024 rfl, ← Fin.sum_univ_eq_sum_range (part _ _ _ _) 4]
  refine Finset.sum_congr rfl fun q _ => ?_
  rw [part, dif_pos q.isLt]

/-- The result array after the run. -/
theorem final2 (c : Dev nD) : (dats m 0 c).arrAt 2 cfg0.N = G (V m c main_arg0) (V m c main_arg1) := by
  refine (dats m 0 c).arrAt_eq_of_covers 2 _ (by decide +kernel) fun t hf y => ?_
  have hl := (flush0_2 t).mp hf
  rw [after0_2, out_last m c t hl]
  obtain ⟨a, b, rfl⟩ := pair y
  rw [emb2]
  show k0_pay4 ((outsAt0 m c t.val t.isLt).2) (ix2 a b) = _
  rw [pay4_apply, acc_last m c t hl, zero_add]
  rfl

/-- What the reference computes, at every index. -/
theorem ref_eq (x : B4096x1024) (y : B4096x1536) :
    truncf (F := Ideal) (φ := .f32) .bf16 (transpose Cert.DwQkvRefIdeal.S1024x1536 [1, 0] (Host.dotGeneral (F := Ideal) (φ₁ := .f32) (φ₂ := .f32) Cert.DwQkvRefIdeal.dot_S4096x1536_S4096x1024_S1536x1024_0_0_1_1_n_n none (extf .f32 y Cert.DwQkvRefIdeal.Facts₀.bitsLt_bf16_f32) (extf .f32 x Cert.DwQkvRefIdeal.Facts₀.bitsLt_bf16_f32)) Cert.DwQkvRefIdeal.Facts₀.transposes_S1536x1024_S1024x1536_1_0) Cert.DwQkvRefIdeal.Facts₀.bitsLt_bf16_f32 = G x y := by
  funext i
  obtain ⟨a, b, rfl⟩ : ∃ (a : Fin 1024) (b : Fin 1536), i = ix2 a b := ⟨i 0, i 1, eq_ix2 i⟩
  pointwise
  exact Finset.sum_congr rfl fun k _ => mul_comm _ _

/-- The claim of the call: kernel and reference end with the same array. -/
theorem algebraic : Cert.algebraic_DwQkvIdeal_DwQkvRefIdeal := fun m ρ m' ρ' _ hag =>
  ⟨fun c => G (V m c main_arg0) (V m c main_arg1),
   (θ_run _ _ _).mono (fun _ h c => ⟨(h c).1.trans (final2 m c), (h c).2⟩) (Value.run_blocks m ρ),
   (θ_run _ _ _).mono (fun _ h c => ⟨(h c).1.trans (by rw [(hag c).1, (hag c).2]; exact ref_eq _ _ ), (h c).2⟩)
     (Cert.DwQkvRefIdeal.Value.run m' ρ')⟩

end Cert.DwQkvProof

end
-- ==== Proof.ProjA.lean ====
/- A square forward product (`proj_a`, `proj_ag`, `attn_out`, `conv_out`, `xq`): what the kernel leaves in its result, and that the reference leaves the same. -/
module

public import proofs.«01_k».proof.Defs
public import proofs.«01_k».proof.Proof.Gen.ProjAIdeal.Value
public import proofs.«01_k».proof.Proof.Gen.ProjARefIdeal.Run
public import proofs.«01_k».proof.Proof.Shared

@[expose] public section

set_option maxRecDepth 16384

noncomputable section

namespace Cert.ProjAProof

open Cert.ProjAIdeal Cert.ProjAIdeal.Gen Idealize.ShloMosaic Idealize.ShloMosaic.TcCoe Idealize.SL.Sem
open Idealize.ShloMosaic.Pointwise Cert.Shared

/-! Arrays by their shapes. -/
abbrev B1024x1024 := Vec Ideal S1024x1024 .bf16
abbrev B4096x1024 := Vec Ideal S4096x1024 .bf16

/-- Entry `i, j` of the product. -/
def cell (x : B4096x1024) (y : B1024x1024) (i : Fin 4096) (j : Fin 1024) : EReal := ∑ k : Fin 1024, x (ix2 i k) * y (ix2 k j)

/-- The result array. -/
def G (x : B4096x1024) (y : B1024x1024) : Vec Ideal S4096x1024 .f32 := fun i => cell x y (i 0) (i 1)

/-! What one grid point computes. -/

theorem pay_apply (x : B1024x1024) (y : Vec Ideal S1024x512 .bf16) (a : Fin 1024) (b : Fin 512) :
    k0_pay1 x y (ix2 a b) = ∑ k : Fin 1024, x (ix2 a k) * y (ix2 k b) := by
  pointwise [k0_pay1]

variable (m : (ℓ : Loc nD τ sig) → Buf (Elt Ideal) ℓ)

/-- The block indices at point `t`: 4 row tiles by 2 column tiles by 1 steps of the sum. -/
theorem idx : ∀ t : Fin cfg0.N, t.val < 8
    ∧ (win0_0.index t (0 : Fin 2) = t.val / 2 ∧ win0_0.index t (1 : Fin 2) = 0)
    ∧ (win0_1.index t (0 : Fin 2) = 0 ∧ win0_1.index t (1 : Fin 2) = t.val % 2)
    ∧ (win0_2.index t (0 : Fin 2) = t.val / 2 ∧ win0_2.index t (1 : Fin 2) = t.val % 2) :=
  (by decide +kernel : ∀ t : Fin grid0.N, _)

/-- Row `a` and column `b` of point `t`'s block, in the whole arrays. -/
def row (t : Fin cfg0.N) (a : Fin 1024) : Fin 4096 := ⟨t.val / 2 * 1024 + a.val, by have := (idx t).1; omega⟩
def col (t : Fin cfg0.N) (b : Fin 512) : Fin 1024 := ⟨t.val % 2 * 512 + b.val, by have := (idx t).1; omega⟩

theorem emb0 (t : Fin cfg0.N) (a : Fin 1024) (k : Fin 1024) : ((cfg0.win 0).blk t).view.emb (ix2 a k) = ix2 (row t a) k := by
  obtain ⟨-, ⟨e0, e1⟩, -⟩ := idx t
  refine ext2 ?_ ?_
  · show win0_0.index t (0 : Fin 2) * 1024 + 1 * a.val = t.val / 2 * 1024 + a.val; rw [e0]; omega
  · show win0_0.index t (1 : Fin 2) * 1024 + 1 * k.val = k.val; rw [e1]; omega

theorem emb1 (t : Fin cfg0.N) (b : Fin 512) (k : Fin 1024) : ((cfg0.win 1).blk t).view.emb (ix2 k b) = ix2 k (col t b) := by
  obtain ⟨-, -, ⟨e0, e1⟩, -⟩ := idx t
  refine ext2 ?_ ?_
  · show win0_1.index t (0 : Fin 2) * 1024 + 1 * k.val = k.val; rw [e0]; omega
  · show win0_1.index t (1 : Fin 2) * 512 + 1 * b.val = t.val % 2 * 512 + b.val; rw [e1]; omega

theorem emb2 (t : Fin cfg0.N) (a : Fin 1024) (b : Fin 512) : ((cfg0.win 2).blk t).view.emb (ix2 a b) = ix2 (row t a) (col t b) := by
  obtain ⟨-, -, -, e0, e1⟩ := idx t
  refine ext2 ?_ ?_
  · show win0_2.index t (0 : Fin 2) * 1024 + 1 * a.val = t.val / 2 * 1024 + a.val; rw [e0]; omega
  · show win0_2.index t (1 : Fin 2) * 512 + 1 * b.val = t.val % 2 * 512 + b.val; rw [e1]; omega

/-- The argument blocks of point `t`, at one index each. -/
theorem iblk0_apply (c : Dev nD) (t : Fin cfg0.N) (a : Fin 1024) (k : Fin 1024) : (iblk m c 0 t : B1024x1024) (ix2 a k)
    = (V m c main_arg0 : B4096x1024) (ix2 (row t a) k) :=
  congrArg (V m c main_arg0) (emb0 t a k)
theorem iblk1_apply (c : Dev nD) (t : Fin cfg0.N) (b : Fin 512) (k : Fin 1024) : (iblk m c 1 t : Vec Ideal S1024x512 .bf16) (ix2 k b)
    = (V m c main_arg1 : B1024x1024) (ix2 k (col t b)) :=
  congrArg (V m c main_arg1) (emb1 t b k)

/-- The result array after the run. -/
theorem final2 (c : Dev nD) : (dats m 0 c).arrAt 2 cfg0.N = G (V m c main_arg0) (V m c main_arg1) := by
  refine (dats m 0 c).arrAt_eq_of_covers 2 _ (by decide +kernel) fun t _ y => ?_
  rw [after0_2]
  unfold out0_2
  rw [View.canon_unit_zero hz, View.ld_unit_zero hz, View.ld_unit_zero hz]
  obtain ⟨a, b, rfl⟩ := pair y
  rw [emb2]
  show k0_pay1 (iblk m c 0 t) (iblk m c 1 t) (ix2 a b) = _
  rw [pay_apply]
  simp only [iblk0_apply, iblk1_apply]
  rfl

/-- What the reference computes, at every index. -/
theorem ref_eq (x : B4096x1024) (y : B1024x1024) :
    Host.dotGeneral (F := Ideal) (φ₁ := .f32) (φ₂ := .f32) Cert.ProjARefIdeal.dot_S4096x1024_S1024x1024_S4096x1024_1_0_0_1_n_n none (extf .f32 x Cert.ProjARefIdeal.Facts₀.bitsLt_bf16_f32) (extf .f32 y Cert.ProjARefIdeal.Facts₀.bitsLt_bf16_f32) = G x y := by
  funext i
  obtain ⟨a, b, rfl⟩ : ∃ (a : Fin 4096) (b : Fin 1024), i = ix2 a b := ⟨i 0, i 1, eq_ix2 i⟩
  pointwise
  rfl

/-- The claim of the call: kernel and reference end with the same array. -/
theorem algebraic : Cert.algebraic_ProjAIdeal_ProjARefIdeal := fun m ρ m' ρ' _ hag =>
  ⟨fun c => G (V m c main_arg0) (V m c main_arg1),
   (θ_run _ _ _).mono (fun _ h c => ⟨(h c).1.trans (final2 m c), (h c).2⟩) (Value.run_blocks m ρ),
   (θ_run _ _ _).mono (fun _ h c => ⟨(h c).1.trans (by rw [(hag c).1, (hag c).2]; exact ref_eq _ _ ), (h c).2⟩)
     (Cert.ProjARefIdeal.Value.run m' ρ')⟩

end Cert.ProjAProof

end
-- ==== Proof.ProjZ.lean ====
/- One segment of the input projection (`proj_z`): what the kernel leaves in its result, and that the reference leaves the same. -/
module

public import proofs.«01_k».proof.Defs
public import proofs.«01_k».proof.Proof.Gen.ProjZIdeal.Value
public import proofs.«01_k».proof.Proof.Gen.ProjZRefIdeal.Run
public import proofs.«01_k».proof.Proof.Shared

@[expose] public section

set_option maxRecDepth 16384

noncomputable section

namespace Cert.ProjZProof

open Cert.ProjZIdeal Cert.ProjZIdeal.Gen Idealize.ShloMosaic Idealize.ShloMosaic.TcCoe Idealize.SL.Sem
open Idealize.ShloMosaic.Pointwise Cert.Shared

/-! Arrays by their shapes. -/
abbrev B4096x1024 := Vec Ideal S4096x1024 .bf16
abbrev B1024x2048 := Vec Ideal S1024x2048 .bf16

/-- Entry `i, j` of the product. -/
def cell (x : B4096x1024) (y : B1024x2048) (i : Fin 4096) (j : Fin 2048) : EReal := ∑ k : Fin 1024, x (ix2 i k) * y (ix2 k j)

/-- The result array. -/
def G (x : B4096x1024) (y : B1024x2048) : Vec Ideal S4096x2048 .f32 := fun i => cell x y (i 0) (i 1)

/-! What one grid point computes. -/

theorem pay_apply (x : Vec Ideal S1024x1024 .bf16) (y : Vec Ideal S1024x512 .bf16) (a : Fin 1024) (b : Fin 512) :
    k0_pay1 x y (ix2 a b) = ∑ k : Fin 1024, x (ix2 a k) * y (ix2 k b) := by
  pointwise [k0_pay1]

variable (m : (ℓ : Loc nD τ sig) → Buf (Elt Ideal) ℓ)

/-- The block indices at point `t`: 4 row tiles by 4 column tiles by 1 steps of the sum. -/
theorem idx : ∀ t : Fin cfg0.N, t.val < 16
    ∧ (win0_0.index t (0 : Fin 2) = t.val / 4 ∧ win0_0.index t (1 : Fin 2) = 0)
    ∧ (win0_1.index t (0 : Fin 2) = 0 ∧ win0_1.index t (1 : Fin 2) = t.val % 4)
    ∧ (win0_2.index t (0 : Fin 2) = t.val / 4 ∧ win0_2.index t (1 : Fin 2) = t.val % 4) :=
  (by decide +kernel : ∀ t : Fin grid0.N, _)

/-- Row `a` and column `b` of point `t`'s block, in the whole arrays. -/
def row (t : Fin cfg0.N) (a : Fin 1024) : Fin 4096 := ⟨t.val / 4 * 1024 + a.val, by have := (idx t).1; omega⟩
def col (t : Fin cfg0.N) (b : Fin 512) : Fin 2048 := ⟨t.val % 4 * 512 + b.val, by have := (idx t).1; omega⟩

theorem emb0 (t : Fin cfg0.N) (a : Fin 1024) (k : Fin 1024) : ((cfg0.win 0).blk t).view.emb (ix2 a k) = ix2 (row t a) k := by
  obtain ⟨-, ⟨e0, e1⟩, -⟩ := idx t
  refine ext2 ?_ ?_
  · show win0_0.index t (0 : Fin 2) * 1024 + 1 * a.val = t.val / 4 * 1024 + a.val; rw [e0]; omega
  · show win0_0.index t (1 : Fin 2) * 1024 + 1 * k.val = k.val; rw [e1]; omega

theorem emb1 (t : Fin cfg0.N) (b : Fin 512) (k : Fin 1024) : ((cfg0.win 1).blk t).view.emb (ix2 k b) = ix2 k (col t b) := by
  obtain ⟨-, -, ⟨e0, e1⟩, -⟩ := idx t
  refine ext2 ?_ ?_
  · show win0_1.index t (0 : Fin 2) * 1024 + 1 * k.val = k.val; rw [e0]; omega
  · show win0_1.index t (1 : Fin 2) * 512 + 1 * b.val = t.val % 4 * 512 + b.val; rw [e1]; omega

theorem emb2 (t : Fin cfg0.N) (a : Fin 1024) (b : Fin 512) : ((cfg0.win 2).blk t).view.emb (ix2 a b) = ix2 (row t a) (col t b) := by
  obtain ⟨-, -, -, e0, e1⟩ := idx t
  refine ext2 ?_ ?_
  · show win0_2.index t (0 : Fin 2) * 1024 + 1 * a.val = t.val / 4 * 1024 + a.val; rw [e0]; omega
  · show win0_2.index t (1 : Fin 2) * 512 + 1 * b.val = t.val % 4 * 512 + b.val; rw [e1]; omega

/-- The argument blocks of point `t`, at one index each. -/
theorem iblk0_apply (c : Dev nD) (t : Fin cfg0.N) (a : Fin 1024) (k : Fin 1024) : (iblk m c 0 t : Vec Ideal S1024x1024 .bf16) (ix2 a k)
    = (V m c main_arg0 : B4096x1024) (ix2 (row t a) k) :=
  congrArg (V m c main_arg0) (emb0 t a k)
theorem iblk1_apply (c : Dev nD) (t : Fin cfg0.N) (b : Fin 512) (k : Fin 1024) : (iblk m c 1 t : Vec Ideal S1024x512 .bf16) (ix2 k b)
    = (V m c main_arg1 : B1024x2048) (ix2 k (col t b)) :=
  congrArg (V m c main_arg1) (emb1 t b k)

/-- The result array after the run. -/
theorem final2 (c : Dev nD) : (dats m 0 c).arrAt 2 cfg0.N = G (V m c main_arg0) (V m c main_arg1) := by
  refine (dats m 0 c).arrAt_eq_of_covers 2 _ (by decide +kernel) fun t _ y => ?_
  rw [after0_2]
  unfold out0_2
  rw [View.canon_unit_zero hz, View.ld_unit_zero hz, View.ld_unit_zero hz]
  obtain ⟨a, b, rfl⟩ := pair y
  rw [emb2]
  show k0_pay1 (iblk m c 0 t) (iblk m c 1 t) (ix2 a b) = _
  rw [pay_apply]
  simp only [iblk0_apply, iblk1_apply]
  rfl

/-- What the reference computes, at every index. -/
theorem ref_eq (x : B4096x1024) (y : B1024x2048) :
    Host.dotGeneral (F := Ideal) (φ₁ := .f32) (φ₂ := .f32) Cert.ProjZRefIdeal.dot_S4096x1024_S1024x2048_S4096x2048_1_0_0_1_n_n none (extf .f32 x Cert.ProjZRefIdeal.Facts₀.bitsLt_bf16_f32) (extf .f32 y Cert.ProjZRefIdeal.Facts₀.bitsLt_bf16_f32) = G x y := by
  funext i
  obtain ⟨a, b, rfl⟩ : ∃ (a : Fin 4096) (b : Fin 2048), i = ix2 a b := ⟨i 0, i 1, eq_ix2 i⟩
  pointwise
  rfl

/-- The claim of the call: kernel and reference end with the same array. -/
theorem algebraic : Cert.algebraic_ProjZIdeal_ProjZRefIdeal := fun m ρ m' ρ' _ hag =>
  ⟨fun c => G (V m c main_arg0) (V m c main_arg1),
   (θ_run _ _ _).mono (fun _ h c => ⟨(h c).1.trans (final2 m c), (h c).2⟩) (Value.run_blocks m ρ),
   (θ_run _ _ _).mono (fun _ h c => ⟨(h c).1.trans (by rw [(hag c).1, (hag c).2]; exact ref_eq _ _ ), (h c).2⟩)
     (Cert.ProjZRefIdeal.Value.run m' ρ')⟩

end Cert.ProjZProof

end
-- ==== Proof.ProjX.lean ====
/- One segment of the input projection (`proj_x`, `proj_g`): what the kernel leaves in its result, and that the reference leaves the same. -/
module

public import proofs.«01_k».proof.Defs
public import proofs.«01_k».proof.Proof.Gen.ProjXIdeal.Value
public import proofs.«01_k».proof.Proof.Gen.ProjXRefIdeal.Run
public import proofs.«01_k».proof.Proof.Shared

@[expose] public section

set_option maxRecDepth 16384

noncomputable section

namespace Cert.ProjXProof

open Cert.ProjXIdeal Cert.ProjXIdeal.Gen Idealize.ShloMosaic Idealize.ShloMosaic.TcCoe Idealize.SL.Sem
open Idealize.ShloMosaic.Pointwise Cert.Shared

/-! Arrays by their shapes. -/
abbrev B4096x1024 := Vec Ideal S4096x1024 .bf16
abbrev B1024x3072 := Vec Ideal S1024x3072 .bf16

/-- Entry `i, j` of the product. -/
def cell (x : B4096x1024) (y : B1024x3072) (i : Fin 4096) (j : Fin 3072) : EReal := ∑ k : Fin 1024, x (ix2 i k) * y (ix2 k j)

/-- The result array. -/
def G (x : B4096x1024) (y : B1024x3072) : Vec Ideal S4096x3072 .f32 := fun i => cell x y (i 0) (i 1)

/-! What one grid point computes. -/

theorem pay_apply (x : Vec Ideal S1024x1024 .bf16) (y : Vec Ideal S1024x512 .bf16) (a : Fin 1024) (b : Fin 512) :
    k0_pay1 x y (ix2 a b) = ∑ k : Fin 1024, x (ix2 a k) * y (ix2 k b) := by
  pointwise [k0_pay1]

variable (m : (ℓ : Loc nD τ sig) → Buf (Elt Ideal) ℓ)

/-- The block indices at point `t`: 4 row tiles by 6 column tiles by 1 steps of the sum. -/
theorem idx : ∀ t : Fin cfg0.N, t.val < 24
    ∧ (win0_0.index t (0 : Fin 2) = t.val / 6 ∧ win0_0.index t (1 : Fin 2) = 0)
    ∧ (win0_1.index t (0 : Fin 2) = 0 ∧ win0_1.index t (1 : Fin 2) = t.val % 6)
    ∧ (win0_2.index t (0 : Fin 2) = t.val / 6 ∧ win0_2.index t (1 : Fin 2) = t.val % 6) :=
  (by decide +kernel : ∀ t : Fin grid0.N, _)

/-- Row `a` and column `b` of point `t`'s block, in the whole arrays. -/
def row (t : Fin cfg0.N) (a : Fin 1024) : Fin 4096 := ⟨t.val / 6 * 1024 + a.val, by have := (idx t).1; omega⟩
def col (t : Fin cfg0.N) (b : Fin 512) : Fin 3072 := ⟨t.val % 6 * 512 + b.val, by have := (idx t).1; omega⟩

theorem emb0 (t : Fin cfg0.N) (a : Fin 1024) (k : Fin 1024) : ((cfg0.win 0).blk t).view.emb (ix2 a k) = ix2 (row t a) k := by
  obtain ⟨-, ⟨e0, e1⟩, -⟩ := idx t
  refine ext2 ?_ ?_
  · show win0_0.index t (0 : Fin 2) * 1024 + 1 * a.val = t.val / 6 * 1024 + a.val; rw [e0]; omega
  · show win0_0.index t (1 : Fin 2) * 1024 + 1 * k.val = k.val; rw [e1]; omega

theorem emb1 (t : Fin cfg0.N) (b : Fin 512) (k : Fin 1024) : ((cfg0.win 1).blk t).view.emb (ix2 k b) = ix2 k (col t b) := by
  obtain ⟨-, -, ⟨e0, e1⟩, -⟩ := idx t
  refine ext2 ?_ ?_
  · show win0_1.index t (0 : Fin 2) * 1024 + 1 * k.val = k.val; rw [e0]; omega
  · show win0_1.index t (1 : Fin 2) * 512 + 1 * b.val = t.val % 6 * 512 + b.val; rw [e1]; omega

theorem emb2 (t : Fin cfg0.N) (a : Fin 1024) (b : Fin 512) : ((cfg0.win 2).blk t).view.emb (ix2 a b) = ix2 (row t a) (col t b) := by
  obtain ⟨-, -, -, e0, e1⟩ := idx t
  refine ext2 ?_ ?_
  · show win0_2.index t (0 : Fin 2) * 1024 + 1 * a.val = t.val / 6 * 1024 + a.val; rw [e0]; omega
  · show win0_2.index t (1 : Fin 2) * 512 + 1 * b.val = t.val % 6 * 512 + b.val; rw [e1]; omega

/-- The argument blocks of point `t`, at one index each. -/
theorem iblk0_apply (c : Dev nD) (t : Fin cfg0.N) (a : Fin 1024) (k : Fin 1024) : (iblk m c 0 t : Vec Ideal S1024x1024 .bf16) (ix2 a k)
    = (V m c main_arg0 : B4096x1024) (ix2 (row t a) k) :=
  congrArg (V m c main_arg0) (emb0 t a k)
theorem iblk1_apply (c : Dev nD) (t : Fin cfg0.N) (b : Fin 512) (k : Fin 1024) : (iblk m c 1 t : Vec Ideal S1024x512 .bf16) (ix2 k b)
    = (V m c main_arg1 : B1024x3072) (ix2 k (col t b)) :=
  congrArg (V m c main_arg1) (emb1 t b k)

/-- The result array after the run. -/
theorem final2 (c : Dev nD) : (dats m 0 c).arrAt 2 cfg0.N = G (V m c main_arg0) (V m c main_arg1) := by
  refine (dats m 0 c).arrAt_eq_of_covers 2 _ (by decide +kernel) fun t _ y => ?_
  rw [after0_2]
  unfold out0_2
  rw [View.canon_unit_zero hz, View.ld_unit_zero hz, View.ld_unit_zero hz]
  obtain ⟨a, b, rfl⟩ := pair y
  rw [emb2]
  show k0_pay1 (iblk m c 0 t) (iblk m c 1 t) (ix2 a b) = _
  rw [pay_apply]
  simp only [iblk0_apply, iblk1_apply]
  rfl

/-- What the reference computes, at every index. -/
theorem ref_eq (x : B4096x1024) (y : B1024x3072) :
    Host.dotGeneral (F := Ideal) (φ₁ := .f32) (φ₂ := .f32) Cert.ProjXRefIdeal.dot_S4096x1024_S1024x3072_S4096x3072_1_0_0_1_n_n none (extf .f32 x Cert.ProjXRefIdeal.Facts₀.bitsLt_bf16_f32) (extf .f32 y Cert.ProjXRefIdeal.Facts₀.bitsLt_bf16_f32) = G x y := by
  funext i
  obtain ⟨a, b, rfl⟩ : ∃ (a : Fin 4096) (b : Fin 3072), i = ix2 a b := ⟨i 0, i 1, eq_ix2 i⟩
  pointwise
  rfl

/-- The claim of the call: kernel and reference end with the same array. -/
theorem algebraic : Cert.algebraic_ProjXIdeal_ProjXRefIdeal := fun m ρ m' ρ' _ hag =>
  ⟨fun c => G (V m c main_arg0) (V m c main_arg1),
   (θ_run _ _ _).mono (fun _ h c => ⟨(h c).1.trans (final2 m c), (h c).2⟩) (Value.run_blocks m ρ),
   (θ_run _ _ _).mono (fun _ h c => ⟨(h c).1.trans (by rw [(hag c).1, (hag c).2]; exact ref_eq _ _ ), (h c).2⟩)
     (Cert.ProjXRefIdeal.Value.run m' ρ')⟩

end Cert.ProjXProof

end
-- ==== Proof.ProjDt.lean ====
/- One segment of the input projection (`proj_dt`): what the kernel leaves in its result, and that the reference leaves the same. -/
module

public import proofs.«01_k».proof.Defs
public import proofs.«01_k».proof.Proof.Gen.ProjDtIdeal.Value
public import proofs.«01_k».proof.Proof.Gen.ProjDtRefIdeal.Run
public import proofs.«01_k».proof.Proof.Shared

@[expose] public section

set_option maxRecDepth 16384

noncomputable section

namespace Cert.ProjDtProof

open Cert.ProjDtIdeal Cert.ProjDtIdeal.Gen Idealize.ShloMosaic Idealize.ShloMosaic.TcCoe Idealize.SL.Sem
open Idealize.ShloMosaic.Pointwise Cert.Shared

/-! Arrays by their shapes. -/
abbrev B1024x128 := Vec Ideal S1024x128 .bf16
abbrev B4096x1024 := Vec Ideal S4096x1024 .bf16

/-- Entry `i, j` of the product. -/
def cell (x : B4096x1024) (y : B1024x128) (i : Fin 4096) (j : Fin 128) : EReal := ∑ k : Fin 1024, x (ix2 i k) * y (ix2 k j)

/-- The result array. -/
def G (x : B4096x1024) (y : B1024x128) : Vec Ideal S4096x128 .f32 := fun i => cell x y (i 0) (i 1)

/-! What one grid point computes. -/

theorem pay_apply (x : Vec Ideal S2048x1024 .bf16) (y : B1024x128) (a : Fin 2048) (b : Fin 128) :
    k0_pay1 x y (ix2 a b) = ∑ k : Fin 1024, x (ix2 a k) * y (ix2 k b) := by
  pointwise [k0_pay1]

variable (m : (ℓ : Loc nD τ sig) → Buf (Elt Ideal) ℓ)

/-- The block indices at point `t`: 2 row tiles by 1 column tiles by 1 steps of the sum. -/
theorem idx : ∀ t : Fin cfg0.N, t.val < 2
    ∧ (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

/-- Row `a` and column `b` of point `t`'s block, in the whole arrays. -/
def row (t : Fin cfg0.N) (a : Fin 2048) : Fin 4096 := ⟨t.val * 2048 + a.val, by have := (idx t).1; omega⟩
def col (t : Fin cfg0.N) (b : Fin 128) : Fin 128 := ⟨0 * 128 + b.val, by have := (idx t).1; omega⟩

theorem emb0 (t : Fin cfg0.N) (a : Fin 2048) (k : Fin 1024) : ((cfg0.win 0).blk t).view.emb (ix2 a k) = ix2 (row t a) k := by
  obtain ⟨-, ⟨e0, e1⟩, -⟩ := idx t
  refine ext2 ?_ ?_
  · show win0_0.index t (0 : Fin 2) * 2048 + 1 * a.val = t.val * 2048 + a.val; rw [e0]; omega
  · show win0_0.index t (1 : Fin 2) * 1024 + 1 * k.val = k.val; rw [e1]; omega

theorem emb1 (t : Fin cfg0.N) (b : Fin 128) (k : Fin 1024) : ((cfg0.win 1).blk t).view.emb (ix2 k b) = ix2 k (col t b) := by
  obtain ⟨-, -, ⟨e0, e1⟩, -⟩ := idx t
  refine ext2 ?_ ?_
  · show win0_1.index t (0 : Fin 2) * 1024 + 1 * k.val = k.val; rw [e0]; omega
  · show win0_1.index t (1 : Fin 2) * 128 + 1 * b.val = 0 * 128 + b.val; rw [e1]; omega

theorem emb2 (t : Fin cfg0.N) (a : Fin 2048) (b : Fin 128) : ((cfg0.win 2).blk t).view.emb (ix2 a b) = ix2 (row t a) (col t b) := by
  obtain ⟨-, -, -, e0, e1⟩ := idx t
  refine ext2 ?_ ?_
  · show win0_2.index t (0 : Fin 2) * 2048 + 1 * a.val = t.val * 2048 + a.val; rw [e0]; omega
  · show win0_2.index t (1 : Fin 2) * 128 + 1 * b.val = 0 * 128 + b.val; rw [e1]; omega

/-- The argument blocks of point `t`, at one index each. -/
theorem iblk0_apply (c : Dev nD) (t : Fin cfg0.N) (a : Fin 2048) (k : Fin 1024) : (iblk m c 0 t : Vec Ideal S2048x1024 .bf16) (ix2 a k)
    = (V m c main_arg0 : B4096x1024) (ix2 (row t a) k) :=
  congrArg (V m c main_arg0) (emb0 t a k)
theorem iblk1_apply (c : Dev nD) (t : Fin cfg0.N) (b : Fin 128) (k : Fin 1024) : (iblk m c 1 t : B1024x128) (ix2 k b)
    = (V m c main_arg1 : B1024x128) (ix2 k (col t b)) :=
  congrArg (V m c main_arg1) (emb1 t b k)

/-- The result array after the run. -/
theorem final2 (c : Dev nD) : (dats m 0 c).arrAt 2 cfg0.N = G (V m c main_arg0) (V m c main_arg1) := by
  refine (dats m 0 c).arrAt_eq_of_covers 2 _ (by decide +kernel) fun t _ y => ?_
  rw [after0_2]
  unfold out0_2
  rw [View.canon_unit_zero hz, View.ld_unit_zero hz, View.ld_unit_zero hz]
  obtain ⟨a, b, rfl⟩ := pair y
  rw [emb2]
  show k0_pay1 (iblk m c 0 t) (iblk m c 1 t) (ix2 a b) = _
  rw [pay_apply]
  simp only [iblk0_apply, iblk1_apply]
  rfl

/-- What the reference computes, at every index. -/
theorem ref_eq (x : B4096x1024) (y : B1024x128) :
    Host.dotGeneral (F := Ideal) (φ₁ := .f32) (φ₂ := .f32) Cert.ProjDtRefIdeal.dot_S4096x1024_S1024x128_S4096x128_1_0_0_1_n_n none (extf .f32 x Cert.ProjDtRefIdeal.Facts₀.bitsLt_bf16_f32) (extf .f32 y Cert.ProjDtRefIdeal.Facts₀.bitsLt_bf16_f32) = G x y := by
  funext i
  obtain ⟨a, b, rfl⟩ : ∃ (a : Fin 4096) (b : Fin 128), i = ix2 a b := ⟨i 0, i 1, eq_ix2 i⟩
  pointwise
  rfl

/-- The claim of the call: kernel and reference end with the same array. -/
theorem algebraic : Cert.algebraic_ProjDtIdeal_ProjDtRefIdeal := fun m ρ m' ρ' _ hag =>
  ⟨fun c => G (V m c main_arg0) (V m c main_arg1),
   (θ_run _ _ _).mono (fun _ h c => ⟨(h c).1.trans (final2 m c), (h c).2⟩) (Value.run_blocks m ρ),
   (θ_run _ _ _).mono (fun _ h c => ⟨(h c).1.trans (by rw [(hag c).1, (hag c).2]; exact ref_eq _ _ ), (h c).2⟩)
     (Cert.ProjDtRefIdeal.Value.run m' ρ')⟩

end Cert.ProjDtProof

end
-- ==== Proof.ProjQkv.lean ====
/- One segment of the input projection (`proj_qkv`): what the kernel leaves in its result, and that the reference leaves the same. -/
module

public import proofs.«01_k».proof.Defs
public import proofs.«01_k».proof.Proof.Gen.ProjQkvIdeal.Value
public import proofs.«01_k».proof.Proof.Gen.ProjQkvRefIdeal.Run
public import proofs.«01_k».proof.Proof.Shared

@[expose] public section

set_option maxRecDepth 16384

noncomputable section

namespace Cert.ProjQkvProof

open Cert.ProjQkvIdeal Cert.ProjQkvIdeal.Gen Idealize.ShloMosaic Idealize.ShloMosaic.TcCoe Idealize.SL.Sem
open Idealize.ShloMosaic.Pointwise Cert.Shared

/-! Arrays by their shapes. -/
abbrev B4096x1024 := Vec Ideal S4096x1024 .bf16
abbrev B1024x1536 := Vec Ideal S1024x1536 .bf16

/-- Entry `i, j` of the product. -/
def cell (x : B4096x1024) (y : B1024x1536) (i : Fin 4096) (j : Fin 1536) : EReal := ∑ k : Fin 1024, x (ix2 i k) * y (ix2 k j)

/-- The result array. -/
def G (x : B4096x1024) (y : B1024x1536) : Vec Ideal S4096x1536 .f32 := fun i => cell x y (i 0) (i 1)

/-! What one grid point computes. -/

theorem pay_apply (x : Vec Ideal S1024x1024 .bf16) (y : Vec Ideal S1024x512 .bf16) (a : Fin 1024) (b : Fin 512) :
    k0_pay1 x y (ix2 a b) = ∑ k : Fin 1024, x (ix2 a k) * y (ix2 k b) := by
  pointwise [k0_pay1]

variable (m : (ℓ : Loc nD τ sig) → Buf (Elt Ideal) ℓ)

/-- The block indices at point `t`: 4 row tiles by 3 column tiles by 1 steps of the sum. -/
theorem idx : ∀ t : Fin cfg0.N, t.val < 12
    ∧ (win0_0.index t (0 : Fin 2) = t.val / 3 ∧ win0_0.index t (1 : Fin 2) = 0)
    ∧ (win0_1.index t (0 : Fin 2) = 0 ∧ win0_1.index t (1 : Fin 2) = t.val % 3)
    ∧ (win0_2.index t (0 : Fin 2) = t.val / 3 ∧ win0_2.index t (1 : Fin 2) = t.val % 3) :=
  (by decide +kernel : ∀ t : Fin grid0.N, _)

/-- Row `a` and column `b` of point `t`'s block, in the whole arrays. -/
def row (t : Fin cfg0.N) (a : Fin 1024) : Fin 4096 := ⟨t.val / 3 * 1024 + a.val, by have := (idx t).1; omega⟩
def col (t : Fin cfg0.N) (b : Fin 512) : Fin 1536 := ⟨t.val % 3 * 512 + b.val, by have := (idx t).1; omega⟩

theorem emb0 (t : Fin cfg0.N) (a : Fin 1024) (k : Fin 1024) : ((cfg0.win 0).blk t).view.emb (ix2 a k) = ix2 (row t a) k := by
  obtain ⟨-, ⟨e0, e1⟩, -⟩ := idx t
  refine ext2 ?_ ?_
  · show win0_0.index t (0 : Fin 2) * 1024 + 1 * a.val = t.val / 3 * 1024 + a.val; rw [e0]; omega
  · show win0_0.index t (1 : Fin 2) * 1024 + 1 * k.val = k.val; rw [e1]; omega

theorem emb1 (t : Fin cfg0.N) (b : Fin 512) (k : Fin 1024) : ((cfg0.win 1).blk t).view.emb (ix2 k b) = ix2 k (col t b) := by
  obtain ⟨-, -, ⟨e0, e1⟩, -⟩ := idx t
  refine ext2 ?_ ?_
  · show win0_1.index t (0 : Fin 2) * 1024 + 1 * k.val = k.val; rw [e0]; omega
  · show win0_1.index t (1 : Fin 2) * 512 + 1 * b.val = t.val % 3 * 512 + b.val; rw [e1]; omega

theorem emb2 (t : Fin cfg0.N) (a : Fin 1024) (b : Fin 512) : ((cfg0.win 2).blk t).view.emb (ix2 a b) = ix2 (row t a) (col t b) := by
  obtain ⟨-, -, -, e0, e1⟩ := idx t
  refine ext2 ?_ ?_
  · show win0_2.index t (0 : Fin 2) * 1024 + 1 * a.val = t.val / 3 * 1024 + a.val; rw [e0]; omega
  · show win0_2.index t (1 : Fin 2) * 512 + 1 * b.val = t.val % 3 * 512 + b.val; rw [e1]; omega

/-- The argument blocks of point `t`, at one index each. -/
theorem iblk0_apply (c : Dev nD) (t : Fin cfg0.N) (a : Fin 1024) (k : Fin 1024) : (iblk m c 0 t : Vec Ideal S1024x1024 .bf16) (ix2 a k)
    = (V m c main_arg0 : B4096x1024) (ix2 (row t a) k) :=
  congrArg (V m c main_arg0) (emb0 t a k)
theorem iblk1_apply (c : Dev nD) (t : Fin cfg0.N) (b : Fin 512) (k : Fin 1024) : (iblk m c 1 t : Vec Ideal S1024x512 .bf16) (ix2 k b)
    = (V m c main_arg1 : B1024x1536) (ix2 k (col t b)) :=
  congrArg (V m c main_arg1) (emb1 t b k)

/-- The result array after the run. -/
theorem final2 (c : Dev nD) : (dats m 0 c).arrAt 2 cfg0.N = G (V m c main_arg0) (V m c main_arg1) := by
  refine (dats m 0 c).arrAt_eq_of_covers 2 _ (by decide +kernel) fun t _ y => ?_
  rw [after0_2]
  unfold out0_2
  rw [View.canon_unit_zero hz, View.ld_unit_zero hz, View.ld_unit_zero hz]
  obtain ⟨a, b, rfl⟩ := pair y
  rw [emb2]
  show k0_pay1 (iblk m c 0 t) (iblk m c 1 t) (ix2 a b) = _
  rw [pay_apply]
  simp only [iblk0_apply, iblk1_apply]
  rfl

/-- What the reference computes, at every index. -/
theorem ref_eq (x : B4096x1024) (y : B1024x1536) :
    Host.dotGeneral (F := Ideal) (φ₁ := .f32) (φ₂ := .f32) Cert.ProjQkvRefIdeal.dot_S4096x1024_S1024x1536_S4096x1536_1_0_0_1_n_n none (extf .f32 x Cert.ProjQkvRefIdeal.Facts₀.bitsLt_bf16_f32) (extf .f32 y Cert.ProjQkvRefIdeal.Facts₀.bitsLt_bf16_f32) = G x y := by
  funext i
  obtain ⟨a, b, rfl⟩ : ∃ (a : Fin 4096) (b : Fin 1536), i = ix2 a b := ⟨i 0, i 1, eq_ix2 i⟩
  pointwise
  rfl

/-- The claim of the call: kernel and reference end with the same array. -/
theorem algebraic : Cert.algebraic_ProjQkvIdeal_ProjQkvRefIdeal := fun m ρ m' ρ' _ hag =>
  ⟨fun c => G (V m c main_arg0) (V m c main_arg1),
   (θ_run _ _ _).mono (fun _ h c => ⟨(h c).1.trans (final2 m c), (h c).2⟩) (Value.run_blocks m ρ),
   (θ_run _ _ _).mono (fun _ h c => ⟨(h c).1.trans (by rw [(hag c).1, (hag c).2]; exact ref_eq _ _ ), (h c).2⟩)
     (Cert.ProjQkvRefIdeal.Value.run m' ρ')⟩

end Cert.ProjQkvProof

end
-- ==== Proof.SsdOut.lean ====
/- The recurrence's output product (`ssd_out`): what the kernel leaves in its result, and that the reference leaves the same. -/
module

public import proofs.«01_k».proof.Defs
public import proofs.«01_k».proof.Proof.Gen.SsdOutIdeal.Value
public import proofs.«01_k».proof.Proof.Gen.SsdOutRefIdeal.Run
public import proofs.«01_k».proof.Proof.Shared

@[expose] public section

set_option maxRecDepth 16384

noncomputable section

namespace Cert.SsdOutProof

open Cert.SsdOutIdeal Cert.SsdOutIdeal.Gen Idealize.ShloMosaic Idealize.ShloMosaic.TcCoe Idealize.SL.Sem
open Idealize.ShloMosaic.Pointwise Cert.Shared

/-! Arrays by their shapes. -/
abbrev B4096x2048 := Vec Ideal S4096x2048 .bf16
abbrev B2048x1024 := Vec Ideal S2048x1024 .bf16
abbrev R1024x512 := Vec Ideal S1024x512 .f32
abbrev B1024x1024 := Vec Ideal S1024x1024 .bf16
abbrev B1024x512 := Vec Ideal S1024x512 .bf16

/-- Entry `i, j` of the product. -/
def cell (x : B4096x2048) (y : B2048x1024) (i : Fin 4096) (j : Fin 1024) : EReal := ∑ k : Fin 2048, x (ix2 i k) * y (ix2 k j)

/-- The result array. -/
def G (x : B4096x2048) (y : B2048x1024) : Vec Ideal S4096x1024 .f32 := fun i => cell x y (i 0) (i 1)

/-! What one grid point computes. -/

theorem pay1_apply (x : B1024x1024) (y : B1024x512) (a : Fin 1024) (b : Fin 512) :
    k0_pay1 x y (ix2 a b) = ∑ k : Fin 1024, x (ix2 a k) * y (ix2 k b) := by
  pointwise [k0_pay1]

theorem pay2_apply (x : B1024x1024) (y : B1024x512) (a : Fin 1024) (b : Fin 512) :
    k0_pay2 x y (ix2 a b) = 0 + k0_pay1 x y (ix2 a b) := by
  pointwise [k0_pay2]

theorem pay3_apply (x : B1024x1024) (y : B1024x512) (s : R1024x512) (a : Fin 1024) (b : Fin 512) :
    k0_pay3 x y s (ix2 a b) = s (ix2 a b) + k0_pay1 x y (ix2 a b) := by
  pointwise [k0_pay3]

variable (m : (ℓ : Loc nD τ sig) → Buf (Elt Ideal) ℓ)

/-- The block indices at point `t`: 4 row tiles by 2 column tiles by 2 steps of the sum. -/
theorem idx : ∀ t : Fin cfg0.N, t.val < 16
    ∧ (win0_0.index t (0 : Fin 2) = t.val / 4 ∧ win0_0.index t (1 : Fin 2) = t.val % 2)
    ∧ (win0_1.index t (0 : Fin 2) = t.val % 2 ∧ win0_1.index t (1 : Fin 2) = t.val / 2 % 2)
    ∧ (win0_2.index t (0 : Fin 2) = t.val / 4 ∧ win0_2.index t (1 : Fin 2) = t.val / 2 % 2) :=
  (by decide +kernel : ∀ t : Fin grid0.N, _)

/-- Row `a` and column `b` of point `t`'s block, and its step `k` of the sum, in the whole arrays. -/
def row (t : Fin cfg0.N) (a : Fin 1024) : Fin 4096 := ⟨t.val / 4 * 1024 + a.val, by have := (idx t).1; omega⟩
def col (t : Fin cfg0.N) (b : Fin 512) : Fin 1024 := ⟨t.val / 2 % 2 * 512 + b.val, by have := (idx t).1; omega⟩
def stp (t : Fin cfg0.N) (k : Fin 1024) : Fin 2048 := ⟨t.val % 2 * 1024 + k.val, by have := (idx t).1; omega⟩

theorem emb0 (t : Fin cfg0.N) (a : Fin 1024) (k : Fin 1024) : ((cfg0.win 0).blk t).view.emb (ix2 a k) = ix2 (row t a) (stp t k) := by
  obtain ⟨-, ⟨e0, e1⟩, -⟩ := idx t
  refine ext2 ?_ ?_
  · show win0_0.index t (0 : Fin 2) * 1024 + 1 * a.val = t.val / 4 * 1024 + a.val; rw [e0]; omega
  · show win0_0.index t (1 : Fin 2) * 1024 + 1 * k.val = t.val % 2 * 1024 + k.val; rw [e1]; omega

theorem emb1 (t : Fin cfg0.N) (b : Fin 512) (k : Fin 1024) : ((cfg0.win 1).blk t).view.emb (ix2 k b) = ix2 (stp t k) (col t b) := by
  obtain ⟨-, -, ⟨e0, e1⟩, -⟩ := idx t
  refine ext2 ?_ ?_
  · show win0_1.index t (0 : Fin 2) * 1024 + 1 * k.val = t.val % 2 * 1024 + k.val; rw [e0]; omega
  · show win0_1.index t (1 : Fin 2) * 512 + 1 * b.val = t.val / 2 % 2 * 512 + b.val; rw [e1]; omega

theorem emb2 (t : Fin cfg0.N) (a : Fin 1024) (b : Fin 512) : ((cfg0.win 2).blk t).view.emb (ix2 a b) = ix2 (row t a) (col t b) := by
  obtain ⟨-, -, -, e0, e1⟩ := idx t
  refine ext2 ?_ ?_
  · show win0_2.index t (0 : Fin 2) * 1024 + 1 * a.val = t.val / 4 * 1024 + a.val; rw [e0]; omega
  · show win0_2.index t (1 : Fin 2) * 512 + 1 * b.val = t.val / 2 % 2 * 512 + b.val; rw [e1]; omega

/-- The argument blocks of point `t`, at one index each. -/
theorem iblk0_apply (c : Dev nD) (t : Fin cfg0.N) (a : Fin 1024) (k : Fin 1024) : (iblk m c 0 t : B1024x1024) (ix2 a k)
    = (V m c main_arg0 : B4096x2048) (ix2 (row t a) (stp t k)) :=
  congrArg (V m c main_arg0) (emb0 t a k)
theorem iblk1_apply (c : Dev nD) (t : Fin cfg0.N) (b : Fin 512) (k : Fin 1024) : (iblk m c 1 t : B1024x512) (ix2 k b)
    = (V m c main_arg1 : B2048x1024) (ix2 (stp t k) (col t b)) :=
  congrArg (V m c main_arg1) (emb1 t b k)

/-! What the accumulator and the result's block hold. -/

theorem acc_first (c : Dev nD) (t : Fin cfg0.N) (h : t.val % 2 = 0) : (outsAt0 m c t.val t.isLt).2 = k0_pay2 (iblk m c 0 t) (iblk m c 1 t) := by
  have ht := (idx t).1
  rw [outsAt0_A m c t h (by omega) (by omega)]
  frame_out
theorem acc_later (c : Dev nD) (t : Fin cfg0.N) (h : ¬t.val % 2 = 0) : (outsAt0 m c t.val t.isLt).2
    = k0_pay3 (iblk m c 0 t) (iblk m c 1 t) (outsAt0 m c (t.val - 1) (Nat.sub_lt_of_lt t.isLt)).2 := by
  have ht := (idx t).1
  rw [outsAt0_B m c t h (by omega) (by omega)]
  frame_out
  rw [read_unread_whole]
theorem out_last (c : Dev nD) (t : Fin cfg0.N) (h : t.val % 2 = 1) : (outsAt0 m c t.val t.isLt).1 = (outsAt0 m c t.val t.isLt).2 := by
  have ht := (idx t).1
  rw [outsAt0_B m c t (by omega) (by omega) (by omega)]
  frame_out

/-- One step's part of a sum, over the whole arrays. -/
def part (x : B4096x2048) (y : B2048x1024) (i : Fin 4096) (j : Fin 1024) (q : Nat) : EReal :=
  if h : q < 2 then ∑ k : Fin 1024, x (ix2 i ⟨q * 1024 + k.val, by omega⟩) * y (ix2 ⟨q * 1024 + k.val, by omega⟩ j) else 0
theorem part_apply (c : Dev nD) (t : Fin cfg0.N) (a : Fin 1024) (b : Fin 512) : k0_pay1 (iblk m c 0 t) (iblk m c 1 t) (ix2 a b)
    = part (V m c main_arg0) (V m c main_arg1) (row t a) (col t b) (t.val % 2) := by
  rw [pay1_apply, part, dif_pos (Nat.mod_lt _ (by decide))]
  simp only [iblk0_apply, iblk1_apply]
  rfl
theorem row_eq {t u : Fin cfg0.N} (h : t.val / 2 = u.val / 2) (a : Fin 1024) : row t a = row u a :=
  Fin.ext (by show t.val / 4 * 1024 + a.val = u.val / 4 * 1024 + a.val; omega)
theorem col_eq {t u : Fin cfg0.N} (h : t.val / 2 = u.val / 2) (b : Fin 512) : col t b = col u b :=
  Fin.ext (by show t.val / 2 % 2 * 512 + b.val = u.val / 2 % 2 * 512 + b.val; omega)

/-- After the last step of a run the accumulator holds the whole sum. -/
theorem acc_last (c : Dev nD) (t : Fin cfg0.N) (h : t.val % 2 = 1) (a : Fin 1024) (b : Fin 512) :
    ((outsAt0 m c t.val t.isLt).2 : R1024x512) (ix2 a b)
    = 0 + cell (V m c main_arg0) (V m c main_arg1) (row t a) (col t b) := by
  have key := run_tile (fun n hn => ((outsAt0 m c n hn).2 : R1024x512) (ix2 a b)) 2 t.val t.isLt h
    (0) (part (V m c main_arg0) (V m c main_arg1) (row t a) (col t b))
    (fun u f e hu => by
      show ((outsAt0 m c u hu).2 : R1024x512) (ix2 a b) = _
      rw [acc_first m c ⟨u, hu⟩ e, pay2_apply, part_apply, row_eq (u := t) f, col_eq (u := t) f]
      show _ + part _ _ _ _ (u % 2) = _
      rw [e])
    (fun u f e hu hu' => by
      show ((outsAt0 m c u hu).2 : R1024x512) (ix2 a b) = _
      rw [acc_later m c ⟨u, hu⟩ e, pay3_apply, part_apply, row_eq (u := t) f, col_eq (u := t) f] <;> rfl)
  refine key.trans ?_
  congr 1
  rw [cell, Fin.sum_univ_tiles 2 1024 rfl, ← Fin.sum_univ_eq_sum_range (part _ _ _ _) 2]
  refine Finset.sum_congr rfl fun q _ => ?_
  rw [part, dif_pos q.isLt]

/-- The result array after the run. -/
theorem final2 (c : Dev nD) : (dats m 0 c).arrAt 2 cfg0.N = G (V m c main_arg0) (V m c main_arg1) := by
  refine (dats m 0 c).arrAt_eq_of_covers 2 _ (by decide +kernel) fun t hf y => ?_
  have hl := (flush0_2 t).mp hf
  rw [after0_2, out_last m c t hl]
  obtain ⟨a, b, rfl⟩ := pair y
  rw [emb2]
  show (((outsAt0 m c t.val t.isLt).2 : R1024x512)) (ix2 a b) = _
  rw [acc_last m c t hl, zero_add]
  rfl

/-- What the reference computes, at every index. -/
theorem ref_eq (x : B4096x2048) (y : B2048x1024) :
    Host.dotGeneral (F := Ideal) (φ₁ := .f32) (φ₂ := .f32) Cert.SsdOutRefIdeal.dot_S4096x2048_S2048x1024_S4096x1024_1_0_0_1_n_n none (extf .f32 x Cert.SsdOutRefIdeal.Facts₀.bitsLt_bf16_f32) (extf .f32 y Cert.SsdOutRefIdeal.Facts₀.bitsLt_bf16_f32) = G x y := by
  funext i
  obtain ⟨a, b, rfl⟩ : ∃ (a : Fin 4096) (b : Fin 1024), i = ix2 a b := ⟨i 0, i 1, eq_ix2 i⟩
  pointwise
  rfl

/-- The claim of the call: kernel and reference end with the same array. -/
theorem algebraic : Cert.algebraic_SsdOutIdeal_SsdOutRefIdeal := fun m ρ m' ρ' _ hag =>
  ⟨fun c => G (V m c main_arg0) (V m c main_arg1),
   (θ_run _ _ _).mono (fun _ h c => ⟨(h c).1.trans (final2 m c), (h c).2⟩) (Value.run_blocks m ρ),
   (θ_run _ _ _).mono (fun _ h c => ⟨(h c).1.trans (by rw [(hag c).1, (hag c).2]; exact ref_eq _ _ ), (h c).2⟩)
     (Cert.SsdOutRefIdeal.Value.run m' ρ')⟩

end Cert.SsdOutProof

end
-- ==== Proof.MixOut.lean ====
/- A square forward product added to the residual stream (`mix_out`, `xattn_out`): what the kernel leaves in its result, and that the reference leaves the same. -/
module

public import proofs.«01_k».proof.Defs
public import proofs.«01_k».proof.Proof.Gen.MixOutIdeal.Value
public import proofs.«01_k».proof.Proof.Gen.MixOutRefIdeal.Run
public import proofs.«01_k».proof.Proof.Shared

@[expose] public section

set_option maxRecDepth 16384

noncomputable section

namespace Cert.MixOutProof

open Cert.MixOutIdeal Cert.MixOutIdeal.Gen Idealize.ShloMosaic Idealize.ShloMosaic.TcCoe Idealize.SL.Sem
open Idealize.ShloMosaic.Pointwise Cert.Shared

/-! Arrays by their shapes. -/
abbrev B1024x1024 := Vec Ideal S1024x1024 .bf16
abbrev R4096x1024 := Vec Ideal S4096x1024 .f32
abbrev B4096x1024 := Vec Ideal S4096x1024 .bf16

/-- Entry `i, j` of the product. -/
def cell (x : B4096x1024) (y : B1024x1024) (i : Fin 4096) (j : Fin 1024) : EReal := ∑ k : Fin 1024, x (ix2 i k) * y (ix2 k j)

/-- The result array. -/
def G (x : B4096x1024) (y : B1024x1024) (z : R4096x1024) : R4096x1024 := fun i => z i + cell x y (i 0) (i 1)

/-- The array added, at a row and a column. -/
def at2 (z : R4096x1024) (i : Fin 4096) (j : Fin 1024) : EReal := z (ix2 i j)

/-! What one grid point computes. -/

theorem pay_apply (x : B1024x1024) (y : Vec Ideal S1024x512 .bf16) (z : Vec Ideal S1024x512 .f32) (a : Fin 1024) (b : Fin 512) :
    k0_pay1 x y z (ix2 a b) = z (ix2 a b) + ∑ k : Fin 1024, x (ix2 a k) * y (ix2 k b) := by
  pointwise [k0_pay1]
  exact add_comm _ _

variable (m : (ℓ : Loc nD τ sig) → Buf (Elt Ideal) ℓ)

/-- The block indices at point `t`: 4 row tiles by 2 column tiles by 1 steps of the sum. -/
theorem idx : ∀ t : Fin cfg0.N, t.val < 8
    ∧ (win0_0.index t (0 : Fin 2) = t.val / 2 ∧ win0_0.index t (1 : Fin 2) = 0)
    ∧ (win0_1.index t (0 : Fin 2) = 0 ∧ win0_1.index t (1 : Fin 2) = t.val % 2)
    ∧ (win0_2.index t (0 : Fin 2) = t.val / 2 ∧ win0_2.index t (1 : Fin 2) = t.val % 2)
    ∧ (win0_3.index t (0 : Fin 2) = t.val / 2 ∧ win0_3.index t (1 : Fin 2) = t.val % 2) :=
  (by decide +kernel : ∀ t : Fin grid0.N, _)

/-- Row `a` and column `b` of point `t`'s block, in the whole arrays. -/
def row (t : Fin cfg0.N) (a : Fin 1024) : Fin 4096 := ⟨t.val / 2 * 1024 + a.val, by have := (idx t).1; omega⟩
def col (t : Fin cfg0.N) (b : Fin 512) : Fin 1024 := ⟨t.val % 2 * 512 + b.val, by have := (idx t).1; omega⟩

theorem emb0 (t : Fin cfg0.N) (a : Fin 1024) (k : Fin 1024) : ((cfg0.win 0).blk t).view.emb (ix2 a k) = ix2 (row t a) k := by
  obtain ⟨-, ⟨e0, e1⟩, -⟩ := idx t
  refine ext2 ?_ ?_
  · show win0_0.index t (0 : Fin 2) * 1024 + 1 * a.val = t.val / 2 * 1024 + a.val; rw [e0]; omega
  · show win0_0.index t (1 : Fin 2) * 1024 + 1 * k.val = k.val; rw [e1]; omega

theorem emb1 (t : Fin cfg0.N) (b : Fin 512) (k : Fin 1024) : ((cfg0.win 1).blk t).view.emb (ix2 k b) = ix2 k (col t b) := by
  obtain ⟨-, -, ⟨e0, e1⟩, -⟩ := idx t
  refine ext2 ?_ ?_
  · show win0_1.index t (0 : Fin 2) * 1024 + 1 * k.val = k.val; rw [e0]; omega
  · show win0_1.index t (1 : Fin 2) * 512 + 1 * b.val = t.val % 2 * 512 + b.val; rw [e1]; omega

theorem emb2 (t : Fin cfg0.N) (a : Fin 1024) (b : Fin 512) : ((cfg0.win 2).blk t).view.emb (ix2 a b) = ix2 (row t a) (col t b) := by
  obtain ⟨-, -, -, ⟨e0, e1⟩, -⟩ := idx t
  refine ext2 ?_ ?_
  · show win0_2.index t (0 : Fin 2) * 1024 + 1 * a.val = t.val / 2 * 1024 + a.val; rw [e0]; omega
  · show win0_2.index t (1 : Fin 2) * 512 + 1 * b.val = t.val % 2 * 512 + b.val; rw [e1]; omega

theorem emb3 (t : Fin cfg0.N) (a : Fin 1024) (b : Fin 512) : ((cfg0.win 3).blk t).view.emb (ix2 a b) = ix2 (row t a) (col t b) := by
  obtain ⟨-, -, -, -, e0, e1⟩ := idx t
  refine ext2 ?_ ?_
  · show win0_3.index t (0 : Fin 2) * 1024 + 1 * a.val = t.val / 2 * 1024 + a.val; rw [e0]; omega
  · show win0_3.index t (1 : Fin 2) * 512 + 1 * b.val = t.val % 2 * 512 + b.val; rw [e1]; omega

/-- The argument blocks of point `t`, at one index each. -/
theorem iblk0_apply (c : Dev nD) (t : Fin cfg0.N) (a : Fin 1024) (k : Fin 1024) : (iblk m c 0 t : B1024x1024) (ix2 a k)
    = (V m c main_arg0 : B4096x1024) (ix2 (row t a) k) :=
  congrArg (V m c main_arg0) (emb0 t a k)
theorem iblk1_apply (c : Dev nD) (t : Fin cfg0.N) (b : Fin 512) (k : Fin 1024) : (iblk m c 1 t : Vec Ideal S1024x512 .bf16) (ix2 k b)
    = (V m c main_arg1 : B1024x1024) (ix2 k (col t b)) :=
  congrArg (V m c main_arg1) (emb1 t b k)
theorem iblk2_apply (c : Dev nD) (t : Fin cfg0.N) (a : Fin 1024) (b : Fin 512) : (iblk m c 2 t : Vec Ideal S1024x512 .f32) (ix2 a b)
    = (V m c main_arg2 : R4096x1024) (ix2 (row t a) (col t b)) :=
  congrArg (V m c main_arg2) (emb2 t a b)

/-- The result array after the run. -/
theorem final3 (c : Dev nD) : (dats m 0 c).arrAt 3 cfg0.N = G (V m c main_arg0) (V m c main_arg1) (V m c main_arg2) := by
  refine (dats m 0 c).arrAt_eq_of_covers 3 _ (by decide +kernel) fun t _ y => ?_
  rw [after0_3]
  unfold out0_3
  rw [View.canon_unit_zero hz, View.ld_unit_zero hz, View.ld_unit_zero hz, View.ld_unit_zero hz]
  obtain ⟨a, b, rfl⟩ := pair y
  rw [emb3]
  show k0_pay1 (iblk m c 0 t) (iblk m c 1 t) (iblk m c 2 t) (ix2 a b) = _
  rw [pay_apply]
  simp only [iblk0_apply, iblk1_apply, iblk2_apply]
  rfl

/-- What the reference computes, at every index. -/
theorem ref_eq (x : B4096x1024) (y : B1024x1024) (z : R4096x1024) :
    addf (F := Ideal) z (Host.dotGeneral (F := Ideal) (φ₁ := .f32) (φ₂ := .f32) Cert.MixOutRefIdeal.dot_S4096x1024_S1024x1024_S4096x1024_1_0_0_1_n_n none (extf .f32 x Cert.MixOutRefIdeal.Facts₀.bitsLt_bf16_f32) (extf .f32 y Cert.MixOutRefIdeal.Facts₀.bitsLt_bf16_f32)) = G x y z := by
  funext i
  obtain ⟨a, b, rfl⟩ : ∃ (a : Fin 4096) (b : Fin 1024), i = ix2 a b := ⟨i 0, i 1, eq_ix2 i⟩
  pointwise
  rfl

/-- The claim of the call: kernel and reference end with the same array. -/
theorem algebraic : Cert.algebraic_MixOutIdeal_MixOutRefIdeal := fun m ρ m' ρ' _ hag =>
  ⟨fun c => G (V m c main_arg0) (V m c main_arg1) (V m c main_arg2),
   (θ_run _ _ _).mono (fun _ h c => ⟨(h c).1.trans (final3 m c), (h c).2⟩) (Value.run_blocks m ρ),
   (θ_run _ _ _).mono (fun _ h c => ⟨(h c).1.trans (by rw [(hag c).1, (hag c).2.1, (hag c).2.2]; exact ref_eq _ _ _ ), (h c).2⟩)
     (Cert.MixOutRefIdeal.Value.run m' ρ')⟩

end Cert.MixOutProof

end
-- ==== Proof.MlpDown.lean ====
/- The MLP's down product added to the residual stream (`mlp_down`): what the kernel leaves in its result, and that the reference leaves the same. -/
module

public import proofs.«01_k».proof.Defs
public import proofs.«01_k».proof.Proof.Gen.MlpDownIdeal.Value
public import proofs.«01_k».proof.Proof.Gen.MlpDownRefIdeal.Run
public import proofs.«01_k».proof.Proof.Shared

@[expose] public section

set_option maxRecDepth 16384

noncomputable section

namespace Cert.MlpDownProof

open Cert.MlpDownIdeal Cert.MlpDownIdeal.Gen Idealize.ShloMosaic Idealize.ShloMosaic.TcCoe Idealize.SL.Sem
open Idealize.ShloMosaic.Pointwise Cert.Shared

/-! Arrays by their shapes. -/
abbrev R1024x512 := Vec Ideal S1024x512 .f32
abbrev B4096x4096 := Vec Ideal S4096x4096 .bf16
abbrev B4096x1024 := Vec Ideal S4096x1024 .bf16
abbrev R4096x1024 := Vec Ideal S4096x1024 .f32
abbrev B1024x1024 := Vec Ideal S1024x1024 .bf16
abbrev B1024x512 := Vec Ideal S1024x512 .bf16

/-- Entry `i, j` of the product. -/
def cell (x : B4096x4096) (y : B4096x1024) (i : Fin 4096) (j : Fin 1024) : EReal := ∑ k : Fin 4096, x (ix2 i k) * y (ix2 k j)

/-- The result array. -/
def G (x : B4096x4096) (y : B4096x1024) (z : R4096x1024) : R4096x1024 := fun i => z i + cell x y (i 0) (i 1)

/-- The array added, at a row and a column. -/
def at2 (z : R4096x1024) (i : Fin 4096) (j : Fin 1024) : EReal := z (ix2 i j)

/-! What one grid point computes. -/

theorem pay1_apply (x : B1024x1024) (y : B1024x512) (a : Fin 1024) (b : Fin 512) :
    k0_pay1 x y (ix2 a b) = ∑ k : Fin 1024, x (ix2 a k) * y (ix2 k b) := by
  pointwise [k0_pay1]

theorem pay2_apply (x : B1024x1024) (y : B1024x512) (z : R1024x512) (a : Fin 1024) (b : Fin 512) :
    k0_pay2 x y z (ix2 a b) = z (ix2 a b) + k0_pay1 x y (ix2 a b) := by
  pointwise [k0_pay2]
  exact add_comm _ _

theorem pay3_apply (x : B1024x1024) (y : B1024x512) (s : R1024x512) (a : Fin 1024) (b : Fin 512) :
    k0_pay3 x y s (ix2 a b) = s (ix2 a b) + k0_pay1 x y (ix2 a b) := by
  pointwise [k0_pay3]

variable (m : (ℓ : Loc nD τ sig) → Buf (Elt Ideal) ℓ)

/-- The block indices at point `t`: 4 row tiles by 2 column tiles by 4 steps of the sum. -/
theorem idx : ∀ t : Fin cfg0.N, t.val < 32
    ∧ (win0_0.index t (0 : Fin 2) = t.val / 8 ∧ win0_0.index t (1 : Fin 2) = t.val % 4)
    ∧ (win0_1.index t (0 : Fin 2) = t.val % 4 ∧ win0_1.index t (1 : Fin 2) = t.val / 4 % 2)
    ∧ (win0_2.index t (0 : Fin 2) = t.val / 8 ∧ win0_2.index t (1 : Fin 2) = t.val / 4 % 2)
    ∧ (win0_3.index t (0 : Fin 2) = t.val / 8 ∧ win0_3.index t (1 : Fin 2) = t.val / 4 % 2) :=
  (by decide +kernel : ∀ t : Fin grid0.N, _)

/-- Row `a` and column `b` of point `t`'s block, and its step `k` of the sum, in the whole arrays. -/
def row (t : Fin cfg0.N) (a : Fin 1024) : Fin 4096 := ⟨t.val / 8 * 1024 + a.val, by have := (idx t).1; omega⟩
def col (t : Fin cfg0.N) (b : Fin 512) : Fin 1024 := ⟨t.val / 4 % 2 * 512 + b.val, by have := (idx t).1; omega⟩
def stp (t : Fin cfg0.N) (k : Fin 1024) : Fin 4096 := ⟨t.val % 4 * 1024 + k.val, by have := (idx t).1; omega⟩

theorem emb0 (t : Fin cfg0.N) (a : Fin 1024) (k : Fin 1024) : ((cfg0.win 0).blk t).view.emb (ix2 a k) = ix2 (row t a) (stp t k) := by
  obtain ⟨-, ⟨e0, e1⟩, -⟩ := idx t
  refine ext2 ?_ ?_
  · show win0_0.index t (0 : Fin 2) * 1024 + 1 * a.val = t.val / 8 * 1024 + a.val; rw [e0]; omega
  · show win0_0.index t (1 : Fin 2) * 1024 + 1 * k.val = t.val % 4 * 1024 + k.val; rw [e1]; omega

theorem emb1 (t : Fin cfg0.N) (b : Fin 512) (k : Fin 1024) : ((cfg0.win 1).blk t).view.emb (ix2 k b) = ix2 (stp t k) (col t b) := by
  obtain ⟨-, -, ⟨e0, e1⟩, -⟩ := idx t
  refine ext2 ?_ ?_
  · show win0_1.index t (0 : Fin 2) * 1024 + 1 * k.val = t.val % 4 * 1024 + k.val; rw [e0]; omega
  · show win0_1.index t (1 : Fin 2) * 512 + 1 * b.val = t.val / 4 % 2 * 512 + b.val; rw [e1]; omega

theorem emb2 (t : Fin cfg0.N) (a : Fin 1024) (b : Fin 512) : ((cfg0.win 2).blk t).view.emb (ix2 a b) = ix2 (row t a) (col t b) := by
  obtain ⟨-, -, -, ⟨e0, e1⟩, -⟩ := idx t
  refine ext2 ?_ ?_
  · show win0_2.index t (0 : Fin 2) * 1024 + 1 * a.val = t.val / 8 * 1024 + a.val; rw [e0]; omega
  · show win0_2.index t (1 : Fin 2) * 512 + 1 * b.val = t.val / 4 % 2 * 512 + b.val; rw [e1]; omega

theorem emb3 (t : Fin cfg0.N) (a : Fin 1024) (b : Fin 512) : ((cfg0.win 3).blk t).view.emb (ix2 a b) = ix2 (row t a) (col t b) := by
  obtain ⟨-, -, -, -, e0, e1⟩ := idx t
  refine ext2 ?_ ?_
  · show win0_3.index t (0 : Fin 2) * 1024 + 1 * a.val = t.val / 8 * 1024 + a.val; rw [e0]; omega
  · show win0_3.index t (1 : Fin 2) * 512 + 1 * b.val = t.val / 4 % 2 * 512 + b.val; rw [e1]; omega

/-- The argument blocks of point `t`, at one index each. -/
theorem iblk0_apply (c : Dev nD) (t : Fin cfg0.N) (a : Fin 1024) (k : Fin 1024) : (iblk m c 0 t : B1024x1024) (ix2 a k)
    = (V m c main_arg0 : B4096x4096) (ix2 (row t a) (stp t k)) :=
  congrArg (V m c main_arg0) (emb0 t a k)
theorem iblk1_apply (c : Dev nD) (t : Fin cfg0.N) (b : Fin 512) (k : Fin 1024) : (iblk m c 1 t : B1024x512) (ix2 k b)
    = (V m c main_arg1 : B4096x1024) (ix2 (stp t k) (col t b)) :=
  congrArg (V m c main_arg1) (emb1 t b k)
theorem iblk2_apply (c : Dev nD) (t : Fin cfg0.N) (a : Fin 1024) (b : Fin 512) : (iblk m c 2 t : R1024x512) (ix2 a b)
    = (V m c main_arg2 : R4096x1024) (ix2 (row t a) (col t b)) :=
  congrArg (V m c main_arg2) (emb2 t a b)

/-! What the accumulator and the result's block hold. -/

theorem acc_first (c : Dev nD) (t : Fin cfg0.N) (h : t.val % 4 = 0) : (outsAt0 m c t.val t.isLt).2 = k0_pay2 (iblk m c 0 t) (iblk m c 1 t) (iblk m c 2 t) := by
  have ht := (idx t).1
  rw [outsAt0_A m c t h (by omega) (by omega)]
  frame_out
theorem acc_later (c : Dev nD) (t : Fin cfg0.N) (h : ¬t.val % 4 = 0) : (outsAt0 m c t.val t.isLt).2
    = k0_pay3 (iblk m c 0 t) (iblk m c 1 t) (outsAt0 m c (t.val - 1) (Nat.sub_lt_of_lt t.isLt)).2 := by
  have ht := (idx t).1
  by_cases hl : t.val % 4 = 3
  · rw [outsAt0_C m c t h (by omega) hl]
    frame_out
    rw [read_unread_whole]
  · rw [outsAt0_B m c t h (by omega) hl]
    frame_out
    rw [read_unread_whole]
theorem out_last (c : Dev nD) (t : Fin cfg0.N) (h : t.val % 4 = 3) : (outsAt0 m c t.val t.isLt).1 = (outsAt0 m c t.val t.isLt).2 := by
  have ht := (idx t).1
  rw [outsAt0_C m c t (by omega) (by omega) (by omega)]
  frame_out

/-- One step's part of a sum, over the whole arrays. -/
def part (x : B4096x4096) (y : B4096x1024) (i : Fin 4096) (j : Fin 1024) (q : Nat) : EReal :=
  if h : q < 4 then ∑ k : Fin 1024, x (ix2 i ⟨q * 1024 + k.val, by omega⟩) * y (ix2 ⟨q * 1024 + k.val, by omega⟩ j) else 0
theorem part_apply (c : Dev nD) (t : Fin cfg0.N) (a : Fin 1024) (b : Fin 512) : k0_pay1 (iblk m c 0 t) (iblk m c 1 t) (ix2 a b)
    = part (V m c main_arg0) (V m c main_arg1) (row t a) (col t b) (t.val % 4) := by
  rw [pay1_apply, part, dif_pos (Nat.mod_lt _ (by decide))]
  simp only [iblk0_apply, iblk1_apply]
  rfl
theorem row_eq {t u : Fin cfg0.N} (h : t.val / 4 = u.val / 4) (a : Fin 1024) : row t a = row u a :=
  Fin.ext (by show t.val / 8 * 1024 + a.val = u.val / 8 * 1024 + a.val; omega)
theorem col_eq {t u : Fin cfg0.N} (h : t.val / 4 = u.val / 4) (b : Fin 512) : col t b = col u b :=
  Fin.ext (by show t.val / 4 % 2 * 512 + b.val = u.val / 4 % 2 * 512 + b.val; omega)

/-- After the last step of a run the accumulator holds the whole sum. -/
theorem acc_last (c : Dev nD) (t : Fin cfg0.N) (h : t.val % 4 = 3) (a : Fin 1024) (b : Fin 512) :
    ((outsAt0 m c t.val t.isLt).2 : R1024x512) (ix2 a b)
    = at2 (V m c main_arg2) (row t a) (col t b) + cell (V m c main_arg0) (V m c main_arg1) (row t a) (col t b) := by
  have key := run_tile (fun n hn => ((outsAt0 m c n hn).2 : R1024x512) (ix2 a b)) 4 t.val t.isLt h
    (at2 (V m c main_arg2) (row t a) (col t b)) (part (V m c main_arg0) (V m c main_arg1) (row t a) (col t b))
    (fun u f e hu => by
      show ((outsAt0 m c u hu).2 : R1024x512) (ix2 a b) = _
      rw [acc_first m c ⟨u, hu⟩ e, pay2_apply, part_apply, iblk2_apply, row_eq (u := t) f, col_eq (u := t) f]
      show _ + part _ _ _ _ (u % 4) = _
      rw [e]
      rfl)
    (fun u f e hu hu' => by
      show ((outsAt0 m c u hu).2 : R1024x512) (ix2 a b) = _
      rw [acc_later m c ⟨u, hu⟩ e, pay3_apply, part_apply, row_eq (u := t) f, col_eq (u := t) f] <;> rfl)
  refine key.trans ?_
  congr 1
  rw [cell, Fin.sum_univ_tiles 4 1024 rfl, ← Fin.sum_univ_eq_sum_range (part _ _ _ _) 4]
  refine Finset.sum_congr rfl fun q _ => ?_
  rw [part, dif_pos q.isLt]

/-- The result array after the run. -/
theorem final3 (c : Dev nD) : (dats m 0 c).arrAt 3 cfg0.N = G (V m c main_arg0) (V m c main_arg1) (V m c main_arg2) := by
  refine (dats m 0 c).arrAt_eq_of_covers 3 _ (by decide +kernel) fun t hf y => ?_
  have hl := (flush0_3 t).mp hf
  rw [after0_3, out_last m c t hl]
  obtain ⟨a, b, rfl⟩ := pair y
  rw [emb3]
  show (((outsAt0 m c t.val t.isLt).2 : R1024x512)) (ix2 a b) = _
  rw [acc_last m c t hl]
  rfl

/-- What the reference computes, at every index. -/
theorem ref_eq (x : B4096x4096) (y : B4096x1024) (z : R4096x1024) :
    addf (F := Ideal) z (Host.dotGeneral (F := Ideal) (φ₁ := .f32) (φ₂ := .f32) Cert.MlpDownRefIdeal.dot_S4096x4096_S4096x1024_S4096x1024_1_0_0_1_n_n none (extf .f32 x Cert.MlpDownRefIdeal.Facts₀.bitsLt_bf16_f32) (extf .f32 y Cert.MlpDownRefIdeal.Facts₀.bitsLt_bf16_f32)) = G x y z := by
  funext i
  obtain ⟨a, b, rfl⟩ : ∃ (a : Fin 4096) (b : Fin 1024), i = ix2 a b := ⟨i 0, i 1, eq_ix2 i⟩
  pointwise
  rfl

/-- The claim of the call: kernel and reference end with the same array. -/
theorem algebraic : Cert.algebraic_MlpDownIdeal_MlpDownRefIdeal := fun m ρ m' ρ' _ hag =>
  ⟨fun c => G (V m c main_arg0) (V m c main_arg1) (V m c main_arg2),
   (θ_run _ _ _).mono (fun _ h c => ⟨(h c).1.trans (final3 m c), (h c).2⟩) (Value.run_blocks m ρ),
   (θ_run _ _ _).mono (fun _ h c => ⟨(h c).1.trans (by rw [(hag c).1, (hag c).2.1, (hag c).2.2]; exact ref_eq _ _ _ ), (h c).2⟩)
     (Cert.MlpDownRefIdeal.Value.run m' ρ')⟩

end Cert.MlpDownProof

end
-- ==== Proof.Xkv.lean ====
/- The memory's key and value product (`xkv`): what the kernel leaves in its result, and that the reference leaves the same. -/
module

public import proofs.«01_k».proof.Defs
public import proofs.«01_k».proof.Proof.Gen.XkvIdeal.Value
public import proofs.«01_k».proof.Proof.Gen.XkvRefIdeal.Run
public import proofs.«01_k».proof.Proof.Shared

@[expose] public section

set_option maxRecDepth 16384

noncomputable section

namespace Cert.XkvProof

open Cert.XkvIdeal Cert.XkvIdeal.Gen Idealize.ShloMosaic Idealize.ShloMosaic.TcCoe Idealize.SL.Sem
open Idealize.ShloMosaic.Pointwise Cert.Shared

/-! Arrays by their shapes. -/
abbrev B256x1024 := Vec Ideal S256x1024 .bf16
abbrev B8x1024x256 := Vec Ideal S8x1024x256 .bf16

/-- A column of the whole matrix: the slab that holds it, and its column there. -/
def hi (j : Fin 2048) : Fin 8 := ⟨j.val / 256, by omega⟩
def lo (j : Fin 2048) : Fin 256 := ⟨j.val % 256, by omega⟩

/-- Entry `i, j` of the product. -/
def cell (x : B256x1024) (y : B8x1024x256) (i : Fin 256) (j : Fin 2048) : EReal := ∑ k : Fin 1024, x (ix2 i k) * y (ix3 (hi j) k (lo j))

/-- The result array. -/
def G (x : B256x1024) (y : B8x1024x256) : Vec Ideal S256x2048 .f32 := fun i => cell x y (i 0) (i 1)

/-! What one grid point computes. -/

theorem pay_apply (x : B256x1024) (y : Vec Ideal S1x1024x256 .bf16) (a : Fin 256) (b : Fin 256) :
    k0_pay1 x y (ix2 a b) = ∑ k : Fin 1024, x (ix2 a k) * y (ix3 0 k b) := by
  pointwise [k0_pay1]

variable (m : (ℓ : Loc nD τ sig) → Buf (Elt Ideal) ℓ)

/-- The block indices at point `t`: 1 row tiles by 8 column tiles by 1 steps of the sum. -/
theorem idx : ∀ t : Fin cfg0.N, t.val < 8
    ∧ (win0_0.index t (0 : Fin 2) = 0 ∧ win0_0.index t (1 : Fin 2) = 0)
    ∧ (win0_1.index t (0 : Fin 3) = t.val % 8 ∧ win0_1.index t (1 : Fin 3) = 0 ∧ win0_1.index t (2 : Fin 3) = 0)
    ∧ (win0_2.index t (0 : Fin 2) = 0 ∧ win0_2.index t (1 : Fin 2) = t.val % 8) :=
  (by decide +kernel : ∀ t : Fin grid0.N, _)

/-- Row `a` and column `b` of point `t`'s block, in the whole arrays. -/
def row (t : Fin cfg0.N) (a : Fin 256) : Fin 256 := ⟨0 * 256 + a.val, by have := (idx t).1; omega⟩
def col (t : Fin cfg0.N) (b : Fin 256) : Fin 2048 := ⟨t.val % 8 * 256 + b.val, by have := (idx t).1; omega⟩

theorem emb0 (t : Fin cfg0.N) (a : Fin 256) (k : Fin 1024) : ((cfg0.win 0).blk t).view.emb (ix2 a k) = ix2 (row t a) k := by
  obtain ⟨-, ⟨e0, e1⟩, -⟩ := idx t
  refine ext2 ?_ ?_
  · show win0_0.index t (0 : Fin 2) * 256 + 1 * a.val = 0 * 256 + a.val; rw [e0]; omega
  · show win0_0.index t (1 : Fin 2) * 1024 + 1 * k.val = k.val; rw [e1]; omega

theorem emb1 (t : Fin cfg0.N) (b : Fin 256) (k : Fin 1024) : ((cfg0.win 1).blk t).view.emb (ix3 0 k b) = ix3 (hi (col t b)) k (lo (col t b)) := by
  obtain ⟨-, -, ⟨e0, e1, e2⟩, -⟩ := idx t
  refine ext3 ?_ ?_ ?_
  · show win0_1.index t (0 : Fin 3) * 1 + 1 * 0 = (t.val % 8 * 256 + b.val) / 256; rw [e0]; omega
  · show win0_1.index t (1 : Fin 3) * 1024 + 1 * k.val = k.val; rw [e1]; omega
  · show win0_1.index t (2 : Fin 3) * 256 + 1 * b.val = (t.val % 8 * 256 + b.val) % 256; rw [e2]; omega

theorem emb2 (t : Fin cfg0.N) (a : Fin 256) (b : Fin 256) : ((cfg0.win 2).blk t).view.emb (ix2 a b) = ix2 (row t a) (col t b) := by
  obtain ⟨-, -, -, e0, e1⟩ := idx t
  refine ext2 ?_ ?_
  · show win0_2.index t (0 : Fin 2) * 256 + 1 * a.val = 0 * 256 + a.val; rw [e0]; omega
  · show win0_2.index t (1 : Fin 2) * 256 + 1 * b.val = t.val % 8 * 256 + b.val; rw [e1]; omega

/-- The argument blocks of point `t`, at one index each. -/
theorem iblk0_apply (c : Dev nD) (t : Fin cfg0.N) (a : Fin 256) (k : Fin 1024) : (iblk m c 0 t : B256x1024) (ix2 a k)
    = (V m c main_arg0 : B256x1024) (ix2 (row t a) k) :=
  congrArg (V m c main_arg0) (emb0 t a k)
theorem iblk1_apply (c : Dev nD) (t : Fin cfg0.N) (b : Fin 256) (k : Fin 1024) : (iblk m c 1 t : Vec Ideal S1x1024x256 .bf16) (ix3 0 k b)
    = (V m c main_arg1 : B8x1024x256) (ix3 (hi (col t b)) k (lo (col t b))) :=
  congrArg (V m c main_arg1) (emb1 t b k)

/-- The result array after the run. -/
theorem final2 (c : Dev nD) : (dats m 0 c).arrAt 2 cfg0.N = G (V m c main_arg0) (V m c main_arg1) := by
  refine (dats m 0 c).arrAt_eq_of_covers 2 _ (by decide +kernel) fun t _ y => ?_
  rw [after0_2]
  unfold out0_2
  rw [View.canon_unit_zero hz, View.ld_unit_zero hz, View.ld_unit_zero hz3]
  obtain ⟨a, b, rfl⟩ := pair y
  rw [emb2]
  show k0_pay1 (iblk m c 0 t) (iblk m c 1 t) (ix2 a b) = _
  rw [pay_apply]
  simp only [iblk0_apply, iblk1_apply]
  rfl

/-- The slabs as one matrix, at an index. -/
theorem whole_apply (y : B8x1024x256) (r : Fin 1024) (j : Fin 2048) :
    shapeCast Cert.XkvRefIdeal.S1024x2048 (transpose Cert.XkvRefIdeal.S1024x8x256 [1, 0, 2] y Cert.XkvRefIdeal.Facts₀.transposes_S8x1024x256_S1024x8x256_1_0_2) Cert.XkvRefIdeal.Facts₀.shapeCasts_S1024x8x256_S1024x2048 (ix2 r j) = y (ix3 (hi j) r (lo j)) := by
  rw [Pointwise.shapeCast_apply, Shape.reshapeEquiv_eq_of_vals (y := ix3 r (hi j) (lo j)) (hB := rowMajor_val2 _ _ rfl) (hA := rowMajor_val3 _ _ _ rfl rfl)]
  · pointwise
  · show r.val * (8 * 256) + j.val / 256 * 256 + j.val % 256 = r.val * 2048 + j.val
    omega

/-- What the reference computes, at every index. -/
theorem ref_eq (x : B256x1024) (y : B8x1024x256) :
    Host.dotGeneral (F := Ideal) (φ₁ := .f32) (φ₂ := .f32) Cert.XkvRefIdeal.dot_S256x1024_S1024x2048_S256x2048_1_0_0_1_n_n none (extf .f32 x Cert.XkvRefIdeal.Facts₀.bitsLt_bf16_f32) (extf .f32 (shapeCast Cert.XkvRefIdeal.S1024x2048 (transpose Cert.XkvRefIdeal.S1024x8x256 [1, 0, 2] y Cert.XkvRefIdeal.Facts₀.transposes_S8x1024x256_S1024x8x256_1_0_2) Cert.XkvRefIdeal.Facts₀.shapeCasts_S1024x8x256_S1024x2048) Cert.XkvRefIdeal.Facts₀.bitsLt_bf16_f32) = G x y := by
  funext i
  obtain ⟨a, b, rfl⟩ : ∃ (a : Fin 256) (b : Fin 2048), i = ix2 a b := ⟨i 0, i 1, eq_ix2 i⟩
  have e := whole_apply y
  generalize shapeCast Cert.XkvRefIdeal.S1024x2048 (transpose Cert.XkvRefIdeal.S1024x8x256 [1, 0, 2] y Cert.XkvRefIdeal.Facts₀.transposes_S8x1024x256_S1024x8x256_1_0_2) Cert.XkvRefIdeal.Facts₀.shapeCasts_S1024x8x256_S1024x2048 = u at e ⊢
  pointwise
  unfold G cell
  simp only [e]
  rfl

/-- The claim of the call: kernel and reference end with the same array. -/
theorem algebraic : Cert.algebraic_XkvIdeal_XkvRefIdeal := fun m ρ m' ρ' _ hag =>
  ⟨fun c => G (V m c main_arg0) (V m c main_arg1),
   (θ_run _ _ _).mono (fun _ h c => ⟨(h c).1.trans (final2 m c), (h c).2⟩) (Value.run_blocks m ρ),
   (θ_run _ _ _).mono (fun _ h c => ⟨(h c).1.trans (by rw [(hag c).1, (hag c).2]; exact ref_eq _ _ ), (h c).2⟩)
     (Cert.XkvRefIdeal.Value.run m' ρ')⟩

end Cert.XkvProof

end
-- ==== Proof.MlpUp.lean ====
/- The MLP's up product and its squared ReLU (`mlp_up`): what the kernel leaves in its result, and that the reference leaves the same. -/
module

public import proofs.«01_k».proof.Defs
public import proofs.«01_k».proof.Proof.Gen.MlpUpIdeal.Value
public import proofs.«01_k».proof.Proof.Gen.MlpUpRefIdeal.Run
public import proofs.«01_k».proof.Proof.Shared

@[expose] public section

set_option maxRecDepth 16384

noncomputable section

namespace Cert.MlpUpProof

open Cert.MlpUpIdeal Cert.MlpUpIdeal.Gen Idealize.ShloMosaic Idealize.ShloMosaic.TcCoe Idealize.SL.Sem
open Idealize.ShloMosaic.Pointwise Cert.Shared

/-! Arrays by their shapes. -/
abbrev B8x1024x512 := Vec Ideal S8x1024x512 .bf16
abbrev B4096x1024 := Vec Ideal S4096x1024 .bf16

/-- A column of the whole matrix: the slab that holds it, and its column there. -/
def hi (j : Fin 4096) : Fin 8 := ⟨j.val / 512, by omega⟩
def lo (j : Fin 4096) : Fin 512 := ⟨j.val % 512, by omega⟩

/-- Entry `i, j` of the product. -/
def cell (x : B4096x1024) (y : B8x1024x512) (i : Fin 4096) (j : Fin 4096) : EReal := ∑ k : Fin 1024, x (ix2 i k) * y (ix3 (hi j) k (lo j))

/-- The result array. -/
def G (x : B4096x1024) (y : B8x1024x512) : Vec Ideal S4096x4096 .f32 := fun i => cell x y (i 0) (i 1)

/-- The second result: the square of the positive part. -/
def H (x : B4096x1024) (y : B8x1024x512) : Vec Ideal S4096x4096 .bf16 := fun i => max (cell x y (i 0) (i 1)) 0 * max (cell x y (i 0) (i 1)) 0

/-! What one grid point computes. -/

theorem pay_apply (x : Vec Ideal S1024x1024 .bf16) (y : Vec Ideal S1x1024x512 .bf16) (a : Fin 1024) (b : Fin 512) :
    k0_pay1 x y (ix2 a b) = ∑ k : Fin 1024, x (ix2 a k) * y (ix3 0 k b) := by
  pointwise [k0_pay1]

theorem pay2_apply (x : Vec Ideal S1024x1024 .bf16) (y : Vec Ideal S1x1024x512 .bf16) (a : Fin 1024) (b : Fin 512) :
    k0_pay2 x y (ix2 a b) = max (∑ k : Fin 1024, x (ix2 a k) * y (ix3 0 k b)) 0 * max (∑ k : Fin 1024, x (ix2 a k) * y (ix3 0 k b)) 0 := by
  pointwise [k0_pay2, k0_pay1]

variable (m : (ℓ : Loc nD τ sig) → Buf (Elt Ideal) ℓ)

/-- The block indices at point `t`: 4 row tiles by 8 column tiles by 1 steps of the sum. -/
theorem idx : ∀ t : Fin cfg0.N, t.val < 32
    ∧ (win0_0.index t (0 : Fin 2) = t.val / 8 ∧ win0_0.index t (1 : Fin 2) = 0)
    ∧ (win0_1.index t (0 : Fin 3) = t.val % 8 ∧ win0_1.index t (1 : Fin 3) = 0 ∧ win0_1.index t (2 : Fin 3) = 0)
    ∧ (win0_2.index t (0 : Fin 2) = t.val / 8 ∧ win0_2.index t (1 : Fin 2) = t.val % 8)
    ∧ (win0_3.index t (0 : Fin 2) = t.val / 8 ∧ win0_3.index t (1 : Fin 2) = t.val % 8) :=
  (by decide +kernel : ∀ t : Fin grid0.N, _)

/-- Row `a` and column `b` of point `t`'s block, in the whole arrays. -/
def row (t : Fin cfg0.N) (a : Fin 1024) : Fin 4096 := ⟨t.val / 8 * 1024 + a.val, by have := (idx t).1; omega⟩
def col (t : Fin cfg0.N) (b : Fin 512) : Fin 4096 := ⟨t.val % 8 * 512 + b.val, by have := (idx t).1; omega⟩

theorem emb0 (t : Fin cfg0.N) (a : Fin 1024) (k : Fin 1024) : ((cfg0.win 0).blk t).view.emb (ix2 a k) = ix2 (row t a) k := by
  obtain ⟨-, ⟨e0, e1⟩, -⟩ := idx t
  refine ext2 ?_ ?_
  · show win0_0.index t (0 : Fin 2) * 1024 + 1 * a.val = t.val / 8 * 1024 + a.val; rw [e0]; omega
  · show win0_0.index t (1 : Fin 2) * 1024 + 1 * k.val = k.val; rw [e1]; omega

theorem emb1 (t : Fin cfg0.N) (b : Fin 512) (k : Fin 1024) : ((cfg0.win 1).blk t).view.emb (ix3 0 k b) = ix3 (hi (col t b)) k (lo (col t b)) := by
  obtain ⟨-, -, ⟨e0, e1, e2⟩, -⟩ := idx t
  refine ext3 ?_ ?_ ?_
  · show win0_1.index t (0 : Fin 3) * 1 + 1 * 0 = (t.val % 8 * 512 + b.val) / 512; rw [e0]; omega
  · show win0_1.index t (1 : Fin 3) * 1024 + 1 * k.val = k.val; rw [e1]; omega
  · show win0_1.index t (2 : Fin 3) * 512 + 1 * b.val = (t.val % 8 * 512 + b.val) % 512; rw [e2]; omega

theorem emb2 (t : Fin cfg0.N) (a : Fin 1024) (b : Fin 512) : ((cfg0.win 2).blk t).view.emb (ix2 a b) = ix2 (row t a) (col t b) := by
  obtain ⟨-, -, -, ⟨e0, e1⟩, -⟩ := idx t
  refine ext2 ?_ ?_
  · show win0_2.index t (0 : Fin 2) * 1024 + 1 * a.val = t.val / 8 * 1024 + a.val; rw [e0]; omega
  · show win0_2.index t (1 : Fin 2) * 512 + 1 * b.val = t.val % 8 * 512 + b.val; rw [e1]; omega

theorem emb3 (t : Fin cfg0.N) (a : Fin 1024) (b : Fin 512) : ((cfg0.win 3).blk t).view.emb (ix2 a b) = ix2 (row t a) (col t b) := by
  obtain ⟨-, -, -, -, e0, e1⟩ := idx t
  refine ext2 ?_ ?_
  · show win0_3.index t (0 : Fin 2) * 1024 + 1 * a.val = t.val / 8 * 1024 + a.val; rw [e0]; omega
  · show win0_3.index t (1 : Fin 2) * 512 + 1 * b.val = t.val % 8 * 512 + b.val; rw [e1]; omega

/-- The argument blocks of point `t`, at one index each. -/
theorem iblk0_apply (c : Dev nD) (t : Fin cfg0.N) (a : Fin 1024) (k : Fin 1024) : (iblk m c 0 t : Vec Ideal S1024x1024 .bf16) (ix2 a k)
    = (V m c main_arg0 : B4096x1024) (ix2 (row t a) k) :=
  congrArg (V m c main_arg0) (emb0 t a k)
theorem iblk1_apply (c : Dev nD) (t : Fin cfg0.N) (b : Fin 512) (k : Fin 1024) : (iblk m c 1 t : Vec Ideal S1x1024x512 .bf16) (ix3 0 k b)
    = (V m c main_arg1 : B8x1024x512) (ix3 (hi (col t b)) k (lo (col t b))) :=
  congrArg (V m c main_arg1) (emb1 t b k)

/-- The result array after the run. -/
theorem final2 (c : Dev nD) : (dats m 0 c).arrAt 2 cfg0.N = G (V m c main_arg0) (V m c main_arg1) := by
  refine (dats m 0 c).arrAt_eq_of_covers 2 _ (by decide +kernel) fun t _ y => ?_
  rw [after0_2]
  unfold out0_2
  rw [View.canon_unit_zero hz, View.ld_unit_zero hz, View.ld_unit_zero hz3]
  obtain ⟨a, b, rfl⟩ := pair y
  rw [emb2]
  show k0_pay1 (iblk m c 0 t) (iblk m c 1 t) (ix2 a b) = _
  rw [pay_apply]
  simp only [iblk0_apply, iblk1_apply]
  rfl

/-- The result array after the run. -/
theorem final3 (c : Dev nD) : (dats m 0 c).arrAt 3 cfg0.N = H (V m c main_arg0) (V m c main_arg1) := by
  refine (dats m 0 c).arrAt_eq_of_covers 3 _ (by decide +kernel) fun t _ y => ?_
  rw [after0_3]
  unfold out0_3
  rw [View.canon_unit_zero hz, View.ld_unit_zero hz, View.ld_unit_zero hz3]
  obtain ⟨a, b, rfl⟩ := pair y
  rw [emb3]
  show k0_pay2 (iblk m c 0 t) (iblk m c 1 t) (ix2 a b) = _
  rw [pay2_apply]
  simp only [iblk0_apply, iblk1_apply]
  rfl

/-- The slabs as one matrix, at an index. -/
theorem whole_apply (y : B8x1024x512) (r : Fin 1024) (j : Fin 4096) :
    shapeCast Cert.MlpUpRefIdeal.S1024x4096 (transpose Cert.MlpUpRefIdeal.S1024x8x512 [1, 0, 2] y Cert.MlpUpRefIdeal.Facts₀.transposes_S8x1024x512_S1024x8x512_1_0_2) Cert.MlpUpRefIdeal.Facts₀.shapeCasts_S1024x8x512_S1024x4096 (ix2 r j) = y (ix3 (hi j) r (lo j)) := by
  rw [Pointwise.shapeCast_apply, Shape.reshapeEquiv_eq_of_vals (y := ix3 r (hi j) (lo j)) (hB := rowMajor_val2 _ _ rfl) (hA := rowMajor_val3 _ _ _ rfl rfl)]
  · pointwise
  · show r.val * (8 * 512) + j.val / 512 * 512 + j.val % 512 = r.val * 4096 + j.val
    omega

/-- What the reference computes, at every index. -/
theorem ref_eq (x : B4096x1024) (y : B8x1024x512) :
    Host.dotGeneral (F := Ideal) (φ₁ := .f32) (φ₂ := .f32) Cert.MlpUpRefIdeal.dot_S4096x1024_S1024x4096_S4096x4096_1_0_0_1_n_n none (extf .f32 x Cert.MlpUpRefIdeal.Facts₀.bitsLt_bf16_f32) (extf .f32 (shapeCast Cert.MlpUpRefIdeal.S1024x4096 (transpose Cert.MlpUpRefIdeal.S1024x8x512 [1, 0, 2] y Cert.MlpUpRefIdeal.Facts₀.transposes_S8x1024x512_S1024x8x512_1_0_2) Cert.MlpUpRefIdeal.Facts₀.shapeCasts_S1024x8x512_S1024x4096) Cert.MlpUpRefIdeal.Facts₀.bitsLt_bf16_f32) = G x y := by
  funext i
  obtain ⟨a, b, rfl⟩ : ∃ (a : Fin 4096) (b : Fin 4096), i = ix2 a b := ⟨i 0, i 1, eq_ix2 i⟩
  have e := whole_apply y
  generalize shapeCast Cert.MlpUpRefIdeal.S1024x4096 (transpose Cert.MlpUpRefIdeal.S1024x8x512 [1, 0, 2] y Cert.MlpUpRefIdeal.Facts₀.transposes_S8x1024x512_S1024x8x512_1_0_2) Cert.MlpUpRefIdeal.Facts₀.shapeCasts_S1024x8x512_S1024x4096 = u at e ⊢
  pointwise
  unfold G cell
  simp only [e]
  rfl

/-- What the reference computes, at every index. -/
theorem ref_sq (x : B4096x1024) (y : B8x1024x512) :
    truncf (F := Ideal) (φ := .f32) .bf16 (mulf (maximumf (Host.dotGeneral (F := Ideal) (φ₁ := .f32) (φ₂ := .f32) Cert.MlpUpRefIdeal.dot_S4096x1024_S1024x4096_S4096x4096_1_0_0_1_n_n none (extf .f32 x Cert.MlpUpRefIdeal.Facts₀.bitsLt_bf16_f32) (extf .f32 (shapeCast Cert.MlpUpRefIdeal.S1024x4096 (transpose Cert.MlpUpRefIdeal.S1024x8x512 [1, 0, 2] y Cert.MlpUpRefIdeal.Facts₀.transposes_S8x1024x512_S1024x8x512_1_0_2) Cert.MlpUpRefIdeal.Facts₀.shapeCasts_S1024x8x512_S1024x4096) Cert.MlpUpRefIdeal.Facts₀.bitsLt_bf16_f32)) (broadcastInDim Cert.MlpUpRefIdeal.S4096x4096 ![] Cert.MlpUpRefIdeal.Facts₀.bcast_S_S4096x4096 (constant (F := Ideal) Cert.MlpUpRefIdeal.S_ .f32 0x00000000#32))) (maximumf (Host.dotGeneral (F := Ideal) (φ₁ := .f32) (φ₂ := .f32) Cert.MlpUpRefIdeal.dot_S4096x1024_S1024x4096_S4096x4096_1_0_0_1_n_n none (extf .f32 x Cert.MlpUpRefIdeal.Facts₀.bitsLt_bf16_f32) (extf .f32 (shapeCast Cert.MlpUpRefIdeal.S1024x4096 (transpose Cert.MlpUpRefIdeal.S1024x8x512 [1, 0, 2] y Cert.MlpUpRefIdeal.Facts₀.transposes_S8x1024x512_S1024x8x512_1_0_2) Cert.MlpUpRefIdeal.Facts₀.shapeCasts_S1024x8x512_S1024x4096) Cert.MlpUpRefIdeal.Facts₀.bitsLt_bf16_f32)) (broadcastInDim Cert.MlpUpRefIdeal.S4096x4096 ![] Cert.MlpUpRefIdeal.Facts₀.bcast_S_S4096x4096 (constant (F := Ideal) Cert.MlpUpRefIdeal.S_ .f32 0x00000000#32)))) Cert.MlpUpRefIdeal.Facts₀.bitsLt_bf16_f32 = H x y := by
  funext i
  obtain ⟨a, b, rfl⟩ : ∃ (a : Fin 4096) (b : Fin 4096), i = ix2 a b := ⟨i 0, i 1, eq_ix2 i⟩
  have e := whole_apply y
  generalize shapeCast Cert.MlpUpRefIdeal.S1024x4096 (transpose Cert.MlpUpRefIdeal.S1024x8x512 [1, 0, 2] y Cert.MlpUpRefIdeal.Facts₀.transposes_S8x1024x512_S1024x8x512_1_0_2) Cert.MlpUpRefIdeal.Facts₀.shapeCasts_S1024x8x512_S1024x4096 = u at e ⊢
  pointwise
  unfold H cell
  simp only [e]
  rfl

/-- The claim of the call: kernel and reference end with the same two arrays. -/
theorem algebraic : Cert.algebraic_MlpUpIdeal_MlpUpRefIdeal := fun m ρ m' ρ' _ hag =>
  ⟨fun c => G (V m c main_arg0) (V m c main_arg1), fun c => H (V m c main_arg0) (V m c main_arg1),
   (θ_run _ _ _).mono (fun _ h c => ⟨(h c).1.trans (final2 m c), (h c).2.1.trans (final3 m c), (h c).2.2⟩) (Value.run_blocks m ρ),
   (θ_run _ _ _).mono (fun _ h c => ⟨(h c).1.trans (by rw [(hag c).1, (hag c).2]; exact ref_eq _ _), (h c).2.1.trans (by rw [(hag c).1, (hag c).2]; exact ref_sq _ _), (h c).2.2⟩)
     (Cert.MlpUpRefIdeal.Value.run m' ρ')⟩

end Cert.MlpUpProof

end
-- ==== Proof.RowSpec.lean ====
/- The norms of one row and the gated unit: the mathematics, apart from kernel and reference. -/
module

public import Idealize.ShloMosaic.Lib.Pointwise

@[expose] public section

set_option maxRecDepth 16384

noncomputable section

namespace Cert.Rows

open Idealize.ShloMosaic

/-- The mean of a row of 1024 entries. -/
def mean (f : Fin 1024 → EReal) : EReal := Ideal.div (∑ k, f k) (Ideal.ofBits .f32 0x44800000#32)
/-- The mean square of a row, with the norm's small constant added, and one over its root. -/
def square (f : Fin 1024 → EReal) : EReal := mean (fun k => f k * f k) + Ideal.ofBits .f32 0x358637BD#32
def scale (f : Fin 1024 → EReal) : EReal := Ideal.rsqrt (square f)
/-- Entry `d` of the root-mean-square norm of the row `f` with gain `g`. -/
def rms (f g : Fin 1024 → EReal) (d : Fin 1024) : EReal := f d * scale f * g d
/-- The gradient of the norm with respect to its row `f`, for the incoming gradient `u`: through the product at entry
    `d`, and through the mean square, once for each factor of the square. -/
def back (f g u : Fin 1024 → EReal) : EReal :=
  Ideal.div ((∑ k, f k * (u k * g k)) * (Ideal.ofBits .f32 0xBF000000#32 * Ideal.div (scale f) (square f))) (Ideal.ofBits .f32 0x44800000#32)
def rmsGrad (f g u : Fin 1024 → EReal) (d : Fin 1024) : EReal := u d * g d * scale f + f d * back f g u + back f g u * f d
/-- One row's share of the gradient of the gain. -/
def gainShare (f u : Fin 1024 → EReal) (d : Fin 1024) : EReal := f d * scale f * u d
/-- What a row's entry differs from the mean by. -/
def dev (f : Fin 1024 → EReal) (d : Fin 1024) : EReal := f d - mean f
/-- Entry `d` of the layer norm with gain `g` and bias `b`. -/
def layerNorm (f g b : Fin 1024 → EReal) (d : Fin 1024) : EReal := dev f d * scale (dev f) * g d + b d
/-- `y` times the logistic function of `y`. -/
def silu (y : EReal) : EReal := y * Ideal.logistic y

end Cert.Rows

end
-- ==== Proof.DRmsRef.lean ====
/- The gradient through the root-mean-square norm. What the results are, in formulas, and that the reference computes them. -/
module

public import proofs.«01_k».proof.Proof.Gen.DRmsRefIdeal.Run
public import proofs.«01_k».proof.Proof.Shared
public import proofs.«01_k».proof.Proof.RowSpec

@[expose] public section

set_option maxRecDepth 16384

noncomputable section

namespace Cert.DRmsProof

open Cert.DRmsRefIdeal Idealize.ShloMosaic Idealize.ShloMosaic.TcCoe Idealize.SL.Sem
open Idealize.ShloMosaic.Pointwise Cert.Shared Cert.Rows

/-! Arrays by their shapes. -/
abbrev R4096x1024r := Vec Ideal S4096x1024 .f32
abbrev R1x1024r := Vec Ideal S1x1024 .f32

/-- The gradient of the gain. -/
def Gg (h u : R4096x1024r) : R1x1024r := fun i => ∑ r : Fin 4096, gainShare (fun k => h (ix2 r k)) (fun k => u (ix2 r k)) (i 1)
/-- The gradient of the rows, added to what came around the norm, in both formats. -/
def Gh (h : R4096x1024r) (g : R1x1024r) (u r : R4096x1024r) : R4096x1024r :=
  fun i => rmsGrad (fun k => h (ix2 (i 0) k)) (fun k => g (ix2 0 k)) (fun k => u (ix2 (i 0) k)) (i 1) + r i
def Gb (h : R4096x1024r) (g : R1x1024r) (u r : R4096x1024r) : Vec Ideal S4096x1024 .bf16 := fun i => Gh h g u r i

/-! What the reference computes. -/

def refSquare (y0 : R4096x1024r) : Vec Ideal S4096x1 .f32 :=
  addf (F := Ideal) (φ := .f32) (Host.divf (F := Ideal) (φ := .f32) (broadcastInDim S4096x1 ![0] Facts₀.bcast_S4096_S4096x1_0 (Host.reduceAdd (F := Ideal) (φ := .f32) (mulf (F := Ideal) (φ := .f32) y0 y0) (constant (F := Ideal) S_ .f32 0x00000000#32) Facts₀.reducesTo_S4096x1024_S4096_d1 Facts₀.h_S_)) (broadcastInDim S4096x1 ![] Facts₀.bcast_S_S4096x1 (constant (F := Ideal) S_ .f32 0x44800000#32))) (broadcastInDim S4096x1 ![] Facts₀.bcast_S_S4096x1 (constant (F := Ideal) S_ .f32 0x358637BD#32))
def refScale (y0 : R4096x1024r) : Vec Ideal S4096x1 .f32 :=
  Host.rsqrt (F := Ideal) (φ := .f32) (refSquare y0)
def refBack (y0 : R4096x1024r) (y1 : R1x1024r) (y2 : R4096x1024r) : R4096x1024r :=
  broadcastInDim S4096x1024 ![0] Facts₀.bcast_S4096_S4096x1024_0 (Host.reduceAdd (F := Ideal) (φ := .f32) (Host.divf (F := Ideal) (φ := .f32) (mulf (F := Ideal) (φ := .f32) (shapeCast S4096x1 (Host.reduceAdd (F := Ideal) (φ := .f32) (mulf (F := Ideal) (φ := .f32) y0 (mulf (F := Ideal) (φ := .f32) y2 (broadcastInDim S4096x1024 ![0, 1] Facts₀.bcast_S1x1024_S4096x1024_0_1 y1))) (constant (F := Ideal) S_ .f32 0x00000000#32) Facts₀.reducesTo_S4096x1024_S4096_d1 Facts₀.h_S_) Facts₀.shapeCasts_S4096_S4096x1) (mulf (F := Ideal) (φ := .f32) (broadcastInDim S4096x1 ![] Facts₀.bcast_S_S4096x1 (constant (F := Ideal) S_ .f32 0xBF000000#32)) (Host.divf (F := Ideal) (φ := .f32) (refScale y0) (refSquare y0)))) (broadcastInDim S4096x1 ![] Facts₀.bcast_S_S4096x1 (constant (F := Ideal) S_ .f32 0x44800000#32))) (constant (F := Ideal) S_ .f32 0x00000000#32) Facts₀.reducesTo_S4096x1_S4096_d1 Facts₀.h_S_)

theorem refSquare_apply (y0 : R4096x1024r) (a : Fin 4096) (e : Fin 1) : refSquare y0 (ix2 a e) = square (fun k => y0 (ix2 a k)) := by
  pointwise [refSquare]
  rfl
theorem refScale_apply (y0 : R4096x1024r) (a : Fin 4096) (e : Fin 1) : refScale y0 (ix2 a e) = scale (fun k => y0 (ix2 a k)) := by
  have h := refSquare_apply y0 a e
  unfold refScale
  generalize refSquare y0 = z at h ⊢
  pointwise
  rw [h]
  rfl
theorem ref_g (y0 y2 : R4096x1024r) : shapeCast S1x1024 (Host.reduceAdd (F := Ideal) (φ := .f32) (mulf (F := Ideal) (φ := .f32) (mulf (F := Ideal) (φ := .f32) y0 (broadcastInDim S4096x1024 ![0, 1] Facts₀.bcast_S4096x1_S4096x1024_0_1 (refScale y0))) y2) (constant (F := Ideal) S_ .f32 0x00000000#32) Facts₀.reducesTo_S4096x1024_S1024_d0 Facts₀.h_S_) Facts₀.shapeCasts_S1024_S1x1024 = Gg y0 y2 := by
  funext y
  obtain ⟨a, b, rfl⟩ := pair y
  have h := fun a => refScale_apply y0 a
  generalize refScale y0 = z at h ⊢
  pointwise
  simp only [h]
  rfl
theorem refBack_apply (y0 : R4096x1024r) (y1 : R1x1024r) (y2 : R4096x1024r) (a : Fin 4096) (b : Fin 1024) :
    refBack y0 y1 y2 (ix2 a b) = back (fun k => y0 (ix2 a k)) (fun k => y1 (ix2 0 k)) (fun k => y2 (ix2 a k)) := by
  have h := fun e => refScale_apply y0 a e
  have h' := fun e => refSquare_apply y0 a e
  unfold refBack
  generalize refScale y0 = z at h ⊢
  generalize refSquare y0 = z' at h' ⊢
  pointwise
  simp only [h, h', Finset.univ_unique, Finset.sum_singleton]
  rfl
theorem ref_h (y0 : R4096x1024r) (y1 : R1x1024r) (y2 y3 : R4096x1024r) : addf (F := Ideal) (φ := .f32) (addf (F := Ideal) (φ := .f32) (addf (F := Ideal) (φ := .f32) (mulf (F := Ideal) (φ := .f32) (mulf (F := Ideal) (φ := .f32) y2 (broadcastInDim S4096x1024 ![0, 1] Facts₀.bcast_S1x1024_S4096x1024_0_1 y1)) (broadcastInDim S4096x1024 ![0, 1] Facts₀.bcast_S4096x1_S4096x1024_0_1 (refScale y0))) (mulf (F := Ideal) (φ := .f32) y0 (refBack y0 y1 y2))) (mulf (F := Ideal) (φ := .f32) (refBack y0 y1 y2) y0)) y3 = Gh y0 y1 y2 y3 := by
  funext y
  obtain ⟨a, b, rfl⟩ := pair y
  have h := fun e => refScale_apply y0 a e
  have h' := refBack_apply y0 y1 y2 a b
  generalize refScale y0 = z at h ⊢
  generalize refBack y0 y1 y2 = z' at h' ⊢
  pointwise
  simp only [h, h']
  rfl
theorem ref_b (y0 : R4096x1024r) (y1 : R1x1024r) (y2 y3 : R4096x1024r) : truncf (F := Ideal) (φ := .f32) .bf16 (addf (F := Ideal) (φ := .f32) (addf (F := Ideal) (φ := .f32) (addf (F := Ideal) (φ := .f32) (mulf (F := Ideal) (φ := .f32) (mulf (F := Ideal) (φ := .f32) y2 (broadcastInDim S4096x1024 ![0, 1] Facts₀.bcast_S1x1024_S4096x1024_0_1 y1)) (broadcastInDim S4096x1024 ![0, 1] Facts₀.bcast_S4096x1_S4096x1024_0_1 (refScale y0))) (mulf (F := Ideal) (φ := .f32) y0 (refBack y0 y1 y2))) (mulf (F := Ideal) (φ := .f32) (refBack y0 y1 y2) y0)) y3) Facts₀.bitsLt_bf16_f32 = Gb y0 y1 y2 y3 := by
  rw [ref_h]
  rfl

end Cert.DRmsProof

end
-- ==== Proof.DRms.lean ====
/- The gradient through the root-mean-square norm. -/
module

public import proofs.«01_k».proof.Defs
public import proofs.«01_k».proof.Proof.Gen.DRmsIdeal.Value
public import proofs.«01_k».proof.Proof.Gen.DRmsRefIdeal.Run
public import proofs.«01_k».proof.Proof.Shared
public import proofs.«01_k».proof.Proof.RowSpec
public import proofs.«01_k».proof.Proof.DRmsRef

@[expose] public section

set_option maxRecDepth 16384

noncomputable section

namespace Cert.DRmsProof

open Cert.DRmsIdeal Cert.DRmsIdeal.Gen Idealize.ShloMosaic Idealize.ShloMosaic.TcCoe Idealize.SL.Sem
open Idealize.ShloMosaic.Pointwise Cert.Shared Cert.Rows

/-! Arrays by their shapes. -/
abbrev R1x1024 := Vec Ideal S1x1024 .f32
abbrev R4096x1024 := Vec Ideal S4096x1024 .f32
abbrev R256x1024 := Vec Ideal S256x1024 .f32

/-! What one grid point computes. -/

theorem square_apply (x : R256x1024) (a : Fin 256) (e : Fin 1) : k0_pay3 x (ix2 a e) = square (fun k => x (ix2 a k)) := by
  pointwise [k0_pay3]
  rfl
theorem scale_apply (x : R256x1024) (a : Fin 256) (e : Fin 1) : k0_pay4 x (ix2 a e) = scale (fun k => x (ix2 a k)) := by
  have h := square_apply x a e
  unfold k0_pay4
  generalize k0_pay3 x = z at h ⊢
  pointwise
  rw [h]
  rfl
theorem share_apply (x u : R256x1024) (e : Fin 1) (b : Fin 1024) :
    k0_pay5 x u (ix2 e b) = ∑ a : Fin 256, gainShare (fun k => x (ix2 a k)) (fun k => u (ix2 a k)) b := by
  have h := fun a => scale_apply x a
  unfold k0_pay5
  generalize k0_pay4 x = z at h ⊢
  pointwise
  simp only [h]
  rfl
theorem grad_apply (x u : R256x1024) (g : R1x1024) (a : Fin 256) (b : Fin 1024) :
    k0_pay6 x u g (ix2 a b) = rmsGrad (fun k => x (ix2 a k)) (fun k => g (ix2 0 k)) (fun k => u (ix2 a k)) b := by
  have h := fun e => square_apply x a e
  have h' := fun e => scale_apply x a e
  unfold k0_pay6
  generalize k0_pay3 x = z at h ⊢
  generalize k0_pay4 x = z' at h' ⊢
  pointwise
  simp only [h, h', Finset.univ_unique, Finset.sum_singleton]
  rfl
theorem sum_apply (x u r : R256x1024) (g : R1x1024) (a : Fin 256) (b : Fin 1024) : k0_pay8 x u r g (ix2 a b)
    = rmsGrad (fun k => x (ix2 a k)) (fun k => g (ix2 0 k)) (fun k => u (ix2 a k)) b + r (ix2 a b) := by
  have h := grad_apply x u g a b
  unfold k0_pay8
  generalize k0_pay6 x u g = z at h ⊢
  pointwise
  rw [h]
theorem sum_apply' (x u r : R256x1024) (g : R1x1024) (a : Fin 256) (b : Fin 1024) : k0_pay1 (k0_pay8 x u r g) (ix2 a b)
    = rmsGrad (fun k => x (ix2 a k)) (fun k => g (ix2 0 k)) (fun k => u (ix2 a k)) b + r (ix2 a b) := by
  have h := sum_apply x u r g a b
  generalize k0_pay8 x u r g = z at h ⊢
  pointwise [k0_pay1]
  rw [h]
theorem later_apply (s z : R1x1024) (e : Fin 1) (b : Fin 1024) : k0_pay2 s z (ix2 e b) = z (ix2 e b) + s (ix2 e b) := by
  pointwise [k0_pay2]

variable (m : (ℓ : Loc nD τ sig) → Buf (Elt Ideal) ℓ)

theorem idx : ∀ t : Fin cfg0.N, t.val < 16
    ∧ (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0) :=
  (by decide +kernel : ∀ t : Fin grid0.N, _)

/-- Row `a` of point `t`'s block, as a row of the array. -/
def row (t : Fin cfg0.N) (a : Fin 256) : Fin 4096 := ⟨t.val * 256 + a.val, by have := (idx t).1; omega⟩

theorem emb0 (t : Fin cfg0.N) (a : Fin 256) (b : Fin 1024) : ((cfg0.win 0).blk t).view.emb (ix2 a b) = ix2 (row t a) b := by
  obtain ⟨-, ⟨e0, e1⟩, -⟩ := idx t
  refine ext2 ?_ ?_
  · show win0_0.index t (0 : Fin 2) * 256 + 1 * a.val = t.val * 256 + a.val; omega
  · show win0_0.index t (1 : Fin 2) * 1024 + 1 * b.val = b.val; omega
theorem emb1 (t : Fin cfg0.N) (a : Fin 256) (b : Fin 1024) : ((cfg0.win 1).blk t).view.emb (ix2 a b) = ix2 (row t a) b := by
  obtain ⟨-, -, ⟨e0, e1⟩, -⟩ := idx t
  refine ext2 ?_ ?_
  · show win0_1.index t (0 : Fin 2) * 256 + 1 * a.val = t.val * 256 + a.val; omega
  · show win0_1.index t (1 : Fin 2) * 1024 + 1 * b.val = b.val; omega
theorem emb2 (t : Fin cfg0.N) (a : Fin 256) (b : Fin 1024) : ((cfg0.win 2).blk t).view.emb (ix2 a b) = ix2 (row t a) b := by
  obtain ⟨-, -, -, ⟨e0, e1⟩, -⟩ := idx t
  refine ext2 ?_ ?_
  · show win0_2.index t (0 : Fin 2) * 256 + 1 * a.val = t.val * 256 + a.val; omega
  · show win0_2.index t (1 : Fin 2) * 1024 + 1 * b.val = b.val; omega
theorem emb3 (t : Fin cfg0.N) (a : Fin 1) (b : Fin 1024) : ((cfg0.win 3).blk t).view.emb (ix2 a b) = ix2 a b := by
  obtain ⟨-, -, -, -, ⟨e0, e1⟩, -⟩ := idx t
  refine ext2 ?_ ?_
  · show win0_3.index t (0 : Fin 2) * 1 + 1 * a.val = a.val; omega
  · show win0_3.index t (1 : Fin 2) * 1024 + 1 * b.val = b.val; omega
theorem emb4 (t : Fin cfg0.N) (a : Fin 256) (b : Fin 1024) : ((cfg0.win 4).blk t).view.emb (ix2 a b) = ix2 (row t a) b := by
  obtain ⟨-, -, -, -, -, ⟨e0, e1⟩, -⟩ := idx t
  refine ext2 ?_ ?_
  · show win0_4.index t (0 : Fin 2) * 256 + 1 * a.val = t.val * 256 + a.val; omega
  · show win0_4.index t (1 : Fin 2) * 1024 + 1 * b.val = b.val; omega
theorem emb5 (t : Fin cfg0.N) (a : Fin 256) (b : Fin 1024) : ((cfg0.win 5).blk t).view.emb (ix2 a b) = ix2 (row t a) b := by
  obtain ⟨-, -, -, -, -, -, ⟨e0, e1⟩, -⟩ := idx t
  refine ext2 ?_ ?_
  · show win0_5.index t (0 : Fin 2) * 256 + 1 * a.val = t.val * 256 + a.val; omega
  · show win0_5.index t (1 : Fin 2) * 1024 + 1 * b.val = b.val; omega
theorem emb6 (t : Fin cfg0.N) (a : Fin 1) (b : Fin 1024) : ((cfg0.win 6).blk t).view.emb (ix2 a b) = ix2 a b := by
  obtain ⟨-, -, -, -, -, -, -, e0, e1⟩ := idx t
  refine ext2 ?_ ?_
  · show win0_6.index t (0 : Fin 2) * 1 + 1 * a.val = a.val; omega
  · show win0_6.index t (1 : Fin 2) * 1024 + 1 * b.val = b.val; omega

theorem iblk0_apply (c : Dev nD) (t : Fin cfg0.N) (a : Fin 256) (b : Fin 1024) : (iblk m c 0 t : R256x1024) (ix2 a b)
    = (V m c main_arg0 : R4096x1024) (ix2 (row t a) b) :=
  congrArg (V m c main_arg0) (emb0 t a b)
theorem iblk1_apply (c : Dev nD) (t : Fin cfg0.N) (a : Fin 256) (b : Fin 1024) : (iblk m c 1 t : R256x1024) (ix2 a b)
    = (V m c main_arg2 : R4096x1024) (ix2 (row t a) b) :=
  congrArg (V m c main_arg2) (emb1 t a b)
theorem iblk2_apply (c : Dev nD) (t : Fin cfg0.N) (a : Fin 256) (b : Fin 1024) : (iblk m c 2 t : R256x1024) (ix2 a b)
    = (V m c main_arg3 : R4096x1024) (ix2 (row t a) b) :=
  congrArg (V m c main_arg3) (emb2 t a b)
theorem iblk3_apply (c : Dev nD) (t : Fin cfg0.N) (a : Fin 1) (b : Fin 1024) : (iblk m c 3 t : R1x1024) (ix2 a b)
    = (V m c main_arg1 : R1x1024) (ix2 a b) :=
  congrArg (V m c main_arg1) (emb3 t a b)

/-! What the body leaves in each result's block, at every point. -/

theorem pos (t : Fin cfg0.N) (h : ¬t.val % 16 = 0) : 1 ≤ t.val := by omega
theorem zero (t : Fin cfg0.N) (h : t.val % 16 = 0) : ¬1 ≤ t.val := by
  have := (idx t).1; omega
theorem out4 (c : Dev nD) (t : Fin cfg0.N) : (outsAt0 m c t.val t.isLt).1 = k0_pay7 (iblk m c 0 t) (iblk m c 1 t) (iblk m c 2 t) (iblk m c 3 t) := by
  by_cases h : t.val % 16 = 0
  · rw [outsAt0_A m c t h (zero t h)]
    frame_out
  · rw [outsAt0_B m c t h (pos t h)]
    frame_out
theorem out5 (c : Dev nD) (t : Fin cfg0.N) : (outsAt0 m c t.val t.isLt).2.1 = k0_pay1 (k0_pay8 (iblk m c 0 t) (iblk m c 1 t) (iblk m c 2 t) (iblk m c 3 t)) := by
  by_cases h : t.val % 16 = 0
  · rw [outsAt0_A m c t h (zero t h)]
    frame_out
  · rw [outsAt0_B m c t h (pos t h)]
    frame_out
/-- The block's share of the gradient of the gain. -/
def share (c : Dev nD) (t : Fin cfg0.N) : R1x1024 := k0_pay5 (iblk m c 0 t) (iblk m c 1 t)
theorem out6_first (c : Dev nD) (t : Fin cfg0.N) (h : t.val % 16 = 0) : (outsAt0 m c t.val t.isLt).2.2 = share m c t := by
  rw [outsAt0_A m c t h (zero t h)]
  frame_out
  rfl
theorem out6_later (c : Dev nD) (t : Fin cfg0.N) (h : ¬t.val % 16 = 0) : (outsAt0 m c t.val t.isLt).2.2
    = k0_pay2 (share m c t) (outsAt0 m c (t.val - 1) (Nat.sub_lt_of_lt t.isLt)).2.2 := by
  rw [outsAt0_B m c t h (pos t h)]
  frame_out
  rfl

/-! The results after the run. -/

theorem final4 (c : Dev nD) : (dats m 0 c).arrAt 4 cfg0.N = Gh (V m c main_arg0) (V m c main_arg1) (V m c main_arg2) (V m c main_arg3) := by
  refine (dats m 0 c).arrAt_eq_of_covers 4 _ (by decide +kernel) fun t _ y => ?_
  rw [after0_4]
  obtain ⟨a, b, rfl⟩ := pair y
  rw [emb4]
  refine (congrFun (out4 m c t) (ix2 a b)).trans ?_
  show k0_pay8 (iblk m c 0 t) (iblk m c 1 t) (iblk m c 2 t) (iblk m c 3 t) (ix2 a b) = _
  rw [sum_apply]
  simp only [iblk0_apply, iblk1_apply, iblk2_apply, iblk3_apply]
  rfl
theorem final5 (c : Dev nD) : (dats m 0 c).arrAt 5 cfg0.N = Gb (V m c main_arg0) (V m c main_arg1) (V m c main_arg2) (V m c main_arg3) := by
  refine (dats m 0 c).arrAt_eq_of_covers 5 _ (by decide +kernel) fun t _ y => ?_
  rw [after0_5]
  obtain ⟨a, b, rfl⟩ := pair y
  rw [emb5]
  refine (congrFun (out5 m c t) (ix2 a b)).trans ?_
  show k0_pay1 (k0_pay8 (iblk m c 0 t) (iblk m c 1 t) (iblk m c 2 t) (iblk m c 3 t)) (ix2 a b) = _
  rw [sum_apply']
  simp only [iblk0_apply, iblk1_apply, iblk2_apply, iblk3_apply]
  rfl
theorem share_sum (c : Dev nD) (t : Fin cfg0.N) (e : Fin 1) (b : Fin 1024) : share m c t (ix2 e b)
    = ∑ a : Fin 256, gainShare (fun k => (V m c main_arg0 : R4096x1024) (ix2 (row t a) k)) (fun k => (V m c main_arg2 : R4096x1024) (ix2 (row t a) k)) b := by
  unfold share
  rw [share_apply]
  simp only [iblk0_apply, iblk1_apply]

/-- The share of the `k`-th block, for any `k`. -/
def term (c : Dev nD) (e : Fin 1) (b : Fin 1024) (k : Nat) : EReal :=
  if h : k < cfg0.N then share m c ⟨k, h⟩ (ix2 e b) else 0

/-- The gradient of the gain after the last point is the sum of all shares. -/
theorem out6_last (c : Dev nD) (t : Fin cfg0.N) (h : t.val % 16 = 15) (e : Fin 1) (b : Fin 1024) :
    ((outsAt0 m c t.val t.isLt).2.2 : R1x1024) (ix2 e b) = Gg (V m c main_arg0) (V m c main_arg2) (ix2 e b) := by
  have hN : cfg0.N = 16 := N_0
  have key := Pipeline.eq_sum_of_reset_step_of_mod (N := cfg0.N)
    (fun n hn => ((outsAt0 m c n hn).2.2 : R1x1024) (ix2 e b)) 16 0 (term m c e b)
    (fun t h => by
      show ((outsAt0 m c t.val t.isLt).2.2 : R1x1024) (ix2 e b) = _
      rw [out6_first m c t h, term, dif_pos t.isLt, zero_add])
    (fun t h => by
      show ((outsAt0 m c t.val t.isLt).2.2 : R1x1024) (ix2 e b) = _
      rw [out6_later m c t h, later_apply, term, dif_pos t.isLt])
    t h
  refine key.trans ?_
  have ht : t.val / 16 = 0 := by have := t.isLt; omega
  show _ = ∑ r : Fin 4096, gainShare (fun k => (V m c main_arg0 : R4096x1024) (ix2 r k)) (fun k => (V m c main_arg2 : R4096x1024) (ix2 r k)) b
  rw [ht, zero_add, Fin.sum_univ_tiles 16 256 rfl, ← Fin.sum_univ_eq_sum_range (fun k => term m c e b (16 * 0 + k)) 16]
  refine Finset.sum_congr rfl fun k _ => ?_
  have hk : 16 * 0 + k.val < cfg0.N := by have := k.isLt; omega
  rw [term, dif_pos hk, share_sum]
  refine Finset.sum_congr rfl fun a _ => ?_
  have hr : row ⟨16 * 0 + k.val, hk⟩ a = ⟨k.val * 256 + a.val, by omega⟩ :=
    Fin.ext (by show (16 * 0 + k.val) * 256 + a.val = k.val * 256 + a.val; omega)
  rw [hr]

theorem final6 (c : Dev nD) : (dats m 0 c).arrAt 6 cfg0.N = Gg (V m c main_arg0) (V m c main_arg2) := by
  refine (dats m 0 c).arrAt_eq_of_covers 6 _ (by decide +kernel) fun t hf y => ?_
  rw [after0_6]
  obtain ⟨e, b, rfl⟩ := pair y
  rw [emb6]
  exact out6_last m c t ((flush0_6 t).mp hf) e b

/-- The claim of the call: kernel and reference end with the same three arrays. -/
theorem algebraic : Cert.algebraic_DRmsIdeal_DRmsRefIdeal := fun m ρ m' ρ' _ hag =>
  ⟨fun c => Gh (V m c main_arg0) (V m c main_arg1) (V m c main_arg2) (V m c main_arg3), fun c => Gb (V m c main_arg0) (V m c main_arg1) (V m c main_arg2) (V m c main_arg3), fun c => Gg (V m c main_arg0) (V m c main_arg2),
   (θ_run _ _ _).mono (fun _ h c => ⟨(h c).1.trans (final4 m c), (h c).2.1.trans (final5 m c), (h c).2.2.1.trans (final6 m c),
      (h c).2.2.2⟩) (Value.run_blocks m ρ),
   (θ_run _ _ _).mono (fun _ h c => ⟨(h c).1.trans (by rw [(hag c).1, (hag c).2.1, (hag c).2.2.1, (hag c).2.2.2]; exact ref_h _ _ _ _),
      (h c).2.1.trans (by rw [(hag c).1, (hag c).2.1, (hag c).2.2.1, (hag c).2.2.2]; exact ref_b _ _ _ _),
      (h c).2.2.1.trans (by rw [(hag c).1, (hag c).2.2.1]; exact ref_g _ _), (h c).2.2.2⟩)
     (Cert.DRmsRefIdeal.Value.run m' ρ')⟩

end Cert.DRmsProof

end
-- ==== Proof.DRmsMemRef.lean ====
/- The gradient through the root-mean-square norm of the memory. What the results are, in formulas, and that the reference computes them. -/
module

public import proofs.«01_k».proof.Proof.Gen.DRmsMemRefIdeal.Run
public import proofs.«01_k».proof.Proof.Shared
public import proofs.«01_k».proof.Proof.RowSpec

@[expose] public section

set_option maxRecDepth 16384

noncomputable section

namespace Cert.DRmsMemProof

open Cert.DRmsMemRefIdeal Idealize.ShloMosaic Idealize.ShloMosaic.TcCoe Idealize.SL.Sem
open Idealize.ShloMosaic.Pointwise Cert.Shared Cert.Rows

/-! Arrays by their shapes. -/
abbrev R256x1024r := Vec Ideal S256x1024 .f32

/-- The gradient of the gain. -/
def Gg (h u : R256x1024r) : Vec Ideal S1x1024 .f32 := fun i => ∑ r : Fin 256, gainShare (fun k => h (ix2 r k)) (fun k => u (ix2 r k)) (i 1)

/-! What the reference computes. -/

def refSquare (y0 : R256x1024r) : Vec Ideal S256x1 .f32 :=
  addf (F := Ideal) (φ := .f32) (Host.divf (F := Ideal) (φ := .f32) (broadcastInDim S256x1 ![0] Facts₀.bcast_S256_S256x1_0 (Host.reduceAdd (F := Ideal) (φ := .f32) (mulf (F := Ideal) (φ := .f32) y0 y0) (constant (F := Ideal) S_ .f32 0x00000000#32) Facts₀.reducesTo_S256x1024_S256_d1 Facts₀.h_S_)) (broadcastInDim S256x1 ![] Facts₀.bcast_S_S256x1 (constant (F := Ideal) S_ .f32 0x44800000#32))) (broadcastInDim S256x1 ![] Facts₀.bcast_S_S256x1 (constant (F := Ideal) S_ .f32 0x358637BD#32))
def refScale (y0 : R256x1024r) : Vec Ideal S256x1 .f32 :=
  Host.rsqrt (F := Ideal) (φ := .f32) (refSquare y0)

theorem refSquare_apply (y0 : R256x1024r) (a : Fin 256) (e : Fin 1) : refSquare y0 (ix2 a e) = square (fun k => y0 (ix2 a k)) := by
  pointwise [refSquare]
  rfl
theorem refScale_apply (y0 : R256x1024r) (a : Fin 256) (e : Fin 1) : refScale y0 (ix2 a e) = scale (fun k => y0 (ix2 a k)) := by
  have h := refSquare_apply y0 a e
  unfold refScale
  generalize refSquare y0 = z at h ⊢
  pointwise
  rw [h]
  rfl
theorem ref_g (y0 y2 : R256x1024r) : shapeCast S1x1024 (Host.reduceAdd (F := Ideal) (φ := .f32) (mulf (F := Ideal) (φ := .f32) (mulf (F := Ideal) (φ := .f32) y0 (broadcastInDim S256x1024 ![0, 1] Facts₀.bcast_S256x1_S256x1024_0_1 (refScale y0))) y2) (constant (F := Ideal) S_ .f32 0x00000000#32) Facts₀.reducesTo_S256x1024_S1024_d0 Facts₀.h_S_) Facts₀.shapeCasts_S1024_S1x1024 = Gg y0 y2 := by
  funext y
  obtain ⟨a, b, rfl⟩ := pair y
  have h := fun a => refScale_apply y0 a
  generalize refScale y0 = z at h ⊢
  pointwise
  simp only [h]
  rfl

end Cert.DRmsMemProof

end
-- ==== Proof.DRmsMem.lean ====
/- The gradient through the root-mean-square norm of the memory. -/
module

public import proofs.«01_k».proof.Defs
public import proofs.«01_k».proof.Proof.Gen.DRmsMemIdeal.Value
public import proofs.«01_k».proof.Proof.Gen.DRmsMemRefIdeal.Run
public import proofs.«01_k».proof.Proof.Shared
public import proofs.«01_k».proof.Proof.RowSpec
public import proofs.«01_k».proof.Proof.DRmsMemRef

@[expose] public section

set_option maxRecDepth 16384

noncomputable section

namespace Cert.DRmsMemProof

open Cert.DRmsMemIdeal Cert.DRmsMemIdeal.Gen Idealize.ShloMosaic Idealize.ShloMosaic.TcCoe Idealize.SL.Sem
open Idealize.ShloMosaic.Pointwise Cert.Shared Cert.Rows

/-! Arrays by their shapes. -/
abbrev R256x1024 := Vec Ideal S256x1024 .f32

/-! What one grid point computes. -/

theorem square_apply (x : R256x1024) (a : Fin 256) (e : Fin 1) : k0_pay4 x (ix2 a e) = square (fun k => x (ix2 a k)) := by
  pointwise [k0_pay4]
  rfl
theorem scale_apply (x : R256x1024) (a : Fin 256) (e : Fin 1) : k0_pay5 x (ix2 a e) = scale (fun k => x (ix2 a k)) := by
  have h := square_apply x a e
  unfold k0_pay5
  generalize k0_pay4 x = z at h ⊢
  pointwise
  rw [h]
  rfl
theorem share_apply (x u : R256x1024) (e : Fin 1) (b : Fin 1024) :
    k0_pay6 x u (ix2 e b) = ∑ a : Fin 256, gainShare (fun k => x (ix2 a k)) (fun k => u (ix2 a k)) b := by
  have h := fun a => scale_apply x a
  unfold k0_pay6
  generalize k0_pay5 x = z at h ⊢
  pointwise
  simp only [h]
  rfl

variable (m : (ℓ : Loc nD τ sig) → Buf (Elt Ideal) ℓ)

theorem idx : ∀ t : Fin cfg0.N, t.val < 1
    ∧ (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0) :=
  (by decide +kernel : ∀ t : Fin grid0.N, _)

/-- Row `a` of point `t`'s block, as a row of the array. -/
def row (t : Fin cfg0.N) (a : Fin 256) : Fin 256 := ⟨t.val * 256 + a.val, by have := (idx t).1; omega⟩

theorem emb0 (t : Fin cfg0.N) (a : Fin 256) (b : Fin 1024) : ((cfg0.win 0).blk t).view.emb (ix2 a b) = ix2 (row t a) b := by
  obtain ⟨-, ⟨e0, e1⟩, -⟩ := idx t
  refine ext2 ?_ ?_
  · show win0_0.index t (0 : Fin 2) * 256 + 1 * a.val = t.val * 256 + a.val; omega
  · show win0_0.index t (1 : Fin 2) * 1024 + 1 * b.val = b.val; omega
theorem emb1 (t : Fin cfg0.N) (a : Fin 256) (b : Fin 1024) : ((cfg0.win 1).blk t).view.emb (ix2 a b) = ix2 (row t a) b := by
  obtain ⟨-, -, ⟨e0, e1⟩, -⟩ := idx t
  refine ext2 ?_ ?_
  · show win0_1.index t (0 : Fin 2) * 256 + 1 * a.val = t.val * 256 + a.val; omega
  · show win0_1.index t (1 : Fin 2) * 1024 + 1 * b.val = b.val; omega
theorem emb2 (t : Fin cfg0.N) (a : Fin 256) (b : Fin 1024) : ((cfg0.win 2).blk t).view.emb (ix2 a b) = ix2 (row t a) b := by
  obtain ⟨-, -, -, ⟨e0, e1⟩, -⟩ := idx t
  refine ext2 ?_ ?_
  · show win0_2.index t (0 : Fin 2) * 256 + 1 * a.val = t.val * 256 + a.val; omega
  · show win0_2.index t (1 : Fin 2) * 1024 + 1 * b.val = b.val; omega
theorem emb3 (t : Fin cfg0.N) (a : Fin 1) (b : Fin 1024) : ((cfg0.win 3).blk t).view.emb (ix2 a b) = ix2 a b := by
  obtain ⟨-, -, -, -, ⟨e0, e1⟩, -⟩ := idx t
  refine ext2 ?_ ?_
  · show win0_3.index t (0 : Fin 2) * 1 + 1 * a.val = a.val; omega
  · show win0_3.index t (1 : Fin 2) * 1024 + 1 * b.val = b.val; omega
theorem emb4 (t : Fin cfg0.N) (a : Fin 256) (b : Fin 1024) : ((cfg0.win 4).blk t).view.emb (ix2 a b) = ix2 (row t a) b := by
  obtain ⟨-, -, -, -, -, ⟨e0, e1⟩, -⟩ := idx t
  refine ext2 ?_ ?_
  · show win0_4.index t (0 : Fin 2) * 256 + 1 * a.val = t.val * 256 + a.val; omega
  · show win0_4.index t (1 : Fin 2) * 1024 + 1 * b.val = b.val; omega
theorem emb5 (t : Fin cfg0.N) (a : Fin 256) (b : Fin 1024) : ((cfg0.win 5).blk t).view.emb (ix2 a b) = ix2 (row t a) b := by
  obtain ⟨-, -, -, -, -, -, ⟨e0, e1⟩, -⟩ := idx t
  refine ext2 ?_ ?_
  · show win0_5.index t (0 : Fin 2) * 256 + 1 * a.val = t.val * 256 + a.val; omega
  · show win0_5.index t (1 : Fin 2) * 1024 + 1 * b.val = b.val; omega
theorem emb6 (t : Fin cfg0.N) (a : Fin 1) (b : Fin 1024) : ((cfg0.win 6).blk t).view.emb (ix2 a b) = ix2 a b := by
  obtain ⟨-, -, -, -, -, -, -, e0, e1⟩ := idx t
  refine ext2 ?_ ?_
  · show win0_6.index t (0 : Fin 2) * 1 + 1 * a.val = a.val; omega
  · show win0_6.index t (1 : Fin 2) * 1024 + 1 * b.val = b.val; omega

theorem iblk0_apply (c : Dev nD) (t : Fin cfg0.N) (a : Fin 256) (b : Fin 1024) : (iblk m c 0 t : R256x1024) (ix2 a b)
    = (V m c main_arg0 : R256x1024) (ix2 (row t a) b) :=
  congrArg (V m c main_arg0) (emb0 t a b)
theorem iblk1_apply (c : Dev nD) (t : Fin cfg0.N) (a : Fin 256) (b : Fin 1024) : (iblk m c 1 t : R256x1024) (ix2 a b)
    = (V m c main_arg2 : R256x1024) (ix2 (row t a) b) :=
  congrArg (V m c main_arg2) (emb1 t a b)
theorem iblk3_apply (c : Dev nD) (t : Fin cfg0.N) (a : Fin 1) (b : Fin 1024) : (iblk m c 3 t : Vec Ideal S1x1024 .f32) (ix2 a b)
    = (V m c main_arg1 : Vec Ideal S1x1024 .f32) (ix2 a b) :=
  congrArg (V m c main_arg1 : Vec Ideal S1x1024 .f32) (emb3 t a b)

/-- What the body leaves in the gain's gradient. -/
theorem out6 (c : Dev nD) (t : Fin cfg0.N) : (outsAt0 m c t).2.2 = k0_pay6 (iblk m c 0 t) (iblk m c 1 t) := by
  unfold outsAt0
  frame_out
  try rfl

theorem final6 (c : Dev nD) : (dats m 0 c).arrAt 6 cfg0.N = Gg (V m c main_arg0) (V m c main_arg2) := by
  refine (dats m 0 c).arrAt_eq_of_covers 6 _ (by decide +kernel) fun t hf y => ?_
  rw [after0_6]
  obtain ⟨e, b, rfl⟩ := pair y
  rw [emb6]
  refine (congrFun (out6 m c t) (ix2 e b)).trans ?_
  refine (share_apply _ _ e b).trans ?_
  simp only [iblk0_apply, iblk1_apply]
  have hr : ∀ a, row t a = a := fun a => Fin.ext (by
    show t.val * 256 + a.val = a.val
    have := (idx t).1
    omega)
  simp only [hr]
  rfl

/-- The claim of the call: kernel and reference end with the same gradient of the gain. -/
theorem algebraic : Cert.algebraic_DRmsMemIdeal_DRmsMemRefIdeal := fun m ρ m' ρ' _ hag =>
  ⟨fun c => Gg (V m c main_arg0) (V m c main_arg2),
   (θ_run _ _ _).mono (fun _ h c => ⟨(h c).2.2.1.trans (final6 m c), (h c).2.2.2⟩) (Value.run_blocks m ρ),
   (θ_run _ _ _).mono (fun _ h c => ⟨(h c).1.trans (by rw [(hag c).1, (hag c).2.2]; exact ref_g _ _), (h c).2⟩)
     (Cert.DRmsMemRefIdeal.Value.run m' ρ')⟩

end Cert.DRmsMemProof

end
-- ==== Proof.LnSpec.lean ====
/- The gradient of the layer norm and the gated unit for one row: the mathematics, apart from kernel and reference. -/
module

public import proofs.«01_k».proof.Proof.RowSpec

@[expose] public section

set_option maxRecDepth 16384

noncomputable section

namespace Cert.Rows

open Idealize.ShloMosaic

/-- The gradient of `y` times the logistic function of `y`, for the incoming gradient `c`. -/
def siluGrad (y c : EReal) : EReal :=
  c * Ideal.logistic y + y * c * (Ideal.logistic y * (1 - Ideal.logistic y))
/-- The gradient of the layer norm's result at entry `d` of the row `f`. -/
def lnIn (f g b u : Fin 1024 → EReal) (d : Fin 1024) : EReal := siluGrad (layerNorm f g b d) (u d)
/-- The gradient of the deviations from the mean: that of a root-mean-square norm of them. -/
def devGrad (f g b u : Fin 1024 → EReal) (d : Fin 1024) : EReal := rmsGrad (dev f) g (lnIn f g b u) d
/-- The gradient of the row: through the entry itself, and through the mean. -/
def lnGrad (f g b u : Fin 1024 → EReal) (d : Fin 1024) : EReal := devGrad f g b u d + mean (fun k => -devGrad f g b u k)

end Cert.Rows

end
-- ==== Proof.DLnSiluRef.lean ====
/- The gradient through the gated unit and the layer norm before it. What the results are, in formulas, and that the reference computes them. -/
module

public import proofs.«01_k».proof.Proof.Gen.DLnSiluRefIdeal.Run
public import proofs.«01_k».proof.Proof.Shared
public import proofs.«01_k».proof.Proof.LnSpec

@[expose] public section

set_option maxRecDepth 16384

noncomputable section

namespace Cert.DLnSiluProof

open Cert.DLnSiluRefIdeal Idealize.ShloMosaic Idealize.ShloMosaic.TcCoe Idealize.SL.Sem
open Idealize.ShloMosaic.Pointwise Cert.Shared Cert.Rows

/-! Arrays by their shapes. -/
abbrev R4096x1024r := Vec Ideal S4096x1024 .f32
abbrev R1x1024r := Vec Ideal S1x1024 .f32
abbrev B4096x1024r := Vec Ideal S4096x1024 .bf16

/-- The gradient of the rows, of the gain and of the bias. -/
def Gx (x : R4096x1024r) (g h : R1x1024r) (u : B4096x1024r) : R4096x1024r := fun i => lnGrad (fun k => x (ix2 (i 0) k)) (fun k => g (ix2 0 k)) (fun k => h (ix2 0 k)) (fun k => u (ix2 (i 0) k)) (i 1)
def Gg (x : R4096x1024r) (g h : R1x1024r) (u : B4096x1024r) : R1x1024r := fun i => ∑ r : Fin 4096, gainShare (dev (fun k => x (ix2 r k))) (lnIn (fun k => x (ix2 r k)) (fun k => g (ix2 0 k)) (fun k => h (ix2 0 k)) (fun k => u (ix2 r k))) (i 1)
def Gb (x : R4096x1024r) (g h : R1x1024r) (u : B4096x1024r) : R1x1024r := fun i => ∑ r : Fin 4096, lnIn (fun k => x (ix2 r k)) (fun k => g (ix2 0 k)) (fun k => h (ix2 0 k)) (fun k => u (ix2 r k)) (i 1)

/-! What the reference computes. -/

def refDev (y0 : R4096x1024r) : R4096x1024r :=
  subf (F := Ideal) (φ := .f32) y0 (broadcastInDim S4096x1024 ![0, 1] Facts₀.bcast_S4096x1_S4096x1024_0_1 (Host.divf (F := Ideal) (φ := .f32) (broadcastInDim S4096x1 ![0] Facts₀.bcast_S4096_S4096x1_0 (Host.reduceAdd (F := Ideal) (φ := .f32) y0 (constant (F := Ideal) S_ .f32 0x00000000#32) Facts₀.reducesTo_S4096x1024_S4096_d1 Facts₀.h_S_)) (broadcastInDim S4096x1 ![] Facts₀.bcast_S_S4096x1 (constant (F := Ideal) S_ .f32 0x44800000#32))))
def refSquare (y0 : R4096x1024r) : Vec Ideal S4096x1 .f32 :=
  addf (F := Ideal) (φ := .f32) (Host.divf (F := Ideal) (φ := .f32) (broadcastInDim S4096x1 ![0] Facts₀.bcast_S4096_S4096x1_0 (Host.reduceAdd (F := Ideal) (φ := .f32) (mulf (F := Ideal) (φ := .f32) (refDev y0) (refDev y0)) (constant (F := Ideal) S_ .f32 0x00000000#32) Facts₀.reducesTo_S4096x1024_S4096_d1 Facts₀.h_S_)) (broadcastInDim S4096x1 ![] Facts₀.bcast_S_S4096x1 (constant (F := Ideal) S_ .f32 0x44800000#32))) (broadcastInDim S4096x1 ![] Facts₀.bcast_S_S4096x1 (constant (F := Ideal) S_ .f32 0x358637BD#32))
def refScale (y0 : R4096x1024r) : Vec Ideal S4096x1 .f32 :=
  Host.rsqrt (F := Ideal) (φ := .f32) (refSquare y0)
def refNormed (y0 : R4096x1024r) : R4096x1024r :=
  mulf (F := Ideal) (φ := .f32) (refDev y0) (broadcastInDim S4096x1024 ![0, 1] Facts₀.bcast_S4096x1_S4096x1024_0_1 (refScale y0))
def refY (y0 : R4096x1024r) (y1 : R1x1024r) (y2 : R1x1024r) : R4096x1024r :=
  addf (F := Ideal) (φ := .f32) (mulf (F := Ideal) (φ := .f32) (refNormed y0) (broadcastInDim S4096x1024 ![0, 1] Facts₀.bcast_S1x1024_S4096x1024_0_1 y1)) (broadcastInDim S4096x1024 ![0, 1] Facts₀.bcast_S1x1024_S4096x1024_0_1 y2)
def refSig (y0 : R4096x1024r) (y1 : R1x1024r) (y2 : R1x1024r) : R4096x1024r :=
  Host.divf (F := Ideal) (φ := .f32) (broadcastInDim S4096x1024 ![] Facts₀.bcast_S_S4096x1024 (constant (F := Ideal) S_ .f32 0x3F800000#32)) (addf (F := Ideal) (φ := .f32) (broadcastInDim S4096x1024 ![] Facts₀.bcast_S_S4096x1024 (constant (F := Ideal) S_ .f32 0x3F800000#32)) (Host.exp (F := Ideal) (φ := .f32) (Host.negf (F := Ideal) (φ := .f32) (refY y0 y1 y2))))
def refIn (y0 : R4096x1024r) (y1 : R1x1024r) (y2 : R1x1024r) (y3 : B4096x1024r) : R4096x1024r :=
  addf (F := Ideal) (φ := .f32) (mulf (F := Ideal) (φ := .f32) (extf (F := Ideal) (φ := .bf16) .f32 y3 Facts₀.bitsLt_bf16_f32) (refSig y0 y1 y2)) (mulf (F := Ideal) (φ := .f32) (mulf (F := Ideal) (φ := .f32) (refY y0 y1 y2) (extf (F := Ideal) (φ := .bf16) .f32 y3 Facts₀.bitsLt_bf16_f32)) (mulf (F := Ideal) (φ := .f32) (refSig y0 y1 y2) (subf (F := Ideal) (φ := .f32) (broadcastInDim S4096x1024 ![] Facts₀.bcast_S_S4096x1024 (constant (F := Ideal) S_ .f32 0x3F800000#32)) (refSig y0 y1 y2))))
def refBack (y0 : R4096x1024r) (y1 : R1x1024r) (y2 : R1x1024r) (y3 : B4096x1024r) : R4096x1024r :=
  broadcastInDim S4096x1024 ![0] Facts₀.bcast_S4096_S4096x1024_0 (Host.reduceAdd (F := Ideal) (φ := .f32) (Host.divf (F := Ideal) (φ := .f32) (mulf (F := Ideal) (φ := .f32) (shapeCast S4096x1 (Host.reduceAdd (F := Ideal) (φ := .f32) (mulf (F := Ideal) (φ := .f32) (refDev y0) (mulf (F := Ideal) (φ := .f32) (refIn y0 y1 y2 y3) (broadcastInDim S4096x1024 ![0, 1] Facts₀.bcast_S1x1024_S4096x1024_0_1 y1))) (constant (F := Ideal) S_ .f32 0x00000000#32) Facts₀.reducesTo_S4096x1024_S4096_d1 Facts₀.h_S_) Facts₀.shapeCasts_S4096_S4096x1) (mulf (F := Ideal) (φ := .f32) (broadcastInDim S4096x1 ![] Facts₀.bcast_S_S4096x1 (constant (F := Ideal) S_ .f32 0xBF000000#32)) (Host.divf (F := Ideal) (φ := .f32) (refScale y0) (refSquare y0)))) (broadcastInDim S4096x1 ![] Facts₀.bcast_S_S4096x1 (constant (F := Ideal) S_ .f32 0x44800000#32))) (constant (F := Ideal) S_ .f32 0x00000000#32) Facts₀.reducesTo_S4096x1_S4096_d1 Facts₀.h_S_)
def refGrad (y0 : R4096x1024r) (y1 : R1x1024r) (y2 : R1x1024r) (y3 : B4096x1024r) : R4096x1024r :=
  addf (F := Ideal) (φ := .f32) (addf (F := Ideal) (φ := .f32) (mulf (F := Ideal) (φ := .f32) (mulf (F := Ideal) (φ := .f32) (refIn y0 y1 y2 y3) (broadcastInDim S4096x1024 ![0, 1] Facts₀.bcast_S1x1024_S4096x1024_0_1 y1)) (broadcastInDim S4096x1024 ![0, 1] Facts₀.bcast_S4096x1_S4096x1024_0_1 (refScale y0))) (mulf (F := Ideal) (φ := .f32) (refDev y0) (refBack y0 y1 y2 y3))) (mulf (F := Ideal) (φ := .f32) (refBack y0 y1 y2 y3) (refDev y0))

theorem refDev_apply (y0 : R4096x1024r) (a : Fin 4096) (b : Fin 1024) : refDev y0 (ix2 a b) = dev (fun k => y0 (ix2 a k)) b := by
  pointwise [refDev]
  rfl
theorem refSquare_apply (y0 : R4096x1024r) (a : Fin 4096) (e : Fin 1) : refSquare y0 (ix2 a e) = square (dev (fun k => y0 (ix2 a k))) := by
  have h := refDev_apply y0 a
  unfold refSquare
  generalize refDev y0 = z at h ⊢
  pointwise
  simp only [h]
  rfl
theorem refScale_apply (y0 : R4096x1024r) (a : Fin 4096) (e : Fin 1) : refScale y0 (ix2 a e) = scale (dev (fun k => y0 (ix2 a k))) := by
  have h := refSquare_apply y0 a e
  unfold refScale
  generalize refSquare y0 = z at h ⊢
  pointwise
  rw [h]
  rfl
theorem refNormed_apply (y0 : R4096x1024r) (a : Fin 4096) (b : Fin 1024) : refNormed y0 (ix2 a b) = dev (fun k => y0 (ix2 a k)) b * scale (dev (fun k => y0 (ix2 a k))) := by
  have h := refDev_apply y0 a b
  have h' := refScale_apply y0 a
  unfold refNormed
  generalize refDev y0 = z at h ⊢
  generalize refScale y0 = z' at h' ⊢
  pointwise
  rw [h, h']
theorem refY_apply (y0 : R4096x1024r) (y1 y2 : R1x1024r) (a : Fin 4096) (b : Fin 1024) :
    refY y0 y1 y2 (ix2 a b) = layerNorm (fun k => y0 (ix2 a k)) (fun k => y1 (ix2 0 k)) (fun k => y2 (ix2 0 k)) b := by
  have h := refNormed_apply y0 a b
  unfold refY
  generalize refNormed y0 = z at h ⊢
  pointwise
  rw [h]
  rfl
theorem refSig_apply (y0 : R4096x1024r) (y1 y2 : R1x1024r) (a : Fin 4096) (b : Fin 1024) :
    refSig y0 y1 y2 (ix2 a b) = Ideal.logistic (layerNorm (fun k => y0 (ix2 a k)) (fun k => y1 (ix2 0 k)) (fun k => y2 (ix2 0 k)) b) := by
  have h := refY_apply y0 y1 y2 a b
  unfold refSig
  generalize refY y0 y1 y2 = z at h ⊢
  pointwise
  rw [h]
  rfl
theorem refIn_apply (y0 : R4096x1024r) (y1 y2 : R1x1024r) (y3 : B4096x1024r) (a : Fin 4096) (b : Fin 1024) : refIn y0 y1 y2 y3 (ix2 a b) = lnIn (fun k => y0 (ix2 a k)) (fun k => y1 (ix2 0 k)) (fun k => y2 (ix2 0 k)) (fun k => y3 (ix2 a k)) b := by
  have h := refY_apply y0 y1 y2 a b
  have h' := refSig_apply y0 y1 y2 a b
  unfold refIn
  generalize refY y0 y1 y2 = z at h ⊢
  generalize refSig y0 y1 y2 = z' at h' ⊢
  pointwise
  rw [h, h']
  rfl
theorem refBack_apply (y0 : R4096x1024r) (y1 y2 : R1x1024r) (y3 : B4096x1024r) (a : Fin 4096) (b : Fin 1024) :
    refBack y0 y1 y2 y3 (ix2 a b) = back (dev (fun k => y0 (ix2 a k))) (fun k => y1 (ix2 0 k)) (lnIn (fun k => y0 (ix2 a k)) (fun k => y1 (ix2 0 k)) (fun k => y2 (ix2 0 k)) (fun k => y3 (ix2 a k))) := by
  have h := refIn_apply y0 y1 y2 y3 a
  have h0 := refDev_apply y0 a
  have h1 := refSquare_apply y0 a
  have h2 := refScale_apply y0 a
  unfold refBack
  generalize refIn y0 y1 y2 y3 = z at h ⊢
  generalize refDev y0 = z0 at h0 ⊢
  generalize refSquare y0 = z1 at h1 ⊢
  generalize refScale y0 = z2 at h2 ⊢
  pointwise
  simp only [h, h0, h1, h2, Finset.univ_unique, Finset.sum_singleton]
  rfl
theorem refGrad_apply (y0 : R4096x1024r) (y1 y2 : R1x1024r) (y3 : B4096x1024r) (a : Fin 4096) (b : Fin 1024) : refGrad y0 y1 y2 y3 (ix2 a b) = devGrad (fun k => y0 (ix2 a k)) (fun k => y1 (ix2 0 k)) (fun k => y2 (ix2 0 k)) (fun k => y3 (ix2 a k)) b := by
  have h := refIn_apply y0 y1 y2 y3 a
  have h' := refBack_apply y0 y1 y2 y3 a
  have h0 := refDev_apply y0 a
  have h2 := refScale_apply y0 a
  unfold refGrad
  generalize refIn y0 y1 y2 y3 = z at h ⊢
  generalize refBack y0 y1 y2 y3 = z' at h' ⊢
  generalize refDev y0 = z0 at h0 ⊢
  generalize refScale y0 = z2 at h2 ⊢
  pointwise
  simp only [h, h', h0, h2]
  rfl
theorem ref_x (y0 : R4096x1024r) (y1 y2 : R1x1024r) (y3 : B4096x1024r) : addf (F := Ideal) (φ := .f32) (refGrad y0 y1 y2 y3) (broadcastInDim S4096x1024 ![0] Facts₀.bcast_S4096_S4096x1024_0 (Host.reduceAdd (F := Ideal) (φ := .f32) (Host.divf (F := Ideal) (φ := .f32) (shapeCast S4096x1 (Host.reduceAdd (F := Ideal) (φ := .f32) (Host.negf (F := Ideal) (φ := .f32) (refGrad y0 y1 y2 y3)) (constant (F := Ideal) S_ .f32 0x00000000#32) Facts₀.reducesTo_S4096x1024_S4096_d1 Facts₀.h_S_) Facts₀.shapeCasts_S4096_S4096x1) (broadcastInDim S4096x1 ![] Facts₀.bcast_S_S4096x1 (constant (F := Ideal) S_ .f32 0x44800000#32))) (constant (F := Ideal) S_ .f32 0x00000000#32) Facts₀.reducesTo_S4096x1_S4096_d1 Facts₀.h_S_)) = Gx y0 y1 y2 y3 := by
  funext y
  obtain ⟨a, b, rfl⟩ := pair y
  have h := refGrad_apply y0 y1 y2 y3 a
  generalize refGrad y0 y1 y2 y3 = z at h ⊢
  pointwise
  simp only [h, Finset.univ_unique, Finset.sum_singleton]
  rfl
theorem ref_g (y0 : R4096x1024r) (y1 y2 : R1x1024r) (y3 : B4096x1024r) : shapeCast S1x1024 (Host.reduceAdd (F := Ideal) (φ := .f32) (mulf (F := Ideal) (φ := .f32) (refNormed y0) (refIn y0 y1 y2 y3)) (constant (F := Ideal) S_ .f32 0x00000000#32) Facts₀.reducesTo_S4096x1024_S1024_d0 Facts₀.h_S_) Facts₀.shapeCasts_S1024_S1x1024 = Gg y0 y1 y2 y3 := by
  funext y
  obtain ⟨a, b, rfl⟩ := pair y
  have h := refIn_apply y0 y1 y2 y3
  have h' := refNormed_apply y0
  generalize refIn y0 y1 y2 y3 = z at h ⊢
  generalize refNormed y0 = z' at h' ⊢
  pointwise
  simp only [h, h']
  rfl
theorem ref_b (y0 : R4096x1024r) (y1 y2 : R1x1024r) (y3 : B4096x1024r) : shapeCast S1x1024 (Host.reduceAdd (F := Ideal) (φ := .f32) (refIn y0 y1 y2 y3) (constant (F := Ideal) S_ .f32 0x00000000#32) Facts₀.reducesTo_S4096x1024_S1024_d0 Facts₀.h_S_) Facts₀.shapeCasts_S1024_S1x1024 = Gb y0 y1 y2 y3 := by
  funext y
  obtain ⟨a, b, rfl⟩ := pair y
  have h := refIn_apply y0 y1 y2 y3
  generalize refIn y0 y1 y2 y3 = z at h ⊢
  pointwise
  simp only [h]
  rfl

variable (m : (ℓ : Loc nD τ sig) → Buf (Elt Ideal) ℓ) (c : Dev nD)

theorem res_x : Value.res_out0 m c = Gx (m ((c.tc : Thread nD τ).loc main_arg0)) (m ((c.tc : Thread nD τ).loc main_arg1)) (m ((c.tc : Thread nD τ).loc main_arg2)) (m ((c.tc : Thread nD τ).loc main_arg3)) := by
  rw [← ref_x]
  rfl
theorem res_g : Value.res_out1 m c = Gg (m ((c.tc : Thread nD τ).loc main_arg0)) (m ((c.tc : Thread nD τ).loc main_arg1)) (m ((c.tc : Thread nD τ).loc main_arg2)) (m ((c.tc : Thread nD τ).loc main_arg3)) := by
  rw [← ref_g]
  rfl
theorem res_b : Value.res_out2 m c = Gb (m ((c.tc : Thread nD τ).loc main_arg0)) (m ((c.tc : Thread nD τ).loc main_arg1)) (m ((c.tc : Thread nD τ).loc main_arg2)) (m ((c.tc : Thread nD τ).loc main_arg3)) := by
  rw [← ref_b]
  rfl

end Cert.DLnSiluProof

end
-- ==== Proof.DLnSilu.lean ====
/- The gradient through the gated unit and the layer norm before it. -/
module

public import proofs.«01_k».proof.Defs
public import proofs.«01_k».proof.Proof.Gen.DLnSiluIdeal.Value
public import proofs.«01_k».proof.Proof.Gen.DLnSiluRefIdeal.Run
public import proofs.«01_k».proof.Proof.Shared
public import proofs.«01_k».proof.Proof.LnSpec
public import proofs.«01_k».proof.Proof.DLnSiluRef

@[expose] public section

set_option maxRecDepth 16384

noncomputable section

namespace Cert.DLnSiluProof

open Cert.DLnSiluIdeal Cert.DLnSiluIdeal.Gen Idealize.ShloMosaic Idealize.ShloMosaic.TcCoe Idealize.SL.Sem
open Idealize.ShloMosaic.Pointwise Cert.Shared Cert.Rows

/-! Arrays by their shapes. -/
abbrev R1x1024 := Vec Ideal S1x1024 .f32
abbrev R256x1024 := Vec Ideal S256x1024 .f32
abbrev R4096x1024 := Vec Ideal S4096x1024 .f32
abbrev B4096x1024 := Vec Ideal S4096x1024 .bf16
abbrev B256x1024 := Vec Ideal S256x1024 .bf16

/-! What one grid point computes. -/

theorem dev_apply (x : R256x1024) (a : Fin 256) (b : Fin 1024) : k0_pay4 x (ix2 a b) = dev (fun k => x (ix2 a k)) b := by
  pointwise [k0_pay4]
  rfl
theorem square_apply (x : R256x1024) (a : Fin 256) (e : Fin 1) : k0_pay5 x (ix2 a e) = square (dev (fun k => x (ix2 a k))) := by
  have h := dev_apply x
  unfold k0_pay5
  generalize k0_pay4 x = z at h ⊢
  pointwise
  simp only [h]
  rfl
theorem scale_apply (x : R256x1024) (a : Fin 256) (e : Fin 1) : k0_pay6 x (ix2 a e) = scale (dev (fun k => x (ix2 a k))) := by
  have h := square_apply x a e
  unfold k0_pay6
  generalize k0_pay5 x = z at h ⊢
  pointwise
  rw [h]
  rfl
theorem fac_apply (x : R256x1024) (a : Fin 256) (e : Fin 1) :
    k0_pay7 x (ix2 a e) = Ideal.ofBits .f32 0xBF000000#32 * Ideal.div (scale (dev (fun k => x (ix2 a k)))) (square (dev (fun k => x (ix2 a k)))) := by
  have h := square_apply x a e
  have h' := scale_apply x a e
  unfold k0_pay7
  generalize k0_pay5 x = z at h ⊢
  generalize k0_pay6 x = z' at h' ⊢
  pointwise
  rw [h, h']
theorem normed_apply (x : R256x1024) (a : Fin 256) (b : Fin 1024) : k0_pay8 x (ix2 a b) = dev (fun k => x (ix2 a k)) b * scale (dev (fun k => x (ix2 a k))) := by
  have h := dev_apply x
  have h' := scale_apply x a
  unfold k0_pay8
  generalize k0_pay4 x = z at h ⊢
  generalize k0_pay6 x = z' at h' ⊢
  pointwise
  rw [h, h']
theorem in_apply (x : R256x1024) (u : B256x1024) (g h : R1x1024) (a : Fin 256) (b : Fin 1024) :
    k0_pay9 x u g h (ix2 a b) = lnIn (fun k => x (ix2 a k)) (fun k => g (ix2 0 k)) (fun k => h (ix2 0 k)) (fun k => u (ix2 a k)) b := by
  have e := normed_apply x a b
  unfold k0_pay9
  generalize k0_pay8 x = z at e ⊢
  pointwise
  rw [e]
  rfl
theorem bias_apply (x : R256x1024) (u : B256x1024) (g h : R1x1024) (e : Fin 1) (b : Fin 1024) :
    k0_pay10 x u g h (ix2 e b) = ∑ a : Fin 256, lnIn (fun k => x (ix2 a k)) (fun k => g (ix2 0 k)) (fun k => h (ix2 0 k)) (fun k => u (ix2 a k)) b := by
  have h' := in_apply x u g h
  unfold k0_pay10
  generalize k0_pay9 x u g h = z at h' ⊢
  pointwise
  simp only [h']
theorem gain_apply (x : R256x1024) (u : B256x1024) (g h : R1x1024) (e : Fin 1) (b : Fin 1024) :
    k0_pay11 x u g h (ix2 e b) = ∑ a : Fin 256, gainShare (dev (fun k => x (ix2 a k))) (lnIn (fun k => x (ix2 a k)) (fun k => g (ix2 0 k)) (fun k => h (ix2 0 k)) (fun k => u (ix2 a k))) b := by
  have h' := in_apply x u g h
  have h'' := normed_apply x
  unfold k0_pay11
  generalize k0_pay9 x u g h = z at h' ⊢
  generalize k0_pay8 x = z' at h'' ⊢
  pointwise
  simp only [h', h'']
  rfl
theorem rows_apply (x : R256x1024) (u : B256x1024) (g h : R1x1024) (a : Fin 256) (b : Fin 1024) :
    k0_pay1 (k0_pay4 x) (k0_pay6 x) (k0_pay7 x) (k0_pay9 x u g h) (k0_pay12 g) (ix2 a b)
      = lnGrad (fun k => x (ix2 a k)) (fun k => g (ix2 0 k)) (fun k => h (ix2 0 k)) (fun k => u (ix2 a k)) b := by
  have h4 := dev_apply x a
  have h6 := scale_apply x a
  have h7 := fac_apply x a
  have h9 := in_apply x u g h a
  generalize k0_pay4 x = z4 at h4 ⊢
  generalize k0_pay6 x = z6 at h6 ⊢
  generalize k0_pay7 x = z7 at h7 ⊢
  generalize k0_pay9 x u g h = z9 at h9 ⊢
  pointwise [k0_pay1, k0_pay12]
  simp only [h4, h6, h7, h9, Finset.univ_unique, Finset.sum_singleton, zero_sub]
  rfl
theorem later_apply (s z : R1x1024) (e : Fin 1) (b : Fin 1024) : k0_pay2 s z (ix2 e b) = z (ix2 e b) + s (ix2 e b) := by
  pointwise [k0_pay2]
theorem later_apply' (s z : R1x1024) (e : Fin 1) (b : Fin 1024) : k0_pay3 s z (ix2 e b) = z (ix2 e b) + s (ix2 e b) := by
  pointwise [k0_pay3]

variable (m : (ℓ : Loc nD τ sig) → Buf (Elt Ideal) ℓ)

theorem idx : ∀ t : Fin cfg0.N, t.val < 16
    ∧ (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- Row `a` of point `t`'s block, as a row of the array. -/
def row (t : Fin cfg0.N) (a : Fin 256) : Fin 4096 := ⟨t.val * 256 + a.val, by have := (idx t).1; omega⟩

theorem emb0 (t : Fin cfg0.N) (a : Fin 256) (b : Fin 1024) : ((cfg0.win 0).blk t).view.emb (ix2 a b) = ix2 (row t a) b := by
  obtain ⟨-, ⟨e0, e1⟩, -⟩ := idx t
  refine ext2 ?_ ?_
  · show win0_0.index t (0 : Fin 2) * 256 + 1 * a.val = t.val * 256 + a.val; omega
  · show win0_0.index t (1 : Fin 2) * 1024 + 1 * b.val = b.val; omega
theorem emb1 (t : Fin cfg0.N) (a : Fin 256) (b : Fin 1024) : ((cfg0.win 1).blk t).view.emb (ix2 a b) = ix2 (row t a) b := by
  obtain ⟨-, -, ⟨e0, e1⟩, -⟩ := idx t
  refine ext2 ?_ ?_
  · show win0_1.index t (0 : Fin 2) * 256 + 1 * a.val = t.val * 256 + a.val; omega
  · show win0_1.index t (1 : Fin 2) * 1024 + 1 * b.val = b.val; omega
theorem emb2 (t : Fin cfg0.N) (a : Fin 1) (b : Fin 1024) : ((cfg0.win 2).blk t).view.emb (ix2 a b) = ix2 a b := by
  obtain ⟨-, -, -, ⟨e0, e1⟩, -⟩ := idx t
  refine ext2 ?_ ?_
  · show win0_2.index t (0 : Fin 2) * 1 + 1 * a.val = a.val; omega
  · show win0_2.index t (1 : Fin 2) * 1024 + 1 * b.val = b.val; omega
theorem emb3 (t : Fin cfg0.N) (a : Fin 1) (b : Fin 1024) : ((cfg0.win 3).blk t).view.emb (ix2 a b) = ix2 a b := by
  obtain ⟨-, -, -, -, ⟨e0, e1⟩, -⟩ := idx t
  refine ext2 ?_ ?_
  · show win0_3.index t (0 : Fin 2) * 1 + 1 * a.val = a.val; omega
  · show win0_3.index t (1 : Fin 2) * 1024 + 1 * b.val = b.val; omega
theorem emb4 (t : Fin cfg0.N) (a : Fin 256) (b : Fin 1024) : ((cfg0.win 4).blk t).view.emb (ix2 a b) = ix2 (row t a) b := by
  obtain ⟨-, -, -, -, -, ⟨e0, e1⟩, -⟩ := idx t
  refine ext2 ?_ ?_
  · show win0_4.index t (0 : Fin 2) * 256 + 1 * a.val = t.val * 256 + a.val; omega
  · show win0_4.index t (1 : Fin 2) * 1024 + 1 * b.val = b.val; omega
theorem emb5 (t : Fin cfg0.N) (a : Fin 1) (b : Fin 1024) : ((cfg0.win 5).blk t).view.emb (ix2 a b) = ix2 a b := by
  obtain ⟨-, -, -, -, -, -, ⟨e0, e1⟩, -⟩ := idx t
  refine ext2 ?_ ?_
  · show win0_5.index t (0 : Fin 2) * 1 + 1 * a.val = a.val; omega
  · show win0_5.index t (1 : Fin 2) * 1024 + 1 * b.val = b.val; omega
theorem emb6 (t : Fin cfg0.N) (a : Fin 1) (b : Fin 1024) : ((cfg0.win 6).blk t).view.emb (ix2 a b) = ix2 a b := by
  obtain ⟨-, -, -, -, -, -, -, e0, e1⟩ := idx t
  refine ext2 ?_ ?_
  · show win0_6.index t (0 : Fin 2) * 1 + 1 * a.val = a.val; omega
  · show win0_6.index t (1 : Fin 2) * 1024 + 1 * b.val = b.val; omega

theorem iblk0_apply (c : Dev nD) (t : Fin cfg0.N) (a : Fin 256) (b : Fin 1024) : (iblk m c 0 t : R256x1024) (ix2 a b)
    = (V m c main_arg0 : R4096x1024) (ix2 (row t a) b) :=
  congrArg (V m c main_arg0) (emb0 t a b)
theorem iblk1_apply (c : Dev nD) (t : Fin cfg0.N) (a : Fin 256) (b : Fin 1024) : (iblk m c 1 t : B256x1024) (ix2 a b)
    = (V m c main_arg3 : B4096x1024) (ix2 (row t a) b) :=
  congrArg (V m c main_arg3) (emb1 t a b)
theorem iblk2_apply (c : Dev nD) (t : Fin cfg0.N) (a : Fin 1) (b : Fin 1024) : (iblk m c 2 t : R1x1024) (ix2 a b)
    = (V m c main_arg1 : R1x1024) (ix2 a b) :=
  congrArg (V m c main_arg1) (emb2 t a b)
theorem iblk3_apply (c : Dev nD) (t : Fin cfg0.N) (a : Fin 1) (b : Fin 1024) : (iblk m c 3 t : R1x1024) (ix2 a b)
    = (V m c main_arg2 : R1x1024) (ix2 a b) :=
  congrArg (V m c main_arg2) (emb3 t a b)

/-! What the body leaves in each result's block, at every point. -/

theorem pos (t : Fin cfg0.N) (h : ¬t.val % 16 = 0) : 1 ≤ t.val := by omega
theorem zero (t : Fin cfg0.N) (h : t.val % 16 = 0) : ¬1 ≤ t.val := by
  have := (idx t).1; omega
theorem out4 (c : Dev nD) (t : Fin cfg0.N) : (outsAt0 m c t.val t.isLt).1 = k0_pay1 (k0_pay4 (iblk m c 0 t)) (k0_pay6 (iblk m c 0 t)) (k0_pay7 (iblk m c 0 t)) (k0_pay9 (iblk m c 0 t) (iblk m c 1 t) (iblk m c 2 t) (iblk m c 3 t)) (k0_pay12 (iblk m c 2 t)) := by
  by_cases h : t.val % 16 = 0
  · rw [outsAt0_A m c t h (zero t h)]
    frame_out
  · rw [outsAt0_B m c t h (pos t h)]
    frame_out
/-- The block's share of the gradient of the gain. -/
def share5 (c : Dev nD) (t : Fin cfg0.N) : R1x1024 := k0_pay11 (iblk m c 0 t) (iblk m c 1 t) (iblk m c 2 t) (iblk m c 3 t)
theorem out5_first (c : Dev nD) (t : Fin cfg0.N) (h : t.val % 16 = 0) : (outsAt0 m c t.val t.isLt).2.1 = share5 m c t := by
  rw [outsAt0_A m c t h (zero t h)]
  frame_out
  rfl
theorem out5_later (c : Dev nD) (t : Fin cfg0.N) (h : ¬t.val % 16 = 0) : (outsAt0 m c t.val t.isLt).2.1
    = k0_pay2 (share5 m c t) (outsAt0 m c (t.val - 1) (Nat.sub_lt_of_lt t.isLt)).2.1 := by
  rw [outsAt0_B m c t h (pos t h)]
  frame_out
  rfl
theorem share5_sum (c : Dev nD) (t : Fin cfg0.N) (e : Fin 1) (b : Fin 1024) : share5 m c t (ix2 e b)
    = ∑ a : Fin 256, gainShare (dev (fun k => (V m c main_arg0 : R4096x1024) (ix2 (row t a) k))) (lnIn (fun k => (V m c main_arg0 : R4096x1024) (ix2 (row t a) k)) (fun k => (V m c main_arg1 : R1x1024) (ix2 0 k)) (fun k => (V m c main_arg2 : R1x1024) (ix2 0 k)) (fun k => (V m c main_arg3 : B4096x1024) (ix2 (row t a) k))) b := by
  unfold share5
  rw [gain_apply]
  simp only [iblk0_apply, iblk1_apply, iblk2_apply, iblk3_apply]

/-- The share of the `k`-th block, for any `k`. -/
def term5 (c : Dev nD) (e : Fin 1) (b : Fin 1024) (k : Nat) : EReal :=
  if h : k < cfg0.N then share5 m c ⟨k, h⟩ (ix2 e b) else 0

/-- The gradient of the gain after the last point is the sum of all shares. -/
theorem out5_last (c : Dev nD) (t : Fin cfg0.N) (h : t.val % 16 = 15) (e : Fin 1) (b : Fin 1024) :
    ((outsAt0 m c t.val t.isLt).2.1 : R1x1024) (ix2 e b) = Gg (V m c main_arg0) (V m c main_arg1) (V m c main_arg2) (V m c main_arg3) (ix2 e b) := by
  have hN : cfg0.N = 16 := N_0
  have key := Pipeline.eq_sum_of_reset_step_of_mod (N := cfg0.N)
    (fun n hn => ((outsAt0 m c n hn).2.1 : R1x1024) (ix2 e b)) 16 0 (term5 m c e b)
    (fun t h => by
      show ((outsAt0 m c t.val t.isLt).2.1 : R1x1024) (ix2 e b) = _
      rw [out5_first m c t h, term5, dif_pos t.isLt, zero_add])
    (fun t h => by
      show ((outsAt0 m c t.val t.isLt).2.1 : R1x1024) (ix2 e b) = _
      rw [out5_later m c t h, later_apply, term5, dif_pos t.isLt])
    t h
  refine key.trans ?_
  have ht : t.val / 16 = 0 := by have := t.isLt; omega
  show _ = ∑ r : Fin 4096, gainShare (dev (fun k => (V m c main_arg0 : R4096x1024) (ix2 r k))) (lnIn (fun k => (V m c main_arg0 : R4096x1024) (ix2 r k)) (fun k => (V m c main_arg1 : R1x1024) (ix2 0 k)) (fun k => (V m c main_arg2 : R1x1024) (ix2 0 k)) (fun k => (V m c main_arg3 : B4096x1024) (ix2 r k))) b
  rw [ht, zero_add, Fin.sum_univ_tiles 16 256 rfl, ← Fin.sum_univ_eq_sum_range (fun k => term5 m c e b (16 * 0 + k)) 16]
  refine Finset.sum_congr rfl fun k _ => ?_
  have hk : 16 * 0 + k.val < cfg0.N := by have := k.isLt; omega
  rw [term5, dif_pos hk, share5_sum]
  refine Finset.sum_congr rfl fun a _ => ?_
  have hr : row ⟨16 * 0 + k.val, hk⟩ a = ⟨k.val * 256 + a.val, by omega⟩ :=
    Fin.ext (by show (16 * 0 + k.val) * 256 + a.val = k.val * 256 + a.val; omega)
  rw [hr]

theorem final5 (c : Dev nD) : (dats m 0 c).arrAt 5 cfg0.N = Gg (V m c main_arg0) (V m c main_arg1) (V m c main_arg2) (V m c main_arg3) := by
  refine (dats m 0 c).arrAt_eq_of_covers 5 _ (by decide +kernel) fun t hf y => ?_
  rw [after0_5]
  obtain ⟨e, b, rfl⟩ := pair y
  rw [emb5]
  exact out5_last m c t ((flush0_5 t).mp hf) e b

/-- The block's share of the gradient of the bias. -/
def share6 (c : Dev nD) (t : Fin cfg0.N) : R1x1024 := k0_pay10 (iblk m c 0 t) (iblk m c 1 t) (iblk m c 2 t) (iblk m c 3 t)
theorem out6_first (c : Dev nD) (t : Fin cfg0.N) (h : t.val % 16 = 0) : (outsAt0 m c t.val t.isLt).2.2 = share6 m c t := by
  rw [outsAt0_A m c t h (zero t h)]
  frame_out
  rfl
theorem out6_later (c : Dev nD) (t : Fin cfg0.N) (h : ¬t.val % 16 = 0) : (outsAt0 m c t.val t.isLt).2.2
    = k0_pay3 (share6 m c t) (outsAt0 m c (t.val - 1) (Nat.sub_lt_of_lt t.isLt)).2.2 := by
  rw [outsAt0_B m c t h (pos t h)]
  frame_out
  rfl
theorem share6_sum (c : Dev nD) (t : Fin cfg0.N) (e : Fin 1) (b : Fin 1024) : share6 m c t (ix2 e b)
    = ∑ a : Fin 256, lnIn (fun k => (V m c main_arg0 : R4096x1024) (ix2 (row t a) k)) (fun k => (V m c main_arg1 : R1x1024) (ix2 0 k)) (fun k => (V m c main_arg2 : R1x1024) (ix2 0 k)) (fun k => (V m c main_arg3 : B4096x1024) (ix2 (row t a) k)) b := by
  unfold share6
  rw [bias_apply]
  simp only [iblk0_apply, iblk1_apply, iblk2_apply, iblk3_apply]

/-- The share of the `k`-th block, for any `k`. -/
def term6 (c : Dev nD) (e : Fin 1) (b : Fin 1024) (k : Nat) : EReal :=
  if h : k < cfg0.N then share6 m c ⟨k, h⟩ (ix2 e b) else 0

/-- The gradient of the bias after the last point is the sum of all shares. -/
theorem out6_last (c : Dev nD) (t : Fin cfg0.N) (h : t.val % 16 = 15) (e : Fin 1) (b : Fin 1024) :
    ((outsAt0 m c t.val t.isLt).2.2 : R1x1024) (ix2 e b) = Gb (V m c main_arg0) (V m c main_arg1) (V m c main_arg2) (V m c main_arg3) (ix2 e b) := by
  have hN : cfg0.N = 16 := N_0
  have key := Pipeline.eq_sum_of_reset_step_of_mod (N := cfg0.N)
    (fun n hn => ((outsAt0 m c n hn).2.2 : R1x1024) (ix2 e b)) 16 0 (term6 m c e b)
    (fun t h => by
      show ((outsAt0 m c t.val t.isLt).2.2 : R1x1024) (ix2 e b) = _
      rw [out6_first m c t h, term6, dif_pos t.isLt, zero_add])
    (fun t h => by
      show ((outsAt0 m c t.val t.isLt).2.2 : R1x1024) (ix2 e b) = _
      rw [out6_later m c t h, later_apply', term6, dif_pos t.isLt])
    t h
  refine key.trans ?_
  have ht : t.val / 16 = 0 := by have := t.isLt; omega
  show _ = ∑ r : Fin 4096, lnIn (fun k => (V m c main_arg0 : R4096x1024) (ix2 r k)) (fun k => (V m c main_arg1 : R1x1024) (ix2 0 k)) (fun k => (V m c main_arg2 : R1x1024) (ix2 0 k)) (fun k => (V m c main_arg3 : B4096x1024) (ix2 r k)) b
  rw [ht, zero_add, Fin.sum_univ_tiles 16 256 rfl, ← Fin.sum_univ_eq_sum_range (fun k => term6 m c e b (16 * 0 + k)) 16]
  refine Finset.sum_congr rfl fun k _ => ?_
  have hk : 16 * 0 + k.val < cfg0.N := by have := k.isLt; omega
  rw [term6, dif_pos hk, share6_sum]
  refine Finset.sum_congr rfl fun a _ => ?_
  have hr : row ⟨16 * 0 + k.val, hk⟩ a = ⟨k.val * 256 + a.val, by omega⟩ :=
    Fin.ext (by show (16 * 0 + k.val) * 256 + a.val = k.val * 256 + a.val; omega)
  rw [hr]

theorem final6 (c : Dev nD) : (dats m 0 c).arrAt 6 cfg0.N = Gb (V m c main_arg0) (V m c main_arg1) (V m c main_arg2) (V m c main_arg3) := by
  refine (dats m 0 c).arrAt_eq_of_covers 6 _ (by decide +kernel) fun t hf y => ?_
  rw [after0_6]
  obtain ⟨e, b, rfl⟩ := pair y
  rw [emb6]
  exact out6_last m c t ((flush0_6 t).mp hf) e b

theorem final4 (c : Dev nD) : (dats m 0 c).arrAt 4 cfg0.N = Gx (V m c main_arg0) (V m c main_arg1) (V m c main_arg2) (V m c main_arg3) := by
  refine (dats m 0 c).arrAt_eq_of_covers 4 _ (by decide +kernel) fun t _ y => ?_
  rw [after0_4]
  obtain ⟨a, b, rfl⟩ := pair y
  rw [emb4]
  refine (congrFun (out4 m c t) (ix2 a b)).trans ?_
  refine (rows_apply _ _ _ _ a b).trans ?_
  simp only [iblk0_apply, iblk1_apply, iblk2_apply, iblk3_apply]
  rfl

/-- The claim of the call: kernel and reference end with the same three arrays. -/
theorem algebraic : Cert.algebraic_DLnSiluIdeal_DLnSiluRefIdeal := fun m ρ m' ρ' _ hag =>
  ⟨fun c => Gx (V m c main_arg0) (V m c main_arg1) (V m c main_arg2) (V m c main_arg3), fun c => Gg (V m c main_arg0) (V m c main_arg1) (V m c main_arg2) (V m c main_arg3), fun c => Gb (V m c main_arg0) (V m c main_arg1) (V m c main_arg2) (V m c main_arg3),
   (θ_run _ _ _).mono (fun _ h c => ⟨(h c).1.trans (final4 m c), (h c).2.1.trans (final5 m c), (h c).2.2.1.trans (final6 m c),
      (h c).2.2.2⟩) (Value.run_blocks m ρ),
   (θ_run _ _ _).mono (fun _ h c => ⟨(h c).1.trans ((res_x m' c).trans (by rw [(hag c).1, (hag c).2.1, (hag c).2.2.1, (hag c).2.2.2])),
      (h c).2.1.trans ((res_g m' c).trans (by rw [(hag c).1, (hag c).2.1, (hag c).2.2.1, (hag c).2.2.2])),
      (h c).2.2.1.trans ((res_b m' c).trans (by rw [(hag c).1, (hag c).2.1, (hag c).2.2.1, (hag c).2.2.2])), (h c).2.2.2⟩)
     (Cert.DLnSiluRefIdeal.Value.run m' ρ')⟩

end Cert.DLnSiluProof

end
-- ==== Proof.GateSpec.lean ====
/- The gated norm of one row of 2048 entries in four groups of 512: the mathematics, apart from kernel and reference. -/
module

public import proofs.«01_k».proof.Proof.Shared

@[expose] public section

set_option maxRecDepth 16384

noncomputable section

namespace Cert.Gated

open Idealize.ShloMosaic Idealize.ShloMosaic.Pointwise

/-- Entry `d` of group `s`, as an entry of the row. -/
def at4 (s : Fin 4) (d : Fin 512) : Fin 2048 := ⟨512 * s.val + d.val, by omega⟩
theorem at4_zero (d : Fin 512) (h : d.val < 2048) : (⟨d.val, h⟩ : Fin 2048) = at4 0 d :=
  Fin.ext (by show d.val = 512 * 0 + d.val; omega)
theorem fin4 {P : Fin 4 → Prop} (h0 : P 0) (h1 : P 1) (h2 : P 2) (h3 : P 3) : ∀ j, P j
  | 0 => h0
  | 1 => h1
  | 2 => h2
  | 3 => h3
theorem at4_div (b : Fin 2048) : b = at4 ⟨b.val / 512, by omega⟩ ⟨b.val % 512, by omega⟩ :=
  Fin.ext (by show b.val = 512 * (b.val / 512) + b.val % 512; omega)

/-- The gate: `y` times `z` times the logistic function of `z`. -/
def gate (y z : EReal) : EReal := y * (z * Ideal.logistic z)
/-- The mean square of a group, with the norm's small constant added, and one over its root. -/
def square (f : Fin 512 → EReal) : EReal := Ideal.div (∑ k, f k * f k) (Ideal.ofBits .f32 0x44000000#32) + Ideal.ofBits .f32 0x358637BD#32
def scale (f : Fin 512 → EReal) : EReal := Ideal.rsqrt (square f)
/-- Entry `d` of the norm of the group `f` with gain `g`. -/
def rms (f g : Fin 512 → EReal) (d : Fin 512) : EReal := f d * scale f * g d

/-- Four arrays side by side, read in part `s`. -/
theorem cat4 {n : Nat} (x : Fin 4 → Vec Ideal ⟨2, ![n, 512]⟩ .f32)
    (h : Shape.Concatenates [⟨2, ![n, 512]⟩, ⟨2, ![n, 512]⟩, ⟨2, ![n, 512]⟩, ⟨2, ![n, 512]⟩] ⟨2, ![n, 2048]⟩ 1) (a : Fin n) (d : Fin 512) :
    ∀ s : Fin 4, concatenate ⟨2, ![n, 2048]⟩ 1 [⟨⟨2, ![n, 512]⟩, x 0⟩, ⟨⟨2, ![n, 512]⟩, x 1⟩, ⟨⟨2, ![n, 512]⟩, x 2⟩, ⟨⟨2, ![n, 512]⟩, x 3⟩] h (ix2 a (at4 s d)) = x s (ix2 a d) := by
  have side : ∀ (s : Fin 4) (b : Fin 2), b ≠ 1 → ((ix2 a d : (⟨2, ![n, 512]⟩ : Shape).Idx) b).val = ((ix2 a (at4 s d) : (⟨2, ![n, 2048]⟩ : Shape).Idx) b).val := by
    intro s b hb
    match b, hb with
    | 0, _ => rfl
    | 1, hb => exact absurd rfl hb
  refine fin4 ?_ ?_ ?_ ?_
  · exact concatenate_apply_piece (t := ⟨2, ![n, 2048]⟩) 1 [⟨⟨2, ![n, 512]⟩, x 0⟩, ⟨⟨2, ![n, 512]⟩, x 1⟩, ⟨⟨2, ![n, 512]⟩, x 2⟩, ⟨⟨2, ![n, 512]⟩, x 3⟩] h
      (ix2 a (at4 0 d)) 0 (by show _ < 4; omega) ⟨2, ![n, 512]⟩ (x 0) rfl rfl 0 (by simp) (ix2 a d) (side 0) (by show 0 + d.val = 512 * 0 + d.val; omega)
  · exact concatenate_apply_piece (t := ⟨2, ![n, 2048]⟩) 1 [⟨⟨2, ![n, 512]⟩, x 0⟩, ⟨⟨2, ![n, 512]⟩, x 1⟩, ⟨⟨2, ![n, 512]⟩, x 2⟩, ⟨⟨2, ![n, 512]⟩, x 3⟩] h
      (ix2 a (at4 1 d)) 1 (by show _ < 4; omega) ⟨2, ![n, 512]⟩ (x 1) rfl rfl 512 (by simp) (ix2 a d) (side 1) (by show 512 + d.val = 512 * 1 + d.val; omega)
  · exact concatenate_apply_piece (t := ⟨2, ![n, 2048]⟩) 1 [⟨⟨2, ![n, 512]⟩, x 0⟩, ⟨⟨2, ![n, 512]⟩, x 1⟩, ⟨⟨2, ![n, 512]⟩, x 2⟩, ⟨⟨2, ![n, 512]⟩, x 3⟩] h
      (ix2 a (at4 2 d)) 2 (by show _ < 4; omega) ⟨2, ![n, 512]⟩ (x 2) rfl rfl 1024 (by simp) (ix2 a d) (side 2) (by show 1024 + d.val = 512 * 2 + d.val; omega)
  · exact concatenate_apply_piece (t := ⟨2, ![n, 2048]⟩) 1 [⟨⟨2, ![n, 512]⟩, x 0⟩, ⟨⟨2, ![n, 512]⟩, x 1⟩, ⟨⟨2, ![n, 512]⟩, x 2⟩, ⟨⟨2, ![n, 512]⟩, x 3⟩] h
      (ix2 a (at4 3 d)) 3 (by show _ < 4; omega) ⟨2, ![n, 512]⟩ (x 3) rfl rfl 1536 (by simp) (ix2 a d) (side 3) (by show 1536 + d.val = 512 * 3 + d.val; omega)

end Cert.Gated

end
-- ==== Proof.GateGradSpec.lean ====
/- The gradient of the gated norm of one group of 512 entries: the mathematics, apart from kernel and reference. -/
module

public import proofs.«01_k».proof.Proof.GateSpec

@[expose] public section

set_option maxRecDepth 16384

noncomputable section

namespace Cert.Gated

open Idealize.ShloMosaic Idealize.ShloMosaic.Pointwise

/-- The gradient of the norm with respect to its group `f`, for the incoming gradient `u`: through the product at entry
    `d`, and through the mean square, once for each factor of the square. -/
def back (f g u : Fin 512 → EReal) : EReal :=
  Ideal.div ((∑ k, f k * (u k * g k)) * (Ideal.ofBits .f32 0xBF000000#32 * Ideal.div (scale f) (square f))) (Ideal.ofBits .f32 0x44000000#32)
def rmsGrad (f g u : Fin 512 → EReal) (d : Fin 512) : EReal := u d * g d * scale f + f d * back f g u + back f g u * f d
/-- One row's share of the gradient of the gain. -/
def gainShare (f u : Fin 512 → EReal) (d : Fin 512) : EReal := f d * scale f * u d
/-- The gradients of the two factors of the gate, for the gradient `c` of the gated entry. -/
def gradY (z c : EReal) : EReal := c * (z * Ideal.logistic z)
def gradZ (y z c : EReal) : EReal := y * c * Ideal.logistic z + z * (y * c) * (Ideal.logistic z * (1 - Ideal.logistic z))

/-- The gradient of the normed entry `b` of row `r`, by its group; and the row's share of the gradient of the gain. -/
def gradAt {n : Nat} (y z : Vec Ideal ⟨2, ![n, 2048]⟩ .f32) (w : Vec Ideal ⟨2, ![1, 2048]⟩ .f32) (u : Vec Ideal ⟨2, ![n, 2048]⟩ .bf16) (r : Fin n) (b : Fin 2048) : EReal :=
  rmsGrad (fun k => gate (y (ix2 r (at4 ⟨b.val / 512, by omega⟩ k))) (z (ix2 r (at4 ⟨b.val / 512, by omega⟩ k))))
    (fun k => w (ix2 0 (at4 ⟨b.val / 512, by omega⟩ k))) (fun k => u (ix2 r (at4 ⟨b.val / 512, by omega⟩ k))) ⟨b.val % 512, by omega⟩
def gainAt {n : Nat} (y z : Vec Ideal ⟨2, ![n, 2048]⟩ .f32) (u : Vec Ideal ⟨2, ![n, 2048]⟩ .bf16) (r : Fin n) (b : Fin 2048) : EReal :=
  gainShare (fun k => gate (y (ix2 r (at4 ⟨b.val / 512, by omega⟩ k))) (z (ix2 r (at4 ⟨b.val / 512, by omega⟩ k))))
    (fun k => u (ix2 r (at4 ⟨b.val / 512, by omega⟩ k))) ⟨b.val % 512, by omega⟩
theorem at4_group (s : Fin 4) (d : Fin 512) : (⟨(at4 s d).val / 512, by omega⟩ : Fin 4) = s :=
  Fin.ext (by show (512 * s.val + d.val) / 512 = s.val; omega)
theorem at4_entry (s : Fin 4) (d : Fin 512) : (⟨(at4 s d).val % 512, by omega⟩ : Fin 512) = d :=
  Fin.ext (by show (512 * s.val + d.val) % 512 = d.val; omega)
theorem gradAt_at {n : Nat} (y z : Vec Ideal ⟨2, ![n, 2048]⟩ .f32) (w : Vec Ideal ⟨2, ![1, 2048]⟩ .f32) (u : Vec Ideal ⟨2, ![n, 2048]⟩ .bf16) (r : Fin n) (s : Fin 4) (d : Fin 512) :
    gradAt y z w u r (at4 s d) = rmsGrad (fun k => gate (y (ix2 r (at4 s k))) (z (ix2 r (at4 s k)))) (fun k => w (ix2 0 (at4 s k))) (fun k => u (ix2 r (at4 s k))) d := by
  unfold gradAt
  rw [at4_group, at4_entry]
theorem gainAt_at {n : Nat} (y z : Vec Ideal ⟨2, ![n, 2048]⟩ .f32) (u : Vec Ideal ⟨2, ![n, 2048]⟩ .bf16) (r : Fin n) (s : Fin 4) (d : Fin 512) :
    gainAt y z u r (at4 s d) = gainShare (fun k => gate (y (ix2 r (at4 s k))) (z (ix2 r (at4 s k)))) (fun k => u (ix2 r (at4 s k))) d := by
  unfold gainAt
  rw [at4_group, at4_entry]

end Cert.Gated

end
-- ==== Proof.DGateBlock.lean ====
/- What one block of the gradient of the gated norm computes. -/
module

public import proofs.«01_k».proof.Defs
public import proofs.«01_k».proof.Proof.Gen.DGateIdeal.Value
public import proofs.«01_k».proof.Proof.Shared
public import proofs.«01_k».proof.Proof.GateGradSpec

@[expose] public section

set_option maxRecDepth 16384

noncomputable section

namespace Cert.DGateProof

open Cert.DGateIdeal Cert.DGateIdeal.Gen Idealize.ShloMosaic Idealize.ShloMosaic.TcCoe Idealize.SL.Sem
open Idealize.ShloMosaic.Pointwise Cert.Shared Cert.Gated

/-! Arrays by their shapes. -/
abbrev R256x2048b := Vec Ideal S256x2048 .f32
abbrev B256x2048b := Vec Ideal S256x2048 .bf16
abbrev R1x2048b := Vec Ideal S1x2048 .f32

/-- A group of a gated row. -/
abbrev gr (y z : R256x2048b) (a : Fin 256) (s : Fin 4) : Fin 512 → EReal := fun k => gate (y (ix2 a (at4 s k))) (z (ix2 a (at4 s k)))

/-! The gated rows, their four groups, and each group's scale. -/

theorem gate_apply (y z : R256x2048b) (a : Fin 256) (b : Fin 2048) : k0_pay6 y z (ix2 a b) = gate (y (ix2 a b)) (z (ix2 a b)) := by
  pointwise [k0_pay6, k0_pay5, k0_pay3]
  rfl
theorem part0_apply (y z : R256x2048b) (a : Fin 256) (d : Fin 512) : k0_pay7 y z (ix2 a d) = gate (y (ix2 a (at4 0 d))) (z (ix2 a (at4 0 d))) := by
  have h := gate_apply y z
  unfold k0_pay7
  generalize k0_pay6 y z = x at h ⊢
  pointwise
  simp only [h, at4_zero]

theorem square0_apply (y z : R256x2048b) (a : Fin 256) (e : Fin 1) : k0_pay9 y z (ix2 a e) = square (gr y z a 0) := by
  have h := part0_apply y z
  unfold k0_pay9
  generalize k0_pay7 y z = x at h ⊢
  pointwise
  simp only [h]
  rfl
theorem scale0_apply (y z : R256x2048b) (a : Fin 256) (e : Fin 1) : k0_pay10 y z (ix2 a e) = scale (gr y z a 0) := by
  have h := square0_apply y z a e
  unfold k0_pay10
  generalize k0_pay9 y z = x at h ⊢
  pointwise
  rw [h]
  rfl
theorem fac0_apply (y z : R256x2048b) (a : Fin 256) (e : Fin 1) : k0_pay11 y z (ix2 a e) = Ideal.ofBits .f32 0xBF000000#32 * Ideal.div (scale (gr y z a 0)) (square (gr y z a 0)) := by
  have h := square0_apply y z a e
  have h' := scale0_apply y z a e
  unfold k0_pay11
  generalize k0_pay9 y z = x at h ⊢
  generalize k0_pay10 y z = x' at h' ⊢
  pointwise
  rw [h, h']
theorem normed0_apply (y z : R256x2048b) (a : Fin 256) (d : Fin 512) :
    k0_pay12 y z (ix2 a d) = gate (y (ix2 a (at4 0 d))) (z (ix2 a (at4 0 d))) * scale (gr y z a 0) := by
  have h := part0_apply y z a d
  have h' := scale0_apply y z a
  unfold k0_pay12
  generalize k0_pay10 y z = x' at h' ⊢
  generalize k0_pay7 y z = x at h ⊢
  pointwise
  rw [h, h']
theorem in0_apply (u : B256x2048b) (a : Fin 256) (d : Fin 512) : k0_pay29 u (ix2 a d) = u (ix2 a (at4 0 d)) := by
  pointwise [k0_pay29, k0_pay28]
  rw [at4_zero]
theorem part1_apply (y z : R256x2048b) (a : Fin 256) (d : Fin 512) : k0_pay13 y z (ix2 a d) = gate (y (ix2 a (at4 1 d))) (z (ix2 a (at4 1 d))) := by
  have h := gate_apply y z
  unfold k0_pay13
  generalize k0_pay6 y z = x at h ⊢
  pointwise
  simp only [h, at4_zero]
  rfl
theorem square1_apply (y z : R256x2048b) (a : Fin 256) (e : Fin 1) : k0_pay15 y z (ix2 a e) = square (gr y z a 1) := by
  have h := part1_apply y z
  unfold k0_pay15
  generalize k0_pay13 y z = x at h ⊢
  pointwise
  simp only [h]
  rfl
theorem scale1_apply (y z : R256x2048b) (a : Fin 256) (e : Fin 1) : k0_pay16 y z (ix2 a e) = scale (gr y z a 1) := by
  have h := square1_apply y z a e
  unfold k0_pay16
  generalize k0_pay15 y z = x at h ⊢
  pointwise
  rw [h]
  rfl
theorem fac1_apply (y z : R256x2048b) (a : Fin 256) (e : Fin 1) : k0_pay17 y z (ix2 a e) = Ideal.ofBits .f32 0xBF000000#32 * Ideal.div (scale (gr y z a 1)) (square (gr y z a 1)) := by
  have h := square1_apply y z a e
  have h' := scale1_apply y z a e
  unfold k0_pay17
  generalize k0_pay15 y z = x at h ⊢
  generalize k0_pay16 y z = x' at h' ⊢
  pointwise
  rw [h, h']
theorem normed1_apply (y z : R256x2048b) (a : Fin 256) (d : Fin 512) :
    k0_pay18 y z (ix2 a d) = gate (y (ix2 a (at4 1 d))) (z (ix2 a (at4 1 d))) * scale (gr y z a 1) := by
  have h := part1_apply y z a d
  have h' := scale1_apply y z a
  unfold k0_pay18
  generalize k0_pay16 y z = x' at h' ⊢
  generalize k0_pay13 y z = x at h ⊢
  pointwise
  rw [h, h']
theorem in1_apply (u : B256x2048b) (a : Fin 256) (d : Fin 512) : k0_pay30 u (ix2 a d) = u (ix2 a (at4 1 d)) := by
  pointwise [k0_pay30, k0_pay28]
  rfl
theorem part2_apply (y z : R256x2048b) (a : Fin 256) (d : Fin 512) : k0_pay19 y z (ix2 a d) = gate (y (ix2 a (at4 2 d))) (z (ix2 a (at4 2 d))) := by
  have h := gate_apply y z
  unfold k0_pay19
  generalize k0_pay6 y z = x at h ⊢
  pointwise
  simp only [h, at4_zero]
  rfl
theorem square2_apply (y z : R256x2048b) (a : Fin 256) (e : Fin 1) : k0_pay21 (k0_pay19 y z) (ix2 a e) = square (gr y z a 2) := by
  have h := part2_apply y z
  unfold k0_pay21
  generalize k0_pay19 y z = x at h ⊢
  pointwise
  simp only [h]
  rfl
theorem scale2_apply (y z : R256x2048b) (a : Fin 256) (e : Fin 1) : k0_pay22 (k0_pay19 y z) (ix2 a e) = scale (gr y z a 2) := by
  have h := square2_apply y z a e
  unfold k0_pay22
  generalize k0_pay21 (k0_pay19 y z) = x at h ⊢
  pointwise
  rw [h]
  rfl
theorem fac2_apply (y z : R256x2048b) (a : Fin 256) (e : Fin 1) : k0_pay23 (k0_pay19 y z) (ix2 a e) = Ideal.ofBits .f32 0xBF000000#32 * Ideal.div (scale (gr y z a 2)) (square (gr y z a 2)) := by
  have h := square2_apply y z a e
  have h' := scale2_apply y z a e
  unfold k0_pay23
  generalize k0_pay21 (k0_pay19 y z) = x at h ⊢
  generalize k0_pay22 (k0_pay19 y z) = x' at h' ⊢
  pointwise
  rw [h, h']
theorem normed2_apply (y z : R256x2048b) (a : Fin 256) (d : Fin 512) :
    k0_pay24 (k0_pay19 y z) (ix2 a d) = gate (y (ix2 a (at4 2 d))) (z (ix2 a (at4 2 d))) * scale (gr y z a 2) := by
  have h := part2_apply y z a d
  have h' := scale2_apply y z a
  unfold k0_pay24
  generalize k0_pay22 (k0_pay19 y z) = x' at h' ⊢
  generalize k0_pay19 y z = x at h ⊢
  pointwise
  rw [h, h']
theorem in2_apply (u : B256x2048b) (a : Fin 256) (d : Fin 512) : k0_pay31 u (ix2 a d) = u (ix2 a (at4 2 d)) := by
  pointwise [k0_pay31, k0_pay28]
  rfl
theorem part3_apply (y z : R256x2048b) (a : Fin 256) (d : Fin 512) : k0_pay25 (k0_pay6 y z) (ix2 a d) = gate (y (ix2 a (at4 3 d))) (z (ix2 a (at4 3 d))) := by
  have h := gate_apply y z
  unfold k0_pay25
  generalize k0_pay6 y z = x at h ⊢
  pointwise
  simp only [h, at4_zero]
  rfl
theorem square3_apply (y z : R256x2048b) (a : Fin 256) (e : Fin 1) : k0_pay26 (k0_pay6 y z) (ix2 a e) = square (gr y z a 3) := by
  have h := part3_apply y z
  unfold k0_pay26
  generalize k0_pay25 (k0_pay6 y z) = x at h ⊢
  pointwise
  simp only [h]
  rfl
theorem scale3_apply (y z : R256x2048b) (a : Fin 256) (e : Fin 1) : k0_pay27 (k0_pay6 y z) (ix2 a e) = scale (gr y z a 3) := by
  have h := square3_apply y z a e
  unfold k0_pay27
  generalize k0_pay26 (k0_pay6 y z) = x at h ⊢
  pointwise
  rw [h]
  rfl
theorem in3_apply (u : B256x2048b) (a : Fin 256) (d : Fin 512) : k0_pay32 u (ix2 a d) = u (ix2 a (at4 3 d)) := by
  pointwise [k0_pay32, k0_pay28]
  rfl

/-! The last group's gradient and share, computed first. -/

theorem prod3_apply (u : B256x2048b) (w : R1x2048b) (a : Fin 256) (d : Fin 512) :
    k0_pay34 u w (ix2 a d) = u (ix2 a (at4 3 d)) * w (ix2 0 (at4 3 d)) := by
  have h := in3_apply u
  unfold k0_pay34
  generalize k0_pay32 u = x at h ⊢
  pointwise
  rw [h]
  rfl
theorem direct3_apply (y z : R256x2048b) (u : B256x2048b) (w : R1x2048b) (a : Fin 256) (d : Fin 512) :
    k0_pay35 u w (k0_pay6 y z) (ix2 a d) = u (ix2 a (at4 3 d)) * w (ix2 0 (at4 3 d)) * scale (gr y z a 3) := by
  have h := prod3_apply u w
  have h' := scale3_apply y z a
  unfold k0_pay35
  generalize k0_pay34 u w = x at h ⊢
  generalize k0_pay27 (k0_pay6 y z) = x' at h' ⊢
  pointwise
  rw [h, h']
theorem back3_apply (y z : R256x2048b) (u : B256x2048b) (w : R1x2048b) (a : Fin 256) (e : Fin 1) :
    k0_pay36 u w (k0_pay6 y z) (ix2 a e) = back (gr y z a 3) (fun k => w (ix2 0 (at4 3 k))) (fun k => u (ix2 a (at4 3 k))) := by
  have h := prod3_apply u w
  have h' := scale3_apply y z a
  have h'' := square3_apply y z a
  have h3 := part3_apply y z
  unfold k0_pay36
  generalize k0_pay34 u w = x at h ⊢
  generalize k0_pay27 (k0_pay6 y z) = x' at h' ⊢
  generalize k0_pay26 (k0_pay6 y z) = x'' at h'' ⊢
  generalize k0_pay25 (k0_pay6 y z) = x3 at h3 ⊢
  pointwise
  simp only [h, h', h'', h3, Finset.univ_unique, Finset.sum_singleton]
  rfl
theorem share3_apply (y z : R256x2048b) (u : B256x2048b) (e : Fin 1) (d : Fin 512) :
    k0_pay33 u (k0_pay6 y z) (ix2 e d) = ∑ a : Fin 256, gainShare (gr y z a 3) (fun k => u (ix2 a (at4 3 k))) d := by
  have h := in3_apply u
  have h' := fun a => scale3_apply y z a
  have h3 := part3_apply y z
  unfold k0_pay33
  generalize k0_pay32 u = x at h ⊢
  generalize k0_pay27 (k0_pay6 y z) = x' at h' ⊢
  generalize k0_pay25 (k0_pay6 y z) = x3 at h3 ⊢
  pointwise
  simp only [h, h', h3]
  rfl

/-! The second group's. -/

theorem prod1_apply (u : B256x2048b) (w : R1x2048b) (a : Fin 256) (d : Fin 512) :
    k0_pay40 (k0_pay14 w) (k0_pay30 u) (ix2 a d) = u (ix2 a (at4 1 d)) * w (ix2 0 (at4 1 d)) := by
  have h := in1_apply u
  generalize k0_pay30 u = x at h ⊢
  pointwise [k0_pay40, k0_pay14]
  rw [h]
  rfl
theorem direct1_apply (y z : R256x2048b) (u : B256x2048b) (w : R1x2048b) (a : Fin 256) (d : Fin 512) :
    k0_pay41 (k0_pay14 w) (k0_pay16 y z) (k0_pay30 u) (ix2 a d) = u (ix2 a (at4 1 d)) * w (ix2 0 (at4 1 d)) * scale (gr y z a 1) := by
  have h := prod1_apply u w
  have h' := scale1_apply y z a
  unfold k0_pay41
  generalize k0_pay40 (k0_pay14 w) (k0_pay30 u) = x at h ⊢
  generalize k0_pay16 y z = x' at h' ⊢
  pointwise
  rw [h, h']
theorem inner1_apply (y z : R256x2048b) (u : B256x2048b) (w : R1x2048b) (a : Fin 256) (e : Fin 1) :
    k0_pay42 (k0_pay13 y z) (k0_pay14 w) (k0_pay17 y z) (k0_pay30 u) (ix2 a e) = (∑ k, (gr y z a 1) k * ((fun k => u (ix2 a (at4 1 k))) k * (fun k => w (ix2 0 (at4 1 k))) k)) * (Ideal.ofBits .f32 0xBF000000#32 * Ideal.div (scale (gr y z a 1)) (square (gr y z a 1))) := by
  have h := prod1_apply u w
  have h' := fac1_apply y z a
  have h3 := part1_apply y z
  unfold k0_pay42
  generalize k0_pay40 (k0_pay14 w) (k0_pay30 u) = x at h ⊢
  generalize k0_pay17 y z = x' at h' ⊢
  generalize k0_pay13 y z = x3 at h3 ⊢
  pointwise
  simp only [h, h', h3]
theorem share1_apply (y z : R256x2048b) (u : B256x2048b) (e : Fin 1) (d : Fin 512) :
    k0_pay39 (k0_pay18 y z) (k0_pay30 u) (ix2 e d) = ∑ a : Fin 256, gainShare (gr y z a 1) (fun k => u (ix2 a (at4 1 k))) d := by
  have h := in1_apply u
  have h' := normed1_apply y z
  unfold k0_pay39
  generalize k0_pay30 u = x at h ⊢
  generalize k0_pay18 y z = x' at h' ⊢
  pointwise
  simp only [h, h']
  rfl

/-! The upper two groups side by side, with zeros below. -/

def high (y z : R256x2048b) (u : B256x2048b) (w : R1x2048b) : R256x2048b := k0_pay38 (k0_pay19 y z) (k0_pay20 w) (k0_pay22 (k0_pay19 y z)) (k0_pay23 (k0_pay19 y z)) (k0_pay25 (k0_pay6 y z)) (k0_pay31 u) (k0_pay35 u w (k0_pay6 y z)) (k0_pay36 u w (k0_pay6 y z))
def highGain (y z : R256x2048b) (u : B256x2048b) : R1x2048b := k0_pay37 (k0_pay24 (k0_pay19 y z)) (k0_pay31 u) (k0_pay33 u (k0_pay6 y z))
theorem high0_apply (y z : R256x2048b) (u : B256x2048b) (w : R1x2048b) (a : Fin 256) (d : Fin 512) : high y z u w (ix2 a (at4 0 d)) = 0 := by
  have h1 := scale2_apply y z a
  have h2 := fac2_apply y z a
  have h3 := part2_apply y z a
  have h4 := part3_apply y z a
  have h5 := in2_apply u a
  have h6 := direct3_apply y z u w a
  have h7 := back3_apply y z u w a
  unfold high
  generalize k0_pay22 (k0_pay19 y z) = x1 at h1 ⊢
  generalize k0_pay23 (k0_pay19 y z) = x2 at h2 ⊢
  generalize k0_pay19 y z = x3 at h3 ⊢
  generalize k0_pay25 (k0_pay6 y z) = x4 at h4 ⊢
  generalize k0_pay31 u = x5 at h5 ⊢
  generalize k0_pay35 u w (k0_pay6 y z) = x6 at h6 ⊢
  generalize k0_pay36 u w (k0_pay6 y z) = x7 at h7 ⊢
  rw [← at4_zero d (by omega)]
  pointwise [k0_pay38, k0_pay20]
  rw [dif_pos (by omega), dif_pos (by omega), dif_pos (by omega), add_zero]
theorem high1_apply (y z : R256x2048b) (u : B256x2048b) (w : R1x2048b) (a : Fin 256) (d : Fin 512) : high y z u w (ix2 a (at4 1 d)) = 0 := by
  have h1 := scale2_apply y z a
  have h2 := fac2_apply y z a
  have h3 := part2_apply y z a
  have h4 := part3_apply y z a
  have h5 := in2_apply u a
  have h6 := direct3_apply y z u w a
  have h7 := back3_apply y z u w a
  unfold high
  generalize k0_pay22 (k0_pay19 y z) = x1 at h1 ⊢
  generalize k0_pay23 (k0_pay19 y z) = x2 at h2 ⊢
  generalize k0_pay19 y z = x3 at h3 ⊢
  generalize k0_pay25 (k0_pay6 y z) = x4 at h4 ⊢
  generalize k0_pay31 u = x5 at h5 ⊢
  generalize k0_pay35 u w (k0_pay6 y z) = x6 at h6 ⊢
  generalize k0_pay36 u w (k0_pay6 y z) = x7 at h7 ⊢
  rw [show at4 1 d = (⟨512 + d.val, by omega⟩ : Fin 2048) from rfl]
  pointwise [k0_pay38, k0_pay20]
  rw [dif_pos (by omega), dif_pos (by omega), dif_pos (by omega), add_zero]
theorem high2_apply (y z : R256x2048b) (u : B256x2048b) (w : R1x2048b) (a : Fin 256) (d : Fin 512) : high y z u w (ix2 a (at4 2 d)) = rmsGrad (gr y z a 2) (fun k => w (ix2 0 (at4 2 k))) (fun k => u (ix2 a (at4 2 k))) d := by
  have h1 := scale2_apply y z a
  have h2 := fac2_apply y z a
  have h3 := part2_apply y z a
  have h4 := part3_apply y z a
  have h5 := in2_apply u a
  have h6 := direct3_apply y z u w a
  have h7 := back3_apply y z u w a
  unfold high
  generalize k0_pay22 (k0_pay19 y z) = x1 at h1 ⊢
  generalize k0_pay23 (k0_pay19 y z) = x2 at h2 ⊢
  generalize k0_pay19 y z = x3 at h3 ⊢
  generalize k0_pay25 (k0_pay6 y z) = x4 at h4 ⊢
  generalize k0_pay31 u = x5 at h5 ⊢
  generalize k0_pay35 u w (k0_pay6 y z) = x6 at h6 ⊢
  generalize k0_pay36 u w (k0_pay6 y z) = x7 at h7 ⊢
  rw [show at4 2 d = (⟨1024 + d.val, by omega⟩ : Fin 2048) from rfl]
  pointwise [k0_pay38, k0_pay20]
  rw [dif_pos (by omega), dif_pos (by omega), zero_add]
  simp only [h1, h2, h3, h5, Finset.univ_unique, Finset.sum_singleton]
  rfl
theorem high3_apply (y z : R256x2048b) (u : B256x2048b) (w : R1x2048b) (a : Fin 256) (d : Fin 512) : high y z u w (ix2 a (at4 3 d)) = rmsGrad (gr y z a 3) (fun k => w (ix2 0 (at4 3 k))) (fun k => u (ix2 a (at4 3 k))) d := by
  have h1 := scale2_apply y z a
  have h2 := fac2_apply y z a
  have h3 := part2_apply y z a
  have h4 := part3_apply y z a
  have h5 := in2_apply u a
  have h6 := direct3_apply y z u w a
  have h7 := back3_apply y z u w a
  unfold high
  generalize k0_pay22 (k0_pay19 y z) = x1 at h1 ⊢
  generalize k0_pay23 (k0_pay19 y z) = x2 at h2 ⊢
  generalize k0_pay19 y z = x3 at h3 ⊢
  generalize k0_pay25 (k0_pay6 y z) = x4 at h4 ⊢
  generalize k0_pay31 u = x5 at h5 ⊢
  generalize k0_pay35 u w (k0_pay6 y z) = x6 at h6 ⊢
  generalize k0_pay36 u w (k0_pay6 y z) = x7 at h7 ⊢
  rw [show at4 3 d = (⟨1536 + d.val, by omega⟩ : Fin 2048) from rfl]
  pointwise [k0_pay38, k0_pay20]
  simp only [h4, h6, h7]
  rfl
theorem highGain0_apply (y z : R256x2048b) (u : B256x2048b) (e : Fin 1) (d : Fin 512) : highGain y z u (ix2 e (at4 0 d)) = 0 := by
  have h1 := normed2_apply y z
  have h2 := in2_apply u
  have h3 := share3_apply y z u
  unfold highGain
  generalize k0_pay24 (k0_pay19 y z) = x1 at h1 ⊢
  generalize k0_pay31 u = x2 at h2 ⊢
  generalize k0_pay33 u (k0_pay6 y z) = x3 at h3 ⊢
  rw [← at4_zero d (by omega)]
  pointwise [k0_pay37]
  rw [dif_pos (by omega), dif_pos (by omega), dif_pos (by omega), add_zero]
theorem highGain1_apply (y z : R256x2048b) (u : B256x2048b) (e : Fin 1) (d : Fin 512) : highGain y z u (ix2 e (at4 1 d)) = 0 := by
  have h1 := normed2_apply y z
  have h2 := in2_apply u
  have h3 := share3_apply y z u
  unfold highGain
  generalize k0_pay24 (k0_pay19 y z) = x1 at h1 ⊢
  generalize k0_pay31 u = x2 at h2 ⊢
  generalize k0_pay33 u (k0_pay6 y z) = x3 at h3 ⊢
  rw [show at4 1 d = (⟨512 + d.val, by omega⟩ : Fin 2048) from rfl]
  pointwise [k0_pay37]
  rw [dif_pos (by omega), dif_pos (by omega), dif_pos (by omega), add_zero]
theorem highGain2_apply (y z : R256x2048b) (u : B256x2048b) (e : Fin 1) (d : Fin 512) : highGain y z u (ix2 e (at4 2 d)) = ∑ a : Fin 256, gainShare (gr y z a 2) (fun k => u (ix2 a (at4 2 k))) d := by
  have h1 := normed2_apply y z
  have h2 := in2_apply u
  have h3 := share3_apply y z u
  unfold highGain
  generalize k0_pay24 (k0_pay19 y z) = x1 at h1 ⊢
  generalize k0_pay31 u = x2 at h2 ⊢
  generalize k0_pay33 u (k0_pay6 y z) = x3 at h3 ⊢
  rw [show at4 2 d = (⟨1024 + d.val, by omega⟩ : Fin 2048) from rfl]
  pointwise [k0_pay37]
  rw [dif_pos (by omega), dif_pos (by omega), zero_add]
  simp only [h1, h2]
  rfl
theorem highGain3_apply (y z : R256x2048b) (u : B256x2048b) (e : Fin 1) (d : Fin 512) : highGain y z u (ix2 e (at4 3 d)) = ∑ a : Fin 256, gainShare (gr y z a 3) (fun k => u (ix2 a (at4 3 k))) d := by
  have h1 := normed2_apply y z
  have h2 := in2_apply u
  have h3 := share3_apply y z u
  unfold highGain
  generalize k0_pay24 (k0_pay19 y z) = x1 at h1 ⊢
  generalize k0_pay31 u = x2 at h2 ⊢
  generalize k0_pay33 u (k0_pay6 y z) = x3 at h3 ⊢
  rw [show at4 3 d = (⟨1536 + d.val, by omega⟩ : Fin 2048) from rfl]
  pointwise [k0_pay37]
  rw [h3]

/-! All four groups. -/

def grad (y z : R256x2048b) (u : B256x2048b) (w : R1x2048b) : R256x2048b := k0_pay44 (k0_pay7 y z) (k0_pay8 w) (k0_pay10 y z) (k0_pay11 y z) (k0_pay13 y z) (k0_pay29 u) (high y z u w) (k0_pay41 (k0_pay14 w) (k0_pay16 y z) (k0_pay30 u)) (k0_pay42 (k0_pay13 y z) (k0_pay14 w) (k0_pay17 y z) (k0_pay30 u))
def gain (y z : R256x2048b) (u : B256x2048b) (w : R1x2048b) : R1x2048b := k0_pay43 (k0_pay12 y z) (k0_pay29 u) (highGain y z u) (k0_pay39 (k0_pay18 y z) (k0_pay30 u))
theorem grad0_apply (y z : R256x2048b) (u : B256x2048b) (w : R1x2048b) (a : Fin 256) (d : Fin 512) : grad y z u w (ix2 a (at4 0 d)) = rmsGrad (gr y z a 0) (fun k => w (ix2 0 (at4 0 k))) (fun k => u (ix2 a (at4 0 k))) d := by
  have h1 := part0_apply y z a
  have h2 := scale0_apply y z a
  have h3 := fac0_apply y z a
  have h4 := direct1_apply y z u w a
  have h5 := inner1_apply y z u w a
  have h6 := part1_apply y z a
  have h7 := in0_apply u a
  have h8 := high0_apply y z u w a d
  unfold grad
  generalize k0_pay7 y z = x1 at h1 ⊢
  generalize k0_pay10 y z = x2 at h2 ⊢
  generalize k0_pay11 y z = x3 at h3 ⊢
  generalize k0_pay41 (k0_pay14 w) (k0_pay16 y z) (k0_pay30 u) = x4 at h4 ⊢
  generalize k0_pay42 (k0_pay13 y z) (k0_pay14 w) (k0_pay17 y z) (k0_pay30 u) = x5 at h5 ⊢
  generalize k0_pay13 y z = x6 at h6 ⊢
  generalize k0_pay29 u = x7 at h7 ⊢
  generalize high y z u w = x8 at h8 ⊢
  rw [← at4_zero d (by omega)] at h8 ⊢
  pointwise [k0_pay44, k0_pay8]
  rw [h8, dif_pos (by omega), zero_add, zero_add]
  simp only [h1, h2, h3, h7, at4_zero, Finset.univ_unique, Finset.sum_singleton]
  rfl
theorem grad1_apply (y z : R256x2048b) (u : B256x2048b) (w : R1x2048b) (a : Fin 256) (d : Fin 512) : grad y z u w (ix2 a (at4 1 d)) = rmsGrad (gr y z a 1) (fun k => w (ix2 0 (at4 1 k))) (fun k => u (ix2 a (at4 1 k))) d := by
  have h1 := part0_apply y z a
  have h2 := scale0_apply y z a
  have h3 := fac0_apply y z a
  have h4 := direct1_apply y z u w a
  have h5 := inner1_apply y z u w a
  have h6 := part1_apply y z a
  have h7 := in0_apply u a
  have h8 := high1_apply y z u w a d
  unfold grad
  generalize k0_pay7 y z = x1 at h1 ⊢
  generalize k0_pay10 y z = x2 at h2 ⊢
  generalize k0_pay11 y z = x3 at h3 ⊢
  generalize k0_pay41 (k0_pay14 w) (k0_pay16 y z) (k0_pay30 u) = x4 at h4 ⊢
  generalize k0_pay42 (k0_pay13 y z) (k0_pay14 w) (k0_pay17 y z) (k0_pay30 u) = x5 at h5 ⊢
  generalize k0_pay13 y z = x6 at h6 ⊢
  generalize k0_pay29 u = x7 at h7 ⊢
  generalize high y z u w = x8 at h8 ⊢
  rw [show at4 1 d = (⟨512 + d.val, by omega⟩ : Fin 2048) from rfl] at h8 ⊢
  pointwise [k0_pay44, k0_pay8]
  rw [h8, dif_pos (by omega), zero_add]
  have e : (⟨512 + d.val - 512, by omega⟩ : Fin 512) = d := Fin.ext (by show 512 + d.val - 512 = d.val; omega)
  simp only [e, h4, h5, h6, Finset.univ_unique, Finset.sum_singleton]
  rfl
theorem grad2_apply (y z : R256x2048b) (u : B256x2048b) (w : R1x2048b) (a : Fin 256) (d : Fin 512) : grad y z u w (ix2 a (at4 2 d)) = rmsGrad (gr y z a 2) (fun k => w (ix2 0 (at4 2 k))) (fun k => u (ix2 a (at4 2 k))) d := by
  have h1 := part0_apply y z a
  have h2 := scale0_apply y z a
  have h3 := fac0_apply y z a
  have h4 := direct1_apply y z u w a
  have h5 := inner1_apply y z u w a
  have h6 := part1_apply y z a
  have h7 := in0_apply u a
  have h8 := high2_apply y z u w a d
  unfold grad
  generalize k0_pay7 y z = x1 at h1 ⊢
  generalize k0_pay10 y z = x2 at h2 ⊢
  generalize k0_pay11 y z = x3 at h3 ⊢
  generalize k0_pay41 (k0_pay14 w) (k0_pay16 y z) (k0_pay30 u) = x4 at h4 ⊢
  generalize k0_pay42 (k0_pay13 y z) (k0_pay14 w) (k0_pay17 y z) (k0_pay30 u) = x5 at h5 ⊢
  generalize k0_pay13 y z = x6 at h6 ⊢
  generalize k0_pay29 u = x7 at h7 ⊢
  generalize high y z u w = x8 at h8 ⊢
  rw [show at4 2 d = (⟨1024 + d.val, by omega⟩ : Fin 2048) from rfl] at h8 ⊢
  pointwise [k0_pay44, k0_pay8]
  rw [h8, dif_neg (by omega), add_zero]
theorem grad3_apply (y z : R256x2048b) (u : B256x2048b) (w : R1x2048b) (a : Fin 256) (d : Fin 512) : grad y z u w (ix2 a (at4 3 d)) = rmsGrad (gr y z a 3) (fun k => w (ix2 0 (at4 3 k))) (fun k => u (ix2 a (at4 3 k))) d := by
  have h1 := part0_apply y z a
  have h2 := scale0_apply y z a
  have h3 := fac0_apply y z a
  have h4 := direct1_apply y z u w a
  have h5 := inner1_apply y z u w a
  have h6 := part1_apply y z a
  have h7 := in0_apply u a
  have h8 := high3_apply y z u w a d
  unfold grad
  generalize k0_pay7 y z = x1 at h1 ⊢
  generalize k0_pay10 y z = x2 at h2 ⊢
  generalize k0_pay11 y z = x3 at h3 ⊢
  generalize k0_pay41 (k0_pay14 w) (k0_pay16 y z) (k0_pay30 u) = x4 at h4 ⊢
  generalize k0_pay42 (k0_pay13 y z) (k0_pay14 w) (k0_pay17 y z) (k0_pay30 u) = x5 at h5 ⊢
  generalize k0_pay13 y z = x6 at h6 ⊢
  generalize k0_pay29 u = x7 at h7 ⊢
  generalize high y z u w = x8 at h8 ⊢
  rw [show at4 3 d = (⟨1536 + d.val, by omega⟩ : Fin 2048) from rfl] at h8 ⊢
  pointwise [k0_pay44, k0_pay8]
  rw [h8, dif_neg (by omega), dif_neg (by omega), add_zero, add_zero]
theorem gain0_apply (y z : R256x2048b) (u : B256x2048b) (w : R1x2048b) (e : Fin 1) (d : Fin 512) : gain y z u w (ix2 e (at4 0 d)) = ∑ a : Fin 256, gainShare (gr y z a 0) (fun k => u (ix2 a (at4 0 k))) d := by
  have h1 := normed0_apply y z
  have h2 := in0_apply u
  have h3 := share1_apply y z u
  have h4 := highGain0_apply y z u e d
  unfold gain
  generalize k0_pay12 y z = x1 at h1 ⊢
  generalize k0_pay29 u = x2 at h2 ⊢
  generalize k0_pay39 (k0_pay18 y z) (k0_pay30 u) = x3 at h3 ⊢
  generalize highGain y z u = x4 at h4 ⊢
  rw [← at4_zero d (by omega)] at h4 ⊢
  pointwise [k0_pay43]
  rw [h4, dif_pos (by omega), zero_add, zero_add]
  simp only [h1, h2]
  rfl
theorem gain1_apply (y z : R256x2048b) (u : B256x2048b) (w : R1x2048b) (e : Fin 1) (d : Fin 512) : gain y z u w (ix2 e (at4 1 d)) = ∑ a : Fin 256, gainShare (gr y z a 1) (fun k => u (ix2 a (at4 1 k))) d := by
  have h1 := normed0_apply y z
  have h2 := in0_apply u
  have h3 := share1_apply y z u
  have h4 := highGain1_apply y z u e d
  unfold gain
  generalize k0_pay12 y z = x1 at h1 ⊢
  generalize k0_pay29 u = x2 at h2 ⊢
  generalize k0_pay39 (k0_pay18 y z) (k0_pay30 u) = x3 at h3 ⊢
  generalize highGain y z u = x4 at h4 ⊢
  rw [show at4 1 d = (⟨512 + d.val, by omega⟩ : Fin 2048) from rfl] at h4 ⊢
  pointwise [k0_pay43]
  rw [h4, dif_pos (by omega), zero_add, h3]
theorem gain2_apply (y z : R256x2048b) (u : B256x2048b) (w : R1x2048b) (e : Fin 1) (d : Fin 512) : gain y z u w (ix2 e (at4 2 d)) = ∑ a : Fin 256, gainShare (gr y z a 2) (fun k => u (ix2 a (at4 2 k))) d := by
  have h1 := normed0_apply y z
  have h2 := in0_apply u
  have h3 := share1_apply y z u
  have h4 := highGain2_apply y z u e d
  unfold gain
  generalize k0_pay12 y z = x1 at h1 ⊢
  generalize k0_pay29 u = x2 at h2 ⊢
  generalize k0_pay39 (k0_pay18 y z) (k0_pay30 u) = x3 at h3 ⊢
  generalize highGain y z u = x4 at h4 ⊢
  rw [show at4 2 d = (⟨1024 + d.val, by omega⟩ : Fin 2048) from rfl] at h4 ⊢
  pointwise [k0_pay43]
  rw [h4, dif_neg (by omega), add_zero]
theorem gain3_apply (y z : R256x2048b) (u : B256x2048b) (w : R1x2048b) (e : Fin 1) (d : Fin 512) : gain y z u w (ix2 e (at4 3 d)) = ∑ a : Fin 256, gainShare (gr y z a 3) (fun k => u (ix2 a (at4 3 k))) d := by
  have h1 := normed0_apply y z
  have h2 := in0_apply u
  have h3 := share1_apply y z u
  have h4 := highGain3_apply y z u e d
  unfold gain
  generalize k0_pay12 y z = x1 at h1 ⊢
  generalize k0_pay29 u = x2 at h2 ⊢
  generalize k0_pay39 (k0_pay18 y z) (k0_pay30 u) = x3 at h3 ⊢
  generalize highGain y z u = x4 at h4 ⊢
  rw [show at4 3 d = (⟨1536 + d.val, by omega⟩ : Fin 2048) from rfl] at h4 ⊢
  pointwise [k0_pay43]
  rw [h4, dif_neg (by omega), dif_neg (by omega), add_zero, add_zero]

/-! The two gradients of the gate, from the gradient of the gated entry. -/

theorem rows_apply (y z : R256x2048b) (u : B256x2048b) (w : R1x2048b) (a : Fin 256) (b : Fin 2048) : k0_pay46 (k0_pay5 z) (k0_pay7 y z) (k0_pay8 w) (k0_pay10 y z) (k0_pay11 y z) (k0_pay13 y z) (k0_pay29 u) (high y z u w) (k0_pay41 (k0_pay14 w) (k0_pay16 y z) (k0_pay30 u)) (k0_pay42 (k0_pay13 y z) (k0_pay14 w) (k0_pay17 y z) (k0_pay30 u)) (ix2 a b) = gradY (z (ix2 a b)) (grad y z u w (ix2 a b)) := by
  unfold k0_pay46
  change mulf (F := Ideal) (φ := .f32) (grad y z u w) (k0_pay5 z) (ix2 a b) = _
  generalize grad y z u w = x
  pointwise [k0_pay5, k0_pay3]
  rfl
theorem zrows_apply (y z : R256x2048b) (u : B256x2048b) (w : R1x2048b) (a : Fin 256) (b : Fin 2048) :
    k0_pay1 (k0_pay47 y (k0_pay3 z) (k0_pay7 y z) (k0_pay8 w) (k0_pay10 y z) (k0_pay11 y z) (k0_pay13 y z) (k0_pay29 u) (high y z u w) (k0_pay41 (k0_pay14 w) (k0_pay16 y z) (k0_pay30 u)) (k0_pay42 (k0_pay13 y z) (k0_pay14 w) (k0_pay17 y z) (k0_pay30 u))) (k0_pay48 y z (k0_pay4 z) (k0_pay7 y z) (k0_pay8 w) (k0_pay10 y z) (k0_pay11 y z) (k0_pay13 y z) (k0_pay29 u) (high y z u w) (k0_pay41 (k0_pay14 w) (k0_pay16 y z) (k0_pay30 u)) (k0_pay42 (k0_pay13 y z) (k0_pay14 w) (k0_pay17 y z) (k0_pay30 u))) (ix2 a b) = gradZ (y (ix2 a b)) (z (ix2 a b)) (grad y z u w (ix2 a b)) := by
  unfold k0_pay47 k0_pay48
  change k0_pay1 (mulf (F := Ideal) (φ := .f32) (mulf (F := Ideal) (φ := .f32) y (grad y z u w)) (k0_pay3 z))
    (mulf (F := Ideal) (φ := .f32) (mulf (F := Ideal) (φ := .f32) z (mulf (F := Ideal) (φ := .f32) y (grad y z u w))) (k0_pay4 z)) (ix2 a b) = _
  generalize grad y z u w = x
  pointwise [k0_pay1, k0_pay4, k0_pay3]
  rfl
theorem later_apply (s z : R1x2048b) (e : Fin 1) (b : Fin 2048) : k0_pay2 s z (ix2 e b) = z (ix2 e b) + s (ix2 e b) := by
  pointwise [k0_pay2]

theorem grad_apply (y z : R256x2048b) (u : B256x2048b) (w : R1x2048b) (a : Fin 256) (b : Fin 2048) : grad y z u w (ix2 a b) = gradAt y z w u a b := by
  obtain ⟨s, d, rfl⟩ : ∃ s d, b = at4 s d := ⟨_, _, at4_div b⟩
  rw [gradAt_at]
  exact fin4 (P := fun s => ∀ d : Fin 512, grad y z u w (ix2 a (at4 s d)) = rmsGrad (gr y z a s) (fun k => w (ix2 0 (at4 s k))) (fun k => u (ix2 a (at4 s k))) d)
    (grad0_apply y z u w a) (grad1_apply y z u w a) (grad2_apply y z u w a) (grad3_apply y z u w a) s d
theorem gain_apply (y z : R256x2048b) (u : B256x2048b) (w : R1x2048b) (e : Fin 1) (b : Fin 2048) : gain y z u w (ix2 e b) = ∑ a : Fin 256, gainAt y z u a b := by
  obtain ⟨s, d, rfl⟩ : ∃ s d, b = at4 s d := ⟨_, _, at4_div b⟩
  simp only [gainAt_at]
  exact fin4 (P := fun s => ∀ d : Fin 512, gain y z u w (ix2 e (at4 s d)) = ∑ a : Fin 256, gainShare (gr y z a s) (fun k => u (ix2 a (at4 s k))) d)
    (gain0_apply y z u w e) (gain1_apply y z u w e) (gain2_apply y z u w e) (gain3_apply y z u w e) s d

end Cert.DGateProof

end
-- ==== Proof.DGateRef.lean ====
/- The gradient of the gated norm. What the results are, in formulas, and that the reference computes them. -/
module

public import proofs.«01_k».proof.Proof.Gen.DGateRefIdeal.Run
public import proofs.«01_k».proof.Proof.Shared
public import proofs.«01_k».proof.Proof.GateGradSpec
public import proofs.«01_k».proof.Proof.DGateBlock

@[expose] public section

set_option maxRecDepth 16384

noncomputable section

namespace Cert.DGateProof

open Cert.DGateRefIdeal Idealize.ShloMosaic Idealize.ShloMosaic.TcCoe Idealize.SL.Sem
open Idealize.ShloMosaic.Pointwise Cert.Shared Cert.Gated

/-! Arrays by their shapes. -/
abbrev R4096x2048r := Vec Ideal S4096x2048 .f32
abbrev R1x2048r := Vec Ideal S1x2048 .f32
abbrev B4096x2048r := Vec Ideal S4096x2048 .bf16
abbrev R4096x4x512r := Vec Ideal S4096x4x512 .f32

/-- The gradients of the two factors of the gate, and of the gain. -/
def Gy (y z : R4096x2048r) (w : R1x2048r) (u : B4096x2048r) : R4096x2048r := fun i => gradY (z (ix2 (i 0) (i 1))) (gradAt y z w u (i 0) (i 1))
def Gz (y z : R4096x2048r) (w : R1x2048r) (u : B4096x2048r) : B4096x2048r := fun i => gradZ (y (ix2 (i 0) (i 1))) (z (ix2 (i 0) (i 1))) (gradAt y z w u (i 0) (i 1))
def Gg (y z : R4096x2048r) (w : R1x2048r) (u : B4096x2048r) : R1x2048r := fun i => ∑ r : Fin 4096, gainAt y z u r (i 1)

/-! What the reference computes. -/

def refProd (y2 : R1x2048r) (y3 : B4096x2048r) : R4096x4x512r :=
  mulf (F := Ideal) (φ := .f32) (shapeCast S4096x4x512 (extf (F := Ideal) (φ := .bf16) .f32 y3 Facts₀.bitsLt_bf16_f32) Facts₀.shapeCasts_S4096x2048_S4096x4x512) (broadcastInDim S4096x4x512 ![0, 1, 2] Facts₀.bcast_S1x4x512_S4096x4x512_0_1_2 (broadcastInDim S1x4x512 ![1, 2] Facts₀.bcast_S4x512_S1x4x512_1_2 (shapeCast S4x512 y2 Facts₀.shapeCasts_S1x2048_S4x512)))
def refSig (y1 : R4096x2048r) : R4096x2048r :=
  Host.divf (F := Ideal) (φ := .f32) (broadcastInDim S4096x2048 ![] Facts₀.bcast_S_S4096x2048 (constant (F := Ideal) S_ .f32 0x3F800000#32)) (addf (F := Ideal) (φ := .f32) (broadcastInDim S4096x2048 ![] Facts₀.bcast_S_S4096x2048 (constant (F := Ideal) S_ .f32 0x3F800000#32)) (Host.exp (F := Ideal) (φ := .f32) (Host.negf (F := Ideal) (φ := .f32) y1)))
def refCut (y0 : R4096x2048r) (y1 : R4096x2048r) : R4096x4x512r :=
  shapeCast S4096x4x512 (mulf (F := Ideal) (φ := .f32) y0 (mulf (F := Ideal) (φ := .f32) y1 (refSig y1))) Facts₀.shapeCasts_S4096x2048_S4096x4x512
def refSquare (y0 : R4096x2048r) (y1 : R4096x2048r) : Vec Ideal S4096x4x1 .f32 :=
  addf (F := Ideal) (φ := .f32) (Host.divf (F := Ideal) (φ := .f32) (broadcastInDim S4096x4x1 ![0, 1] Facts₀.bcast_S4096x4_S4096x4x1_0_1 (Host.reduceAdd (F := Ideal) (φ := .f32) (mulf (F := Ideal) (φ := .f32) (refCut y0 y1) (refCut y0 y1)) (constant (F := Ideal) S_ .f32 0x00000000#32) Facts₀.reducesTo_S4096x4x512_S4096x4_d2 Facts₀.h_S_)) (broadcastInDim S4096x4x1 ![] Facts₀.bcast_S_S4096x4x1 (constant (F := Ideal) S_ .f32 0x44000000#32))) (broadcastInDim S4096x4x1 ![] Facts₀.bcast_S_S4096x4x1 (constant (F := Ideal) S_ .f32 0x358637BD#32))
def refScale (y0 : R4096x2048r) (y1 : R4096x2048r) : Vec Ideal S4096x4x1 .f32 :=
  Host.rsqrt (F := Ideal) (φ := .f32) (refSquare y0 y1)
def refBack (y0 : R4096x2048r) (y1 : R4096x2048r) (y2 : R1x2048r) (y3 : B4096x2048r) : R4096x4x512r :=
  broadcastInDim S4096x4x512 ![0, 1] Facts₀.bcast_S4096x4_S4096x4x512_0_1 (Host.reduceAdd (F := Ideal) (φ := .f32) (Host.divf (F := Ideal) (φ := .f32) (mulf (F := Ideal) (φ := .f32) (shapeCast S4096x4x1 (Host.reduceAdd (F := Ideal) (φ := .f32) (mulf (F := Ideal) (φ := .f32) (refCut y0 y1) (refProd y2 y3)) (constant (F := Ideal) S_ .f32 0x00000000#32) Facts₀.reducesTo_S4096x4x512_S4096x4_d2 Facts₀.h_S_) Facts₀.shapeCasts_S4096x4_S4096x4x1) (mulf (F := Ideal) (φ := .f32) (broadcastInDim S4096x4x1 ![] Facts₀.bcast_S_S4096x4x1 (constant (F := Ideal) S_ .f32 0xBF000000#32)) (Host.divf (F := Ideal) (φ := .f32) (refScale y0 y1) (refSquare y0 y1)))) (broadcastInDim S4096x4x1 ![] Facts₀.bcast_S_S4096x4x1 (constant (F := Ideal) S_ .f32 0x44000000#32))) (constant (F := Ideal) S_ .f32 0x00000000#32) Facts₀.reducesTo_S4096x4x1_S4096x4_d2 Facts₀.h_S_)
def refGrad (y0 : R4096x2048r) (y1 : R4096x2048r) (y2 : R1x2048r) (y3 : B4096x2048r) : R4096x2048r :=
  shapeCast S4096x2048 (addf (F := Ideal) (φ := .f32) (addf (F := Ideal) (φ := .f32) (mulf (F := Ideal) (φ := .f32) (refProd y2 y3) (broadcastInDim S4096x4x512 ![0, 1, 2] Facts₀.bcast_S4096x4x1_S4096x4x512_0_1_2 (refScale y0 y1))) (mulf (F := Ideal) (φ := .f32) (refCut y0 y1) (refBack y0 y1 y2 y3))) (mulf (F := Ideal) (φ := .f32) (refBack y0 y1 y2 y3) (refCut y0 y1))) Facts₀.shapeCasts_S4096x4x512_S4096x2048

theorem cut_apply (x : R4096x2048r) (h : S4096x2048.ShapeCasts S4096x4x512) (a : Fin 4096) (s : Fin 4) (d : Fin 512) : shapeCast S4096x4x512 x h (ix3 a s d) = x (ix2 a (at4 s d)) := by
  rw [Pointwise.shapeCast_apply, Shape.reshapeEquiv_eq_of_vals (y := ix2 a (at4 s d)) (hA := rowMajor_val2 _ _ rfl) (hB := rowMajor_val3 _ _ _ rfl rfl)]
  show a.val * 2048 + (512 * s.val + d.val) = a.val * (4 * 512) + s.val * 512 + d.val
  omega
theorem uncut_apply (x : R4096x4x512r) (h : S4096x4x512.ShapeCasts S4096x2048) (a : Fin 4096) (s : Fin 4) (d : Fin 512) :
    shapeCast S4096x2048 x h (ix2 a (at4 s d)) = x (ix3 a s d) := by
  rw [Pointwise.shapeCast_apply, Shape.reshapeEquiv_eq_of_vals (y := ix3 a s d) (hA := rowMajor_val3 _ _ _ rfl rfl) (hB := rowMajor_val2 _ _ rfl)]
  show a.val * (4 * 512) + s.val * 512 + d.val = a.val * 2048 + (512 * s.val + d.val)
  omega
theorem gain4_apply (x : R1x2048r) (h : S1x2048.ShapeCasts S4x512) (s : Fin 4) (d : Fin 512) : shapeCast S4x512 x h (ix2 s d) = x (ix2 0 (at4 s d)) := by
  rw [Pointwise.shapeCast_apply, Shape.reshapeEquiv_eq_of_vals (y := ix2 0 (at4 s d)) (hA := rowMajor_val2 _ _ rfl) (hB := rowMajor_val2 _ _ rfl)]
  show 0 * 2048 + (512 * s.val + d.val) = s.val * 512 + d.val
  omega
theorem flat_apply (x : Vec Ideal S4x512 .f32) (h : S4x512.ShapeCasts S1x2048) (e : Fin 1) (s : Fin 4) (d : Fin 512) : shapeCast S1x2048 x h (ix2 e (at4 s d)) = x (ix2 s d) := by
  rw [Pointwise.shapeCast_apply, Shape.reshapeEquiv_eq_of_vals (y := ix2 s d) (hA := rowMajor_val2 _ _ rfl) (hB := rowMajor_val2 _ _ rfl)]
  have := e.isLt
  show s.val * 512 + d.val = e.val * 2048 + (512 * s.val + d.val)
  omega
theorem one_apply (x : Vec Ideal S4x512 .f32) (h : S4x512.ShapeCasts S1x4x512) (e : Fin 1) (s : Fin 4) (d : Fin 512) : shapeCast S1x4x512 x h (ix3 e s d) = x (ix2 s d) := by
  rw [Pointwise.shapeCast_apply, Shape.reshapeEquiv_eq_of_vals (y := ix2 s d) (hA := rowMajor_val2 _ _ rfl) (hB := rowMajor_val3 _ _ _ rfl rfl)]
  have := e.isLt
  show s.val * 512 + d.val = e.val * (4 * 512) + s.val * 512 + d.val
  omega
theorem keep_apply (x : Vec Ideal S4096x4 .f32) (h : S4096x4.ShapeCasts S4096x4x1) (a : Fin 4096) (s : Fin 4) (e : Fin 1) : shapeCast S4096x4x1 x h (ix3 a s e) = x (ix2 a s) := by
  rw [Pointwise.shapeCast_apply, Shape.reshapeEquiv_eq_of_vals (y := ix2 a s) (hA := rowMajor_val2 _ _ rfl) (hB := rowMajor_val3 _ _ _ rfl rfl)]
  have := e.isLt
  show a.val * 4 + s.val = a.val * (4 * 1) + s.val * 1 + e.val
  omega
theorem drop_apply (x : Vec Ideal S4x512 .f32) (s : Fin 4) (d : Fin 512) :
    Host.reduceAdd (F := Ideal) (φ := .f32) (shapeCast S1x4x512 x Facts₀.shapeCasts_S4x512_S1x4x512) (constant (F := Ideal) S_ .f32 0x00000000#32) Facts₀.reducesTo_S1x4x512_S4x512_d0 Facts₀.h_S_ (ix2 s d) = x (ix2 s d) := by
  have h := one_apply x Facts₀.shapeCasts_S4x512_S1x4x512 0 s d
  generalize shapeCast S1x4x512 x Facts₀.shapeCasts_S4x512_S1x4x512 = z at h ⊢
  pointwise
  simp only [Finset.univ_unique, Finset.sum_singleton]
  exact h
theorem shares_apply (x1 x6 : R4096x4x512r) (x4 : Vec Ideal S4096x4x1 .f32) (s : Fin 4) (d : Fin 512) :
    Host.reduceAdd (F := Ideal) (φ := .f32) (mulf (F := Ideal) (φ := .f32) (mulf (F := Ideal) (φ := .f32) x1 (broadcastInDim S4096x4x512 ![0, 1, 2] Facts₀.bcast_S4096x4x1_S4096x4x512_0_1_2 x4)) x6) (constant (F := Ideal) S_ .f32 0x00000000#32) Facts₀.reducesTo_S4096x4x512_S4x512_d0 Facts₀.h_S_ (ix2 s d)
      = ∑ a : Fin 4096, x1 (ix3 a s d) * x4 (ix3 a s 0) * x6 (ix3 a s d) := by
  pointwise
theorem refSig_apply (y1 : R4096x2048r) (a : Fin 4096) (b : Fin 2048) : refSig y1 (ix2 a b) = Ideal.logistic (y1 (ix2 a b)) := by
  pointwise [refSig]
  rfl
theorem refCut_apply (y0 y1 : R4096x2048r) (a : Fin 4096) (s : Fin 4) (d : Fin 512) : refCut y0 y1 (ix3 a s d) = gate (y0 (ix2 a (at4 s d))) (y1 (ix2 a (at4 s d))) := by
  unfold refCut
  refine (cut_apply _ _ a s d).trans ?_
  have h := refSig_apply y1 a (at4 s d)
  generalize refSig y1 = x at h ⊢
  pointwise
  rw [h]
  rfl
theorem refProd_apply (y2 : R1x2048r) (y3 : B4096x2048r) (a : Fin 4096) (s : Fin 4) (d : Fin 512) : refProd y2 y3 (ix3 a s d) = y3 (ix2 a (at4 s d)) * y2 (ix2 0 (at4 s d)) := by
  unfold refProd
  have h := cut_apply (extf (F := Ideal) (φ := .bf16) .f32 y3 Facts₀.bitsLt_bf16_f32) Facts₀.shapeCasts_S4096x2048_S4096x4x512 a s d
  have h' := gain4_apply y2 Facts₀.shapeCasts_S1x2048_S4x512 s d
  generalize shapeCast S4096x4x512 (extf (F := Ideal) (φ := .bf16) .f32 y3 Facts₀.bitsLt_bf16_f32) Facts₀.shapeCasts_S4096x2048_S4096x4x512 = x at h ⊢
  generalize shapeCast S4x512 y2 Facts₀.shapeCasts_S1x2048_S4x512 = x' at h' ⊢
  pointwise
  rw [h, h']
  rfl
theorem refSquare_apply (y0 y1 : R4096x2048r) (a : Fin 4096) (s : Fin 4) (e : Fin 1) : refSquare y0 y1 (ix3 a s e) = square (fun k => gate (y0 (ix2 a (at4 s k))) (y1 (ix2 a (at4 s k)))) := by
  have h := refCut_apply y0 y1 a s
  unfold refSquare
  generalize refCut y0 y1 = x at h ⊢
  pointwise
  simp only [h]
  rfl
theorem refScale_apply (y0 y1 : R4096x2048r) (a : Fin 4096) (s : Fin 4) (e : Fin 1) : refScale y0 y1 (ix3 a s e) = scale (fun k => gate (y0 (ix2 a (at4 s k))) (y1 (ix2 a (at4 s k)))) := by
  have h := refSquare_apply y0 y1 a s e
  unfold refScale
  generalize refSquare y0 y1 = x at h ⊢
  pointwise
  rw [h]
  rfl
theorem refBack_apply (y0 y1 : R4096x2048r) (y2 : R1x2048r) (y3 : B4096x2048r) (a : Fin 4096) (s : Fin 4) (d : Fin 512) : refBack y0 y1 y2 y3 (ix3 a s d) = back (fun k => gate (y0 (ix2 a (at4 s k))) (y1 (ix2 a (at4 s k)))) (fun k => y2 (ix2 0 (at4 s k))) (fun k => y3 (ix2 a (at4 s k))) := by
  have h1 := refCut_apply y0 y1 a s
  have h2 := refProd_apply y2 y3 a s
  have h3 := refSquare_apply y0 y1 a s
  have h4 := refScale_apply y0 y1 a s
  unfold refBack
  generalize refCut y0 y1 = x1 at h1 ⊢
  generalize refProd y2 y3 = x2 at h2 ⊢
  generalize refSquare y0 y1 = x3 at h3 ⊢
  generalize refScale y0 y1 = x4 at h4 ⊢
  have h5 := keep_apply (Host.reduceAdd (F := Ideal) (φ := .f32) (mulf (F := Ideal) (φ := .f32) x1 x2) (constant (F := Ideal) S_ .f32 0x00000000#32) Facts₀.reducesTo_S4096x4x512_S4096x4_d2 Facts₀.h_S_) Facts₀.shapeCasts_S4096x4_S4096x4x1 a s
  generalize shapeCast S4096x4x1 _ Facts₀.shapeCasts_S4096x4_S4096x4x1 = x5 at h5 ⊢
  pointwise at h5
  pointwise
  simp only [h1, h2, h3, h4, Finset.univ_unique, Finset.sum_singleton, show (default : Fin 1) = 0 from rfl, h5]
  rfl
theorem refGrad_apply (y0 y1 : R4096x2048r) (y2 : R1x2048r) (y3 : B4096x2048r) (a : Fin 4096) (b : Fin 2048) : refGrad y0 y1 y2 y3 (ix2 a b) = gradAt y0 y1 y2 y3 a b := by
  obtain ⟨s, d, rfl⟩ : ∃ s d, b = at4 s d := ⟨_, _, at4_div b⟩
  rw [gradAt_at]
  unfold refGrad
  refine (uncut_apply _ _ a s d).trans ?_
  have h1 := refCut_apply y0 y1 a s
  have h2 := refProd_apply y2 y3 a s
  have h4 := refScale_apply y0 y1 a s
  have h5 := refBack_apply y0 y1 y2 y3 a s
  generalize refCut y0 y1 = x1 at h1 ⊢
  generalize refProd y2 y3 = x2 at h2 ⊢
  generalize refScale y0 y1 = x4 at h4 ⊢
  generalize refBack y0 y1 y2 y3 = x5 at h5 ⊢
  pointwise
  simp only [h1, h2, h4, h5]
  rfl
theorem ref_y (y0 y1 : R4096x2048r) (y2 : R1x2048r) (y3 : B4096x2048r) : mulf (F := Ideal) (φ := .f32) (refGrad y0 y1 y2 y3) (mulf (F := Ideal) (φ := .f32) y1 (refSig y1)) = Gy y0 y1 y2 y3 := by
  funext y
  obtain ⟨a, b, rfl⟩ := pair y
  have h := refGrad_apply y0 y1 y2 y3 a
  have h' := refSig_apply y1 a
  generalize refGrad y0 y1 y2 y3 = z at h ⊢
  generalize refSig y1 = z' at h' ⊢
  pointwise
  simp only [h, h']
  rfl
theorem ref_z (y0 y1 : R4096x2048r) (y2 : R1x2048r) (y3 : B4096x2048r) : truncf (F := Ideal) (φ := .f32) .bf16 (addf (F := Ideal) (φ := .f32) (mulf (F := Ideal) (φ := .f32) (mulf (F := Ideal) (φ := .f32) y0 (refGrad y0 y1 y2 y3)) (refSig y1)) (mulf (F := Ideal) (φ := .f32) (mulf (F := Ideal) (φ := .f32) y1 (mulf (F := Ideal) (φ := .f32) y0 (refGrad y0 y1 y2 y3))) (mulf (F := Ideal) (φ := .f32) (refSig y1) (subf (F := Ideal) (φ := .f32) (broadcastInDim S4096x2048 ![] Facts₀.bcast_S_S4096x2048 (constant (F := Ideal) S_ .f32 0x3F800000#32)) (refSig y1))))) Facts₀.bitsLt_bf16_f32 = Gz y0 y1 y2 y3 := by
  funext y
  obtain ⟨a, b, rfl⟩ := pair y
  have h := refGrad_apply y0 y1 y2 y3 a
  have h' := refSig_apply y1 a
  generalize refGrad y0 y1 y2 y3 = z at h ⊢
  generalize refSig y1 = z' at h' ⊢
  pointwise
  simp only [h, h']
  rfl
theorem ref_g (y0 y1 : R4096x2048r) (y2 : R1x2048r) (y3 : B4096x2048r) : shapeCast S1x2048 (Host.reduceAdd (F := Ideal) (φ := .f32) (shapeCast S1x4x512 (Host.reduceAdd (F := Ideal) (φ := .f32) (mulf (F := Ideal) (φ := .f32) (mulf (F := Ideal) (φ := .f32) (refCut y0 y1) (broadcastInDim S4096x4x512 ![0, 1, 2] Facts₀.bcast_S4096x4x1_S4096x4x512_0_1_2 (refScale y0 y1))) (shapeCast S4096x4x512 (extf (F := Ideal) (φ := .bf16) .f32 y3 Facts₀.bitsLt_bf16_f32) Facts₀.shapeCasts_S4096x2048_S4096x4x512)) (constant (F := Ideal) S_ .f32 0x00000000#32) Facts₀.reducesTo_S4096x4x512_S4x512_d0 Facts₀.h_S_) Facts₀.shapeCasts_S4x512_S1x4x512) (constant (F := Ideal) S_ .f32 0x00000000#32) Facts₀.reducesTo_S1x4x512_S4x512_d0 Facts₀.h_S_) Facts₀.shapeCasts_S4x512_S1x2048 = Gg y0 y1 y2 y3 := by
  funext y
  obtain ⟨e, b, rfl⟩ := pair y
  obtain ⟨s, d, rfl⟩ : ∃ s d, b = at4 s d := ⟨_, _, at4_div b⟩
  refine (flat_apply _ _ e s d).trans ?_
  have h1 : ∀ a, _ := fun a => refCut_apply y0 y1 a s
  have h4 : ∀ a, _ := fun a => refScale_apply y0 y1 a s
  have h6 : ∀ a, _ := fun a => cut_apply (extf (F := Ideal) (φ := .bf16) .f32 y3 Facts₀.bitsLt_bf16_f32) Facts₀.shapeCasts_S4096x2048_S4096x4x512 a s d
  generalize refCut y0 y1 = x1 at h1 ⊢
  generalize refScale y0 y1 = x4 at h4 ⊢
  generalize shapeCast S4096x4x512 (extf (F := Ideal) (φ := .bf16) .f32 y3 Facts₀.bitsLt_bf16_f32) Facts₀.shapeCasts_S4096x2048_S4096x4x512 = x6 at h6 ⊢
  refine (drop_apply _ s d).trans ((shares_apply x1 x6 x4 s d).trans ?_)
  refine Finset.sum_congr rfl fun a _ => ?_
  show _ = gainAt y0 y1 y3 a (at4 s d)
  rw [gainAt_at, h1, h4, h6]
  rfl

variable (m : (ℓ : Loc nD τ sig) → Buf (Elt Ideal) ℓ) (c : Dev nD)

theorem res_y : Value.res_out0 m c = Gy (m ((c.tc : Thread nD τ).loc main_arg0)) (m ((c.tc : Thread nD τ).loc main_arg1)) (m ((c.tc : Thread nD τ).loc main_arg2)) (m ((c.tc : Thread nD τ).loc main_arg3)) := by
  rw [← ref_y]
  rfl
theorem res_z : Value.res_out1 m c = Gz (m ((c.tc : Thread nD τ).loc main_arg0)) (m ((c.tc : Thread nD τ).loc main_arg1)) (m ((c.tc : Thread nD τ).loc main_arg2)) (m ((c.tc : Thread nD τ).loc main_arg3)) := by
  rw [← ref_z]
  rfl

end Cert.DGateProof

end
-- ==== Proof.DGate.lean ====
/- The gradient of the gated norm. -/
module

public import proofs.«01_k».proof.Defs
public import proofs.«01_k».proof.Proof.Gen.DGateIdeal.Value
public import proofs.«01_k».proof.Proof.Gen.DGateRefIdeal.Run
public import proofs.«01_k».proof.Proof.Shared
public import proofs.«01_k».proof.Proof.GateGradSpec
public import proofs.«01_k».proof.Proof.DGateBlock
public import proofs.«01_k».proof.Proof.DGateRef

@[expose] public section

set_option maxRecDepth 16384

noncomputable section

namespace Cert.DGateProof

open Cert.DGateIdeal Cert.DGateIdeal.Gen Idealize.ShloMosaic Idealize.ShloMosaic.TcCoe Idealize.SL.Sem
open Idealize.ShloMosaic.Pointwise Cert.Shared Cert.Gated

/-! Arrays by their shapes. -/
abbrev R1x2048 := Vec Ideal S1x2048 .f32

/-! What one grid point computes. -/

variable (m : (ℓ : Loc nD τ sig) → Buf (Elt Ideal) ℓ)

theorem idx : ∀ t : Fin cfg0.N, t.val < 16
    ∧ (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0) :=
  (by decide +kernel : ∀ t : Fin grid0.N, _)

/-- Row `a` of point `t`'s block, as a row of the array. -/
def row (t : Fin cfg0.N) (a : Fin 256) : Fin 4096 := ⟨t.val * 256 + a.val, by have := (idx t).1; omega⟩

theorem emb0 (t : Fin cfg0.N) (a : Fin 256) (b : Fin 2048) : ((cfg0.win 0).blk t).view.emb (ix2 a b) = ix2 (row t a) b := by
  obtain ⟨-, ⟨e0, e1⟩, -⟩ := idx t
  refine ext2 ?_ ?_
  · show win0_0.index t (0 : Fin 2) * 256 + 1 * a.val = t.val * 256 + a.val; omega
  · show win0_0.index t (1 : Fin 2) * 2048 + 1 * b.val = b.val; omega
theorem emb1 (t : Fin cfg0.N) (a : Fin 256) (b : Fin 2048) : ((cfg0.win 1).blk t).view.emb (ix2 a b) = ix2 (row t a) b := by
  obtain ⟨-, -, ⟨e0, e1⟩, -⟩ := idx t
  refine ext2 ?_ ?_
  · show win0_1.index t (0 : Fin 2) * 256 + 1 * a.val = t.val * 256 + a.val; omega
  · show win0_1.index t (1 : Fin 2) * 2048 + 1 * b.val = b.val; omega
theorem emb2 (t : Fin cfg0.N) (a : Fin 256) (b : Fin 2048) : ((cfg0.win 2).blk t).view.emb (ix2 a b) = ix2 (row t a) b := by
  obtain ⟨-, -, -, ⟨e0, e1⟩, -⟩ := idx t
  refine ext2 ?_ ?_
  · show win0_2.index t (0 : Fin 2) * 256 + 1 * a.val = t.val * 256 + a.val; omega
  · show win0_2.index t (1 : Fin 2) * 2048 + 1 * b.val = b.val; omega
theorem emb3 (t : Fin cfg0.N) (a : Fin 1) (b : Fin 2048) : ((cfg0.win 3).blk t).view.emb (ix2 a b) = ix2 a b := by
  obtain ⟨-, -, -, -, ⟨e0, e1⟩, -⟩ := idx t
  refine ext2 ?_ ?_
  · show win0_3.index t (0 : Fin 2) * 1 + 1 * a.val = a.val; omega
  · show win0_3.index t (1 : Fin 2) * 2048 + 1 * b.val = b.val; omega
theorem emb4 (t : Fin cfg0.N) (a : Fin 256) (b : Fin 2048) : ((cfg0.win 4).blk t).view.emb (ix2 a b) = ix2 (row t a) b := by
  obtain ⟨-, -, -, -, -, ⟨e0, e1⟩, -⟩ := idx t
  refine ext2 ?_ ?_
  · show win0_4.index t (0 : Fin 2) * 256 + 1 * a.val = t.val * 256 + a.val; omega
  · show win0_4.index t (1 : Fin 2) * 2048 + 1 * b.val = b.val; omega
theorem emb5 (t : Fin cfg0.N) (a : Fin 256) (b : Fin 2048) : ((cfg0.win 5).blk t).view.emb (ix2 a b) = ix2 (row t a) b := by
  obtain ⟨-, -, -, -, -, -, ⟨e0, e1⟩, -⟩ := idx t
  refine ext2 ?_ ?_
  · show win0_5.index t (0 : Fin 2) * 256 + 1 * a.val = t.val * 256 + a.val; omega
  · show win0_5.index t (1 : Fin 2) * 2048 + 1 * b.val = b.val; omega
theorem emb6 (t : Fin cfg0.N) (a : Fin 1) (b : Fin 2048) : ((cfg0.win 6).blk t).view.emb (ix2 a b) = ix2 a b := by
  obtain ⟨-, -, -, -, -, -, -, e0, e1⟩ := idx t
  refine ext2 ?_ ?_
  · show win0_6.index t (0 : Fin 2) * 1 + 1 * a.val = a.val; omega
  · show win0_6.index t (1 : Fin 2) * 2048 + 1 * b.val = b.val; omega

theorem iblk0_apply (c : Dev nD) (t : Fin cfg0.N) (a : Fin 256) (b : Fin 2048) : (iblk m c 0 t : Vec Ideal S256x2048 .f32) (ix2 a b)
    = (V m c main_arg0 : Vec Ideal S4096x2048 .f32) (ix2 (row t a) b) :=
  congrArg (V m c main_arg0 : Vec Ideal S4096x2048 .f32) (emb0 t a b)
theorem iblk1_apply (c : Dev nD) (t : Fin cfg0.N) (a : Fin 256) (b : Fin 2048) : (iblk m c 1 t : Vec Ideal S256x2048 .f32) (ix2 a b)
    = (V m c main_arg1 : Vec Ideal S4096x2048 .f32) (ix2 (row t a) b) :=
  congrArg (V m c main_arg1 : Vec Ideal S4096x2048 .f32) (emb1 t a b)
theorem iblk2_apply (c : Dev nD) (t : Fin cfg0.N) (a : Fin 256) (b : Fin 2048) : (iblk m c 2 t : Vec Ideal S256x2048 .bf16) (ix2 a b)
    = (V m c main_arg3 : Vec Ideal S4096x2048 .bf16) (ix2 (row t a) b) :=
  congrArg (V m c main_arg3 : Vec Ideal S4096x2048 .bf16) (emb2 t a b)
theorem iblk3_apply (c : Dev nD) (t : Fin cfg0.N) (a : Fin 1) (b : Fin 2048) : (iblk m c 3 t : R1x2048) (ix2 a b)
    = (V m c main_arg2 : R1x2048) (ix2 a b) :=
  congrArg (V m c main_arg2) (emb3 t a b)

/-! What the body leaves in each result's block, at every point. -/

theorem pos (t : Fin cfg0.N) (h : ¬t.val % 16 = 0) : 1 ≤ t.val := by omega
theorem zero (t : Fin cfg0.N) (h : t.val % 16 = 0) : ¬1 ≤ t.val := by
  have := (idx t).1; omega
theorem out4 (c : Dev nD) (t : Fin cfg0.N) : (outsAt0 m c t.val t.isLt).1 = k0_pay46 (k0_pay5 (iblk m c 1 t)) (k0_pay7 (iblk m c 0 t) (iblk m c 1 t)) (k0_pay8 (iblk m c 3 t)) (k0_pay10 (iblk m c 0 t) (iblk m c 1 t)) (k0_pay11 (iblk m c 0 t) (iblk m c 1 t)) (k0_pay13 (iblk m c 0 t) (iblk m c 1 t)) (k0_pay29 (iblk m c 2 t)) (high (iblk m c 0 t) (iblk m c 1 t) (iblk m c 2 t) (iblk m c 3 t)) (k0_pay41 (k0_pay14 (iblk m c 3 t)) (k0_pay16 (iblk m c 0 t) (iblk m c 1 t)) (k0_pay30 (iblk m c 2 t))) (k0_pay42 (k0_pay13 (iblk m c 0 t) (iblk m c 1 t)) (k0_pay14 (iblk m c 3 t)) (k0_pay17 (iblk m c 0 t) (iblk m c 1 t)) (k0_pay30 (iblk m c 2 t))) := by
  by_cases h : t.val % 16 = 0
  · rw [outsAt0_A m c t h (zero t h)]
    frame_out
    rfl
  · rw [outsAt0_B m c t h (pos t h)]
    frame_out
    rfl
theorem out5 (c : Dev nD) (t : Fin cfg0.N) : (outsAt0 m c t.val t.isLt).2.1 = k0_pay1 (k0_pay47 (iblk m c 0 t) (k0_pay3 (iblk m c 1 t)) (k0_pay7 (iblk m c 0 t) (iblk m c 1 t)) (k0_pay8 (iblk m c 3 t)) (k0_pay10 (iblk m c 0 t) (iblk m c 1 t)) (k0_pay11 (iblk m c 0 t) (iblk m c 1 t)) (k0_pay13 (iblk m c 0 t) (iblk m c 1 t)) (k0_pay29 (iblk m c 2 t)) (high (iblk m c 0 t) (iblk m c 1 t) (iblk m c 2 t) (iblk m c 3 t)) (k0_pay41 (k0_pay14 (iblk m c 3 t)) (k0_pay16 (iblk m c 0 t) (iblk m c 1 t)) (k0_pay30 (iblk m c 2 t))) (k0_pay42 (k0_pay13 (iblk m c 0 t) (iblk m c 1 t)) (k0_pay14 (iblk m c 3 t)) (k0_pay17 (iblk m c 0 t) (iblk m c 1 t)) (k0_pay30 (iblk m c 2 t)))) (k0_pay48 (iblk m c 0 t) (iblk m c 1 t) (k0_pay4 (iblk m c 1 t)) (k0_pay7 (iblk m c 0 t) (iblk m c 1 t)) (k0_pay8 (iblk m c 3 t)) (k0_pay10 (iblk m c 0 t) (iblk m c 1 t)) (k0_pay11 (iblk m c 0 t) (iblk m c 1 t)) (k0_pay13 (iblk m c 0 t) (iblk m c 1 t)) (k0_pay29 (iblk m c 2 t)) (high (iblk m c 0 t) (iblk m c 1 t) (iblk m c 2 t) (iblk m c 3 t)) (k0_pay41 (k0_pay14 (iblk m c 3 t)) (k0_pay16 (iblk m c 0 t) (iblk m c 1 t)) (k0_pay30 (iblk m c 2 t))) (k0_pay42 (k0_pay13 (iblk m c 0 t) (iblk m c 1 t)) (k0_pay14 (iblk m c 3 t)) (k0_pay17 (iblk m c 0 t) (iblk m c 1 t)) (k0_pay30 (iblk m c 2 t)))) := by
  by_cases h : t.val % 16 = 0
  · rw [outsAt0_A m c t h (zero t h)]
    frame_out
    rfl
  · rw [outsAt0_B m c t h (pos t h)]
    frame_out
    rfl
/-- The block's share of the gradient of the gain. -/
def share6 (c : Dev nD) (t : Fin cfg0.N) : R1x2048 := gain (iblk m c 0 t) (iblk m c 1 t) (iblk m c 2 t) (iblk m c 3 t)
theorem out6_first (c : Dev nD) (t : Fin cfg0.N) (h : t.val % 16 = 0) : (outsAt0 m c t.val t.isLt).2.2 = share6 m c t := by
  rw [outsAt0_A m c t h (zero t h)]
  frame_out
  rfl
theorem out6_later (c : Dev nD) (t : Fin cfg0.N) (h : ¬t.val % 16 = 0) : (outsAt0 m c t.val t.isLt).2.2
    = k0_pay2 (share6 m c t) (outsAt0 m c (t.val - 1) (Nat.sub_lt_of_lt t.isLt)).2.2 := by
  rw [outsAt0_B m c t h (pos t h)]
  frame_out
  rfl
theorem share6_sum (c : Dev nD) (t : Fin cfg0.N) (e : Fin 1) (b : Fin 2048) : share6 m c t (ix2 e b)
    = ∑ a : Fin 256, gainAt (V m c main_arg0) (V m c main_arg1) (V m c main_arg3) (row t a) b := by
  unfold share6
  rw [gain_apply]
  simp only [gainAt, iblk0_apply, iblk1_apply, iblk2_apply, iblk3_apply]

/-- The share of the `k`-th block, for any `k`. -/
def term6 (c : Dev nD) (e : Fin 1) (b : Fin 2048) (k : Nat) : EReal :=
  if h : k < cfg0.N then share6 m c ⟨k, h⟩ (ix2 e b) else 0

/-- The gradient of the gain after the last point is the sum of all shares. -/
theorem out6_last (c : Dev nD) (t : Fin cfg0.N) (h : t.val % 16 = 15) (e : Fin 1) (b : Fin 2048) :
    ((outsAt0 m c t.val t.isLt).2.2 : R1x2048) (ix2 e b) = Gg (V m c main_arg0) (V m c main_arg1) (V m c main_arg2) (V m c main_arg3) (ix2 e b) := by
  have hN : cfg0.N = 16 := N_0
  have key := Pipeline.eq_sum_of_reset_step_of_mod (N := cfg0.N)
    (fun n hn => ((outsAt0 m c n hn).2.2 : R1x2048) (ix2 e b)) 16 0 (term6 m c e b)
    (fun t h => by
      show ((outsAt0 m c t.val t.isLt).2.2 : R1x2048) (ix2 e b) = _
      rw [out6_first m c t h, term6, dif_pos t.isLt, zero_add])
    (fun t h => by
      show ((outsAt0 m c t.val t.isLt).2.2 : R1x2048) (ix2 e b) = _
      rw [out6_later m c t h, later_apply, term6, dif_pos t.isLt])
    t h
  refine key.trans ?_
  have ht : t.val / 16 = 0 := by have := t.isLt; omega
  show _ = ∑ r : Fin 4096, gainAt (V m c main_arg0) (V m c main_arg1) (V m c main_arg3) r b
  rw [ht, zero_add, Fin.sum_univ_tiles 16 256 rfl, ← Fin.sum_univ_eq_sum_range (fun k => term6 m c e b (16 * 0 + k)) 16]
  refine Finset.sum_congr rfl fun k _ => ?_
  have hk : 16 * 0 + k.val < cfg0.N := by have := k.isLt; omega
  rw [term6, dif_pos hk, share6_sum]
  refine Finset.sum_congr rfl fun a _ => ?_
  have hr : row ⟨16 * 0 + k.val, hk⟩ a = ⟨k.val * 256 + a.val, by omega⟩ :=
    Fin.ext (by show (16 * 0 + k.val) * 256 + a.val = k.val * 256 + a.val; omega)
  rw [hr]

theorem final6 (c : Dev nD) : (dats m 0 c).arrAt 6 cfg0.N = Gg (V m c main_arg0) (V m c main_arg1) (V m c main_arg2) (V m c main_arg3) := by
  refine (dats m 0 c).arrAt_eq_of_covers 6 _ (by decide +kernel) fun t hf y => ?_
  rw [after0_6]
  obtain ⟨e, b, rfl⟩ := pair y
  rw [emb6]
  exact out6_last m c t ((flush0_6 t).mp hf) e b

theorem final4 (c : Dev nD) : (dats m 0 c).arrAt 4 cfg0.N = Gy (V m c main_arg0) (V m c main_arg1) (V m c main_arg2) (V m c main_arg3) := by
  refine (dats m 0 c).arrAt_eq_of_covers 4 _ (by decide +kernel) fun t _ y => ?_
  rw [after0_4]
  obtain ⟨a, b, rfl⟩ := pair y
  rw [emb4]
  refine (congrFun (out4 m c t) (ix2 a b)).trans ?_
  refine (rows_apply _ _ _ _ a b).trans ?_
  rw [grad_apply]
  simp only [gradAt, iblk0_apply, iblk1_apply, iblk2_apply, iblk3_apply]
  rfl
theorem final5 (c : Dev nD) : (dats m 0 c).arrAt 5 cfg0.N = Gz (V m c main_arg0) (V m c main_arg1) (V m c main_arg2) (V m c main_arg3) := by
  refine (dats m 0 c).arrAt_eq_of_covers 5 _ (by decide +kernel) fun t _ y => ?_
  rw [after0_5]
  obtain ⟨a, b, rfl⟩ := pair y
  rw [emb5]
  refine (congrFun (out5 m c t) (ix2 a b)).trans ?_
  refine (zrows_apply _ _ _ _ a b).trans ?_
  rw [grad_apply]
  simp only [gradAt, iblk0_apply, iblk1_apply, iblk2_apply, iblk3_apply]
  rfl

/-- The claim of the call: kernel and reference end with the same three arrays. -/
theorem algebraic : Cert.algebraic_DGateIdeal_DGateRefIdeal := fun m ρ m' ρ' _ hag =>
  ⟨fun c => Gy (V m c main_arg0) (V m c main_arg1) (V m c main_arg2) (V m c main_arg3), fun c => Gz (V m c main_arg0) (V m c main_arg1) (V m c main_arg2) (V m c main_arg3), fun c => Gg (V m c main_arg0) (V m c main_arg1) (V m c main_arg2) (V m c main_arg3),
   (θ_run _ _ _).mono (fun _ h c => ⟨(h c).1.trans (final4 m c), (h c).2.1.trans (final5 m c), (h c).2.2.1.trans (final6 m c),
      (h c).2.2.2⟩) (Value.run_blocks m ρ),
   (θ_run _ _ _).mono (fun _ h c => ⟨(h c).1.trans ((res_y m' c).trans (by rw [(hag c).1, (hag c).2.1, (hag c).2.2.1, (hag c).2.2.2])),
      (h c).2.1.trans ((res_z m' c).trans (by rw [(hag c).1, (hag c).2.1, (hag c).2.2.1, (hag c).2.2.2])),
      (h c).2.2.1.trans ((ref_g _ _ (m' ((c.tc : Thread Cert.DGateRefIdeal.nD Cert.DGateRefIdeal.τ).loc Cert.DGateRefIdeal.main_arg2)) _).trans (by rw [(hag c).1, (hag c).2.1, (hag c).2.2.1, (hag c).2.2.2])), (h c).2.2.2⟩)
     (Cert.DGateRefIdeal.Value.run m' ρ')⟩

end Cert.DGateProof

end
-- ==== Proof.RmsRef.lean ====
/- The root-mean-square norm of the rows. What the results are, in formulas, and that the reference computes them. -/
module

public import proofs.«01_k».proof.Proof.Gen.RmsRefIdeal.Run
public import proofs.«01_k».proof.Proof.Shared
public import proofs.«01_k».proof.Proof.RowSpec

@[expose] public section

set_option maxRecDepth 16384

noncomputable section

namespace Cert.RmsProof

open Cert.RmsRefIdeal Idealize.ShloMosaic Idealize.ShloMosaic.TcCoe Idealize.SL.Sem
open Idealize.ShloMosaic.Pointwise Cert.Shared Cert.Rows

/-- Every row normed. -/
def G (x : Vec Ideal S4096x1024 .f32) (g : Vec Ideal S1x1024 .f32) : Vec Ideal S4096x1024 .bf16 := fun i => rms (fun k => x (ix2 (i 0) k)) (fun k => g (ix2 0 k)) (i 1)

/-! What the reference computes. -/

theorem ref_eq (y0 : Vec Ideal S4096x1024 .f32) (y1 : Vec Ideal S1x1024 .f32) : truncf (F := Ideal) (φ := .f32) .bf16 (mulf (F := Ideal) (φ := .f32) (mulf (F := Ideal) (φ := .f32) y0 (broadcastInDim S4096x1024 ![0, 1] Facts₀.bcast_S4096x1_S4096x1024_0_1 (Host.rsqrt (F := Ideal) (φ := .f32) (addf (F := Ideal) (φ := .f32) (Host.divf (F := Ideal) (φ := .f32) (broadcastInDim S4096x1 ![0] Facts₀.bcast_S4096_S4096x1_0 (Host.reduceAdd (F := Ideal) (φ := .f32) (mulf (F := Ideal) (φ := .f32) y0 y0) (constant (F := Ideal) S_ .f32 0x00000000#32) Facts₀.reducesTo_S4096x1024_S4096_d1 Facts₀.h_S_)) (broadcastInDim S4096x1 ![] Facts₀.bcast_S_S4096x1 (constant (F := Ideal) S_ .f32 0x44800000#32))) (broadcastInDim S4096x1 ![] Facts₀.bcast_S_S4096x1 (constant (F := Ideal) S_ .f32 0x358637BD#32)))))) (broadcastInDim S4096x1024 ![0, 1] Facts₀.bcast_S1x1024_S4096x1024_0_1 y1)) Facts₀.bitsLt_bf16_f32 = G y0 y1 := by
  funext y
  obtain ⟨a, b, rfl⟩ := pair y
  pointwise
  rfl

end Cert.RmsProof

end
-- ==== Proof.Rms.lean ====
/- The root-mean-square norm of the rows. -/
module

public import proofs.«01_k».proof.Defs
public import proofs.«01_k».proof.Proof.Gen.RmsIdeal.Value
public import proofs.«01_k».proof.Proof.Gen.RmsRefIdeal.Run
public import proofs.«01_k».proof.Proof.Shared
public import proofs.«01_k».proof.Proof.RowSpec
public import proofs.«01_k».proof.Proof.RmsRef

@[expose] public section

set_option maxRecDepth 16384

noncomputable section

namespace Cert.RmsProof

open Cert.RmsIdeal Cert.RmsIdeal.Gen Idealize.ShloMosaic Idealize.ShloMosaic.TcCoe Idealize.SL.Sem
open Idealize.ShloMosaic.Pointwise Cert.Shared Cert.Rows

/-! Arrays by their shapes. -/
abbrev R1x1024 := Vec Ideal S1x1024 .f32

/-! What one grid point computes. -/

theorem pay1_apply (x : Vec Ideal S256x1024 .f32) (g : R1x1024) (a : Fin 256) (b : Fin 1024) :
    k0_pay1 x g (ix2 a b) = rms (fun k => x (ix2 a k)) (fun k => g (ix2 0 k)) b := by
  pointwise [k0_pay1]
  rfl

variable (m : (ℓ : Loc nD τ sig) → Buf (Elt Ideal) ℓ)

theorem idx : ∀ t : Fin cfg0.N, t.val < 16
    ∧ (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

/-- Row `a` of point `t`'s block, as a row of the array. -/
def row (t : Fin cfg0.N) (a : Fin 256) : Fin 4096 := ⟨t.val * 256 + a.val, by have := (idx t).1; omega⟩

theorem emb0 (t : Fin cfg0.N) (a : Fin 256) (b : Fin 1024) : ((cfg0.win 0).blk t).view.emb (ix2 a b) = ix2 (row t a) b := by
  obtain ⟨-, ⟨e0, e1⟩, -⟩ := idx t
  refine ext2 ?_ ?_
  · show win0_0.index t (0 : Fin 2) * 256 + 1 * a.val = t.val * 256 + a.val; omega
  · show win0_0.index t (1 : Fin 2) * 1024 + 1 * b.val = b.val; omega
theorem emb1 (t : Fin cfg0.N) (a : Fin 1) (b : Fin 1024) : ((cfg0.win 1).blk t).view.emb (ix2 a b) = ix2 a b := by
  obtain ⟨-, -, ⟨e0, e1⟩, -⟩ := idx t
  refine ext2 ?_ ?_
  · show win0_1.index t (0 : Fin 2) * 1 + 1 * a.val = a.val; omega
  · show win0_1.index t (1 : Fin 2) * 1024 + 1 * b.val = b.val; omega
theorem emb2 (t : Fin cfg0.N) (a : Fin 256) (b : Fin 1024) : ((cfg0.win 2).blk t).view.emb (ix2 a b) = ix2 (row t a) b := by
  obtain ⟨-, -, -, e0, e1⟩ := idx t
  refine ext2 ?_ ?_
  · show win0_2.index t (0 : Fin 2) * 256 + 1 * a.val = t.val * 256 + a.val; omega
  · show win0_2.index t (1 : Fin 2) * 1024 + 1 * b.val = b.val; omega

theorem iblk0_apply (c : Dev nD) (t : Fin cfg0.N) (a : Fin 256) (b : Fin 1024) : (iblk m c 0 t : Vec Ideal S256x1024 .f32) (ix2 a b)
    = (V m c main_arg0 : Vec Ideal S4096x1024 .f32) (ix2 (row t a) b) :=
  congrArg (V m c main_arg0 : Vec Ideal S4096x1024 .f32) (emb0 t a b)
theorem iblk1_apply (c : Dev nD) (t : Fin cfg0.N) (a : Fin 1) (b : Fin 1024) : (iblk m c 1 t : R1x1024) (ix2 a b)
    = (V m c main_arg1 : R1x1024) (ix2 a b) :=
  congrArg (V m c main_arg1) (emb1 t a b)

/-! A whole block is read and written. -/

theorem ld0 (x : Vec Ideal S256x1024 .f32) : View.ld x r0_0 = x := by rw [View.ld_unit_zero hz]
theorem ld1 (x : R1x1024) : View.ld x r0_1 = x := by rw [View.ld_unit_zero hz]

theorem final2 (c : Dev nD) : (dats m 0 c).arrAt 2 cfg0.N = G (V m c main_arg0) (V m c main_arg1) := by
  refine (dats m 0 c).arrAt_eq_of_covers 2 _ (by decide +kernel) fun t _ y => ?_
  rw [after0_2]
  unfold out0_2
  rw [View.canon_unit_zero hz]
  simp only [ld0, ld1]
  obtain ⟨a, b, rfl⟩ := pair y
  rw [emb2]
  show k0_pay1 (iblk m c 0 t) (iblk m c 1 t) (ix2 a b) = _
  rw [pay1_apply]
  simp only [iblk0_apply, iblk1_apply]
  rfl

/-- The claim of the call: kernel and reference end with the same arrays. -/
theorem algebraic : Cert.algebraic_RmsIdeal_RmsRefIdeal := fun m ρ m' ρ' _ hag =>
  ⟨fun c => G (V m c main_arg0) (V m c main_arg1),
   (θ_run _ _ _).mono (fun _ h c => ⟨((h c).1).trans (final2 m c), (h c).2⟩) (Value.run_blocks m ρ),
   (θ_run _ _ _).mono (fun _ h c => ⟨((h c).1).trans (by rw [(hag c).1, (hag c).2]; exact ref_eq _ _), (h c).2⟩)
         (Cert.RmsRefIdeal.Value.run m' ρ')⟩

end Cert.RmsProof

end
-- ==== Proof.RmsMemRef.lean ====
/- The root-mean-square norm of the rows of the memory. What the results are, in formulas, and that the reference computes them. -/
module

public import proofs.«01_k».proof.Proof.Gen.RmsMemRefIdeal.Run
public import proofs.«01_k».proof.Proof.Shared
public import proofs.«01_k».proof.Proof.RowSpec

@[expose] public section

set_option maxRecDepth 16384

noncomputable section

namespace Cert.RmsMemProof

open Cert.RmsMemRefIdeal Idealize.ShloMosaic Idealize.ShloMosaic.TcCoe Idealize.SL.Sem
open Idealize.ShloMosaic.Pointwise Cert.Shared Cert.Rows

/-- Every row normed. -/
def G (x : Vec Ideal S256x1024 .f32) (g : Vec Ideal S1x1024 .f32) : Vec Ideal S256x1024 .bf16 := fun i => rms (fun k => x (ix2 (i 0) k)) (fun k => g (ix2 0 k)) (i 1)

/-! What the reference computes. -/

theorem ref_eq (y0 : Vec Ideal S256x1024 .f32) (y1 : Vec Ideal S1x1024 .f32) : truncf (F := Ideal) (φ := .f32) .bf16 (mulf (F := Ideal) (φ := .f32) (mulf (F := Ideal) (φ := .f32) y0 (broadcastInDim S256x1024 ![0, 1] Facts₀.bcast_S256x1_S256x1024_0_1 (Host.rsqrt (F := Ideal) (φ := .f32) (addf (F := Ideal) (φ := .f32) (Host.divf (F := Ideal) (φ := .f32) (broadcastInDim S256x1 ![0] Facts₀.bcast_S256_S256x1_0 (Host.reduceAdd (F := Ideal) (φ := .f32) (mulf (F := Ideal) (φ := .f32) y0 y0) (constant (F := Ideal) S_ .f32 0x00000000#32) Facts₀.reducesTo_S256x1024_S256_d1 Facts₀.h_S_)) (broadcastInDim S256x1 ![] Facts₀.bcast_S_S256x1 (constant (F := Ideal) S_ .f32 0x44800000#32))) (broadcastInDim S256x1 ![] Facts₀.bcast_S_S256x1 (constant (F := Ideal) S_ .f32 0x358637BD#32)))))) (broadcastInDim S256x1024 ![0, 1] Facts₀.bcast_S1x1024_S256x1024_0_1 y1)) Facts₀.bitsLt_bf16_f32 = G y0 y1 := by
  funext y
  obtain ⟨a, b, rfl⟩ := pair y
  pointwise
  rfl

end Cert.RmsMemProof

end
-- ==== Proof.RmsMem.lean ====
/- The root-mean-square norm of the rows of the memory. -/
module

public import proofs.«01_k».proof.Defs
public import proofs.«01_k».proof.Proof.Gen.RmsMemIdeal.Value
public import proofs.«01_k».proof.Proof.Gen.RmsMemRefIdeal.Run
public import proofs.«01_k».proof.Proof.Shared
public import proofs.«01_k».proof.Proof.RowSpec
public import proofs.«01_k».proof.Proof.RmsMemRef

@[expose] public section

set_option maxRecDepth 16384

noncomputable section

namespace Cert.RmsMemProof

open Cert.RmsMemIdeal Cert.RmsMemIdeal.Gen Idealize.ShloMosaic Idealize.ShloMosaic.TcCoe Idealize.SL.Sem
open Idealize.ShloMosaic.Pointwise Cert.Shared Cert.Rows

/-! Arrays by their shapes. -/
abbrev R256x1024 := Vec Ideal S256x1024 .f32
abbrev R1x1024 := Vec Ideal S1x1024 .f32

/-! What one grid point computes. -/

theorem pay1_apply (x : R256x1024) (g : R1x1024) (a : Fin 256) (b : Fin 1024) :
    k0_pay1 x g (ix2 a b) = rms (fun k => x (ix2 a k)) (fun k => g (ix2 0 k)) b := by
  pointwise [k0_pay1]
  rfl

variable (m : (ℓ : Loc nD τ sig) → Buf (Elt Ideal) ℓ)

theorem idx : ∀ t : Fin cfg0.N, t.val < 1
    ∧ (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

/-- Row `a` of point `t`'s block, as a row of the array. -/
def row (t : Fin cfg0.N) (a : Fin 256) : Fin 256 := ⟨t.val * 256 + a.val, by have := (idx t).1; omega⟩

theorem emb0 (t : Fin cfg0.N) (a : Fin 256) (b : Fin 1024) : ((cfg0.win 0).blk t).view.emb (ix2 a b) = ix2 (row t a) b := by
  obtain ⟨-, ⟨e0, e1⟩, -⟩ := idx t
  refine ext2 ?_ ?_
  · show win0_0.index t (0 : Fin 2) * 256 + 1 * a.val = t.val * 256 + a.val; omega
  · show win0_0.index t (1 : Fin 2) * 1024 + 1 * b.val = b.val; omega
theorem emb1 (t : Fin cfg0.N) (a : Fin 1) (b : Fin 1024) : ((cfg0.win 1).blk t).view.emb (ix2 a b) = ix2 a b := by
  obtain ⟨-, -, ⟨e0, e1⟩, -⟩ := idx t
  refine ext2 ?_ ?_
  · show win0_1.index t (0 : Fin 2) * 1 + 1 * a.val = a.val; omega
  · show win0_1.index t (1 : Fin 2) * 1024 + 1 * b.val = b.val; omega
theorem emb2 (t : Fin cfg0.N) (a : Fin 256) (b : Fin 1024) : ((cfg0.win 2).blk t).view.emb (ix2 a b) = ix2 (row t a) b := by
  obtain ⟨-, -, -, e0, e1⟩ := idx t
  refine ext2 ?_ ?_
  · show win0_2.index t (0 : Fin 2) * 256 + 1 * a.val = t.val * 256 + a.val; omega
  · show win0_2.index t (1 : Fin 2) * 1024 + 1 * b.val = b.val; omega

theorem iblk0_apply (c : Dev nD) (t : Fin cfg0.N) (a : Fin 256) (b : Fin 1024) : (iblk m c 0 t : R256x1024) (ix2 a b)
    = (V m c main_arg0 : R256x1024) (ix2 (row t a) b) :=
  congrArg (V m c main_arg0) (emb0 t a b)
theorem iblk1_apply (c : Dev nD) (t : Fin cfg0.N) (a : Fin 1) (b : Fin 1024) : (iblk m c 1 t : R1x1024) (ix2 a b)
    = (V m c main_arg1 : R1x1024) (ix2 a b) :=
  congrArg (V m c main_arg1) (emb1 t a b)

/-! A whole block is read and written. -/

theorem ld0 (x : R256x1024) : View.ld x r0_0 = x := by rw [View.ld_unit_zero hz]
theorem ld1 (x : R1x1024) : View.ld x r0_1 = x := by rw [View.ld_unit_zero hz]

theorem final2 (c : Dev nD) : (dats m 0 c).arrAt 2 cfg0.N = G (V m c main_arg0) (V m c main_arg1) := by
  refine (dats m 0 c).arrAt_eq_of_covers 2 _ (by decide +kernel) fun t _ y => ?_
  rw [after0_2]
  unfold out0_2
  rw [View.canon_unit_zero hz]
  simp only [ld0, ld1]
  obtain ⟨a, b, rfl⟩ := pair y
  rw [emb2]
  show k0_pay1 (iblk m c 0 t) (iblk m c 1 t) (ix2 a b) = _
  rw [pay1_apply]
  simp only [iblk0_apply, iblk1_apply]
  rfl

/-- The claim of the call: kernel and reference end with the same arrays. -/
theorem algebraic : Cert.algebraic_RmsMemIdeal_RmsMemRefIdeal := fun m ρ m' ρ' _ hag =>
  ⟨fun c => G (V m c main_arg0) (V m c main_arg1),
   (θ_run _ _ _).mono (fun _ h c => ⟨((h c).1).trans (final2 m c), (h c).2⟩) (Value.run_blocks m ρ),
   (θ_run _ _ _).mono (fun _ h c => ⟨((h c).1).trans (by rw [(hag c).1, (hag c).2]; exact ref_eq _ _), (h c).2⟩)
         (Cert.RmsMemRefIdeal.Value.run m' ρ')⟩

end Cert.RmsMemProof

end
-- ==== Proof.LnSiluRef.lean ====
/- The layer norm of the rows and the gated unit after it. What the results are, in formulas, and that the reference computes them. -/
module

public import proofs.«01_k».proof.Proof.Gen.LnSiluRefIdeal.Run
public import proofs.«01_k».proof.Proof.Shared
public import proofs.«01_k».proof.Proof.RowSpec

@[expose] public section

set_option maxRecDepth 16384

noncomputable section

namespace Cert.LnSiluProof

open Cert.LnSiluRefIdeal Idealize.ShloMosaic Idealize.ShloMosaic.TcCoe Idealize.SL.Sem
open Idealize.ShloMosaic.Pointwise Cert.Shared Cert.Rows

/-! Arrays by their shapes. -/
abbrev R4096x1024r := Vec Ideal S4096x1024 .f32
abbrev R1x1024r := Vec Ideal S1x1024 .f32

/-- Every row normed, then the gated unit. -/
def G (x : R4096x1024r) (g h : R1x1024r) : Vec Ideal S4096x1024 .bf16 :=
  fun i => silu (layerNorm (fun k => x (ix2 (i 0) k)) (fun k => g (ix2 0 k)) (fun k => h (ix2 0 k)) (i 1))

/-! What the reference computes. -/

def refDev (y0 : R4096x1024r) : R4096x1024r :=
  subf (F := Ideal) (φ := .f32) y0 (broadcastInDim S4096x1024 ![0, 1] Facts₀.bcast_S4096x1_S4096x1024_0_1 (Host.divf (F := Ideal) (φ := .f32) (broadcastInDim S4096x1 ![0] Facts₀.bcast_S4096_S4096x1_0 (Host.reduceAdd (F := Ideal) (φ := .f32) y0 (constant (F := Ideal) S_ .f32 0x00000000#32) Facts₀.reducesTo_S4096x1024_S4096_d1 Facts₀.h_S_)) (broadcastInDim S4096x1 ![] Facts₀.bcast_S_S4096x1 (constant (F := Ideal) S_ .f32 0x44800000#32))))
def refNorm (y0 : R4096x1024r) (y1 : R1x1024r) (y2 : R1x1024r) : R4096x1024r :=
  addf (F := Ideal) (φ := .f32) (mulf (F := Ideal) (φ := .f32) (mulf (F := Ideal) (φ := .f32) (refDev y0) (broadcastInDim S4096x1024 ![0, 1] Facts₀.bcast_S4096x1_S4096x1024_0_1 (Host.rsqrt (F := Ideal) (φ := .f32) (addf (F := Ideal) (φ := .f32) (Host.divf (F := Ideal) (φ := .f32) (broadcastInDim S4096x1 ![0] Facts₀.bcast_S4096_S4096x1_0 (Host.reduceAdd (F := Ideal) (φ := .f32) (mulf (F := Ideal) (φ := .f32) (refDev y0) (refDev y0)) (constant (F := Ideal) S_ .f32 0x00000000#32) Facts₀.reducesTo_S4096x1024_S4096_d1 Facts₀.h_S_)) (broadcastInDim S4096x1 ![] Facts₀.bcast_S_S4096x1 (constant (F := Ideal) S_ .f32 0x44800000#32))) (broadcastInDim S4096x1 ![] Facts₀.bcast_S_S4096x1 (constant (F := Ideal) S_ .f32 0x358637BD#32)))))) (broadcastInDim S4096x1024 ![0, 1] Facts₀.bcast_S1x1024_S4096x1024_0_1 y1)) (broadcastInDim S4096x1024 ![0, 1] Facts₀.bcast_S1x1024_S4096x1024_0_1 y2)

theorem refDev_apply (y0 : R4096x1024r) (a : Fin 4096) (b : Fin 1024) : refDev y0 (ix2 a b) = dev (fun k => y0 (ix2 a k)) b := by
  pointwise [refDev]
  rfl
theorem refNorm_apply (y0 : R4096x1024r) (y1 y2 : R1x1024r) (a : Fin 4096) (b : Fin 1024) :
    refNorm y0 y1 y2 (ix2 a b) = layerNorm (fun k => y0 (ix2 a k)) (fun k => y1 (ix2 0 k)) (fun k => y2 (ix2 0 k)) b := by
  have e := refDev_apply y0 a
  unfold refNorm
  generalize refDev y0 = z at e ⊢
  pointwise
  simp only [e]
  rfl
theorem ref_eq (y0 : R4096x1024r) (y1 y2 : R1x1024r) : truncf (F := Ideal) (φ := .f32) .bf16 (mulf (F := Ideal) (φ := .f32) (refNorm y0 y1 y2) (Host.divf (F := Ideal) (φ := .f32) (broadcastInDim S4096x1024 ![] Facts₀.bcast_S_S4096x1024 (constant (F := Ideal) S_ .f32 0x3F800000#32)) (addf (F := Ideal) (φ := .f32) (broadcastInDim S4096x1024 ![] Facts₀.bcast_S_S4096x1024 (constant (F := Ideal) S_ .f32 0x3F800000#32)) (Host.exp (F := Ideal) (φ := .f32) (Host.negf (F := Ideal) (φ := .f32) (refNorm y0 y1 y2)))))) Facts₀.bitsLt_bf16_f32 = G y0 y1 y2 := by
  funext y
  obtain ⟨a, b, rfl⟩ := pair y
  have e := refNorm_apply y0 y1 y2 a b
  generalize refNorm y0 y1 y2 = z at e ⊢
  pointwise
  rw [e]
  rfl

end Cert.LnSiluProof

end
-- ==== Proof.LnSilu.lean ====
/- The layer norm of the rows and the gated unit after it. -/
module

public import proofs.«01_k».proof.Defs
public import proofs.«01_k».proof.Proof.Gen.LnSiluIdeal.Value
public import proofs.«01_k».proof.Proof.Gen.LnSiluRefIdeal.Run
public import proofs.«01_k».proof.Proof.Shared
public import proofs.«01_k».proof.Proof.RowSpec
public import proofs.«01_k».proof.Proof.LnSiluRef

@[expose] public section

set_option maxRecDepth 16384

noncomputable section

namespace Cert.LnSiluProof

open Cert.LnSiluIdeal Cert.LnSiluIdeal.Gen Idealize.ShloMosaic Idealize.ShloMosaic.TcCoe Idealize.SL.Sem
open Idealize.ShloMosaic.Pointwise Cert.Shared Cert.Rows

/-! Arrays by their shapes. -/
abbrev R1x1024 := Vec Ideal S1x1024 .f32

/-! What one grid point computes. -/

theorem pay1_apply (x : Vec Ideal S256x1024 .f32) (g h : R1x1024) (a : Fin 256) (b : Fin 1024) :
    k0_pay1 x g h (ix2 a b) = silu (layerNorm (fun k => x (ix2 a k)) (fun k => g (ix2 0 k)) (fun k => h (ix2 0 k)) b) := by
  pointwise [k0_pay1]
  rfl

variable (m : (ℓ : Loc nD τ sig) → Buf (Elt Ideal) ℓ)

theorem idx : ∀ t : Fin cfg0.N, t.val < 16
    ∧ (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

/-- Row `a` of point `t`'s block, as a row of the array. -/
def row (t : Fin cfg0.N) (a : Fin 256) : Fin 4096 := ⟨t.val * 256 + a.val, by have := (idx t).1; omega⟩

theorem emb0 (t : Fin cfg0.N) (a : Fin 256) (b : Fin 1024) : ((cfg0.win 0).blk t).view.emb (ix2 a b) = ix2 (row t a) b := by
  obtain ⟨-, ⟨e0, e1⟩, -⟩ := idx t
  refine ext2 ?_ ?_
  · show win0_0.index t (0 : Fin 2) * 256 + 1 * a.val = t.val * 256 + a.val; omega
  · show win0_0.index t (1 : Fin 2) * 1024 + 1 * b.val = b.val; omega
theorem emb1 (t : Fin cfg0.N) (a : Fin 1) (b : Fin 1024) : ((cfg0.win 1).blk t).view.emb (ix2 a b) = ix2 a b := by
  obtain ⟨-, -, ⟨e0, e1⟩, -⟩ := idx t
  refine ext2 ?_ ?_
  · show win0_1.index t (0 : Fin 2) * 1 + 1 * a.val = a.val; omega
  · show win0_1.index t (1 : Fin 2) * 1024 + 1 * b.val = b.val; omega
theorem emb2 (t : Fin cfg0.N) (a : Fin 1) (b : Fin 1024) : ((cfg0.win 2).blk t).view.emb (ix2 a b) = ix2 a b := by
  obtain ⟨-, -, -, ⟨e0, e1⟩, -⟩ := idx t
  refine ext2 ?_ ?_
  · show win0_2.index t (0 : Fin 2) * 1 + 1 * a.val = a.val; omega
  · show win0_2.index t (1 : Fin 2) * 1024 + 1 * b.val = b.val; omega
theorem emb3 (t : Fin cfg0.N) (a : Fin 256) (b : Fin 1024) : ((cfg0.win 3).blk t).view.emb (ix2 a b) = ix2 (row t a) b := by
  obtain ⟨-, -, -, -, e0, e1⟩ := idx t
  refine ext2 ?_ ?_
  · show win0_3.index t (0 : Fin 2) * 256 + 1 * a.val = t.val * 256 + a.val; omega
  · show win0_3.index t (1 : Fin 2) * 1024 + 1 * b.val = b.val; omega

theorem iblk0_apply (c : Dev nD) (t : Fin cfg0.N) (a : Fin 256) (b : Fin 1024) : (iblk m c 0 t : Vec Ideal S256x1024 .f32) (ix2 a b)
    = (V m c main_arg0 : Vec Ideal S4096x1024 .f32) (ix2 (row t a) b) :=
  congrArg (V m c main_arg0 : Vec Ideal S4096x1024 .f32) (emb0 t a b)
theorem iblk1_apply (c : Dev nD) (t : Fin cfg0.N) (a : Fin 1) (b : Fin 1024) : (iblk m c 1 t : R1x1024) (ix2 a b)
    = (V m c main_arg1 : R1x1024) (ix2 a b) :=
  congrArg (V m c main_arg1) (emb1 t a b)
theorem iblk2_apply (c : Dev nD) (t : Fin cfg0.N) (a : Fin 1) (b : Fin 1024) : (iblk m c 2 t : R1x1024) (ix2 a b)
    = (V m c main_arg2 : R1x1024) (ix2 a b) :=
  congrArg (V m c main_arg2) (emb2 t a b)

/-! A whole block is read and written. -/

theorem ld0 (x : Vec Ideal S256x1024 .f32) : View.ld x r0_0 = x := by rw [View.ld_unit_zero hz]
theorem ld1 (x : R1x1024) : View.ld x r0_1 = x := by rw [View.ld_unit_zero hz]

theorem final3 (c : Dev nD) : (dats m 0 c).arrAt 3 cfg0.N = G (V m c main_arg0) (V m c main_arg1) (V m c main_arg2) := by
  refine (dats m 0 c).arrAt_eq_of_covers 3 _ (by decide +kernel) fun t _ y => ?_
  rw [after0_3]
  unfold out0_3
  rw [View.canon_unit_zero hz]
  simp only [ld0, ld1]
  obtain ⟨a, b, rfl⟩ := pair y
  rw [emb3]
  show k0_pay1 (iblk m c 0 t) (iblk m c 1 t) (iblk m c 2 t) (ix2 a b) = _
  rw [pay1_apply]
  simp only [iblk0_apply, iblk1_apply, iblk2_apply]
  rfl

/-- The claim of the call: kernel and reference end with the same arrays. -/
theorem algebraic : Cert.algebraic_LnSiluIdeal_LnSiluRefIdeal := fun m ρ m' ρ' _ hag =>
  ⟨fun c => G (V m c main_arg0) (V m c main_arg1) (V m c main_arg2),
   (θ_run _ _ _).mono (fun _ h c => ⟨((h c).1).trans (final3 m c), (h c).2⟩) (Value.run_blocks m ρ),
   (θ_run _ _ _).mono (fun _ h c => ⟨((h c).1).trans (by rw [(hag c).1, (hag c).2.1, (hag c).2.2]; exact ref_eq _ _ _), (h c).2⟩)
         (Cert.LnSiluRefIdeal.Value.run m' ρ')⟩

end Cert.LnSiluProof

end
-- ==== Proof.GateRef.lean ====
/- The gated norm of the rows. What the results are, in formulas, and that the reference computes them. -/
module

public import proofs.«01_k».proof.Proof.Gen.GateRefIdeal.Run
public import proofs.«01_k».proof.Proof.Shared
public import proofs.«01_k».proof.Proof.GateSpec

@[expose] public section

set_option maxRecDepth 16384

noncomputable section

namespace Cert.GateProof

open Cert.GateRefIdeal Idealize.ShloMosaic Idealize.ShloMosaic.TcCoe Idealize.SL.Sem
open Idealize.ShloMosaic.Pointwise Cert.Shared Cert.Gated

/-! Arrays by their shapes. -/
abbrev R4096x2048r := Vec Ideal S4096x2048 .f32
abbrev R1x2048r := Vec Ideal S1x2048 .f32

/-- Entry `b` of row `r` of the result: its group of the gated row, normed. -/
def cell {n : Nat} (y z : Vec Ideal ⟨2, ![n, 2048]⟩ .f32) (w : R1x2048r) (r : Fin n) (b : Fin 2048) : EReal :=
  rms (fun k => gate (y (ix2 r (at4 ⟨b.val / 512, by omega⟩ k))) (z (ix2 r (at4 ⟨b.val / 512, by omega⟩ k))))
    (fun k => w (ix2 0 (at4 ⟨b.val / 512, by omega⟩ k))) ⟨b.val % 512, by omega⟩
theorem cell_at {n : Nat} (y z : Vec Ideal ⟨2, ![n, 2048]⟩ .f32) (w : R1x2048r) (r : Fin n) (s : Fin 4) (d : Fin 512) :
    cell y z w r (at4 s d) = rms (fun k => gate (y (ix2 r (at4 s k))) (z (ix2 r (at4 s k)))) (fun k => w (ix2 0 (at4 s k))) d := by
  have e : (⟨(at4 s d).val / 512, by omega⟩ : Fin 4) = s := Fin.ext (by show (512 * s.val + d.val) / 512 = s.val; omega)
  have e' : (⟨(at4 s d).val % 512, by omega⟩ : Fin 512) = d := Fin.ext (by show (512 * s.val + d.val) % 512 = d.val; omega)
  unfold cell
  rw [e, e']
/-- Every row. -/
def G (y z : R4096x2048r) (w : R1x2048r) : Vec Ideal S4096x2048 .bf16 := fun i => cell y z w (i 0) (i 1)

/-! What the reference computes. -/

def refGate (y0 : R4096x2048r) (y1 : R4096x2048r) : R4096x2048r :=
  mulf (F := Ideal) (φ := .f32) y0 (mulf (F := Ideal) (φ := .f32) y1 (Host.divf (F := Ideal) (φ := .f32) (broadcastInDim S4096x2048 ![] Facts₀.bcast_S_S4096x2048 (constant (F := Ideal) S_ .f32 0x3F800000#32)) (addf (F := Ideal) (φ := .f32) (broadcastInDim S4096x2048 ![] Facts₀.bcast_S_S4096x2048 (constant (F := Ideal) S_ .f32 0x3F800000#32)) (Host.exp (F := Ideal) (φ := .f32) (Host.negf (F := Ideal) (φ := .f32) y1)))))
def refCut (y0 : R4096x2048r) (y1 : R4096x2048r) : Vec Ideal S4096x4x512 .f32 :=
  shapeCast S4096x4x512 (refGate y0 y1) Facts₀.shapeCasts_S4096x2048_S4096x4x512
def refGain (y2 : R1x2048r) : Vec Ideal S4x512 .f32 :=
  shapeCast S4x512 y2 Facts₀.shapeCasts_S1x2048_S4x512
def refNorm (y0 : R4096x2048r) (y1 : R4096x2048r) (y2 : R1x2048r) : Vec Ideal S4096x4x512 .f32 :=
  mulf (F := Ideal) (φ := .f32) (mulf (F := Ideal) (φ := .f32) (refCut y0 y1) (broadcastInDim S4096x4x512 ![0, 1, 2] Facts₀.bcast_S4096x4x1_S4096x4x512_0_1_2 (Host.rsqrt (F := Ideal) (φ := .f32) (addf (F := Ideal) (φ := .f32) (Host.divf (F := Ideal) (φ := .f32) (broadcastInDim S4096x4x1 ![0, 1] Facts₀.bcast_S4096x4_S4096x4x1_0_1 (Host.reduceAdd (F := Ideal) (φ := .f32) (mulf (F := Ideal) (φ := .f32) (refCut y0 y1) (refCut y0 y1)) (constant (F := Ideal) S_ .f32 0x00000000#32) Facts₀.reducesTo_S4096x4x512_S4096x4_d2 Facts₀.h_S_)) (broadcastInDim S4096x4x1 ![] Facts₀.bcast_S_S4096x4x1 (constant (F := Ideal) S_ .f32 0x44000000#32))) (broadcastInDim S4096x4x1 ![] Facts₀.bcast_S_S4096x4x1 (constant (F := Ideal) S_ .f32 0x358637BD#32)))))) (broadcastInDim S4096x4x512 ![0, 1, 2] Facts₀.bcast_S1x4x512_S4096x4x512_0_1_2 (broadcastInDim S1x4x512 ![1, 2] Facts₀.bcast_S4x512_S1x4x512_1_2 (refGain y2)))

theorem refGate_apply (y0 y1 : R4096x2048r) (a : Fin 4096) (b : Fin 2048) : refGate y0 y1 (ix2 a b) = gate (y0 (ix2 a b)) (y1 (ix2 a b)) := by
  pointwise [refGate]
  rfl
theorem refCut_apply (y0 y1 : R4096x2048r) (a : Fin 4096) (s : Fin 4) (d : Fin 512) :
    refCut y0 y1 (ix3 a s d) = gate (y0 (ix2 a (at4 s d))) (y1 (ix2 a (at4 s d))) := by
  rw [← refGate_apply]
  unfold refCut
  rw [Pointwise.shapeCast_apply, Shape.reshapeEquiv_eq_of_vals (y := ix2 a (at4 s d)) (hA := rowMajor_val2 _ _ rfl) (hB := rowMajor_val3 _ _ _ rfl rfl)]
  show a.val * 2048 + (512 * s.val + d.val) = a.val * (4 * 512) + s.val * 512 + d.val
  omega
theorem refGain_apply (y2 : R1x2048r) (s : Fin 4) (d : Fin 512) : refGain y2 (ix2 s d) = y2 (ix2 0 (at4 s d)) := by
  unfold refGain
  rw [Pointwise.shapeCast_apply, Shape.reshapeEquiv_eq_of_vals (y := ix2 0 (at4 s d)) (hA := rowMajor_val2 _ _ rfl) (hB := rowMajor_val2 _ _ rfl)]
  show 0 * 2048 + (512 * s.val + d.val) = s.val * 512 + d.val
  omega
theorem refNorm_apply (y0 y1 : R4096x2048r) (y2 : R1x2048r) (a : Fin 4096) (s : Fin 4) (d : Fin 512) :
    refNorm y0 y1 y2 (ix3 a s d) = rms (fun k => gate (y0 (ix2 a (at4 s k))) (y1 (ix2 a (at4 s k)))) (fun k => y2 (ix2 0 (at4 s k))) d := by
  have h := refCut_apply y0 y1 a
  have h' := refGain_apply y2
  unfold refNorm
  generalize refCut y0 y1 = x at h ⊢
  generalize refGain y2 = x' at h' ⊢
  pointwise
  simp only [h, h']
  rfl
theorem uncut_apply (x : Vec Ideal S4096x4x512 .f32) (h : S4096x4x512.ShapeCasts S4096x2048) (a : Fin 4096) (s : Fin 4) (d : Fin 512) :
    shapeCast S4096x2048 x h (ix2 a (at4 s d)) = x (ix3 a s d) := by
  rw [Pointwise.shapeCast_apply, Shape.reshapeEquiv_eq_of_vals (y := ix3 a s d) (hA := rowMajor_val3 _ _ _ rfl rfl) (hB := rowMajor_val2 _ _ rfl)]
  show a.val * (4 * 512) + s.val * 512 + d.val = a.val * 2048 + (512 * s.val + d.val)
  omega
theorem ref_eq (y0 y1 : R4096x2048r) (y2 : R1x2048r) : truncf (F := Ideal) (φ := .f32) .bf16 (shapeCast S4096x2048 (refNorm y0 y1 y2) Facts₀.shapeCasts_S4096x4x512_S4096x2048) Facts₀.bitsLt_bf16_f32 = G y0 y1 y2 := by
  funext y
  obtain ⟨a, b, rfl⟩ := pair y
  obtain ⟨s, d, rfl⟩ : ∃ s d, b = at4 s d := ⟨_, _, at4_div b⟩
  refine (uncut_apply (refNorm y0 y1 y2) _ a s d).trans ?_
  rw [refNorm_apply]
  exact (cell_at y0 y1 y2 a s d).symm

end Cert.GateProof

end
-- ==== Proof.Gate.lean ====
/- The gated norm of the rows. -/
module

public import proofs.«01_k».proof.Defs
public import proofs.«01_k».proof.Proof.Gen.GateIdeal.Value
public import proofs.«01_k».proof.Proof.Gen.GateRefIdeal.Run
public import proofs.«01_k».proof.Proof.Shared
public import proofs.«01_k».proof.Proof.GateSpec
public import proofs.«01_k».proof.Proof.GateRef

@[expose] public section

set_option maxRecDepth 16384

noncomputable section

namespace Cert.GateProof

open Cert.GateIdeal Cert.GateIdeal.Gen Idealize.ShloMosaic Idealize.ShloMosaic.TcCoe Idealize.SL.Sem
open Idealize.ShloMosaic.Pointwise Cert.Shared Cert.Gated

/-! Arrays by their shapes. -/
abbrev R256x2048 := Vec Ideal S256x2048 .f32
abbrev R1x2048 := Vec Ideal S1x2048 .f32

/-! What one grid point computes. -/

theorem gate_apply (y z : R256x2048) (a : Fin 256) (b : Fin 2048) : k0_pay2 y z (ix2 a b) = gate (y (ix2 a b)) (z (ix2 a b)) := by
  pointwise [k0_pay2]
  rfl
theorem first_apply (y z : R256x2048) (w : R1x2048) (a : Fin 256) (d : Fin 512) :
    k0_pay3 y z w (ix2 a d) = rms (fun k => gate (y (ix2 a (at4 0 k))) (z (ix2 a (at4 0 k)))) (fun k => w (ix2 0 (at4 0 k))) d := by
  have h := gate_apply y z
  unfold k0_pay3
  generalize k0_pay2 y z = x at h ⊢
  pointwise
  simp only [h, at4_zero]
  rfl
theorem second_apply (y z : R256x2048) (w : R1x2048) (a : Fin 256) (d : Fin 512) :
    k0_pay4 y z w (ix2 a d) = rms (fun k => gate (y (ix2 a (at4 1 k))) (z (ix2 a (at4 1 k)))) (fun k => w (ix2 0 (at4 1 k))) d := by
  have h := gate_apply y z
  unfold k0_pay4
  generalize k0_pay2 y z = x at h ⊢
  pointwise
  simp only [h]
  rfl
theorem third_apply (y z : R256x2048) (a : Fin 256) (d : Fin 512) :
    k0_pay5 y z (ix2 a d) = gate (y (ix2 a (at4 2 d))) (z (ix2 a (at4 2 d))) := by
  have h := gate_apply y z
  unfold k0_pay5
  generalize k0_pay2 y z = x at h ⊢
  pointwise
  rw [h]
  rfl
theorem scale_apply (y z : R256x2048) (a : Fin 256) (e : Fin 1) : k0_pay7 y z (ix2 a e) = scale (fun k => gate (y (ix2 a (at4 2 k))) (z (ix2 a (at4 2 k)))) := by
  have h := third_apply y z
  unfold k0_pay7
  generalize k0_pay5 y z = x at h ⊢
  pointwise
  simp only [h]
  rfl
theorem pay1_apply (y z : R256x2048) (w : R1x2048) (a : Fin 256) (d : Fin 512) : ∀ s : Fin 4,
    k0_pay1 w (k0_pay2 y z) (k0_pay3 y z w) (k0_pay4 y z w) (k0_pay5 y z) (k0_pay6 w) (k0_pay7 y z) (ix2 a (at4 s d))
      = rms (fun k => gate (y (ix2 a (at4 s k))) (z (ix2 a (at4 s k)))) (fun k => w (ix2 0 (at4 s k))) d := by
  have h := gate_apply y z
  have h3 := third_apply y z
  have h7 := scale_apply y z a
  intro s
  unfold k0_pay1
  refine (cat4 ![_, _, _, _] concatenates_S256x512_S256x512_S256x512_S256x512_S256x2048_d1 a d s).trans ?_
  revert s
  refine fin4 (first_apply y z w a d) (second_apply y z w a d) ?_ ?_
  · show mulf _ _ (ix2 a d) = _
    generalize k0_pay5 y z = x at h3 ⊢
    generalize k0_pay7 y z = x' at h7 ⊢
    pointwise [k0_pay6]
    rw [h3, h7]
    rfl
  · show mulf _ _ (ix2 a d) = _
    generalize k0_pay2 y z = x at h ⊢
    pointwise
    simp only [h]
    rfl
theorem block_apply (y z : R256x2048) (w : R1x2048) (a : Fin 256) (b : Fin 2048) :
    k0_pay1 w (k0_pay2 y z) (k0_pay3 y z w) (k0_pay4 y z w) (k0_pay5 y z) (k0_pay6 w) (k0_pay7 y z) (ix2 a b) = cell y z w a b := by
  obtain ⟨s, d, rfl⟩ : ∃ s d, b = at4 s d := ⟨_, _, at4_div b⟩
  rw [pay1_apply, cell_at]

variable (m : (ℓ : Loc nD τ sig) → Buf (Elt Ideal) ℓ)

theorem idx : ∀ t : Fin cfg0.N, t.val < 16
    ∧ (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

/-- Row `a` of point `t`'s block, as a row of the array. -/
def row (t : Fin cfg0.N) (a : Fin 256) : Fin 4096 := ⟨t.val * 256 + a.val, by have := (idx t).1; omega⟩

theorem emb0 (t : Fin cfg0.N) (a : Fin 256) (b : Fin 2048) : ((cfg0.win 0).blk t).view.emb (ix2 a b) = ix2 (row t a) b := by
  obtain ⟨-, ⟨e0, e1⟩, -⟩ := idx t
  refine ext2 ?_ ?_
  · show win0_0.index t (0 : Fin 2) * 256 + 1 * a.val = t.val * 256 + a.val; omega
  · show win0_0.index t (1 : Fin 2) * 2048 + 1 * b.val = b.val; omega
theorem emb1 (t : Fin cfg0.N) (a : Fin 256) (b : Fin 2048) : ((cfg0.win 1).blk t).view.emb (ix2 a b) = ix2 (row t a) b := by
  obtain ⟨-, -, ⟨e0, e1⟩, -⟩ := idx t
  refine ext2 ?_ ?_
  · show win0_1.index t (0 : Fin 2) * 256 + 1 * a.val = t.val * 256 + a.val; omega
  · show win0_1.index t (1 : Fin 2) * 2048 + 1 * b.val = b.val; omega
theorem emb2 (t : Fin cfg0.N) (a : Fin 1) (b : Fin 2048) : ((cfg0.win 2).blk t).view.emb (ix2 a b) = ix2 a b := by
  obtain ⟨-, -, -, ⟨e0, e1⟩, -⟩ := idx t
  refine ext2 ?_ ?_
  · show win0_2.index t (0 : Fin 2) * 1 + 1 * a.val = a.val; omega
  · show win0_2.index t (1 : Fin 2) * 2048 + 1 * b.val = b.val; omega
theorem emb3 (t : Fin cfg0.N) (a : Fin 256) (b : Fin 2048) : ((cfg0.win 3).blk t).view.emb (ix2 a b) = ix2 (row t a) b := by
  obtain ⟨-, -, -, -, e0, e1⟩ := idx t
  refine ext2 ?_ ?_
  · show win0_3.index t (0 : Fin 2) * 256 + 1 * a.val = t.val * 256 + a.val; omega
  · show win0_3.index t (1 : Fin 2) * 2048 + 1 * b.val = b.val; omega

theorem iblk0_apply (c : Dev nD) (t : Fin cfg0.N) (a : Fin 256) (b : Fin 2048) : (iblk m c 0 t : R256x2048) (ix2 a b)
    = (V m c main_arg0 : Vec Ideal S4096x2048 .f32) (ix2 (row t a) b) :=
  congrArg (V m c main_arg0 : Vec Ideal S4096x2048 .f32) (emb0 t a b)
theorem iblk1_apply (c : Dev nD) (t : Fin cfg0.N) (a : Fin 256) (b : Fin 2048) : (iblk m c 1 t : R256x2048) (ix2 a b)
    = (V m c main_arg1 : Vec Ideal S4096x2048 .f32) (ix2 (row t a) b) :=
  congrArg (V m c main_arg1 : Vec Ideal S4096x2048 .f32) (emb1 t a b)
theorem iblk2_apply (c : Dev nD) (t : Fin cfg0.N) (a : Fin 1) (b : Fin 2048) : (iblk m c 2 t : R1x2048) (ix2 a b)
    = (V m c main_arg2 : R1x2048) (ix2 a b) :=
  congrArg (V m c main_arg2) (emb2 t a b)

/-! A whole block is read and written. -/

theorem ld0 (x : R256x2048) : View.ld x r0_0 = x := by rw [View.ld_unit_zero hz]
theorem ld1 (x : R1x2048) : View.ld x r0_1 = x := by rw [View.ld_unit_zero hz]

theorem final3 (c : Dev nD) : (dats m 0 c).arrAt 3 cfg0.N = G (V m c main_arg0) (V m c main_arg1) (V m c main_arg2) := by
  refine (dats m 0 c).arrAt_eq_of_covers 3 _ (by decide +kernel) fun t _ y => ?_
  rw [after0_3]
  unfold out0_3
  rw [View.canon_unit_zero hz]
  simp only [ld0, ld1]
  obtain ⟨a, b, rfl⟩ := pair y
  rw [emb3]
  show k0_pay1 (iblk m c 2 t) (k0_pay2 (iblk m c 0 t) (iblk m c 1 t)) (k0_pay3 (iblk m c 0 t) (iblk m c 1 t) (iblk m c 2 t)) (k0_pay4 (iblk m c 0 t) (iblk m c 1 t) (iblk m c 2 t)) (k0_pay5 (iblk m c 0 t) (iblk m c 1 t)) (k0_pay6 (iblk m c 2 t)) (k0_pay7 (iblk m c 0 t) (iblk m c 1 t)) (ix2 a b) = _
  rw [block_apply, cell]
  simp only [iblk0_apply, iblk1_apply, iblk2_apply]
  rfl

/-- The claim of the call: kernel and reference end with the same arrays. -/
theorem algebraic : Cert.algebraic_GateIdeal_GateRefIdeal := fun m ρ m' ρ' _ hag =>
  ⟨fun c => G (V m c main_arg0) (V m c main_arg1) (V m c main_arg2),
   (θ_run _ _ _).mono (fun _ h c => ⟨((h c).1).trans (final3 m c), (h c).2⟩) (Value.run_blocks m ρ),
   (θ_run _ _ _).mono (fun _ h c => ⟨((h c).1).trans (by rw [(hag c).1, (hag c).2.1, (hag c).2.2]; exact ref_eq _ _ _), (h c).2⟩)
         (Cert.GateRefIdeal.Value.run m' ρ')⟩

end Cert.GateProof

end
-- ==== Proof.MergeFwdRef.lean ====
/- The gated merge of the three branches. What the results are, in formulas, and that the reference computes them. -/
module

public import proofs.«01_k».proof.Proof.Gen.MergeFwdRefIdeal.Run
public import proofs.«01_k».proof.Proof.Shared
public import proofs.«01_k».proof.Proof.RowSpec
public import proofs.«01_k».proof.Proof.MergeSpec

@[expose] public section

set_option maxRecDepth 16384

noncomputable section

namespace Cert.MergeFwdProof

open Cert.MergeFwdRefIdeal Idealize.ShloMosaic Idealize.ShloMosaic.TcCoe Idealize.SL.Sem
open Idealize.ShloMosaic.Pointwise Cert.Shared Cert.Rows Cert.MergeProof

/-! Arrays by their shapes. -/
abbrev R3x1024r := Vec Ideal S3x1024 .f32
abbrev R4096x3072r := Vec Ideal S4096x3072 .f32

/-- The merge at row `r`, column `d`: the branches' entries, each times its gate, added. -/
def mergeCell {n : Nat} (p : Vec Ideal ⟨2, ![n, 3072]⟩ .f32) (x y z : Vec Ideal ⟨2, ![n, 1024]⟩ .f32) (g : R3x1024r) (r : Fin n) (d : Fin 1024) : EReal :=
  Ideal.logistic (p (ix2 r (col 0 d)) + g (ix2 0 d)) * x (ix2 r d) + Ideal.logistic (p (ix2 r (col 1 d)) + g (ix2 1 d)) * y (ix2 r d) + Ideal.logistic (p (ix2 r (col 2 d)) + g (ix2 2 d)) * z (ix2 r d)
/-- The merge of every row. -/
def G (p : R4096x3072r) (x y z : Vec Ideal S4096x1024 .f32) (g : R3x1024r) : Vec Ideal S4096x1024 .bf16 := fun i => mergeCell p x y z g (i 0) (i 1)

/-! What the reference computes. -/

def refGates (y0 : R4096x3072r) (y4 : R3x1024r) : Vec Ideal S4096x3x1024 .f32 :=
  Host.divf (F := Ideal) (φ := .f32) (broadcastInDim S4096x3x1024 ![] Facts₀.bcast_S_S4096x3x1024 (constant (F := Ideal) S_ .f32 0x3F800000#32)) (addf (F := Ideal) (φ := .f32) (broadcastInDim S4096x3x1024 ![] Facts₀.bcast_S_S4096x3x1024 (constant (F := Ideal) S_ .f32 0x3F800000#32)) (Host.exp (F := Ideal) (φ := .f32) (Host.negf (F := Ideal) (φ := .f32) (addf (F := Ideal) (φ := .f32) (shapeCast S4096x3x1024 y0 Facts₀.shapeCasts_S4096x3072_S4096x3x1024) (broadcastInDim S4096x3x1024 ![0, 1, 2] Facts₀.bcast_S1x3x1024_S4096x3x1024_0_1_2 (broadcastInDim S1x3x1024 ![1, 2] Facts₀.bcast_S3x1024_S1x3x1024_1_2 y4))))))

theorem cut_apply (y0 : R4096x3072r) (h : S4096x3072.ShapeCasts S4096x3x1024) (a : Fin 4096) (j : Fin 3) (d : Fin 1024) :
    shapeCast S4096x3x1024 y0 h (ix3 a j d) = y0 (ix2 a (col j d)) := by
  rw [Pointwise.shapeCast_apply, Shape.reshapeEquiv_eq_of_vals (y := ix2 a (col j d)) (hA := rowMajor_val2 _ _ rfl) (hB := rowMajor_val3 _ _ _ rfl rfl)]
  show a.val * 3072 + (1024 * j.val + d.val) = a.val * (3 * 1024) + j.val * 1024 + d.val
  omega
theorem refGates_apply (y0 : R4096x3072r) (y4 : R3x1024r) (a : Fin 4096) (j : Fin 3) (b : Fin 1024) :
    refGates y0 y4 (ix3 a j b) = Ideal.logistic (y0 (ix2 a (col j b)) + y4 (ix2 j b)) := by
  unfold refGates
  rw [← cut_apply y0 Facts₀.shapeCasts_S4096x3072_S4096x3x1024]
  generalize shapeCast S4096x3x1024 y0 Facts₀.shapeCasts_S4096x3072_S4096x3x1024 = z
  pointwise
  rfl
theorem ref_eq (y0 : R4096x3072r) (y1 y2 y3 : Vec Ideal S4096x1024 .f32) (y4 : R3x1024r) : truncf (F := Ideal) (φ := .f32) .bf16 (addf (F := Ideal) (φ := .f32) (addf (F := Ideal) (φ := .f32) (mulf (F := Ideal) (φ := .f32) (shapeCast S4096x1024 (extractStridedSlice S4096x1x1024 ![0, 0, 0] (refGates y0 y4) Facts₀.slices_S4096x3x1024_S4096x1x1024_0_0_0) Facts₀.shapeCasts_S4096x1x1024_S4096x1024) y1) (mulf (F := Ideal) (φ := .f32) (shapeCast S4096x1024 (extractStridedSlice S4096x1x1024 ![0, 1, 0] (refGates y0 y4) Facts₀.slices_S4096x3x1024_S4096x1x1024_0_1_0) Facts₀.shapeCasts_S4096x1x1024_S4096x1024) y2)) (mulf (F := Ideal) (φ := .f32) (shapeCast S4096x1024 (extractStridedSlice S4096x1x1024 ![0, 2, 0] (refGates y0 y4) Facts₀.slices_S4096x3x1024_S4096x1x1024_0_2_0) Facts₀.shapeCasts_S4096x1x1024_S4096x1024) y3)) Facts₀.bitsLt_bf16_f32 = G y0 y1 y2 y3 y4 := by
  funext y
  obtain ⟨a, b, rfl⟩ := pair y
  have e := fun j => refGates_apply y0 y4 a j b
  generalize refGates y0 y4 = z at e ⊢
  pointwise
  rw [e, e, e]
  rfl

end Cert.MergeFwdProof

end
-- ==== Proof.MergeFwd.lean ====
/- The gated merge of the three branches. -/
module

public import proofs.«01_k».proof.Defs
public import proofs.«01_k».proof.Proof.Gen.MergeFwdIdeal.Value
public import proofs.«01_k».proof.Proof.Gen.MergeFwdRefIdeal.Run
public import proofs.«01_k».proof.Proof.Shared
public import proofs.«01_k».proof.Proof.RowSpec
public import proofs.«01_k».proof.Proof.MergeSpec
public import proofs.«01_k».proof.Proof.MergeFwdRef

@[expose] public section

set_option maxRecDepth 16384

noncomputable section

namespace Cert.MergeFwdProof

open Cert.MergeFwdIdeal Cert.MergeFwdIdeal.Gen Idealize.ShloMosaic Idealize.ShloMosaic.TcCoe Idealize.SL.Sem
open Idealize.ShloMosaic.Pointwise Cert.Shared Cert.Rows Cert.MergeProof

/-! Arrays by their shapes. -/
abbrev R4096x1024 := Vec Ideal S4096x1024 .f32
abbrev R256x1024 := Vec Ideal S256x1024 .f32
abbrev R3x1024 := Vec Ideal S3x1024 .f32

/-! What one grid point computes. -/

theorem pay1_apply (p : Vec Ideal S256x3072 .f32) (x y z : R256x1024) (g : R3x1024) (a : Fin 256) (b : Fin 1024) :
    k0_pay1 p x y z g (ix2 a b) = mergeCell p x y z g a b := by
  pointwise [k0_pay1]
  rw [show (⟨b.val, by omega⟩ : Fin 3072) = col 0 b from Fin.ext (by show b.val = 1024 * 0 + b.val; omega)]
  rfl

variable (m : (ℓ : Loc nD τ sig) → Buf (Elt Ideal) ℓ)

theorem idx : ∀ t : Fin cfg0.N, t.val < 16
    ∧ (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

/-- Row `a` of point `t`'s block, as a row of the array. -/
def row (t : Fin cfg0.N) (a : Fin 256) : Fin 4096 := ⟨t.val * 256 + a.val, by have := (idx t).1; omega⟩

theorem emb0 (t : Fin cfg0.N) (a : Fin 256) (b : Fin 3072) : ((cfg0.win 0).blk t).view.emb (ix2 a b) = ix2 (row t a) b := by
  obtain ⟨-, ⟨e0, e1⟩, -⟩ := idx t
  refine ext2 ?_ ?_
  · show win0_0.index t (0 : Fin 2) * 256 + 1 * a.val = t.val * 256 + a.val; omega
  · show win0_0.index t (1 : Fin 2) * 3072 + 1 * b.val = b.val; omega
theorem emb1 (t : Fin cfg0.N) (a : Fin 256) (b : Fin 1024) : ((cfg0.win 1).blk t).view.emb (ix2 a b) = ix2 (row t a) b := by
  obtain ⟨-, -, ⟨e0, e1⟩, -⟩ := idx t
  refine ext2 ?_ ?_
  · show win0_1.index t (0 : Fin 2) * 256 + 1 * a.val = t.val * 256 + a.val; omega
  · show win0_1.index t (1 : Fin 2) * 1024 + 1 * b.val = b.val; omega
theorem emb2 (t : Fin cfg0.N) (a : Fin 256) (b : Fin 1024) : ((cfg0.win 2).blk t).view.emb (ix2 a b) = ix2 (row t a) b := by
  obtain ⟨-, -, -, ⟨e0, e1⟩, -⟩ := idx t
  refine ext2 ?_ ?_
  · show win0_2.index t (0 : Fin 2) * 256 + 1 * a.val = t.val * 256 + a.val; omega
  · show win0_2.index t (1 : Fin 2) * 1024 + 1 * b.val = b.val; omega
theorem emb3 (t : Fin cfg0.N) (a : Fin 256) (b : Fin 1024) : ((cfg0.win 3).blk t).view.emb (ix2 a b) = ix2 (row t a) b := by
  obtain ⟨-, -, -, -, ⟨e0, e1⟩, -⟩ := idx t
  refine ext2 ?_ ?_
  · show win0_3.index t (0 : Fin 2) * 256 + 1 * a.val = t.val * 256 + a.val; omega
  · show win0_3.index t (1 : Fin 2) * 1024 + 1 * b.val = b.val; omega
theorem emb4 (t : Fin cfg0.N) (a : Fin 3) (b : Fin 1024) : ((cfg0.win 4).blk t).view.emb (ix2 a b) = ix2 a b := by
  obtain ⟨-, -, -, -, -, ⟨e0, e1⟩, -⟩ := idx t
  refine ext2 ?_ ?_
  · show win0_4.index t (0 : Fin 2) * 3 + 1 * a.val = a.val; omega
  · show win0_4.index t (1 : Fin 2) * 1024 + 1 * b.val = b.val; omega
theorem emb5 (t : Fin cfg0.N) (a : Fin 256) (b : Fin 1024) : ((cfg0.win 5).blk t).view.emb (ix2 a b) = ix2 (row t a) b := by
  obtain ⟨-, -, -, -, -, -, e0, e1⟩ := idx t
  refine ext2 ?_ ?_
  · show win0_5.index t (0 : Fin 2) * 256 + 1 * a.val = t.val * 256 + a.val; omega
  · show win0_5.index t (1 : Fin 2) * 1024 + 1 * b.val = b.val; omega

theorem iblk0_apply (c : Dev nD) (t : Fin cfg0.N) (a : Fin 256) (b : Fin 3072) : (iblk m c 0 t : Vec Ideal S256x3072 .f32) (ix2 a b)
    = (V m c main_arg0 : Vec Ideal S4096x3072 .f32) (ix2 (row t a) b) :=
  congrArg (V m c main_arg0 : Vec Ideal S4096x3072 .f32) (emb0 t a b)
theorem iblk1_apply (c : Dev nD) (t : Fin cfg0.N) (a : Fin 256) (b : Fin 1024) : (iblk m c 1 t : R256x1024) (ix2 a b)
    = (V m c main_arg1 : R4096x1024) (ix2 (row t a) b) :=
  congrArg (V m c main_arg1) (emb1 t a b)
theorem iblk2_apply (c : Dev nD) (t : Fin cfg0.N) (a : Fin 256) (b : Fin 1024) : (iblk m c 2 t : R256x1024) (ix2 a b)
    = (V m c main_arg2 : R4096x1024) (ix2 (row t a) b) :=
  congrArg (V m c main_arg2) (emb2 t a b)
theorem iblk3_apply (c : Dev nD) (t : Fin cfg0.N) (a : Fin 256) (b : Fin 1024) : (iblk m c 3 t : R256x1024) (ix2 a b)
    = (V m c main_arg3 : R4096x1024) (ix2 (row t a) b) :=
  congrArg (V m c main_arg3) (emb3 t a b)
theorem iblk4_apply (c : Dev nD) (t : Fin cfg0.N) (a : Fin 3) (b : Fin 1024) : (iblk m c 4 t : R3x1024) (ix2 a b)
    = (V m c main_arg4 : R3x1024) (ix2 a b) :=
  congrArg (V m c main_arg4) (emb4 t a b)

/-! A whole block is read and written. -/

theorem ld0 (x : Vec Ideal S256x3072 .f32) : View.ld x r0_0 = x := by rw [View.ld_unit_zero hz]
theorem ld1 (x : R256x1024) : View.ld x r0_1 = x := by rw [View.ld_unit_zero hz]
theorem ld2 (x : R3x1024) : View.ld x r0_2 = x := by rw [View.ld_unit_zero hz]

theorem final5 (c : Dev nD) : (dats m 0 c).arrAt 5 cfg0.N = G (V m c main_arg0) (V m c main_arg1) (V m c main_arg2) (V m c main_arg3) (V m c main_arg4) := by
  refine (dats m 0 c).arrAt_eq_of_covers 5 _ (by decide +kernel) fun t _ y => ?_
  rw [after0_5]
  unfold out0_5
  rw [View.canon_unit_zero hz]
  simp only [ld0, ld1, ld2]
  obtain ⟨a, b, rfl⟩ := pair y
  rw [emb5]
  show k0_pay1 (iblk m c 0 t) (iblk m c 1 t) (iblk m c 2 t) (iblk m c 3 t) (iblk m c 4 t) (ix2 a b) = _
  rw [pay1_apply, mergeCell]
  simp only [iblk0_apply, iblk1_apply, iblk2_apply, iblk3_apply, iblk4_apply]
  rfl

/-- The claim of the call: kernel and reference end with the same arrays. -/
theorem algebraic : Cert.algebraic_MergeFwdIdeal_MergeFwdRefIdeal := fun m ρ m' ρ' _ hag =>
  ⟨fun c => G (V m c main_arg0) (V m c main_arg1) (V m c main_arg2) (V m c main_arg3) (V m c main_arg4),
   (θ_run _ _ _).mono (fun _ h c => ⟨((h c).1).trans (final5 m c), (h c).2⟩) (Value.run_blocks m ρ),
   (θ_run _ _ _).mono (fun _ h c => ⟨((h c).1).trans (by rw [(hag c).1, (hag c).2.1, (hag c).2.2.1, (hag c).2.2.2.1, (hag c).2.2.2.2]; exact ref_eq _ _ _ _ _), (h c).2⟩)
         (Cert.MergeFwdRefIdeal.Value.run m' ρ')⟩

end Cert.MergeFwdProof

end
-- ==== Proof.AdamSpec.lean ====
/- One step of the optimiser at one entry of a weight: the mathematics, apart from kernel and reference. -/
module

public import Idealize.ShloMosaic.Lib.Pointwise

@[expose] public section

set_option maxRecDepth 16384

noncomputable section

namespace Cert.Adam

open Idealize.ShloMosaic

/-- The running mean of the gradient after the step, from the gradient `g` and the mean `m` before it. -/
def newM (g m : EReal) : EReal := Ideal.ofBits .f32 0x3F666666#32 * m + Ideal.ofBits .f32 0x3DCCCCCD#32 * g

/-- The running mean of the squared gradient after the step, from the gradient `g` and the mean `v` before it. -/
def newV (g v : EReal) : EReal := Ideal.ofBits .f32 0x3F7FBE77#32 * v + Ideal.ofBits .f32 0x3A83126F#32 * (g * g)

/-- What the step adds to the weight `w`. -/
def delta (w g m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32)
      + Ideal.ofBits .f32 0x3C23D70A#32 * w)

end Cert.Adam

end
-- ==== Proof.AdamSq.lean ====
/- The optimiser on a square weight: what the kernel leaves in its four results, and that the reference leaves the same. -/
module

public import proofs.«01_k».proof.Defs
public import proofs.«01_k».proof.Proof.Gen.AdamSqIdeal.Value
public import proofs.«01_k».proof.Proof.Gen.AdamSqRefIdeal.Run
public import proofs.«01_k».proof.Proof.Shared
public import proofs.«01_k».proof.Proof.AdamSpec

@[expose] public section

set_option maxRecDepth 16384

noncomputable section

namespace Cert.AdamSqProof

open Idealize.ShloMosaic Idealize.ShloMosaic.TcCoe Idealize.SL.Sem
open Idealize.ShloMosaic.Pointwise Cert.Shared Cert.Adam

section

open Cert.AdamSqIdeal Cert.AdamSqIdeal.Gen

/-! Arrays by their shapes. -/
abbrev R4x128x1024 := Vec Ideal S4x128x1024 .f32
abbrev B8x128x1024 := Vec Ideal S8x128x1024 .bf16
abbrev R128x1024 := Vec Ideal S128x1024 .f32
abbrev R1x128x1024 := Vec Ideal S1x128x1024 .f32

/-- The gradient: the devices' parts, added. -/
def grad (r : B8x128x1024) : R128x1024 := fun i => ∑ s : Fin 8, r (ix3 s (i 0) (i 1))
/-- The three arrays the step makes of it for the first layer. -/
def mean (r : B8x128x1024) (m : R4x128x1024) : R128x1024 := fun i => newM (grad r i) (m (ix3 0 (i 0) (i 1)))
def square (r : B8x128x1024) (v : R4x128x1024) : R128x1024 := fun i => newV (grad r i) (v (ix3 0 (i 0) (i 1)))
def step (r : B8x128x1024) (w m v : R4x128x1024) : R128x1024 :=
  fun i => delta (w (ix3 0 (i 0) (i 1))) (grad r i) (m (ix3 0 (i 0) (i 1))) (v (ix3 0 (i 0) (i 1)))

/-! What one grid point computes. -/

theorem g_apply (x : B8x128x1024) (a : Fin 128) (b : Fin 1024) : k0_pay5 x (ix2 a b) = ∑ s : Fin 8, x (ix3 s a b) := by
  rw [Fin.sum_univ_eight]
  pointwise [k0_pay5]
theorem m_apply (x : B8x128x1024) (y : R1x128x1024) (a : Fin 128) (b : Fin 1024) :
    k0_pay6 x y (ix2 a b) = newM (∑ s : Fin 8, x (ix3 s a b)) (y (ix3 0 a b)) := by
  have e := g_apply x a b
  unfold k0_pay6
  generalize k0_pay5 x = g at e ⊢
  pointwise
  rw [e]
  rfl
theorem v_apply (x : B8x128x1024) (y : R1x128x1024) (a : Fin 128) (b : Fin 1024) :
    k0_pay1 (k0_pay4 y) (k0_pay5 x) k0_pay7 (ix2 a b) = newV (∑ s : Fin 8, x (ix3 s a b)) (y (ix3 0 a b)) := by
  have e := g_apply x a b
  generalize k0_pay5 x = g at e ⊢
  pointwise [k0_pay1, k0_pay4, k0_pay7]
  rw [e]
  rfl
theorem d_apply (x : B8x128x1024) (y1 y2 y3 : R1x128x1024) (a : Fin 128) (b : Fin 1024) :
    k0_pay2 (k0_pay3 y1) (k0_pay4 y3) (k0_pay5 x) (k0_pay6 x y2) k0_pay7 (ix2 a b)
      = delta (y1 (ix3 0 a b)) (∑ s : Fin 8, x (ix3 s a b)) (y2 (ix3 0 a b)) (y3 (ix3 0 a b)) := by
  have e := m_apply x y2 a b
  have e' := v_apply x y3 a b
  unfold k0_pay2
  generalize k0_pay6 x y2 = p at e ⊢
  generalize k0_pay1 (k0_pay4 y3) (k0_pay5 x) k0_pay7 = q at e' ⊢
  pointwise [k0_pay3]
  rw [e, e']
  rfl

variable (m : (ℓ : Loc nD τ sig) → Buf (Elt Ideal) ℓ)

/-! The blocks: point `t` has rows `128 t … 128 t + 127`. -/

theorem idx : ∀ t : Fin cfg0.N, t.val < 1
    ∧ (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Row `a` of point `t`'s block, as a row of the array. -/
def row (t : Fin cfg0.N) (a : Fin 128) : Fin 128 := ⟨t.val * 128 + a.val, by have := (idx t).1; omega⟩

theorem emb0 (t : Fin cfg0.N) (s : Fin 8) (a : Fin 128) (b : Fin 1024) : ((cfg0.win 0).blk t).view.emb (ix3 s a b) = ix3 s (row t a) b := by
  obtain ⟨-, ⟨e0, e1, e2⟩, -⟩ := idx t
  refine ext3 ?_ ?_ ?_
  · show win0_0.index t (0 : Fin 3) * 8 + 1 * s.val = s.val; omega
  · show win0_0.index t (1 : Fin 3) * 128 + 1 * a.val = t.val * 128 + a.val; omega
  · show win0_0.index t (2 : Fin 3) * 1024 + 1 * b.val = b.val; omega
theorem emb1 (t : Fin cfg0.N) (a : Fin 128) (b : Fin 1024) : ((cfg0.win 1).blk t).view.emb (ix3 0 a b) = ix3 0 (row t a) b := by
  obtain ⟨-, -, ⟨e0, e1, e2⟩, -⟩ := idx t
  refine ext3 ?_ ?_ ?_
  · show win0_1.index t (0 : Fin 3) * 1 + 1 * 0 = 0; omega
  · show win0_1.index t (1 : Fin 3) * 128 + 1 * a.val = t.val * 128 + a.val; omega
  · show win0_1.index t (2 : Fin 3) * 1024 + 1 * b.val = b.val; omega
theorem emb2 (t : Fin cfg0.N) (a : Fin 128) (b : Fin 1024) : ((cfg0.win 2).blk t).view.emb (ix3 0 a b) = ix3 0 (row t a) b := by
  obtain ⟨-, -, -, ⟨e0, e1, e2⟩, -⟩ := idx t
  refine ext3 ?_ ?_ ?_
  · show win0_2.index t (0 : Fin 3) * 1 + 1 * 0 = 0; omega
  · show win0_2.index t (1 : Fin 3) * 128 + 1 * a.val = t.val * 128 + a.val; omega
  · show win0_2.index t (2 : Fin 3) * 1024 + 1 * b.val = b.val; omega
theorem emb3 (t : Fin cfg0.N) (a : Fin 128) (b : Fin 1024) : ((cfg0.win 3).blk t).view.emb (ix3 0 a b) = ix3 0 (row t a) b := by
  obtain ⟨-, -, -, -, ⟨e0, e1, e2⟩, -⟩ := idx t
  refine ext3 ?_ ?_ ?_
  · show win0_3.index t (0 : Fin 3) * 1 + 1 * 0 = 0; omega
  · show win0_3.index t (1 : Fin 3) * 128 + 1 * a.val = t.val * 128 + a.val; omega
  · show win0_3.index t (2 : Fin 3) * 1024 + 1 * b.val = b.val; omega
theorem emb4 (t : Fin cfg0.N) (a : Fin 128) (b : Fin 1024) : ((cfg0.win 4).blk t).view.emb (ix2 a b) = ix2 (row t a) b := by
  obtain ⟨-, -, -, -, -, ⟨e0, e1⟩, -⟩ := idx t
  refine ext2 ?_ ?_
  · show win0_4.index t (0 : Fin 2) * 128 + 1 * a.val = t.val * 128 + a.val; omega
  · show win0_4.index t (1 : Fin 2) * 1024 + 1 * b.val = b.val; omega
theorem emb5 (t : Fin cfg0.N) (a : Fin 128) (b : Fin 1024) : ((cfg0.win 5).blk t).view.emb (ix2 a b) = ix2 (row t a) b := by
  obtain ⟨-, -, -, -, -, -, ⟨e0, e1⟩, -⟩ := idx t
  refine ext2 ?_ ?_
  · show win0_5.index t (0 : Fin 2) * 128 + 1 * a.val = t.val * 128 + a.val; omega
  · show win0_5.index t (1 : Fin 2) * 1024 + 1 * b.val = b.val; omega
theorem emb6 (t : Fin cfg0.N) (a : Fin 128) (b : Fin 1024) : ((cfg0.win 6).blk t).view.emb (ix2 a b) = ix2 (row t a) b := by
  obtain ⟨-, -, -, -, -, -, -, ⟨e0, e1⟩, -⟩ := idx t
  refine ext2 ?_ ?_
  · show win0_6.index t (0 : Fin 2) * 128 + 1 * a.val = t.val * 128 + a.val; omega
  · show win0_6.index t (1 : Fin 2) * 1024 + 1 * b.val = b.val; omega
theorem emb7 (t : Fin cfg0.N) (a : Fin 128) (b : Fin 1024) : ((cfg0.win 7).blk t).view.emb (ix2 a b) = ix2 (row t a) b := by
  obtain ⟨-, -, -, -, -, -, -, -, e0, e1⟩ := idx t
  refine ext2 ?_ ?_
  · show win0_7.index t (0 : Fin 2) * 128 + 1 * a.val = t.val * 128 + a.val; omega
  · show win0_7.index t (1 : Fin 2) * 1024 + 1 * b.val = b.val; omega

theorem iblk0_apply (c : Dev nD) (t : Fin cfg0.N) (s : Fin 8) (a : Fin 128) (b : Fin 1024) : (iblk m c 0 t : B8x128x1024) (ix3 s a b)
    = (V m c main_arg0 : B8x128x1024) (ix3 s (row t a) b) :=
  congrArg (V m c main_arg0) (emb0 t s a b)
theorem iblk1_apply (c : Dev nD) (t : Fin cfg0.N) (a : Fin 128) (b : Fin 1024) : (iblk m c 1 t : R1x128x1024) (ix3 0 a b)
    = (V m c main_arg1 : R4x128x1024) (ix3 0 (row t a) b) :=
  congrArg (V m c main_arg1) (emb1 t a b)
theorem iblk2_apply (c : Dev nD) (t : Fin cfg0.N) (a : Fin 128) (b : Fin 1024) : (iblk m c 2 t : R1x128x1024) (ix3 0 a b)
    = (V m c main_arg2 : R4x128x1024) (ix3 0 (row t a) b) :=
  congrArg (V m c main_arg2) (emb2 t a b)
theorem iblk3_apply (c : Dev nD) (t : Fin cfg0.N) (a : Fin 128) (b : Fin 1024) : (iblk m c 3 t : R1x128x1024) (ix3 0 a b)
    = (V m c main_arg3 : R4x128x1024) (ix3 0 (row t a) b) :=
  congrArg (V m c main_arg3) (emb3 t a b)

/-! The four results after the run; a whole block is read and written. -/

theorem ld0 (x : B8x128x1024) : View.ld x r0_0 = x := by rw [View.ld_unit_zero hz3]
theorem ld1 (x : R1x128x1024) : View.ld x r0_1 = x := by rw [View.ld_unit_zero hz3]

theorem final4 (c : Dev nD) : (dats m 0 c).arrAt 4 cfg0.N = grad (V m c main_arg0) := by
  refine (dats m 0 c).arrAt_eq_of_covers 4 _ (by decide +kernel) fun t _ y => ?_
  rw [after0_4]
  unfold out0_4
  rw [View.canon_unit_zero hz]
  unfold k0_pay9
  simp only [ld0, ld1]
  obtain ⟨a, b, rfl⟩ := pair y
  rw [emb4]
  show k0_pay5 (iblk m c 0 t) (ix2 a b) = _
  rw [g_apply]
  simp only [iblk0_apply]
  rfl

theorem final5 (c : Dev nD) : (dats m 0 c).arrAt 5 cfg0.N = step (V m c main_arg0) (V m c main_arg1) (V m c main_arg2) (V m c main_arg3) := by
  refine (dats m 0 c).arrAt_eq_of_covers 5 _ (by decide +kernel) fun t _ y => ?_
  rw [after0_5]
  unfold out0_5
  rw [View.canon_unit_zero hz]
  unfold k0_pay8 k0_pay9 k0_pay10 k0_pay11
  simp only [ld0, ld1]
  obtain ⟨a, b, rfl⟩ := pair y
  rw [emb5]
  show k0_pay2 (k0_pay3 (iblk m c 1 t)) (k0_pay4 (iblk m c 3 t)) (k0_pay5 (iblk m c 0 t)) (k0_pay6 (iblk m c 0 t) (iblk m c 2 t)) k0_pay7 (ix2 a b) = _
  rw [d_apply]
  simp only [iblk0_apply, iblk1_apply, iblk2_apply, iblk3_apply]
  rfl

theorem final6 (c : Dev nD) : (dats m 0 c).arrAt 6 cfg0.N = mean (V m c main_arg0) (V m c main_arg2) := by
  refine (dats m 0 c).arrAt_eq_of_covers 6 _ (by decide +kernel) fun t _ y => ?_
  rw [after0_6]
  unfold out0_6
  rw [View.canon_unit_zero hz]
  unfold k0_pay10
  simp only [ld0, ld1]
  obtain ⟨a, b, rfl⟩ := pair y
  rw [emb6]
  show k0_pay6 (iblk m c 0 t) (iblk m c 2 t) (ix2 a b) = _
  rw [m_apply]
  simp only [iblk0_apply, iblk2_apply]
  rfl

theorem final7 (c : Dev nD) : (dats m 0 c).arrAt 7 cfg0.N = square (V m c main_arg0) (V m c main_arg3) := by
  refine (dats m 0 c).arrAt_eq_of_covers 7 _ (by decide +kernel) fun t _ y => ?_
  rw [after0_7]
  unfold out0_7
  rw [View.canon_unit_zero hz]
  unfold k0_pay8 k0_pay9 k0_pay11
  simp only [ld0, ld1]
  obtain ⟨a, b, rfl⟩ := pair y
  rw [emb7]
  show k0_pay1 (k0_pay4 (iblk m c 3 t)) (k0_pay5 (iblk m c 0 t)) k0_pay7 (ix2 a b) = _
  rw [v_apply]
  simp only [iblk0_apply, iblk3_apply]
  rfl

end

section

open Cert.AdamSqRefIdeal

/-! What the reference computes. -/

theorem ref_grad (r : B8x128x1024) : Host.reduceAdd (F := Ideal) (extf (F := Ideal) (φ := .bf16) .f32 r Facts₀.bitsLt_bf16_f32) (constant (F := Ideal) S_ .f32 0x00000000#32) Facts₀.reducesTo_S8x128x1024_S128x1024_d0 Facts₀.h_S_ = grad r := by
  funext y
  obtain ⟨a, b, rfl⟩ := pair y
  pointwise
  rfl
/-- The two means and the step from the gradient `g`, as the reference composes them. -/
def refM (g : R128x1024) (m : R4x128x1024) : R128x1024 :=
  addf (F := Ideal) (φ := .f32) (mulf (F := Ideal) (φ := .f32) (broadcastInDim S128x1024 ![] Facts₀.bcast_S_S128x1024 (constant (F := Ideal) S_ .f32 0x3F666666#32)) (shapeCast S128x1024 (extractStridedSlice S1x128x1024 ![0, 0, 0] m Facts₀.slices_S4x128x1024_S1x128x1024_0_0_0) Facts₀.shapeCasts_S1x128x1024_S128x1024)) (mulf (F := Ideal) (φ := .f32) (broadcastInDim S128x1024 ![] Facts₀.bcast_S_S128x1024 (constant (F := Ideal) S_ .f32 0x3DCCCCCD#32)) g)
def refV (g : R128x1024) (v : R4x128x1024) : R128x1024 :=
  addf (F := Ideal) (φ := .f32) (mulf (F := Ideal) (φ := .f32) (broadcastInDim S128x1024 ![] Facts₀.bcast_S_S128x1024 (constant (F := Ideal) S_ .f32 0x3F7FBE77#32)) (shapeCast S128x1024 (extractStridedSlice S1x128x1024 ![0, 0, 0] v Facts₀.slices_S4x128x1024_S1x128x1024_0_0_0) Facts₀.shapeCasts_S1x128x1024_S128x1024)) (mulf (F := Ideal) (φ := .f32) (broadcastInDim S128x1024 ![] Facts₀.bcast_S_S128x1024 (constant (F := Ideal) S_ .f32 0x3A83126F#32)) (mulf (F := Ideal) (φ := .f32) g g))
def refStep (g : R128x1024) (w m v : R4x128x1024) : R128x1024 :=
  mulf (F := Ideal) (φ := .f32) (broadcastInDim S128x1024 ![] Facts₀.bcast_S_S128x1024 (constant (F := Ideal) S_ .f32 0xBA83126F#32)) (addf (F := Ideal) (φ := .f32) (Host.divf (F := Ideal) (φ := .f32) (Host.divf (F := Ideal) (φ := .f32) (refM g m) (broadcastInDim S128x1024 ![] Facts₀.bcast_S_S128x1024 (constant (F := Ideal) S_ .f32 0x3F26BD02#32)))
    (addf (F := Ideal) (φ := .f32) (Host.sqrt (F := Ideal) (φ := .f32) (Host.divf (F := Ideal) (φ := .f32) (refV g v) (broadcastInDim S128x1024 ![] Facts₀.bcast_S_S128x1024 (constant (F := Ideal) S_ .f32 0x3C231ACC#32)))) (broadcastInDim S128x1024 ![] Facts₀.bcast_S_S128x1024 (constant (F := Ideal) S_ .f32 0x322BCC77#32)))) (mulf (F := Ideal) (φ := .f32) (broadcastInDim S128x1024 ![] Facts₀.bcast_S_S128x1024 (constant (F := Ideal) S_ .f32 0x3C23D70A#32)) (shapeCast S128x1024 (extractStridedSlice S1x128x1024 ![0, 0, 0] w Facts₀.slices_S4x128x1024_S1x128x1024_0_0_0) Facts₀.shapeCasts_S1x128x1024_S128x1024)))
theorem refM_eq (g : R128x1024) (m : R4x128x1024) (a : Fin 128) (b : Fin 1024) : refM g m (ix2 a b) = newM (g (ix2 a b)) (m (ix3 0 a b)) := by
  pointwise [refM]
  rfl
theorem refV_eq (g : R128x1024) (v : R4x128x1024) (a : Fin 128) (b : Fin 1024) : refV g v (ix2 a b) = newV (g (ix2 a b)) (v (ix3 0 a b)) := by
  pointwise [refV]
  rfl
theorem refStep_eq (g : R128x1024) (w m v : R4x128x1024) (a : Fin 128) (b : Fin 1024) :
    refStep g w m v (ix2 a b) = delta (w (ix3 0 a b)) (g (ix2 a b)) (m (ix3 0 a b)) (v (ix3 0 a b)) := by
  have e := refM_eq g m a b
  have e' := refV_eq g v a b
  unfold refStep
  generalize refM g m = p at e ⊢
  generalize refV g v = q at e' ⊢
  pointwise
  rw [e, e']
  rfl
theorem ref_mean (r : B8x128x1024) (m : R4x128x1024) : refM (grad r) m = mean r m := by
  funext y
  obtain ⟨a, b, rfl⟩ := pair y
  exact refM_eq _ m a b
theorem ref_square (r : B8x128x1024) (v : R4x128x1024) : refV (grad r) v = square r v := by
  funext y
  obtain ⟨a, b, rfl⟩ := pair y
  exact refV_eq _ v a b
theorem ref_step (r : B8x128x1024) (w m v : R4x128x1024) : refStep (grad r) w m v = step r w m v := by
  funext y
  obtain ⟨a, b, rfl⟩ := pair y
  exact refStep_eq _ w m v a b

end

open Cert.AdamSqIdeal Cert.AdamSqIdeal.Gen

/-- The claim of the call: kernel and reference end with the same four arrays. -/
theorem algebraic : Cert.algebraic_AdamSqIdeal_AdamSqRefIdeal := fun m ρ m' ρ' _ hag =>
  ⟨fun c => grad (V m c main_arg0), fun c => step (V m c main_arg0) (V m c main_arg1) (V m c main_arg2) (V m c main_arg3), fun c => mean (V m c main_arg0) (V m c main_arg2), fun c => square (V m c main_arg0) (V m c main_arg3),
   (θ_run _ _ _).mono (fun _ h c => ⟨(h c).1.trans (final4 m c), (h c).2.1.trans (final5 m c), (h c).2.2.1.trans (final6 m c),
      (h c).2.2.2.1.trans (final7 m c), (h c).2.2.2.2⟩) (Value.run_blocks m ρ),
   (θ_run _ _ _).mono (fun _ h c => ⟨(h c).1.trans (by rw [(hag c).1]; exact ref_grad _),
      (h c).2.1.trans (by rw [(hag c).1, (hag c).2.1, (hag c).2.2.1, (hag c).2.2.2, ref_grad]; exact ref_step _ _ _ _),
      (h c).2.2.1.trans (by rw [(hag c).1, (hag c).2.2.1, ref_grad]; exact ref_mean _ _),
      (h c).2.2.2.1.trans (by rw [(hag c).1, (hag c).2.2.2, ref_grad]; exact ref_square _ _), (h c).2.2.2.2⟩)
     (Cert.AdamSqRefIdeal.Value.run m' ρ')⟩

end Cert.AdamSqProof

end
-- ==== Proof.AdamSsd.lean ====
/- The optimiser on the recurrence's output weight: what the kernel leaves in its four results, and that the reference leaves the same. -/
module

public import proofs.«01_k».proof.Defs
public import proofs.«01_k».proof.Proof.Gen.AdamSsdIdeal.Value
public import proofs.«01_k».proof.Proof.Gen.AdamSsdRefIdeal.Run
public import proofs.«01_k».proof.Proof.Shared
public import proofs.«01_k».proof.Proof.AdamSpec

@[expose] public section

set_option maxRecDepth 16384

noncomputable section

namespace Cert.AdamSsdProof

open Idealize.ShloMosaic Idealize.ShloMosaic.TcCoe Idealize.SL.Sem
open Idealize.ShloMosaic.Pointwise Cert.Shared Cert.Adam

section

open Cert.AdamSsdIdeal Cert.AdamSsdIdeal.Gen

/-! Arrays by their shapes. -/
abbrev R4x256x1024 := Vec Ideal S4x256x1024 .f32
abbrev R256x1024 := Vec Ideal S256x1024 .f32
abbrev B8x256x1024 := Vec Ideal S8x256x1024 .bf16
abbrev R1x128x1024 := Vec Ideal S1x128x1024 .f32
abbrev B8x128x1024 := Vec Ideal S8x128x1024 .bf16

/-- The gradient: the devices' parts, added. -/
def grad (r : B8x256x1024) : R256x1024 := fun i => ∑ s : Fin 8, r (ix3 s (i 0) (i 1))
/-- The three arrays the step makes of it for the first layer. -/
def mean (r : B8x256x1024) (m : R4x256x1024) : R256x1024 := fun i => newM (grad r i) (m (ix3 0 (i 0) (i 1)))
def square (r : B8x256x1024) (v : R4x256x1024) : R256x1024 := fun i => newV (grad r i) (v (ix3 0 (i 0) (i 1)))
def step (r : B8x256x1024) (w m v : R4x256x1024) : R256x1024 :=
  fun i => delta (w (ix3 0 (i 0) (i 1))) (grad r i) (m (ix3 0 (i 0) (i 1))) (v (ix3 0 (i 0) (i 1)))

/-! What one grid point computes. -/

theorem g_apply (x : B8x128x1024) (a : Fin 128) (b : Fin 1024) : k0_pay5 x (ix2 a b) = ∑ s : Fin 8, x (ix3 s a b) := by
  rw [Fin.sum_univ_eight]
  pointwise [k0_pay5]
theorem m_apply (x : B8x128x1024) (y : R1x128x1024) (a : Fin 128) (b : Fin 1024) :
    k0_pay6 x y (ix2 a b) = newM (∑ s : Fin 8, x (ix3 s a b)) (y (ix3 0 a b)) := by
  have e := g_apply x a b
  unfold k0_pay6
  generalize k0_pay5 x = g at e ⊢
  pointwise
  rw [e]
  rfl
theorem v_apply (x : B8x128x1024) (y : R1x128x1024) (a : Fin 128) (b : Fin 1024) :
    k0_pay1 (k0_pay4 y) (k0_pay5 x) k0_pay7 (ix2 a b) = newV (∑ s : Fin 8, x (ix3 s a b)) (y (ix3 0 a b)) := by
  have e := g_apply x a b
  generalize k0_pay5 x = g at e ⊢
  pointwise [k0_pay1, k0_pay4, k0_pay7]
  rw [e]
  rfl
theorem d_apply (x : B8x128x1024) (y1 y2 y3 : R1x128x1024) (a : Fin 128) (b : Fin 1024) :
    k0_pay2 (k0_pay3 y1) (k0_pay4 y3) (k0_pay5 x) (k0_pay6 x y2) k0_pay7 (ix2 a b)
      = delta (y1 (ix3 0 a b)) (∑ s : Fin 8, x (ix3 s a b)) (y2 (ix3 0 a b)) (y3 (ix3 0 a b)) := by
  have e := m_apply x y2 a b
  have e' := v_apply x y3 a b
  unfold k0_pay2
  generalize k0_pay6 x y2 = p at e ⊢
  generalize k0_pay1 (k0_pay4 y3) (k0_pay5 x) k0_pay7 = q at e' ⊢
  pointwise [k0_pay3]
  rw [e, e']
  rfl

variable (m : (ℓ : Loc nD τ sig) → Buf (Elt Ideal) ℓ)

/-! The blocks: point `t` has rows `128 t … 128 t + 127`. -/

theorem idx : ∀ t : Fin cfg0.N, t.val < 2
    ∧ (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Row `a` of point `t`'s block, as a row of the array. -/
def row (t : Fin cfg0.N) (a : Fin 128) : Fin 256 := ⟨t.val * 128 + a.val, by have := (idx t).1; omega⟩

theorem emb0 (t : Fin cfg0.N) (s : Fin 8) (a : Fin 128) (b : Fin 1024) : ((cfg0.win 0).blk t).view.emb (ix3 s a b) = ix3 s (row t a) b := by
  obtain ⟨-, ⟨e0, e1, e2⟩, -⟩ := idx t
  refine ext3 ?_ ?_ ?_
  · show win0_0.index t (0 : Fin 3) * 8 + 1 * s.val = s.val; omega
  · show win0_0.index t (1 : Fin 3) * 128 + 1 * a.val = t.val * 128 + a.val; omega
  · show win0_0.index t (2 : Fin 3) * 1024 + 1 * b.val = b.val; omega
theorem emb1 (t : Fin cfg0.N) (a : Fin 128) (b : Fin 1024) : ((cfg0.win 1).blk t).view.emb (ix3 0 a b) = ix3 0 (row t a) b := by
  obtain ⟨-, -, ⟨e0, e1, e2⟩, -⟩ := idx t
  refine ext3 ?_ ?_ ?_
  · show win0_1.index t (0 : Fin 3) * 1 + 1 * 0 = 0; omega
  · show win0_1.index t (1 : Fin 3) * 128 + 1 * a.val = t.val * 128 + a.val; omega
  · show win0_1.index t (2 : Fin 3) * 1024 + 1 * b.val = b.val; omega
theorem emb2 (t : Fin cfg0.N) (a : Fin 128) (b : Fin 1024) : ((cfg0.win 2).blk t).view.emb (ix3 0 a b) = ix3 0 (row t a) b := by
  obtain ⟨-, -, -, ⟨e0, e1, e2⟩, -⟩ := idx t
  refine ext3 ?_ ?_ ?_
  · show win0_2.index t (0 : Fin 3) * 1 + 1 * 0 = 0; omega
  · show win0_2.index t (1 : Fin 3) * 128 + 1 * a.val = t.val * 128 + a.val; omega
  · show win0_2.index t (2 : Fin 3) * 1024 + 1 * b.val = b.val; omega
theorem emb3 (t : Fin cfg0.N) (a : Fin 128) (b : Fin 1024) : ((cfg0.win 3).blk t).view.emb (ix3 0 a b) = ix3 0 (row t a) b := by
  obtain ⟨-, -, -, -, ⟨e0, e1, e2⟩, -⟩ := idx t
  refine ext3 ?_ ?_ ?_
  · show win0_3.index t (0 : Fin 3) * 1 + 1 * 0 = 0; omega
  · show win0_3.index t (1 : Fin 3) * 128 + 1 * a.val = t.val * 128 + a.val; omega
  · show win0_3.index t (2 : Fin 3) * 1024 + 1 * b.val = b.val; omega
theorem emb4 (t : Fin cfg0.N) (a : Fin 128) (b : Fin 1024) : ((cfg0.win 4).blk t).view.emb (ix2 a b) = ix2 (row t a) b := by
  obtain ⟨-, -, -, -, -, ⟨e0, e1⟩, -⟩ := idx t
  refine ext2 ?_ ?_
  · show win0_4.index t (0 : Fin 2) * 128 + 1 * a.val = t.val * 128 + a.val; omega
  · show win0_4.index t (1 : Fin 2) * 1024 + 1 * b.val = b.val; omega
theorem emb5 (t : Fin cfg0.N) (a : Fin 128) (b : Fin 1024) : ((cfg0.win 5).blk t).view.emb (ix2 a b) = ix2 (row t a) b := by
  obtain ⟨-, -, -, -, -, -, ⟨e0, e1⟩, -⟩ := idx t
  refine ext2 ?_ ?_
  · show win0_5.index t (0 : Fin 2) * 128 + 1 * a.val = t.val * 128 + a.val; omega
  · show win0_5.index t (1 : Fin 2) * 1024 + 1 * b.val = b.val; omega
theorem emb6 (t : Fin cfg0.N) (a : Fin 128) (b : Fin 1024) : ((cfg0.win 6).blk t).view.emb (ix2 a b) = ix2 (row t a) b := by
  obtain ⟨-, -, -, -, -, -, -, ⟨e0, e1⟩, -⟩ := idx t
  refine ext2 ?_ ?_
  · show win0_6.index t (0 : Fin 2) * 128 + 1 * a.val = t.val * 128 + a.val; omega
  · show win0_6.index t (1 : Fin 2) * 1024 + 1 * b.val = b.val; omega
theorem emb7 (t : Fin cfg0.N) (a : Fin 128) (b : Fin 1024) : ((cfg0.win 7).blk t).view.emb (ix2 a b) = ix2 (row t a) b := by
  obtain ⟨-, -, -, -, -, -, -, -, e0, e1⟩ := idx t
  refine ext2 ?_ ?_
  · show win0_7.index t (0 : Fin 2) * 128 + 1 * a.val = t.val * 128 + a.val; omega
  · show win0_7.index t (1 : Fin 2) * 1024 + 1 * b.val = b.val; omega

theorem iblk0_apply (c : Dev nD) (t : Fin cfg0.N) (s : Fin 8) (a : Fin 128) (b : Fin 1024) : (iblk m c 0 t : B8x128x1024) (ix3 s a b)
    = (V m c main_arg0 : B8x256x1024) (ix3 s (row t a) b) :=
  congrArg (V m c main_arg0) (emb0 t s a b)
theorem iblk1_apply (c : Dev nD) (t : Fin cfg0.N) (a : Fin 128) (b : Fin 1024) : (iblk m c 1 t : R1x128x1024) (ix3 0 a b)
    = (V m c main_arg1 : R4x256x1024) (ix3 0 (row t a) b) :=
  congrArg (V m c main_arg1) (emb1 t a b)
theorem iblk2_apply (c : Dev nD) (t : Fin cfg0.N) (a : Fin 128) (b : Fin 1024) : (iblk m c 2 t : R1x128x1024) (ix3 0 a b)
    = (V m c main_arg2 : R4x256x1024) (ix3 0 (row t a) b) :=
  congrArg (V m c main_arg2) (emb2 t a b)
theorem iblk3_apply (c : Dev nD) (t : Fin cfg0.N) (a : Fin 128) (b : Fin 1024) : (iblk m c 3 t : R1x128x1024) (ix3 0 a b)
    = (V m c main_arg3 : R4x256x1024) (ix3 0 (row t a) b) :=
  congrArg (V m c main_arg3) (emb3 t a b)

/-! The four results after the run; a whole block is read and written. -/

theorem ld0 (x : B8x128x1024) : View.ld x r0_0 = x := by rw [View.ld_unit_zero hz3]
theorem ld1 (x : R1x128x1024) : View.ld x r0_1 = x := by rw [View.ld_unit_zero hz3]

theorem final4 (c : Dev nD) : (dats m 0 c).arrAt 4 cfg0.N = grad (V m c main_arg0) := by
  refine (dats m 0 c).arrAt_eq_of_covers 4 _ (by decide +kernel) fun t _ y => ?_
  rw [after0_4]
  unfold out0_4
  rw [View.canon_unit_zero hz]
  unfold k0_pay9
  simp only [ld0, ld1]
  obtain ⟨a, b, rfl⟩ := pair y
  rw [emb4]
  show k0_pay5 (iblk m c 0 t) (ix2 a b) = _
  rw [g_apply]
  simp only [iblk0_apply]
  rfl

theorem final5 (c : Dev nD) : (dats m 0 c).arrAt 5 cfg0.N = step (V m c main_arg0) (V m c main_arg1) (V m c main_arg2) (V m c main_arg3) := by
  refine (dats m 0 c).arrAt_eq_of_covers 5 _ (by decide +kernel) fun t _ y => ?_
  rw [after0_5]
  unfold out0_5
  rw [View.canon_unit_zero hz]
  unfold k0_pay8 k0_pay9 k0_pay10 k0_pay11
  simp only [ld0, ld1]
  obtain ⟨a, b, rfl⟩ := pair y
  rw [emb5]
  show k0_pay2 (k0_pay3 (iblk m c 1 t)) (k0_pay4 (iblk m c 3 t)) (k0_pay5 (iblk m c 0 t)) (k0_pay6 (iblk m c 0 t) (iblk m c 2 t)) k0_pay7 (ix2 a b) = _
  rw [d_apply]
  simp only [iblk0_apply, iblk1_apply, iblk2_apply, iblk3_apply]
  rfl

theorem final6 (c : Dev nD) : (dats m 0 c).arrAt 6 cfg0.N = mean (V m c main_arg0) (V m c main_arg2) := by
  refine (dats m 0 c).arrAt_eq_of_covers 6 _ (by decide +kernel) fun t _ y => ?_
  rw [after0_6]
  unfold out0_6
  rw [View.canon_unit_zero hz]
  unfold k0_pay10
  simp only [ld0, ld1]
  obtain ⟨a, b, rfl⟩ := pair y
  rw [emb6]
  show k0_pay6 (iblk m c 0 t) (iblk m c 2 t) (ix2 a b) = _
  rw [m_apply]
  simp only [iblk0_apply, iblk2_apply]
  rfl

theorem final7 (c : Dev nD) : (dats m 0 c).arrAt 7 cfg0.N = square (V m c main_arg0) (V m c main_arg3) := by
  refine (dats m 0 c).arrAt_eq_of_covers 7 _ (by decide +kernel) fun t _ y => ?_
  rw [after0_7]
  unfold out0_7
  rw [View.canon_unit_zero hz]
  unfold k0_pay8 k0_pay9 k0_pay11
  simp only [ld0, ld1]
  obtain ⟨a, b, rfl⟩ := pair y
  rw [emb7]
  show k0_pay1 (k0_pay4 (iblk m c 3 t)) (k0_pay5 (iblk m c 0 t)) k0_pay7 (ix2 a b) = _
  rw [v_apply]
  simp only [iblk0_apply, iblk3_apply]
  rfl

end

section

open Cert.AdamSsdRefIdeal

/-! What the reference computes. -/

theorem ref_grad (r : B8x256x1024) : Host.reduceAdd (F := Ideal) (extf (F := Ideal) (φ := .bf16) .f32 r Facts₀.bitsLt_bf16_f32) (constant (F := Ideal) S_ .f32 0x00000000#32) Facts₀.reducesTo_S8x256x1024_S256x1024_d0 Facts₀.h_S_ = grad r := by
  funext y
  obtain ⟨a, b, rfl⟩ := pair y
  pointwise
  rfl
/-- The two means and the step from the gradient `g`, as the reference composes them. -/
def refM (g : R256x1024) (m : R4x256x1024) : R256x1024 :=
  addf (F := Ideal) (φ := .f32) (mulf (F := Ideal) (φ := .f32) (broadcastInDim S256x1024 ![] Facts₀.bcast_S_S256x1024 (constant (F := Ideal) S_ .f32 0x3F666666#32)) (shapeCast S256x1024 (extractStridedSlice S1x256x1024 ![0, 0, 0] m Facts₀.slices_S4x256x1024_S1x256x1024_0_0_0) Facts₀.shapeCasts_S1x256x1024_S256x1024)) (mulf (F := Ideal) (φ := .f32) (broadcastInDim S256x1024 ![] Facts₀.bcast_S_S256x1024 (constant (F := Ideal) S_ .f32 0x3DCCCCCD#32)) g)
def refV (g : R256x1024) (v : R4x256x1024) : R256x1024 :=
  addf (F := Ideal) (φ := .f32) (mulf (F := Ideal) (φ := .f32) (broadcastInDim S256x1024 ![] Facts₀.bcast_S_S256x1024 (constant (F := Ideal) S_ .f32 0x3F7FBE77#32)) (shapeCast S256x1024 (extractStridedSlice S1x256x1024 ![0, 0, 0] v Facts₀.slices_S4x256x1024_S1x256x1024_0_0_0) Facts₀.shapeCasts_S1x256x1024_S256x1024)) (mulf (F := Ideal) (φ := .f32) (broadcastInDim S256x1024 ![] Facts₀.bcast_S_S256x1024 (constant (F := Ideal) S_ .f32 0x3A83126F#32)) (mulf (F := Ideal) (φ := .f32) g g))
def refStep (g : R256x1024) (w m v : R4x256x1024) : R256x1024 :=
  mulf (F := Ideal) (φ := .f32) (broadcastInDim S256x1024 ![] Facts₀.bcast_S_S256x1024 (constant (F := Ideal) S_ .f32 0xBA83126F#32)) (addf (F := Ideal) (φ := .f32) (Host.divf (F := Ideal) (φ := .f32) (Host.divf (F := Ideal) (φ := .f32) (refM g m) (broadcastInDim S256x1024 ![] Facts₀.bcast_S_S256x1024 (constant (F := Ideal) S_ .f32 0x3F26BD02#32)))
    (addf (F := Ideal) (φ := .f32) (Host.sqrt (F := Ideal) (φ := .f32) (Host.divf (F := Ideal) (φ := .f32) (refV g v) (broadcastInDim S256x1024 ![] Facts₀.bcast_S_S256x1024 (constant (F := Ideal) S_ .f32 0x3C231ACC#32)))) (broadcastInDim S256x1024 ![] Facts₀.bcast_S_S256x1024 (constant (F := Ideal) S_ .f32 0x322BCC77#32)))) (mulf (F := Ideal) (φ := .f32) (broadcastInDim S256x1024 ![] Facts₀.bcast_S_S256x1024 (constant (F := Ideal) S_ .f32 0x3C23D70A#32)) (shapeCast S256x1024 (extractStridedSlice S1x256x1024 ![0, 0, 0] w Facts₀.slices_S4x256x1024_S1x256x1024_0_0_0) Facts₀.shapeCasts_S1x256x1024_S256x1024)))
theorem refM_eq (g : R256x1024) (m : R4x256x1024) (a : Fin 256) (b : Fin 1024) : refM g m (ix2 a b) = newM (g (ix2 a b)) (m (ix3 0 a b)) := by
  pointwise [refM]
  rfl
theorem refV_eq (g : R256x1024) (v : R4x256x1024) (a : Fin 256) (b : Fin 1024) : refV g v (ix2 a b) = newV (g (ix2 a b)) (v (ix3 0 a b)) := by
  pointwise [refV]
  rfl
theorem refStep_eq (g : R256x1024) (w m v : R4x256x1024) (a : Fin 256) (b : Fin 1024) :
    refStep g w m v (ix2 a b) = delta (w (ix3 0 a b)) (g (ix2 a b)) (m (ix3 0 a b)) (v (ix3 0 a b)) := by
  have e := refM_eq g m a b
  have e' := refV_eq g v a b
  unfold refStep
  generalize refM g m = p at e ⊢
  generalize refV g v = q at e' ⊢
  pointwise
  rw [e, e']
  rfl
theorem ref_mean (r : B8x256x1024) (m : R4x256x1024) : refM (grad r) m = mean r m := by
  funext y
  obtain ⟨a, b, rfl⟩ := pair y
  exact refM_eq _ m a b
theorem ref_square (r : B8x256x1024) (v : R4x256x1024) : refV (grad r) v = square r v := by
  funext y
  obtain ⟨a, b, rfl⟩ := pair y
  exact refV_eq _ v a b
theorem ref_step (r : B8x256x1024) (w m v : R4x256x1024) : refStep (grad r) w m v = step r w m v := by
  funext y
  obtain ⟨a, b, rfl⟩ := pair y
  exact refStep_eq _ w m v a b

end

open Cert.AdamSsdIdeal Cert.AdamSsdIdeal.Gen

/-- The claim of the call: kernel and reference end with the same four arrays. -/
theorem algebraic : Cert.algebraic_AdamSsdIdeal_AdamSsdRefIdeal := fun m ρ m' ρ' _ hag =>
  ⟨fun c => grad (V m c main_arg0), fun c => step (V m c main_arg0) (V m c main_arg1) (V m c main_arg2) (V m c main_arg3), fun c => mean (V m c main_arg0) (V m c main_arg2), fun c => square (V m c main_arg0) (V m c main_arg3),
   (θ_run _ _ _).mono (fun _ h c => ⟨(h c).1.trans (final4 m c), (h c).2.1.trans (final5 m c), (h c).2.2.1.trans (final6 m c),
      (h c).2.2.2.1.trans (final7 m c), (h c).2.2.2.2⟩) (Value.run_blocks m ρ),
   (θ_run _ _ _).mono (fun _ h c => ⟨(h c).1.trans (by rw [(hag c).1]; exact ref_grad _),
      (h c).2.1.trans (by rw [(hag c).1, (hag c).2.1, (hag c).2.2.1, (hag c).2.2.2, ref_grad]; exact ref_step _ _ _ _),
      (h c).2.2.1.trans (by rw [(hag c).1, (hag c).2.2.1, ref_grad]; exact ref_mean _ _),
      (h c).2.2.2.1.trans (by rw [(hag c).1, (hag c).2.2.2, ref_grad]; exact ref_square _ _), (h c).2.2.2.2⟩)
     (Cert.AdamSsdRefIdeal.Value.run m' ρ')⟩

end Cert.AdamSsdProof

end
-- ==== Proof.AdamDown.lean ====
/- The optimiser on the MLP's down weight: what the kernel leaves in its four results, and that the reference leaves the same. -/
module

public import proofs.«01_k».proof.Defs
public import proofs.«01_k».proof.Proof.Gen.AdamDownIdeal.Value
public import proofs.«01_k».proof.Proof.Gen.AdamDownRefIdeal.Run
public import proofs.«01_k».proof.Proof.Shared
public import proofs.«01_k».proof.Proof.AdamSpec

@[expose] public section

set_option maxRecDepth 16384

noncomputable section

namespace Cert.AdamDownProof

open Idealize.ShloMosaic Idealize.ShloMosaic.TcCoe Idealize.SL.Sem
open Idealize.ShloMosaic.Pointwise Cert.Shared Cert.Adam

section

open Cert.AdamDownIdeal Cert.AdamDownIdeal.Gen

/-! Arrays by their shapes. -/
abbrev R4x512x1024 := Vec Ideal S4x512x1024 .f32
abbrev R512x1024 := Vec Ideal S512x1024 .f32
abbrev B8x512x1024 := Vec Ideal S8x512x1024 .bf16
abbrev R1x128x1024 := Vec Ideal S1x128x1024 .f32
abbrev B8x128x1024 := Vec Ideal S8x128x1024 .bf16

/-- The gradient: the devices' parts, added. -/
def grad (r : B8x512x1024) : R512x1024 := fun i => ∑ s : Fin 8, r (ix3 s (i 0) (i 1))
/-- The three arrays the step makes of it for the first layer. -/
def mean (r : B8x512x1024) (m : R4x512x1024) : R512x1024 := fun i => newM (grad r i) (m (ix3 0 (i 0) (i 1)))
def square (r : B8x512x1024) (v : R4x512x1024) : R512x1024 := fun i => newV (grad r i) (v (ix3 0 (i 0) (i 1)))
def step (r : B8x512x1024) (w m v : R4x512x1024) : R512x1024 :=
  fun i => delta (w (ix3 0 (i 0) (i 1))) (grad r i) (m (ix3 0 (i 0) (i 1))) (v (ix3 0 (i 0) (i 1)))

/-! What one grid point computes. -/

theorem g_apply (x : B8x128x1024) (a : Fin 128) (b : Fin 1024) : k0_pay5 x (ix2 a b) = ∑ s : Fin 8, x (ix3 s a b) := by
  rw [Fin.sum_univ_eight]
  pointwise [k0_pay5]
theorem m_apply (x : B8x128x1024) (y : R1x128x1024) (a : Fin 128) (b : Fin 1024) :
    k0_pay6 x y (ix2 a b) = newM (∑ s : Fin 8, x (ix3 s a b)) (y (ix3 0 a b)) := by
  have e := g_apply x a b
  unfold k0_pay6
  generalize k0_pay5 x = g at e ⊢
  pointwise
  rw [e]
  rfl
theorem v_apply (x : B8x128x1024) (y : R1x128x1024) (a : Fin 128) (b : Fin 1024) :
    k0_pay1 (k0_pay4 y) (k0_pay5 x) k0_pay7 (ix2 a b) = newV (∑ s : Fin 8, x (ix3 s a b)) (y (ix3 0 a b)) := by
  have e := g_apply x a b
  generalize k0_pay5 x = g at e ⊢
  pointwise [k0_pay1, k0_pay4, k0_pay7]
  rw [e]
  rfl
theorem d_apply (x : B8x128x1024) (y1 y2 y3 : R1x128x1024) (a : Fin 128) (b : Fin 1024) :
    k0_pay2 (k0_pay3 y1) (k0_pay4 y3) (k0_pay5 x) (k0_pay6 x y2) k0_pay7 (ix2 a b)
      = delta (y1 (ix3 0 a b)) (∑ s : Fin 8, x (ix3 s a b)) (y2 (ix3 0 a b)) (y3 (ix3 0 a b)) := by
  have e := m_apply x y2 a b
  have e' := v_apply x y3 a b
  unfold k0_pay2
  generalize k0_pay6 x y2 = p at e ⊢
  generalize k0_pay1 (k0_pay4 y3) (k0_pay5 x) k0_pay7 = q at e' ⊢
  pointwise [k0_pay3]
  rw [e, e']
  rfl

variable (m : (ℓ : Loc nD τ sig) → Buf (Elt Ideal) ℓ)

/-! The blocks: point `t` has rows `128 t … 128 t + 127`. -/

theorem idx : ∀ t : Fin cfg0.N, t.val < 4
    ∧ (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Row `a` of point `t`'s block, as a row of the array. -/
def row (t : Fin cfg0.N) (a : Fin 128) : Fin 512 := ⟨t.val * 128 + a.val, by have := (idx t).1; omega⟩

theorem emb0 (t : Fin cfg0.N) (s : Fin 8) (a : Fin 128) (b : Fin 1024) : ((cfg0.win 0).blk t).view.emb (ix3 s a b) = ix3 s (row t a) b := by
  obtain ⟨-, ⟨e0, e1, e2⟩, -⟩ := idx t
  refine ext3 ?_ ?_ ?_
  · show win0_0.index t (0 : Fin 3) * 8 + 1 * s.val = s.val; omega
  · show win0_0.index t (1 : Fin 3) * 128 + 1 * a.val = t.val * 128 + a.val; omega
  · show win0_0.index t (2 : Fin 3) * 1024 + 1 * b.val = b.val; omega
theorem emb1 (t : Fin cfg0.N) (a : Fin 128) (b : Fin 1024) : ((cfg0.win 1).blk t).view.emb (ix3 0 a b) = ix3 0 (row t a) b := by
  obtain ⟨-, -, ⟨e0, e1, e2⟩, -⟩ := idx t
  refine ext3 ?_ ?_ ?_
  · show win0_1.index t (0 : Fin 3) * 1 + 1 * 0 = 0; omega
  · show win0_1.index t (1 : Fin 3) * 128 + 1 * a.val = t.val * 128 + a.val; omega
  · show win0_1.index t (2 : Fin 3) * 1024 + 1 * b.val = b.val; omega
theorem emb2 (t : Fin cfg0.N) (a : Fin 128) (b : Fin 1024) : ((cfg0.win 2).blk t).view.emb (ix3 0 a b) = ix3 0 (row t a) b := by
  obtain ⟨-, -, -, ⟨e0, e1, e2⟩, -⟩ := idx t
  refine ext3 ?_ ?_ ?_
  · show win0_2.index t (0 : Fin 3) * 1 + 1 * 0 = 0; omega
  · show win0_2.index t (1 : Fin 3) * 128 + 1 * a.val = t.val * 128 + a.val; omega
  · show win0_2.index t (2 : Fin 3) * 1024 + 1 * b.val = b.val; omega
theorem emb3 (t : Fin cfg0.N) (a : Fin 128) (b : Fin 1024) : ((cfg0.win 3).blk t).view.emb (ix3 0 a b) = ix3 0 (row t a) b := by
  obtain ⟨-, -, -, -, ⟨e0, e1, e2⟩, -⟩ := idx t
  refine ext3 ?_ ?_ ?_
  · show win0_3.index t (0 : Fin 3) * 1 + 1 * 0 = 0; omega
  · show win0_3.index t (1 : Fin 3) * 128 + 1 * a.val = t.val * 128 + a.val; omega
  · show win0_3.index t (2 : Fin 3) * 1024 + 1 * b.val = b.val; omega
theorem emb4 (t : Fin cfg0.N) (a : Fin 128) (b : Fin 1024) : ((cfg0.win 4).blk t).view.emb (ix2 a b) = ix2 (row t a) b := by
  obtain ⟨-, -, -, -, -, ⟨e0, e1⟩, -⟩ := idx t
  refine ext2 ?_ ?_
  · show win0_4.index t (0 : Fin 2) * 128 + 1 * a.val = t.val * 128 + a.val; omega
  · show win0_4.index t (1 : Fin 2) * 1024 + 1 * b.val = b.val; omega
theorem emb5 (t : Fin cfg0.N) (a : Fin 128) (b : Fin 1024) : ((cfg0.win 5).blk t).view.emb (ix2 a b) = ix2 (row t a) b := by
  obtain ⟨-, -, -, -, -, -, ⟨e0, e1⟩, -⟩ := idx t
  refine ext2 ?_ ?_
  · show win0_5.index t (0 : Fin 2) * 128 + 1 * a.val = t.val * 128 + a.val; omega
  · show win0_5.index t (1 : Fin 2) * 1024 + 1 * b.val = b.val; omega
theorem emb6 (t : Fin cfg0.N) (a : Fin 128) (b : Fin 1024) : ((cfg0.win 6).blk t).view.emb (ix2 a b) = ix2 (row t a) b := by
  obtain ⟨-, -, -, -, -, -, -, ⟨e0, e1⟩, -⟩ := idx t
  refine ext2 ?_ ?_
  · show win0_6.index t (0 : Fin 2) * 128 + 1 * a.val = t.val * 128 + a.val; omega
  · show win0_6.index t (1 : Fin 2) * 1024 + 1 * b.val = b.val; omega
theorem emb7 (t : Fin cfg0.N) (a : Fin 128) (b : Fin 1024) : ((cfg0.win 7).blk t).view.emb (ix2 a b) = ix2 (row t a) b := by
  obtain ⟨-, -, -, -, -, -, -, -, e0, e1⟩ := idx t
  refine ext2 ?_ ?_
  · show win0_7.index t (0 : Fin 2) * 128 + 1 * a.val = t.val * 128 + a.val; omega
  · show win0_7.index t (1 : Fin 2) * 1024 + 1 * b.val = b.val; omega

theorem iblk0_apply (c : Dev nD) (t : Fin cfg0.N) (s : Fin 8) (a : Fin 128) (b : Fin 1024) : (iblk m c 0 t : B8x128x1024) (ix3 s a b)
    = (V m c main_arg0 : B8x512x1024) (ix3 s (row t a) b) :=
  congrArg (V m c main_arg0) (emb0 t s a b)
theorem iblk1_apply (c : Dev nD) (t : Fin cfg0.N) (a : Fin 128) (b : Fin 1024) : (iblk m c 1 t : R1x128x1024) (ix3 0 a b)
    = (V m c main_arg1 : R4x512x1024) (ix3 0 (row t a) b) :=
  congrArg (V m c main_arg1) (emb1 t a b)
theorem iblk2_apply (c : Dev nD) (t : Fin cfg0.N) (a : Fin 128) (b : Fin 1024) : (iblk m c 2 t : R1x128x1024) (ix3 0 a b)
    = (V m c main_arg2 : R4x512x1024) (ix3 0 (row t a) b) :=
  congrArg (V m c main_arg2) (emb2 t a b)
theorem iblk3_apply (c : Dev nD) (t : Fin cfg0.N) (a : Fin 128) (b : Fin 1024) : (iblk m c 3 t : R1x128x1024) (ix3 0 a b)
    = (V m c main_arg3 : R4x512x1024) (ix3 0 (row t a) b) :=
  congrArg (V m c main_arg3) (emb3 t a b)

/-! The four results after the run; a whole block is read and written. -/

theorem ld0 (x : B8x128x1024) : View.ld x r0_0 = x := by rw [View.ld_unit_zero hz3]
theorem ld1 (x : R1x128x1024) : View.ld x r0_1 = x := by rw [View.ld_unit_zero hz3]

theorem final4 (c : Dev nD) : (dats m 0 c).arrAt 4 cfg0.N = grad (V m c main_arg0) := by
  refine (dats m 0 c).arrAt_eq_of_covers 4 _ (by decide +kernel) fun t _ y => ?_
  rw [after0_4]
  unfold out0_4
  rw [View.canon_unit_zero hz]
  unfold k0_pay9
  simp only [ld0, ld1]
  obtain ⟨a, b, rfl⟩ := pair y
  rw [emb4]
  show k0_pay5 (iblk m c 0 t) (ix2 a b) = _
  rw [g_apply]
  simp only [iblk0_apply]
  rfl

theorem final5 (c : Dev nD) : (dats m 0 c).arrAt 5 cfg0.N = step (V m c main_arg0) (V m c main_arg1) (V m c main_arg2) (V m c main_arg3) := by
  refine (dats m 0 c).arrAt_eq_of_covers 5 _ (by decide +kernel) fun t _ y => ?_
  rw [after0_5]
  unfold out0_5
  rw [View.canon_unit_zero hz]
  unfold k0_pay8 k0_pay9 k0_pay10 k0_pay11
  simp only [ld0, ld1]
  obtain ⟨a, b, rfl⟩ := pair y
  rw [emb5]
  show k0_pay2 (k0_pay3 (iblk m c 1 t)) (k0_pay4 (iblk m c 3 t)) (k0_pay5 (iblk m c 0 t)) (k0_pay6 (iblk m c 0 t) (iblk m c 2 t)) k0_pay7 (ix2 a b) = _
  rw [d_apply]
  simp only [iblk0_apply, iblk1_apply, iblk2_apply, iblk3_apply]
  rfl

theorem final6 (c : Dev nD) : (dats m 0 c).arrAt 6 cfg0.N = mean (V m c main_arg0) (V m c main_arg2) := by
  refine (dats m 0 c).arrAt_eq_of_covers 6 _ (by decide +kernel) fun t _ y => ?_
  rw [after0_6]
  unfold out0_6
  rw [View.canon_unit_zero hz]
  unfold k0_pay10
  simp only [ld0, ld1]
  obtain ⟨a, b, rfl⟩ := pair y
  rw [emb6]
  show k0_pay6 (iblk m c 0 t) (iblk m c 2 t) (ix2 a b) = _
  rw [m_apply]
  simp only [iblk0_apply, iblk2_apply]
  rfl

theorem final7 (c : Dev nD) : (dats m 0 c).arrAt 7 cfg0.N = square (V m c main_arg0) (V m c main_arg3) := by
  refine (dats m 0 c).arrAt_eq_of_covers 7 _ (by decide +kernel) fun t _ y => ?_
  rw [after0_7]
  unfold out0_7
  rw [View.canon_unit_zero hz]
  unfold k0_pay8 k0_pay9 k0_pay11
  simp only [ld0, ld1]
  obtain ⟨a, b, rfl⟩ := pair y
  rw [emb7]
  show k0_pay1 (k0_pay4 (iblk m c 3 t)) (k0_pay5 (iblk m c 0 t)) k0_pay7 (ix2 a b) = _
  rw [v_apply]
  simp only [iblk0_apply, iblk3_apply]
  rfl

end

section

open Cert.AdamDownRefIdeal

/-! What the reference computes. -/

theorem ref_grad (r : B8x512x1024) : Host.reduceAdd (F := Ideal) (extf (F := Ideal) (φ := .bf16) .f32 r Facts₀.bitsLt_bf16_f32) (constant (F := Ideal) S_ .f32 0x00000000#32) Facts₀.reducesTo_S8x512x1024_S512x1024_d0 Facts₀.h_S_ = grad r := by
  funext y
  obtain ⟨a, b, rfl⟩ := pair y
  pointwise
  rfl
/-- The two means and the step from the gradient `g`, as the reference composes them. -/
def refM (g : R512x1024) (m : R4x512x1024) : R512x1024 :=
  addf (F := Ideal) (φ := .f32) (mulf (F := Ideal) (φ := .f32) (broadcastInDim S512x1024 ![] Facts₀.bcast_S_S512x1024 (constant (F := Ideal) S_ .f32 0x3F666666#32)) (shapeCast S512x1024 (extractStridedSlice S1x512x1024 ![0, 0, 0] m Facts₀.slices_S4x512x1024_S1x512x1024_0_0_0) Facts₀.shapeCasts_S1x512x1024_S512x1024)) (mulf (F := Ideal) (φ := .f32) (broadcastInDim S512x1024 ![] Facts₀.bcast_S_S512x1024 (constant (F := Ideal) S_ .f32 0x3DCCCCCD#32)) g)
def refV (g : R512x1024) (v : R4x512x1024) : R512x1024 :=
  addf (F := Ideal) (φ := .f32) (mulf (F := Ideal) (φ := .f32) (broadcastInDim S512x1024 ![] Facts₀.bcast_S_S512x1024 (constant (F := Ideal) S_ .f32 0x3F7FBE77#32)) (shapeCast S512x1024 (extractStridedSlice S1x512x1024 ![0, 0, 0] v Facts₀.slices_S4x512x1024_S1x512x1024_0_0_0) Facts₀.shapeCasts_S1x512x1024_S512x1024)) (mulf (F := Ideal) (φ := .f32) (broadcastInDim S512x1024 ![] Facts₀.bcast_S_S512x1024 (constant (F := Ideal) S_ .f32 0x3A83126F#32)) (mulf (F := Ideal) (φ := .f32) g g))
def refStep (g : R512x1024) (w m v : R4x512x1024) : R512x1024 :=
  mulf (F := Ideal) (φ := .f32) (broadcastInDim S512x1024 ![] Facts₀.bcast_S_S512x1024 (constant (F := Ideal) S_ .f32 0xBA83126F#32)) (addf (F := Ideal) (φ := .f32) (Host.divf (F := Ideal) (φ := .f32) (Host.divf (F := Ideal) (φ := .f32) (refM g m) (broadcastInDim S512x1024 ![] Facts₀.bcast_S_S512x1024 (constant (F := Ideal) S_ .f32 0x3F26BD02#32)))
    (addf (F := Ideal) (φ := .f32) (Host.sqrt (F := Ideal) (φ := .f32) (Host.divf (F := Ideal) (φ := .f32) (refV g v) (broadcastInDim S512x1024 ![] Facts₀.bcast_S_S512x1024 (constant (F := Ideal) S_ .f32 0x3C231ACC#32)))) (broadcastInDim S512x1024 ![] Facts₀.bcast_S_S512x1024 (constant (F := Ideal) S_ .f32 0x322BCC77#32)))) (mulf (F := Ideal) (φ := .f32) (broadcastInDim S512x1024 ![] Facts₀.bcast_S_S512x1024 (constant (F := Ideal) S_ .f32 0x3C23D70A#32)) (shapeCast S512x1024 (extractStridedSlice S1x512x1024 ![0, 0, 0] w Facts₀.slices_S4x512x1024_S1x512x1024_0_0_0) Facts₀.shapeCasts_S1x512x1024_S512x1024)))
theorem refM_eq (g : R512x1024) (m : R4x512x1024) (a : Fin 512) (b : Fin 1024) : refM g m (ix2 a b) = newM (g (ix2 a b)) (m (ix3 0 a b)) := by
  pointwise [refM]
  rfl
theorem refV_eq (g : R512x1024) (v : R4x512x1024) (a : Fin 512) (b : Fin 1024) : refV g v (ix2 a b) = newV (g (ix2 a b)) (v (ix3 0 a b)) := by
  pointwise [refV]
  rfl
theorem refStep_eq (g : R512x1024) (w m v : R4x512x1024) (a : Fin 512) (b : Fin 1024) :
    refStep g w m v (ix2 a b) = delta (w (ix3 0 a b)) (g (ix2 a b)) (m (ix3 0 a b)) (v (ix3 0 a b)) := by
  have e := refM_eq g m a b
  have e' := refV_eq g v a b
  unfold refStep
  generalize refM g m = p at e ⊢
  generalize refV g v = q at e' ⊢
  pointwise
  rw [e, e']
  rfl
theorem ref_mean (r : B8x512x1024) (m : R4x512x1024) : refM (grad r) m = mean r m := by
  funext y
  obtain ⟨a, b, rfl⟩ := pair y
  exact refM_eq _ m a b
theorem ref_square (r : B8x512x1024) (v : R4x512x1024) : refV (grad r) v = square r v := by
  funext y
  obtain ⟨a, b, rfl⟩ := pair y
  exact refV_eq _ v a b
theorem ref_step (r : B8x512x1024) (w m v : R4x512x1024) : refStep (grad r) w m v = step r w m v := by
  funext y
  obtain ⟨a, b, rfl⟩ := pair y
  exact refStep_eq _ w m v a b

end

open Cert.AdamDownIdeal Cert.AdamDownIdeal.Gen

/-- The claim of the call: kernel and reference end with the same four arrays. -/
theorem algebraic : Cert.algebraic_AdamDownIdeal_AdamDownRefIdeal := fun m ρ m' ρ' _ hag =>
  ⟨fun c => grad (V m c main_arg0), fun c => step (V m c main_arg0) (V m c main_arg1) (V m c main_arg2) (V m c main_arg3), fun c => mean (V m c main_arg0) (V m c main_arg2), fun c => square (V m c main_arg0) (V m c main_arg3),
   (θ_run _ _ _).mono (fun _ h c => ⟨(h c).1.trans (final4 m c), (h c).2.1.trans (final5 m c), (h c).2.2.1.trans (final6 m c),
      (h c).2.2.2.1.trans (final7 m c), (h c).2.2.2.2⟩) (Value.run_blocks m ρ),
   (θ_run _ _ _).mono (fun _ h c => ⟨(h c).1.trans (by rw [(hag c).1]; exact ref_grad _),
      (h c).2.1.trans (by rw [(hag c).1, (hag c).2.1, (hag c).2.2.1, (hag c).2.2.2, ref_grad]; exact ref_step _ _ _ _),
      (h c).2.2.1.trans (by rw [(hag c).1, (hag c).2.2.1, ref_grad]; exact ref_mean _ _),
      (h c).2.2.2.1.trans (by rw [(hag c).1, (hag c).2.2.2, ref_grad]; exact ref_square _ _), (h c).2.2.2.2⟩)
     (Cert.AdamDownRefIdeal.Value.run m' ρ')⟩

end Cert.AdamDownProof

end
-- ==== Proof.AdamIn.lean ====
/- The optimiser on the input projection: what the kernel leaves in its four results, and that the reference leaves the same. -/
module

public import proofs.«01_k».proof.Defs
public import proofs.«01_k».proof.Proof.Gen.AdamInIdeal.Value
public import proofs.«01_k».proof.Proof.Gen.AdamInRefIdeal.Run
public import proofs.«01_k».proof.Proof.Shared
public import proofs.«01_k».proof.Proof.AdamSpec

@[expose] public section

set_option maxRecDepth 16384

noncomputable section

namespace Cert.AdamInProof

open Idealize.ShloMosaic Idealize.ShloMosaic.TcCoe Idealize.SL.Sem
open Idealize.ShloMosaic.Pointwise Cert.Shared Cert.Adam

section

open Cert.AdamInIdeal Cert.AdamInIdeal.Gen

/-! Arrays by their shapes. -/
abbrev R4x1024x1476 := Vec Ideal S4x1024x1476 .f32
abbrev R1024x1476 := Vec Ideal S1024x1476 .f32
abbrev B8x1024x1476 := Vec Ideal S8x1024x1476 .bf16
abbrev R1x64x1476 := Vec Ideal S1x64x1476 .f32
abbrev B8x64x1476 := Vec Ideal S8x64x1476 .bf16

/-- The gradient: the devices' parts, added. -/
def grad (r : B8x1024x1476) : R1024x1476 := fun i => ∑ s : Fin 8, r (ix3 s (i 0) (i 1))
/-- The three arrays the step makes of it for the first layer. -/
def mean (r : B8x1024x1476) (m : R4x1024x1476) : R1024x1476 := fun i => newM (grad r i) (m (ix3 0 (i 0) (i 1)))
def square (r : B8x1024x1476) (v : R4x1024x1476) : R1024x1476 := fun i => newV (grad r i) (v (ix3 0 (i 0) (i 1)))
def step (r : B8x1024x1476) (w m v : R4x1024x1476) : R1024x1476 :=
  fun i => delta (w (ix3 0 (i 0) (i 1))) (grad r i) (m (ix3 0 (i 0) (i 1))) (v (ix3 0 (i 0) (i 1)))

/-! What one grid point computes. -/

theorem g_apply (x : B8x64x1476) (a : Fin 64) (b : Fin 1476) : k0_pay5 x (ix2 a b) = ∑ s : Fin 8, x (ix3 s a b) := by
  rw [Fin.sum_univ_eight]
  pointwise [k0_pay5]
theorem m_apply (x : B8x64x1476) (y : R1x64x1476) (a : Fin 64) (b : Fin 1476) :
    k0_pay6 x y (ix2 a b) = newM (∑ s : Fin 8, x (ix3 s a b)) (y (ix3 0 a b)) := by
  have e := g_apply x a b
  unfold k0_pay6
  generalize k0_pay5 x = g at e ⊢
  pointwise
  rw [e]
  rfl
theorem v_apply (x : B8x64x1476) (y : R1x64x1476) (a : Fin 64) (b : Fin 1476) :
    k0_pay1 (k0_pay4 y) (k0_pay5 x) k0_pay7 (ix2 a b) = newV (∑ s : Fin 8, x (ix3 s a b)) (y (ix3 0 a b)) := by
  have e := g_apply x a b
  generalize k0_pay5 x = g at e ⊢
  pointwise [k0_pay1, k0_pay4, k0_pay7]
  rw [e]
  rfl
theorem d_apply (x : B8x64x1476) (y1 y2 y3 : R1x64x1476) (a : Fin 64) (b : Fin 1476) :
    k0_pay2 (k0_pay3 y1) (k0_pay4 y3) (k0_pay5 x) (k0_pay6 x y2) k0_pay7 (ix2 a b)
      = delta (y1 (ix3 0 a b)) (∑ s : Fin 8, x (ix3 s a b)) (y2 (ix3 0 a b)) (y3 (ix3 0 a b)) := by
  have e := m_apply x y2 a b
  have e' := v_apply x y3 a b
  unfold k0_pay2
  generalize k0_pay6 x y2 = p at e ⊢
  generalize k0_pay1 (k0_pay4 y3) (k0_pay5 x) k0_pay7 = q at e' ⊢
  pointwise [k0_pay3]
  rw [e, e']
  rfl

variable (m : (ℓ : Loc nD τ sig) → Buf (Elt Ideal) ℓ)

/-! The blocks: point `t` has rows `64 t … 64 t + 63`. -/

theorem idx : ∀ t : Fin cfg0.N, t.val < 16
    ∧ (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Row `a` of point `t`'s block, as a row of the array. -/
def row (t : Fin cfg0.N) (a : Fin 64) : Fin 1024 := ⟨t.val * 64 + a.val, by have := (idx t).1; omega⟩

theorem emb0 (t : Fin cfg0.N) (s : Fin 8) (a : Fin 64) (b : Fin 1476) : ((cfg0.win 0).blk t).view.emb (ix3 s a b) = ix3 s (row t a) b := by
  obtain ⟨-, ⟨e0, e1, e2⟩, -⟩ := idx t
  refine ext3 ?_ ?_ ?_
  · show win0_0.index t (0 : Fin 3) * 8 + 1 * s.val = s.val; omega
  · show win0_0.index t (1 : Fin 3) * 64 + 1 * a.val = t.val * 64 + a.val; omega
  · show win0_0.index t (2 : Fin 3) * 1476 + 1 * b.val = b.val; omega
theorem emb1 (t : Fin cfg0.N) (a : Fin 64) (b : Fin 1476) : ((cfg0.win 1).blk t).view.emb (ix3 0 a b) = ix3 0 (row t a) b := by
  obtain ⟨-, -, ⟨e0, e1, e2⟩, -⟩ := idx t
  refine ext3 ?_ ?_ ?_
  · show win0_1.index t (0 : Fin 3) * 1 + 1 * 0 = 0; omega
  · show win0_1.index t (1 : Fin 3) * 64 + 1 * a.val = t.val * 64 + a.val; omega
  · show win0_1.index t (2 : Fin 3) * 1476 + 1 * b.val = b.val; omega
theorem emb2 (t : Fin cfg0.N) (a : Fin 64) (b : Fin 1476) : ((cfg0.win 2).blk t).view.emb (ix3 0 a b) = ix3 0 (row t a) b := by
  obtain ⟨-, -, -, ⟨e0, e1, e2⟩, -⟩ := idx t
  refine ext3 ?_ ?_ ?_
  · show win0_2.index t (0 : Fin 3) * 1 + 1 * 0 = 0; omega
  · show win0_2.index t (1 : Fin 3) * 64 + 1 * a.val = t.val * 64 + a.val; omega
  · show win0_2.index t (2 : Fin 3) * 1476 + 1 * b.val = b.val; omega
theorem emb3 (t : Fin cfg0.N) (a : Fin 64) (b : Fin 1476) : ((cfg0.win 3).blk t).view.emb (ix3 0 a b) = ix3 0 (row t a) b := by
  obtain ⟨-, -, -, -, ⟨e0, e1, e2⟩, -⟩ := idx t
  refine ext3 ?_ ?_ ?_
  · show win0_3.index t (0 : Fin 3) * 1 + 1 * 0 = 0; omega
  · show win0_3.index t (1 : Fin 3) * 64 + 1 * a.val = t.val * 64 + a.val; omega
  · show win0_3.index t (2 : Fin 3) * 1476 + 1 * b.val = b.val; omega
theorem emb4 (t : Fin cfg0.N) (a : Fin 64) (b : Fin 1476) : ((cfg0.win 4).blk t).view.emb (ix2 a b) = ix2 (row t a) b := by
  obtain ⟨-, -, -, -, -, ⟨e0, e1⟩, -⟩ := idx t
  refine ext2 ?_ ?_
  · show win0_4.index t (0 : Fin 2) * 64 + 1 * a.val = t.val * 64 + a.val; omega
  · show win0_4.index t (1 : Fin 2) * 1476 + 1 * b.val = b.val; omega
theorem emb5 (t : Fin cfg0.N) (a : Fin 64) (b : Fin 1476) : ((cfg0.win 5).blk t).view.emb (ix2 a b) = ix2 (row t a) b := by
  obtain ⟨-, -, -, -, -, -, ⟨e0, e1⟩, -⟩ := idx t
  refine ext2 ?_ ?_
  · show win0_5.index t (0 : Fin 2) * 64 + 1 * a.val = t.val * 64 + a.val; omega
  · show win0_5.index t (1 : Fin 2) * 1476 + 1 * b.val = b.val; omega
theorem emb6 (t : Fin cfg0.N) (a : Fin 64) (b : Fin 1476) : ((cfg0.win 6).blk t).view.emb (ix2 a b) = ix2 (row t a) b := by
  obtain ⟨-, -, -, -, -, -, -, ⟨e0, e1⟩, -⟩ := idx t
  refine ext2 ?_ ?_
  · show win0_6.index t (0 : Fin 2) * 64 + 1 * a.val = t.val * 64 + a.val; omega
  · show win0_6.index t (1 : Fin 2) * 1476 + 1 * b.val = b.val; omega
theorem emb7 (t : Fin cfg0.N) (a : Fin 64) (b : Fin 1476) : ((cfg0.win 7).blk t).view.emb (ix2 a b) = ix2 (row t a) b := by
  obtain ⟨-, -, -, -, -, -, -, -, e0, e1⟩ := idx t
  refine ext2 ?_ ?_
  · show win0_7.index t (0 : Fin 2) * 64 + 1 * a.val = t.val * 64 + a.val; omega
  · show win0_7.index t (1 : Fin 2) * 1476 + 1 * b.val = b.val; omega

theorem iblk0_apply (c : Dev nD) (t : Fin cfg0.N) (s : Fin 8) (a : Fin 64) (b : Fin 1476) : (iblk m c 0 t : B8x64x1476) (ix3 s a b)
    = (V m c main_arg0 : B8x1024x1476) (ix3 s (row t a) b) :=
  congrArg (V m c main_arg0) (emb0 t s a b)
theorem iblk1_apply (c : Dev nD) (t : Fin cfg0.N) (a : Fin 64) (b : Fin 1476) : (iblk m c 1 t : R1x64x1476) (ix3 0 a b)
    = (V m c main_arg1 : R4x1024x1476) (ix3 0 (row t a) b) :=
  congrArg (V m c main_arg1) (emb1 t a b)
theorem iblk2_apply (c : Dev nD) (t : Fin cfg0.N) (a : Fin 64) (b : Fin 1476) : (iblk m c 2 t : R1x64x1476) (ix3 0 a b)
    = (V m c main_arg2 : R4x1024x1476) (ix3 0 (row t a) b) :=
  congrArg (V m c main_arg2) (emb2 t a b)
theorem iblk3_apply (c : Dev nD) (t : Fin cfg0.N) (a : Fin 64) (b : Fin 1476) : (iblk m c 3 t : R1x64x1476) (ix3 0 a b)
    = (V m c main_arg3 : R4x1024x1476) (ix3 0 (row t a) b) :=
  congrArg (V m c main_arg3) (emb3 t a b)

/-! The four results after the run; a whole block is read and written. -/

theorem ld0 (x : B8x64x1476) : View.ld x r0_0 = x := by rw [View.ld_unit_zero hz3]
theorem ld1 (x : R1x64x1476) : View.ld x r0_1 = x := by rw [View.ld_unit_zero hz3]

theorem final4 (c : Dev nD) : (dats m 0 c).arrAt 4 cfg0.N = grad (V m c main_arg0) := by
  refine (dats m 0 c).arrAt_eq_of_covers 4 _ (by decide +kernel) fun t _ y => ?_
  rw [after0_4]
  unfold out0_4
  rw [View.canon_unit_zero hz]
  unfold k0_pay9
  simp only [ld0, ld1]
  obtain ⟨a, b, rfl⟩ := pair y
  rw [emb4]
  show k0_pay5 (iblk m c 0 t) (ix2 a b) = _
  rw [g_apply]
  simp only [iblk0_apply]
  rfl

theorem final5 (c : Dev nD) : (dats m 0 c).arrAt 5 cfg0.N = step (V m c main_arg0) (V m c main_arg1) (V m c main_arg2) (V m c main_arg3) := by
  refine (dats m 0 c).arrAt_eq_of_covers 5 _ (by decide +kernel) fun t _ y => ?_
  rw [after0_5]
  unfold out0_5
  rw [View.canon_unit_zero hz]
  unfold k0_pay8 k0_pay9 k0_pay10 k0_pay11
  simp only [ld0, ld1]
  obtain ⟨a, b, rfl⟩ := pair y
  rw [emb5]
  show k0_pay2 (k0_pay3 (iblk m c 1 t)) (k0_pay4 (iblk m c 3 t)) (k0_pay5 (iblk m c 0 t)) (k0_pay6 (iblk m c 0 t) (iblk m c 2 t)) k0_pay7 (ix2 a b) = _
  rw [d_apply]
  simp only [iblk0_apply, iblk1_apply, iblk2_apply, iblk3_apply]
  rfl

theorem final6 (c : Dev nD) : (dats m 0 c).arrAt 6 cfg0.N = mean (V m c main_arg0) (V m c main_arg2) := by
  refine (dats m 0 c).arrAt_eq_of_covers 6 _ (by decide +kernel) fun t _ y => ?_
  rw [after0_6]
  unfold out0_6
  rw [View.canon_unit_zero hz]
  unfold k0_pay10
  simp only [ld0, ld1]
  obtain ⟨a, b, rfl⟩ := pair y
  rw [emb6]
  show k0_pay6 (iblk m c 0 t) (iblk m c 2 t) (ix2 a b) = _
  rw [m_apply]
  simp only [iblk0_apply, iblk2_apply]
  rfl

theorem final7 (c : Dev nD) : (dats m 0 c).arrAt 7 cfg0.N = square (V m c main_arg0) (V m c main_arg3) := by
  refine (dats m 0 c).arrAt_eq_of_covers 7 _ (by decide +kernel) fun t _ y => ?_
  rw [after0_7]
  unfold out0_7
  rw [View.canon_unit_zero hz]
  unfold k0_pay8 k0_pay9 k0_pay11
  simp only [ld0, ld1]
  obtain ⟨a, b, rfl⟩ := pair y
  rw [emb7]
  show k0_pay1 (k0_pay4 (iblk m c 3 t)) (k0_pay5 (iblk m c 0 t)) k0_pay7 (ix2 a b) = _
  rw [v_apply]
  simp only [iblk0_apply, iblk3_apply]
  rfl

end

section

open Cert.AdamInRefIdeal

/-! What the reference computes. -/

theorem ref_grad (r : B8x1024x1476) : Host.reduceAdd (F := Ideal) (extf (F := Ideal) (φ := .bf16) .f32 r Facts₀.bitsLt_bf16_f32) (constant (F := Ideal) S_ .f32 0x00000000#32) Facts₀.reducesTo_S8x1024x1476_S1024x1476_d0 Facts₀.h_S_ = grad r := by
  funext y
  obtain ⟨a, b, rfl⟩ := pair y
  pointwise
  rfl
/-- The two means and the step from the gradient `g`, as the reference composes them. -/
def refM (g : R1024x1476) (m : R4x1024x1476) : R1024x1476 :=
  addf (F := Ideal) (φ := .f32) (mulf (F := Ideal) (φ := .f32) (broadcastInDim S1024x1476 ![] Facts₀.bcast_S_S1024x1476 (constant (F := Ideal) S_ .f32 0x3F666666#32)) (shapeCast S1024x1476 (extractStridedSlice S1x1024x1476 ![0, 0, 0] m Facts₀.slices_S4x1024x1476_S1x1024x1476_0_0_0) Facts₀.shapeCasts_S1x1024x1476_S1024x1476)) (mulf (F := Ideal) (φ := .f32) (broadcastInDim S1024x1476 ![] Facts₀.bcast_S_S1024x1476 (constant (F := Ideal) S_ .f32 0x3DCCCCCD#32)) g)
def refV (g : R1024x1476) (v : R4x1024x1476) : R1024x1476 :=
  addf (F := Ideal) (φ := .f32) (mulf (F := Ideal) (φ := .f32) (broadcastInDim S1024x1476 ![] Facts₀.bcast_S_S1024x1476 (constant (F := Ideal) S_ .f32 0x3F7FBE77#32)) (shapeCast S1024x1476 (extractStridedSlice S1x1024x1476 ![0, 0, 0] v Facts₀.slices_S4x1024x1476_S1x1024x1476_0_0_0) Facts₀.shapeCasts_S1x1024x1476_S1024x1476)) (mulf (F := Ideal) (φ := .f32) (broadcastInDim S1024x1476 ![] Facts₀.bcast_S_S1024x1476 (constant (F := Ideal) S_ .f32 0x3A83126F#32)) (mulf (F := Ideal) (φ := .f32) g g))
def refStep (g : R1024x1476) (w m v : R4x1024x1476) : R1024x1476 :=
  mulf (F := Ideal) (φ := .f32) (broadcastInDim S1024x1476 ![] Facts₀.bcast_S_S1024x1476 (constant (F := Ideal) S_ .f32 0xBA83126F#32)) (addf (F := Ideal) (φ := .f32) (Host.divf (F := Ideal) (φ := .f32) (Host.divf (F := Ideal) (φ := .f32) (refM g m) (broadcastInDim S1024x1476 ![] Facts₀.bcast_S_S1024x1476 (constant (F := Ideal) S_ .f32 0x3F26BD02#32)))
    (addf (F := Ideal) (φ := .f32) (Host.sqrt (F := Ideal) (φ := .f32) (Host.divf (F := Ideal) (φ := .f32) (refV g v) (broadcastInDim S1024x1476 ![] Facts₀.bcast_S_S1024x1476 (constant (F := Ideal) S_ .f32 0x3C231ACC#32)))) (broadcastInDim S1024x1476 ![] Facts₀.bcast_S_S1024x1476 (constant (F := Ideal) S_ .f32 0x322BCC77#32)))) (mulf (F := Ideal) (φ := .f32) (broadcastInDim S1024x1476 ![] Facts₀.bcast_S_S1024x1476 (constant (F := Ideal) S_ .f32 0x3C23D70A#32)) (shapeCast S1024x1476 (extractStridedSlice S1x1024x1476 ![0, 0, 0] w Facts₀.slices_S4x1024x1476_S1x1024x1476_0_0_0) Facts₀.shapeCasts_S1x1024x1476_S1024x1476)))
theorem refM_eq (g : R1024x1476) (m : R4x1024x1476) (a : Fin 1024) (b : Fin 1476) : refM g m (ix2 a b) = newM (g (ix2 a b)) (m (ix3 0 a b)) := by
  pointwise [refM]
  rfl
theorem refV_eq (g : R1024x1476) (v : R4x1024x1476) (a : Fin 1024) (b : Fin 1476) : refV g v (ix2 a b) = newV (g (ix2 a b)) (v (ix3 0 a b)) := by
  pointwise [refV]
  rfl
theorem refStep_eq (g : R1024x1476) (w m v : R4x1024x1476) (a : Fin 1024) (b : Fin 1476) :
    refStep g w m v (ix2 a b) = delta (w (ix3 0 a b)) (g (ix2 a b)) (m (ix3 0 a b)) (v (ix3 0 a b)) := by
  have e := refM_eq g m a b
  have e' := refV_eq g v a b
  unfold refStep
  generalize refM g m = p at e ⊢
  generalize refV g v = q at e' ⊢
  pointwise
  rw [e, e']
  rfl
theorem ref_mean (r : B8x1024x1476) (m : R4x1024x1476) : refM (grad r) m = mean r m := by
  funext y
  obtain ⟨a, b, rfl⟩ := pair y
  exact refM_eq _ m a b
theorem ref_square (r : B8x1024x1476) (v : R4x1024x1476) : refV (grad r) v = square r v := by
  funext y
  obtain ⟨a, b, rfl⟩ := pair y
  exact refV_eq _ v a b
theorem ref_step (r : B8x1024x1476) (w m v : R4x1024x1476) : refStep (grad r) w m v = step r w m v := by
  funext y
  obtain ⟨a, b, rfl⟩ := pair y
  exact refStep_eq _ w m v a b

end

open Cert.AdamInIdeal Cert.AdamInIdeal.Gen

/-- The claim of the call: kernel and reference end with the same four arrays. -/
theorem algebraic : Cert.algebraic_AdamInIdeal_AdamInRefIdeal := fun m ρ m' ρ' _ hag =>
  ⟨fun c => grad (V m c main_arg0), fun c => step (V m c main_arg0) (V m c main_arg1) (V m c main_arg2) (V m c main_arg3), fun c => mean (V m c main_arg0) (V m c main_arg2), fun c => square (V m c main_arg0) (V m c main_arg3),
   (θ_run _ _ _).mono (fun _ h c => ⟨(h c).1.trans (final4 m c), (h c).2.1.trans (final5 m c), (h c).2.2.1.trans (final6 m c),
      (h c).2.2.2.1.trans (final7 m c), (h c).2.2.2.2⟩) (Value.run_blocks m ρ),
   (θ_run _ _ _).mono (fun _ h c => ⟨(h c).1.trans (by rw [(hag c).1]; exact ref_grad _),
      (h c).2.1.trans (by rw [(hag c).1, (hag c).2.1, (hag c).2.2.1, (hag c).2.2.2, ref_grad]; exact ref_step _ _ _ _),
      (h c).2.2.1.trans (by rw [(hag c).1, (hag c).2.2.1, ref_grad]; exact ref_mean _ _),
      (h c).2.2.2.1.trans (by rw [(hag c).1, (hag c).2.2.2, ref_grad]; exact ref_square _ _), (h c).2.2.2.2⟩)
     (Cert.AdamInRefIdeal.Value.run m' ρ')⟩

end Cert.AdamInProof

end
-- ==== Proof.AdamXkv.lean ====
/- The optimiser on the key and value projection: what the kernel leaves in its four results, and that the reference leaves the same. -/
module

public import proofs.«01_k».proof.Defs
public import proofs.«01_k».proof.Proof.Gen.AdamXkvIdeal.Value
public import proofs.«01_k».proof.Proof.Gen.AdamXkvRefIdeal.Run
public import proofs.«01_k».proof.Proof.Shared
public import proofs.«01_k».proof.Proof.AdamSpec

@[expose] public section

set_option maxRecDepth 16384

noncomputable section

namespace Cert.AdamXkvProof

open Idealize.ShloMosaic Idealize.ShloMosaic.TcCoe Idealize.SL.Sem
open Idealize.ShloMosaic.Pointwise Cert.Shared Cert.Adam

section

open Cert.AdamXkvIdeal Cert.AdamXkvIdeal.Gen

/-! Arrays by their shapes. -/
abbrev R4x1024x256 := Vec Ideal S4x1024x256 .f32
abbrev R1024x256 := Vec Ideal S1024x256 .f32
abbrev B8x1024x256 := Vec Ideal S8x1024x256 .bf16
abbrev R1x512x256 := Vec Ideal S1x512x256 .f32
abbrev B8x512x256 := Vec Ideal S8x512x256 .bf16

/-- The gradient: the devices' parts, added. -/
def grad (r : B8x1024x256) : R1024x256 := fun i => ∑ s : Fin 8, r (ix3 s (i 0) (i 1))
/-- The three arrays the step makes of it for the first layer. -/
def mean (r : B8x1024x256) (m : R4x1024x256) : R1024x256 := fun i => newM (grad r i) (m (ix3 0 (i 0) (i 1)))
def square (r : B8x1024x256) (v : R4x1024x256) : R1024x256 := fun i => newV (grad r i) (v (ix3 0 (i 0) (i 1)))
def step (r : B8x1024x256) (w m v : R4x1024x256) : R1024x256 :=
  fun i => delta (w (ix3 0 (i 0) (i 1))) (grad r i) (m (ix3 0 (i 0) (i 1))) (v (ix3 0 (i 0) (i 1)))

/-! What one grid point computes. -/

theorem g_apply (x : B8x512x256) (a : Fin 512) (b : Fin 256) : k0_pay5 x (ix2 a b) = ∑ s : Fin 8, x (ix3 s a b) := by
  rw [Fin.sum_univ_eight]
  pointwise [k0_pay5]
theorem m_apply (x : B8x512x256) (y : R1x512x256) (a : Fin 512) (b : Fin 256) :
    k0_pay6 x y (ix2 a b) = newM (∑ s : Fin 8, x (ix3 s a b)) (y (ix3 0 a b)) := by
  have e := g_apply x a b
  unfold k0_pay6
  generalize k0_pay5 x = g at e ⊢
  pointwise
  rw [e]
  rfl
theorem v_apply (x : B8x512x256) (y : R1x512x256) (a : Fin 512) (b : Fin 256) :
    k0_pay1 (k0_pay4 y) (k0_pay5 x) k0_pay7 (ix2 a b) = newV (∑ s : Fin 8, x (ix3 s a b)) (y (ix3 0 a b)) := by
  have e := g_apply x a b
  generalize k0_pay5 x = g at e ⊢
  pointwise [k0_pay1, k0_pay4, k0_pay7]
  rw [e]
  rfl
theorem d_apply (x : B8x512x256) (y1 y2 y3 : R1x512x256) (a : Fin 512) (b : Fin 256) :
    k0_pay2 (k0_pay3 y1) (k0_pay4 y3) (k0_pay5 x) (k0_pay6 x y2) k0_pay7 (ix2 a b)
      = delta (y1 (ix3 0 a b)) (∑ s : Fin 8, x (ix3 s a b)) (y2 (ix3 0 a b)) (y3 (ix3 0 a b)) := by
  have e := m_apply x y2 a b
  have e' := v_apply x y3 a b
  unfold k0_pay2
  generalize k0_pay6 x y2 = p at e ⊢
  generalize k0_pay1 (k0_pay4 y3) (k0_pay5 x) k0_pay7 = q at e' ⊢
  pointwise [k0_pay3]
  rw [e, e']
  rfl

variable (m : (ℓ : Loc nD τ sig) → Buf (Elt Ideal) ℓ)

/-! The blocks: point `t` has rows `512 t … 512 t + 511`. -/

theorem idx : ∀ t : Fin cfg0.N, t.val < 2
    ∧ (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Row `a` of point `t`'s block, as a row of the array. -/
def row (t : Fin cfg0.N) (a : Fin 512) : Fin 1024 := ⟨t.val * 512 + a.val, by have := (idx t).1; omega⟩

theorem emb0 (t : Fin cfg0.N) (s : Fin 8) (a : Fin 512) (b : Fin 256) : ((cfg0.win 0).blk t).view.emb (ix3 s a b) = ix3 s (row t a) b := by
  obtain ⟨-, ⟨e0, e1, e2⟩, -⟩ := idx t
  refine ext3 ?_ ?_ ?_
  · show win0_0.index t (0 : Fin 3) * 8 + 1 * s.val = s.val; omega
  · show win0_0.index t (1 : Fin 3) * 512 + 1 * a.val = t.val * 512 + a.val; omega
  · show win0_0.index t (2 : Fin 3) * 256 + 1 * b.val = b.val; omega
theorem emb1 (t : Fin cfg0.N) (a : Fin 512) (b : Fin 256) : ((cfg0.win 1).blk t).view.emb (ix3 0 a b) = ix3 0 (row t a) b := by
  obtain ⟨-, -, ⟨e0, e1, e2⟩, -⟩ := idx t
  refine ext3 ?_ ?_ ?_
  · show win0_1.index t (0 : Fin 3) * 1 + 1 * 0 = 0; omega
  · show win0_1.index t (1 : Fin 3) * 512 + 1 * a.val = t.val * 512 + a.val; omega
  · show win0_1.index t (2 : Fin 3) * 256 + 1 * b.val = b.val; omega
theorem emb2 (t : Fin cfg0.N) (a : Fin 512) (b : Fin 256) : ((cfg0.win 2).blk t).view.emb (ix3 0 a b) = ix3 0 (row t a) b := by
  obtain ⟨-, -, -, ⟨e0, e1, e2⟩, -⟩ := idx t
  refine ext3 ?_ ?_ ?_
  · show win0_2.index t (0 : Fin 3) * 1 + 1 * 0 = 0; omega
  · show win0_2.index t (1 : Fin 3) * 512 + 1 * a.val = t.val * 512 + a.val; omega
  · show win0_2.index t (2 : Fin 3) * 256 + 1 * b.val = b.val; omega
theorem emb3 (t : Fin cfg0.N) (a : Fin 512) (b : Fin 256) : ((cfg0.win 3).blk t).view.emb (ix3 0 a b) = ix3 0 (row t a) b := by
  obtain ⟨-, -, -, -, ⟨e0, e1, e2⟩, -⟩ := idx t
  refine ext3 ?_ ?_ ?_
  · show win0_3.index t (0 : Fin 3) * 1 + 1 * 0 = 0; omega
  · show win0_3.index t (1 : Fin 3) * 512 + 1 * a.val = t.val * 512 + a.val; omega
  · show win0_3.index t (2 : Fin 3) * 256 + 1 * b.val = b.val; omega
theorem emb4 (t : Fin cfg0.N) (a : Fin 512) (b : Fin 256) : ((cfg0.win 4).blk t).view.emb (ix2 a b) = ix2 (row t a) b := by
  obtain ⟨-, -, -, -, -, ⟨e0, e1⟩, -⟩ := idx t
  refine ext2 ?_ ?_
  · show win0_4.index t (0 : Fin 2) * 512 + 1 * a.val = t.val * 512 + a.val; omega
  · show win0_4.index t (1 : Fin 2) * 256 + 1 * b.val = b.val; omega
theorem emb5 (t : Fin cfg0.N) (a : Fin 512) (b : Fin 256) : ((cfg0.win 5).blk t).view.emb (ix2 a b) = ix2 (row t a) b := by
  obtain ⟨-, -, -, -, -, -, ⟨e0, e1⟩, -⟩ := idx t
  refine ext2 ?_ ?_
  · show win0_5.index t (0 : Fin 2) * 512 + 1 * a.val = t.val * 512 + a.val; omega
  · show win0_5.index t (1 : Fin 2) * 256 + 1 * b.val = b.val; omega
theorem emb6 (t : Fin cfg0.N) (a : Fin 512) (b : Fin 256) : ((cfg0.win 6).blk t).view.emb (ix2 a b) = ix2 (row t a) b := by
  obtain ⟨-, -, -, -, -, -, -, ⟨e0, e1⟩, -⟩ := idx t
  refine ext2 ?_ ?_
  · show win0_6.index t (0 : Fin 2) * 512 + 1 * a.val = t.val * 512 + a.val; omega
  · show win0_6.index t (1 : Fin 2) * 256 + 1 * b.val = b.val; omega
theorem emb7 (t : Fin cfg0.N) (a : Fin 512) (b : Fin 256) : ((cfg0.win 7).blk t).view.emb (ix2 a b) = ix2 (row t a) b := by
  obtain ⟨-, -, -, -, -, -, -, -, e0, e1⟩ := idx t
  refine ext2 ?_ ?_
  · show win0_7.index t (0 : Fin 2) * 512 + 1 * a.val = t.val * 512 + a.val; omega
  · show win0_7.index t (1 : Fin 2) * 256 + 1 * b.val = b.val; omega

theorem iblk0_apply (c : Dev nD) (t : Fin cfg0.N) (s : Fin 8) (a : Fin 512) (b : Fin 256) : (iblk m c 0 t : B8x512x256) (ix3 s a b)
    = (V m c main_arg0 : B8x1024x256) (ix3 s (row t a) b) :=
  congrArg (V m c main_arg0) (emb0 t s a b)
theorem iblk1_apply (c : Dev nD) (t : Fin cfg0.N) (a : Fin 512) (b : Fin 256) : (iblk m c 1 t : R1x512x256) (ix3 0 a b)
    = (V m c main_arg1 : R4x1024x256) (ix3 0 (row t a) b) :=
  congrArg (V m c main_arg1) (emb1 t a b)
theorem iblk2_apply (c : Dev nD) (t : Fin cfg0.N) (a : Fin 512) (b : Fin 256) : (iblk m c 2 t : R1x512x256) (ix3 0 a b)
    = (V m c main_arg2 : R4x1024x256) (ix3 0 (row t a) b) :=
  congrArg (V m c main_arg2) (emb2 t a b)
theorem iblk3_apply (c : Dev nD) (t : Fin cfg0.N) (a : Fin 512) (b : Fin 256) : (iblk m c 3 t : R1x512x256) (ix3 0 a b)
    = (V m c main_arg3 : R4x1024x256) (ix3 0 (row t a) b) :=
  congrArg (V m c main_arg3) (emb3 t a b)

/-! The four results after the run; a whole block is read and written. -/

theorem ld0 (x : B8x512x256) : View.ld x r0_0 = x := by rw [View.ld_unit_zero hz3]
theorem ld1 (x : R1x512x256) : View.ld x r0_1 = x := by rw [View.ld_unit_zero hz3]

theorem final4 (c : Dev nD) : (dats m 0 c).arrAt 4 cfg0.N = grad (V m c main_arg0) := by
  refine (dats m 0 c).arrAt_eq_of_covers 4 _ (by decide +kernel) fun t _ y => ?_
  rw [after0_4]
  unfold out0_4
  rw [View.canon_unit_zero hz]
  unfold k0_pay9
  simp only [ld0, ld1]
  obtain ⟨a, b, rfl⟩ := pair y
  rw [emb4]
  show k0_pay5 (iblk m c 0 t) (ix2 a b) = _
  rw [g_apply]
  simp only [iblk0_apply]
  rfl

theorem final5 (c : Dev nD) : (dats m 0 c).arrAt 5 cfg0.N = step (V m c main_arg0) (V m c main_arg1) (V m c main_arg2) (V m c main_arg3) := by
  refine (dats m 0 c).arrAt_eq_of_covers 5 _ (by decide +kernel) fun t _ y => ?_
  rw [after0_5]
  unfold out0_5
  rw [View.canon_unit_zero hz]
  unfold k0_pay8 k0_pay9 k0_pay10 k0_pay11
  simp only [ld0, ld1]
  obtain ⟨a, b, rfl⟩ := pair y
  rw [emb5]
  show k0_pay2 (k0_pay3 (iblk m c 1 t)) (k0_pay4 (iblk m c 3 t)) (k0_pay5 (iblk m c 0 t)) (k0_pay6 (iblk m c 0 t) (iblk m c 2 t)) k0_pay7 (ix2 a b) = _
  rw [d_apply]
  simp only [iblk0_apply, iblk1_apply, iblk2_apply, iblk3_apply]
  rfl

theorem final6 (c : Dev nD) : (dats m 0 c).arrAt 6 cfg0.N = mean (V m c main_arg0) (V m c main_arg2) := by
  refine (dats m 0 c).arrAt_eq_of_covers 6 _ (by decide +kernel) fun t _ y => ?_
  rw [after0_6]
  unfold out0_6
  rw [View.canon_unit_zero hz]
  unfold k0_pay10
  simp only [ld0, ld1]
  obtain ⟨a, b, rfl⟩ := pair y
  rw [emb6]
  show k0_pay6 (iblk m c 0 t) (iblk m c 2 t) (ix2 a b) = _
  rw [m_apply]
  simp only [iblk0_apply, iblk2_apply]
  rfl

theorem final7 (c : Dev nD) : (dats m 0 c).arrAt 7 cfg0.N = square (V m c main_arg0) (V m c main_arg3) := by
  refine (dats m 0 c).arrAt_eq_of_covers 7 _ (by decide +kernel) fun t _ y => ?_
  rw [after0_7]
  unfold out0_7
  rw [View.canon_unit_zero hz]
  unfold k0_pay8 k0_pay9 k0_pay11
  simp only [ld0, ld1]
  obtain ⟨a, b, rfl⟩ := pair y
  rw [emb7]
  show k0_pay1 (k0_pay4 (iblk m c 3 t)) (k0_pay5 (iblk m c 0 t)) k0_pay7 (ix2 a b) = _
  rw [v_apply]
  simp only [iblk0_apply, iblk3_apply]
  rfl

end

section

open Cert.AdamXkvRefIdeal

/-! What the reference computes. -/

theorem ref_grad (r : B8x1024x256) : Host.reduceAdd (F := Ideal) (extf (F := Ideal) (φ := .bf16) .f32 r Facts₀.bitsLt_bf16_f32) (constant (F := Ideal) S_ .f32 0x00000000#32) Facts₀.reducesTo_S8x1024x256_S1024x256_d0 Facts₀.h_S_ = grad r := by
  funext y
  obtain ⟨a, b, rfl⟩ := pair y
  pointwise
  rfl
/-- The two means and the step from the gradient `g`, as the reference composes them. -/
def refM (g : R1024x256) (m : R4x1024x256) : R1024x256 :=
  addf (F := Ideal) (φ := .f32) (mulf (F := Ideal) (φ := .f32) (broadcastInDim S1024x256 ![] Facts₀.bcast_S_S1024x256 (constant (F := Ideal) S_ .f32 0x3F666666#32)) (shapeCast S1024x256 (extractStridedSlice S1x1024x256 ![0, 0, 0] m Facts₀.slices_S4x1024x256_S1x1024x256_0_0_0) Facts₀.shapeCasts_S1x1024x256_S1024x256)) (mulf (F := Ideal) (φ := .f32) (broadcastInDim S1024x256 ![] Facts₀.bcast_S_S1024x256 (constant (F := Ideal) S_ .f32 0x3DCCCCCD#32)) g)
def refV (g : R1024x256) (v : R4x1024x256) : R1024x256 :=
  addf (F := Ideal) (φ := .f32) (mulf (F := Ideal) (φ := .f32) (broadcastInDim S1024x256 ![] Facts₀.bcast_S_S1024x256 (constant (F := Ideal) S_ .f32 0x3F7FBE77#32)) (shapeCast S1024x256 (extractStridedSlice S1x1024x256 ![0, 0, 0] v Facts₀.slices_S4x1024x256_S1x1024x256_0_0_0) Facts₀.shapeCasts_S1x1024x256_S1024x256)) (mulf (F := Ideal) (φ := .f32) (broadcastInDim S1024x256 ![] Facts₀.bcast_S_S1024x256 (constant (F := Ideal) S_ .f32 0x3A83126F#32)) (mulf (F := Ideal) (φ := .f32) g g))
def refStep (g : R1024x256) (w m v : R4x1024x256) : R1024x256 :=
  mulf (F := Ideal) (φ := .f32) (broadcastInDim S1024x256 ![] Facts₀.bcast_S_S1024x256 (constant (F := Ideal) S_ .f32 0xBA83126F#32)) (addf (F := Ideal) (φ := .f32) (Host.divf (F := Ideal) (φ := .f32) (Host.divf (F := Ideal) (φ := .f32) (refM g m) (broadcastInDim S1024x256 ![] Facts₀.bcast_S_S1024x256 (constant (F := Ideal) S_ .f32 0x3F26BD02#32)))
    (addf (F := Ideal) (φ := .f32) (Host.sqrt (F := Ideal) (φ := .f32) (Host.divf (F := Ideal) (φ := .f32) (refV g v) (broadcastInDim S1024x256 ![] Facts₀.bcast_S_S1024x256 (constant (F := Ideal) S_ .f32 0x3C231ACC#32)))) (broadcastInDim S1024x256 ![] Facts₀.bcast_S_S1024x256 (constant (F := Ideal) S_ .f32 0x322BCC77#32)))) (mulf (F := Ideal) (φ := .f32) (broadcastInDim S1024x256 ![] Facts₀.bcast_S_S1024x256 (constant (F := Ideal) S_ .f32 0x3C23D70A#32)) (shapeCast S1024x256 (extractStridedSlice S1x1024x256 ![0, 0, 0] w Facts₀.slices_S4x1024x256_S1x1024x256_0_0_0) Facts₀.shapeCasts_S1x1024x256_S1024x256)))
theorem refM_eq (g : R1024x256) (m : R4x1024x256) (a : Fin 1024) (b : Fin 256) : refM g m (ix2 a b) = newM (g (ix2 a b)) (m (ix3 0 a b)) := by
  pointwise [refM]
  rfl
theorem refV_eq (g : R1024x256) (v : R4x1024x256) (a : Fin 1024) (b : Fin 256) : refV g v (ix2 a b) = newV (g (ix2 a b)) (v (ix3 0 a b)) := by
  pointwise [refV]
  rfl
theorem refStep_eq (g : R1024x256) (w m v : R4x1024x256) (a : Fin 1024) (b : Fin 256) :
    refStep g w m v (ix2 a b) = delta (w (ix3 0 a b)) (g (ix2 a b)) (m (ix3 0 a b)) (v (ix3 0 a b)) := by
  have e := refM_eq g m a b
  have e' := refV_eq g v a b
  unfold refStep
  generalize refM g m = p at e ⊢
  generalize refV g v = q at e' ⊢
  pointwise
  rw [e, e']
  rfl
theorem ref_mean (r : B8x1024x256) (m : R4x1024x256) : refM (grad r) m = mean r m := by
  funext y
  obtain ⟨a, b, rfl⟩ := pair y
  exact refM_eq _ m a b
theorem ref_square (r : B8x1024x256) (v : R4x1024x256) : refV (grad r) v = square r v := by
  funext y
  obtain ⟨a, b, rfl⟩ := pair y
  exact refV_eq _ v a b
theorem ref_step (r : B8x1024x256) (w m v : R4x1024x256) : refStep (grad r) w m v = step r w m v := by
  funext y
  obtain ⟨a, b, rfl⟩ := pair y
  exact refStep_eq _ w m v a b

end

open Cert.AdamXkvIdeal Cert.AdamXkvIdeal.Gen

/-- The claim of the call: kernel and reference end with the same four arrays. -/
theorem algebraic : Cert.algebraic_AdamXkvIdeal_AdamXkvRefIdeal := fun m ρ m' ρ' _ hag =>
  ⟨fun c => grad (V m c main_arg0), fun c => step (V m c main_arg0) (V m c main_arg1) (V m c main_arg2) (V m c main_arg3), fun c => mean (V m c main_arg0) (V m c main_arg2), fun c => square (V m c main_arg0) (V m c main_arg3),
   (θ_run _ _ _).mono (fun _ h c => ⟨(h c).1.trans (final4 m c), (h c).2.1.trans (final5 m c), (h c).2.2.1.trans (final6 m c),
      (h c).2.2.2.1.trans (final7 m c), (h c).2.2.2.2⟩) (Value.run_blocks m ρ),
   (θ_run _ _ _).mono (fun _ h c => ⟨(h c).1.trans (by rw [(hag c).1]; exact ref_grad _),
      (h c).2.1.trans (by rw [(hag c).1, (hag c).2.1, (hag c).2.2.1, (hag c).2.2.2, ref_grad]; exact ref_step _ _ _ _),
      (h c).2.2.1.trans (by rw [(hag c).1, (hag c).2.2.1, ref_grad]; exact ref_mean _ _),
      (h c).2.2.2.1.trans (by rw [(hag c).1, (hag c).2.2.2, ref_grad]; exact ref_square _ _), (h c).2.2.2.2⟩)
     (Cert.AdamXkvRefIdeal.Value.run m' ρ')⟩

end Cert.AdamXkvProof

end
-- ==== Proof.AdamUp.lean ====
/- The optimiser on the MLP's up weight: what the kernel leaves in its four results, and that the reference leaves the same. -/
module

public import proofs.«01_k».proof.Defs
public import proofs.«01_k».proof.Proof.Gen.AdamUpIdeal.Value
public import proofs.«01_k».proof.Proof.Gen.AdamUpRefIdeal.Run
public import proofs.«01_k».proof.Proof.Shared
public import proofs.«01_k».proof.Proof.AdamSpec

@[expose] public section

set_option maxRecDepth 16384

noncomputable section

namespace Cert.AdamUpProof

open Idealize.ShloMosaic Idealize.ShloMosaic.TcCoe Idealize.SL.Sem
open Idealize.ShloMosaic.Pointwise Cert.Shared Cert.Adam

section

open Cert.AdamUpIdeal Cert.AdamUpIdeal.Gen

/-! Arrays by their shapes. -/
abbrev R4x1024x512 := Vec Ideal S4x1024x512 .f32
abbrev R1024x512 := Vec Ideal S1024x512 .f32
abbrev B8x1024x512 := Vec Ideal S8x1024x512 .bf16
abbrev R1x256x512 := Vec Ideal S1x256x512 .f32
abbrev B8x256x512 := Vec Ideal S8x256x512 .bf16

/-- The gradient: the devices' parts, added. -/
def grad (r : B8x1024x512) : R1024x512 := fun i => ∑ s : Fin 8, r (ix3 s (i 0) (i 1))
/-- The three arrays the step makes of it for the first layer. -/
def mean (r : B8x1024x512) (m : R4x1024x512) : R1024x512 := fun i => newM (grad r i) (m (ix3 0 (i 0) (i 1)))
def square (r : B8x1024x512) (v : R4x1024x512) : R1024x512 := fun i => newV (grad r i) (v (ix3 0 (i 0) (i 1)))
def step (r : B8x1024x512) (w m v : R4x1024x512) : R1024x512 :=
  fun i => delta (w (ix3 0 (i 0) (i 1))) (grad r i) (m (ix3 0 (i 0) (i 1))) (v (ix3 0 (i 0) (i 1)))

/-! What one grid point computes. -/

theorem g_apply (x : B8x256x512) (a : Fin 256) (b : Fin 512) : k0_pay5 x (ix2 a b) = ∑ s : Fin 8, x (ix3 s a b) := by
  rw [Fin.sum_univ_eight]
  pointwise [k0_pay5]
theorem m_apply (x : B8x256x512) (y : R1x256x512) (a : Fin 256) (b : Fin 512) :
    k0_pay6 x y (ix2 a b) = newM (∑ s : Fin 8, x (ix3 s a b)) (y (ix3 0 a b)) := by
  have e := g_apply x a b
  unfold k0_pay6
  generalize k0_pay5 x = g at e ⊢
  pointwise
  rw [e]
  rfl
theorem v_apply (x : B8x256x512) (y : R1x256x512) (a : Fin 256) (b : Fin 512) :
    k0_pay1 (k0_pay4 y) (k0_pay5 x) k0_pay7 (ix2 a b) = newV (∑ s : Fin 8, x (ix3 s a b)) (y (ix3 0 a b)) := by
  have e := g_apply x a b
  generalize k0_pay5 x = g at e ⊢
  pointwise [k0_pay1, k0_pay4, k0_pay7]
  rw [e]
  rfl
theorem d_apply (x : B8x256x512) (y1 y2 y3 : R1x256x512) (a : Fin 256) (b : Fin 512) :
    k0_pay2 (k0_pay3 y1) (k0_pay4 y3) (k0_pay5 x) (k0_pay6 x y2) k0_pay7 (ix2 a b)
      = delta (y1 (ix3 0 a b)) (∑ s : Fin 8, x (ix3 s a b)) (y2 (ix3 0 a b)) (y3 (ix3 0 a b)) := by
  have e := m_apply x y2 a b
  have e' := v_apply x y3 a b
  unfold k0_pay2
  generalize k0_pay6 x y2 = p at e ⊢
  generalize k0_pay1 (k0_pay4 y3) (k0_pay5 x) k0_pay7 = q at e' ⊢
  pointwise [k0_pay3]
  rw [e, e']
  rfl

variable (m : (ℓ : Loc nD τ sig) → Buf (Elt Ideal) ℓ)

/-! The blocks: point `t` has rows `256 t … 256 t + 255`. -/

theorem idx : ∀ t : Fin cfg0.N, t.val < 4
    ∧ (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Row `a` of point `t`'s block, as a row of the array. -/
def row (t : Fin cfg0.N) (a : Fin 256) : Fin 1024 := ⟨t.val * 256 + a.val, by have := (idx t).1; omega⟩

theorem emb0 (t : Fin cfg0.N) (s : Fin 8) (a : Fin 256) (b : Fin 512) : ((cfg0.win 0).blk t).view.emb (ix3 s a b) = ix3 s (row t a) b := by
  obtain ⟨-, ⟨e0, e1, e2⟩, -⟩ := idx t
  refine ext3 ?_ ?_ ?_
  · show win0_0.index t (0 : Fin 3) * 8 + 1 * s.val = s.val; omega
  · show win0_0.index t (1 : Fin 3) * 256 + 1 * a.val = t.val * 256 + a.val; omega
  · show win0_0.index t (2 : Fin 3) * 512 + 1 * b.val = b.val; omega
theorem emb1 (t : Fin cfg0.N) (a : Fin 256) (b : Fin 512) : ((cfg0.win 1).blk t).view.emb (ix3 0 a b) = ix3 0 (row t a) b := by
  obtain ⟨-, -, ⟨e0, e1, e2⟩, -⟩ := idx t
  refine ext3 ?_ ?_ ?_
  · show win0_1.index t (0 : Fin 3) * 1 + 1 * 0 = 0; omega
  · show win0_1.index t (1 : Fin 3) * 256 + 1 * a.val = t.val * 256 + a.val; omega
  · show win0_1.index t (2 : Fin 3) * 512 + 1 * b.val = b.val; omega
theorem emb2 (t : Fin cfg0.N) (a : Fin 256) (b : Fin 512) : ((cfg0.win 2).blk t).view.emb (ix3 0 a b) = ix3 0 (row t a) b := by
  obtain ⟨-, -, -, ⟨e0, e1, e2⟩, -⟩ := idx t
  refine ext3 ?_ ?_ ?_
  · show win0_2.index t (0 : Fin 3) * 1 + 1 * 0 = 0; omega
  · show win0_2.index t (1 : Fin 3) * 256 + 1 * a.val = t.val * 256 + a.val; omega
  · show win0_2.index t (2 : Fin 3) * 512 + 1 * b.val = b.val; omega
theorem emb3 (t : Fin cfg0.N) (a : Fin 256) (b : Fin 512) : ((cfg0.win 3).blk t).view.emb (ix3 0 a b) = ix3 0 (row t a) b := by
  obtain ⟨-, -, -, -, ⟨e0, e1, e2⟩, -⟩ := idx t
  refine ext3 ?_ ?_ ?_
  · show win0_3.index t (0 : Fin 3) * 1 + 1 * 0 = 0; omega
  · show win0_3.index t (1 : Fin 3) * 256 + 1 * a.val = t.val * 256 + a.val; omega
  · show win0_3.index t (2 : Fin 3) * 512 + 1 * b.val = b.val; omega
theorem emb4 (t : Fin cfg0.N) (a : Fin 256) (b : Fin 512) : ((cfg0.win 4).blk t).view.emb (ix2 a b) = ix2 (row t a) b := by
  obtain ⟨-, -, -, -, -, ⟨e0, e1⟩, -⟩ := idx t
  refine ext2 ?_ ?_
  · show win0_4.index t (0 : Fin 2) * 256 + 1 * a.val = t.val * 256 + a.val; omega
  · show win0_4.index t (1 : Fin 2) * 512 + 1 * b.val = b.val; omega
theorem emb5 (t : Fin cfg0.N) (a : Fin 256) (b : Fin 512) : ((cfg0.win 5).blk t).view.emb (ix2 a b) = ix2 (row t a) b := by
  obtain ⟨-, -, -, -, -, -, ⟨e0, e1⟩, -⟩ := idx t
  refine ext2 ?_ ?_
  · show win0_5.index t (0 : Fin 2) * 256 + 1 * a.val = t.val * 256 + a.val; omega
  · show win0_5.index t (1 : Fin 2) * 512 + 1 * b.val = b.val; omega
theorem emb6 (t : Fin cfg0.N) (a : Fin 256) (b : Fin 512) : ((cfg0.win 6).blk t).view.emb (ix2 a b) = ix2 (row t a) b := by
  obtain ⟨-, -, -, -, -, -, -, ⟨e0, e1⟩, -⟩ := idx t
  refine ext2 ?_ ?_
  · show win0_6.index t (0 : Fin 2) * 256 + 1 * a.val = t.val * 256 + a.val; omega
  · show win0_6.index t (1 : Fin 2) * 512 + 1 * b.val = b.val; omega
theorem emb7 (t : Fin cfg0.N) (a : Fin 256) (b : Fin 512) : ((cfg0.win 7).blk t).view.emb (ix2 a b) = ix2 (row t a) b := by
  obtain ⟨-, -, -, -, -, -, -, -, e0, e1⟩ := idx t
  refine ext2 ?_ ?_
  · show win0_7.index t (0 : Fin 2) * 256 + 1 * a.val = t.val * 256 + a.val; omega
  · show win0_7.index t (1 : Fin 2) * 512 + 1 * b.val = b.val; omega

theorem iblk0_apply (c : Dev nD) (t : Fin cfg0.N) (s : Fin 8) (a : Fin 256) (b : Fin 512) : (iblk m c 0 t : B8x256x512) (ix3 s a b)
    = (V m c main_arg0 : B8x1024x512) (ix3 s (row t a) b) :=
  congrArg (V m c main_arg0) (emb0 t s a b)
theorem iblk1_apply (c : Dev nD) (t : Fin cfg0.N) (a : Fin 256) (b : Fin 512) : (iblk m c 1 t : R1x256x512) (ix3 0 a b)
    = (V m c main_arg1 : R4x1024x512) (ix3 0 (row t a) b) :=
  congrArg (V m c main_arg1) (emb1 t a b)
theorem iblk2_apply (c : Dev nD) (t : Fin cfg0.N) (a : Fin 256) (b : Fin 512) : (iblk m c 2 t : R1x256x512) (ix3 0 a b)
    = (V m c main_arg2 : R4x1024x512) (ix3 0 (row t a) b) :=
  congrArg (V m c main_arg2) (emb2 t a b)
theorem iblk3_apply (c : Dev nD) (t : Fin cfg0.N) (a : Fin 256) (b : Fin 512) : (iblk m c 3 t : R1x256x512) (ix3 0 a b)
    = (V m c main_arg3 : R4x1024x512) (ix3 0 (row t a) b) :=
  congrArg (V m c main_arg3) (emb3 t a b)

/-! The four results after the run; a whole block is read and written. -/

theorem ld0 (x : B8x256x512) : View.ld x r0_0 = x := by rw [View.ld_unit_zero hz3]
theorem ld1 (x : R1x256x512) : View.ld x r0_1 = x := by rw [View.ld_unit_zero hz3]

theorem final4 (c : Dev nD) : (dats m 0 c).arrAt 4 cfg0.N = grad (V m c main_arg0) := by
  refine (dats m 0 c).arrAt_eq_of_covers 4 _ (by decide +kernel) fun t _ y => ?_
  rw [after0_4]
  unfold out0_4
  rw [View.canon_unit_zero hz]
  unfold k0_pay9
  simp only [ld0, ld1]
  obtain ⟨a, b, rfl⟩ := pair y
  rw [emb4]
  show k0_pay5 (iblk m c 0 t) (ix2 a b) = _
  rw [g_apply]
  simp only [iblk0_apply]
  rfl

theorem final5 (c : Dev nD) : (dats m 0 c).arrAt 5 cfg0.N = step (V m c main_arg0) (V m c main_arg1) (V m c main_arg2) (V m c main_arg3) := by
  refine (dats m 0 c).arrAt_eq_of_covers 5 _ (by decide +kernel) fun t _ y => ?_
  rw [after0_5]
  unfold out0_5
  rw [View.canon_unit_zero hz]
  unfold k0_pay8 k0_pay9 k0_pay10 k0_pay11
  simp only [ld0, ld1]
  obtain ⟨a, b, rfl⟩ := pair y
  rw [emb5]
  show k0_pay2 (k0_pay3 (iblk m c 1 t)) (k0_pay4 (iblk m c 3 t)) (k0_pay5 (iblk m c 0 t)) (k0_pay6 (iblk m c 0 t) (iblk m c 2 t)) k0_pay7 (ix2 a b) = _
  rw [d_apply]
  simp only [iblk0_apply, iblk1_apply, iblk2_apply, iblk3_apply]
  rfl

theorem final6 (c : Dev nD) : (dats m 0 c).arrAt 6 cfg0.N = mean (V m c main_arg0) (V m c main_arg2) := by
  refine (dats m 0 c).arrAt_eq_of_covers 6 _ (by decide +kernel) fun t _ y => ?_
  rw [after0_6]
  unfold out0_6
  rw [View.canon_unit_zero hz]
  unfold k0_pay10
  simp only [ld0, ld1]
  obtain ⟨a, b, rfl⟩ := pair y
  rw [emb6]
  show k0_pay6 (iblk m c 0 t) (iblk m c 2 t) (ix2 a b) = _
  rw [m_apply]
  simp only [iblk0_apply, iblk2_apply]
  rfl

theorem final7 (c : Dev nD) : (dats m 0 c).arrAt 7 cfg0.N = square (V m c main_arg0) (V m c main_arg3) := by
  refine (dats m 0 c).arrAt_eq_of_covers 7 _ (by decide +kernel) fun t _ y => ?_
  rw [after0_7]
  unfold out0_7
  rw [View.canon_unit_zero hz]
  unfold k0_pay8 k0_pay9 k0_pay11
  simp only [ld0, ld1]
  obtain ⟨a, b, rfl⟩ := pair y
  rw [emb7]
  show k0_pay1 (k0_pay4 (iblk m c 3 t)) (k0_pay5 (iblk m c 0 t)) k0_pay7 (ix2 a b) = _
  rw [v_apply]
  simp only [iblk0_apply, iblk3_apply]
  rfl

end

section

open Cert.AdamUpRefIdeal

/-! What the reference computes. -/

theorem ref_grad (r : B8x1024x512) : Host.reduceAdd (F := Ideal) (extf (F := Ideal) (φ := .bf16) .f32 r Facts₀.bitsLt_bf16_f32) (constant (F := Ideal) S_ .f32 0x00000000#32) Facts₀.reducesTo_S8x1024x512_S1024x512_d0 Facts₀.h_S_ = grad r := by
  funext y
  obtain ⟨a, b, rfl⟩ := pair y
  pointwise
  rfl
/-- The two means and the step from the gradient `g`, as the reference composes them. -/
def refM (g : R1024x512) (m : R4x1024x512) : R1024x512 :=
  addf (F := Ideal) (φ := .f32) (mulf (F := Ideal) (φ := .f32) (broadcastInDim S1024x512 ![] Facts₀.bcast_S_S1024x512 (constant (F := Ideal) S_ .f32 0x3F666666#32)) (shapeCast S1024x512 (extractStridedSlice S1x1024x512 ![0, 0, 0] m Facts₀.slices_S4x1024x512_S1x1024x512_0_0_0) Facts₀.shapeCasts_S1x1024x512_S1024x512)) (mulf (F := Ideal) (φ := .f32) (broadcastInDim S1024x512 ![] Facts₀.bcast_S_S1024x512 (constant (F := Ideal) S_ .f32 0x3DCCCCCD#32)) g)
def refV (g : R1024x512) (v : R4x1024x512) : R1024x512 :=
  addf (F := Ideal) (φ := .f32) (mulf (F := Ideal) (φ := .f32) (broadcastInDim S1024x512 ![] Facts₀.bcast_S_S1024x512 (constant (F := Ideal) S_ .f32 0x3F7FBE77#32)) (shapeCast S1024x512 (extractStridedSlice S1x1024x512 ![0, 0, 0] v Facts₀.slices_S4x1024x512_S1x1024x512_0_0_0) Facts₀.shapeCasts_S1x1024x512_S1024x512)) (mulf (F := Ideal) (φ := .f32) (broadcastInDim S1024x512 ![] Facts₀.bcast_S_S1024x512 (constant (F := Ideal) S_ .f32 0x3A83126F#32)) (mulf (F := Ideal) (φ := .f32) g g))
def refStep (g : R1024x512) (w m v : R4x1024x512) : R1024x512 :=
  mulf (F := Ideal) (φ := .f32) (broadcastInDim S1024x512 ![] Facts₀.bcast_S_S1024x512 (constant (F := Ideal) S_ .f32 0xBA83126F#32)) (addf (F := Ideal) (φ := .f32) (Host.divf (F := Ideal) (φ := .f32) (Host.divf (F := Ideal) (φ := .f32) (refM g m) (broadcastInDim S1024x512 ![] Facts₀.bcast_S_S1024x512 (constant (F := Ideal) S_ .f32 0x3F26BD02#32)))
    (addf (F := Ideal) (φ := .f32) (Host.sqrt (F := Ideal) (φ := .f32) (Host.divf (F := Ideal) (φ := .f32) (refV g v) (broadcastInDim S1024x512 ![] Facts₀.bcast_S_S1024x512 (constant (F := Ideal) S_ .f32 0x3C231ACC#32)))) (broadcastInDim S1024x512 ![] Facts₀.bcast_S_S1024x512 (constant (F := Ideal) S_ .f32 0x322BCC77#32)))) (mulf (F := Ideal) (φ := .f32) (broadcastInDim S1024x512 ![] Facts₀.bcast_S_S1024x512 (constant (F := Ideal) S_ .f32 0x3C23D70A#32)) (shapeCast S1024x512 (extractStridedSlice S1x1024x512 ![0, 0, 0] w Facts₀.slices_S4x1024x512_S1x1024x512_0_0_0) Facts₀.shapeCasts_S1x1024x512_S1024x512)))
theorem refM_eq (g : R1024x512) (m : R4x1024x512) (a : Fin 1024) (b : Fin 512) : refM g m (ix2 a b) = newM (g (ix2 a b)) (m (ix3 0 a b)) := by
  pointwise [refM]
  rfl
theorem refV_eq (g : R1024x512) (v : R4x1024x512) (a : Fin 1024) (b : Fin 512) : refV g v (ix2 a b) = newV (g (ix2 a b)) (v (ix3 0 a b)) := by
  pointwise [refV]
  rfl
theorem refStep_eq (g : R1024x512) (w m v : R4x1024x512) (a : Fin 1024) (b : Fin 512) :
    refStep g w m v (ix2 a b) = delta (w (ix3 0 a b)) (g (ix2 a b)) (m (ix3 0 a b)) (v (ix3 0 a b)) := by
  have e := refM_eq g m a b
  have e' := refV_eq g v a b
  unfold refStep
  generalize refM g m = p at e ⊢
  generalize refV g v = q at e' ⊢
  pointwise
  rw [e, e']
  rfl
theorem ref_mean (r : B8x1024x512) (m : R4x1024x512) : refM (grad r) m = mean r m := by
  funext y
  obtain ⟨a, b, rfl⟩ := pair y
  exact refM_eq _ m a b
theorem ref_square (r : B8x1024x512) (v : R4x1024x512) : refV (grad r) v = square r v := by
  funext y
  obtain ⟨a, b, rfl⟩ := pair y
  exact refV_eq _ v a b
theorem ref_step (r : B8x1024x512) (w m v : R4x1024x512) : refStep (grad r) w m v = step r w m v := by
  funext y
  obtain ⟨a, b, rfl⟩ := pair y
  exact refStep_eq _ w m v a b

end

open Cert.AdamUpIdeal Cert.AdamUpIdeal.Gen

/-- The claim of the call: kernel and reference end with the same four arrays. -/
theorem algebraic : Cert.algebraic_AdamUpIdeal_AdamUpRefIdeal := fun m ρ m' ρ' _ hag =>
  ⟨fun c => grad (V m c main_arg0), fun c => step (V m c main_arg0) (V m c main_arg1) (V m c main_arg2) (V m c main_arg3), fun c => mean (V m c main_arg0) (V m c main_arg2), fun c => square (V m c main_arg0) (V m c main_arg3),
   (θ_run _ _ _).mono (fun _ h c => ⟨(h c).1.trans (final4 m c), (h c).2.1.trans (final5 m c), (h c).2.2.1.trans (final6 m c),
      (h c).2.2.2.1.trans (final7 m c), (h c).2.2.2.2⟩) (Value.run_blocks m ρ),
   (θ_run _ _ _).mono (fun _ h c => ⟨(h c).1.trans (by rw [(hag c).1]; exact ref_grad _),
      (h c).2.1.trans (by rw [(hag c).1, (hag c).2.1, (hag c).2.2.1, (hag c).2.2.2, ref_grad]; exact ref_step _ _ _ _),
      (h c).2.2.1.trans (by rw [(hag c).1, (hag c).2.2.1, ref_grad]; exact ref_mean _ _),
      (h c).2.2.2.1.trans (by rw [(hag c).1, (hag c).2.2.2, ref_grad]; exact ref_square _ _), (h c).2.2.2.2⟩)
     (Cert.AdamUpRefIdeal.Value.run m' ρ')⟩

end Cert.AdamUpProof

end
-- ==== Proof.AdamSmallRef.lean ====
/- The optimiser on the packed small weights. What the results are, in formulas, and that the reference computes them. -/
module

public import proofs.«01_k».proof.Proof.Gen.AdamSmallRefIdeal.Run
public import proofs.«01_k».proof.Proof.Shared
public import proofs.«01_k».proof.Proof.AdamSpec

@[expose] public section

set_option maxRecDepth 16384

noncomputable section

namespace Cert.AdamSmallProof

open Cert.AdamSmallRefIdeal Idealize.ShloMosaic Idealize.ShloMosaic.TcCoe Idealize.SL.Sem
open Idealize.ShloMosaic.Pointwise Cert.Shared Cert.Adam

/-! Arrays by their shapes. -/
abbrev R596x128r := Vec Ideal S596x128 .f32

/-- The new means and the step, from the gradient `g`, the weight `w` and the means `x` and `z` before. -/
def mean (g x : R596x128r) : R596x128r := fun i => newM (g i) (x i)
def square (g z : R596x128r) : R596x128r := fun i => newV (g i) (z i)
def step (g w x z : R596x128r) : R596x128r := fun i => delta (w i) (g i) (x i) (z i)

/-! What the reference computes. -/

def refMean (y0 : R596x128r) (y2 : R596x128r) : R596x128r :=
  addf (F := Ideal) (φ := .f32) (mulf (F := Ideal) (φ := .f32) (broadcastInDim S596x128 ![] Facts₀.bcast_S_S596x128 (constant (F := Ideal) S_ .f32 0x3F666666#32)) y2) (mulf (F := Ideal) (φ := .f32) (broadcastInDim S596x128 ![] Facts₀.bcast_S_S596x128 (constant (F := Ideal) S_ .f32 0x3DCCCCCD#32)) y0)
def refSquare (y0 : R596x128r) (y3 : R596x128r) : R596x128r :=
  addf (F := Ideal) (φ := .f32) (mulf (F := Ideal) (φ := .f32) (broadcastInDim S596x128 ![] Facts₀.bcast_S_S596x128 (constant (F := Ideal) S_ .f32 0x3F7FBE77#32)) y3) (mulf (F := Ideal) (φ := .f32) (broadcastInDim S596x128 ![] Facts₀.bcast_S_S596x128 (constant (F := Ideal) S_ .f32 0x3A83126F#32)) (mulf (F := Ideal) (φ := .f32) y0 y0))

theorem ref_mean (y0 y2 : R596x128r) : refMean y0 y2 = mean y0 y2 := by
  funext y
  obtain ⟨a, b, rfl⟩ := pair y
  pointwise [refMean]
  rfl
theorem ref_square (y0 y3 : R596x128r) : refSquare y0 y3 = square y0 y3 := by
  funext y
  obtain ⟨a, b, rfl⟩ := pair y
  pointwise [refSquare]
  rfl
theorem ref_step (y0 y1 y2 y3 : R596x128r) : mulf (F := Ideal) (φ := .f32) (broadcastInDim S596x128 ![] Facts₀.bcast_S_S596x128 (constant (F := Ideal) S_ .f32 0xBA83126F#32)) (addf (F := Ideal) (φ := .f32) (Host.divf (F := Ideal) (φ := .f32) (Host.divf (F := Ideal) (φ := .f32) (refMean y0 y2) (broadcastInDim S596x128 ![] Facts₀.bcast_S_S596x128 (constant (F := Ideal) S_ .f32 0x3F26BD02#32))) (addf (F := Ideal) (φ := .f32) (Host.sqrt (F := Ideal) (φ := .f32) (Host.divf (F := Ideal) (φ := .f32) (refSquare y0 y3) (broadcastInDim S596x128 ![] Facts₀.bcast_S_S596x128 (constant (F := Ideal) S_ .f32 0x3C231ACC#32)))) (broadcastInDim S596x128 ![] Facts₀.bcast_S_S596x128 (constant (F := Ideal) S_ .f32 0x322BCC77#32)))) (mulf (F := Ideal) (φ := .f32) (broadcastInDim S596x128 ![] Facts₀.bcast_S_S596x128 (constant (F := Ideal) S_ .f32 0x3C23D70A#32)) y1)) = step y0 y1 y2 y3 := by
  funext y
  obtain ⟨a, b, rfl⟩ := pair y
  rw [ref_mean, ref_square]
  pointwise
  rfl

end Cert.AdamSmallProof

end
-- ==== Proof.AdamSmall.lean ====
/- The optimiser on the packed small weights. -/
module

public import proofs.«01_k».proof.Defs
public import proofs.«01_k».proof.Proof.Gen.AdamSmallIdeal.Value
public import proofs.«01_k».proof.Proof.Gen.AdamSmallRefIdeal.Run
public import proofs.«01_k».proof.Proof.Shared
public import proofs.«01_k».proof.Proof.AdamSpec
public import proofs.«01_k».proof.Proof.AdamSmallRef

@[expose] public section

set_option maxRecDepth 16384

noncomputable section

namespace Cert.AdamSmallProof

open Cert.AdamSmallIdeal Cert.AdamSmallIdeal.Gen Idealize.ShloMosaic Idealize.ShloMosaic.TcCoe Idealize.SL.Sem
open Idealize.ShloMosaic.Pointwise Cert.Shared Cert.Adam

/-! Arrays by their shapes. -/
abbrev R596x128 := Vec Ideal S596x128 .f32

/-! What one grid point computes. -/

theorem m_apply (g x : R596x128) (a : Fin 596) (b : Fin 128) : k0_pay1 g x (ix2 a b) = newM (g (ix2 a b)) (x (ix2 a b)) := by
  pointwise [k0_pay1]
  rfl
theorem v_apply (g x : R596x128) (a : Fin 596) (b : Fin 128) : k0_pay2 g x (ix2 a b) = newV (g (ix2 a b)) (x (ix2 a b)) := by
  pointwise [k0_pay2]
  rfl
theorem d_apply (g w x z : R596x128) (a : Fin 596) (b : Fin 128) :
    k0_pay3 g w x z (ix2 a b) = delta (w (ix2 a b)) (g (ix2 a b)) (x (ix2 a b)) (z (ix2 a b)) := by
  have e := m_apply g x a b
  have e' := v_apply g z a b
  unfold k0_pay3
  generalize k0_pay1 g x = p at e ⊢
  generalize k0_pay2 g z = q at e' ⊢
  pointwise
  rw [e, e']
  rfl

variable (m : (ℓ : Loc nD τ sig) → Buf (Elt Ideal) ℓ)

theorem idx : ∀ t : Fin cfg0.N, t.val < 1
    ∧ (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- Row `a` of point `t`'s block, as a row of the array. -/
def row (t : Fin cfg0.N) (a : Fin 596) : Fin 596 := ⟨t.val * 596 + a.val, by have := (idx t).1; omega⟩

theorem emb0 (t : Fin cfg0.N) (a : Fin 596) (b : Fin 128) : ((cfg0.win 0).blk t).view.emb (ix2 a b) = ix2 (row t a) b := by
  obtain ⟨-, ⟨e0, e1⟩, -⟩ := idx t
  refine ext2 ?_ ?_
  · show win0_0.index t (0 : Fin 2) * 596 + 1 * a.val = t.val * 596 + a.val; omega
  · show win0_0.index t (1 : Fin 2) * 128 + 1 * b.val = b.val; omega
theorem emb1 (t : Fin cfg0.N) (a : Fin 596) (b : Fin 128) : ((cfg0.win 1).blk t).view.emb (ix2 a b) = ix2 (row t a) b := by
  obtain ⟨-, -, ⟨e0, e1⟩, -⟩ := idx t
  refine ext2 ?_ ?_
  · show win0_1.index t (0 : Fin 2) * 596 + 1 * a.val = t.val * 596 + a.val; omega
  · show win0_1.index t (1 : Fin 2) * 128 + 1 * b.val = b.val; omega
theorem emb2 (t : Fin cfg0.N) (a : Fin 596) (b : Fin 128) : ((cfg0.win 2).blk t).view.emb (ix2 a b) = ix2 (row t a) b := by
  obtain ⟨-, -, -, ⟨e0, e1⟩, -⟩ := idx t
  refine ext2 ?_ ?_
  · show win0_2.index t (0 : Fin 2) * 596 + 1 * a.val = t.val * 596 + a.val; omega
  · show win0_2.index t (1 : Fin 2) * 128 + 1 * b.val = b.val; omega
theorem emb3 (t : Fin cfg0.N) (a : Fin 596) (b : Fin 128) : ((cfg0.win 3).blk t).view.emb (ix2 a b) = ix2 (row t a) b := by
  obtain ⟨-, -, -, -, ⟨e0, e1⟩, -⟩ := idx t
  refine ext2 ?_ ?_
  · show win0_3.index t (0 : Fin 2) * 596 + 1 * a.val = t.val * 596 + a.val; omega
  · show win0_3.index t (1 : Fin 2) * 128 + 1 * b.val = b.val; omega
theorem emb4 (t : Fin cfg0.N) (a : Fin 596) (b : Fin 128) : ((cfg0.win 4).blk t).view.emb (ix2 a b) = ix2 (row t a) b := by
  obtain ⟨-, -, -, -, -, ⟨e0, e1⟩, -⟩ := idx t
  refine ext2 ?_ ?_
  · show win0_4.index t (0 : Fin 2) * 596 + 1 * a.val = t.val * 596 + a.val; omega
  · show win0_4.index t (1 : Fin 2) * 128 + 1 * b.val = b.val; omega
theorem emb5 (t : Fin cfg0.N) (a : Fin 596) (b : Fin 128) : ((cfg0.win 5).blk t).view.emb (ix2 a b) = ix2 (row t a) b := by
  obtain ⟨-, -, -, -, -, -, ⟨e0, e1⟩, -⟩ := idx t
  refine ext2 ?_ ?_
  · show win0_5.index t (0 : Fin 2) * 596 + 1 * a.val = t.val * 596 + a.val; omega
  · show win0_5.index t (1 : Fin 2) * 128 + 1 * b.val = b.val; omega
theorem emb6 (t : Fin cfg0.N) (a : Fin 596) (b : Fin 128) : ((cfg0.win 6).blk t).view.emb (ix2 a b) = ix2 (row t a) b := by
  obtain ⟨-, -, -, -, -, -, -, e0, e1⟩ := idx t
  refine ext2 ?_ ?_
  · show win0_6.index t (0 : Fin 2) * 596 + 1 * a.val = t.val * 596 + a.val; omega
  · show win0_6.index t (1 : Fin 2) * 128 + 1 * b.val = b.val; omega

theorem iblk0_apply (c : Dev nD) (t : Fin cfg0.N) (a : Fin 596) (b : Fin 128) : (iblk m c 0 t : R596x128) (ix2 a b)
    = (V m c main_arg0 : R596x128) (ix2 (row t a) b) :=
  congrArg (V m c main_arg0) (emb0 t a b)
theorem iblk1_apply (c : Dev nD) (t : Fin cfg0.N) (a : Fin 596) (b : Fin 128) : (iblk m c 1 t : R596x128) (ix2 a b)
    = (V m c main_arg1 : R596x128) (ix2 (row t a) b) :=
  congrArg (V m c main_arg1) (emb1 t a b)
theorem iblk2_apply (c : Dev nD) (t : Fin cfg0.N) (a : Fin 596) (b : Fin 128) : (iblk m c 2 t : R596x128) (ix2 a b)
    = (V m c main_arg2 : R596x128) (ix2 (row t a) b) :=
  congrArg (V m c main_arg2) (emb2 t a b)
theorem iblk3_apply (c : Dev nD) (t : Fin cfg0.N) (a : Fin 596) (b : Fin 128) : (iblk m c 3 t : R596x128) (ix2 a b)
    = (V m c main_arg3 : R596x128) (ix2 (row t a) b) :=
  congrArg (V m c main_arg3) (emb3 t a b)

/-! A whole block is read and written. -/

theorem ld0 (x : R596x128) : View.ld x r0_0 = x := by rw [View.ld_unit_zero hz]

theorem final4 (c : Dev nD) : (dats m 0 c).arrAt 4 cfg0.N = step (V m c main_arg0) (V m c main_arg1) (V m c main_arg2) (V m c main_arg3) := by
  refine (dats m 0 c).arrAt_eq_of_covers 4 _ (by decide +kernel) fun t _ y => ?_
  rw [after0_4]
  unfold out0_4
  rw [View.canon_unit_zero hz]
  simp only [ld0]
  obtain ⟨a, b, rfl⟩ := pair y
  rw [emb4]
  show k0_pay3 (iblk m c 0 t) (iblk m c 1 t) (iblk m c 2 t) (iblk m c 3 t) (ix2 a b) = _
  rw [d_apply]
  simp only [iblk0_apply, iblk1_apply, iblk2_apply, iblk3_apply]
  rfl

theorem final5 (c : Dev nD) : (dats m 0 c).arrAt 5 cfg0.N = mean (V m c main_arg0) (V m c main_arg2) := by
  refine (dats m 0 c).arrAt_eq_of_covers 5 _ (by decide +kernel) fun t _ y => ?_
  rw [after0_5]
  unfold out0_5
  rw [View.canon_unit_zero hz]
  simp only [ld0]
  obtain ⟨a, b, rfl⟩ := pair y
  rw [emb5]
  show k0_pay1 (iblk m c 0 t) (iblk m c 2 t) (ix2 a b) = _
  rw [m_apply]
  simp only [iblk0_apply, iblk2_apply]
  rfl

theorem final6 (c : Dev nD) : (dats m 0 c).arrAt 6 cfg0.N = square (V m c main_arg0) (V m c main_arg3) := by
  refine (dats m 0 c).arrAt_eq_of_covers 6 _ (by decide +kernel) fun t _ y => ?_
  rw [after0_6]
  unfold out0_6
  rw [View.canon_unit_zero hz]
  simp only [ld0]
  obtain ⟨a, b, rfl⟩ := pair y
  rw [emb6]
  show k0_pay2 (iblk m c 0 t) (iblk m c 3 t) (ix2 a b) = _
  rw [v_apply]
  simp only [iblk0_apply, iblk3_apply]
  rfl

/-- The claim of the call: kernel and reference end with the same arrays. -/
theorem algebraic : Cert.algebraic_AdamSmallIdeal_AdamSmallRefIdeal := fun m ρ m' ρ' _ hag =>
  ⟨fun c => step (V m c main_arg0) (V m c main_arg1) (V m c main_arg2) (V m c main_arg3), fun c => mean (V m c main_arg0) (V m c main_arg2), fun c => square (V m c main_arg0) (V m c main_arg3),
   (θ_run _ _ _).mono (fun _ h c => ⟨((h c).1).trans (final4 m c), ((h c).2.1).trans (final5 m c), ((h c).2.2.1).trans (final6 m c), (h c).2.2.2⟩) (Value.run_blocks m ρ),
   (θ_run _ _ _).mono (fun _ h c => ⟨((h c).1).trans (by rw [(hag c).1, (hag c).2.1, (hag c).2.2.1, (hag c).2.2.2]; exact ref_step _ _ _ _), ((h c).2.1).trans (by rw [(hag c).1, (hag c).2.2.1]; exact ref_mean _ _), ((h c).2.2.1).trans (by rw [(hag c).1, (hag c).2.2.2]; exact ref_square _ _), (h c).2.2.2⟩)
         (Cert.AdamSmallRefIdeal.Value.run m' ρ')⟩

end Cert.AdamSmallProof

end
-- ==== Proof.SumSmallRef.lean ====
/- The devices' parts of the packed small gradients, added. What the results are, in formulas, and that the reference computes them. -/
module

public import proofs.«01_k».proof.Proof.Gen.SumSmallRefIdeal.Run
public import proofs.«01_k».proof.Proof.Shared

@[expose] public section

set_option maxRecDepth 16384

noncomputable section

namespace Cert.SumSmallProof

open Cert.SumSmallRefIdeal Idealize.ShloMosaic Idealize.ShloMosaic.TcCoe Idealize.SL.Sem
open Idealize.ShloMosaic.Pointwise Cert.Shared

/-- The sum over the eight devices. -/
def G (x : Vec Ideal S8x1885x128 .f32) : Vec Ideal S1885x128 .f32 := fun i => ∑ s : Fin 8, x (ix3 s (i 0) (i 1))

/-! What the reference computes. -/

theorem ref_eq (y0 : Vec Ideal S8x1885x128 .f32) : Host.reduceAdd (F := Ideal) (φ := .f32) y0 (constant (F := Ideal) S_ .f32 0x00000000#32) Facts₀.reducesTo_S8x1885x128_S1885x128_d0 Facts₀.h_S_ = G y0 := by
  funext y
  obtain ⟨a, b, rfl⟩ := pair y
  pointwise
  rfl

end Cert.SumSmallProof

end
-- ==== Proof.SumSmall.lean ====
/- The devices' parts of the packed small gradients, added. -/
module

public import proofs.«01_k».proof.Defs
public import proofs.«01_k».proof.Proof.Gen.SumSmallIdeal.Value
public import proofs.«01_k».proof.Proof.Gen.SumSmallRefIdeal.Run
public import proofs.«01_k».proof.Proof.Shared
public import proofs.«01_k».proof.Proof.SumSmallRef

@[expose] public section

set_option maxRecDepth 16384

noncomputable section

namespace Cert.SumSmallProof

open Cert.SumSmallIdeal Cert.SumSmallIdeal.Gen Idealize.ShloMosaic Idealize.ShloMosaic.TcCoe Idealize.SL.Sem
open Idealize.ShloMosaic.Pointwise Cert.Shared

/-! Arrays by their shapes. -/
abbrev R8x1885x128 := Vec Ideal S8x1885x128 .f32

/-! What one grid point computes. -/

theorem pay1_apply (x : R8x1885x128) (a : Fin 1885) (b : Fin 128) : k0_pay1 x (ix2 a b) = ∑ s : Fin 8, x (ix3 s a b) := by
  rw [Fin.sum_univ_eight]
  pointwise [k0_pay1]

variable (m : (ℓ : Loc nD τ sig) → Buf (Elt Ideal) ℓ)

theorem idx : ∀ t : Fin cfg0.N, t.val < 1
    ∧ (win0_0.index t (0 : Fin 3) = 0 ∧ win0_0.index t (1 : Fin 3) = t.val ∧ win0_0.index t (2 : Fin 3) = 0)
    ∧ (win0_1.index t (0 : Fin 2) = t.val ∧ win0_1.index t (1 : Fin 2) = 0) :=
  (by decide +kernel : ∀ t : Fin grid0.N, _)

/-- Row `a` of point `t`'s block, as a row of the array. -/
def row (t : Fin cfg0.N) (a : Fin 1885) : Fin 1885 := ⟨t.val * 1885 + a.val, by have := (idx t).1; omega⟩

theorem emb0 (t : Fin cfg0.N) (s : Fin 8) (a : Fin 1885) (b : Fin 128) : ((cfg0.win 0).blk t).view.emb (ix3 s a b) = ix3 s (row t a) b := by
  obtain ⟨-, ⟨e0, e1, e2⟩, -⟩ := idx t
  refine ext3 ?_ ?_ ?_
  · show win0_0.index t (0 : Fin 3) * 8 + 1 * s.val = s.val; omega
  · show win0_0.index t (1 : Fin 3) * 1885 + 1 * a.val = t.val * 1885 + a.val; omega
  · show win0_0.index t (2 : Fin 3) * 128 + 1 * b.val = b.val; omega
theorem emb1 (t : Fin cfg0.N) (a : Fin 1885) (b : Fin 128) : ((cfg0.win 1).blk t).view.emb (ix2 a b) = ix2 (row t a) b := by
  obtain ⟨-, -, e0, e1⟩ := idx t
  refine ext2 ?_ ?_
  · show win0_1.index t (0 : Fin 2) * 1885 + 1 * a.val = t.val * 1885 + a.val; omega
  · show win0_1.index t (1 : Fin 2) * 128 + 1 * b.val = b.val; omega

theorem iblk0_apply (c : Dev nD) (t : Fin cfg0.N) (s : Fin 8) (a : Fin 1885) (b : Fin 128) : (iblk m c 0 t : R8x1885x128) (ix3 s a b)
    = (V m c main_arg0 : R8x1885x128) (ix3 s (row t a) b) :=
  congrArg (V m c main_arg0) (emb0 t s a b)

/-! A whole block is read and written. -/

theorem ld0 (x : R8x1885x128) : View.ld x r0_0 = x := by rw [View.ld_unit_zero hz3]

theorem final1 (c : Dev nD) : (dats m 0 c).arrAt 1 cfg0.N = G (V m c main_arg0) := by
  refine (dats m 0 c).arrAt_eq_of_covers 1 _ (by decide +kernel) fun t _ y => ?_
  rw [after0_1]
  unfold out0_1
  rw [View.canon_unit_zero hz]
  simp only [ld0]
  obtain ⟨a, b, rfl⟩ := pair y
  rw [emb1]
  show k0_pay1 (iblk m c 0 t) (ix2 a b) = _
  rw [pay1_apply]
  simp only [iblk0_apply]
  rfl

/-- The claim of the call: kernel and reference end with the same arrays. -/
theorem algebraic : Cert.algebraic_SumSmallIdeal_SumSmallRefIdeal := fun m ρ m' ρ' _ hag =>
  ⟨fun c => G (V m c main_arg0),
   (θ_run _ _ _).mono (fun _ h c => ⟨((h c).1).trans (final1 m c), (h c).2⟩) (Value.run_blocks m ρ),
   (θ_run _ _ _).mono (fun _ h c => ⟨((h c).1).trans (by rw [(hag c)]; exact ref_eq _), (h c).2⟩)
         (Cert.SumSmallRefIdeal.Value.run m' ρ')⟩

end Cert.SumSmallProof

end
-- ==== Proof.LossRef.lean ====
/- The loss and the gradient it starts from. What the results are, in formulas, and that the reference computes them. -/
module

public import proofs.«01_k».proof.Proof.Gen.LossRefIdeal.Run
public import proofs.«01_k».proof.Proof.Shared

@[expose] public section

set_option maxRecDepth 16384

noncomputable section

namespace Cert.LossProof

open Cert.LossRefIdeal Idealize.ShloMosaic Idealize.ShloMosaic.TcCoe Idealize.SL.Sem
open Idealize.ShloMosaic.Pointwise Cert.Shared

/-! Arrays by their shapes. -/
abbrev R4096x1024r := Vec Ideal S4096x1024 .f32

/-- The sum of a row's squared errors, times the half of one over the row's length. -/
def rowLoss (f g : Fin 1024 → EReal) : EReal := (∑ k, (f k - g k) * (f k - g k)) * Ideal.ofBits .f32 0x3A000000#32
/-- The error over the row's length. -/
def errAt (a b : EReal) : EReal := (a - b) * Ideal.ofBits .f32 0x3A800000#32
/-- The gradient in float32 and in bf16, and the loss in each of the 128 places. -/
def Gx (x t : R4096x1024r) : R4096x1024r := fun i => errAt (x i) (t i)
def Gb (x t : R4096x1024r) : Vec Ideal S4096x1024 .bf16 := fun i => errAt (x i) (t i)
def Gl (x t : R4096x1024r) : Vec Ideal S1x128 .f32 := fun _ => ∑ r : Fin 4096, rowLoss (fun k => x (ix2 r k)) (fun k => t (ix2 r k))

/-! The constants: powers of two. -/

theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem len : Ideal.ofBits .f32 0x44800000#32 = ((1024 : ℝ) : EReal) := by
  simp [Ideal.ofBits, Ideal.ieee, -EReal.coe_mul]; norm_num
theorem perLen : Ideal.ofBits .f32 0x3A800000#32 = ((1 / 1024 : ℝ) : EReal) := by
  simp [Ideal.ofBits, Ideal.ieee, -EReal.coe_mul]; norm_num
theorem halfPerLen : Ideal.ofBits .f32 0x3A000000#32 = ((1 / 2048 : ℝ) : EReal) := by
  simp [Ideal.ofBits, Ideal.ieee, -EReal.coe_mul]; norm_num

/-- A half goes through a sum, whatever its terms. -/
theorem half_sum {ι : Type} (s : Finset ι) (f : ι → EReal) : ((1 / 2 : ℝ) : EReal) * ∑ i ∈ s, f i = ∑ i ∈ s, ((1 / 2 : ℝ) : EReal) * f i := by
  classical
  induction s using Finset.induction_on with
  | empty => rw [Finset.sum_empty, Finset.sum_empty, mul_zero]
  | insert i s h ih =>
    rw [Finset.sum_insert h, Finset.sum_insert h,
      EReal.left_distrib_of_nonneg_of_ne_top (EReal.coe_nonneg.mpr (by norm_num)) (EReal.coe_ne_top _), ih]
theorem half_div (x : EReal) : ((1 / 2 : ℝ) : EReal) * Ideal.div x ((1024 : ℝ) : EReal) = x * ((1 / 2048 : ℝ) : EReal) := by
  rw [Ideal.div_coe (by norm_num), mul_left_comm, ← EReal.coe_mul]
  norm_num
theorem err_eq (x : EReal) : Ideal.div ((1 / 2 : ℝ) : EReal) ((1024 : ℝ) : EReal) * (((2 : ℝ) : EReal) * x) = x * ((1 / 1024 : ℝ) : EReal) := by
  rw [Ideal.div_coe (by norm_num), ← mul_assoc, ← EReal.coe_mul, ← EReal.coe_mul, mul_comm]
  norm_num

/-! What the reference computes. -/

theorem ref_x (y0 y1 : R4096x1024r) : mulf (F := Ideal) (φ := .f32) (broadcastInDim S4096x1024 ![0] Facts₀.bcast_S4096_S4096x1024_0 (Host.divf (F := Ideal) (φ := .f32) (broadcastInDim S4096 ![] Facts₀.bcast_S_S4096 (mulf (F := Ideal) (φ := .f32) (constant (F := Ideal) S_ .f32 0x3F000000#32) (constant (F := Ideal) S_ .f32 0x3F800000#32))) (broadcastInDim S4096 ![] Facts₀.bcast_S_S4096 (constant (F := Ideal) S_ .f32 0x44800000#32)))) (mulf (F := Ideal) (φ := .f32) (broadcastInDim S4096x1024 ![] Facts₀.bcast_S_S4096x1024 (constant (F := Ideal) S_ .f32 0x40000000#32)) (subf (F := Ideal) (φ := .f32) y0 y1)) = Gx y0 y1 := by
  funext y
  obtain ⟨a, b, rfl⟩ := pair y
  pointwise
  simp only [half, two, len, Ideal.ofBits_one_f32]
  refine (err_eq _).trans ?_
  show _ = errAt _ _
  rw [errAt, perLen]
theorem ref_b (y0 y1 : R4096x1024r) : truncf (F := Ideal) (φ := .f32) .bf16 (mulf (F := Ideal) (φ := .f32) (broadcastInDim S4096x1024 ![0] Facts₀.bcast_S4096_S4096x1024_0 (Host.divf (F := Ideal) (φ := .f32) (broadcastInDim S4096 ![] Facts₀.bcast_S_S4096 (mulf (F := Ideal) (φ := .f32) (constant (F := Ideal) S_ .f32 0x3F000000#32) (constant (F := Ideal) S_ .f32 0x3F800000#32))) (broadcastInDim S4096 ![] Facts₀.bcast_S_S4096 (constant (F := Ideal) S_ .f32 0x44800000#32)))) (mulf (F := Ideal) (φ := .f32) (broadcastInDim S4096x1024 ![] Facts₀.bcast_S_S4096x1024 (constant (F := Ideal) S_ .f32 0x40000000#32)) (subf (F := Ideal) (φ := .f32) y0 y1))) Facts₀.bitsLt_bf16_f32 = Gb y0 y1 := congrArg (truncf (F := Ideal) (φ := .f32) .bf16 · Facts₀.bitsLt_bf16_f32) (ref_x y0 y1)
theorem ref_l (y0 y1 : R4096x1024r) : broadcastInDim S1x128 ![] Facts₀.bcast_S_S1x128 (mulf (F := Ideal) (φ := .f32) (constant (F := Ideal) S_ .f32 0x3F000000#32) (Host.reduceAdd (F := Ideal) (φ := .f32) (Host.divf (F := Ideal) (φ := .f32) (Host.reduceAdd (F := Ideal) (φ := .f32) (mulf (F := Ideal) (φ := .f32) (subf (F := Ideal) (φ := .f32) y0 y1) (subf (F := Ideal) (φ := .f32) y0 y1)) (constant (F := Ideal) S_ .f32 0x00000000#32) Facts₀.reducesTo_S4096x1024_S4096_d1 Facts₀.h_S_) (broadcastInDim S4096 ![] Facts₀.bcast_S_S4096 (constant (F := Ideal) S_ .f32 0x44800000#32))) (constant (F := Ideal) S_ .f32 0x00000000#32) Facts₀.reducesTo_S4096_S_d0 Facts₀.h_S_)) = Gl y0 y1 := by
  funext y
  obtain ⟨a, b, rfl⟩ := pair y
  pointwise
  simp only [half, len]
  refine (half_sum _ _).trans (Finset.sum_congr rfl fun r _ => ?_)
  refine (half_div _).trans ?_
  rw [rowLoss, halfPerLen]

end Cert.LossProof

end
-- ==== Proof.Loss.lean ====
/- The loss and the gradient it starts from. -/
module

public import proofs.«01_k».proof.Defs
public import proofs.«01_k».proof.Proof.Gen.LossIdeal.Value
public import proofs.«01_k».proof.Proof.Shared
public import proofs.«01_k».proof.Proof.LossRef

@[expose] public section

set_option maxRecDepth 16384

noncomputable section

namespace Cert.LossProof

open Cert.LossIdeal Cert.LossIdeal.Gen Idealize.ShloMosaic Idealize.ShloMosaic.TcCoe Idealize.SL.Sem
open Idealize.ShloMosaic.Pointwise Cert.Shared

/-! Arrays by their shapes. -/
abbrev R4096x1024 := Vec Ideal S4096x1024 .f32
abbrev R256x1024 := Vec Ideal S256x1024 .f32
abbrev R1x128 := Vec Ideal S1x128 .f32

/-! What one grid point computes. -/

theorem dx_apply (x t : R256x1024) (a : Fin 256) (b : Fin 1024) : k0_pay2 x t (ix2 a b) = errAt (x (ix2 a b)) (t (ix2 a b)) := by
  pointwise [k0_pay2, k0_pay1]
  rfl
theorem db_apply (x t : R256x1024) (a : Fin 256) (b : Fin 1024) : k0_pay4 x t (ix2 a b) = errAt (x (ix2 a b)) (t (ix2 a b)) := by
  pointwise [k0_pay4, k0_pay2, k0_pay1]
  rfl
theorem part_apply (x t : R256x1024) (e : Fin 1) (b : Fin 128) :
    k0_pay3 x t (ix2 e b) = ∑ a : Fin 256, rowLoss (fun k => x (ix2 a k)) (fun k => t (ix2 a k)) := by
  pointwise [k0_pay3, k0_pay1]
  rfl
theorem later_apply (x t : R256x1024) (z : R1x128) (e : Fin 1) (b : Fin 128) :
    k0_pay5 x t z (ix2 e b) = z (ix2 e b) + k0_pay3 x t (ix2 e b) := by
  pointwise [k0_pay5]

variable (m : (ℓ : Loc nD τ sig) → Buf (Elt Ideal) ℓ)

theorem idx : ∀ t : Fin cfg0.N, t.val < 16
    ∧ (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
  := (by decide +kernel : ∀ t : Fin grid0.N, _)

/-- Row `a` of point `t`'s block, as a row of the array. -/
def row (t : Fin cfg0.N) (a : Fin 256) : Fin 4096 := ⟨t.val * 256 + a.val, by have := (idx t).1; omega⟩

theorem emb0 (t : Fin cfg0.N) (a : Fin 256) (b : Fin 1024) : ((cfg0.win 0).blk t).view.emb (ix2 a b) = ix2 (row t a) b := by
  obtain ⟨-, ⟨e0, e1⟩, -⟩ := idx t
  refine ext2 ?_ ?_
  · show win0_0.index t (0 : Fin 2) * 256 + 1 * a.val = t.val * 256 + a.val; omega
  · show win0_0.index t (1 : Fin 2) * 1024 + 1 * b.val = b.val; omega
theorem emb1 (t : Fin cfg0.N) (a : Fin 256) (b : Fin 1024) : ((cfg0.win 1).blk t).view.emb (ix2 a b) = ix2 (row t a) b := by
  obtain ⟨-, -, ⟨e0, e1⟩, -⟩ := idx t
  refine ext2 ?_ ?_
  · show win0_1.index t (0 : Fin 2) * 256 + 1 * a.val = t.val * 256 + a.val; omega
  · show win0_1.index t (1 : Fin 2) * 1024 + 1 * b.val = b.val; omega
theorem emb2 (t : Fin cfg0.N) (a : Fin 256) (b : Fin 1024) : ((cfg0.win 2).blk t).view.emb (ix2 a b) = ix2 (row t a) b := by
  obtain ⟨-, -, -, ⟨e0, e1⟩, -⟩ := idx t
  refine ext2 ?_ ?_
  · show win0_2.index t (0 : Fin 2) * 256 + 1 * a.val = t.val * 256 + a.val; omega
  · show win0_2.index t (1 : Fin 2) * 1024 + 1 * b.val = b.val; omega
theorem emb3 (t : Fin cfg0.N) (a : Fin 256) (b : Fin 1024) : ((cfg0.win 3).blk t).view.emb (ix2 a b) = ix2 (row t a) b := by
  obtain ⟨-, -, -, -, ⟨e0, e1⟩, -⟩ := idx t
  refine ext2 ?_ ?_
  · show win0_3.index t (0 : Fin 2) * 256 + 1 * a.val = t.val * 256 + a.val; omega
  · show win0_3.index t (1 : Fin 2) * 1024 + 1 * b.val = b.val; omega
theorem emb4 (t : Fin cfg0.N) (a : Fin 1) (b : Fin 128) : ((cfg0.win 4).blk t).view.emb (ix2 a b) = ix2 a b := by
  obtain ⟨-, -, -, -, -, e0, e1⟩ := idx t
  refine ext2 ?_ ?_
  · show win0_4.index t (0 : Fin 2) * 1 + 1 * a.val = a.val; omega
  · show win0_4.index t (1 : Fin 2) * 128 + 1 * b.val = b.val; omega

theorem iblk0_apply (c : Dev nD) (t : Fin cfg0.N) (a : Fin 256) (b : Fin 1024) : (iblk m c 0 t : R256x1024) (ix2 a b)
    = (V m c main_arg0 : R4096x1024) (ix2 (row t a) b) := congrArg (V m c main_arg0) (emb0 t a b)
theorem iblk1_apply (c : Dev nD) (t : Fin cfg0.N) (a : Fin 256) (b : Fin 1024) : (iblk m c 1 t : R256x1024) (ix2 a b)
    = (V m c main_arg1 : R4096x1024) (ix2 (row t a) b) := congrArg (V m c main_arg1) (emb1 t a b)

/-! What the body leaves in each result's block, at every point. -/

theorem pos (t : Fin cfg0.N) (h : ¬t.val % 16 = 0) : 1 ≤ t.val := by omega
theorem zero (t : Fin cfg0.N) (h : t.val % 16 = 0) : ¬1 ≤ t.val := by
  have := (idx t).1; omega
theorem out2 (c : Dev nD) (t : Fin cfg0.N) : (outsAt0 m c t.val t.isLt).1 = k0_pay2 (iblk m c 0 t) (iblk m c 1 t) := by
  by_cases h : t.val % 16 = 0
  · rw [outsAt0_A m c t h (zero t h)]
    frame_out
  · rw [outsAt0_B m c t h (pos t h)]
    frame_out
theorem out3 (c : Dev nD) (t : Fin cfg0.N) : (outsAt0 m c t.val t.isLt).2.1 = k0_pay4 (iblk m c 0 t) (iblk m c 1 t) := by
  by_cases h : t.val % 16 = 0
  · rw [outsAt0_A m c t h (zero t h)]
    frame_out
  · rw [outsAt0_B m c t h (pos t h)]
    frame_out
/-- The block's share of the loss. -/
def share4 (c : Dev nD) (t : Fin cfg0.N) : R1x128 := k0_pay3 (iblk m c 0 t) (iblk m c 1 t)
theorem out4_first (c : Dev nD) (t : Fin cfg0.N) (h : t.val % 16 = 0) : (outsAt0 m c t.val t.isLt).2.2 = share4 m c t := by
  rw [outsAt0_A m c t h (zero t h)]
  frame_out
  rfl
theorem out4_later (c : Dev nD) (t : Fin cfg0.N) (h : ¬t.val % 16 = 0) : (outsAt0 m c t.val t.isLt).2.2
    = k0_pay5 (iblk m c 0 t) (iblk m c 1 t) (outsAt0 m c (t.val - 1) (Nat.sub_lt_of_lt t.isLt)).2.2 := by
  rw [outsAt0_B m c t h (pos t h)]
  frame_out
theorem share4_sum (c : Dev nD) (t : Fin cfg0.N) (e : Fin 1) (b : Fin 128) : share4 m c t (ix2 e b)
    = ∑ a : Fin 256, rowLoss (fun k => (V m c main_arg0 : R4096x1024) (ix2 (row t a) k)) (fun k => (V m c main_arg1 : R4096x1024) (ix2 (row t a) k)) := by
  unfold share4
  rw [part_apply]
  simp only [iblk0_apply, iblk1_apply]

/-- The share of the `k`-th block, for any `k`. -/
def term4 (c : Dev nD) (e : Fin 1) (b : Fin 128) (k : Nat) : EReal :=
  if h : k < cfg0.N then share4 m c ⟨k, h⟩ (ix2 e b) else 0

/-- The loss after the last point is the sum of all shares. -/
theorem out4_last (c : Dev nD) (t : Fin cfg0.N) (h : t.val % 16 = 15) (e : Fin 1) (b : Fin 128) :
    ((outsAt0 m c t.val t.isLt).2.2 : R1x128) (ix2 e b) = Gl (V m c main_arg0) (V m c main_arg1) (ix2 e b) := by
  have hN : cfg0.N = 16 := N_0
  have key := Pipeline.eq_sum_of_reset_step_of_mod (N := cfg0.N)
    (fun n hn => ((outsAt0 m c n hn).2.2 : R1x128) (ix2 e b)) 16 0 (term4 m c e b)
    (fun t h => by
      show ((outsAt0 m c t.val t.isLt).2.2 : R1x128) (ix2 e b) = _
      rw [out4_first m c t h, term4, dif_pos t.isLt, zero_add])
    (fun t h => by
      show ((outsAt0 m c t.val t.isLt).2.2 : R1x128) (ix2 e b) = _
      rw [out4_later m c t h, later_apply, term4, dif_pos t.isLt]; rfl)
    t h
  refine key.trans ?_
  have ht : t.val / 16 = 0 := by have := t.isLt; omega
  show _ = ∑ r : Fin 4096, rowLoss (fun k => (V m c main_arg0 : R4096x1024) (ix2 r k)) (fun k => (V m c main_arg1 : R4096x1024) (ix2 r k))
  rw [ht, zero_add, Fin.sum_univ_tiles 16 256 rfl, ← Fin.sum_univ_eq_sum_range (fun k => term4 m c e b (16 * 0 + k)) 16]
  refine Finset.sum_congr rfl fun k _ => ?_
  have hk : 16 * 0 + k.val < cfg0.N := by have := k.isLt; omega
  rw [term4, dif_pos hk, share4_sum]
  refine Finset.sum_congr rfl fun a _ => ?_
  have hr : row ⟨16 * 0 + k.val, hk⟩ a = ⟨k.val * 256 + a.val, by omega⟩ :=
    Fin.ext (by show (16 * 0 + k.val) * 256 + a.val = k.val * 256 + a.val; omega)
  rw [hr]

theorem final4 (c : Dev nD) : (dats m 0 c).arrAt 4 cfg0.N = Gl (V m c main_arg0) (V m c main_arg1) := by
  refine (dats m 0 c).arrAt_eq_of_covers 4 _ (by decide +kernel) fun t hf y => ?_
  rw [after0_4]
  obtain ⟨e, b, rfl⟩ := pair y
  rw [emb4]
  exact out4_last m c t ((flush0_4 t).mp hf) e b

theorem final2 (c : Dev nD) : (dats m 0 c).arrAt 2 cfg0.N = Gx (V m c main_arg0) (V m c main_arg1) := by
  refine (dats m 0 c).arrAt_eq_of_covers 2 _ (by decide +kernel) fun t _ y => ?_
  rw [after0_2]
  obtain ⟨a, b, rfl⟩ := pair y
  rw [emb2]
  refine (congrFun (out2 m c t) (ix2 a b)).trans ?_
  refine (dx_apply _ _ a b).trans ?_
  rw [iblk0_apply, iblk1_apply]
  rfl
theorem final3 (c : Dev nD) : (dats m 0 c).arrAt 3 cfg0.N = Gb (V m c main_arg0) (V m c main_arg1) := by
  refine (dats m 0 c).arrAt_eq_of_covers 3 _ (by decide +kernel) fun t _ y => ?_
  rw [after0_3]
  obtain ⟨a, b, rfl⟩ := pair y
  rw [emb3]
  refine (congrFun (out3 m c t) (ix2 a b)).trans ?_
  refine (db_apply _ _ a b).trans ?_
  rw [iblk0_apply, iblk1_apply]
  rfl

/-- The claim of the call: kernel and reference end with the same three arrays. -/
theorem algebraic : Cert.algebraic_LossIdeal_LossRefIdeal := fun m ρ m' ρ' _ hag =>
  ⟨fun c => Gx (V m c main_arg0) (V m c main_arg1), fun c => Gb (V m c main_arg0) (V m c main_arg1), fun c => Gl (V m c main_arg0) (V m c main_arg1),
   (θ_run _ _ _).mono (fun _ h c => ⟨(h c).1.trans (final2 m c), (h c).2.1.trans (final3 m c), (h c).2.2.1.trans (final4 m c),
      (h c).2.2.2⟩) (Value.run_blocks m ρ),
   (θ_run _ _ _).mono (fun _ h c => ⟨(h c).1.trans ((ref_x _ _).trans (by rw [(hag c).1, (hag c).2])),
      (h c).2.1.trans ((ref_b _ _).trans (by rw [(hag c).1, (hag c).2])),
      (h c).2.2.1.trans ((ref_l _ _).trans (by rw [(hag c).1, (hag c).2])), (h c).2.2.2⟩)
     (Cert.LossRefIdeal.Value.run m' ρ')⟩

end Cert.LossProof

end
-- ==== Proof.lean ====
/- The claims of this directory, assembled: for each call of the training step its frames, that idealization changes
   nothing in it, and that over the extended reals it ends with the same results as its reference. -/
module

public import proofs.«01_k».proof.Defs
public import proofs.«01_k».proof.Proof.Gen.Merge.Frame
public import proofs.«01_k».proof.Proof.Merge
public import proofs.«01_k».proof.Proof.Gen.DAct.Frame
public import proofs.«01_k».proof.Proof.DAct
public import proofs.«01_k».proof.Proof.Gen.DwDown.Frame
public import proofs.«01_k».proof.Proof.DwDown
public import proofs.«01_k».proof.Proof.Gen.DwUp.Frame
public import proofs.«01_k».proof.Proof.DwUp
public import proofs.«01_k».proof.Proof.Gen.DUm.Frame
public import proofs.«01_k».proof.Proof.DUm
public import proofs.«01_k».proof.Proof.Gen.DXo.Frame
public import proofs.«01_k».proof.Proof.DXo
public import proofs.«01_k».proof.Proof.Gen.DUn.Frame
public import proofs.«01_k».proof.Proof.DUn
public import proofs.«01_k».proof.Proof.Gen.DwSq.Frame
public import proofs.«01_k».proof.Proof.DwSq
public import proofs.«01_k».proof.Proof.Gen.DwXkv.Frame
public import proofs.«01_k».proof.Proof.DwXkv
public import proofs.«01_k».proof.Proof.Gen.DMemn.Frame
public import proofs.«01_k».proof.Proof.DMemn
public import proofs.«01_k».proof.Proof.Gen.DYb.Frame
public import proofs.«01_k».proof.Proof.DYb
public import proofs.«01_k».proof.Proof.Gen.DwSsd.Frame
public import proofs.«01_k».proof.Proof.DwSsd
public import proofs.«01_k».proof.Proof.Gen.DuAg.Frame
public import proofs.«01_k».proof.Proof.DuAg
public import proofs.«01_k».proof.Proof.Gen.DuZ.Frame
public import proofs.«01_k».proof.Proof.DuZ
public import proofs.«01_k».proof.Proof.Gen.DuX.Frame
public import proofs.«01_k».proof.Proof.DuX
public import proofs.«01_k».proof.Proof.Gen.DuDt.Frame
public import proofs.«01_k».proof.Proof.DuDt
public import proofs.«01_k».proof.Proof.Gen.DuQkv.Frame
public import proofs.«01_k».proof.Proof.DuQkv
public import proofs.«01_k».proof.Proof.Gen.DwZ.Frame
public import proofs.«01_k».proof.Proof.DwZ
public import proofs.«01_k».proof.Proof.Gen.DwX.Frame
public import proofs.«01_k».proof.Proof.DwX
public import proofs.«01_k».proof.Proof.Gen.DwDt.Frame
public import proofs.«01_k».proof.Proof.DwDt
public import proofs.«01_k».proof.Proof.Gen.DwQkv.Frame
public import proofs.«01_k».proof.Proof.DwQkv
public import proofs.«01_k».proof.Proof.Gen.ProjA.Frame
public import proofs.«01_k».proof.Proof.ProjA
public import proofs.«01_k».proof.Proof.Gen.ProjZ.Frame
public import proofs.«01_k».proof.Proof.ProjZ
public import proofs.«01_k».proof.Proof.Gen.ProjX.Frame
public import proofs.«01_k».proof.Proof.ProjX
public import proofs.«01_k».proof.Proof.Gen.ProjDt.Frame
public import proofs.«01_k».proof.Proof.ProjDt
public import proofs.«01_k».proof.Proof.Gen.ProjQkv.Frame
public import proofs.«01_k».proof.Proof.ProjQkv
public import proofs.«01_k».proof.Proof.Gen.SsdOut.Frame
public import proofs.«01_k».proof.Proof.SsdOut
public import proofs.«01_k».proof.Proof.Gen.MixOut.Frame
public import proofs.«01_k».proof.Proof.MixOut
public import proofs.«01_k».proof.Proof.Gen.MlpDown.Frame
public import proofs.«01_k».proof.Proof.MlpDown
public import proofs.«01_k».proof.Proof.Gen.Xkv.Frame
public import proofs.«01_k».proof.Proof.Xkv
public import proofs.«01_k».proof.Proof.Gen.MlpUp.Frame
public import proofs.«01_k».proof.Proof.MlpUp
public import proofs.«01_k».proof.Proof.Gen.DRms.Frame
public import proofs.«01_k».proof.Proof.DRms
public import proofs.«01_k».proof.Proof.Gen.DRmsMem.Frame
public import proofs.«01_k».proof.Proof.DRmsMem
public import proofs.«01_k».proof.Proof.Gen.DLnSilu.Frame
public import proofs.«01_k».proof.Proof.DLnSilu
public import proofs.«01_k».proof.Proof.Gen.DGate.Frame
public import proofs.«01_k».proof.Proof.DGate
public import proofs.«01_k».proof.Proof.Gen.Rms.Frame
public import proofs.«01_k».proof.Proof.Rms
public import proofs.«01_k».proof.Proof.Gen.RmsMem.Frame
public import proofs.«01_k».proof.Proof.RmsMem
public import proofs.«01_k».proof.Proof.Gen.LnSilu.Frame
public import proofs.«01_k».proof.Proof.LnSilu
public import proofs.«01_k».proof.Proof.Gen.Gate.Frame
public import proofs.«01_k».proof.Proof.Gate
public import proofs.«01_k».proof.Proof.Gen.MergeFwd.Frame
public import proofs.«01_k».proof.Proof.MergeFwd
public import proofs.«01_k».proof.Proof.Gen.AdamSq.Frame
public import proofs.«01_k».proof.Proof.AdamSq
public import proofs.«01_k».proof.Proof.Gen.AdamSsd.Frame
public import proofs.«01_k».proof.Proof.AdamSsd
public import proofs.«01_k».proof.Proof.Gen.AdamDown.Frame
public import proofs.«01_k».proof.Proof.AdamDown
public import proofs.«01_k».proof.Proof.Gen.AdamIn.Frame
public import proofs.«01_k».proof.Proof.AdamIn
public import proofs.«01_k».proof.Proof.Gen.AdamXkv.Frame
public import proofs.«01_k».proof.Proof.AdamXkv
public import proofs.«01_k».proof.Proof.Gen.AdamUp.Frame
public import proofs.«01_k».proof.Proof.AdamUp
public import proofs.«01_k».proof.Proof.Gen.AdamSmall.Frame
public import proofs.«01_k».proof.Proof.AdamSmall
public import proofs.«01_k».proof.Proof.Gen.SumSmall.Frame
public import proofs.«01_k».proof.Proof.SumSmall
public import proofs.«01_k».proof.Proof.Gen.Loss.Frame
public import proofs.«01_k».proof.Proof.Loss
public import Idealize.ShloMosaic.Adequacy
public import Idealize.ShloMosaic.Init

@[expose] public section

noncomputable section

namespace Cert.Proof

open Idealize.ShloMosaic Idealize.SL.Sem

/-! Each reference leaves its arguments; it declares no semaphore. -/

theorem frame_MergeRef : Cert.quiescent_MergeRefIdeal := fun m ρ _ =>
  (θ_run _ _ _).mono (fun r h => ⟨fun c => (h c).2.2.2.2.2, sem_eq_zero_of_no_sems (by decide) r.2⟩) (Cert.MergeRefIdeal.Value.run m ρ)
theorem frame_DActRef : Cert.quiescent_DActRefIdeal := fun m ρ _ =>
  (θ_run _ _ _).mono (fun r h => ⟨fun c => (h c).2, sem_eq_zero_of_no_sems (by decide) r.2⟩) (Cert.DActRefIdeal.Value.run m ρ)
theorem frame_DwDownRef : Cert.quiescent_DwDownRefIdeal := fun m ρ _ =>
  (θ_run _ _ _).mono (fun r h => ⟨fun c => (h c).2, sem_eq_zero_of_no_sems (by decide) r.2⟩) (Cert.DwDownRefIdeal.Value.run m ρ)
theorem frame_DwUpRef : Cert.quiescent_DwUpRefIdeal := fun m ρ _ =>
  (θ_run _ _ _).mono (fun r h => ⟨fun c => (h c).2, sem_eq_zero_of_no_sems (by decide) r.2⟩) (Cert.DwUpRefIdeal.Value.run m ρ)
theorem frame_DUmRef : Cert.quiescent_DUmRefIdeal := fun m ρ _ =>
  (θ_run _ _ _).mono (fun r h => ⟨fun c => (h c).2, sem_eq_zero_of_no_sems (by decide) r.2⟩) (Cert.DUmRefIdeal.Value.run m ρ)
theorem frame_DXoRef : Cert.quiescent_DXoRefIdeal := fun m ρ _ =>
  (θ_run _ _ _).mono (fun r h => ⟨fun c => (h c).2, sem_eq_zero_of_no_sems (by decide) r.2⟩) (Cert.DXoRefIdeal.Value.run m ρ)
theorem frame_DUnRef : Cert.quiescent_DUnRefIdeal := fun m ρ _ =>
  (θ_run _ _ _).mono (fun r h => ⟨fun c => (h c).2, sem_eq_zero_of_no_sems (by decide) r.2⟩) (Cert.DUnRefIdeal.Value.run m ρ)
theorem frame_DwSqRef : Cert.quiescent_DwSqRefIdeal := fun m ρ _ =>
  (θ_run _ _ _).mono (fun r h => ⟨fun c => (h c).2, sem_eq_zero_of_no_sems (by decide) r.2⟩) (Cert.DwSqRefIdeal.Value.run m ρ)
theorem frame_DwXkvRef : Cert.quiescent_DwXkvRefIdeal := fun m ρ _ =>
  (θ_run _ _ _).mono (fun r h => ⟨fun c => (h c).2, sem_eq_zero_of_no_sems (by decide) r.2⟩) (Cert.DwXkvRefIdeal.Value.run m ρ)
theorem frame_DMemnRef : Cert.quiescent_DMemnRefIdeal := fun m ρ _ =>
  (θ_run _ _ _).mono (fun r h => ⟨fun c => (h c).2, sem_eq_zero_of_no_sems (by decide) r.2⟩) (Cert.DMemnRefIdeal.Value.run m ρ)
theorem frame_DYbRef : Cert.quiescent_DYbRefIdeal := fun m ρ _ =>
  (θ_run _ _ _).mono (fun r h => ⟨fun c => (h c).2, sem_eq_zero_of_no_sems (by decide) r.2⟩) (Cert.DYbRefIdeal.Value.run m ρ)
theorem frame_DwSsdRef : Cert.quiescent_DwSsdRefIdeal := fun m ρ _ =>
  (θ_run _ _ _).mono (fun r h => ⟨fun c => (h c).2, sem_eq_zero_of_no_sems (by decide) r.2⟩) (Cert.DwSsdRefIdeal.Value.run m ρ)
theorem frame_DuAgRef : Cert.quiescent_DuAgRefIdeal := fun m ρ _ =>
  (θ_run _ _ _).mono (fun r h => ⟨fun c => (h c).2, sem_eq_zero_of_no_sems (by decide) r.2⟩) (Cert.DuAgRefIdeal.Value.run m ρ)
theorem frame_DuZRef : Cert.quiescent_DuZRefIdeal := fun m ρ _ =>
  (θ_run _ _ _).mono (fun r h => ⟨fun c => (h c).2, sem_eq_zero_of_no_sems (by decide) r.2⟩) (Cert.DuZRefIdeal.Value.run m ρ)
theorem frame_DuXRef : Cert.quiescent_DuXRefIdeal := fun m ρ _ =>
  (θ_run _ _ _).mono (fun r h => ⟨fun c => (h c).2, sem_eq_zero_of_no_sems (by decide) r.2⟩) (Cert.DuXRefIdeal.Value.run m ρ)
theorem frame_DuDtRef : Cert.quiescent_DuDtRefIdeal := fun m ρ _ =>
  (θ_run _ _ _).mono (fun r h => ⟨fun c => (h c).2, sem_eq_zero_of_no_sems (by decide) r.2⟩) (Cert.DuDtRefIdeal.Value.run m ρ)
theorem frame_DuQkvRef : Cert.quiescent_DuQkvRefIdeal := fun m ρ _ =>
  (θ_run _ _ _).mono (fun r h => ⟨fun c => (h c).2, sem_eq_zero_of_no_sems (by decide) r.2⟩) (Cert.DuQkvRefIdeal.Value.run m ρ)
theorem frame_DwZRef : Cert.quiescent_DwZRefIdeal := fun m ρ _ =>
  (θ_run _ _ _).mono (fun r h => ⟨fun c => (h c).2, sem_eq_zero_of_no_sems (by decide) r.2⟩) (Cert.DwZRefIdeal.Value.run m ρ)
theorem frame_DwXRef : Cert.quiescent_DwXRefIdeal := fun m ρ _ =>
  (θ_run _ _ _).mono (fun r h => ⟨fun c => (h c).2, sem_eq_zero_of_no_sems (by decide) r.2⟩) (Cert.DwXRefIdeal.Value.run m ρ)
theorem frame_DwDtRef : Cert.quiescent_DwDtRefIdeal := fun m ρ _ =>
  (θ_run _ _ _).mono (fun r h => ⟨fun c => (h c).2, sem_eq_zero_of_no_sems (by decide) r.2⟩) (Cert.DwDtRefIdeal.Value.run m ρ)
theorem frame_DwQkvRef : Cert.quiescent_DwQkvRefIdeal := fun m ρ _ =>
  (θ_run _ _ _).mono (fun r h => ⟨fun c => (h c).2, sem_eq_zero_of_no_sems (by decide) r.2⟩) (Cert.DwQkvRefIdeal.Value.run m ρ)
theorem frame_ProjARef : Cert.quiescent_ProjARefIdeal := fun m ρ _ =>
  (θ_run _ _ _).mono (fun r h => ⟨fun c => (h c).2, sem_eq_zero_of_no_sems (by decide) r.2⟩) (Cert.ProjARefIdeal.Value.run m ρ)
theorem frame_ProjZRef : Cert.quiescent_ProjZRefIdeal := fun m ρ _ =>
  (θ_run _ _ _).mono (fun r h => ⟨fun c => (h c).2, sem_eq_zero_of_no_sems (by decide) r.2⟩) (Cert.ProjZRefIdeal.Value.run m ρ)
theorem frame_ProjXRef : Cert.quiescent_ProjXRefIdeal := fun m ρ _ =>
  (θ_run _ _ _).mono (fun r h => ⟨fun c => (h c).2, sem_eq_zero_of_no_sems (by decide) r.2⟩) (Cert.ProjXRefIdeal.Value.run m ρ)
theorem frame_ProjDtRef : Cert.quiescent_ProjDtRefIdeal := fun m ρ _ =>
  (θ_run _ _ _).mono (fun r h => ⟨fun c => (h c).2, sem_eq_zero_of_no_sems (by decide) r.2⟩) (Cert.ProjDtRefIdeal.Value.run m ρ)
theorem frame_ProjQkvRef : Cert.quiescent_ProjQkvRefIdeal := fun m ρ _ =>
  (θ_run _ _ _).mono (fun r h => ⟨fun c => (h c).2, sem_eq_zero_of_no_sems (by decide) r.2⟩) (Cert.ProjQkvRefIdeal.Value.run m ρ)
theorem frame_SsdOutRef : Cert.quiescent_SsdOutRefIdeal := fun m ρ _ =>
  (θ_run _ _ _).mono (fun r h => ⟨fun c => (h c).2, sem_eq_zero_of_no_sems (by decide) r.2⟩) (Cert.SsdOutRefIdeal.Value.run m ρ)
theorem frame_MixOutRef : Cert.quiescent_MixOutRefIdeal := fun m ρ _ =>
  (θ_run _ _ _).mono (fun r h => ⟨fun c => (h c).2, sem_eq_zero_of_no_sems (by decide) r.2⟩) (Cert.MixOutRefIdeal.Value.run m ρ)
theorem frame_MlpDownRef : Cert.quiescent_MlpDownRefIdeal := fun m ρ _ =>
  (θ_run _ _ _).mono (fun r h => ⟨fun c => (h c).2, sem_eq_zero_of_no_sems (by decide) r.2⟩) (Cert.MlpDownRefIdeal.Value.run m ρ)
theorem frame_XkvRef : Cert.quiescent_XkvRefIdeal := fun m ρ _ =>
  (θ_run _ _ _).mono (fun r h => ⟨fun c => (h c).2, sem_eq_zero_of_no_sems (by decide) r.2⟩) (Cert.XkvRefIdeal.Value.run m ρ)
theorem frame_MlpUpRef : Cert.quiescent_MlpUpRefIdeal := fun m ρ _ =>
  (θ_run _ _ _).mono (fun r h => ⟨fun c => (h c).2.2, sem_eq_zero_of_no_sems (by decide) r.2⟩) (Cert.MlpUpRefIdeal.Value.run m ρ)
theorem frame_DRmsRef : Cert.quiescent_DRmsRefIdeal := fun m ρ _ =>
  (θ_run _ _ _).mono (fun r h => ⟨fun c => (h c).2.2.2, sem_eq_zero_of_no_sems (by decide) r.2⟩) (Cert.DRmsRefIdeal.Value.run m ρ)
theorem frame_DRmsMemRef : Cert.quiescent_DRmsMemRefIdeal := fun m ρ _ =>
  (θ_run _ _ _).mono (fun r h => ⟨fun c => (h c).2, sem_eq_zero_of_no_sems (by decide) r.2⟩) (Cert.DRmsMemRefIdeal.Value.run m ρ)
theorem frame_DLnSiluRef : Cert.quiescent_DLnSiluRefIdeal := fun m ρ _ =>
  (θ_run _ _ _).mono (fun r h => ⟨fun c => (h c).2.2.2, sem_eq_zero_of_no_sems (by decide) r.2⟩) (Cert.DLnSiluRefIdeal.Value.run m ρ)
theorem frame_DGateRef : Cert.quiescent_DGateRefIdeal := fun m ρ _ =>
  (θ_run _ _ _).mono (fun r h => ⟨fun c => (h c).2.2.2, sem_eq_zero_of_no_sems (by decide) r.2⟩) (Cert.DGateRefIdeal.Value.run m ρ)
theorem frame_RmsRef : Cert.quiescent_RmsRefIdeal := fun m ρ _ =>
  (θ_run _ _ _).mono (fun r h => ⟨fun c => (h c).2, sem_eq_zero_of_no_sems (by decide) r.2⟩) (Cert.RmsRefIdeal.Value.run m ρ)
theorem frame_RmsMemRef : Cert.quiescent_RmsMemRefIdeal := fun m ρ _ =>
  (θ_run _ _ _).mono (fun r h => ⟨fun c => (h c).2, sem_eq_zero_of_no_sems (by decide) r.2⟩) (Cert.RmsMemRefIdeal.Value.run m ρ)
theorem frame_LnSiluRef : Cert.quiescent_LnSiluRefIdeal := fun m ρ _ =>
  (θ_run _ _ _).mono (fun r h => ⟨fun c => (h c).2, sem_eq_zero_of_no_sems (by decide) r.2⟩) (Cert.LnSiluRefIdeal.Value.run m ρ)
theorem frame_GateRef : Cert.quiescent_GateRefIdeal := fun m ρ _ =>
  (θ_run _ _ _).mono (fun r h => ⟨fun c => (h c).2, sem_eq_zero_of_no_sems (by decide) r.2⟩) (Cert.GateRefIdeal.Value.run m ρ)
theorem frame_MergeFwdRef : Cert.quiescent_MergeFwdRefIdeal := fun m ρ _ =>
  (θ_run _ _ _).mono (fun r h => ⟨fun c => (h c).2, sem_eq_zero_of_no_sems (by decide) r.2⟩) (Cert.MergeFwdRefIdeal.Value.run m ρ)
theorem frame_AdamSqRef : Cert.quiescent_AdamSqRefIdeal := fun m ρ _ =>
  (θ_run _ _ _).mono (fun r h => ⟨fun c => (h c).2.2.2.2, sem_eq_zero_of_no_sems (by decide) r.2⟩) (Cert.AdamSqRefIdeal.Value.run m ρ)
theorem frame_AdamSsdRef : Cert.quiescent_AdamSsdRefIdeal := fun m ρ _ =>
  (θ_run _ _ _).mono (fun r h => ⟨fun c => (h c).2.2.2.2, sem_eq_zero_of_no_sems (by decide) r.2⟩) (Cert.AdamSsdRefIdeal.Value.run m ρ)
theorem frame_AdamDownRef : Cert.quiescent_AdamDownRefIdeal := fun m ρ _ =>
  (θ_run _ _ _).mono (fun r h => ⟨fun c => (h c).2.2.2.2, sem_eq_zero_of_no_sems (by decide) r.2⟩) (Cert.AdamDownRefIdeal.Value.run m ρ)
theorem frame_AdamInRef : Cert.quiescent_AdamInRefIdeal := fun m ρ _ =>
  (θ_run _ _ _).mono (fun r h => ⟨fun c => (h c).2.2.2.2, sem_eq_zero_of_no_sems (by decide) r.2⟩) (Cert.AdamInRefIdeal.Value.run m ρ)
theorem frame_AdamXkvRef : Cert.quiescent_AdamXkvRefIdeal := fun m ρ _ =>
  (θ_run _ _ _).mono (fun r h => ⟨fun c => (h c).2.2.2.2, sem_eq_zero_of_no_sems (by decide) r.2⟩) (Cert.AdamXkvRefIdeal.Value.run m ρ)
theorem frame_AdamUpRef : Cert.quiescent_AdamUpRefIdeal := fun m ρ _ =>
  (θ_run _ _ _).mono (fun r h => ⟨fun c => (h c).2.2.2.2, sem_eq_zero_of_no_sems (by decide) r.2⟩) (Cert.AdamUpRefIdeal.Value.run m ρ)
theorem frame_AdamSmallRef : Cert.quiescent_AdamSmallRefIdeal := fun m ρ _ =>
  (θ_run _ _ _).mono (fun r h => ⟨fun c => (h c).2.2.2, sem_eq_zero_of_no_sems (by decide) r.2⟩) (Cert.AdamSmallRefIdeal.Value.run m ρ)
theorem frame_SumSmallRef : Cert.quiescent_SumSmallRefIdeal := fun m ρ _ =>
  (θ_run _ _ _).mono (fun r h => ⟨fun c => (h c).2, sem_eq_zero_of_no_sems (by decide) r.2⟩) (Cert.SumSmallRefIdeal.Value.run m ρ)
theorem frame_LossRef : Cert.quiescent_LossRefIdeal := fun m ρ _ =>
  (θ_run _ _ _).mono (fun r h => ⟨fun c => (h c).2.2.2, sem_eq_zero_of_no_sems (by decide) r.2⟩) (Cert.LossRefIdeal.Value.run m ρ)

theorem claim : Cert.Claim :=
  ⟨Cert.Merge.Gen.facts, Cert.MergeIdeal.Gen.facts, Cert.MergeRefIdeal.Gen.facts, Cert.DAct.Gen.facts, Cert.DActIdeal.Gen.facts, Cert.DActRefIdeal.Gen.facts, Cert.DwDown.Gen.facts, Cert.DwDownIdeal.Gen.facts, Cert.DwDownRefIdeal.Gen.facts, Cert.DwUp.Gen.facts, Cert.DwUpIdeal.Gen.facts, Cert.DwUpRefIdeal.Gen.facts, Cert.DUm.Gen.facts, Cert.DUmIdeal.Gen.facts, Cert.DUmRefIdeal.Gen.facts, Cert.DXo.Gen.facts, Cert.DXoIdeal.Gen.facts, Cert.DXoRefIdeal.Gen.facts, Cert.DUn.Gen.facts, Cert.DUnIdeal.Gen.facts, Cert.DUnRefIdeal.Gen.facts, Cert.DwSq.Gen.facts, Cert.DwSqIdeal.Gen.facts, Cert.DwSqRefIdeal.Gen.facts, Cert.DwXkv.Gen.facts, Cert.DwXkvIdeal.Gen.facts, Cert.DwXkvRefIdeal.Gen.facts, Cert.DMemn.Gen.facts, Cert.DMemnIdeal.Gen.facts, Cert.DMemnRefIdeal.Gen.facts, Cert.DYb.Gen.facts, Cert.DYbIdeal.Gen.facts, Cert.DYbRefIdeal.Gen.facts, Cert.DwSsd.Gen.facts, Cert.DwSsdIdeal.Gen.facts, Cert.DwSsdRefIdeal.Gen.facts, Cert.DuAg.Gen.facts, Cert.DuAgIdeal.Gen.facts, Cert.DuAgRefIdeal.Gen.facts, Cert.DuZ.Gen.facts, Cert.DuZIdeal.Gen.facts, Cert.DuZRefIdeal.Gen.facts, Cert.DuX.Gen.facts, Cert.DuXIdeal.Gen.facts, Cert.DuXRefIdeal.Gen.facts, Cert.DuDt.Gen.facts, Cert.DuDtIdeal.Gen.facts, Cert.DuDtRefIdeal.Gen.facts, Cert.DuQkv.Gen.facts, Cert.DuQkvIdeal.Gen.facts, Cert.DuQkvRefIdeal.Gen.facts, Cert.DwZ.Gen.facts, Cert.DwZIdeal.Gen.facts, Cert.DwZRefIdeal.Gen.facts, Cert.DwX.Gen.facts, Cert.DwXIdeal.Gen.facts, Cert.DwXRefIdeal.Gen.facts, Cert.DwDt.Gen.facts, Cert.DwDtIdeal.Gen.facts, Cert.DwDtRefIdeal.Gen.facts, Cert.DwQkv.Gen.facts, Cert.DwQkvIdeal.Gen.facts, Cert.DwQkvRefIdeal.Gen.facts, Cert.ProjA.Gen.facts, Cert.ProjAIdeal.Gen.facts, Cert.ProjARefIdeal.Gen.facts, Cert.ProjZ.Gen.facts, Cert.ProjZIdeal.Gen.facts, Cert.ProjZRefIdeal.Gen.facts, Cert.ProjX.Gen.facts, Cert.ProjXIdeal.Gen.facts, Cert.ProjXRefIdeal.Gen.facts, Cert.ProjDt.Gen.facts, Cert.ProjDtIdeal.Gen.facts, Cert.ProjDtRefIdeal.Gen.facts, Cert.ProjQkv.Gen.facts, Cert.ProjQkvIdeal.Gen.facts, Cert.ProjQkvRefIdeal.Gen.facts, Cert.SsdOut.Gen.facts, Cert.SsdOutIdeal.Gen.facts, Cert.SsdOutRefIdeal.Gen.facts, Cert.MixOut.Gen.facts, Cert.MixOutIdeal.Gen.facts, Cert.MixOutRefIdeal.Gen.facts, Cert.MlpDown.Gen.facts, Cert.MlpDownIdeal.Gen.facts, Cert.MlpDownRefIdeal.Gen.facts, Cert.Xkv.Gen.facts, Cert.XkvIdeal.Gen.facts, Cert.XkvRefIdeal.Gen.facts, Cert.MlpUp.Gen.facts, Cert.MlpUpIdeal.Gen.facts, Cert.MlpUpRefIdeal.Gen.facts, Cert.DRms.Gen.facts, Cert.DRmsIdeal.Gen.facts, Cert.DRmsRefIdeal.Gen.facts, Cert.DRmsMem.Gen.facts, Cert.DRmsMemIdeal.Gen.facts, Cert.DRmsMemRefIdeal.Gen.facts, Cert.DLnSilu.Gen.facts, Cert.DLnSiluIdeal.Gen.facts, Cert.DLnSiluRefIdeal.Gen.facts, Cert.DGate.Gen.facts, Cert.DGateIdeal.Gen.facts, Cert.DGateRefIdeal.Gen.facts, Cert.Rms.Gen.facts, Cert.RmsIdeal.Gen.facts, Cert.RmsRefIdeal.Gen.facts, Cert.RmsMem.Gen.facts, Cert.RmsMemIdeal.Gen.facts, Cert.RmsMemRefIdeal.Gen.facts, Cert.LnSilu.Gen.facts, Cert.LnSiluIdeal.Gen.facts, Cert.LnSiluRefIdeal.Gen.facts, Cert.Gate.Gen.facts, Cert.GateIdeal.Gen.facts, Cert.GateRefIdeal.Gen.facts, Cert.MergeFwd.Gen.facts, Cert.MergeFwdIdeal.Gen.facts, Cert.MergeFwdRefIdeal.Gen.facts, Cert.AdamSq.Gen.facts, Cert.AdamSqIdeal.Gen.facts, Cert.AdamSqRefIdeal.Gen.facts, Cert.AdamSsd.Gen.facts, Cert.AdamSsdIdeal.Gen.facts, Cert.AdamSsdRefIdeal.Gen.facts, Cert.AdamDown.Gen.facts, Cert.AdamDownIdeal.Gen.facts, Cert.AdamDownRefIdeal.Gen.facts, Cert.AdamIn.Gen.facts, Cert.AdamInIdeal.Gen.facts, Cert.AdamInRefIdeal.Gen.facts, Cert.AdamXkv.Gen.facts, Cert.AdamXkvIdeal.Gen.facts, Cert.AdamXkvRefIdeal.Gen.facts, Cert.AdamUp.Gen.facts, Cert.AdamUpIdeal.Gen.facts, Cert.AdamUpRefIdeal.Gen.facts, Cert.AdamSmall.Gen.facts, Cert.AdamSmallIdeal.Gen.facts, Cert.AdamSmallRefIdeal.Gen.facts, Cert.SumSmall.Gen.facts, Cert.SumSmallIdeal.Gen.facts, Cert.SumSmallRefIdeal.Gen.facts, Cert.Loss.Gen.facts, Cert.LossIdeal.Gen.facts, Cert.LossRefIdeal.Gen.facts,
    fun m ρ _ => Cert.Merge.Gen.frame m ρ, fun m ρ _ => Cert.MergeIdeal.Gen.frame m ρ, frame_MergeRef,
    fun m ρ _ => Cert.DAct.Gen.frame m ρ, fun m ρ _ => Cert.DActIdeal.Gen.frame m ρ, frame_DActRef,
    fun m ρ _ => Cert.DwDown.Gen.frame m ρ, fun m ρ _ => Cert.DwDownIdeal.Gen.frame m ρ, frame_DwDownRef,
    fun m ρ _ => Cert.DwUp.Gen.frame m ρ, fun m ρ _ => Cert.DwUpIdeal.Gen.frame m ρ, frame_DwUpRef,
    fun m ρ _ => Cert.DUm.Gen.frame m ρ, fun m ρ _ => Cert.DUmIdeal.Gen.frame m ρ, frame_DUmRef,
    fun m ρ _ => Cert.DXo.Gen.frame m ρ, fun m ρ _ => Cert.DXoIdeal.Gen.frame m ρ, frame_DXoRef,
    fun m ρ _ => Cert.DUn.Gen.frame m ρ, fun m ρ _ => Cert.DUnIdeal.Gen.frame m ρ, frame_DUnRef,
    fun m ρ _ => Cert.DwSq.Gen.frame m ρ, fun m ρ _ => Cert.DwSqIdeal.Gen.frame m ρ, frame_DwSqRef,
    fun m ρ _ => Cert.DwXkv.Gen.frame m ρ, fun m ρ _ => Cert.DwXkvIdeal.Gen.frame m ρ, frame_DwXkvRef,
    fun m ρ _ => Cert.DMemn.Gen.frame m ρ, fun m ρ _ => Cert.DMemnIdeal.Gen.frame m ρ, frame_DMemnRef,
    fun m ρ _ => Cert.DYb.Gen.frame m ρ, fun m ρ _ => Cert.DYbIdeal.Gen.frame m ρ, frame_DYbRef,
    fun m ρ _ => Cert.DwSsd.Gen.frame m ρ, fun m ρ _ => Cert.DwSsdIdeal.Gen.frame m ρ, frame_DwSsdRef,
    fun m ρ _ => Cert.DuAg.Gen.frame m ρ, fun m ρ _ => Cert.DuAgIdeal.Gen.frame m ρ, frame_DuAgRef,
    fun m ρ _ => Cert.DuZ.Gen.frame m ρ, fun m ρ _ => Cert.DuZIdeal.Gen.frame m ρ, frame_DuZRef,
    fun m ρ _ => Cert.DuX.Gen.frame m ρ, fun m ρ _ => Cert.DuXIdeal.Gen.frame m ρ, frame_DuXRef,
    fun m ρ _ => Cert.DuDt.Gen.frame m ρ, fun m ρ _ => Cert.DuDtIdeal.Gen.frame m ρ, frame_DuDtRef,
    fun m ρ _ => Cert.DuQkv.Gen.frame m ρ, fun m ρ _ => Cert.DuQkvIdeal.Gen.frame m ρ, frame_DuQkvRef,
    fun m ρ _ => Cert.DwZ.Gen.frame m ρ, fun m ρ _ => Cert.DwZIdeal.Gen.frame m ρ, frame_DwZRef,
    fun m ρ _ => Cert.DwX.Gen.frame m ρ, fun m ρ _ => Cert.DwXIdeal.Gen.frame m ρ, frame_DwXRef,
    fun m ρ _ => Cert.DwDt.Gen.frame m ρ, fun m ρ _ => Cert.DwDtIdeal.Gen.frame m ρ, frame_DwDtRef,
    fun m ρ _ => Cert.DwQkv.Gen.frame m ρ, fun m ρ _ => Cert.DwQkvIdeal.Gen.frame m ρ, frame_DwQkvRef,
    fun m ρ _ => Cert.ProjA.Gen.frame m ρ, fun m ρ _ => Cert.ProjAIdeal.Gen.frame m ρ, frame_ProjARef,
    fun m ρ _ => Cert.ProjZ.Gen.frame m ρ, fun m ρ _ => Cert.ProjZIdeal.Gen.frame m ρ, frame_ProjZRef,
    fun m ρ _ => Cert.ProjX.Gen.frame m ρ, fun m ρ _ => Cert.ProjXIdeal.Gen.frame m ρ, frame_ProjXRef,
    fun m ρ _ => Cert.ProjDt.Gen.frame m ρ, fun m ρ _ => Cert.ProjDtIdeal.Gen.frame m ρ, frame_ProjDtRef,
    fun m ρ _ => Cert.ProjQkv.Gen.frame m ρ, fun m ρ _ => Cert.ProjQkvIdeal.Gen.frame m ρ, frame_ProjQkvRef,
    fun m ρ _ => Cert.SsdOut.Gen.frame m ρ, fun m ρ _ => Cert.SsdOutIdeal.Gen.frame m ρ, frame_SsdOutRef,
    fun m ρ _ => Cert.MixOut.Gen.frame m ρ, fun m ρ _ => Cert.MixOutIdeal.Gen.frame m ρ, frame_MixOutRef,
    fun m ρ _ => Cert.MlpDown.Gen.frame m ρ, fun m ρ _ => Cert.MlpDownIdeal.Gen.frame m ρ, frame_MlpDownRef,
    fun m ρ _ => Cert.Xkv.Gen.frame m ρ, fun m ρ _ => Cert.XkvIdeal.Gen.frame m ρ, frame_XkvRef,
    fun m ρ _ => Cert.MlpUp.Gen.frame m ρ, fun m ρ _ => Cert.MlpUpIdeal.Gen.frame m ρ, frame_MlpUpRef,
    fun m ρ _ => Cert.DRms.Gen.frame m ρ, fun m ρ _ => Cert.DRmsIdeal.Gen.frame m ρ, frame_DRmsRef,
    fun m ρ _ => Cert.DRmsMem.Gen.frame m ρ, fun m ρ _ => Cert.DRmsMemIdeal.Gen.frame m ρ, frame_DRmsMemRef,
    fun m ρ _ => Cert.DLnSilu.Gen.frame m ρ, fun m ρ _ => Cert.DLnSiluIdeal.Gen.frame m ρ, frame_DLnSiluRef,
    fun m ρ _ => Cert.DGate.Gen.frame m ρ, fun m ρ _ => Cert.DGateIdeal.Gen.frame m ρ, frame_DGateRef,
    fun m ρ _ => Cert.Rms.Gen.frame m ρ, fun m ρ _ => Cert.RmsIdeal.Gen.frame m ρ, frame_RmsRef,
    fun m ρ _ => Cert.RmsMem.Gen.frame m ρ, fun m ρ _ => Cert.RmsMemIdeal.Gen.frame m ρ, frame_RmsMemRef,
    fun m ρ _ => Cert.LnSilu.Gen.frame m ρ, fun m ρ _ => Cert.LnSiluIdeal.Gen.frame m ρ, frame_LnSiluRef,
    fun m ρ _ => Cert.Gate.Gen.frame m ρ, fun m ρ _ => Cert.GateIdeal.Gen.frame m ρ, frame_GateRef,
    fun m ρ _ => Cert.MergeFwd.Gen.frame m ρ, fun m ρ _ => Cert.MergeFwdIdeal.Gen.frame m ρ, frame_MergeFwdRef,
    fun m ρ _ => Cert.AdamSq.Gen.frame m ρ, fun m ρ _ => Cert.AdamSqIdeal.Gen.frame m ρ, frame_AdamSqRef,
    fun m ρ _ => Cert.AdamSsd.Gen.frame m ρ, fun m ρ _ => Cert.AdamSsdIdeal.Gen.frame m ρ, frame_AdamSsdRef,
    fun m ρ _ => Cert.AdamDown.Gen.frame m ρ, fun m ρ _ => Cert.AdamDownIdeal.Gen.frame m ρ, frame_AdamDownRef,
    fun m ρ _ => Cert.AdamIn.Gen.frame m ρ, fun m ρ _ => Cert.AdamInIdeal.Gen.frame m ρ, frame_AdamInRef,
    fun m ρ _ => Cert.AdamXkv.Gen.frame m ρ, fun m ρ _ => Cert.AdamXkvIdeal.Gen.frame m ρ, frame_AdamXkvRef,
    fun m ρ _ => Cert.AdamUp.Gen.frame m ρ, fun m ρ _ => Cert.AdamUpIdeal.Gen.frame m ρ, frame_AdamUpRef,
    fun m ρ _ => Cert.AdamSmall.Gen.frame m ρ, fun m ρ _ => Cert.AdamSmallIdeal.Gen.frame m ρ, frame_AdamSmallRef,
    fun m ρ _ => Cert.SumSmall.Gen.frame m ρ, fun m ρ _ => Cert.SumSmallIdeal.Gen.frame m ρ, frame_SumSmallRef,
    fun m ρ _ => Cert.Loss.Gen.frame m ρ, fun m ρ _ => Cert.LossIdeal.Gen.frame m ρ, frame_LossRef,
    trivial, Cert.MergeProof.algebraic,
    trivial, Cert.DActProof.algebraic,
    trivial, Cert.DwDownProof.algebraic,
    trivial, Cert.DwUpProof.algebraic,
    trivial, Cert.DUmProof.algebraic,
    trivial, Cert.DXoProof.algebraic,
    trivial, Cert.DUnProof.algebraic,
    trivial, Cert.DwSqProof.algebraic,
    trivial, Cert.DwXkvProof.algebraic,
    trivial, Cert.DMemnProof.algebraic,
    trivial, Cert.DYbProof.algebraic,
    trivial, Cert.DwSsdProof.algebraic,
    trivial, Cert.DuAgProof.algebraic,
    trivial, Cert.DuZProof.algebraic,
    trivial, Cert.DuXProof.algebraic,
    trivial, Cert.DuDtProof.algebraic,
    trivial, Cert.DuQkvProof.algebraic,
    trivial, Cert.DwZProof.algebraic,
    trivial, Cert.DwXProof.algebraic,
    trivial, Cert.DwDtProof.algebraic,
    trivial, Cert.DwQkvProof.algebraic,
    trivial, Cert.ProjAProof.algebraic,
    trivial, Cert.ProjZProof.algebraic,
    trivial, Cert.ProjXProof.algebraic,
    trivial, Cert.ProjDtProof.algebraic,
    trivial, Cert.ProjQkvProof.algebraic,
    trivial, Cert.SsdOutProof.algebraic,
    trivial, Cert.MixOutProof.algebraic,
    trivial, Cert.MlpDownProof.algebraic,
    trivial, Cert.XkvProof.algebraic,
    trivial, Cert.MlpUpProof.algebraic,
    trivial, Cert.DRmsProof.algebraic,
    trivial, Cert.DRmsMemProof.algebraic,
    trivial, Cert.DLnSiluProof.algebraic,
    trivial, Cert.DGateProof.algebraic,
    trivial, Cert.RmsProof.algebraic,
    trivial, Cert.RmsMemProof.algebraic,
    trivial, Cert.LnSiluProof.algebraic,
    trivial, Cert.GateProof.algebraic,
    trivial, Cert.MergeFwdProof.algebraic,
    trivial, Cert.AdamSqProof.algebraic,
    trivial, Cert.AdamSsdProof.algebraic,
    trivial, Cert.AdamDownProof.algebraic,
    trivial, Cert.AdamInProof.algebraic,
    trivial, Cert.AdamXkvProof.algebraic,
    trivial, Cert.AdamUpProof.algebraic,
    trivial, Cert.AdamSmallProof.algebraic,
    trivial, Cert.SumSmallProof.algebraic,
    trivial, Cert.LossProof.algebraic⟩

end Cert.Proof

end
